-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "exp2_scale" .f32 0x3E0293EE#32 ((((Real.log 2) * (Real.sqrt 128))⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_arg5)) (v3 : (c : Dev Cert.KernelIdeal.nD) → Buf (Elt Ideal) ((c.tc : Thread Cert.KernelIdeal.nD Cert.KernelIdeal.τ).loc Cert.KernelIdeal.main_v27_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_v27_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v36_0) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_v36_1) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x128x2048 : Shape := ⟨3, ![8, 128, 2048]⟩
abbrev S8x128x1x128 : Shape := ⟨4, ![8, 128, 1, 128]⟩
abbrev S8192x128x1x128 : Shape := ⟨4, ![8192, 128, 1, 128]⟩
abbrev S1 : Shape := ⟨1, ![1]⟩
abbrev S8x1024 : Shape := ⟨2, ![8, 1024]⟩
abbrev S8 : Shape := ⟨1, ![8]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x128x2048 .bf16) (main_arg1 : FVec F S8x128x1x128 .bf16) (main_arg2 : FVec F S8x128x1x128 .bf16) (main_arg3 : FVec F S8192x128x1x128 .fp8e4m3) (main_arg4 : FVec F S8192x128x1x128 .fp8e4m3) (main_arg5 : FVec F S1 .f32) (main_arg6 : FVec F S1 .f32) (main_arg7 : IVec S8x1024 32) (main_arg8 : IVec S8 32) : IVec S_ 1 :=
  let main_c : IVec S_ 32 := constantI S_ 32 0#32
  let main_v0 : IVec S8x1024 32 := broadcastInDim S8x1024 ![] bcast_S_S8x1024 main_c
  let main_v1 : IVec S8x1024 1 := cmpi .sge main_arg7 main_v0
  let main_c_0 : IVec S_ 32 := constantI S_ 32 8192#32
  let main_v2 : IVec S8x1024 32 := broadcastInDim S8x1024 ![] bcast_S_S8x1024 main_c_0
  let main_v3 : IVec S8x1024 1 := cmpi .slt main_arg7 main_v2
  let main_v4 : IVec S8x1024 1 := andi main_v1 main_v3
  let main_c_1 : IVec S_ 1 := constantI S_ 1 1#1
  let main_v5 : IVec S_ 1 := (fun x v => Host.reduce IntOp.andi x v reducesTo_S8x1024_S_d0_1 h_S_) main_v4 main_c_1
  let main_c_2 : IVec S_ 32 := constantI S_ 32 0#32
  let main_v6 : IVec S8 32 := broadcastInDim S8 ![] bcast_S_S8 main_c_2
  let main_v7 : IVec S8 1 := cmpi .sge main_arg8 main_v6
  let main_c_3 : IVec S_ 32 := constantI S_ 32 131072#32
  let main_v8 : IVec S8 32 := broadcastInDim S8 ![] bcast_S_S8 main_c_3
  let main_v9 : IVec S8 1 := cmpi .sle main_arg8 main_v8
  let main_v10 : IVec S8 1 := andi main_v7 main_v9
  let main_c_4 : IVec S_ 1 := constantI S_ 1 1#1
  let main_v11 : IVec S_ 1 := (fun x v => Host.reduce IntOp.andi x v reducesTo_S8_S_d0 h_S_) main_v10 main_c_4
  let main_v12 : IVec S_ 1 := andi main_v5 main_v11
  main_v12
-- ==== Kernel.lean ====
abbrev S8x128x2048 : Shape := ⟨3, ![8, 128, 2048]⟩
abbrev S8x128x1x128 : Shape := ⟨4, ![8, 128, 1, 128]⟩
abbrev S8192x128x1x128 : Shape := ⟨4, ![8192, 128, 1, 128]⟩
abbrev S1 : Shape := ⟨1, ![1]⟩
abbrev S8x1024 : Shape := ⟨2, ![8, 1024]⟩
abbrev S8 : Shape := ⟨1, ![8]⟩
abbrev S254 : Shape := ⟨1, ![254]⟩
abbrev S_ : Shape := ⟨0, ![]⟩
abbrev S4 : Shape := ⟨1, ![4]⟩
abbrev S8x128x128 : Shape := ⟨3, ![8, 128, 128]⟩
abbrev S8192x128x128 : Shape := ⟨3, ![8192, 128, 128]⟩
abbrev S1x128x2048 : Shape := ⟨3, ![1, 128, 2048]⟩
abbrev S1x128x128 : Shape := ⟨3, ![1, 128, 128]⟩
abbrev S2x1024x128 : Shape := ⟨3, ![2, 1024, 128]⟩
abbrev S2x2 : Shape := ⟨2, ![2, 2]⟩
abbrev S128x2048 : Shape := ⟨2, ![128, 2048]⟩
abbrev S1x2048 : Shape := ⟨2, ![1, 2048]⟩
abbrev S16x128 : Shape := ⟨2, ![16, 128]⟩
abbrev S1x128 : Shape := ⟨2, ![1, 128]⟩
abbrev S1x1 : Shape := ⟨2, ![1, 1]⟩
abbrev S128x128 : Shape := ⟨2, ![128, 128]⟩
abbrev S128x256 : Shape := ⟨2, ![128, 256]⟩
abbrev S4x32x256 : Shape := ⟨3, ![4, 32, 256]⟩
abbrev S4x256 : Shape := ⟨2, ![4, 256]⟩
abbrev S256 : Shape := ⟨1, ![256]⟩
abbrev S1x256 : Shape := ⟨2, ![1, 256]⟩
abbrev S1x1024x128 : Shape := ⟨3, ![1, 1024, 128]⟩
abbrev S1024x128 : Shape := ⟨2, ![1024, 128]⟩
abbrev S128x1024 : Shape := ⟨2, ![128, 1024]⟩
abbrev S1024x256 : Shape := ⟨2, ![1024, 256]⟩
abbrev S4x256x256 : Shape := ⟨3, ![4, 256, 256]⟩

abbrev nBuf : Space → Nat
  | .hbm => 53
  | .vmem => 18
  | .smem => 3
  | _ => 0

abbrev bufTy : (tb : Table) → Fin (tcTables nBuf tb) → BufTy
  | .hbm, ⟨0, _⟩ => ⟨S8x128x2048, .bf16⟩
  | .hbm, ⟨1, _⟩ => ⟨S8x128x1x128, .bf16⟩
  | .hbm, ⟨2, _⟩ => ⟨S8x128x1x128, .bf16⟩
  | .hbm, ⟨3, _⟩ => ⟨S8192x128x1x128, .fp8e4m3⟩
  | .hbm, ⟨4, _⟩ => ⟨S8192x128x1x128, .fp8e4m3⟩
  | .hbm, ⟨5, _⟩ => ⟨S1, .f32⟩
  | .hbm, ⟨6, _⟩ => ⟨S1, .f32⟩
  | .hbm, ⟨7, _⟩ => ⟨S254, .f32⟩
  | .hbm, ⟨8, _⟩ => ⟨S254, .f32⟩
  | .hbm, ⟨9, _⟩ => ⟨S1, .f32⟩
  | .hbm, ⟨10, _⟩ => ⟨S254, .f32⟩
  | .hbm, ⟨11, _⟩ => ⟨S254, .i1⟩
  | .hbm, ⟨12, _⟩ => ⟨S_, .f32⟩
  | .hbm, ⟨13, _⟩ => ⟨S254, .f32⟩
  | .hbm, ⟨14, _⟩ => ⟨S254, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .i1⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S254, .f32⟩
  | .hbm, ⟨29, _⟩ => ⟨S254, .i1⟩
  | .hbm, ⟨30, _⟩ => ⟨S_, .f32⟩
  | .hbm, ⟨31, _⟩ => ⟨S254, .f32⟩
  | .hbm, ⟨32, _⟩ => ⟨S254, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S1, .i1⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S4, .f32⟩
  | .hbm, ⟨46, _⟩ => ⟨S8x128x128, .bf16⟩
  | .hbm, ⟨47, _⟩ => ⟨S8x128x128, .bf16⟩
  | .hbm, ⟨48, _⟩ => ⟨S8192x128x128, .fp8e4m3⟩
  | .hbm, ⟨49, _⟩ => ⟨S8192x128x128, .fp8e4m3⟩
  | .hbm, ⟨50, _⟩ => ⟨S8x128x2048, .bf16⟩
  | .hbm, ⟨51, _⟩ => ⟨S8x128x128, .fp8e4m3⟩
  | .hbm, ⟨52, _⟩ => ⟨S8x128x128, .fp8e4m3⟩
  | .local _ .vmem, ⟨0, _⟩ => ⟨S1x128x2048, .bf16⟩
  | .local _ .vmem, ⟨1, _⟩ => ⟨S1x128x2048, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x128, .fp8e4m3⟩
  | .local _ .vmem, ⟨9, _⟩ => ⟨S1x128x128, .fp8e4m3⟩
  | .local _ .vmem, ⟨10, _⟩ => ⟨S1x128x128, .fp8e4m3⟩
  | .local _ .vmem, ⟨11, _⟩ => ⟨S1x128x128, .fp8e4m3⟩
  | .local _ .vmem, ⟨12, _⟩ => ⟨S2x1024x128, .fp8e4m3⟩
  | .local _ .vmem, ⟨13, _⟩ => ⟨S2x1024x128, .fp8e4m3⟩
  | .local _ .vmem, ⟨14, _⟩ => ⟨S128x2048, .bf16⟩
  | .local _ .vmem, ⟨15, _⟩ => ⟨S1x2048, .f32⟩
  | .local _ .vmem, ⟨16, _⟩ => ⟨S1x2048, .f32⟩
  | .local _ .vmem, ⟨17, _⟩ => ⟨S128x2048, .f32⟩
  | .local _ .smem, ⟨0, _⟩ => ⟨S8x1024, .i32⟩
  | .local _ .smem, ⟨1, _⟩ => ⟨S8, .i32⟩
  | .local _ .smem, ⟨2, _⟩ => ⟨S4, .f32⟩
  | _, _ => ⟨S8x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_call0_v0 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_call2_v0 : Ref sig .tc := ⟨.hbm, 31, rfl⟩
abbrev main_v14 : Ref sig .tc := ⟨.hbm, 32, rfl⟩
abbrev main_cst_7 : Ref sig .tc := ⟨.hbm, 33, rfl⟩
abbrev main_v15 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_v18 : Ref sig .tc := ⟨.hbm, 38, rfl⟩
abbrev main_cst_9 : Ref sig .tc := ⟨.hbm, 39, rfl⟩
abbrev main_v19 : Ref sig .tc := ⟨.hbm, 40, rfl⟩
abbrev main_v20 : Ref sig .tc := ⟨.hbm, 41, rfl⟩
abbrev main_cst_10 : Ref sig .tc := ⟨.hbm, 42, rfl⟩
abbrev main_call3_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_arg7 : Ref sig .tc := ⟨.smem, 0, rfl⟩
abbrev main_arg8 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg7.idx, main_arg8.idx], fun | 0 => main_arg7.names | 1 => main_arg8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v710 : Index := Scalar.indexCast arg0
  let c0_390 : Index := 0#32
  ![v710.toNat, 0]
def k0_off3 (i : grid0.Coords) : Fin 2 → Nat :=
  let arg0 : BitVec 32 := BitVec.ofNat 32 (i 0).val
  let v712 : Index := Scalar.indexCast arg0
  let c1_391 : Index := 1#32
  ![v712.toNat, 1]
def k0_off4 (i : grid0.Coords) : Fin 2 → Nat :=
  let arg0 : BitVec 32 := BitVec.ofNat 32 (i 0).val
  let v714 : Index := Scalar.indexCast arg0
  let c2_392 : Index := 2#32
  ![v714.toNat, 2]
def k0_off5 (i : grid0.Coords) : Fin 2 → Nat :=
  let arg0 : BitVec 32 := BitVec.ofNat 32 (i 0).val
  let v716 : Index := Scalar.indexCast arg0
  let c3_393 : Index := 3#32
  ![v716.toNat, 3]
def k0_off6 (i : grid0.Coords) : Fin 2 → Nat :=
  let arg0 : BitVec 32 := BitVec.ofNat 32 (i 0).val
  let v718 : Index := Scalar.indexCast arg0
  let c4 : Index := 4#32
  ![v718.toNat, 4]
def k0_off7 (i : grid0.Coords) : Fin 2 → Nat :=
  let arg0 : BitVec 32 := BitVec.ofNat 32 (i 0).val
  let v720 : Index := Scalar.indexCast arg0
  let c5 : Index := 5#32
  ![v720.toNat, 5]
def k0_off8 (i : grid0.Coords) : Fin 2 → Nat :=
  let arg0 : BitVec 32 := BitVec.ofNat 32 (i 0).val
  let v722 : Index := Scalar.indexCast arg0
  let c6 : Index := 6#32
  ![v722.toNat, 6]
def k0_off9 (i : grid0.Coords) : Fin 2 → Nat :=
  let arg0 : BitVec 32 := BitVec.ofNat 32 (i 0).val
  let v724 : Index := Scalar.indexCast arg0
  let c7 : Index := 7#32
  ![v724.toNat, 7]
def k0_off10 (v711 : BitVec 32) : Fin 3 → Nat :=
  let c0_i32_399 : BitVec 32 := 0#32
  let c0_i32_400 : BitVec 32 := 0#32
  ![v711.toNat, 0, 0]
def k0_cond1 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c1024_i32_4 : BitVec 32 := 1024#32
  let v19 : BitVec 32 := Scalar.muli v18 c1024_i32_4
  let v20 : BitVec 32 := Scalar.subi v1 v19
  let c0_i32_5 : BitVec 32 := 0#32
  let v21 : BitVec 1 := Scalar.cmpi .sgt v20 c0_i32_5
  let v22 : BitVec 32 := Scalar.extui v21
  let v23 : BitVec 32 := Scalar.addi v18 v22
  let c0_i32_6 : BitVec 32 := 0#32
  let v32 : BitVec 1 := Scalar.cmpi .sgt v23 c0_i32_6
  let v33 : BitVec 32 := Scalar.extui v32
  let c0_i32_7 : BitVec 32 := 0#32
  let v34 : BitVec 1 := Scalar.cmpi .ne v33 c0_i32_7
  v34

def k0_chk1 (v1 : BitVec 32) (v711 : BitVec 32) : Prop :=
  (∀ (k0_h1 : k0_cond1 v1 = 1#1), ∀ a, (k0_off10 v711) a + S1x128x128.size a ≤ S8192x128x128.size a) ∧
  (∀ (k0_h1 : k0_cond1 v1 = 1#1), ∀ (hinb : ∀ a, (k0_off10 v711) a + S1x128x128.size a ≤ S8192x128x128.size a), (Rect.unit (s := S8192x128x128) (k0_off10 v711) S1x128x128.size hinb).WholeWords (EltTy.packing .fp8e4m3))
theorem k0_off10_inb : ∀ (v1 : BitVec 32) (v711 : BitVec 32) (k0_hw1 : k0_chk1 v1 v711), ∀ (k0_h1 : k0_cond1 v1 = 1#1), ∀ a, (k0_off10 v711) a + S1x128x128.size a ≤ S8192x128x128.size a := fun v1 v711 k0_hw1 k0_h1 => k0_hw1.1 k0_h1
theorem k0_off10_wordsfp8e4m3 : ∀ (v1 : BitVec 32) (v711 : BitVec 32) (k0_hw1 : k0_chk1 v1 v711), ∀ (k0_h1 : k0_cond1 v1 = 1#1), (Rect.unit (s := S8192x128x128) (k0_off10 v711) S1x128x128.size (k0_off10_inb v1 v711 k0_hw1 k0_h1)).WholeWords (EltTy.packing .fp8e4m3) := fun v1 v711 k0_hw1 k0_h1 => k0_hw1.2 k0_h1 (k0_off10_inb v1 v711 k0_hw1 k0_h1)

def k0_off11 (v713 : BitVec 32) : Fin 3 → Nat :=
  let c0_i32_413 : BitVec 32 := 0#32
  let c0_i32_414 : BitVec 32 := 0#32
  ![v713.toNat, 0, 0]

def k0_chk2 (v1 : BitVec 32) (v713 : BitVec 32) : Prop :=
  (∀ (k0_h1 : k0_cond1 v1 = 1#1), ∀ a, (k0_off11 v713) a + S1x128x128.size a ≤ S8192x128x128.size a) ∧
  (∀ (k0_h1 : k0_cond1 v1 = 1#1), ∀ (hinb : ∀ a, (k0_off11 v713) a + S1x128x128.size a ≤ S8192x128x128.size a), (Rect.unit (s := S8192x128x128) (k0_off11 v713) S1x128x128.size hinb).WholeWords (EltTy.packing .fp8e4m3))
theorem k0_off11_inb : ∀ (v1 : BitVec 32) (v713 : BitVec 32) (k0_hw2 : k0_chk2 v1 v713), ∀ (k0_h1 : k0_cond1 v1 = 1#1), ∀ a, (k0_off11 v713) a + S1x128x128.size a ≤ S8192x128x128.size a := fun v1 v713 k0_hw2 k0_h1 => k0_hw2.1 k0_h1
theorem k0_off11_wordsfp8e4m3 : ∀ (v1 : BitVec 32) (v713 : BitVec 32) (k0_hw2 : k0_chk2 v1 v713), ∀ (k0_h1 : k0_cond1 v1 = 1#1), (Rect.unit (s := S8192x128x128) (k0_off11 v713) S1x128x128.size (k0_off11_inb v1 v713 k0_hw2 k0_h1)).WholeWords (EltTy.packing .fp8e4m3) := fun v1 v713 k0_hw2 k0_h1 => k0_hw2.2 k0_h1 (k0_off11_inb v1 v713 k0_hw2 k0_h1)

def k0_off12 (v715 : BitVec 32) : Fin 3 → Nat :=
  let c0_i32_426 : BitVec 32 := 0#32
  let c0_i32_427 : BitVec 32 := 0#32
  ![v715.toNat, 0, 0]

def k0_chk3 (v1 : BitVec 32) (v715 : BitVec 32) : Prop :=
  (∀ (k0_h1 : k0_cond1 v1 = 1#1), ∀ a, (k0_off12 v715) a + S1x128x128.size a ≤ S8192x128x128.size a) ∧
  (∀ (k0_h1 : k0_cond1 v1 = 1#1), ∀ (hinb : ∀ a, (k0_off12 v715) a + S1x128x128.size a ≤ S8192x128x128.size a), (Rect.unit (s := S8192x128x128) (k0_off12 v715) S1x128x128.size hinb).WholeWords (EltTy.packing .fp8e4m3))
theorem k0_off12_inb : ∀ (v1 : BitVec 32) (v715 : BitVec 32) (k0_hw3 : k0_chk3 v1 v715), ∀ (k0_h1 : k0_cond1 v1 = 1#1), ∀ a, (k0_off12 v715) a + S1x128x128.size a ≤ S8192x128x128.size a := fun v1 v715 k0_hw3 k0_h1 => k0_hw3.1 k0_h1
theorem k0_off12_wordsfp8e4m3 : ∀ (v1 : BitVec 32) (v715 : BitVec 32) (k0_hw3 : k0_chk3 v1 v715), ∀ (k0_h1 : k0_cond1 v1 = 1#1), (Rect.unit (s := S8192x128x128) (k0_off12 v715) S1x128x128.size (k0_off12_inb v1 v715 k0_hw3 k0_h1)).WholeWords (EltTy.packing .fp8e4m3) := fun v1 v715 k0_hw3 k0_h1 => k0_hw3.2 k0_h1 (k0_off12_inb v1 v715 k0_hw3 k0_h1)

def k0_off13 (v717 : BitVec 32) : Fin 3 → Nat :=
  let c0_i32_439 : BitVec 32 := 0#32
  let c0_i32_440 : BitVec 32 := 0#32
  ![v717.toNat, 0, 0]

def k0_chk4 (v1 : BitVec 32) (v717 : BitVec 32) : Prop :=
  (∀ (k0_h1 : k0_cond1 v1 = 1#1), ∀ a, (k0_off13 v717) a + S1x128x128.size a ≤ S8192x128x128.size a) ∧
  (∀ (k0_h1 : k0_cond1 v1 = 1#1), ∀ (hinb : ∀ a, (k0_off13 v717) a + S1x128x128.size a ≤ S8192x128x128.size a), (Rect.unit (s := S8192x128x128) (k0_off13 v717) S1x128x128.size hinb).WholeWords (EltTy.packing .fp8e4m3))
theorem k0_off13_inb : ∀ (v1 : BitVec 32) (v717 : BitVec 32) (k0_hw4 : k0_chk4 v1 v717), ∀ (k0_h1 : k0_cond1 v1 = 1#1), ∀ a, (k0_off13 v717) a + S1x128x128.size a ≤ S8192x128x128.size a := fun v1 v717 k0_hw4 k0_h1 => k0_hw4.1 k0_h1
theorem k0_off13_wordsfp8e4m3 : ∀ (v1 : BitVec 32) (v717 : BitVec 32) (k0_hw4 : k0_chk4 v1 v717), ∀ (k0_h1 : k0_cond1 v1 = 1#1), (Rect.unit (s := S8192x128x128) (k0_off13 v717) S1x128x128.size (k0_off13_inb v1 v717 k0_hw4 k0_h1)).WholeWords (EltTy.packing .fp8e4m3) := fun v1 v717 k0_hw4 k0_h1 => k0_hw4.2 k0_h1 (k0_off13_inb v1 v717 k0_hw4 k0_h1)

def k0_off14 (v719 : BitVec 32) : Fin 3 → Nat :=
  let c0_i32_452 : BitVec 32 := 0#32
  let c0_i32_453 : BitVec 32 := 0#32
  ![v719.toNat, 0, 0]

def k0_chk5 (v1 : BitVec 32) (v719 : BitVec 32) : Prop :=
  (∀ (k0_h1 : k0_cond1 v1 = 1#1), ∀ a, (k0_off14 v719) a + S1x128x128.size a ≤ S8192x128x128.size a) ∧
  (∀ (k0_h1 : k0_cond1 v1 = 1#1), ∀ (hinb : ∀ a, (k0_off14 v719) a + S1x128x128.size a ≤ S8192x128x128.size a), (Rect.unit (s := S8192x128x128) (k0_off14 v719) S1x128x128.size hinb).WholeWords (EltTy.packing .fp8e4m3))
theorem k0_off14_inb : ∀ (v1 : BitVec 32) (v719 : BitVec 32) (k0_hw5 : k0_chk5 v1 v719), ∀ (k0_h1 : k0_cond1 v1 = 1#1), ∀ a, (k0_off14 v719) a + S1x128x128.size a ≤ S8192x128x128.size a := fun v1 v719 k0_hw5 k0_h1 => k0_hw5.1 k0_h1
theorem k0_off14_wordsfp8e4m3 : ∀ (v1 : BitVec 32) (v719 : BitVec 32) (k0_hw5 : k0_chk5 v1 v719), ∀ (k0_h1 : k0_cond1 v1 = 1#1), (Rect.unit (s := S8192x128x128) (k0_off14 v719) S1x128x128.size (k0_off14_inb v1 v719 k0_hw5 k0_h1)).WholeWords (EltTy.packing .fp8e4m3) := fun v1 v719 k0_hw5 k0_h1 => k0_hw5.2 k0_h1 (k0_off14_inb v1 v719 k0_hw5 k0_h1)

def k0_off15 (v721 : BitVec 32) : Fin 3 → Nat :=
  let c0_i32_465 : BitVec 32 := 0#32
  let c0_i32_466 : BitVec 32 := 0#32
  ![v721.toNat, 0, 0]

def k0_chk6 (v1 : BitVec 32) (v721 : BitVec 32) : Prop :=
  (∀ (k0_h1 : k0_cond1 v1 = 1#1), ∀ a, (k0_off15 v721) a + S1x128x128.size a ≤ S8192x128x128.size a) ∧
  (∀ (k0_h1 : k0_cond1 v1 = 1#1), ∀ (hinb : ∀ a, (k0_off15 v721) a + S1x128x128.size a ≤ S8192x128x128.size a), (Rect.unit (s := S8192x128x128) (k0_off15 v721) S1x128x128.size hinb).WholeWords (EltTy.packing .fp8e4m3))
theorem k0_off15_inb : ∀ (v1 : BitVec 32) (v721 : BitVec 32) (k0_hw6 : k0_chk6 v1 v721), ∀ (k0_h1 : k0_cond1 v1 = 1#1), ∀ a, (k0_off15 v721) a + S1x128x128.size a ≤ S8192x128x128.size a := fun v1 v721 k0_hw6 k0_h1 => k0_hw6.1 k0_h1
theorem k0_off15_wordsfp8e4m3 : ∀ (v1 : BitVec 32) (v721 : BitVec 32) (k0_hw6 : k0_chk6 v1 v721), ∀ (k0_h1 : k0_cond1 v1 = 1#1), (Rect.unit (s := S8192x128x128) (k0_off15 v721) S1x128x128.size (k0_off15_inb v1 v721 k0_hw6 k0_h1)).WholeWords (EltTy.packing .fp8e4m3) := fun v1 v721 k0_hw6 k0_h1 => k0_hw6.2 k0_h1 (k0_off15_inb v1 v721 k0_hw6 k0_h1)

def k0_off16 (v723 : BitVec 32) : Fin 3 → Nat :=
  let c0_i32_478 : BitVec 32 := 0#32
  let c0_i32_479 : BitVec 32 := 0#32
  ![v723.toNat, 0, 0]

def k0_chk7 (v1 : BitVec 32) (v723 : BitVec 32) : Prop :=
  (∀ (k0_h1 : k0_cond1 v1 = 1#1), ∀ a, (k0_off16 v723) a + S1x128x128.size a ≤ S8192x128x128.size a) ∧
  (∀ (k0_h1 : k0_cond1 v1 = 1#1), ∀ (hinb : ∀ a, (k0_off16 v723) a + S1x128x128.size a ≤ S8192x128x128.size a), (Rect.unit (s := S8192x128x128) (k0_off16 v723) S1x128x128.size hinb).WholeWords (EltTy.packing .fp8e4m3))
theorem k0_off16_inb : ∀ (v1 : BitVec 32) (v723 : BitVec 32) (k0_hw7 : k0_chk7 v1 v723), ∀ (k0_h1 : k0_cond1 v1 = 1#1), ∀ a, (k0_off16 v723) a + S1x128x128.size a ≤ S8192x128x128.size a := fun v1 v723 k0_hw7 k0_h1 => k0_hw7.1 k0_h1
theorem k0_off16_wordsfp8e4m3 : ∀ (v1 : BitVec 32) (v723 : BitVec 32) (k0_hw7 : k0_chk7 v1 v723), ∀ (k0_h1 : k0_cond1 v1 = 1#1), (Rect.unit (s := S8192x128x128) (k0_off16 v723) S1x128x128.size (k0_off16_inb v1 v723 k0_hw7 k0_h1)).WholeWords (EltTy.packing .fp8e4m3) := fun v1 v723 k0_hw7 k0_h1 => k0_hw7.2 k0_h1 (k0_off16_inb v1 v723 k0_hw7 k0_h1)

def k0_off17 (v725 : BitVec 32) : Fin 3 → Nat :=
  let c0_i32_491 : BitVec 32 := 0#32
  let c0_i32_492 : BitVec 32 := 0#32
  ![v725.toNat, 0, 0]

def k0_chk8 (v1 : BitVec 32) (v725 : BitVec 32) : Prop :=
  (∀ (k0_h1 : k0_cond1 v1 = 1#1), ∀ a, (k0_off17 v725) a + S1x128x128.size a ≤ S8192x128x128.size a) ∧
  (∀ (k0_h1 : k0_cond1 v1 = 1#1), ∀ (hinb : ∀ a, (k0_off17 v725) a + S1x128x128.size a ≤ S8192x128x128.size a), (Rect.unit (s := S8192x128x128) (k0_off17 v725) S1x128x128.size hinb).WholeWords (EltTy.packing .fp8e4m3))
theorem k0_off17_inb : ∀ (v1 : BitVec 32) (v725 : BitVec 32) (k0_hw8 : k0_chk8 v1 v725), ∀ (k0_h1 : k0_cond1 v1 = 1#1), ∀ a, (k0_off17 v725) a + S1x128x128.size a ≤ S8192x128x128.size a := fun v1 v725 k0_hw8 k0_h1 => k0_hw8.1 k0_h1
theorem k0_off17_wordsfp8e4m3 : ∀ (v1 : BitVec 32) (v725 : BitVec 32) (k0_hw8 : k0_chk8 v1 v725), ∀ (k0_h1 : k0_cond1 v1 = 1#1), (Rect.unit (s := S8192x128x128) (k0_off17 v725) S1x128x128.size (k0_off17_inb v1 v725 k0_hw8 k0_h1)).WholeWords (EltTy.packing .fp8e4m3) := fun v1 v725 k0_hw8 k0_h1 => k0_hw8.2 k0_h1 (k0_off17_inb v1 v725 k0_hw8 k0_h1)

@[reducible] def k0_t1_loop (v1 : BitVec 32) : Scf.Loop 32 :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_274 : BitVec 32 := 1#32
  ⟨c0_i32_272, v562, c1_i32_274⟩

def k0_off18 (i : grid0.Coords) (v1 : BitVec 32) (k0_t1 : Fin (k0_t1_loop v1).trips) (c0_i32_683 : BitVec 32) : Fin 2 → Nat :=
  let arg0 : BitVec 32 := BitVec.ofNat 32 (i 0).val
  let v1204 : Index := Scalar.indexCast arg0
  let c0_i32_272 : BitVec 32 := 0#32
  let c1_i32_274 : BitVec 32 := 1#32
  let arg19 : BitVec 32 := Scf.iv c0_i32_272 c1_i32_274 k0_t1
  let c1_i32_680 : BitVec 32 := 1#32
  let v1200 : BitVec 32 := Scalar.addi arg19 c1_i32_680
  let c8_i32_682 : BitVec 32 := 8#32
  let v1202 : BitVec 32 := Scalar.muli v1200 c8_i32_682
  let v1203 : BitVec 32 := Scalar.addi v1202 c0_i32_683
  let v1205 : Index := Scalar.indexCast v1203
  ![v1204.toNat, v1205.toNat]
def k0_cond2 (v1 : BitVec 32) (k0_t1 : Fin (k0_t1_loop v1).trips) : BitVec 1 :=
  let c0_i32_272 : BitVec 32 := 0#32
  let c1_i32_274 : BitVec 32 := 1#32
  let arg19 : BitVec 32 := Scf.iv c0_i32_272 c1_i32_274 k0_t1
  let c1_i32_390 : BitVec 32 := 1#32
  let v711 : BitVec 32 := Scalar.addi arg19 c1_i32_390
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c1024_i32_4 : BitVec 32 := 1024#32
  let v19 : BitVec 32 := Scalar.muli v18 c1024_i32_4
  let v20 : BitVec 32 := Scalar.subi v1 v19
  let c0_i32_5 : BitVec 32 := 0#32
  let v21 : BitVec 1 := Scalar.cmpi .sgt v20 c0_i32_5
  let v22 : BitVec 32 := Scalar.extui v21
  let v23 : BitVec 32 := Scalar.addi v18 v22
  let v712 : BitVec 1 := Scalar.cmpi .slt v711 v23
  let v713 : BitVec 32 := Scalar.extui v712
  let c0_i32_391 : BitVec 32 := 0#32
  let v714 : BitVec 1 := Scalar.cmpi .ne v713 c0_i32_391
  v714

def k0_off19 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_698 : BitVec 32 := 0#32
  ![v1201.toNat, 0]
def k0_off20 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_699 : BitVec 32 := 0#32
  let c0_i32_700 : BitVec 32 := 0#32
  ![v1201.toNat, 0, 0]
def k0_off21 (v1206 : BitVec 32) : Fin 3 → Nat :=
  let c0_i32_701 : BitVec 32 := 0#32
  let c0_i32_702 : BitVec 32 := 0#32
  ![v1206.toNat, 0, 0]

def k0_chk10 (v1 : BitVec 32) (k0_t1 : Fin (k0_t1_loop v1).trips) (v1206 : BitVec 32) : Prop :=
  (∀ (k0_h2 : k0_cond2 v1 k0_t1 = 1#1), ∀ a, (k0_off21 v1206) a + S1x128x128.size a ≤ S8192x128x128.size a) ∧
  (∀ (k0_h2 : k0_cond2 v1 k0_t1 = 1#1), ∀ (hinb : ∀ a, (k0_off21 v1206) a + S1x128x128.size a ≤ S8192x128x128.size a), (Rect.unit (s := S8192x128x128) (k0_off21 v1206) S1x128x128.size hinb).WholeWords (EltTy.packing .fp8e4m3))
theorem k0_off21_inb : ∀ (v1 : BitVec 32) (k0_t1 : Fin (k0_t1_loop v1).trips) (v1206 : BitVec 32) (k0_hw10 : k0_chk10 v1 k0_t1 v1206), ∀ (k0_h2 : k0_cond2 v1 k0_t1 = 1#1), ∀ a, (k0_off21 v1206) a + S1x128x128.size a ≤ S8192x128x128.size a := fun v1 k0_t1 v1206 k0_hw10 k0_h2 => k0_hw10.1 k0_h2
theorem k0_off21_wordsfp8e4m3 : ∀ (v1 : BitVec 32) (k0_t1 : Fin (k0_t1_loop v1).trips) (v1206 : BitVec 32) (k0_hw10 : k0_chk10 v1 k0_t1 v1206), ∀ (k0_h2 : k0_cond2 v1 k0_t1 = 1#1), (Rect.unit (s := S8192x128x128) (k0_off21 v1206) S1x128x128.size (k0_off21_inb v1 k0_t1 v1206 k0_hw10 k0_h2)).WholeWords (EltTy.packing .fp8e4m3) := fun v1 k0_t1 v1206 k0_hw10 k0_h2 => k0_hw10.2 k0_h2 (k0_off21_inb v1 k0_t1 v1206 k0_hw10 k0_h2)

def k0_off22 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_703 : BitVec 32 := 1#32
  ![v1201.toNat, 1]
def k0_off23 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_704 : BitVec 32 := 0#32
  let c0_i32_705 : BitVec 32 := 0#32
  ![v1201.toNat, 0, 0]
def k0_off24 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_708 : BitVec 32 := 0#32
  ![v1201.toNat, 0]
def k0_off25 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c128_i32_709 : BitVec 32 := 128#32
  let c0_i32_710 : BitVec 32 := 0#32
  ![v1201.toNat, 128, 0]
def k0_off26 (v1211 : BitVec 32) : Fin 3 → Nat :=
  let c0_i32_711 : BitVec 32 := 0#32
  let c0_i32_712 : BitVec 32 := 0#32
  ![v1211.toNat, 0, 0]

def k0_chk11 (v1 : BitVec 32) (k0_t1 : Fin (k0_t1_loop v1).trips) (v1211 : BitVec 32) : Prop :=
  (∀ (k0_h2 : k0_cond2 v1 k0_t1 = 1#1), ∀ a, (k0_off26 v1211) a + S1x128x128.size a ≤ S8192x128x128.size a) ∧
  (∀ (k0_h2 : k0_cond2 v1 k0_t1 = 1#1), ∀ (hinb : ∀ a, (k0_off26 v1211) a + S1x128x128.size a ≤ S8192x128x128.size a), (Rect.unit (s := S8192x128x128) (k0_off26 v1211) S1x128x128.size hinb).WholeWords (EltTy.packing .fp8e4m3))
theorem k0_off26_inb : ∀ (v1 : BitVec 32) (k0_t1 : Fin (k0_t1_loop v1).trips) (v1211 : BitVec 32) (k0_hw11 : k0_chk11 v1 k0_t1 v1211), ∀ (k0_h2 : k0_cond2 v1 k0_t1 = 1#1), ∀ a, (k0_off26 v1211) a + S1x128x128.size a ≤ S8192x128x128.size a := fun v1 k0_t1 v1211 k0_hw11 k0_h2 => k0_hw11.1 k0_h2
theorem k0_off26_wordsfp8e4m3 : ∀ (v1 : BitVec 32) (k0_t1 : Fin (k0_t1_loop v1).trips) (v1211 : BitVec 32) (k0_hw11 : k0_chk11 v1 k0_t1 v1211), ∀ (k0_h2 : k0_cond2 v1 k0_t1 = 1#1), (Rect.unit (s := S8192x128x128) (k0_off26 v1211) S1x128x128.size (k0_off26_inb v1 k0_t1 v1211 k0_hw11 k0_h2)).WholeWords (EltTy.packing .fp8e4m3) := fun v1 k0_t1 v1211 k0_hw11 k0_h2 => k0_hw11.2 k0_h2 (k0_off26_inb v1 k0_t1 v1211 k0_hw11 k0_h2)

def k0_off27 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_713 : BitVec 32 := 1#32
  ![v1201.toNat, 1]
def k0_off28 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c128_i32_714 : BitVec 32 := 128#32
  let c0_i32_715 : BitVec 32 := 0#32
  ![v1201.toNat, 128, 0]
def k0_off29 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_718 : BitVec 32 := 0#32
  ![v1201.toNat, 0]
def k0_off30 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c256_i32_719 : BitVec 32 := 256#32
  let c0_i32_720 : BitVec 32 := 0#32
  ![v1201.toNat, 256, 0]
def k0_off31 (v1216 : BitVec 32) : Fin 3 → Nat :=
  let c0_i32_721 : BitVec 32 := 0#32
  let c0_i32_722 : BitVec 32 := 0#32
  ![v1216.toNat, 0, 0]

def k0_chk12 (v1 : BitVec 32) (k0_t1 : Fin (k0_t1_loop v1).trips) (v1216 : BitVec 32) : Prop :=
  (∀ (k0_h2 : k0_cond2 v1 k0_t1 = 1#1), ∀ a, (k0_off31 v1216) a + S1x128x128.size a ≤ S8192x128x128.size a) ∧
  (∀ (k0_h2 : k0_cond2 v1 k0_t1 = 1#1), ∀ (hinb : ∀ a, (k0_off31 v1216) a + S1x128x128.size a ≤ S8192x128x128.size a), (Rect.unit (s := S8192x128x128) (k0_off31 v1216) S1x128x128.size hinb).WholeWords (EltTy.packing .fp8e4m3))
theorem k0_off31_inb : ∀ (v1 : BitVec 32) (k0_t1 : Fin (k0_t1_loop v1).trips) (v1216 : BitVec 32) (k0_hw12 : k0_chk12 v1 k0_t1 v1216), ∀ (k0_h2 : k0_cond2 v1 k0_t1 = 1#1), ∀ a, (k0_off31 v1216) a + S1x128x128.size a ≤ S8192x128x128.size a := fun v1 k0_t1 v1216 k0_hw12 k0_h2 => k0_hw12.1 k0_h2
theorem k0_off31_wordsfp8e4m3 : ∀ (v1 : BitVec 32) (k0_t1 : Fin (k0_t1_loop v1).trips) (v1216 : BitVec 32) (k0_hw12 : k0_chk12 v1 k0_t1 v1216), ∀ (k0_h2 : k0_cond2 v1 k0_t1 = 1#1), (Rect.unit (s := S8192x128x128) (k0_off31 v1216) S1x128x128.size (k0_off31_inb v1 k0_t1 v1216 k0_hw12 k0_h2)).WholeWords (EltTy.packing .fp8e4m3) := fun v1 k0_t1 v1216 k0_hw12 k0_h2 => k0_hw12.2 k0_h2 (k0_off31_inb v1 k0_t1 v1216 k0_hw12 k0_h2)

def k0_off32 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_723 : BitVec 32 := 1#32
  ![v1201.toNat, 1]
def k0_off33 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c256_i32_724 : BitVec 32 := 256#32
  let c0_i32_725 : BitVec 32 := 0#32
  ![v1201.toNat, 256, 0]
def k0_off34 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_728 : BitVec 32 := 0#32
  ![v1201.toNat, 0]
def k0_off35 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c384_i32_729 : BitVec 32 := 384#32
  let c0_i32_730 : BitVec 32 := 0#32
  ![v1201.toNat, 384, 0]
def k0_off36 (v1221 : BitVec 32) : Fin 3 → Nat :=
  let c0_i32_731 : BitVec 32 := 0#32
  let c0_i32_732 : BitVec 32 := 0#32
  ![v1221.toNat, 0, 0]

def k0_chk13 (v1 : BitVec 32) (k0_t1 : Fin (k0_t1_loop v1).trips) (v1221 : BitVec 32) : Prop :=
  (∀ (k0_h2 : k0_cond2 v1 k0_t1 = 1#1), ∀ a, (k0_off36 v1221) a + S1x128x128.size a ≤ S8192x128x128.size a) ∧
  (∀ (k0_h2 : k0_cond2 v1 k0_t1 = 1#1), ∀ (hinb : ∀ a, (k0_off36 v1221) a + S1x128x128.size a ≤ S8192x128x128.size a), (Rect.unit (s := S8192x128x128) (k0_off36 v1221) S1x128x128.size hinb).WholeWords (EltTy.packing .fp8e4m3))
theorem k0_off36_inb : ∀ (v1 : BitVec 32) (k0_t1 : Fin (k0_t1_loop v1).trips) (v1221 : BitVec 32) (k0_hw13 : k0_chk13 v1 k0_t1 v1221), ∀ (k0_h2 : k0_cond2 v1 k0_t1 = 1#1), ∀ a, (k0_off36 v1221) a + S1x128x128.size a ≤ S8192x128x128.size a := fun v1 k0_t1 v1221 k0_hw13 k0_h2 => k0_hw13.1 k0_h2
theorem k0_off36_wordsfp8e4m3 : ∀ (v1 : BitVec 32) (k0_t1 : Fin (k0_t1_loop v1).trips) (v1221 : BitVec 32) (k0_hw13 : k0_chk13 v1 k0_t1 v1221), ∀ (k0_h2 : k0_cond2 v1 k0_t1 = 1#1), (Rect.unit (s := S8192x128x128) (k0_off36 v1221) S1x128x128.size (k0_off36_inb v1 k0_t1 v1221 k0_hw13 k0_h2)).WholeWords (EltTy.packing .fp8e4m3) := fun v1 k0_t1 v1221 k0_hw13 k0_h2 => k0_hw13.2 k0_h2 (k0_off36_inb v1 k0_t1 v1221 k0_hw13 k0_h2)

def k0_off37 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_733 : BitVec 32 := 1#32
  ![v1201.toNat, 1]
def k0_off38 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c384_i32_734 : BitVec 32 := 384#32
  let c0_i32_735 : BitVec 32 := 0#32
  ![v1201.toNat, 384, 0]
def k0_off39 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_738 : BitVec 32 := 0#32
  ![v1201.toNat, 0]
def k0_off40 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c512_i32_739 : BitVec 32 := 512#32
  let c0_i32_740 : BitVec 32 := 0#32
  ![v1201.toNat, 512, 0]
def k0_off41 (v1226 : BitVec 32) : Fin 3 → Nat :=
  let c0_i32_741 : BitVec 32 := 0#32
  let c0_i32_742 : BitVec 32 := 0#32
  ![v1226.toNat, 0, 0]

def k0_chk14 (v1 : BitVec 32) (k0_t1 : Fin (k0_t1_loop v1).trips) (v1226 : BitVec 32) : Prop :=
  (∀ (k0_h2 : k0_cond2 v1 k0_t1 = 1#1), ∀ a, (k0_off41 v1226) a + S1x128x128.size a ≤ S8192x128x128.size a) ∧
  (∀ (k0_h2 : k0_cond2 v1 k0_t1 = 1#1), ∀ (hinb : ∀ a, (k0_off41 v1226) a + S1x128x128.size a ≤ S8192x128x128.size a), (Rect.unit (s := S8192x128x128) (k0_off41 v1226) S1x128x128.size hinb).WholeWords (EltTy.packing .fp8e4m3))
theorem k0_off41_inb : ∀ (v1 : BitVec 32) (k0_t1 : Fin (k0_t1_loop v1).trips) (v1226 : BitVec 32) (k0_hw14 : k0_chk14 v1 k0_t1 v1226), ∀ (k0_h2 : k0_cond2 v1 k0_t1 = 1#1), ∀ a, (k0_off41 v1226) a + S1x128x128.size a ≤ S8192x128x128.size a := fun v1 k0_t1 v1226 k0_hw14 k0_h2 => k0_hw14.1 k0_h2
theorem k0_off41_wordsfp8e4m3 : ∀ (v1 : BitVec 32) (k0_t1 : Fin (k0_t1_loop v1).trips) (v1226 : BitVec 32) (k0_hw14 : k0_chk14 v1 k0_t1 v1226), ∀ (k0_h2 : k0_cond2 v1 k0_t1 = 1#1), (Rect.unit (s := S8192x128x128) (k0_off41 v1226) S1x128x128.size (k0_off41_inb v1 k0_t1 v1226 k0_hw14 k0_h2)).WholeWords (EltTy.packing .fp8e4m3) := fun v1 k0_t1 v1226 k0_hw14 k0_h2 => k0_hw14.2 k0_h2 (k0_off41_inb v1 k0_t1 v1226 k0_hw14 k0_h2)

def k0_off42 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_743 : BitVec 32 := 1#32
  ![v1201.toNat, 1]
def k0_off43 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c512_i32_744 : BitVec 32 := 512#32
  let c0_i32_745 : BitVec 32 := 0#32
  ![v1201.toNat, 512, 0]
def k0_off44 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_748 : BitVec 32 := 0#32
  ![v1201.toNat, 0]
def k0_off45 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c640_i32_749 : BitVec 32 := 640#32
  let c0_i32_750 : BitVec 32 := 0#32
  ![v1201.toNat, 640, 0]
def k0_off46 (v1231 : BitVec 32) : Fin 3 → Nat :=
  let c0_i32_751 : BitVec 32 := 0#32
  let c0_i32_752 : BitVec 32 := 0#32
  ![v1231.toNat, 0, 0]

def k0_chk15 (v1 : BitVec 32) (k0_t1 : Fin (k0_t1_loop v1).trips) (v1231 : BitVec 32) : Prop :=
  (∀ (k0_h2 : k0_cond2 v1 k0_t1 = 1#1), ∀ a, (k0_off46 v1231) a + S1x128x128.size a ≤ S8192x128x128.size a) ∧
  (∀ (k0_h2 : k0_cond2 v1 k0_t1 = 1#1), ∀ (hinb : ∀ a, (k0_off46 v1231) a + S1x128x128.size a ≤ S8192x128x128.size a), (Rect.unit (s := S8192x128x128) (k0_off46 v1231) S1x128x128.size hinb).WholeWords (EltTy.packing .fp8e4m3))
theorem k0_off46_inb : ∀ (v1 : BitVec 32) (k0_t1 : Fin (k0_t1_loop v1).trips) (v1231 : BitVec 32) (k0_hw15 : k0_chk15 v1 k0_t1 v1231), ∀ (k0_h2 : k0_cond2 v1 k0_t1 = 1#1), ∀ a, (k0_off46 v1231) a + S1x128x128.size a ≤ S8192x128x128.size a := fun v1 k0_t1 v1231 k0_hw15 k0_h2 => k0_hw15.1 k0_h2
theorem k0_off46_wordsfp8e4m3 : ∀ (v1 : BitVec 32) (k0_t1 : Fin (k0_t1_loop v1).trips) (v1231 : BitVec 32) (k0_hw15 : k0_chk15 v1 k0_t1 v1231), ∀ (k0_h2 : k0_cond2 v1 k0_t1 = 1#1), (Rect.unit (s := S8192x128x128) (k0_off46 v1231) S1x128x128.size (k0_off46_inb v1 k0_t1 v1231 k0_hw15 k0_h2)).WholeWords (EltTy.packing .fp8e4m3) := fun v1 k0_t1 v1231 k0_hw15 k0_h2 => k0_hw15.2 k0_h2 (k0_off46_inb v1 k0_t1 v1231 k0_hw15 k0_h2)

def k0_off47 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_753 : BitVec 32 := 1#32
  ![v1201.toNat, 1]
def k0_off48 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c640_i32_754 : BitVec 32 := 640#32
  let c0_i32_755 : BitVec 32 := 0#32
  ![v1201.toNat, 640, 0]
def k0_off49 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_758 : BitVec 32 := 0#32
  ![v1201.toNat, 0]
def k0_off50 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c768_i32_759 : BitVec 32 := 768#32
  let c0_i32_760 : BitVec 32 := 0#32
  ![v1201.toNat, 768, 0]
def k0_off51 (v1236 : BitVec 32) : Fin 3 → Nat :=
  let c0_i32_761 : BitVec 32 := 0#32
  let c0_i32_762 : BitVec 32 := 0#32
  ![v1236.toNat, 0, 0]

def k0_chk16 (v1 : BitVec 32) (k0_t1 : Fin (k0_t1_loop v1).trips) (v1236 : BitVec 32) : Prop :=
  (∀ (k0_h2 : k0_cond2 v1 k0_t1 = 1#1), ∀ a, (k0_off51 v1236) a + S1x128x128.size a ≤ S8192x128x128.size a) ∧
  (∀ (k0_h2 : k0_cond2 v1 k0_t1 = 1#1), ∀ (hinb : ∀ a, (k0_off51 v1236) a + S1x128x128.size a ≤ S8192x128x128.size a), (Rect.unit (s := S8192x128x128) (k0_off51 v1236) S1x128x128.size hinb).WholeWords (EltTy.packing .fp8e4m3))
theorem k0_off51_inb : ∀ (v1 : BitVec 32) (k0_t1 : Fin (k0_t1_loop v1).trips) (v1236 : BitVec 32) (k0_hw16 : k0_chk16 v1 k0_t1 v1236), ∀ (k0_h2 : k0_cond2 v1 k0_t1 = 1#1), ∀ a, (k0_off51 v1236) a + S1x128x128.size a ≤ S8192x128x128.size a := fun v1 k0_t1 v1236 k0_hw16 k0_h2 => k0_hw16.1 k0_h2
theorem k0_off51_wordsfp8e4m3 : ∀ (v1 : BitVec 32) (k0_t1 : Fin (k0_t1_loop v1).trips) (v1236 : BitVec 32) (k0_hw16 : k0_chk16 v1 k0_t1 v1236), ∀ (k0_h2 : k0_cond2 v1 k0_t1 = 1#1), (Rect.unit (s := S8192x128x128) (k0_off51 v1236) S1x128x128.size (k0_off51_inb v1 k0_t1 v1236 k0_hw16 k0_h2)).WholeWords (EltTy.packing .fp8e4m3) := fun v1 k0_t1 v1236 k0_hw16 k0_h2 => k0_hw16.2 k0_h2 (k0_off51_inb v1 k0_t1 v1236 k0_hw16 k0_h2)

def k0_off52 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_763 : BitVec 32 := 1#32
  ![v1201.toNat, 1]
def k0_off53 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c768_i32_764 : BitVec 32 := 768#32
  let c0_i32_765 : BitVec 32 := 0#32
  ![v1201.toNat, 768, 0]
def k0_off54 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c0_i32_768 : BitVec 32 := 0#32
  ![v1201.toNat, 0]
def k0_off55 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c896_i32_769 : BitVec 32 := 896#32
  let c0_i32_770 : BitVec 32 := 0#32
  ![v1201.toNat, 896, 0]
def k0_off56 (v1241 : BitVec 32) : Fin 3 → Nat :=
  let c0_i32_771 : BitVec 32 := 0#32
  let c0_i32_772 : BitVec 32 := 0#32
  ![v1241.toNat, 0, 0]

def k0_chk17 (v1 : BitVec 32) (k0_t1 : Fin (k0_t1_loop v1).trips) (v1241 : BitVec 32) : Prop :=
  (∀ (k0_h2 : k0_cond2 v1 k0_t1 = 1#1), ∀ a, (k0_off56 v1241) a + S1x128x128.size a ≤ S8192x128x128.size a) ∧
  (∀ (k0_h2 : k0_cond2 v1 k0_t1 = 1#1), ∀ (hinb : ∀ a, (k0_off56 v1241) a + S1x128x128.size a ≤ S8192x128x128.size a), (Rect.unit (s := S8192x128x128) (k0_off56 v1241) S1x128x128.size hinb).WholeWords (EltTy.packing .fp8e4m3))
theorem k0_off56_inb : ∀ (v1 : BitVec 32) (k0_t1 : Fin (k0_t1_loop v1).trips) (v1241 : BitVec 32) (k0_hw17 : k0_chk17 v1 k0_t1 v1241), ∀ (k0_h2 : k0_cond2 v1 k0_t1 = 1#1), ∀ a, (k0_off56 v1241) a + S1x128x128.size a ≤ S8192x128x128.size a := fun v1 k0_t1 v1241 k0_hw17 k0_h2 => k0_hw17.1 k0_h2
theorem k0_off56_wordsfp8e4m3 : ∀ (v1 : BitVec 32) (k0_t1 : Fin (k0_t1_loop v1).trips) (v1241 : BitVec 32) (k0_hw17 : k0_chk17 v1 k0_t1 v1241), ∀ (k0_h2 : k0_cond2 v1 k0_t1 = 1#1), (Rect.unit (s := S8192x128x128) (k0_off56 v1241) S1x128x128.size (k0_off56_inb v1 k0_t1 v1241 k0_hw17 k0_h2)).WholeWords (EltTy.packing .fp8e4m3) := fun v1 k0_t1 v1241 k0_hw17 k0_h2 => k0_hw17.2 k0_h2 (k0_off56_inb v1 k0_t1 v1241 k0_hw17 k0_h2)

def k0_off57 (v1 : BitVec 32) (k0_t1 : Fin (k0_t1_loop v1).trips) : Fin 2 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c1_i32_773 : BitVec 32 := 1#32
  ![v1201.toNat, 1]
def k0_off58 (v1 : BitVec 32) (k0_t1 : Fin (k0_t1_loop v1).trips) : Fin 3 → Nat :=
  let c1_i32_681 : BitVec 32 := 1#32
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v1201 : BitVec 32 := Scalar.subi c1_i32_681 v710
  let c896_i32_774 : BitVec 32 := 896#32
  let c0_i32_775 : BitVec 32 := 0#32
  ![v1201.toNat, 896, 0]
def k0_off59 (i : grid0.Coords) (v1 : BitVec 32) (k0_t1 : Fin (k0_t1_loop v1).trips) (c0_i32_392 : BitVec 32) : Fin 2 → Nat :=
  let arg0 : BitVec 32 := BitVec.ofNat 32 (i 0).val
  let v717 : Index := Scalar.indexCast arg0
  let c0_i32_272 : BitVec 32 := 0#32
  let c1_i32_274 : BitVec 32 := 1#32
  let arg19 : BitVec 32 := Scf.iv c0_i32_272 c1_i32_274 k0_t1
  let c8_i32 : BitVec 32 := 8#32
  let v715 : BitVec 32 := Scalar.muli arg19 c8_i32
  let v716 : BitVec 32 := Scalar.addi v715 c0_i32_392
  let v718 : Index := Scalar.indexCast v716
  ![v717.toNat, v718.toNat]
def k0_off60 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_402 : BitVec 32 := 0#32
  ![v710.toNat, 0]
def k0_off61 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_403 : BitVec 32 := 0#32
  let c0_i32_404 : BitVec 32 := 0#32
  ![v710.toNat, 0, 0]
def k0_off62 (v719 : BitVec 32) : Fin 3 → Nat :=
  let c0_i32_405 : BitVec 32 := 0#32
  let c0_i32_406 : BitVec 32 := 0#32
  ![v719.toNat, 0, 0]

def k0_chk18 (v719 : BitVec 32) : Prop :=
  (∀ a, (k0_off62 v719) a + S1x128x128.size a ≤ S8192x128x128.size a) ∧
  (∀ (hinb : ∀ a, (k0_off62 v719) a + S1x128x128.size a ≤ S8192x128x128.size a), (Rect.unit (s := S8192x128x128) (k0_off62 v719) S1x128x128.size hinb).WholeWords (EltTy.packing .fp8e4m3))
theorem k0_off62_inb : ∀ (v719 : BitVec 32) (k0_hw18 : k0_chk18 v719), ∀ a, (k0_off62 v719) a + S1x128x128.size a ≤ S8192x128x128.size a := fun v719 k0_hw18 => k0_hw18.1
theorem k0_off62_wordsfp8e4m3 : ∀ (v719 : BitVec 32) (k0_hw18 : k0_chk18 v719), (Rect.unit (s := S8192x128x128) (k0_off62 v719) S1x128x128.size (k0_off62_inb v719 k0_hw18)).WholeWords (EltTy.packing .fp8e4m3) := fun v719 k0_hw18 => k0_hw18.2 (k0_off62_inb v719 k0_hw18)

def k0_off63 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_407 : BitVec 32 := 1#32
  ![v710.toNat, 1]
def k0_off64 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_408 : BitVec 32 := 0#32
  let c0_i32_409 : BitVec 32 := 0#32
  ![v710.toNat, 0, 0]
def k0_off65 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_412 : BitVec 32 := 0#32
  ![v710.toNat, 0]
def k0_off66 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c128_i32_413 : BitVec 32 := 128#32
  let c0_i32_414 : BitVec 32 := 0#32
  ![v710.toNat, 128, 0]
def k0_off67 (v724 : BitVec 32) : Fin 3 → Nat :=
  let c0_i32_415 : BitVec 32 := 0#32
  let c0_i32_416 : BitVec 32 := 0#32
  ![v724.toNat, 0, 0]

def k0_chk19 (v724 : BitVec 32) : Prop :=
  (∀ a, (k0_off67 v724) a + S1x128x128.size a ≤ S8192x128x128.size a) ∧
  (∀ (hinb : ∀ a, (k0_off67 v724) a + S1x128x128.size a ≤ S8192x128x128.size a), (Rect.unit (s := S8192x128x128) (k0_off67 v724) S1x128x128.size hinb).WholeWords (EltTy.packing .fp8e4m3))
theorem k0_off67_inb : ∀ (v724 : BitVec 32) (k0_hw19 : k0_chk19 v724), ∀ a, (k0_off67 v724) a + S1x128x128.size a ≤ S8192x128x128.size a := fun v724 k0_hw19 => k0_hw19.1
theorem k0_off67_wordsfp8e4m3 : ∀ (v724 : BitVec 32) (k0_hw19 : k0_chk19 v724), (Rect.unit (s := S8192x128x128) (k0_off67 v724) S1x128x128.size (k0_off67_inb v724 k0_hw19)).WholeWords (EltTy.packing .fp8e4m3) := fun v724 k0_hw19 => k0_hw19.2 (k0_off67_inb v724 k0_hw19)

def k0_off68 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_417 : BitVec 32 := 1#32
  ![v710.toNat, 1]
def k0_off69 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c128_i32_418 : BitVec 32 := 128#32
  let c0_i32_419 : BitVec 32 := 0#32
  ![v710.toNat, 128, 0]
def k0_off70 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_422 : BitVec 32 := 0#32
  ![v710.toNat, 0]
def k0_off71 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c256_i32 : BitVec 32 := 256#32
  let c0_i32_423 : BitVec 32 := 0#32
  ![v710.toNat, 256, 0]
def k0_off72 (v729 : BitVec 32) : Fin 3 → Nat :=
  let c0_i32_424 : BitVec 32 := 0#32
  let c0_i32_425 : BitVec 32 := 0#32
  ![v729.toNat, 0, 0]

def k0_chk20 (v729 : BitVec 32) : Prop :=
  (∀ a, (k0_off72 v729) a + S1x128x128.size a ≤ S8192x128x128.size a) ∧
  (∀ (hinb : ∀ a, (k0_off72 v729) a + S1x128x128.size a ≤ S8192x128x128.size a), (Rect.unit (s := S8192x128x128) (k0_off72 v729) S1x128x128.size hinb).WholeWords (EltTy.packing .fp8e4m3))
theorem k0_off72_inb : ∀ (v729 : BitVec 32) (k0_hw20 : k0_chk20 v729), ∀ a, (k0_off72 v729) a + S1x128x128.size a ≤ S8192x128x128.size a := fun v729 k0_hw20 => k0_hw20.1
theorem k0_off72_wordsfp8e4m3 : ∀ (v729 : BitVec 32) (k0_hw20 : k0_chk20 v729), (Rect.unit (s := S8192x128x128) (k0_off72 v729) S1x128x128.size (k0_off72_inb v729 k0_hw20)).WholeWords (EltTy.packing .fp8e4m3) := fun v729 k0_hw20 => k0_hw20.2 (k0_off72_inb v729 k0_hw20)

def k0_off73 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_426 : BitVec 32 := 1#32
  ![v710.toNat, 1]
def k0_off74 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c256_i32_427 : BitVec 32 := 256#32
  let c0_i32_428 : BitVec 32 := 0#32
  ![v710.toNat, 256, 0]
def k0_off75 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_431 : BitVec 32 := 0#32
  ![v710.toNat, 0]
def k0_off76 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c384_i32 : BitVec 32 := 384#32
  let c0_i32_432 : BitVec 32 := 0#32
  ![v710.toNat, 384, 0]
def k0_off77 (v734 : BitVec 32) : Fin 3 → Nat :=
  let c0_i32_433 : BitVec 32 := 0#32
  let c0_i32_434 : BitVec 32 := 0#32
  ![v734.toNat, 0, 0]

def k0_chk21 (v734 : BitVec 32) : Prop :=
  (∀ a, (k0_off77 v734) a + S1x128x128.size a ≤ S8192x128x128.size a) ∧
  (∀ (hinb : ∀ a, (k0_off77 v734) a + S1x128x128.size a ≤ S8192x128x128.size a), (Rect.unit (s := S8192x128x128) (k0_off77 v734) S1x128x128.size hinb).WholeWords (EltTy.packing .fp8e4m3))
theorem k0_off77_inb : ∀ (v734 : BitVec 32) (k0_hw21 : k0_chk21 v734), ∀ a, (k0_off77 v734) a + S1x128x128.size a ≤ S8192x128x128.size a := fun v734 k0_hw21 => k0_hw21.1
theorem k0_off77_wordsfp8e4m3 : ∀ (v734 : BitVec 32) (k0_hw21 : k0_chk21 v734), (Rect.unit (s := S8192x128x128) (k0_off77 v734) S1x128x128.size (k0_off77_inb v734 k0_hw21)).WholeWords (EltTy.packing .fp8e4m3) := fun v734 k0_hw21 => k0_hw21.2 (k0_off77_inb v734 k0_hw21)

def k0_off78 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_435 : BitVec 32 := 1#32
  ![v710.toNat, 1]
def k0_off79 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c384_i32_436 : BitVec 32 := 384#32
  let c0_i32_437 : BitVec 32 := 0#32
  ![v710.toNat, 384, 0]
def k0_off80 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_440 : BitVec 32 := 0#32
  ![v710.toNat, 0]
def k0_off81 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c512_i32 : BitVec 32 := 512#32
  let c0_i32_441 : BitVec 32 := 0#32
  ![v710.toNat, 512, 0]
def k0_off82 (v739 : BitVec 32) : Fin 3 → Nat :=
  let c0_i32_442 : BitVec 32 := 0#32
  let c0_i32_443 : BitVec 32 := 0#32
  ![v739.toNat, 0, 0]

def k0_chk22 (v739 : BitVec 32) : Prop :=
  (∀ a, (k0_off82 v739) a + S1x128x128.size a ≤ S8192x128x128.size a) ∧
  (∀ (hinb : ∀ a, (k0_off82 v739) a + S1x128x128.size a ≤ S8192x128x128.size a), (Rect.unit (s := S8192x128x128) (k0_off82 v739) S1x128x128.size hinb).WholeWords (EltTy.packing .fp8e4m3))
theorem k0_off82_inb : ∀ (v739 : BitVec 32) (k0_hw22 : k0_chk22 v739), ∀ a, (k0_off82 v739) a + S1x128x128.size a ≤ S8192x128x128.size a := fun v739 k0_hw22 => k0_hw22.1
theorem k0_off82_wordsfp8e4m3 : ∀ (v739 : BitVec 32) (k0_hw22 : k0_chk22 v739), (Rect.unit (s := S8192x128x128) (k0_off82 v739) S1x128x128.size (k0_off82_inb v739 k0_hw22)).WholeWords (EltTy.packing .fp8e4m3) := fun v739 k0_hw22 => k0_hw22.2 (k0_off82_inb v739 k0_hw22)

def k0_off83 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_444 : BitVec 32 := 1#32
  ![v710.toNat, 1]
def k0_off84 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c512_i32_445 : BitVec 32 := 512#32
  let c0_i32_446 : BitVec 32 := 0#32
  ![v710.toNat, 512, 0]
def k0_off85 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_449 : BitVec 32 := 0#32
  ![v710.toNat, 0]
def k0_off86 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c640_i32 : BitVec 32 := 640#32
  let c0_i32_450 : BitVec 32 := 0#32
  ![v710.toNat, 640, 0]
def k0_off87 (v744 : BitVec 32) : Fin 3 → Nat :=
  let c0_i32_451 : BitVec 32 := 0#32
  let c0_i32_452 : BitVec 32 := 0#32
  ![v744.toNat, 0, 0]

def k0_chk23 (v744 : BitVec 32) : Prop :=
  (∀ a, (k0_off87 v744) a + S1x128x128.size a ≤ S8192x128x128.size a) ∧
  (∀ (hinb : ∀ a, (k0_off87 v744) a + S1x128x128.size a ≤ S8192x128x128.size a), (Rect.unit (s := S8192x128x128) (k0_off87 v744) S1x128x128.size hinb).WholeWords (EltTy.packing .fp8e4m3))
theorem k0_off87_inb : ∀ (v744 : BitVec 32) (k0_hw23 : k0_chk23 v744), ∀ a, (k0_off87 v744) a + S1x128x128.size a ≤ S8192x128x128.size a := fun v744 k0_hw23 => k0_hw23.1
theorem k0_off87_wordsfp8e4m3 : ∀ (v744 : BitVec 32) (k0_hw23 : k0_chk23 v744), (Rect.unit (s := S8192x128x128) (k0_off87 v744) S1x128x128.size (k0_off87_inb v744 k0_hw23)).WholeWords (EltTy.packing .fp8e4m3) := fun v744 k0_hw23 => k0_hw23.2 (k0_off87_inb v744 k0_hw23)

def k0_off88 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_453 : BitVec 32 := 1#32
  ![v710.toNat, 1]
def k0_off89 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c640_i32_454 : BitVec 32 := 640#32
  let c0_i32_455 : BitVec 32 := 0#32
  ![v710.toNat, 640, 0]
def k0_off90 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_458 : BitVec 32 := 0#32
  ![v710.toNat, 0]
def k0_off91 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c768_i32 : BitVec 32 := 768#32
  let c0_i32_459 : BitVec 32 := 0#32
  ![v710.toNat, 768, 0]
def k0_off92 (v749 : BitVec 32) : Fin 3 → Nat :=
  let c0_i32_460 : BitVec 32 := 0#32
  let c0_i32_461 : BitVec 32 := 0#32
  ![v749.toNat, 0, 0]

def k0_chk24 (v749 : BitVec 32) : Prop :=
  (∀ a, (k0_off92 v749) a + S1x128x128.size a ≤ S8192x128x128.size a) ∧
  (∀ (hinb : ∀ a, (k0_off92 v749) a + S1x128x128.size a ≤ S8192x128x128.size a), (Rect.unit (s := S8192x128x128) (k0_off92 v749) S1x128x128.size hinb).WholeWords (EltTy.packing .fp8e4m3))
theorem k0_off92_inb : ∀ (v749 : BitVec 32) (k0_hw24 : k0_chk24 v749), ∀ a, (k0_off92 v749) a + S1x128x128.size a ≤ S8192x128x128.size a := fun v749 k0_hw24 => k0_hw24.1
theorem k0_off92_wordsfp8e4m3 : ∀ (v749 : BitVec 32) (k0_hw24 : k0_chk24 v749), (Rect.unit (s := S8192x128x128) (k0_off92 v749) S1x128x128.size (k0_off92_inb v749 k0_hw24)).WholeWords (EltTy.packing .fp8e4m3) := fun v749 k0_hw24 => k0_hw24.2 (k0_off92_inb v749 k0_hw24)

def k0_off93 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_462 : BitVec 32 := 1#32
  ![v710.toNat, 1]
def k0_off94 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c768_i32_463 : BitVec 32 := 768#32
  let c0_i32_464 : BitVec 32 := 0#32
  ![v710.toNat, 768, 0]
def k0_off95 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c0_i32_467 : BitVec 32 := 0#32
  ![v710.toNat, 0]
def k0_off96 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c896_i32 : BitVec 32 := 896#32
  let c0_i32_468 : BitVec 32 := 0#32
  ![v710.toNat, 896, 0]
def k0_off97 (v754 : BitVec 32) : Fin 3 → Nat :=
  let c0_i32_469 : BitVec 32 := 0#32
  let c0_i32_470 : BitVec 32 := 0#32
  ![v754.toNat, 0, 0]

def k0_chk25 (v754 : BitVec 32) : Prop :=
  (∀ a, (k0_off97 v754) a + S1x128x128.size a ≤ S8192x128x128.size a) ∧
  (∀ (hinb : ∀ a, (k0_off97 v754) a + S1x128x128.size a ≤ S8192x128x128.size a), (Rect.unit (s := S8192x128x128) (k0_off97 v754) S1x128x128.size hinb).WholeWords (EltTy.packing .fp8e4m3))
theorem k0_off97_inb : ∀ (v754 : BitVec 32) (k0_hw25 : k0_chk25 v754), ∀ a, (k0_off97 v754) a + S1x128x128.size a ≤ S8192x128x128.size a := fun v754 k0_hw25 => k0_hw25.1
theorem k0_off97_wordsfp8e4m3 : ∀ (v754 : BitVec 32) (k0_hw25 : k0_chk25 v754), (Rect.unit (s := S8192x128x128) (k0_off97 v754) S1x128x128.size (k0_off97_inb v754 k0_hw25)).WholeWords (EltTy.packing .fp8e4m3) := fun v754 k0_hw25 => k0_hw25.2 (k0_off97_inb v754 k0_hw25)

def k0_off98 (v1 : BitVec 32) (k0_t1 : Fin (k0_t1_loop v1).trips) : Fin 2 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c1_i32_471 : BitVec 32 := 1#32
  ![v710.toNat, 1]
def k0_off99 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let c896_i32_472 : BitVec 32 := 896#32
  let c0_i32_473 : BitVec 32 := 0#32
  ![v710.toNat, 896, 0]
def k0_off100 (v1 : BitVec 32) (k0_t1 : Fin (k0_t1_loop v1).trips) : Fin 3 → Nat :=
  let c0_i32_272 : BitVec 32 := 0#32
  let c1_i32_274 : BitVec 32 := 1#32
  let arg19 : BitVec 32 := Scf.iv c0_i32_272 c1_i32_274 k0_t1
  let c2_i32 : BitVec 32 := 2#32
  let v710 : BitVec 32 := Scalar.remsi arg19 c2_i32
  let v851 : Index := Scalar.indexCast v710
  let c0_476 : Index := 0#32
  let c0_477 : Index := 0#32
  ![v851.toNat, 0, 0]
@[reducible] def k0_t2_loop (v1 : BitVec 32) : Scf.Loop 32 :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let v559 : BitVec 32 := Scalar.addi c0_i32_272 v558
  let c1_i32_275 : BitVec 32 := 1#32
  ⟨v562, v559, c1_i32_275⟩
def k0_off101 (i : grid0.Coords) (v1 : BitVec 32) (k0_t2 : Fin (k0_t2_loop v1).trips) (c0_i32_683 : BitVec 32) : Fin 2 → Nat :=
  let arg0 : BitVec 32 := BitVec.ofNat 32 (i 0).val
  let v1204 : Index := Scalar.indexCast arg0
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c1_i32_680 : BitVec 32 := 1#32
  let v1200 : BitVec 32 := Scalar.addi arg19 c1_i32_680
  let c8_i32_682 : BitVec 32 := 8#32
  let v1202 : BitVec 32 := Scalar.muli v1200 c8_i32_682
  let v1203 : BitVec 32 := Scalar.addi v1202 c0_i32_683
  let v1205 : Index := Scalar.indexCast v1203
  ![v1204.toNat, v1205.toNat]
def k0_cond3 (v1 : BitVec 32) (k0_t2 : Fin (k0_t2_loop v1).trips) : BitVec 1 :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c1_i32_390 : BitVec 32 := 1#32
  let v711 : BitVec 32 := Scalar.addi arg19 c1_i32_390
  let c1024_i32_4 : BitVec 32 := 1024#32
  let v19 : BitVec 32 := Scalar.muli v18 c1024_i32_4
  let v20 : BitVec 32 := Scalar.subi v1 v19
  let c0_i32_5 : BitVec 32 := 0#32
  let v21 : BitVec 1 := Scalar.cmpi .sgt v20 c0_i32_5
  let v22 : BitVec 32 := Scalar.extui v21
  let v23 : BitVec 32 := Scalar.addi v18 v22
  let v712 : BitVec 1 := Scalar.cmpi .slt v711 v23
  let v713 : BitVec 32 := Scalar.extui v712
  let c0_i32_391 : BitVec 32 := 0#32
  let v714 : BitVec 1 := Scalar.cmpi .ne v713 c0_i32_391
  v714

def k0_off102 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_698 : BitVec 32 := 0#32
  ![v1201.toNat, 0]
def k0_off103 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_699 : BitVec 32 := 0#32
  let c0_i32_700 : BitVec 32 := 0#32
  ![v1201.toNat, 0, 0]
def k0_off104 (v1206 : BitVec 32) : Fin 3 → Nat :=
  let c0_i32_701 : BitVec 32 := 0#32
  let c0_i32_702 : BitVec 32 := 0#32
  ![v1206.toNat, 0, 0]

def k0_chk26 (v1 : BitVec 32) (k0_t2 : Fin (k0_t2_loop v1).trips) (v1206 : BitVec 32) : Prop :=
  (∀ (k0_h3 : k0_cond3 v1 k0_t2 = 1#1), ∀ a, (k0_off104 v1206) a + S1x128x128.size a ≤ S8192x128x128.size a) ∧
  (∀ (k0_h3 : k0_cond3 v1 k0_t2 = 1#1), ∀ (hinb : ∀ a, (k0_off104 v1206) a + S1x128x128.size a ≤ S8192x128x128.size a), (Rect.unit (s := S8192x128x128) (k0_off104 v1206) S1x128x128.size hinb).WholeWords (EltTy.packing .fp8e4m3))
theorem k0_off104_inb : ∀ (v1 : BitVec 32) (k0_t2 : Fin (k0_t2_loop v1).trips) (v1206 : BitVec 32) (k0_hw26 : k0_chk26 v1 k0_t2 v1206), ∀ (k0_h3 : k0_cond3 v1 k0_t2 = 1#1), ∀ a, (k0_off104 v1206) a + S1x128x128.size a ≤ S8192x128x128.size a := fun v1 k0_t2 v1206 k0_hw26 k0_h3 => k0_hw26.1 k0_h3
theorem k0_off104_wordsfp8e4m3 : ∀ (v1 : BitVec 32) (k0_t2 : Fin (k0_t2_loop v1).trips) (v1206 : BitVec 32) (k0_hw26 : k0_chk26 v1 k0_t2 v1206), ∀ (k0_h3 : k0_cond3 v1 k0_t2 = 1#1), (Rect.unit (s := S8192x128x128) (k0_off104 v1206) S1x128x128.size (k0_off104_inb v1 k0_t2 v1206 k0_hw26 k0_h3)).WholeWords (EltTy.packing .fp8e4m3) := fun v1 k0_t2 v1206 k0_hw26 k0_h3 => k0_hw26.2 k0_h3 (k0_off104_inb v1 k0_t2 v1206 k0_hw26 k0_h3)

def k0_off105 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_703 : BitVec 32 := 1#32
  ![v1201.toNat, 1]
def k0_off106 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_704 : BitVec 32 := 0#32
  let c0_i32_705 : BitVec 32 := 0#32
  ![v1201.toNat, 0, 0]
def k0_off107 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_708 : BitVec 32 := 0#32
  ![v1201.toNat, 0]
def k0_off108 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c128_i32_709 : BitVec 32 := 128#32
  let c0_i32_710 : BitVec 32 := 0#32
  ![v1201.toNat, 128, 0]
def k0_off109 (v1211 : BitVec 32) : Fin 3 → Nat :=
  let c0_i32_711 : BitVec 32 := 0#32
  let c0_i32_712 : BitVec 32 := 0#32
  ![v1211.toNat, 0, 0]

def k0_chk27 (v1 : BitVec 32) (k0_t2 : Fin (k0_t2_loop v1).trips) (v1211 : BitVec 32) : Prop :=
  (∀ (k0_h3 : k0_cond3 v1 k0_t2 = 1#1), ∀ a, (k0_off109 v1211) a + S1x128x128.size a ≤ S8192x128x128.size a) ∧
  (∀ (k0_h3 : k0_cond3 v1 k0_t2 = 1#1), ∀ (hinb : ∀ a, (k0_off109 v1211) a + S1x128x128.size a ≤ S8192x128x128.size a), (Rect.unit (s := S8192x128x128) (k0_off109 v1211) S1x128x128.size hinb).WholeWords (EltTy.packing .fp8e4m3))
theorem k0_off109_inb : ∀ (v1 : BitVec 32) (k0_t2 : Fin (k0_t2_loop v1).trips) (v1211 : BitVec 32) (k0_hw27 : k0_chk27 v1 k0_t2 v1211), ∀ (k0_h3 : k0_cond3 v1 k0_t2 = 1#1), ∀ a, (k0_off109 v1211) a + S1x128x128.size a ≤ S8192x128x128.size a := fun v1 k0_t2 v1211 k0_hw27 k0_h3 => k0_hw27.1 k0_h3
theorem k0_off109_wordsfp8e4m3 : ∀ (v1 : BitVec 32) (k0_t2 : Fin (k0_t2_loop v1).trips) (v1211 : BitVec 32) (k0_hw27 : k0_chk27 v1 k0_t2 v1211), ∀ (k0_h3 : k0_cond3 v1 k0_t2 = 1#1), (Rect.unit (s := S8192x128x128) (k0_off109 v1211) S1x128x128.size (k0_off109_inb v1 k0_t2 v1211 k0_hw27 k0_h3)).WholeWords (EltTy.packing .fp8e4m3) := fun v1 k0_t2 v1211 k0_hw27 k0_h3 => k0_hw27.2 k0_h3 (k0_off109_inb v1 k0_t2 v1211 k0_hw27 k0_h3)

def k0_off110 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_713 : BitVec 32 := 1#32
  ![v1201.toNat, 1]
def k0_off111 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c128_i32_714 : BitVec 32 := 128#32
  let c0_i32_715 : BitVec 32 := 0#32
  ![v1201.toNat, 128, 0]
def k0_off112 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_718 : BitVec 32 := 0#32
  ![v1201.toNat, 0]
def k0_off113 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c256_i32_719 : BitVec 32 := 256#32
  let c0_i32_720 : BitVec 32 := 0#32
  ![v1201.toNat, 256, 0]
def k0_off114 (v1216 : BitVec 32) : Fin 3 → Nat :=
  let c0_i32_721 : BitVec 32 := 0#32
  let c0_i32_722 : BitVec 32 := 0#32
  ![v1216.toNat, 0, 0]

def k0_chk28 (v1 : BitVec 32) (k0_t2 : Fin (k0_t2_loop v1).trips) (v1216 : BitVec 32) : Prop :=
  (∀ (k0_h3 : k0_cond3 v1 k0_t2 = 1#1), ∀ a, (k0_off114 v1216) a + S1x128x128.size a ≤ S8192x128x128.size a) ∧
  (∀ (k0_h3 : k0_cond3 v1 k0_t2 = 1#1), ∀ (hinb : ∀ a, (k0_off114 v1216) a + S1x128x128.size a ≤ S8192x128x128.size a), (Rect.unit (s := S8192x128x128) (k0_off114 v1216) S1x128x128.size hinb).WholeWords (EltTy.packing .fp8e4m3))
theorem k0_off114_inb : ∀ (v1 : BitVec 32) (k0_t2 : Fin (k0_t2_loop v1).trips) (v1216 : BitVec 32) (k0_hw28 : k0_chk28 v1 k0_t2 v1216), ∀ (k0_h3 : k0_cond3 v1 k0_t2 = 1#1), ∀ a, (k0_off114 v1216) a + S1x128x128.size a ≤ S8192x128x128.size a := fun v1 k0_t2 v1216 k0_hw28 k0_h3 => k0_hw28.1 k0_h3
theorem k0_off114_wordsfp8e4m3 : ∀ (v1 : BitVec 32) (k0_t2 : Fin (k0_t2_loop v1).trips) (v1216 : BitVec 32) (k0_hw28 : k0_chk28 v1 k0_t2 v1216), ∀ (k0_h3 : k0_cond3 v1 k0_t2 = 1#1), (Rect.unit (s := S8192x128x128) (k0_off114 v1216) S1x128x128.size (k0_off114_inb v1 k0_t2 v1216 k0_hw28 k0_h3)).WholeWords (EltTy.packing .fp8e4m3) := fun v1 k0_t2 v1216 k0_hw28 k0_h3 => k0_hw28.2 k0_h3 (k0_off114_inb v1 k0_t2 v1216 k0_hw28 k0_h3)

def k0_off115 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_723 : BitVec 32 := 1#32
  ![v1201.toNat, 1]
def k0_off116 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c256_i32_724 : BitVec 32 := 256#32
  let c0_i32_725 : BitVec 32 := 0#32
  ![v1201.toNat, 256, 0]
def k0_off117 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_728 : BitVec 32 := 0#32
  ![v1201.toNat, 0]
def k0_off118 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c384_i32_729 : BitVec 32 := 384#32
  let c0_i32_730 : BitVec 32 := 0#32
  ![v1201.toNat, 384, 0]
def k0_off119 (v1221 : BitVec 32) : Fin 3 → Nat :=
  let c0_i32_731 : BitVec 32 := 0#32
  let c0_i32_732 : BitVec 32 := 0#32
  ![v1221.toNat, 0, 0]

def k0_chk29 (v1 : BitVec 32) (k0_t2 : Fin (k0_t2_loop v1).trips) (v1221 : BitVec 32) : Prop :=
  (∀ (k0_h3 : k0_cond3 v1 k0_t2 = 1#1), ∀ a, (k0_off119 v1221) a + S1x128x128.size a ≤ S8192x128x128.size a) ∧
  (∀ (k0_h3 : k0_cond3 v1 k0_t2 = 1#1), ∀ (hinb : ∀ a, (k0_off119 v1221) a + S1x128x128.size a ≤ S8192x128x128.size a), (Rect.unit (s := S8192x128x128) (k0_off119 v1221) S1x128x128.size hinb).WholeWords (EltTy.packing .fp8e4m3))
theorem k0_off119_inb : ∀ (v1 : BitVec 32) (k0_t2 : Fin (k0_t2_loop v1).trips) (v1221 : BitVec 32) (k0_hw29 : k0_chk29 v1 k0_t2 v1221), ∀ (k0_h3 : k0_cond3 v1 k0_t2 = 1#1), ∀ a, (k0_off119 v1221) a + S1x128x128.size a ≤ S8192x128x128.size a := fun v1 k0_t2 v1221 k0_hw29 k0_h3 => k0_hw29.1 k0_h3
theorem k0_off119_wordsfp8e4m3 : ∀ (v1 : BitVec 32) (k0_t2 : Fin (k0_t2_loop v1).trips) (v1221 : BitVec 32) (k0_hw29 : k0_chk29 v1 k0_t2 v1221), ∀ (k0_h3 : k0_cond3 v1 k0_t2 = 1#1), (Rect.unit (s := S8192x128x128) (k0_off119 v1221) S1x128x128.size (k0_off119_inb v1 k0_t2 v1221 k0_hw29 k0_h3)).WholeWords (EltTy.packing .fp8e4m3) := fun v1 k0_t2 v1221 k0_hw29 k0_h3 => k0_hw29.2 k0_h3 (k0_off119_inb v1 k0_t2 v1221 k0_hw29 k0_h3)

def k0_off120 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_733 : BitVec 32 := 1#32
  ![v1201.toNat, 1]
def k0_off121 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c384_i32_734 : BitVec 32 := 384#32
  let c0_i32_735 : BitVec 32 := 0#32
  ![v1201.toNat, 384, 0]
def k0_off122 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_738 : BitVec 32 := 0#32
  ![v1201.toNat, 0]
def k0_off123 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c512_i32_739 : BitVec 32 := 512#32
  let c0_i32_740 : BitVec 32 := 0#32
  ![v1201.toNat, 512, 0]
def k0_off124 (v1226 : BitVec 32) : Fin 3 → Nat :=
  let c0_i32_741 : BitVec 32 := 0#32
  let c0_i32_742 : BitVec 32 := 0#32
  ![v1226.toNat, 0, 0]

def k0_chk30 (v1 : BitVec 32) (k0_t2 : Fin (k0_t2_loop v1).trips) (v1226 : BitVec 32) : Prop :=
  (∀ (k0_h3 : k0_cond3 v1 k0_t2 = 1#1), ∀ a, (k0_off124 v1226) a + S1x128x128.size a ≤ S8192x128x128.size a) ∧
  (∀ (k0_h3 : k0_cond3 v1 k0_t2 = 1#1), ∀ (hinb : ∀ a, (k0_off124 v1226) a + S1x128x128.size a ≤ S8192x128x128.size a), (Rect.unit (s := S8192x128x128) (k0_off124 v1226) S1x128x128.size hinb).WholeWords (EltTy.packing .fp8e4m3))
theorem k0_off124_inb : ∀ (v1 : BitVec 32) (k0_t2 : Fin (k0_t2_loop v1).trips) (v1226 : BitVec 32) (k0_hw30 : k0_chk30 v1 k0_t2 v1226), ∀ (k0_h3 : k0_cond3 v1 k0_t2 = 1#1), ∀ a, (k0_off124 v1226) a + S1x128x128.size a ≤ S8192x128x128.size a := fun v1 k0_t2 v1226 k0_hw30 k0_h3 => k0_hw30.1 k0_h3
theorem k0_off124_wordsfp8e4m3 : ∀ (v1 : BitVec 32) (k0_t2 : Fin (k0_t2_loop v1).trips) (v1226 : BitVec 32) (k0_hw30 : k0_chk30 v1 k0_t2 v1226), ∀ (k0_h3 : k0_cond3 v1 k0_t2 = 1#1), (Rect.unit (s := S8192x128x128) (k0_off124 v1226) S1x128x128.size (k0_off124_inb v1 k0_t2 v1226 k0_hw30 k0_h3)).WholeWords (EltTy.packing .fp8e4m3) := fun v1 k0_t2 v1226 k0_hw30 k0_h3 => k0_hw30.2 k0_h3 (k0_off124_inb v1 k0_t2 v1226 k0_hw30 k0_h3)

def k0_off125 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_743 : BitVec 32 := 1#32
  ![v1201.toNat, 1]
def k0_off126 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c512_i32_744 : BitVec 32 := 512#32
  let c0_i32_745 : BitVec 32 := 0#32
  ![v1201.toNat, 512, 0]
def k0_off127 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_748 : BitVec 32 := 0#32
  ![v1201.toNat, 0]
def k0_off128 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c640_i32_749 : BitVec 32 := 640#32
  let c0_i32_750 : BitVec 32 := 0#32
  ![v1201.toNat, 640, 0]
def k0_off129 (v1231 : BitVec 32) : Fin 3 → Nat :=
  let c0_i32_751 : BitVec 32 := 0#32
  let c0_i32_752 : BitVec 32 := 0#32
  ![v1231.toNat, 0, 0]

def k0_chk31 (v1 : BitVec 32) (k0_t2 : Fin (k0_t2_loop v1).trips) (v1231 : BitVec 32) : Prop :=
  (∀ (k0_h3 : k0_cond3 v1 k0_t2 = 1#1), ∀ a, (k0_off129 v1231) a + S1x128x128.size a ≤ S8192x128x128.size a) ∧
  (∀ (k0_h3 : k0_cond3 v1 k0_t2 = 1#1), ∀ (hinb : ∀ a, (k0_off129 v1231) a + S1x128x128.size a ≤ S8192x128x128.size a), (Rect.unit (s := S8192x128x128) (k0_off129 v1231) S1x128x128.size hinb).WholeWords (EltTy.packing .fp8e4m3))
theorem k0_off129_inb : ∀ (v1 : BitVec 32) (k0_t2 : Fin (k0_t2_loop v1).trips) (v1231 : BitVec 32) (k0_hw31 : k0_chk31 v1 k0_t2 v1231), ∀ (k0_h3 : k0_cond3 v1 k0_t2 = 1#1), ∀ a, (k0_off129 v1231) a + S1x128x128.size a ≤ S8192x128x128.size a := fun v1 k0_t2 v1231 k0_hw31 k0_h3 => k0_hw31.1 k0_h3
theorem k0_off129_wordsfp8e4m3 : ∀ (v1 : BitVec 32) (k0_t2 : Fin (k0_t2_loop v1).trips) (v1231 : BitVec 32) (k0_hw31 : k0_chk31 v1 k0_t2 v1231), ∀ (k0_h3 : k0_cond3 v1 k0_t2 = 1#1), (Rect.unit (s := S8192x128x128) (k0_off129 v1231) S1x128x128.size (k0_off129_inb v1 k0_t2 v1231 k0_hw31 k0_h3)).WholeWords (EltTy.packing .fp8e4m3) := fun v1 k0_t2 v1231 k0_hw31 k0_h3 => k0_hw31.2 k0_h3 (k0_off129_inb v1 k0_t2 v1231 k0_hw31 k0_h3)

def k0_off130 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_753 : BitVec 32 := 1#32
  ![v1201.toNat, 1]
def k0_off131 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c640_i32_754 : BitVec 32 := 640#32
  let c0_i32_755 : BitVec 32 := 0#32
  ![v1201.toNat, 640, 0]
def k0_off132 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_758 : BitVec 32 := 0#32
  ![v1201.toNat, 0]
def k0_off133 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c768_i32_759 : BitVec 32 := 768#32
  let c0_i32_760 : BitVec 32 := 0#32
  ![v1201.toNat, 768, 0]
def k0_off134 (v1236 : BitVec 32) : Fin 3 → Nat :=
  let c0_i32_761 : BitVec 32 := 0#32
  let c0_i32_762 : BitVec 32 := 0#32
  ![v1236.toNat, 0, 0]

def k0_chk32 (v1 : BitVec 32) (k0_t2 : Fin (k0_t2_loop v1).trips) (v1236 : BitVec 32) : Prop :=
  (∀ (k0_h3 : k0_cond3 v1 k0_t2 = 1#1), ∀ a, (k0_off134 v1236) a + S1x128x128.size a ≤ S8192x128x128.size a) ∧
  (∀ (k0_h3 : k0_cond3 v1 k0_t2 = 1#1), ∀ (hinb : ∀ a, (k0_off134 v1236) a + S1x128x128.size a ≤ S8192x128x128.size a), (Rect.unit (s := S8192x128x128) (k0_off134 v1236) S1x128x128.size hinb).WholeWords (EltTy.packing .fp8e4m3))
theorem k0_off134_inb : ∀ (v1 : BitVec 32) (k0_t2 : Fin (k0_t2_loop v1).trips) (v1236 : BitVec 32) (k0_hw32 : k0_chk32 v1 k0_t2 v1236), ∀ (k0_h3 : k0_cond3 v1 k0_t2 = 1#1), ∀ a, (k0_off134 v1236) a + S1x128x128.size a ≤ S8192x128x128.size a := fun v1 k0_t2 v1236 k0_hw32 k0_h3 => k0_hw32.1 k0_h3
theorem k0_off134_wordsfp8e4m3 : ∀ (v1 : BitVec 32) (k0_t2 : Fin (k0_t2_loop v1).trips) (v1236 : BitVec 32) (k0_hw32 : k0_chk32 v1 k0_t2 v1236), ∀ (k0_h3 : k0_cond3 v1 k0_t2 = 1#1), (Rect.unit (s := S8192x128x128) (k0_off134 v1236) S1x128x128.size (k0_off134_inb v1 k0_t2 v1236 k0_hw32 k0_h3)).WholeWords (EltTy.packing .fp8e4m3) := fun v1 k0_t2 v1236 k0_hw32 k0_h3 => k0_hw32.2 k0_h3 (k0_off134_inb v1 k0_t2 v1236 k0_hw32 k0_h3)

def k0_off135 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_763 : BitVec 32 := 1#32
  ![v1201.toNat, 1]
def k0_off136 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c768_i32_764 : BitVec 32 := 768#32
  let c0_i32_765 : BitVec 32 := 0#32
  ![v1201.toNat, 768, 0]
def k0_off137 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c0_i32_768 : BitVec 32 := 0#32
  ![v1201.toNat, 0]
def k0_off138 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c896_i32_769 : BitVec 32 := 896#32
  let c0_i32_770 : BitVec 32 := 0#32
  ![v1201.toNat, 896, 0]
def k0_off139 (v1241 : BitVec 32) : Fin 3 → Nat :=
  let c0_i32_771 : BitVec 32 := 0#32
  let c0_i32_772 : BitVec 32 := 0#32
  ![v1241.toNat, 0, 0]

def k0_chk33 (v1 : BitVec 32) (k0_t2 : Fin (k0_t2_loop v1).trips) (v1241 : BitVec 32) : Prop :=
  (∀ (k0_h3 : k0_cond3 v1 k0_t2 = 1#1), ∀ a, (k0_off139 v1241) a + S1x128x128.size a ≤ S8192x128x128.size a) ∧
  (∀ (k0_h3 : k0_cond3 v1 k0_t2 = 1#1), ∀ (hinb : ∀ a, (k0_off139 v1241) a + S1x128x128.size a ≤ S8192x128x128.size a), (Rect.unit (s := S8192x128x128) (k0_off139 v1241) S1x128x128.size hinb).WholeWords (EltTy.packing .fp8e4m3))
theorem k0_off139_inb : ∀ (v1 : BitVec 32) (k0_t2 : Fin (k0_t2_loop v1).trips) (v1241 : BitVec 32) (k0_hw33 : k0_chk33 v1 k0_t2 v1241), ∀ (k0_h3 : k0_cond3 v1 k0_t2 = 1#1), ∀ a, (k0_off139 v1241) a + S1x128x128.size a ≤ S8192x128x128.size a := fun v1 k0_t2 v1241 k0_hw33 k0_h3 => k0_hw33.1 k0_h3
theorem k0_off139_wordsfp8e4m3 : ∀ (v1 : BitVec 32) (k0_t2 : Fin (k0_t2_loop v1).trips) (v1241 : BitVec 32) (k0_hw33 : k0_chk33 v1 k0_t2 v1241), ∀ (k0_h3 : k0_cond3 v1 k0_t2 = 1#1), (Rect.unit (s := S8192x128x128) (k0_off139 v1241) S1x128x128.size (k0_off139_inb v1 k0_t2 v1241 k0_hw33 k0_h3)).WholeWords (EltTy.packing .fp8e4m3) := fun v1 k0_t2 v1241 k0_hw33 k0_h3 => k0_hw33.2 k0_h3 (k0_off139_inb v1 k0_t2 v1241 k0_hw33 k0_h3)

def k0_off140 (v1 : BitVec 32) (k0_t2 : Fin (k0_t2_loop v1).trips) : Fin 2 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c1_i32_773 : BitVec 32 := 1#32
  ![v1201.toNat, 1]
def k0_off141 (v1 : BitVec 32) (k0_t2 : Fin (k0_t2_loop v1).trips) : Fin 3 → Nat :=
  let c1_i32_681 : BitVec 32 := 1#32
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v1201 : BitVec 32 := Scalar.subi c1_i32_681 v710
  let c896_i32_774 : BitVec 32 := 896#32
  let c0_i32_775 : BitVec 32 := 0#32
  ![v1201.toNat, 896, 0]
def k0_off142 (i : grid0.Coords) (v1 : BitVec 32) (k0_t2 : Fin (k0_t2_loop v1).trips) (c0_i32_392 : BitVec 32) : Fin 2 → Nat :=
  let arg0 : BitVec 32 := BitVec.ofNat 32 (i 0).val
  let v717 : Index := Scalar.indexCast arg0
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c8_i32 : BitVec 32 := 8#32
  let v715 : BitVec 32 := Scalar.muli arg19 c8_i32
  let v716 : BitVec 32 := Scalar.addi v715 c0_i32_392
  let v718 : Index := Scalar.indexCast v716
  ![v717.toNat, v718.toNat]
def k0_off143 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_402 : BitVec 32 := 0#32
  ![v710.toNat, 0]
def k0_off144 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_403 : BitVec 32 := 0#32
  let c0_i32_404 : BitVec 32 := 0#32
  ![v710.toNat, 0, 0]
def k0_off145 (v719 : BitVec 32) : Fin 3 → Nat :=
  let c0_i32_405 : BitVec 32 := 0#32
  let c0_i32_406 : BitVec 32 := 0#32
  ![v719.toNat, 0, 0]

def k0_chk34 (v719 : BitVec 32) : Prop :=
  (∀ a, (k0_off145 v719) a + S1x128x128.size a ≤ S8192x128x128.size a) ∧
  (∀ (hinb : ∀ a, (k0_off145 v719) a + S1x128x128.size a ≤ S8192x128x128.size a), (Rect.unit (s := S8192x128x128) (k0_off145 v719) S1x128x128.size hinb).WholeWords (EltTy.packing .fp8e4m3))
theorem k0_off145_inb : ∀ (v719 : BitVec 32) (k0_hw34 : k0_chk34 v719), ∀ a, (k0_off145 v719) a + S1x128x128.size a ≤ S8192x128x128.size a := fun v719 k0_hw34 => k0_hw34.1
theorem k0_off145_wordsfp8e4m3 : ∀ (v719 : BitVec 32) (k0_hw34 : k0_chk34 v719), (Rect.unit (s := S8192x128x128) (k0_off145 v719) S1x128x128.size (k0_off145_inb v719 k0_hw34)).WholeWords (EltTy.packing .fp8e4m3) := fun v719 k0_hw34 => k0_hw34.2 (k0_off145_inb v719 k0_hw34)

def k0_off146 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_407 : BitVec 32 := 1#32
  ![v710.toNat, 1]
def k0_off147 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_408 : BitVec 32 := 0#32
  let c0_i32_409 : BitVec 32 := 0#32
  ![v710.toNat, 0, 0]
def k0_off148 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_412 : BitVec 32 := 0#32
  ![v710.toNat, 0]
def k0_off149 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c128_i32_413 : BitVec 32 := 128#32
  let c0_i32_414 : BitVec 32 := 0#32
  ![v710.toNat, 128, 0]
def k0_off150 (v724 : BitVec 32) : Fin 3 → Nat :=
  let c0_i32_415 : BitVec 32 := 0#32
  let c0_i32_416 : BitVec 32 := 0#32
  ![v724.toNat, 0, 0]

def k0_chk35 (v724 : BitVec 32) : Prop :=
  (∀ a, (k0_off150 v724) a + S1x128x128.size a ≤ S8192x128x128.size a) ∧
  (∀ (hinb : ∀ a, (k0_off150 v724) a + S1x128x128.size a ≤ S8192x128x128.size a), (Rect.unit (s := S8192x128x128) (k0_off150 v724) S1x128x128.size hinb).WholeWords (EltTy.packing .fp8e4m3))
theorem k0_off150_inb : ∀ (v724 : BitVec 32) (k0_hw35 : k0_chk35 v724), ∀ a, (k0_off150 v724) a + S1x128x128.size a ≤ S8192x128x128.size a := fun v724 k0_hw35 => k0_hw35.1
theorem k0_off150_wordsfp8e4m3 : ∀ (v724 : BitVec 32) (k0_hw35 : k0_chk35 v724), (Rect.unit (s := S8192x128x128) (k0_off150 v724) S1x128x128.size (k0_off150_inb v724 k0_hw35)).WholeWords (EltTy.packing .fp8e4m3) := fun v724 k0_hw35 => k0_hw35.2 (k0_off150_inb v724 k0_hw35)

def k0_off151 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_417 : BitVec 32 := 1#32
  ![v710.toNat, 1]
def k0_off152 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c128_i32_418 : BitVec 32 := 128#32
  let c0_i32_419 : BitVec 32 := 0#32
  ![v710.toNat, 128, 0]
def k0_off153 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_422 : BitVec 32 := 0#32
  ![v710.toNat, 0]
def k0_off154 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c256_i32 : BitVec 32 := 256#32
  let c0_i32_423 : BitVec 32 := 0#32
  ![v710.toNat, 256, 0]
def k0_off155 (v729 : BitVec 32) : Fin 3 → Nat :=
  let c0_i32_424 : BitVec 32 := 0#32
  let c0_i32_425 : BitVec 32 := 0#32
  ![v729.toNat, 0, 0]

def k0_chk36 (v729 : BitVec 32) : Prop :=
  (∀ a, (k0_off155 v729) a + S1x128x128.size a ≤ S8192x128x128.size a) ∧
  (∀ (hinb : ∀ a, (k0_off155 v729) a + S1x128x128.size a ≤ S8192x128x128.size a), (Rect.unit (s := S8192x128x128) (k0_off155 v729) S1x128x128.size hinb).WholeWords (EltTy.packing .fp8e4m3))
theorem k0_off155_inb : ∀ (v729 : BitVec 32) (k0_hw36 : k0_chk36 v729), ∀ a, (k0_off155 v729) a + S1x128x128.size a ≤ S8192x128x128.size a := fun v729 k0_hw36 => k0_hw36.1
theorem k0_off155_wordsfp8e4m3 : ∀ (v729 : BitVec 32) (k0_hw36 : k0_chk36 v729), (Rect.unit (s := S8192x128x128) (k0_off155 v729) S1x128x128.size (k0_off155_inb v729 k0_hw36)).WholeWords (EltTy.packing .fp8e4m3) := fun v729 k0_hw36 => k0_hw36.2 (k0_off155_inb v729 k0_hw36)

def k0_off156 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_426 : BitVec 32 := 1#32
  ![v710.toNat, 1]
def k0_off157 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c256_i32_427 : BitVec 32 := 256#32
  let c0_i32_428 : BitVec 32 := 0#32
  ![v710.toNat, 256, 0]
def k0_off158 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_431 : BitVec 32 := 0#32
  ![v710.toNat, 0]
def k0_off159 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c384_i32 : BitVec 32 := 384#32
  let c0_i32_432 : BitVec 32 := 0#32
  ![v710.toNat, 384, 0]
def k0_off160 (v734 : BitVec 32) : Fin 3 → Nat :=
  let c0_i32_433 : BitVec 32 := 0#32
  let c0_i32_434 : BitVec 32 := 0#32
  ![v734.toNat, 0, 0]

def k0_chk37 (v734 : BitVec 32) : Prop :=
  (∀ a, (k0_off160 v734) a + S1x128x128.size a ≤ S8192x128x128.size a) ∧
  (∀ (hinb : ∀ a, (k0_off160 v734) a + S1x128x128.size a ≤ S8192x128x128.size a), (Rect.unit (s := S8192x128x128) (k0_off160 v734) S1x128x128.size hinb).WholeWords (EltTy.packing .fp8e4m3))
theorem k0_off160_inb : ∀ (v734 : BitVec 32) (k0_hw37 : k0_chk37 v734), ∀ a, (k0_off160 v734) a + S1x128x128.size a ≤ S8192x128x128.size a := fun v734 k0_hw37 => k0_hw37.1
theorem k0_off160_wordsfp8e4m3 : ∀ (v734 : BitVec 32) (k0_hw37 : k0_chk37 v734), (Rect.unit (s := S8192x128x128) (k0_off160 v734) S1x128x128.size (k0_off160_inb v734 k0_hw37)).WholeWords (EltTy.packing .fp8e4m3) := fun v734 k0_hw37 => k0_hw37.2 (k0_off160_inb v734 k0_hw37)

def k0_off161 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_435 : BitVec 32 := 1#32
  ![v710.toNat, 1]
def k0_off162 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c384_i32_436 : BitVec 32 := 384#32
  let c0_i32_437 : BitVec 32 := 0#32
  ![v710.toNat, 384, 0]
def k0_off163 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_440 : BitVec 32 := 0#32
  ![v710.toNat, 0]
def k0_off164 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c512_i32 : BitVec 32 := 512#32
  let c0_i32_441 : BitVec 32 := 0#32
  ![v710.toNat, 512, 0]
def k0_off165 (v739 : BitVec 32) : Fin 3 → Nat :=
  let c0_i32_442 : BitVec 32 := 0#32
  let c0_i32_443 : BitVec 32 := 0#32
  ![v739.toNat, 0, 0]

def k0_chk38 (v739 : BitVec 32) : Prop :=
  (∀ a, (k0_off165 v739) a + S1x128x128.size a ≤ S8192x128x128.size a) ∧
  (∀ (hinb : ∀ a, (k0_off165 v739) a + S1x128x128.size a ≤ S8192x128x128.size a), (Rect.unit (s := S8192x128x128) (k0_off165 v739) S1x128x128.size hinb).WholeWords (EltTy.packing .fp8e4m3))
theorem k0_off165_inb : ∀ (v739 : BitVec 32) (k0_hw38 : k0_chk38 v739), ∀ a, (k0_off165 v739) a + S1x128x128.size a ≤ S8192x128x128.size a := fun v739 k0_hw38 => k0_hw38.1
theorem k0_off165_wordsfp8e4m3 : ∀ (v739 : BitVec 32) (k0_hw38 : k0_chk38 v739), (Rect.unit (s := S8192x128x128) (k0_off165 v739) S1x128x128.size (k0_off165_inb v739 k0_hw38)).WholeWords (EltTy.packing .fp8e4m3) := fun v739 k0_hw38 => k0_hw38.2 (k0_off165_inb v739 k0_hw38)

def k0_off166 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_444 : BitVec 32 := 1#32
  ![v710.toNat, 1]
def k0_off167 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c512_i32_445 : BitVec 32 := 512#32
  let c0_i32_446 : BitVec 32 := 0#32
  ![v710.toNat, 512, 0]
def k0_off168 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_449 : BitVec 32 := 0#32
  ![v710.toNat, 0]
def k0_off169 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c640_i32 : BitVec 32 := 640#32
  let c0_i32_450 : BitVec 32 := 0#32
  ![v710.toNat, 640, 0]
def k0_off170 (v744 : BitVec 32) : Fin 3 → Nat :=
  let c0_i32_451 : BitVec 32 := 0#32
  let c0_i32_452 : BitVec 32 := 0#32
  ![v744.toNat, 0, 0]

def k0_chk39 (v744 : BitVec 32) : Prop :=
  (∀ a, (k0_off170 v744) a + S1x128x128.size a ≤ S8192x128x128.size a) ∧
  (∀ (hinb : ∀ a, (k0_off170 v744) a + S1x128x128.size a ≤ S8192x128x128.size a), (Rect.unit (s := S8192x128x128) (k0_off170 v744) S1x128x128.size hinb).WholeWords (EltTy.packing .fp8e4m3))
theorem k0_off170_inb : ∀ (v744 : BitVec 32) (k0_hw39 : k0_chk39 v744), ∀ a, (k0_off170 v744) a + S1x128x128.size a ≤ S8192x128x128.size a := fun v744 k0_hw39 => k0_hw39.1
theorem k0_off170_wordsfp8e4m3 : ∀ (v744 : BitVec 32) (k0_hw39 : k0_chk39 v744), (Rect.unit (s := S8192x128x128) (k0_off170 v744) S1x128x128.size (k0_off170_inb v744 k0_hw39)).WholeWords (EltTy.packing .fp8e4m3) := fun v744 k0_hw39 => k0_hw39.2 (k0_off170_inb v744 k0_hw39)

def k0_off171 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_453 : BitVec 32 := 1#32
  ![v710.toNat, 1]
def k0_off172 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c640_i32_454 : BitVec 32 := 640#32
  let c0_i32_455 : BitVec 32 := 0#32
  ![v710.toNat, 640, 0]
def k0_off173 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_458 : BitVec 32 := 0#32
  ![v710.toNat, 0]
def k0_off174 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c768_i32 : BitVec 32 := 768#32
  let c0_i32_459 : BitVec 32 := 0#32
  ![v710.toNat, 768, 0]
def k0_off175 (v749 : BitVec 32) : Fin 3 → Nat :=
  let c0_i32_460 : BitVec 32 := 0#32
  let c0_i32_461 : BitVec 32 := 0#32
  ![v749.toNat, 0, 0]

def k0_chk40 (v749 : BitVec 32) : Prop :=
  (∀ a, (k0_off175 v749) a + S1x128x128.size a ≤ S8192x128x128.size a) ∧
  (∀ (hinb : ∀ a, (k0_off175 v749) a + S1x128x128.size a ≤ S8192x128x128.size a), (Rect.unit (s := S8192x128x128) (k0_off175 v749) S1x128x128.size hinb).WholeWords (EltTy.packing .fp8e4m3))
theorem k0_off175_inb : ∀ (v749 : BitVec 32) (k0_hw40 : k0_chk40 v749), ∀ a, (k0_off175 v749) a + S1x128x128.size a ≤ S8192x128x128.size a := fun v749 k0_hw40 => k0_hw40.1
theorem k0_off175_wordsfp8e4m3 : ∀ (v749 : BitVec 32) (k0_hw40 : k0_chk40 v749), (Rect.unit (s := S8192x128x128) (k0_off175 v749) S1x128x128.size (k0_off175_inb v749 k0_hw40)).WholeWords (EltTy.packing .fp8e4m3) := fun v749 k0_hw40 => k0_hw40.2 (k0_off175_inb v749 k0_hw40)

def k0_off176 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_462 : BitVec 32 := 1#32
  ![v710.toNat, 1]
def k0_off177 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c768_i32_463 : BitVec 32 := 768#32
  let c0_i32_464 : BitVec 32 := 0#32
  ![v710.toNat, 768, 0]
def k0_off178 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c0_i32_467 : BitVec 32 := 0#32
  ![v710.toNat, 0]
def k0_off179 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c896_i32 : BitVec 32 := 896#32
  let c0_i32_468 : BitVec 32 := 0#32
  ![v710.toNat, 896, 0]
def k0_off180 (v754 : BitVec 32) : Fin 3 → Nat :=
  let c0_i32_469 : BitVec 32 := 0#32
  let c0_i32_470 : BitVec 32 := 0#32
  ![v754.toNat, 0, 0]

def k0_chk41 (v754 : BitVec 32) : Prop :=
  (∀ a, (k0_off180 v754) a + S1x128x128.size a ≤ S8192x128x128.size a) ∧
  (∀ (hinb : ∀ a, (k0_off180 v754) a + S1x128x128.size a ≤ S8192x128x128.size a), (Rect.unit (s := S8192x128x128) (k0_off180 v754) S1x128x128.size hinb).WholeWords (EltTy.packing .fp8e4m3))
theorem k0_off180_inb : ∀ (v754 : BitVec 32) (k0_hw41 : k0_chk41 v754), ∀ a, (k0_off180 v754) a + S1x128x128.size a ≤ S8192x128x128.size a := fun v754 k0_hw41 => k0_hw41.1
theorem k0_off180_wordsfp8e4m3 : ∀ (v754 : BitVec 32) (k0_hw41 : k0_chk41 v754), (Rect.unit (s := S8192x128x128) (k0_off180 v754) S1x128x128.size (k0_off180_inb v754 k0_hw41)).WholeWords (EltTy.packing .fp8e4m3) := fun v754 k0_hw41 => k0_hw41.2 (k0_off180_inb v754 k0_hw41)

def k0_off181 (v1 : BitVec 32) (k0_t2 : Fin (k0_t2_loop v1).trips) : Fin 2 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c1_i32_471 : BitVec 32 := 1#32
  ![v710.toNat, 1]
def k0_off182 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let c896_i32_472 : BitVec 32 := 896#32
  let c0_i32_473 : BitVec 32 := 0#32
  ![v710.toNat, 896, 0]
def k0_off183 (v1 : BitVec 32) (k0_t2 : Fin (k0_t2_loop v1).trips) : Fin 3 → Nat :=
  let c0_i32_272 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v558 : BitVec 32 := Scalar.subi v18 c0_i32_272
  let c1_i32_273 : BitVec 32 := 1#32
  let v560 : BitVec 32 := Scalar.divsi v558 c1_i32_273
  let v561 : BitVec 32 := Scalar.muli v560 c1_i32_273
  let v562 : BitVec 32 := Scalar.addi c0_i32_272 v561
  let c1_i32_275 : BitVec 32 := 1#32
  let arg19 : BitVec 32 := Scf.iv v562 c1_i32_275 k0_t2
  let c2_i32 : BitVec 32 := 2#32
  let v710 : BitVec 32 := Scalar.remsi arg19 c2_i32
  let v851 : Index := Scalar.indexCast v710
  let c0_476 : Index := 0#32
  let c0_477 : Index := 0#32
  ![v851.toNat, 0, 0]
def k0_off184 (i : grid0.Coords) (v1 : BitVec 32) (c0_i32_390 : BitVec 32) : Fin 2 → Nat :=
  let arg0 : BitVec 32 := BitVec.ofNat 32 (i 0).val
  let v713 : Index := Scalar.indexCast arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c8_i32 : BitVec 32 := 8#32
  let v711 : BitVec 32 := Scalar.muli v18 c8_i32
  let v712 : BitVec 32 := Scalar.addi v711 c0_i32_390
  let v714 : Index := Scalar.indexCast v712
  ![v713.toNat, v714.toNat]
def k0_cond4 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c1024_i32_4 : BitVec 32 := 1024#32
  let v19 : BitVec 32 := Scalar.muli v18 c1024_i32_4
  let v20 : BitVec 32 := Scalar.subi v1 v19
  let c0_i32_276 : BitVec 32 := 0#32
  let v563 : BitVec 1 := Scalar.cmpi .sgt v20 c0_i32_276
  let v564 : BitVec 32 := Scalar.extui v563
  let c0_i32_277 : BitVec 32 := 0#32
  let v565 : BitVec 1 := Scalar.cmpi .ne v564 c0_i32_277
  v565

def k0_off185 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_400 : BitVec 32 := 0#32
  ![v710.toNat, 0]
def k0_off186 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_401 : BitVec 32 := 0#32
  let c0_i32_402 : BitVec 32 := 0#32
  ![v710.toNat, 0, 0]
def k0_off187 (v715 : BitVec 32) : Fin 3 → Nat :=
  let c0_i32_403 : BitVec 32 := 0#32
  let c0_i32_404 : BitVec 32 := 0#32
  ![v715.toNat, 0, 0]

def k0_chk42 (v1 : BitVec 32) (v715 : BitVec 32) : Prop :=
  (∀ (k0_h4 : k0_cond4 v1 = 1#1), ∀ a, (k0_off187 v715) a + S1x128x128.size a ≤ S8192x128x128.size a) ∧
  (∀ (k0_h4 : k0_cond4 v1 = 1#1), ∀ (hinb : ∀ a, (k0_off187 v715) a + S1x128x128.size a ≤ S8192x128x128.size a), (Rect.unit (s := S8192x128x128) (k0_off187 v715) S1x128x128.size hinb).WholeWords (EltTy.packing .fp8e4m3))
theorem k0_off187_inb : ∀ (v1 : BitVec 32) (v715 : BitVec 32) (k0_hw42 : k0_chk42 v1 v715), ∀ (k0_h4 : k0_cond4 v1 = 1#1), ∀ a, (k0_off187 v715) a + S1x128x128.size a ≤ S8192x128x128.size a := fun v1 v715 k0_hw42 k0_h4 => k0_hw42.1 k0_h4
theorem k0_off187_wordsfp8e4m3 : ∀ (v1 : BitVec 32) (v715 : BitVec 32) (k0_hw42 : k0_chk42 v1 v715), ∀ (k0_h4 : k0_cond4 v1 = 1#1), (Rect.unit (s := S8192x128x128) (k0_off187 v715) S1x128x128.size (k0_off187_inb v1 v715 k0_hw42 k0_h4)).WholeWords (EltTy.packing .fp8e4m3) := fun v1 v715 k0_hw42 k0_h4 => k0_hw42.2 k0_h4 (k0_off187_inb v1 v715 k0_hw42 k0_h4)

def k0_off188 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_405 : BitVec 32 := 1#32
  ![v710.toNat, 1]
def k0_off189 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_406 : BitVec 32 := 0#32
  let c0_i32_407 : BitVec 32 := 0#32
  ![v710.toNat, 0, 0]
def k0_off190 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_410 : BitVec 32 := 0#32
  ![v710.toNat, 0]
def k0_off191 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c128_i32_411 : BitVec 32 := 128#32
  let c0_i32_412 : BitVec 32 := 0#32
  ![v710.toNat, 128, 0]
def k0_off192 (v720 : BitVec 32) : Fin 3 → Nat :=
  let c0_i32_413 : BitVec 32 := 0#32
  let c0_i32_414 : BitVec 32 := 0#32
  ![v720.toNat, 0, 0]

def k0_chk43 (v1 : BitVec 32) (v720 : BitVec 32) : Prop :=
  (∀ (k0_h4 : k0_cond4 v1 = 1#1), ∀ a, (k0_off192 v720) a + S1x128x128.size a ≤ S8192x128x128.size a) ∧
  (∀ (k0_h4 : k0_cond4 v1 = 1#1), ∀ (hinb : ∀ a, (k0_off192 v720) a + S1x128x128.size a ≤ S8192x128x128.size a), (Rect.unit (s := S8192x128x128) (k0_off192 v720) S1x128x128.size hinb).WholeWords (EltTy.packing .fp8e4m3))
theorem k0_off192_inb : ∀ (v1 : BitVec 32) (v720 : BitVec 32) (k0_hw43 : k0_chk43 v1 v720), ∀ (k0_h4 : k0_cond4 v1 = 1#1), ∀ a, (k0_off192 v720) a + S1x128x128.size a ≤ S8192x128x128.size a := fun v1 v720 k0_hw43 k0_h4 => k0_hw43.1 k0_h4
theorem k0_off192_wordsfp8e4m3 : ∀ (v1 : BitVec 32) (v720 : BitVec 32) (k0_hw43 : k0_chk43 v1 v720), ∀ (k0_h4 : k0_cond4 v1 = 1#1), (Rect.unit (s := S8192x128x128) (k0_off192 v720) S1x128x128.size (k0_off192_inb v1 v720 k0_hw43 k0_h4)).WholeWords (EltTy.packing .fp8e4m3) := fun v1 v720 k0_hw43 k0_h4 => k0_hw43.2 k0_h4 (k0_off192_inb v1 v720 k0_hw43 k0_h4)

def k0_off193 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_415 : BitVec 32 := 1#32
  ![v710.toNat, 1]
def k0_off194 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c128_i32_416 : BitVec 32 := 128#32
  let c0_i32_417 : BitVec 32 := 0#32
  ![v710.toNat, 128, 0]
def k0_off195 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_420 : BitVec 32 := 0#32
  ![v710.toNat, 0]
def k0_off196 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c256_i32 : BitVec 32 := 256#32
  let c0_i32_421 : BitVec 32 := 0#32
  ![v710.toNat, 256, 0]
def k0_off197 (v725 : BitVec 32) : Fin 3 → Nat :=
  let c0_i32_422 : BitVec 32 := 0#32
  let c0_i32_423 : BitVec 32 := 0#32
  ![v725.toNat, 0, 0]

def k0_chk44 (v1 : BitVec 32) (v725 : BitVec 32) : Prop :=
  (∀ (k0_h4 : k0_cond4 v1 = 1#1), ∀ a, (k0_off197 v725) a + S1x128x128.size a ≤ S8192x128x128.size a) ∧
  (∀ (k0_h4 : k0_cond4 v1 = 1#1), ∀ (hinb : ∀ a, (k0_off197 v725) a + S1x128x128.size a ≤ S8192x128x128.size a), (Rect.unit (s := S8192x128x128) (k0_off197 v725) S1x128x128.size hinb).WholeWords (EltTy.packing .fp8e4m3))
theorem k0_off197_inb : ∀ (v1 : BitVec 32) (v725 : BitVec 32) (k0_hw44 : k0_chk44 v1 v725), ∀ (k0_h4 : k0_cond4 v1 = 1#1), ∀ a, (k0_off197 v725) a + S1x128x128.size a ≤ S8192x128x128.size a := fun v1 v725 k0_hw44 k0_h4 => k0_hw44.1 k0_h4
theorem k0_off197_wordsfp8e4m3 : ∀ (v1 : BitVec 32) (v725 : BitVec 32) (k0_hw44 : k0_chk44 v1 v725), ∀ (k0_h4 : k0_cond4 v1 = 1#1), (Rect.unit (s := S8192x128x128) (k0_off197 v725) S1x128x128.size (k0_off197_inb v1 v725 k0_hw44 k0_h4)).WholeWords (EltTy.packing .fp8e4m3) := fun v1 v725 k0_hw44 k0_h4 => k0_hw44.2 k0_h4 (k0_off197_inb v1 v725 k0_hw44 k0_h4)

def k0_off198 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_424 : BitVec 32 := 1#32
  ![v710.toNat, 1]
def k0_off199 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c256_i32_425 : BitVec 32 := 256#32
  let c0_i32_426 : BitVec 32 := 0#32
  ![v710.toNat, 256, 0]
def k0_off200 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_429 : BitVec 32 := 0#32
  ![v710.toNat, 0]
def k0_off201 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c384_i32 : BitVec 32 := 384#32
  let c0_i32_430 : BitVec 32 := 0#32
  ![v710.toNat, 384, 0]
def k0_off202 (v730 : BitVec 32) : Fin 3 → Nat :=
  let c0_i32_431 : BitVec 32 := 0#32
  let c0_i32_432 : BitVec 32 := 0#32
  ![v730.toNat, 0, 0]

def k0_chk45 (v1 : BitVec 32) (v730 : BitVec 32) : Prop :=
  (∀ (k0_h4 : k0_cond4 v1 = 1#1), ∀ a, (k0_off202 v730) a + S1x128x128.size a ≤ S8192x128x128.size a) ∧
  (∀ (k0_h4 : k0_cond4 v1 = 1#1), ∀ (hinb : ∀ a, (k0_off202 v730) a + S1x128x128.size a ≤ S8192x128x128.size a), (Rect.unit (s := S8192x128x128) (k0_off202 v730) S1x128x128.size hinb).WholeWords (EltTy.packing .fp8e4m3))
theorem k0_off202_inb : ∀ (v1 : BitVec 32) (v730 : BitVec 32) (k0_hw45 : k0_chk45 v1 v730), ∀ (k0_h4 : k0_cond4 v1 = 1#1), ∀ a, (k0_off202 v730) a + S1x128x128.size a ≤ S8192x128x128.size a := fun v1 v730 k0_hw45 k0_h4 => k0_hw45.1 k0_h4
theorem k0_off202_wordsfp8e4m3 : ∀ (v1 : BitVec 32) (v730 : BitVec 32) (k0_hw45 : k0_chk45 v1 v730), ∀ (k0_h4 : k0_cond4 v1 = 1#1), (Rect.unit (s := S8192x128x128) (k0_off202 v730) S1x128x128.size (k0_off202_inb v1 v730 k0_hw45 k0_h4)).WholeWords (EltTy.packing .fp8e4m3) := fun v1 v730 k0_hw45 k0_h4 => k0_hw45.2 k0_h4 (k0_off202_inb v1 v730 k0_hw45 k0_h4)

def k0_off203 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_433 : BitVec 32 := 1#32
  ![v710.toNat, 1]
def k0_off204 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c384_i32_434 : BitVec 32 := 384#32
  let c0_i32_435 : BitVec 32 := 0#32
  ![v710.toNat, 384, 0]
def k0_off205 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_438 : BitVec 32 := 0#32
  ![v710.toNat, 0]
def k0_off206 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c512_i32 : BitVec 32 := 512#32
  let c0_i32_439 : BitVec 32 := 0#32
  ![v710.toNat, 512, 0]
def k0_off207 (v735 : BitVec 32) : Fin 3 → Nat :=
  let c0_i32_440 : BitVec 32 := 0#32
  let c0_i32_441 : BitVec 32 := 0#32
  ![v735.toNat, 0, 0]

def k0_chk46 (v1 : BitVec 32) (v735 : BitVec 32) : Prop :=
  (∀ (k0_h4 : k0_cond4 v1 = 1#1), ∀ a, (k0_off207 v735) a + S1x128x128.size a ≤ S8192x128x128.size a) ∧
  (∀ (k0_h4 : k0_cond4 v1 = 1#1), ∀ (hinb : ∀ a, (k0_off207 v735) a + S1x128x128.size a ≤ S8192x128x128.size a), (Rect.unit (s := S8192x128x128) (k0_off207 v735) S1x128x128.size hinb).WholeWords (EltTy.packing .fp8e4m3))
theorem k0_off207_inb : ∀ (v1 : BitVec 32) (v735 : BitVec 32) (k0_hw46 : k0_chk46 v1 v735), ∀ (k0_h4 : k0_cond4 v1 = 1#1), ∀ a, (k0_off207 v735) a + S1x128x128.size a ≤ S8192x128x128.size a := fun v1 v735 k0_hw46 k0_h4 => k0_hw46.1 k0_h4
theorem k0_off207_wordsfp8e4m3 : ∀ (v1 : BitVec 32) (v735 : BitVec 32) (k0_hw46 : k0_chk46 v1 v735), ∀ (k0_h4 : k0_cond4 v1 = 1#1), (Rect.unit (s := S8192x128x128) (k0_off207 v735) S1x128x128.size (k0_off207_inb v1 v735 k0_hw46 k0_h4)).WholeWords (EltTy.packing .fp8e4m3) := fun v1 v735 k0_hw46 k0_h4 => k0_hw46.2 k0_h4 (k0_off207_inb v1 v735 k0_hw46 k0_h4)

def k0_off208 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_442 : BitVec 32 := 1#32
  ![v710.toNat, 1]
def k0_off209 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c512_i32_443 : BitVec 32 := 512#32
  let c0_i32_444 : BitVec 32 := 0#32
  ![v710.toNat, 512, 0]
def k0_off210 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_447 : BitVec 32 := 0#32
  ![v710.toNat, 0]
def k0_off211 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c640_i32 : BitVec 32 := 640#32
  let c0_i32_448 : BitVec 32 := 0#32
  ![v710.toNat, 640, 0]
def k0_off212 (v740 : BitVec 32) : Fin 3 → Nat :=
  let c0_i32_449 : BitVec 32 := 0#32
  let c0_i32_450 : BitVec 32 := 0#32
  ![v740.toNat, 0, 0]

def k0_chk47 (v1 : BitVec 32) (v740 : BitVec 32) : Prop :=
  (∀ (k0_h4 : k0_cond4 v1 = 1#1), ∀ a, (k0_off212 v740) a + S1x128x128.size a ≤ S8192x128x128.size a) ∧
  (∀ (k0_h4 : k0_cond4 v1 = 1#1), ∀ (hinb : ∀ a, (k0_off212 v740) a + S1x128x128.size a ≤ S8192x128x128.size a), (Rect.unit (s := S8192x128x128) (k0_off212 v740) S1x128x128.size hinb).WholeWords (EltTy.packing .fp8e4m3))
theorem k0_off212_inb : ∀ (v1 : BitVec 32) (v740 : BitVec 32) (k0_hw47 : k0_chk47 v1 v740), ∀ (k0_h4 : k0_cond4 v1 = 1#1), ∀ a, (k0_off212 v740) a + S1x128x128.size a ≤ S8192x128x128.size a := fun v1 v740 k0_hw47 k0_h4 => k0_hw47.1 k0_h4
theorem k0_off212_wordsfp8e4m3 : ∀ (v1 : BitVec 32) (v740 : BitVec 32) (k0_hw47 : k0_chk47 v1 v740), ∀ (k0_h4 : k0_cond4 v1 = 1#1), (Rect.unit (s := S8192x128x128) (k0_off212 v740) S1x128x128.size (k0_off212_inb v1 v740 k0_hw47 k0_h4)).WholeWords (EltTy.packing .fp8e4m3) := fun v1 v740 k0_hw47 k0_h4 => k0_hw47.2 k0_h4 (k0_off212_inb v1 v740 k0_hw47 k0_h4)

def k0_off213 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_451 : BitVec 32 := 1#32
  ![v710.toNat, 1]
def k0_off214 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c640_i32_452 : BitVec 32 := 640#32
  let c0_i32_453 : BitVec 32 := 0#32
  ![v710.toNat, 640, 0]
def k0_off215 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_456 : BitVec 32 := 0#32
  ![v710.toNat, 0]
def k0_off216 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c768_i32 : BitVec 32 := 768#32
  let c0_i32_457 : BitVec 32 := 0#32
  ![v710.toNat, 768, 0]
def k0_off217 (v745 : BitVec 32) : Fin 3 → Nat :=
  let c0_i32_458 : BitVec 32 := 0#32
  let c0_i32_459 : BitVec 32 := 0#32
  ![v745.toNat, 0, 0]

def k0_chk48 (v1 : BitVec 32) (v745 : BitVec 32) : Prop :=
  (∀ (k0_h4 : k0_cond4 v1 = 1#1), ∀ a, (k0_off217 v745) a + S1x128x128.size a ≤ S8192x128x128.size a) ∧
  (∀ (k0_h4 : k0_cond4 v1 = 1#1), ∀ (hinb : ∀ a, (k0_off217 v745) a + S1x128x128.size a ≤ S8192x128x128.size a), (Rect.unit (s := S8192x128x128) (k0_off217 v745) S1x128x128.size hinb).WholeWords (EltTy.packing .fp8e4m3))
theorem k0_off217_inb : ∀ (v1 : BitVec 32) (v745 : BitVec 32) (k0_hw48 : k0_chk48 v1 v745), ∀ (k0_h4 : k0_cond4 v1 = 1#1), ∀ a, (k0_off217 v745) a + S1x128x128.size a ≤ S8192x128x128.size a := fun v1 v745 k0_hw48 k0_h4 => k0_hw48.1 k0_h4
theorem k0_off217_wordsfp8e4m3 : ∀ (v1 : BitVec 32) (v745 : BitVec 32) (k0_hw48 : k0_chk48 v1 v745), ∀ (k0_h4 : k0_cond4 v1 = 1#1), (Rect.unit (s := S8192x128x128) (k0_off217 v745) S1x128x128.size (k0_off217_inb v1 v745 k0_hw48 k0_h4)).WholeWords (EltTy.packing .fp8e4m3) := fun v1 v745 k0_hw48 k0_h4 => k0_hw48.2 k0_h4 (k0_off217_inb v1 v745 k0_hw48 k0_h4)

def k0_off218 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_460 : BitVec 32 := 1#32
  ![v710.toNat, 1]
def k0_off219 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c768_i32_461 : BitVec 32 := 768#32
  let c0_i32_462 : BitVec 32 := 0#32
  ![v710.toNat, 768, 0]
def k0_off220 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c0_i32_465 : BitVec 32 := 0#32
  ![v710.toNat, 0]
def k0_off221 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c896_i32 : BitVec 32 := 896#32
  let c0_i32_466 : BitVec 32 := 0#32
  ![v710.toNat, 896, 0]
def k0_off222 (v750 : BitVec 32) : Fin 3 → Nat :=
  let c0_i32_467 : BitVec 32 := 0#32
  let c0_i32_468 : BitVec 32 := 0#32
  ![v750.toNat, 0, 0]

def k0_chk49 (v1 : BitVec 32) (v750 : BitVec 32) : Prop :=
  (∀ (k0_h4 : k0_cond4 v1 = 1#1), ∀ a, (k0_off222 v750) a + S1x128x128.size a ≤ S8192x128x128.size a) ∧
  (∀ (k0_h4 : k0_cond4 v1 = 1#1), ∀ (hinb : ∀ a, (k0_off222 v750) a + S1x128x128.size a ≤ S8192x128x128.size a), (Rect.unit (s := S8192x128x128) (k0_off222 v750) S1x128x128.size hinb).WholeWords (EltTy.packing .fp8e4m3))
theorem k0_off222_inb : ∀ (v1 : BitVec 32) (v750 : BitVec 32) (k0_hw49 : k0_chk49 v1 v750), ∀ (k0_h4 : k0_cond4 v1 = 1#1), ∀ a, (k0_off222 v750) a + S1x128x128.size a ≤ S8192x128x128.size a := fun v1 v750 k0_hw49 k0_h4 => k0_hw49.1 k0_h4
theorem k0_off222_wordsfp8e4m3 : ∀ (v1 : BitVec 32) (v750 : BitVec 32) (k0_hw49 : k0_chk49 v1 v750), ∀ (k0_h4 : k0_cond4 v1 = 1#1), (Rect.unit (s := S8192x128x128) (k0_off222 v750) S1x128x128.size (k0_off222_inb v1 v750 k0_hw49 k0_h4)).WholeWords (EltTy.packing .fp8e4m3) := fun v1 v750 k0_hw49 k0_h4 => k0_hw49.2 k0_h4 (k0_off222_inb v1 v750 k0_hw49 k0_h4)

def k0_off223 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c1_i32_469 : BitVec 32 := 1#32
  ![v710.toNat, 1]
def k0_off224 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let c896_i32_470 : BitVec 32 := 896#32
  let c0_i32_471 : BitVec 32 := 0#32
  ![v710.toNat, 896, 0]
def k0_off225 (v1 : BitVec 32) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let c2_i32 : BitVec 32 := 2#32
  let v710 : BitVec 32 := Scalar.remsi v18 c2_i32
  let v847 : Index := Scalar.indexCast v710
  let c0_474 : Index := 0#32
  let c0_475 : Index := 0#32
  ![v847.toNat, 0, 0]

def k0_chk9_0 (i : grid0.Coords) (v1 : BitVec 32) : Prop :=
  ((k0_t1_loop v1).OK) ∧
  (∀ k0_t1 : Fin (k0_t1_loop v1).trips, ∀ (k0_h2 : k0_cond2 v1 k0_t1 = 1#1), ∀ (r : Fin 8), ∀ a, (k0_off18 i v1 k0_t1 (BitVec.ofNat 32 r.val)) a + S1x1.size a ≤ S8x1024.size a) ∧
  (∀ k0_t1 : Fin (k0_t1_loop v1).trips, ∀ (k0_h2 : k0_cond2 v1 k0_t1 = 1#1), ∀ a, (k0_off19 v1 k0_t1) a + S1x1.size a ≤ S2x2.size a) ∧
  (∀ k0_t1 : Fin (k0_t1_loop v1).trips, ∀ (k0_h2 : k0_cond2 v1 k0_t1 = 1#1), ∀ a, (k0_off20 v1 k0_t1) a + S1x128x128.size a ≤ S2x1024x128.size a) ∧
  (∀ k0_t1 : Fin (k0_t1_loop v1).trips, ∀ (k0_h2 : k0_cond2 v1 k0_t1 = 1#1), ∀ (hinb : ∀ a, (k0_off20 v1 k0_t1) a + S1x128x128.size a ≤ S2x1024x128.size a), (Rect.unit (s := S2x1024x128) (k0_off20 v1 k0_t1) S1x128x128.size hinb).WholeWords (EltTy.packing .fp8e4m3)) ∧
  (∀ k0_t1 : Fin (k0_t1_loop v1).trips, ∀ (k0_h2 : k0_cond2 v1 k0_t1 = 1#1), ∀ a, (k0_off22 v1 k0_t1) a + S1x1.size a ≤ S2x2.size a) ∧
  (∀ k0_t1 : Fin (k0_t1_loop v1).trips, ∀ (k0_h2 : k0_cond2 v1 k0_t1 = 1#1), ∀ a, (k0_off23 v1 k0_t1) a + S1x128x128.size a ≤ S2x1024x128.size a) ∧
  (∀ k0_t1 : Fin (k0_t1_loop v1).trips, ∀ (k0_h2 : k0_cond2 v1 k0_t1 = 1#1), ∀ (hinb : ∀ a, (k0_off23 v1 k0_t1) a + S1x128x128.size a ≤ S2x1024x128.size a), (Rect.unit (s := S2x1024x128) (k0_off23 v1 k0_t1) S1x128x128.size hinb).WholeWords (EltTy.packing .fp8e4m3)) ∧
  (∀ k0_t1 : Fin (k0_t1_loop v1).trips, ∀ (k0_h2 : k0_cond2 v1 k0_t1 = 1#1), ∀ a, (k0_off24 v1 k0_t1) a + S1x1.size a ≤ S2x2.size a) ∧
  (∀ k0_t1 : Fin (k0_t1_loop v1).trips, ∀ (k0_h2 : k0_cond2 v1 k0_t1 = 1#1), ∀ a, (k0_off25 v1 k0_t1) a + S1x128x128.size a ≤ S2x1024x128.size a) ∧
  (∀ k0_t1 : Fin (k0_t1_loop v1).trips, ∀ (k0_h2 : k0_cond2 v1 k0_t1 = 1#1), ∀ (hinb : ∀ a, (k0_off25 v1 k0_t1) a + S1x128x128.size a ≤ S2x1024x128.size a), (Rect.unit (s := S2x1024x128) (k0_off25 v1 k0_t1) S1x128x128.size hinb).WholeWords (EltTy.packing .fp8e4m3)) ∧
  (∀ k0_t1 : Fin (k0_t1_loop v1).trips, ∀ (k0_h2 : k0_cond2 v1 k0_t1 = 1#1), ∀ a, (k0_off27 v1 k0_t1) a + S1x1.size a ≤ S2x2.size a) ∧
  (∀ k0_t1 : Fin (k0_t1_loop v1).trips, ∀ (k0_h2 : k0_cond2 v1 k0_t1 = 1#1), ∀ a, (k0_off28 v1 k0_t1) a + S1x128x128.size a ≤ S2x1024x128.size a) ∧
  (∀ k0_t1 : Fin (k0_t1_loop v1).trips, ∀ (k0_h2 : k0_cond2 v1 k0_t1 = 1#1), ∀ (hinb : ∀ a, (k0_off28 v1 k0_t1) a + S1x128x128.size a ≤ S2x1024x128.size a), (Rect.unit (s := S2x1024x128) (k0_off28 v1 k0_t1) S1x128x128.size hinb).WholeWords (EltTy.packing .fp8e4m3)) ∧
  (∀ k0_t1 : Fin (k0_t1_loop v1).trips, ∀ (k0_h2 : k0_cond2 v1 k0_t1 = 1#1), ∀ a, (k0_off29 v1 k0_t1) a + S1x1.size a ≤ S2x2.size a) ∧
  (∀ k0_t1 : Fin (k0_t1_loop v1).trips, ∀ (k0_h2 : k0_cond2 v1 k0_t1 = 1#1), ∀ a, (k0_off30 v1 k0_t1) a + S1x128x128.size a ≤ S2x1024x128.size a) ∧
  (∀ k0_t1 : Fin (k0_t1_loop v1).trips, ∀ (k0_h2 : k0_cond2 v1 k0_t1 = 1#1), ∀ (hinb : ∀ a, (k0_off30 v1 k0_t1) a + S1x128x128.size a ≤ S2x1024x128.size a), (Rect.unit (s := S2x1024x128) (k0_off30 v1 k0_t1) S1x128x128.size hinb).WholeWords (EltTy.packing .fp8e4m3)) ∧
  (∀ k0_t1 : Fin (k0_t1_loop v1).trips, ∀ (k0_h2 : k0_cond2 v1 k0_t1 = 1#1), ∀ a, (k0_off32 v1 k0_t1) a + S1x1.size a ≤ S2x2.size a) ∧
  (∀ k0_t1 : Fin (k0_t1_loop v1).trips, ∀ (k0_h2 : k0_cond2 v1 k0_t1 = 1#1), ∀ a, (k0_off33 v1 k0_t1) a + S1x128x128.size a ≤ S2x1024x128.size a) ∧
  (∀ k0_t1 : Fin (k0_t1_loop v1).trips, ∀ (k0_h2 : k0_cond2 v1 k0_t1 = 1#1), ∀ (hinb : ∀ a, (k0_off33 v1 k0_t1) a + S1x128x128.size a ≤ S2x1024x128.size a), (Rect.unit (s := S2x1024x128) (k0_off33 v1 k0_t1) S1x128x128.size hinb).WholeWords (EltTy.packing .fp8e4m3)) ∧
  (∀ k0_t1 : Fin (k0_t1_loop v1).trips, ∀ (k0_h2 : k0_cond2 v1 k0_t1 = 1#1), ∀ a, (k0_off34 v1 k0_t1) a + S1x1.size a ≤ S2x2.size a) ∧
  (∀ k0_t1 : Fin (k0_t1_loop v1).trips, ∀ (k0_h2 : k0_cond2 v1 k0_t1 = 1#1), ∀ a, (k0_off35 v1 k0_t1) a + S1x128x128.size a ≤ S2x1024x128.size a) ∧
  (∀ k0_t1 : Fin (k0_t1_loop v1).trips, ∀ (k0_h2 : k0_cond2 v1 k0_t1 = 1#1), ∀ (hinb : ∀ a, (k0_off35 v1 k0_t1) a + S1x128x128.size a ≤ S2x1024x128.size a), (Rect.unit (s := S2x1024x128) (k0_off35 v1 k0_t1) S1x128x128.size hinb).WholeWords (EltTy.packing .fp8e4m3)) ∧
  (∀ k0_t1 : Fin (k0_t1_loop v1).trips, ∀ (k0_h2 : k0_cond2 v1 k0_t1 = 1#1), ∀ a, (k0_off37 v1 k0_t1) a + S1x1.size a ≤ S2x2.size a) ∧
  (∀ k0_t1 : Fin (k0_t1_loop v1).trips, ∀ (k0_h2 : k0_cond2 v1 k0_t1 = 1#1), ∀ a, (k0_off38 v1 k0_t1) a + S1x128x128.size a ≤ S2x1024x128.size a) ∧
  (∀ k0_t1 : Fin (k0_t1_loop v1).trips, ∀ (k0_h2 : k0_cond2 v1 k0_t1 = 1#1), ∀ (hinb : ∀ a, (k0_off38 v1 k0_t1) a + S1x128x128.size a ≤ S2x1024x128.size a), (Rect.unit (s := S2x1024x128) (k0_off38 v1 k0_t1) S1x128x128.size hinb).WholeWords (EltTy.packing .fp8e4m3)) ∧
  (∀ k0_t1 : Fin (k0_t1_loop v1).trips, ∀ (k0_h2 : k0_cond2 v1 k0_t1 = 1#1), ∀ a, (k0_off39 v1 k0_t1) a + S1x1.size a ≤ S2x2.size a) ∧
  (∀ k0_t1 : Fin (k0_t1_loop v1).trips, ∀ (k0_h2 : k0_cond2 v1 k0_t1 = 1#1), ∀ a, (k0_off40 v1 k0_t1) a + S1x128x128.size a ≤ S2x1024x128.size a) ∧
  (∀ k0_t1 : Fin (k0_t1_loop v1).trips, ∀ (k0_h2 : k0_cond2 v1 k0_t1 = 1#1), ∀ (hinb : ∀ a, (k0_off40 v1 k0_t1) a + S1x128x128.size a ≤ S2x1024x128.size a), (Rect.unit (s := S2x1024x128) (k0_off40 v1 k0_t1) S1x128x128.size hinb).WholeWords (EltTy.packing .fp8e4m3)) ∧
  (∀ k0_t1 : Fin (k0_t1_loop v1).trips, ∀ (k0_h2 : k0_cond2 v1 k0_t1 = 1#1), ∀ a, (k0_off42 v1 k0_t1) a + S1x1.size a ≤ S2x2.size a) ∧
  (∀ k0_t1 : Fin (k0_t1_loop v1).trips, ∀ (k0_h2 : k0_cond2 v1 k0_t1 = 1#1), ∀ a, (k0_off43 v1 k0_t1) a + S1x128x128.size a ≤ S2x1024x128.size a) ∧
  (∀ k0_t1 : Fin (k0_t1_loop v1).trips, ∀ (k0_h2 : k0_cond2 v1 k0_t1 = 1#1), ∀ (hinb : ∀ a, (k0_off43 v1 k0_t1) a + S1x128x128.size a ≤ S2x1024x128.size a), (Rect.unit (s := S2x1024x128) (k0_off43 v1 k0_t1) S1x128x128.size hinb).WholeWords (EltTy.packing .fp8e4m3))
def k0_chk9_1 (i : grid0.Coords) (v1 : BitVec 32) : Prop :=
  (∀ k0_t1 : Fin (k0_t1_loop v1).trips, ∀ (k0_h2 : k0_cond2 v1 k0_t1 = 1#1), ∀ a, (k0_off44 v1 k0_t1) a + S1x1.size a ≤ S2x2.size a) ∧
  (∀ k0_t1 : Fin (k0_t1_loop v1).trips, ∀ (k0_h2 : k0_cond2 v1 k0_t1 = 1#1), ∀ a, (k0_off45 v1 k0_t1) a + S1x128x128.size a ≤ S2x1024x128.size a) ∧
  (∀ k0_t1 : Fin (k0_t1_loop v1).trips, ∀ (k0_h2 : k0_cond2 v1 k0_t1 = 1#1), ∀ (hinb : ∀ a, (k0_off45 v1 k0_t1) a + S1x128x128.size a ≤ S2x1024x128.size a), (Rect.unit (s := S2x1024x128) (k0_off45 v1 k0_t1) S1x128x128.size hinb).WholeWords (EltTy.packing .fp8e4m3)) ∧
  (∀ k0_t1 : Fin (k0_t1_loop v1).trips, ∀ (k0_h2 : k0_cond2 v1 k0_t1 = 1#1), ∀ a, (k0_off47 v1 k0_t1) a + S1x1.size a ≤ S2x2.size a) ∧
  (∀ k0_t1 : Fin (k0_t1_loop v1).trips, ∀ (k0_h2 : k0_cond2 v1 k0_t1 = 1#1), ∀ a, (k0_off48 v1 k0_t1) a + S1x128x128.size a ≤ S2x1024x128.size a) ∧
  (∀ k0_t1 : Fin (k0_t1_loop v1).trips, ∀ (k0_h2 : k0_cond2 v1 k0_t1 = 1#1), ∀ (hinb : ∀ a, (k0_off48 v1 k0_t1) a + S1x128x128.size a ≤ S2x1024x128.size a), (Rect.unit (s := S2x1024x128) (k0_off48 v1 k0_t1) S1x128x128.size hinb).WholeWords (EltTy.packing .fp8e4m3)) ∧
  (∀ k0_t1 : Fin (k0_t1_loop v1).trips, ∀ (k0_h2 : k0_cond2 v1 k0_t1 = 1#1), ∀ a, (k0_off49 v1 k0_t1) a + S1x1.size a ≤ S2x2.size a) ∧
  (∀ k0_t1 : Fin (k0_t1_loop v1).trips, ∀ (k0_h2 : k0_cond2 v1 k0_t1 = 1#1), ∀ a, (k0_off50 v1 k0_t1) a + S1x128x128.size a ≤ S2x1024x128.size a) ∧
  (∀ k0_t1 : Fin (k0_t1_loop v1).trips, ∀ (k0_h2 : k0_cond2 v1 k0_t1 = 1#1), ∀ (hinb : ∀ a, (k0_off50 v1 k0_t1) a + S1x128x128.size a ≤ S2x1024x128.size a), (Rect.unit (s := S2x1024x128) (k0_off50 v1 k0_t1) S1x128x128.size hinb).WholeWords (EltTy.packing .fp8e4m3)) ∧
  (∀ k0_t1 : Fin (k0_t1_loop v1).trips, ∀ (k0_h2 : k0_cond2 v1 k0_t1 = 1#1), ∀ a, (k0_off52 v1 k0_t1) a + S1x1.size a ≤ S2x2.size a) ∧
  (∀ k0_t1 : Fin (k0_t1_loop v1).trips, ∀ (k0_h2 : k0_cond2 v1 k0_t1 = 1#1), ∀ a, (k0_off53 v1 k0_t1) a + S1x128x128.size a ≤ S2x1024x128.size a) ∧
  (∀ k0_t1 : Fin (k0_t1_loop v1).trips, ∀ (k0_h2 : k0_cond2 v1 k0_t1 = 1#1), ∀ (hinb : ∀ a, (k0_off53 v1 k0_t1) a + S1x128x128.size a ≤ S2x1024x128.size a), (Rect.unit (s := S2x1024x128) (k0_off53 v1 k0_t1) S1x128x128.size hinb).WholeWords (EltTy.packing .fp8e4m3)) ∧
  (∀ k0_t1 : Fin (k0_t1_loop v1).trips, ∀ (k0_h2 : k0_cond2 v1 k0_t1 = 1#1), ∀ a, (k0_off54 v1 k0_t1) a + S1x1.size a ≤ S2x2.size a) ∧
  (∀ k0_t1 : Fin (k0_t1_loop v1).trips, ∀ (k0_h2 : k0_cond2 v1 k0_t1 = 1#1), ∀ a, (k0_off55 v1 k0_t1) a + S1x128x128.size a ≤ S2x1024x128.size a) ∧
  (∀ k0_t1 : Fin (k0_t1_loop v1).trips, ∀ (k0_h2 : k0_cond2 v1 k0_t1 = 1#1), ∀ (hinb : ∀ a, (k0_off55 v1 k0_t1) a + S1x128x128.size a ≤ S2x1024x128.size a), (Rect.unit (s := S2x1024x128) (k0_off55 v1 k0_t1) S1x128x128.size hinb).WholeWords (EltTy.packing .fp8e4m3)) ∧
  (∀ k0_t1 : Fin (k0_t1_loop v1).trips, ∀ (k0_h2 : k0_cond2 v1 k0_t1 = 1#1), ∀ a, (k0_off57 v1 k0_t1) a + S1x1.size a ≤ S2x2.size a) ∧
  (∀ k0_t1 : Fin (k0_t1_loop v1).trips, ∀ (k0_h2 : k0_cond2 v1 k0_t1 = 1#1), ∀ a, (k0_off58 v1 k0_t1) a + S1x128x128.size a ≤ S2x1024x128.size a) ∧
  (∀ k0_t1 : Fin (k0_t1_loop v1).trips, ∀ (k0_h2 : k0_cond2 v1 k0_t1 = 1#1), ∀ (hinb : ∀ a, (k0_off58 v1 k0_t1) a + S1x128x128.size a ≤ S2x1024x128.size a), (Rect.unit (s := S2x1024x128) (k0_off58 v1 k0_t1) S1x128x128.size hinb).WholeWords (EltTy.packing .fp8e4m3)) ∧
  (∀ k0_t1 : Fin (k0_t1_loop v1).trips, ∀ (r : Fin 8), ∀ a, (k0_off59 i v1 k0_t1 (BitVec.ofNat 32 r.val)) a + S1x1.size a ≤ S8x1024.size a) ∧
  (∀ k0_t1 : Fin (k0_t1_loop v1).trips, ∀ a, (k0_off60 v1 k0_t1) a + S1x1.size a ≤ S2x2.size a) ∧
  (∀ k0_t1 : Fin (k0_t1_loop v1).trips, ∀ a, (k0_off61 v1 k0_t1) a + S1x128x128.size a ≤ S2x1024x128.size a) ∧
  (∀ k0_t1 : Fin (k0_t1_loop v1).trips, ∀ (hinb : ∀ a, (k0_off61 v1 k0_t1) a + S1x128x128.size a ≤ S2x1024x128.size a), (Rect.unit (s := S2x1024x128) (k0_off61 v1 k0_t1) S1x128x128.size hinb).WholeWords (EltTy.packing .fp8e4m3)) ∧
  (∀ k0_t1 : Fin (k0_t1_loop v1).trips, ∀ a, (k0_off63 v1 k0_t1) a + S1x1.size a ≤ S2x2.size a) ∧
  (∀ k0_t1 : Fin (k0_t1_loop v1).trips, ∀ a, (k0_off64 v1 k0_t1) a + S1x128x128.size a ≤ S2x1024x128.size a) ∧
  (∀ k0_t1 : Fin (k0_t1_loop v1).trips, ∀ (hinb : ∀ a, (k0_off64 v1 k0_t1) a + S1x128x128.size a ≤ S2x1024x128.size a), (Rect.unit (s := S2x1024x128) (k0_off64 v1 k0_t1) S1x128x128.size hinb).WholeWords (EltTy.packing .fp8e4m3)) ∧
  (∀ k0_t1 : Fin (k0_t1_loop v1).trips, ∀ a, (k0_off65 v1 k0_t1) a + S1x1.size a ≤ S2x2.size a) ∧
  (∀ k0_t1 : Fin (k0_t1_loop v1).trips, ∀ a, (k0_off66 v1 k0_t1) a + S1x128x128.size a ≤ S2x1024x128.size a) ∧
  (∀ k0_t1 : Fin (k0_t1_loop v1).trips, ∀ (hinb : ∀ a, (k0_off66 v1 k0_t1) a + S1x128x128.size a ≤ S2x1024x128.size a), (Rect.unit (s := S2x1024x128) (k0_off66 v1 k0_t1) S1x128x128.size hinb).WholeWords (EltTy.packing .fp8e4m3)) ∧
  (∀ k0_t1 : Fin (k0_t1_loop v1).trips, ∀ a, (k0_off68 v1 k0_t1) a + S1x1.size a ≤ S2x2.size a) ∧
  (∀ k0_t1 : Fin (k0_t1_loop v1).trips, ∀ a, (k0_off69 v1 k0_t1) a + S1x128x128.size a ≤ S2x1024x128.size a) ∧
  (∀ k0_t1 : Fin (k0_t1_loop v1).trips, ∀ (hinb : ∀ a, (k0_off69 v1 k0_t1) a + S1x128x128.size a ≤ S2x1024x128.size a), (Rect.unit (s := S2x1024x128) (k0_off69 v1 k0_t1) S1x128x128.size hinb).WholeWords (EltTy.packing .fp8e4m3)) ∧
  (∀ k0_t1 : Fin (k0_t1_loop v1).trips, ∀ a, (k0_off70 v1 k0_t1) a + S1x1.size a ≤ S2x2.size a)
def k0_chk9_2 (i : grid0.Coords) (v1 : BitVec 32) : Prop :=
  (∀ k0_t1 : Fin (k0_t1_loop v1).trips, ∀ a, (k0_off71 v1 k0_t1) a + S1x128x128.size a ≤ S2x1024x128.size a) ∧
  (∀ k0_t1 : Fin (k0_t1_loop v1).trips, ∀ (hinb : ∀ a, (k0_off71 v1 k0_t1) a + S1x128x128.size a ≤ S2x1024x128.size a), (Rect.unit (s := S2x1024x128) (k0_off71 v1 k0_t1) S1x128x128.size hinb).WholeWords (EltTy.packing .fp8e4m3)) ∧
  (∀ k0_t1 : Fin (k0_t1_loop v1).trips, ∀ a, (k0_off73 v1 k0_t1) a + S1x1.size a ≤ S2x2.size a) ∧
  (∀ k0_t1 : Fin (k0_t1_loop v1).trips, ∀ a, (k0_off74 v1 k0_t1) a + S1x128x128.size a ≤ S2x1024x128.size a) ∧
  (∀ k0_t1 : Fin (k0_t1_loop v1).trips, ∀ (hinb : ∀ a, (k0_off74 v1 k0_t1) a + S1x128x128.size a ≤ S2x1024x128.size a), (Rect.unit (s := S2x1024x128) (k0_off74 v1 k0_t1) S1x128x128.size hinb).WholeWords (EltTy.packing .fp8e4m3)) ∧
  (∀ k0_t1 : Fin (k0_t1_loop v1).trips, ∀ a, (k0_off75 v1 k0_t1) a + S1x1.size a ≤ S2x2.size a) ∧
  (∀ k0_t1 : Fin (k0_t1_loop v1).trips, ∀ a, (k0_off76 v1 k0_t1) a + S1x128x128.size a ≤ S2x1024x128.size a) ∧
  (∀ k0_t1 : Fin (k0_t1_loop v1).trips, ∀ (hinb : ∀ a, (k0_off76 v1 k0_t1) a + S1x128x128.size a ≤ S2x1024x128.size a), (Rect.unit (s := S2x1024x128) (k0_off76 v1 k0_t1) S1x128x128.size hinb).WholeWords (EltTy.packing .fp8e4m3)) ∧
  (∀ k0_t1 : Fin (k0_t1_loop v1).trips, ∀ a, (k0_off78 v1 k0_t1) a + S1x1.size a ≤ S2x2.size a) ∧
  (∀ k0_t1 : Fin (k0_t1_loop v1).trips, ∀ a, (k0_off79 v1 k0_t1) a + S1x128x128.size a ≤ S2x1024x128.size a) ∧
  (∀ k0_t1 : Fin (k0_t1_loop v1).trips, ∀ (hinb : ∀ a, (k0_off79 v1 k0_t1) a + S1x128x128.size a ≤ S2x1024x128.size a), (Rect.unit (s := S2x1024x128) (k0_off79 v1 k0_t1) S1x128x128.size hinb).WholeWords (EltTy.packing .fp8e4m3)) ∧
  (∀ k0_t1 : Fin (k0_t1_loop v1).trips, ∀ a, (k0_off80 v1 k0_t1) a + S1x1.size a ≤ S2x2.size a) ∧
  (∀ k0_t1 : Fin (k0_t1_loop v1).trips, ∀ a, (k0_off81 v1 k0_t1) a + S1x128x128.size a ≤ S2x1024x128.size a) ∧
  (∀ k0_t1 : Fin (k0_t1_loop v1).trips, ∀ (hinb : ∀ a, (k0_off81 v1 k0_t1) a + S1x128x128.size a ≤ S2x1024x128.size a), (Rect.unit (s := S2x1024x128) (k0_off81 v1 k0_t1) S1x128x128.size hinb).WholeWords (EltTy.packing .fp8e4m3)) ∧
  (∀ k0_t1 : Fin (k0_t1_loop v1).trips, ∀ a, (k0_off83 v1 k0_t1) a + S1x1.size a ≤ S2x2.size a) ∧
  (∀ k0_t1 : Fin (k0_t1_loop v1).trips, ∀ a, (k0_off84 v1 k0_t1) a + S1x128x128.size a ≤ S2x1024x128.size a) ∧
  (∀ k0_t1 : Fin (k0_t1_loop v1).trips, ∀ (hinb : ∀ a, (k0_off84 v1 k0_t1) a + S1x128x128.size a ≤ S2x1024x128.size a), (Rect.unit (s := S2x1024x128) (k0_off84 v1 k0_t1) S1x128x128.size hinb).WholeWords (EltTy.packing .fp8e4m3)) ∧
  (∀ k0_t1 : Fin (k0_t1_loop v1).trips, ∀ a, (k0_off85 v1 k0_t1) a + S1x1.size a ≤ S2x2.size a) ∧
  (∀ k0_t1 : Fin (k0_t1_loop v1).trips, ∀ a, (k0_off86 v1 k0_t1) a + S1x128x128.size a ≤ S2x1024x128.size a) ∧
  (∀ k0_t1 : Fin (k0_t1_loop v1).trips, ∀ (hinb : ∀ a, (k0_off86 v1 k0_t1) a + S1x128x128.size a ≤ S2x1024x128.size a), (Rect.unit (s := S2x1024x128) (k0_off86 v1 k0_t1) S1x128x128.size hinb).WholeWords (EltTy.packing .fp8e4m3)) ∧
  (∀ k0_t1 : Fin (k0_t1_loop v1).trips, ∀ a, (k0_off88 v1 k0_t1) a + S1x1.size a ≤ S2x2.size a) ∧
  (∀ k0_t1 : Fin (k0_t1_loop v1).trips, ∀ a, (k0_off89 v1 k0_t1) a + S1x128x128.size a ≤ S2x1024x128.size a) ∧
  (∀ k0_t1 : Fin (k0_t1_loop v1).trips, ∀ (hinb : ∀ a, (k0_off89 v1 k0_t1) a + S1x128x128.size a ≤ S2x1024x128.size a), (Rect.unit (s := S2x1024x128) (k0_off89 v1 k0_t1) S1x128x128.size hinb).WholeWords (EltTy.packing .fp8e4m3)) ∧
  (∀ k0_t1 : Fin (k0_t1_loop v1).trips, ∀ a, (k0_off90 v1 k0_t1) a + S1x1.size a ≤ S2x2.size a) ∧
  (∀ k0_t1 : Fin (k0_t1_loop v1).trips, ∀ a, (k0_off91 v1 k0_t1) a + S1x128x128.size a ≤ S2x1024x128.size a) ∧
  (∀ k0_t1 : Fin (k0_t1_loop v1).trips, ∀ (hinb : ∀ a, (k0_off91 v1 k0_t1) a + S1x128x128.size a ≤ S2x1024x128.size a), (Rect.unit (s := S2x1024x128) (k0_off91 v1 k0_t1) S1x128x128.size hinb).WholeWords (EltTy.packing .fp8e4m3)) ∧
  (∀ k0_t1 : Fin (k0_t1_loop v1).trips, ∀ a, (k0_off93 v1 k0_t1) a + S1x1.size a ≤ S2x2.size a) ∧
  (∀ k0_t1 : Fin (k0_t1_loop v1).trips, ∀ a, (k0_off94 v1 k0_t1) a + S1x128x128.size a ≤ S2x1024x128.size a) ∧
  (∀ k0_t1 : Fin (k0_t1_loop v1).trips, ∀ (hinb : ∀ a, (k0_off94 v1 k0_t1) a + S1x128x128.size a ≤ S2x1024x128.size a), (Rect.unit (s := S2x1024x128) (k0_off94 v1 k0_t1) S1x128x128.size hinb).WholeWords (EltTy.packing .fp8e4m3)) ∧
  (∀ k0_t1 : Fin (k0_t1_loop v1).trips, ∀ a, (k0_off95 v1 k0_t1) a + S1x1.size a ≤ S2x2.size a) ∧
  (∀ k0_t1 : Fin (k0_t1_loop v1).trips, ∀ a, (k0_off96 v1 k0_t1) a + S1x128x128.size a ≤ S2x1024x128.size a) ∧
  (∀ k0_t1 : Fin (k0_t1_loop v1).trips, ∀ (hinb : ∀ a, (k0_off96 v1 k0_t1) a + S1x128x128.size a ≤ S2x1024x128.size a), (Rect.unit (s := S2x1024x128) (k0_off96 v1 k0_t1) S1x128x128.size hinb).WholeWords (EltTy.packing .fp8e4m3))
def k0_chk9_3 (i : grid0.Coords) (v1 : BitVec 32) : Prop :=
  (∀ k0_t1 : Fin (k0_t1_loop v1).trips, ∀ a, (k0_off98 v1 k0_t1) a + S1x1.size a ≤ S2x2.size a) ∧
  (∀ k0_t1 : Fin (k0_t1_loop v1).trips, ∀ a, (k0_off99 v1 k0_t1) a + S1x128x128.size a ≤ S2x1024x128.size a) ∧
  (∀ k0_t1 : Fin (k0_t1_loop v1).trips, ∀ (hinb : ∀ a, (k0_off99 v1 k0_t1) a + S1x128x128.size a ≤ S2x1024x128.size a), (Rect.unit (s := S2x1024x128) (k0_off99 v1 k0_t1) S1x128x128.size hinb).WholeWords (EltTy.packing .fp8e4m3)) ∧
  (∀ k0_t1 : Fin (k0_t1_loop v1).trips, ∀ a, (k0_off100 v1 k0_t1) a + S1x1024x128.size a ≤ S2x1024x128.size a) ∧
  ((k0_t2_loop v1).OK) ∧
  (∀ k0_t2 : Fin (k0_t2_loop v1).trips, ∀ (k0_h3 : k0_cond3 v1 k0_t2 = 1#1), ∀ (r : Fin 8), ∀ a, (k0_off101 i v1 k0_t2 (BitVec.ofNat 32 r.val)) a + S1x1.size a ≤ S8x1024.size a) ∧
  (∀ k0_t2 : Fin (k0_t2_loop v1).trips, ∀ (k0_h3 : k0_cond3 v1 k0_t2 = 1#1), ∀ a, (k0_off102 v1 k0_t2) a + S1x1.size a ≤ S2x2.size a) ∧
  (∀ k0_t2 : Fin (k0_t2_loop v1).trips, ∀ (k0_h3 : k0_cond3 v1 k0_t2 = 1#1), ∀ a, (k0_off103 v1 k0_t2) a + S1x128x128.size a ≤ S2x1024x128.size a) ∧
  (∀ k0_t2 : Fin (k0_t2_loop v1).trips, ∀ (k0_h3 : k0_cond3 v1 k0_t2 = 1#1), ∀ (hinb : ∀ a, (k0_off103 v1 k0_t2) a + S1x128x128.size a ≤ S2x1024x128.size a), (Rect.unit (s := S2x1024x128) (k0_off103 v1 k0_t2) S1x128x128.size hinb).WholeWords (EltTy.packing .fp8e4m3)) ∧
  (∀ k0_t2 : Fin (k0_t2_loop v1).trips, ∀ (k0_h3 : k0_cond3 v1 k0_t2 = 1#1), ∀ a, (k0_off105 v1 k0_t2) a + S1x1.size a ≤ S2x2.size a) ∧
  (∀ k0_t2 : Fin (k0_t2_loop v1).trips, ∀ (k0_h3 : k0_cond3 v1 k0_t2 = 1#1), ∀ a, (k0_off106 v1 k0_t2) a + S1x128x128.size a ≤ S2x1024x128.size a) ∧
  (∀ k0_t2 : Fin (k0_t2_loop v1).trips, ∀ (k0_h3 : k0_cond3 v1 k0_t2 = 1#1), ∀ (hinb : ∀ a, (k0_off106 v1 k0_t2) a + S1x128x128.size a ≤ S2x1024x128.size a), (Rect.unit (s := S2x1024x128) (k0_off106 v1 k0_t2) S1x128x128.size hinb).WholeWords (EltTy.packing .fp8e4m3)) ∧
  (∀ k0_t2 : Fin (k0_t2_loop v1).trips, ∀ (k0_h3 : k0_cond3 v1 k0_t2 = 1#1), ∀ a, (k0_off107 v1 k0_t2) a + S1x1.size a ≤ S2x2.size a) ∧
  (∀ k0_t2 : Fin (k0_t2_loop v1).trips, ∀ (k0_h3 : k0_cond3 v1 k0_t2 = 1#1), ∀ a, (k0_off108 v1 k0_t2) a + S1x128x128.size a ≤ S2x1024x128.size a) ∧
  (∀ k0_t2 : Fin (k0_t2_loop v1).trips, ∀ (k0_h3 : k0_cond3 v1 k0_t2 = 1#1), ∀ (hinb : ∀ a, (k0_off108 v1 k0_t2) a + S1x128x128.size a ≤ S2x1024x128.size a), (Rect.unit (s := S2x1024x128) (k0_off108 v1 k0_t2) S1x128x128.size hinb).WholeWords (EltTy.packing .fp8e4m3)) ∧
  (∀ k0_t2 : Fin (k0_t2_loop v1).trips, ∀ (k0_h3 : k0_cond3 v1 k0_t2 = 1#1), ∀ a, (k0_off110 v1 k0_t2) a + S1x1.size a ≤ S2x2.size a) ∧
  (∀ k0_t2 : Fin (k0_t2_loop v1).trips, ∀ (k0_h3 : k0_cond3 v1 k0_t2 = 1#1), ∀ a, (k0_off111 v1 k0_t2) a + S1x128x128.size a ≤ S2x1024x128.size a) ∧
  (∀ k0_t2 : Fin (k0_t2_loop v1).trips, ∀ (k0_h3 : k0_cond3 v1 k0_t2 = 1#1), ∀ (hinb : ∀ a, (k0_off111 v1 k0_t2) a + S1x128x128.size a ≤ S2x1024x128.size a), (Rect.unit (s := S2x1024x128) (k0_off111 v1 k0_t2) S1x128x128.size hinb).WholeWords (EltTy.packing .fp8e4m3)) ∧
  (∀ k0_t2 : Fin (k0_t2_loop v1).trips, ∀ (k0_h3 : k0_cond3 v1 k0_t2 = 1#1), ∀ a, (k0_off112 v1 k0_t2) a + S1x1.size a ≤ S2x2.size a) ∧
  (∀ k0_t2 : Fin (k0_t2_loop v1).trips, ∀ (k0_h3 : k0_cond3 v1 k0_t2 = 1#1), ∀ a, (k0_off113 v1 k0_t2) a + S1x128x128.size a ≤ S2x1024x128.size a) ∧
  (∀ k0_t2 : Fin (k0_t2_loop v1).trips, ∀ (k0_h3 : k0_cond3 v1 k0_t2 = 1#1), ∀ (hinb : ∀ a, (k0_off113 v1 k0_t2) a + S1x128x128.size a ≤ S2x1024x128.size a), (Rect.unit (s := S2x1024x128) (k0_off113 v1 k0_t2) S1x128x128.size hinb).WholeWords (EltTy.packing .fp8e4m3)) ∧
  (∀ k0_t2 : Fin (k0_t2_loop v1).trips, ∀ (k0_h3 : k0_cond3 v1 k0_t2 = 1#1), ∀ a, (k0_off115 v1 k0_t2) a + S1x1.size a ≤ S2x2.size a) ∧
  (∀ k0_t2 : Fin (k0_t2_loop v1).trips, ∀ (k0_h3 : k0_cond3 v1 k0_t2 = 1#1), ∀ a, (k0_off116 v1 k0_t2) a + S1x128x128.size a ≤ S2x1024x128.size a) ∧
  (∀ k0_t2 : Fin (k0_t2_loop v1).trips, ∀ (k0_h3 : k0_cond3 v1 k0_t2 = 1#1), ∀ (hinb : ∀ a, (k0_off116 v1 k0_t2) a + S1x128x128.size a ≤ S2x1024x128.size a), (Rect.unit (s := S2x1024x128) (k0_off116 v1 k0_t2) S1x128x128.size hinb).WholeWords (EltTy.packing .fp8e4m3)) ∧
  (∀ k0_t2 : Fin (k0_t2_loop v1).trips, ∀ (k0_h3 : k0_cond3 v1 k0_t2 = 1#1), ∀ a, (k0_off117 v1 k0_t2) a + S1x1.size a ≤ S2x2.size a) ∧
  (∀ k0_t2 : Fin (k0_t2_loop v1).trips, ∀ (k0_h3 : k0_cond3 v1 k0_t2 = 1#1), ∀ a, (k0_off118 v1 k0_t2) a + S1x128x128.size a ≤ S2x1024x128.size a) ∧
  (∀ k0_t2 : Fin (k0_t2_loop v1).trips, ∀ (k0_h3 : k0_cond3 v1 k0_t2 = 1#1), ∀ (hinb : ∀ a, (k0_off118 v1 k0_t2) a + S1x128x128.size a ≤ S2x1024x128.size a), (Rect.unit (s := S2x1024x128) (k0_off118 v1 k0_t2) S1x128x128.size hinb).WholeWords (EltTy.packing .fp8e4m3)) ∧
  (∀ k0_t2 : Fin (k0_t2_loop v1).trips, ∀ (k0_h3 : k0_cond3 v1 k0_t2 = 1#1), ∀ a, (k0_off120 v1 k0_t2) a + S1x1.size a ≤ S2x2.size a) ∧
  (∀ k0_t2 : Fin (k0_t2_loop v1).trips, ∀ (k0_h3 : k0_cond3 v1 k0_t2 = 1#1), ∀ a, (k0_off121 v1 k0_t2) a + S1x128x128.size a ≤ S2x1024x128.size a) ∧
  (∀ k0_t2 : Fin (k0_t2_loop v1).trips, ∀ (k0_h3 : k0_cond3 v1 k0_t2 = 1#1), ∀ (hinb : ∀ a, (k0_off121 v1 k0_t2) a + S1x128x128.size a ≤ S2x1024x128.size a), (Rect.unit (s := S2x1024x128) (k0_off121 v1 k0_t2) S1x128x128.size hinb).WholeWords (EltTy.packing .fp8e4m3)) ∧
  (∀ k0_t2 : Fin (k0_t2_loop v1).trips, ∀ (k0_h3 : k0_cond3 v1 k0_t2 = 1#1), ∀ a, (k0_off122 v1 k0_t2) a + S1x1.size a ≤ S2x2.size a) ∧
  (∀ k0_t2 : Fin (k0_t2_loop v1).trips, ∀ (k0_h3 : k0_cond3 v1 k0_t2 = 1#1), ∀ a, (k0_off123 v1 k0_t2) a + S1x128x128.size a ≤ S2x1024x128.size a)
def k0_chk9_4 (i : grid0.Coords) (v1 : BitVec 32) : Prop :=
  (∀ k0_t2 : Fin (k0_t2_loop v1).trips, ∀ (k0_h3 : k0_cond3 v1 k0_t2 = 1#1), ∀ (hinb : ∀ a, (k0_off123 v1 k0_t2) a + S1x128x128.size a ≤ S2x1024x128.size a), (Rect.unit (s := S2x1024x128) (k0_off123 v1 k0_t2) S1x128x128.size hinb).WholeWords (EltTy.packing .fp8e4m3)) ∧
  (∀ k0_t2 : Fin (k0_t2_loop v1).trips, ∀ (k0_h3 : k0_cond3 v1 k0_t2 = 1#1), ∀ a, (k0_off125 v1 k0_t2) a + S1x1.size a ≤ S2x2.size a) ∧
  (∀ k0_t2 : Fin (k0_t2_loop v1).trips, ∀ (k0_h3 : k0_cond3 v1 k0_t2 = 1#1), ∀ a, (k0_off126 v1 k0_t2) a + S1x128x128.size a ≤ S2x1024x128.size a) ∧
  (∀ k0_t2 : Fin (k0_t2_loop v1).trips, ∀ (k0_h3 : k0_cond3 v1 k0_t2 = 1#1), ∀ (hinb : ∀ a, (k0_off126 v1 k0_t2) a + S1x128x128.size a ≤ S2x1024x128.size a), (Rect.unit (s := S2x1024x128) (k0_off126 v1 k0_t2) S1x128x128.size hinb).WholeWords (EltTy.packing .fp8e4m3)) ∧
  (∀ k0_t2 : Fin (k0_t2_loop v1).trips, ∀ (k0_h3 : k0_cond3 v1 k0_t2 = 1#1), ∀ a, (k0_off127 v1 k0_t2) a + S1x1.size a ≤ S2x2.size a) ∧
  (∀ k0_t2 : Fin (k0_t2_loop v1).trips, ∀ (k0_h3 : k0_cond3 v1 k0_t2 = 1#1), ∀ a, (k0_off128 v1 k0_t2) a + S1x128x128.size a ≤ S2x1024x128.size a) ∧
  (∀ k0_t2 : Fin (k0_t2_loop v1).trips, ∀ (k0_h3 : k0_cond3 v1 k0_t2 = 1#1), ∀ (hinb : ∀ a, (k0_off128 v1 k0_t2) a + S1x128x128.size a ≤ S2x1024x128.size a), (Rect.unit (s := S2x1024x128) (k0_off128 v1 k0_t2) S1x128x128.size hinb).WholeWords (EltTy.packing .fp8e4m3)) ∧
  (∀ k0_t2 : Fin (k0_t2_loop v1).trips, ∀ (k0_h3 : k0_cond3 v1 k0_t2 = 1#1), ∀ a, (k0_off130 v1 k0_t2) a + S1x1.size a ≤ S2x2.size a) ∧
  (∀ k0_t2 : Fin (k0_t2_loop v1).trips, ∀ (k0_h3 : k0_cond3 v1 k0_t2 = 1#1), ∀ a, (k0_off131 v1 k0_t2) a + S1x128x128.size a ≤ S2x1024x128.size a) ∧
  (∀ k0_t2 : Fin (k0_t2_loop v1).trips, ∀ (k0_h3 : k0_cond3 v1 k0_t2 = 1#1), ∀ (hinb : ∀ a, (k0_off131 v1 k0_t2) a + S1x128x128.size a ≤ S2x1024x128.size a), (Rect.unit (s := S2x1024x128) (k0_off131 v1 k0_t2) S1x128x128.size hinb).WholeWords (EltTy.packing .fp8e4m3)) ∧
  (∀ k0_t2 : Fin (k0_t2_loop v1).trips, ∀ (k0_h3 : k0_cond3 v1 k0_t2 = 1#1), ∀ a, (k0_off132 v1 k0_t2) a + S1x1.size a ≤ S2x2.size a) ∧
  (∀ k0_t2 : Fin (k0_t2_loop v1).trips, ∀ (k0_h3 : k0_cond3 v1 k0_t2 = 1#1), ∀ a, (k0_off133 v1 k0_t2) a + S1x128x128.size a ≤ S2x1024x128.size a) ∧
  (∀ k0_t2 : Fin (k0_t2_loop v1).trips, ∀ (k0_h3 : k0_cond3 v1 k0_t2 = 1#1), ∀ (hinb : ∀ a, (k0_off133 v1 k0_t2) a + S1x128x128.size a ≤ S2x1024x128.size a), (Rect.unit (s := S2x1024x128) (k0_off133 v1 k0_t2) S1x128x128.size hinb).WholeWords (EltTy.packing .fp8e4m3)) ∧
  (∀ k0_t2 : Fin (k0_t2_loop v1).trips, ∀ (k0_h3 : k0_cond3 v1 k0_t2 = 1#1), ∀ a, (k0_off135 v1 k0_t2) a + S1x1.size a ≤ S2x2.size a) ∧
  (∀ k0_t2 : Fin (k0_t2_loop v1).trips, ∀ (k0_h3 : k0_cond3 v1 k0_t2 = 1#1), ∀ a, (k0_off136 v1 k0_t2) a + S1x128x128.size a ≤ S2x1024x128.size a) ∧
  (∀ k0_t2 : Fin (k0_t2_loop v1).trips, ∀ (k0_h3 : k0_cond3 v1 k0_t2 = 1#1), ∀ (hinb : ∀ a, (k0_off136 v1 k0_t2) a + S1x128x128.size a ≤ S2x1024x128.size a), (Rect.unit (s := S2x1024x128) (k0_off136 v1 k0_t2) S1x128x128.size hinb).WholeWords (EltTy.packing .fp8e4m3)) ∧
  (∀ k0_t2 : Fin (k0_t2_loop v1).trips, ∀ (k0_h3 : k0_cond3 v1 k0_t2 = 1#1), ∀ a, (k0_off137 v1 k0_t2) a + S1x1.size a ≤ S2x2.size a) ∧
  (∀ k0_t2 : Fin (k0_t2_loop v1).trips, ∀ (k0_h3 : k0_cond3 v1 k0_t2 = 1#1), ∀ a, (k0_off138 v1 k0_t2) a + S1x128x128.size a ≤ S2x1024x128.size a) ∧
  (∀ k0_t2 : Fin (k0_t2_loop v1).trips, ∀ (k0_h3 : k0_cond3 v1 k0_t2 = 1#1), ∀ (hinb : ∀ a, (k0_off138 v1 k0_t2) a + S1x128x128.size a ≤ S2x1024x128.size a), (Rect.unit (s := S2x1024x128) (k0_off138 v1 k0_t2) S1x128x128.size hinb).WholeWords (EltTy.packing .fp8e4m3)) ∧
  (∀ k0_t2 : Fin (k0_t2_loop v1).trips, ∀ (k0_h3 : k0_cond3 v1 k0_t2 = 1#1), ∀ a, (k0_off140 v1 k0_t2) a + S1x1.size a ≤ S2x2.size a) ∧
  (∀ k0_t2 : Fin (k0_t2_loop v1).trips, ∀ (k0_h3 : k0_cond3 v1 k0_t2 = 1#1), ∀ a, (k0_off141 v1 k0_t2) a + S1x128x128.size a ≤ S2x1024x128.size a) ∧
  (∀ k0_t2 : Fin (k0_t2_loop v1).trips, ∀ (k0_h3 : k0_cond3 v1 k0_t2 = 1#1), ∀ (hinb : ∀ a, (k0_off141 v1 k0_t2) a + S1x128x128.size a ≤ S2x1024x128.size a), (Rect.unit (s := S2x1024x128) (k0_off141 v1 k0_t2) S1x128x128.size hinb).WholeWords (EltTy.packing .fp8e4m3)) ∧
  (∀ k0_t2 : Fin (k0_t2_loop v1).trips, ∀ (r : Fin 8), ∀ a, (k0_off142 i v1 k0_t2 (BitVec.ofNat 32 r.val)) a + S1x1.size a ≤ S8x1024.size a) ∧
  (∀ k0_t2 : Fin (k0_t2_loop v1).trips, ∀ a, (k0_off143 v1 k0_t2) a + S1x1.size a ≤ S2x2.size a) ∧
  (∀ k0_t2 : Fin (k0_t2_loop v1).trips, ∀ a, (k0_off144 v1 k0_t2) a + S1x128x128.size a ≤ S2x1024x128.size a) ∧
  (∀ k0_t2 : Fin (k0_t2_loop v1).trips, ∀ (hinb : ∀ a, (k0_off144 v1 k0_t2) a + S1x128x128.size a ≤ S2x1024x128.size a), (Rect.unit (s := S2x1024x128) (k0_off144 v1 k0_t2) S1x128x128.size hinb).WholeWords (EltTy.packing .fp8e4m3)) ∧
  (∀ k0_t2 : Fin (k0_t2_loop v1).trips, ∀ a, (k0_off146 v1 k0_t2) a + S1x1.size a ≤ S2x2.size a) ∧
  (∀ k0_t2 : Fin (k0_t2_loop v1).trips, ∀ a, (k0_off147 v1 k0_t2) a + S1x128x128.size a ≤ S2x1024x128.size a) ∧
  (∀ k0_t2 : Fin (k0_t2_loop v1).trips, ∀ (hinb : ∀ a, (k0_off147 v1 k0_t2) a + S1x128x128.size a ≤ S2x1024x128.size a), (Rect.unit (s := S2x1024x128) (k0_off147 v1 k0_t2) S1x128x128.size hinb).WholeWords (EltTy.packing .fp8e4m3)) ∧
  (∀ k0_t2 : Fin (k0_t2_loop v1).trips, ∀ a, (k0_off148 v1 k0_t2) a + S1x1.size a ≤ S2x2.size a) ∧
  (∀ k0_t2 : Fin (k0_t2_loop v1).trips, ∀ a, (k0_off149 v1 k0_t2) a + S1x128x128.size a ≤ S2x1024x128.size a) ∧
  (∀ k0_t2 : Fin (k0_t2_loop v1).trips, ∀ (hinb : ∀ a, (k0_off149 v1 k0_t2) a + S1x128x128.size a ≤ S2x1024x128.size a), (Rect.unit (s := S2x1024x128) (k0_off149 v1 k0_t2) S1x128x128.size hinb).WholeWords (EltTy.packing .fp8e4m3))
def k0_chk9_5 (i : grid0.Coords) (v1 : BitVec 32) : Prop :=
  (∀ k0_t2 : Fin (k0_t2_loop v1).trips, ∀ a, (k0_off151 v1 k0_t2) a + S1x1.size a ≤ S2x2.size a) ∧
  (∀ k0_t2 : Fin (k0_t2_loop v1).trips, ∀ a, (k0_off152 v1 k0_t2) a + S1x128x128.size a ≤ S2x1024x128.size a) ∧
  (∀ k0_t2 : Fin (k0_t2_loop v1).trips, ∀ (hinb : ∀ a, (k0_off152 v1 k0_t2) a + S1x128x128.size a ≤ S2x1024x128.size a), (Rect.unit (s := S2x1024x128) (k0_off152 v1 k0_t2) S1x128x128.size hinb).WholeWords (EltTy.packing .fp8e4m3)) ∧
  (∀ k0_t2 : Fin (k0_t2_loop v1).trips, ∀ a, (k0_off153 v1 k0_t2) a + S1x1.size a ≤ S2x2.size a) ∧
  (∀ k0_t2 : Fin (k0_t2_loop v1).trips, ∀ a, (k0_off154 v1 k0_t2) a + S1x128x128.size a ≤ S2x1024x128.size a) ∧
  (∀ k0_t2 : Fin (k0_t2_loop v1).trips, ∀ (hinb : ∀ a, (k0_off154 v1 k0_t2) a + S1x128x128.size a ≤ S2x1024x128.size a), (Rect.unit (s := S2x1024x128) (k0_off154 v1 k0_t2) S1x128x128.size hinb).WholeWords (EltTy.packing .fp8e4m3)) ∧
  (∀ k0_t2 : Fin (k0_t2_loop v1).trips, ∀ a, (k0_off156 v1 k0_t2) a + S1x1.size a ≤ S2x2.size a) ∧
  (∀ k0_t2 : Fin (k0_t2_loop v1).trips, ∀ a, (k0_off157 v1 k0_t2) a + S1x128x128.size a ≤ S2x1024x128.size a) ∧
  (∀ k0_t2 : Fin (k0_t2_loop v1).trips, ∀ (hinb : ∀ a, (k0_off157 v1 k0_t2) a + S1x128x128.size a ≤ S2x1024x128.size a), (Rect.unit (s := S2x1024x128) (k0_off157 v1 k0_t2) S1x128x128.size hinb).WholeWords (EltTy.packing .fp8e4m3)) ∧
  (∀ k0_t2 : Fin (k0_t2_loop v1).trips, ∀ a, (k0_off158 v1 k0_t2) a + S1x1.size a ≤ S2x2.size a) ∧
  (∀ k0_t2 : Fin (k0_t2_loop v1).trips, ∀ a, (k0_off159 v1 k0_t2) a + S1x128x128.size a ≤ S2x1024x128.size a) ∧
  (∀ k0_t2 : Fin (k0_t2_loop v1).trips, ∀ (hinb : ∀ a, (k0_off159 v1 k0_t2) a + S1x128x128.size a ≤ S2x1024x128.size a), (Rect.unit (s := S2x1024x128) (k0_off159 v1 k0_t2) S1x128x128.size hinb).WholeWords (EltTy.packing .fp8e4m3)) ∧
  (∀ k0_t2 : Fin (k0_t2_loop v1).trips, ∀ a, (k0_off161 v1 k0_t2) a + S1x1.size a ≤ S2x2.size a) ∧
  (∀ k0_t2 : Fin (k0_t2_loop v1).trips, ∀ a, (k0_off162 v1 k0_t2) a + S1x128x128.size a ≤ S2x1024x128.size a) ∧
  (∀ k0_t2 : Fin (k0_t2_loop v1).trips, ∀ (hinb : ∀ a, (k0_off162 v1 k0_t2) a + S1x128x128.size a ≤ S2x1024x128.size a), (Rect.unit (s := S2x1024x128) (k0_off162 v1 k0_t2) S1x128x128.size hinb).WholeWords (EltTy.packing .fp8e4m3)) ∧
  (∀ k0_t2 : Fin (k0_t2_loop v1).trips, ∀ a, (k0_off163 v1 k0_t2) a + S1x1.size a ≤ S2x2.size a) ∧
  (∀ k0_t2 : Fin (k0_t2_loop v1).trips, ∀ a, (k0_off164 v1 k0_t2) a + S1x128x128.size a ≤ S2x1024x128.size a) ∧
  (∀ k0_t2 : Fin (k0_t2_loop v1).trips, ∀ (hinb : ∀ a, (k0_off164 v1 k0_t2) a + S1x128x128.size a ≤ S2x1024x128.size a), (Rect.unit (s := S2x1024x128) (k0_off164 v1 k0_t2) S1x128x128.size hinb).WholeWords (EltTy.packing .fp8e4m3)) ∧
  (∀ k0_t2 : Fin (k0_t2_loop v1).trips, ∀ a, (k0_off166 v1 k0_t2) a + S1x1.size a ≤ S2x2.size a) ∧
  (∀ k0_t2 : Fin (k0_t2_loop v1).trips, ∀ a, (k0_off167 v1 k0_t2) a + S1x128x128.size a ≤ S2x1024x128.size a) ∧
  (∀ k0_t2 : Fin (k0_t2_loop v1).trips, ∀ (hinb : ∀ a, (k0_off167 v1 k0_t2) a + S1x128x128.size a ≤ S2x1024x128.size a), (Rect.unit (s := S2x1024x128) (k0_off167 v1 k0_t2) S1x128x128.size hinb).WholeWords (EltTy.packing .fp8e4m3)) ∧
  (∀ k0_t2 : Fin (k0_t2_loop v1).trips, ∀ a, (k0_off168 v1 k0_t2) a + S1x1.size a ≤ S2x2.size a) ∧
  (∀ k0_t2 : Fin (k0_t2_loop v1).trips, ∀ a, (k0_off169 v1 k0_t2) a + S1x128x128.size a ≤ S2x1024x128.size a) ∧
  (∀ k0_t2 : Fin (k0_t2_loop v1).trips, ∀ (hinb : ∀ a, (k0_off169 v1 k0_t2) a + S1x128x128.size a ≤ S2x1024x128.size a), (Rect.unit (s := S2x1024x128) (k0_off169 v1 k0_t2) S1x128x128.size hinb).WholeWords (EltTy.packing .fp8e4m3)) ∧
  (∀ k0_t2 : Fin (k0_t2_loop v1).trips, ∀ a, (k0_off171 v1 k0_t2) a + S1x1.size a ≤ S2x2.size a) ∧
  (∀ k0_t2 : Fin (k0_t2_loop v1).trips, ∀ a, (k0_off172 v1 k0_t2) a + S1x128x128.size a ≤ S2x1024x128.size a) ∧
  (∀ k0_t2 : Fin (k0_t2_loop v1).trips, ∀ (hinb : ∀ a, (k0_off172 v1 k0_t2) a + S1x128x128.size a ≤ S2x1024x128.size a), (Rect.unit (s := S2x1024x128) (k0_off172 v1 k0_t2) S1x128x128.size hinb).WholeWords (EltTy.packing .fp8e4m3)) ∧
  (∀ k0_t2 : Fin (k0_t2_loop v1).trips, ∀ a, (k0_off173 v1 k0_t2) a + S1x1.size a ≤ S2x2.size a) ∧
  (∀ k0_t2 : Fin (k0_t2_loop v1).trips, ∀ a, (k0_off174 v1 k0_t2) a + S1x128x128.size a ≤ S2x1024x128.size a) ∧
  (∀ k0_t2 : Fin (k0_t2_loop v1).trips, ∀ (hinb : ∀ a, (k0_off174 v1 k0_t2) a + S1x128x128.size a ≤ S2x1024x128.size a), (Rect.unit (s := S2x1024x128) (k0_off174 v1 k0_t2) S1x128x128.size hinb).WholeWords (EltTy.packing .fp8e4m3)) ∧
  (∀ k0_t2 : Fin (k0_t2_loop v1).trips, ∀ a, (k0_off176 v1 k0_t2) a + S1x1.size a ≤ S2x2.size a) ∧
  (∀ k0_t2 : Fin (k0_t2_loop v1).trips, ∀ a, (k0_off177 v1 k0_t2) a + S1x128x128.size a ≤ S2x1024x128.size a)
def k0_chk9_6 (i : grid0.Coords) (v1 : BitVec 32) : Prop :=
  (∀ k0_t2 : Fin (k0_t2_loop v1).trips, ∀ (hinb : ∀ a, (k0_off177 v1 k0_t2) a + S1x128x128.size a ≤ S2x1024x128.size a), (Rect.unit (s := S2x1024x128) (k0_off177 v1 k0_t2) S1x128x128.size hinb).WholeWords (EltTy.packing .fp8e4m3)) ∧
  (∀ k0_t2 : Fin (k0_t2_loop v1).trips, ∀ a, (k0_off178 v1 k0_t2) a + S1x1.size a ≤ S2x2.size a) ∧
  (∀ k0_t2 : Fin (k0_t2_loop v1).trips, ∀ a, (k0_off179 v1 k0_t2) a + S1x128x128.size a ≤ S2x1024x128.size a) ∧
  (∀ k0_t2 : Fin (k0_t2_loop v1).trips, ∀ (hinb : ∀ a, (k0_off179 v1 k0_t2) a + S1x128x128.size a ≤ S2x1024x128.size a), (Rect.unit (s := S2x1024x128) (k0_off179 v1 k0_t2) S1x128x128.size hinb).WholeWords (EltTy.packing .fp8e4m3)) ∧
  (∀ k0_t2 : Fin (k0_t2_loop v1).trips, ∀ a, (k0_off181 v1 k0_t2) a + S1x1.size a ≤ S2x2.size a) ∧
  (∀ k0_t2 : Fin (k0_t2_loop v1).trips, ∀ a, (k0_off182 v1 k0_t2) a + S1x128x128.size a ≤ S2x1024x128.size a) ∧
  (∀ k0_t2 : Fin (k0_t2_loop v1).trips, ∀ (hinb : ∀ a, (k0_off182 v1 k0_t2) a + S1x128x128.size a ≤ S2x1024x128.size a), (Rect.unit (s := S2x1024x128) (k0_off182 v1 k0_t2) S1x128x128.size hinb).WholeWords (EltTy.packing .fp8e4m3)) ∧
  (∀ k0_t2 : Fin (k0_t2_loop v1).trips, ∀ a, (k0_off183 v1 k0_t2) a + S1x1024x128.size a ≤ S2x1024x128.size a) ∧
  (∀ (k0_h4 : k0_cond4 v1 = 1#1), ∀ (r : Fin 8), ∀ a, (k0_off184 i v1 (BitVec.ofNat 32 r.val)) a + S1x1.size a ≤ S8x1024.size a) ∧
  (∀ (k0_h4 : k0_cond4 v1 = 1#1), ∀ a, (k0_off185 v1) a + S1x1.size a ≤ S2x2.size a) ∧
  (∀ (k0_h4 : k0_cond4 v1 = 1#1), ∀ a, (k0_off186 v1) a + S1x128x128.size a ≤ S2x1024x128.size a) ∧
  (∀ (k0_h4 : k0_cond4 v1 = 1#1), ∀ (hinb : ∀ a, (k0_off186 v1) a + S1x128x128.size a ≤ S2x1024x128.size a), (Rect.unit (s := S2x1024x128) (k0_off186 v1) S1x128x128.size hinb).WholeWords (EltTy.packing .fp8e4m3)) ∧
  (∀ (k0_h4 : k0_cond4 v1 = 1#1), ∀ a, (k0_off188 v1) a + S1x1.size a ≤ S2x2.size a) ∧
  (∀ (k0_h4 : k0_cond4 v1 = 1#1), ∀ a, (k0_off189 v1) a + S1x128x128.size a ≤ S2x1024x128.size a) ∧
  (∀ (k0_h4 : k0_cond4 v1 = 1#1), ∀ (hinb : ∀ a, (k0_off189 v1) a + S1x128x128.size a ≤ S2x1024x128.size a), (Rect.unit (s := S2x1024x128) (k0_off189 v1) S1x128x128.size hinb).WholeWords (EltTy.packing .fp8e4m3)) ∧
  (∀ (k0_h4 : k0_cond4 v1 = 1#1), ∀ a, (k0_off190 v1) a + S1x1.size a ≤ S2x2.size a) ∧
  (∀ (k0_h4 : k0_cond4 v1 = 1#1), ∀ a, (k0_off191 v1) a + S1x128x128.size a ≤ S2x1024x128.size a) ∧
  (∀ (k0_h4 : k0_cond4 v1 = 1#1), ∀ (hinb : ∀ a, (k0_off191 v1) a + S1x128x128.size a ≤ S2x1024x128.size a), (Rect.unit (s := S2x1024x128) (k0_off191 v1) S1x128x128.size hinb).WholeWords (EltTy.packing .fp8e4m3)) ∧
  (∀ (k0_h4 : k0_cond4 v1 = 1#1), ∀ a, (k0_off193 v1) a + S1x1.size a ≤ S2x2.size a) ∧
  (∀ (k0_h4 : k0_cond4 v1 = 1#1), ∀ a, (k0_off194 v1) a + S1x128x128.size a ≤ S2x1024x128.size a) ∧
  (∀ (k0_h4 : k0_cond4 v1 = 1#1), ∀ (hinb : ∀ a, (k0_off194 v1) a + S1x128x128.size a ≤ S2x1024x128.size a), (Rect.unit (s := S2x1024x128) (k0_off194 v1) S1x128x128.size hinb).WholeWords (EltTy.packing .fp8e4m3)) ∧
  (∀ (k0_h4 : k0_cond4 v1 = 1#1), ∀ a, (k0_off195 v1) a + S1x1.size a ≤ S2x2.size a) ∧
  (∀ (k0_h4 : k0_cond4 v1 = 1#1), ∀ a, (k0_off196 v1) a + S1x128x128.size a ≤ S2x1024x128.size a) ∧
  (∀ (k0_h4 : k0_cond4 v1 = 1#1), ∀ (hinb : ∀ a, (k0_off196 v1) a + S1x128x128.size a ≤ S2x1024x128.size a), (Rect.unit (s := S2x1024x128) (k0_off196 v1) S1x128x128.size hinb).WholeWords (EltTy.packing .fp8e4m3)) ∧
  (∀ (k0_h4 : k0_cond4 v1 = 1#1), ∀ a, (k0_off198 v1) a + S1x1.size a ≤ S2x2.size a) ∧
  (∀ (k0_h4 : k0_cond4 v1 = 1#1), ∀ a, (k0_off199 v1) a + S1x128x128.size a ≤ S2x1024x128.size a) ∧
  (∀ (k0_h4 : k0_cond4 v1 = 1#1), ∀ (hinb : ∀ a, (k0_off199 v1) a + S1x128x128.size a ≤ S2x1024x128.size a), (Rect.unit (s := S2x1024x128) (k0_off199 v1) S1x128x128.size hinb).WholeWords (EltTy.packing .fp8e4m3)) ∧
  (∀ (k0_h4 : k0_cond4 v1 = 1#1), ∀ a, (k0_off200 v1) a + S1x1.size a ≤ S2x2.size a) ∧
  (∀ (k0_h4 : k0_cond4 v1 = 1#1), ∀ a, (k0_off201 v1) a + S1x128x128.size a ≤ S2x1024x128.size a) ∧
  (∀ (k0_h4 : k0_cond4 v1 = 1#1), ∀ (hinb : ∀ a, (k0_off201 v1) a + S1x128x128.size a ≤ S2x1024x128.size a), (Rect.unit (s := S2x1024x128) (k0_off201 v1) S1x128x128.size hinb).WholeWords (EltTy.packing .fp8e4m3)) ∧
  (∀ (k0_h4 : k0_cond4 v1 = 1#1), ∀ a, (k0_off203 v1) a + S1x1.size a ≤ S2x2.size a) ∧
  (∀ (k0_h4 : k0_cond4 v1 = 1#1), ∀ a, (k0_off204 v1) a + S1x128x128.size a ≤ S2x1024x128.size a)
def k0_chk9_7 (i : grid0.Coords) (v1 : BitVec 32) : Prop :=
  (∀ (k0_h4 : k0_cond4 v1 = 1#1), ∀ (hinb : ∀ a, (k0_off204 v1) a + S1x128x128.size a ≤ S2x1024x128.size a), (Rect.unit (s := S2x1024x128) (k0_off204 v1) S1x128x128.size hinb).WholeWords (EltTy.packing .fp8e4m3)) ∧
  (∀ (k0_h4 : k0_cond4 v1 = 1#1), ∀ a, (k0_off205 v1) a + S1x1.size a ≤ S2x2.size a) ∧
  (∀ (k0_h4 : k0_cond4 v1 = 1#1), ∀ a, (k0_off206 v1) a + S1x128x128.size a ≤ S2x1024x128.size a) ∧
  (∀ (k0_h4 : k0_cond4 v1 = 1#1), ∀ (hinb : ∀ a, (k0_off206 v1) a + S1x128x128.size a ≤ S2x1024x128.size a), (Rect.unit (s := S2x1024x128) (k0_off206 v1) S1x128x128.size hinb).WholeWords (EltTy.packing .fp8e4m3)) ∧
  (∀ (k0_h4 : k0_cond4 v1 = 1#1), ∀ a, (k0_off208 v1) a + S1x1.size a ≤ S2x2.size a) ∧
  (∀ (k0_h4 : k0_cond4 v1 = 1#1), ∀ a, (k0_off209 v1) a + S1x128x128.size a ≤ S2x1024x128.size a) ∧
  (∀ (k0_h4 : k0_cond4 v1 = 1#1), ∀ (hinb : ∀ a, (k0_off209 v1) a + S1x128x128.size a ≤ S2x1024x128.size a), (Rect.unit (s := S2x1024x128) (k0_off209 v1) S1x128x128.size hinb).WholeWords (EltTy.packing .fp8e4m3)) ∧
  (∀ (k0_h4 : k0_cond4 v1 = 1#1), ∀ a, (k0_off210 v1) a + S1x1.size a ≤ S2x2.size a) ∧
  (∀ (k0_h4 : k0_cond4 v1 = 1#1), ∀ a, (k0_off211 v1) a + S1x128x128.size a ≤ S2x1024x128.size a) ∧
  (∀ (k0_h4 : k0_cond4 v1 = 1#1), ∀ (hinb : ∀ a, (k0_off211 v1) a + S1x128x128.size a ≤ S2x1024x128.size a), (Rect.unit (s := S2x1024x128) (k0_off211 v1) S1x128x128.size hinb).WholeWords (EltTy.packing .fp8e4m3)) ∧
  (∀ (k0_h4 : k0_cond4 v1 = 1#1), ∀ a, (k0_off213 v1) a + S1x1.size a ≤ S2x2.size a) ∧
  (∀ (k0_h4 : k0_cond4 v1 = 1#1), ∀ a, (k0_off214 v1) a + S1x128x128.size a ≤ S2x1024x128.size a) ∧
  (∀ (k0_h4 : k0_cond4 v1 = 1#1), ∀ (hinb : ∀ a, (k0_off214 v1) a + S1x128x128.size a ≤ S2x1024x128.size a), (Rect.unit (s := S2x1024x128) (k0_off214 v1) S1x128x128.size hinb).WholeWords (EltTy.packing .fp8e4m3)) ∧
  (∀ (k0_h4 : k0_cond4 v1 = 1#1), ∀ a, (k0_off215 v1) a + S1x1.size a ≤ S2x2.size a) ∧
  (∀ (k0_h4 : k0_cond4 v1 = 1#1), ∀ a, (k0_off216 v1) a + S1x128x128.size a ≤ S2x1024x128.size a) ∧
  (∀ (k0_h4 : k0_cond4 v1 = 1#1), ∀ (hinb : ∀ a, (k0_off216 v1) a + S1x128x128.size a ≤ S2x1024x128.size a), (Rect.unit (s := S2x1024x128) (k0_off216 v1) S1x128x128.size hinb).WholeWords (EltTy.packing .fp8e4m3)) ∧
  (∀ (k0_h4 : k0_cond4 v1 = 1#1), ∀ a, (k0_off218 v1) a + S1x1.size a ≤ S2x2.size a) ∧
  (∀ (k0_h4 : k0_cond4 v1 = 1#1), ∀ a, (k0_off219 v1) a + S1x128x128.size a ≤ S2x1024x128.size a) ∧
  (∀ (k0_h4 : k0_cond4 v1 = 1#1), ∀ (hinb : ∀ a, (k0_off219 v1) a + S1x128x128.size a ≤ S2x1024x128.size a), (Rect.unit (s := S2x1024x128) (k0_off219 v1) S1x128x128.size hinb).WholeWords (EltTy.packing .fp8e4m3)) ∧
  (∀ (k0_h4 : k0_cond4 v1 = 1#1), ∀ a, (k0_off220 v1) a + S1x1.size a ≤ S2x2.size a) ∧
  (∀ (k0_h4 : k0_cond4 v1 = 1#1), ∀ a, (k0_off221 v1) a + S1x128x128.size a ≤ S2x1024x128.size a) ∧
  (∀ (k0_h4 : k0_cond4 v1 = 1#1), ∀ (hinb : ∀ a, (k0_off221 v1) a + S1x128x128.size a ≤ S2x1024x128.size a), (Rect.unit (s := S2x1024x128) (k0_off221 v1) S1x128x128.size hinb).WholeWords (EltTy.packing .fp8e4m3)) ∧
  (∀ (k0_h4 : k0_cond4 v1 = 1#1), ∀ a, (k0_off223 v1) a + S1x1.size a ≤ S2x2.size a) ∧
  (∀ (k0_h4 : k0_cond4 v1 = 1#1), ∀ a, (k0_off224 v1) a + S1x128x128.size a ≤ S2x1024x128.size a) ∧
  (∀ (k0_h4 : k0_cond4 v1 = 1#1), ∀ (hinb : ∀ a, (k0_off224 v1) a + S1x128x128.size a ≤ S2x1024x128.size a), (Rect.unit (s := S2x1024x128) (k0_off224 v1) S1x128x128.size hinb).WholeWords (EltTy.packing .fp8e4m3)) ∧
  (∀ (k0_h4 : k0_cond4 v1 = 1#1), ∀ a, (k0_off225 v1) a + S1x1024x128.size a ≤ S2x1024x128.size a)
def k0_chk9 (i : grid0.Coords) (v1 : BitVec 32) : Prop :=
  k0_chk9_0 i v1 ∧
  k0_chk9_1 i v1 ∧
  k0_chk9_2 i v1 ∧
  k0_chk9_3 i v1 ∧
  k0_chk9_4 i v1 ∧
  k0_chk9_5 i v1 ∧
  k0_chk9_6 i v1 ∧
  k0_chk9_7 i v1
theorem k0_t1_ok : ∀ (i : grid0.Coords) (v1 : BitVec 32) (k0_hw9 : k0_chk9 i v1), (k0_t1_loop v1).OK := fun i v1 k0_hw9 => k0_hw9.1.1
theorem k0_off18_inb : ∀ (i : grid0.Coords) (v1 : BitVec 32) (k0_hw9 : k0_chk9 i v1) (k0_t1 : Fin (k0_t1_loop v1).trips), ∀ (k0_h2 : k0_cond2 v1 k0_t1 = 1#1), ∀ (r : Fin 8), ∀ a, (k0_off18 i v1 k0_t1 (BitVec.ofNat 32 r.val)) a + S1x1.size a ≤ S8x1024.size a := fun i v1 k0_hw9 k0_t1 k0_h2 r => k0_hw9.1.2.1 k0_t1 k0_h2 r
theorem k0_off19_inb : ∀ (i : grid0.Coords) (v1 : BitVec 32) (k0_hw9 : k0_chk9 i v1) (k0_t1 : Fin (k0_t1_loop v1).trips), ∀ (k0_h2 : k0_cond2 v1 k0_t1 = 1#1), ∀ a, (k0_off19 v1 k0_t1) a + S1x1.size a ≤ S2x2.size a := fun i v1 k0_hw9 k0_t1 k0_h2 => k0_hw9.1.2.2.1 k0_t1 k0_h2
theorem k0_off20_inb : ∀ (i : grid0.Coords) (v1 : BitVec 32) (k0_hw9 : k0_chk9 i v1) (k0_t1 : Fin (k0_t1_loop v1).trips), ∀ (k0_h2 : k0_cond2 v1 k0_t1 = 1#1), ∀ a, (k0_off20 v1 k0_t1) a + S1x128x128.size a ≤ S2x1024x128.size a := fun i v1 k0_hw9 k0_t1 k0_h2 => k0_hw9.1.2.2.2.1 k0_t1 k0_h2
theorem k0_off20_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off20 v1 k0_t1) S1x128x128.size (k0_off20_inb i v1 k0_hw9 k0_t1 k0_h2)).WholeWords (EltTy.packing .fp8e4m3) := fun i v1 k0_hw9 k0_t1 k0_h2 => k0_hw9.1.2.2.2.2.1 k0_t1 k0_h2 (k0_off20_inb i v1 k0_hw9 k0_t1 k0_h2)
theorem k0_off22_inb : ∀ (i : grid0.Coords) (v1 : BitVec 32) (k0_hw9 : k0_chk9 i v1) (k0_t1 : Fin (k0_t1_loop v1).trips), ∀ (k0_h2 : k0_cond2 v1 k0_t1 = 1#1), ∀ a, (k0_off22 v1 k0_t1) a + S1x1.size a ≤ S2x2.size a := fun i v1 k0_hw9 k0_t1 k0_h2 => k0_hw9.1.2.2.2.2.2.1 k0_t1 k0_h2
theorem k0_off23_inb : ∀ (i : grid0.Coords) (v1 : BitVec 32) (k0_hw9 : k0_chk9 i v1) (k0_t1 : Fin (k0_t1_loop v1).trips), ∀ (k0_h2 : k0_cond2 v1 k0_t1 = 1#1), ∀ a, (k0_off23 v1 k0_t1) a + S1x128x128.size a ≤ S2x1024x128.size a := fun i v1 k0_hw9 k0_t1 k0_h2 => k0_hw9.1.2.2.2.2.2.2.1 k0_t1 k0_h2
theorem k0_off23_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off23 v1 k0_t1) S1x128x128.size (k0_off23_inb i v1 k0_hw9 k0_t1 k0_h2)).WholeWords (EltTy.packing .fp8e4m3) := fun i v1 k0_hw9 k0_t1 k0_h2 => k0_hw9.1.2.2.2.2.2.2.2.1 k0_t1 k0_h2 (k0_off23_inb i v1 k0_hw9 k0_t1 k0_h2)
theorem k0_off24_inb : ∀ (i : grid0.Coords) (v1 : BitVec 32) (k0_hw9 : k0_chk9 i v1) (k0_t1 : Fin (k0_t1_loop v1).trips), ∀ (k0_h2 : k0_cond2 v1 k0_t1 = 1#1), ∀ a, (k0_off24 v1 k0_t1) a + S1x1.size a ≤ S2x2.size a := fun i v1 k0_hw9 k0_t1 k0_h2 => k0_hw9.1.2.2.2.2.2.2.2.2.1 k0_t1 k0_h2
theorem k0_off25_inb : ∀ (i : grid0.Coords) (v1 : BitVec 32) (k0_hw9 : k0_chk9 i v1) (k0_t1 : Fin (k0_t1_loop v1).trips), ∀ (k0_h2 : k0_cond2 v1 k0_t1 = 1#1), ∀ a, (k0_off25 v1 k0_t1) a + S1x128x128.size a ≤ S2x1024x128.size a := fun i v1 k0_hw9 k0_t1 k0_h2 => k0_hw9.1.2.2.2.2.2.2.2.2.2.1 k0_t1 k0_h2
theorem k0_off25_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off25 v1 k0_t1) S1x128x128.size (k0_off25_inb i v1 k0_hw9 k0_t1 k0_h2)).WholeWords (EltTy.packing .fp8e4m3) := fun i v1 k0_hw9 k0_t1 k0_h2 => k0_hw9.1.2.2.2.2.2.2.2.2.2.2.1 k0_t1 k0_h2 (k0_off25_inb i v1 k0_hw9 k0_t1 k0_h2)
theorem k0_off27_inb : ∀ (i : grid0.Coords) (v1 : BitVec 32) (k0_hw9 : k0_chk9 i v1) (k0_t1 : Fin (k0_t1_loop v1).trips), ∀ (k0_h2 : k0_cond2 v1 k0_t1 = 1#1), ∀ a, (k0_off27 v1 k0_t1) a + S1x1.size a ≤ S2x2.size a := fun i v1 k0_hw9 k0_t1 k0_h2 => k0_hw9.1.2.2.2.2.2.2.2.2.2.2.2.1 k0_t1 k0_h2
theorem k0_off28_inb : ∀ (i : grid0.Coords) (v1 : BitVec 32) (k0_hw9 : k0_chk9 i v1) (k0_t1 : Fin (k0_t1_loop v1).trips), ∀ (k0_h2 : k0_cond2 v1 k0_t1 = 1#1), ∀ a, (k0_off28 v1 k0_t1) a + S1x128x128.size a ≤ S2x1024x128.size a := fun i v1 k0_hw9 k0_t1 k0_h2 => k0_hw9.1.2.2.2.2.2.2.2.2.2.2.2.2.1 k0_t1 k0_h2
theorem k0_off28_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off28 v1 k0_t1) S1x128x128.size (k0_off28_inb i v1 k0_hw9 k0_t1 k0_h2)).WholeWords (EltTy.packing .fp8e4m3) := fun i v1 k0_hw9 k0_t1 k0_h2 => k0_hw9.1.2.2.2.2.2.2.2.2.2.2.2.2.2.1 k0_t1 k0_h2 (k0_off28_inb i v1 k0_hw9 k0_t1 k0_h2)
theorem k0_off29_inb : ∀ (i : grid0.Coords) (v1 : BitVec 32) (k0_hw9 : k0_chk9 i v1) (k0_t1 : Fin (k0_t1_loop v1).trips), ∀ (k0_h2 : k0_cond2 v1 k0_t1 = 1#1), ∀ a, (k0_off29 v1 k0_t1) a + S1x1.size a ≤ S2x2.size a := fun i v1 k0_hw9 k0_t1 k0_h2 => k0_hw9.1.2.2.2.2.2.2.2.2.2.2.2.2.2.2.1 k0_t1 k0_h2
theorem k0_off30_inb : ∀ (i : grid0.Coords) (v1 : BitVec 32) (k0_hw9 : k0_chk9 i v1) (k0_t1 : Fin (k0_t1_loop v1).trips), ∀ (k0_h2 : k0_cond2 v1 k0_t1 = 1#1), ∀ a, (k0_off30 v1 k0_t1) a + S1x128x128.size a ≤ S2x1024x128.size a := fun i v1 k0_hw9 k0_t1 k0_h2 => k0_hw9.1.2.2.2.2.2.2.2.2.2.2.2.2.2.2.2.1 k0_t1 k0_h2
theorem k0_off30_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off30 v1 k0_t1) S1x128x128.size (k0_off30_inb i v1 k0_hw9 k0_t1 k0_h2)).WholeWords (EltTy.packing .fp8e4m3) := fun i v1 k0_hw9 k0_t1 k0_h2 => k0_hw9.1.2.2.2.2.2.2.2.2.2.2.2.2.2.2.2.2.1 k0_t1 k0_h2 (k0_off30_inb i v1 k0_hw9 k0_t1 k0_h2)
theorem k0_off32_inb : ∀ (i : grid0.Coords) (v1 : BitVec 32) (k0_hw9 : k0_chk9 i v1) (k0_t1 : Fin (k0_t1_loop v1).trips), ∀ (k0_h2 : k0_cond2 v1 k0_t1 = 1#1), ∀ a, (k0_off32 v1 k0_t1) a + S1x1.size a ≤ S2x2.size a := fun i v1 k0_hw9 k0_t1 k0_h2 => k0_hw9.1.2.2.2.2.2.2.2.2.2.2.2.2.2.2.2.2.2.1 k0_t1 k0_h2
theorem k0_off33_inb : ∀ (i : grid0.Coords) (v1 : BitVec 32) (k0_hw9 : k0_chk9 i v1) (k0_t1 : Fin (k0_t1_loop v1).trips), ∀ (k0_h2 : k0_cond2 v1 k0_t1 = 1#1), ∀ a, (k0_off33 v1 k0_t1) a + S1x128x128.size a ≤ S2x1024x128.size a := fun i v1 k0_hw9 k0_t1 k0_h2 => k0_hw9.1.2.2.2.2.2.2.2.2.2.2.2.2.2.2.2.2.2.2.1 k0_t1 k0_h2
theorem k0_off33_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off33 v1 k0_t1) S1x128x128.size (k0_off33_inb i v1 k0_hw9 k0_t1 k0_h2)).WholeWords (EltTy.packing .fp8e4m3) := fun i v1 k0_hw9 k0_t1 k0_h2 => k0_hw9.1.2.2.2.2.2.2.2.2.2.2.2.2.2.2.2.2.2.2.2.1 k0_t1 k0_h2 (k0_off33_inb i v1 k0_hw9 k0_t1 k0_h2)
theorem k0_off34_inb : ∀ (i : grid0.Coords) (v1 : BitVec 32) (k0_hw9 : k0_chk9 i v1) (k0_t1 : Fin (k0_t1_loop v1).trips), ∀ (k0_h2 : k0_cond2 v1 k0_t1 = 1#1), ∀ a, (k0_off34 v1 k0_t1) a + S1x1.size a ≤ S2x2.size a := fun i v1 k0_hw9 k0_t1 k0_h2 => k0_hw9.1.2.2.2.2.2.2.2.2.2.2.2.2.2.2.2.2.2.2.2.2.1 k0_t1 k0_h2
theorem k0_off35_inb : ∀ (i : grid0.Coords) (v1 : BitVec 32) (k0_hw9 : k0_chk9 i v1) (k0_t1 : Fin (k0_t1_loop v1).trips), ∀ (k0_h2 : k0_cond2 v1 k0_t1 = 1#1), ∀ a, (k0_off35 v1 k0_t1) a + S1x128x128.size a ≤ S2x1024x128.size a := fun i v1 k0_hw9 k0_t1 k0_h2 => k0_hw9.1.2.2.2.2.2.2.2.2.2.2.2.2.2.2.2.2.2.2.2.2.2.1 k0_t1 k0_h2
theorem k0_off35_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off35 v1 k0_t1) S1x128x128.size (k0_off35_inb i v1 k0_hw9 k0_t1 k0_h2)).WholeWords (EltTy.packing .fp8e4m3) := fun i v1 k0_hw9 k0_t1 k0_h2 => k0_hw9.1.2.2.2.2.2.2.2.2.2.2.2.2.2.2.2.2.2.2.2.2.2.2.1 k0_t1 k0_h2 (k0_off35_inb i v1 k0_hw9 k0_t1 k0_h2)
theorem k0_off37_inb : ∀ (i : grid0.Coords) (v1 : BitVec 32) (k0_hw9 : k0_chk9 i v1) (k0_t1 : Fin (k0_t1_loop v1).trips), ∀ (k0_h2 : k0_cond2 v1 k0_t1 = 1#1), ∀ a, (k0_off37 v1 k0_t1) a + S1x1.size a ≤ S2x2.size a := fun i v1 k0_hw9 k0_t1 k0_h2 => k0_hw9.1.2.2.2.2.2.2.2.2.2.2.2.2.2.2.2.2.2.2.2.2.2.2.2.1 k0_t1 k0_h2
theorem k0_off38_inb : ∀ (i : grid0.Coords) (v1 : BitVec 32) (k0_hw9 : k0_chk9 i v1) (k0_t1 : Fin (k0_t1_loop v1).trips), ∀ (k0_h2 : k0_cond2 v1 k0_t1 = 1#1), ∀ a, (k0_off38 v1 k0_t1) a + S1x128x128.size a ≤ S2x1024x128.size a := fun i v1 k0_hw9 k0_t1 k0_h2 => k0_hw9.1.2.2.2.2.2.2.2.2.2.2.2.2.2.2.2.2.2.2.2.2.2.2.2.2.1 k0_t1 k0_h2
theorem k0_off38_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off38 v1 k0_t1) S1x128x128.size (k0_off38_inb i v1 k0_hw9 k0_t1 k0_h2)).WholeWords (EltTy.packing .fp8e4m3) := fun i v1 k0_hw9 k0_t1 k0_h2 => k0_hw9.1.2.2.2.2.2.2.2.2.2.2.2.2.2.2.2.2.2.2.2.2.2.2.2.2.2.1 k0_t1 k0_h2 (k0_off38_inb i v1 k0_hw9 k0_t1 k0_h2)
theorem k0_off39_inb : ∀ (i : grid0.Coords) (v1 : BitVec 32) (k0_hw9 : k0_chk9 i v1) (k0_t1 : Fin (k0_t1_loop v1).trips), ∀ (k0_h2 : k0_cond2 v1 k0_t1 = 1#1), ∀ a, (k0_off39 v1 k0_t1) a + S1x1.size a ≤ S2x2.size a := fun i v1 k0_hw9 k0_t1 k0_h2 => k0_hw9.1.2.2.2.2.2.2.2.2.2.2.2.2.2.2.2.2.2.2.2.2.2.2.2.2.2.2.1 k0_t1 k0_h2
theorem k0_off40_inb : ∀ (i : grid0.Coords) (v1 : BitVec 32) (k0_hw9 : k0_chk9 i v1) (k0_t1 : Fin (k0_t1_loop v1).trips), ∀ (k0_h2 : k0_cond2 v1 k0_t1 = 1#1), ∀ a, (k0_off40 v1 k0_t1) a + S1x128x128.size a ≤ S2x1024x128.size a := fun i v1 k0_hw9 k0_t1 k0_h2 => k0_hw9.1.2.2.2.2.2.2.2.2.2.2.2.2.2.2.2.2.2.2.2.2.2.2.2.2.2.2.2.1 k0_t1 k0_h2
theorem k0_off40_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off40 v1 k0_t1) S1x128x128.size (k0_off40_inb i v1 k0_hw9 k0_t1 k0_h2)).WholeWords (EltTy.packing .fp8e4m3) := fun i v1 k0_hw9 k0_t1 k0_h2 => k0_hw9.1.2.2.2.2.2.2.2.2.2.2.2.2.2.2.2.2.2.2.2.2.2.2.2.2.2.2.2.2.1 k0_t1 k0_h2 (k0_off40_inb i v1 k0_hw9 k0_t1 k0_h2)
theorem k0_off42_inb : ∀ (i : grid0.Coords) (v1 : BitVec 32) (k0_hw9 : k0_chk9 i v1) (k0_t1 : Fin (k0_t1_loop v1).trips), ∀ (k0_h2 : k0_cond2 v1 k0_t1 = 1#1), ∀ a, (k0_off42 v1 k0_t1) a + S1x1.size a ≤ S2x2.size a := fun i v1 k0_hw9 k0_t1 k0_h2 => k0_hw9.1.2.2.2.2.2.2.2.2.2.2.2.2.2.2.2.2.2.2.2.2.2.2.2.2.2.2.2.2.2.1 k0_t1 k0_h2
theorem k0_off43_inb : ∀ (i : grid0.Coords) (v1 : BitVec 32) (k0_hw9 : k0_chk9 i v1) (k0_t1 : Fin (k0_t1_loop v1).trips), ∀ (k0_h2 : k0_cond2 v1 k0_t1 = 1#1), ∀ a, (k0_off43 v1 k0_t1) a + S1x128x128.size a ≤ S2x1024x128.size a := fun i v1 k0_hw9 k0_t1 k0_h2 => k0_hw9.1.2.2.2.2.2.2.2.2.2.2.2.2.2.2.2.2.2.2.2.2.2.2.2.2.2.2.2.2.2.2.1 k0_t1 k0_h2
theorem k0_off43_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off43 v1 k0_t1) S1x128x128.size (k0_off43_inb i v1 k0_hw9 k0_t1 k0_h2)).WholeWords (EltTy.packing .fp8e4m3) := fun i v1 k0_hw9 k0_t1 k0_h2 => k0_hw9.1.2.2.2.2.2.2.2.2.2.2.2.2.2.2.2.2.2.2.2.2.2.2.2.2.2.2.2.2.2.2.2 k0_t1 k0_h2 (k0_off43_inb i v1 k0_hw9 k0_t1 k0_h2)
theorem k0_off44_inb : ∀ (i : grid0.Coords) (v1 : BitVec 32) (k0_hw9 : k0_chk9 i v1) (k0_t1 : Fin (k0_t1_loop v1).trips), ∀ (k0_h2 : k0_cond2 v1 k0_t1 = 1#1), ∀ a, (k0_off44 v1 k0_t1) a + S1x1.size a ≤ S2x2.size a := fun i v1 k0_hw9 k0_t1 k0_h2 => k0_hw9.2.1.1 k0_t1 k0_h2
theorem k0_off45_inb : ∀ (i : grid0.Coords) (v1 : BitVec 32) (k0_hw9 : k0_chk9 i v1) (k0_t1 : Fin (k0_t1_loop v1).trips), ∀ (k0_h2 : k0_cond2 v1 k0_t1 = 1#1), ∀ a, (k0_off45 v1 k0_t1) a + S1x128x128.size a ≤ S2x1024x128.size a := fun i v1 k0_hw9 k0_t1 k0_h2 => k0_hw9.2.1.2.1 k0_t1 k0_h2
theorem k0_off45_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off45 v1 k0_t1) S1x128x128.size (k0_off45_inb i v1 k0_hw9 k0_t1 k0_h2)).WholeWords (EltTy.packing .fp8e4m3) := fun i v1 k0_hw9 k0_t1 k0_h2 => k0_hw9.2.1.2.2.1 k0_t1 k0_h2 (k0_off45_inb i v1 k0_hw9 k0_t1 k0_h2)
theorem k0_off47_inb : ∀ (i : grid0.Coords) (v1 : BitVec 32) (k0_hw9 : k0_chk9 i v1) (k0_t1 : Fin (k0_t1_loop v1).trips), ∀ (k0_h2 : k0_cond2 v1 k0_t1 = 1#1), ∀ a, (k0_off47 v1 k0_t1) a + S1x1.size a ≤ S2x2.size a := fun i v1 k0_hw9 k0_t1 k0_h2 => k0_hw9.2.1.2.2.2.1 k0_t1 k0_h2
theorem k0_off48_inb : ∀ (i : grid0.Coords) (v1 : BitVec 32) (k0_hw9 : k0_chk9 i v1) (k0_t1 : Fin (k0_t1_loop v1).trips), ∀ (k0_h2 : k0_cond2 v1 k0_t1 = 1#1), ∀ a, (k0_off48 v1 k0_t1) a + S1x128x128.size a ≤ S2x1024x128.size a := fun i v1 k0_hw9 k0_t1 k0_h2 => k0_hw9.2.1.2.2.2.2.1 k0_t1 k0_h2
theorem k0_off48_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off48 v1 k0_t1) S1x128x128.size (k0_off48_inb i v1 k0_hw9 k0_t1 k0_h2)).WholeWords (EltTy.packing .fp8e4m3) := fun i v1 k0_hw9 k0_t1 k0_h2 => k0_hw9.2.1.2.2.2.2.2.1 k0_t1 k0_h2 (k0_off48_inb i v1 k0_hw9 k0_t1 k0_h2)
theorem k0_off49_inb : ∀ (i : grid0.Coords) (v1 : BitVec 32) (k0_hw9 : k0_chk9 i v1) (k0_t1 : Fin (k0_t1_loop v1).trips), ∀ (k0_h2 : k0_cond2 v1 k0_t1 = 1#1), ∀ a, (k0_off49 v1 k0_t1) a + S1x1.size a ≤ S2x2.size a := fun i v1 k0_hw9 k0_t1 k0_h2 => k0_hw9.2.1.2.2.2.2.2.2.1 k0_t1 k0_h2
theorem k0_off50_inb : ∀ (i : grid0.Coords) (v1 : BitVec 32) (k0_hw9 : k0_chk9 i v1) (k0_t1 : Fin (k0_t1_loop v1).trips), ∀ (k0_h2 : k0_cond2 v1 k0_t1 = 1#1), ∀ a, (k0_off50 v1 k0_t1) a + S1x128x128.size a ≤ S2x1024x128.size a := fun i v1 k0_hw9 k0_t1 k0_h2 => k0_hw9.2.1.2.2.2.2.2.2.2.1 k0_t1 k0_h2
theorem k0_off50_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off50 v1 k0_t1) S1x128x128.size (k0_off50_inb i v1 k0_hw9 k0_t1 k0_h2)).WholeWords (EltTy.packing .fp8e4m3) := fun i v1 k0_hw9 k0_t1 k0_h2 => k0_hw9.2.1.2.2.2.2.2.2.2.2.1 k0_t1 k0_h2 (k0_off50_inb i v1 k0_hw9 k0_t1 k0_h2)
theorem k0_off52_inb : ∀ (i : grid0.Coords) (v1 : BitVec 32) (k0_hw9 : k0_chk9 i v1) (k0_t1 : Fin (k0_t1_loop v1).trips), ∀ (k0_h2 : k0_cond2 v1 k0_t1 = 1#1), ∀ a, (k0_off52 v1 k0_t1) a + S1x1.size a ≤ S2x2.size a := fun i v1 k0_hw9 k0_t1 k0_h2 => k0_hw9.2.1.2.2.2.2.2.2.2.2.2.1 k0_t1 k0_h2
theorem k0_off53_inb : ∀ (i : grid0.Coords) (v1 : BitVec 32) (k0_hw9 : k0_chk9 i v1) (k0_t1 : Fin (k0_t1_loop v1).trips), ∀ (k0_h2 : k0_cond2 v1 k0_t1 = 1#1), ∀ a, (k0_off53 v1 k0_t1) a + S1x128x128.size a ≤ S2x1024x128.size a := fun i v1 k0_hw9 k0_t1 k0_h2 => k0_hw9.2.1.2.2.2.2.2.2.2.2.2.2.1 k0_t1 k0_h2
theorem k0_off53_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off53 v1 k0_t1) S1x128x128.size (k0_off53_inb i v1 k0_hw9 k0_t1 k0_h2)).WholeWords (EltTy.packing .fp8e4m3) := fun i v1 k0_hw9 k0_t1 k0_h2 => k0_hw9.2.1.2.2.2.2.2.2.2.2.2.2.2.1 k0_t1 k0_h2 (k0_off53_inb i v1 k0_hw9 k0_t1 k0_h2)
theorem k0_off54_inb : ∀ (i : grid0.Coords) (v1 : BitVec 32) (k0_hw9 : k0_chk9 i v1) (k0_t1 : Fin (k0_t1_loop v1).trips), ∀ (k0_h2 : k0_cond2 v1 k0_t1 = 1#1), ∀ a, (k0_off54 v1 k0_t1) a + S1x1.size a ≤ S2x2.size a := fun i v1 k0_hw9 k0_t1 k0_h2 => k0_hw9.2.1.2.2.2.2.2.2.2.2.2.2.2.2.1 k0_t1 k0_h2
theorem k0_off55_inb : ∀ (i : grid0.Coords) (v1 : BitVec 32) (k0_hw9 : k0_chk9 i v1) (k0_t1 : Fin (k0_t1_loop v1).trips), ∀ (k0_h2 : k0_cond2 v1 k0_t1 = 1#1), ∀ a, (k0_off55 v1 k0_t1) a + S1x128x128.size a ≤ S2x1024x128.size a := fun i v1 k0_hw9 k0_t1 k0_h2 => k0_hw9.2.1.2.2.2.2.2.2.2.2.2.2.2.2.2.1 k0_t1 k0_h2
theorem k0_off55_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off55 v1 k0_t1) S1x128x128.size (k0_off55_inb i v1 k0_hw9 k0_t1 k0_h2)).WholeWords (EltTy.packing .fp8e4m3) := fun i v1 k0_hw9 k0_t1 k0_h2 => k0_hw9.2.1.2.2.2.2.2.2.2.2.2.2.2.2.2.2.1 k0_t1 k0_h2 (k0_off55_inb i v1 k0_hw9 k0_t1 k0_h2)
theorem k0_off57_inb : ∀ (i : grid0.Coords) (v1 : BitVec 32) (k0_hw9 : k0_chk9 i v1) (k0_t1 : Fin (k0_t1_loop v1).trips), ∀ (k0_h2 : k0_cond2 v1 k0_t1 = 1#1), ∀ a, (k0_off57 v1 k0_t1) a + S1x1.size a ≤ S2x2.size a := fun i v1 k0_hw9 k0_t1 k0_h2 => k0_hw9.2.1.2.2.2.2.2.2.2.2.2.2.2.2.2.2.2.1 k0_t1 k0_h2
theorem k0_off58_inb : ∀ (i : grid0.Coords) (v1 : BitVec 32) (k0_hw9 : k0_chk9 i v1) (k0_t1 : Fin (k0_t1_loop v1).trips), ∀ (k0_h2 : k0_cond2 v1 k0_t1 = 1#1), ∀ a, (k0_off58 v1 k0_t1) a + S1x128x128.size a ≤ S2x1024x128.size a := fun i v1 k0_hw9 k0_t1 k0_h2 => k0_hw9.2.1.2.2.2.2.2.2.2.2.2.2.2.2.2.2.2.2.1 k0_t1 k0_h2
theorem k0_off58_wordsfp8e4m3 : ∀ (i : grid0.Coords) (v1 : BitVec 32) (k0_hw9 : k0_chk9 i v1) (k0_t1 : Fin (k0_t1_loop v1).trips), ∀ (k0_h2 : k0_cond2 v1 k0_t1 = 1#1), (Rect.unit (s := S2x1024x128) (k0_off58 v1 k0_t1) S1x128x128.size (k0_off58_inb i v1 k0_hw9 k0_t1 k0_h2)).WholeWords (EltTy.packing .fp8e4m3) := fun i v1 k0_hw9 k0_t1 k0_h2 => k0_hw9.2.1.2.2.2.2.2.2.2.2.2.2.2.2.2.2.2.2.2.1 k0_t1 k0_h2 (k0_off58_inb i v1 k0_hw9 k0_t1 k0_h2)
theorem k0_off59_inb : ∀ (i : grid0.Coords) (v1 : BitVec 32) (k0_hw9 : k0_chk9 i v1) (k0_t1 : Fin (k0_t1_loop v1).trips), ∀ (r : Fin 8), ∀ a, (k0_off59 i v1 k0_t1 (BitVec.ofNat 32 r.val)) a + S1x1.size a ≤ S8x1024.size a := fun i v1 k0_hw9 k0_t1 r => k0_hw9.2.1.2.2.2.2.2.2.2.2.2.2.2.2.2.2.2.2.2.2.1 k0_t1 r
theorem k0_off60_inb : ∀ (i : grid0.Coords) (v1 : BitVec 32) (k0_hw9 : k0_chk9 i v1) (k0_t1 : Fin (k0_t1_loop v1).trips), ∀ a, (k0_off60 v1 k0_t1) a + S1x1.size a ≤ S2x2.size a := fun i v1 k0_hw9 k0_t1 => k0_hw9.2.1.2.2.2.2.2.2.2.2.2.2.2.2.2.2.2.2.2.2.2.1 k0_t1
theorem k0_off61_inb : ∀ (i : grid0.Coords) (v1 : BitVec 32) (k0_hw9 : k0_chk9 i v1) (k0_t1 : Fin (k0_t1_loop v1).trips), ∀ a, (k0_off61 v1 k0_t1) a + S1x128x128.size a ≤ S2x1024x128.size a := fun i v1 k0_hw9 k0_t1 => k0_hw9.2.1.2.2.2.2.2.2.2.2.2.2.2.2.2.2.2.2.2.2.2.2.1 k0_t1
theorem k0_off61_wordsfp8e4m3 : ∀ (i : grid0.Coords) (v1 : BitVec 32) (k0_hw9 : k0_chk9 i v1) (k0_t1 : Fin (k0_t1_loop v1).trips), (Rect.unit (s := S2x1024x128) (k0_off61 v1 k0_t1) S1x128x128.size (k0_off61_inb i v1 k0_hw9 k0_t1)).WholeWords (EltTy.packing .fp8e4m3) := fun i v1 k0_hw9 k0_t1 => k0_hw9.2.1.2.2.2.2.2.2.2.2.2.2.2.2.2.2.2.2.2.2.2.2.2.1 k0_t1 (k0_off61_inb i v1 k0_hw9 k0_t1)
theorem k0_off63_inb : ∀ (i : grid0.Coords) (v1 : BitVec 32) (k0_hw9 : k0_chk9 i v1) (k0_t1 : Fin (k0_t1_loop v1).trips), ∀ a, (k0_off63 v1 k0_t1) a + S1x1.size a ≤ S2x2.size a := fun i v1 k0_hw9 k0_t1 => k0_hw9.2.1.2.2.2.2.2.2.2.2.2.2.2.2.2.2.2.2.2.2.2.2.2.2.1 k0_t1
theorem k0_off64_inb : ∀ (i : grid0.Coords) (v1 : BitVec 32) (k0_hw9 : k0_chk9 i v1) (k0_t1 : Fin (k0_t1_loop v1).trips), ∀ a, (k0_off64 v1 k0_t1) a + S1x128x128.size a ≤ S2x1024x128.size a := fun i v1 k0_hw9 k0_t1 => k0_hw9.2.1.2.2.2.2.2.2.2.2.2.2.2.2.2.2.2.2.2.2.2.2.2.2.2.1 k0_t1
theorem k0_off64_wordsfp8e4m3 : ∀ (i : grid0.Coords) (v1 : BitVec 32) (k0_hw9 : k0_chk9 i v1) (k0_t1 : Fin (k0_t1_loop v1).trips), (Rect.unit (s := S2x1024x128) (k0_off64 v1 k0_t1) S1x128x128.size (k0_off64_inb i v1 k0_hw9 k0_t1)).WholeWords (EltTy.packing .fp8e4m3) := fun i v1 k0_hw9 k0_t1 => k0_hw9.2.1.2.2.2.2.2.2.2.2.2.2.2.2.2.2.2.2.2.2.2.2.2.2.2.2.1 k0_t1 (k0_off64_inb i v1 k0_hw9 k0_t1)
theorem k0_off65_inb : ∀ (i : grid0.Coords) (v1 : BitVec 32) (k0_hw9 : k0_chk9 i v1) (k0_t1 : Fin (k0_t1_loop v1).trips), ∀ a, (k0_off65 v1 k0_t1) a + S1x1.size a ≤ S2x2.size a := fun i v1 k0_hw9 k0_t1 => k0_hw9.2.1.2.2.2.2.2.2.2.2.2.2.2.2.2.2.2.2.2.2.2.2.2.2.2.2.2.1 k0_t1
theorem k0_off66_inb : ∀ (i : grid0.Coords) (v1 : BitVec 32) (k0_hw9 : k0_chk9 i v1) (k0_t1 : Fin (k0_t1_loop v1).trips), ∀ a, (k0_off66 v1 k0_t1) a + S1x128x128.size a ≤ S2x1024x128.size a := fun i v1 k0_hw9 k0_t1 => k0_hw9.2.1.2.2.2.2.2.2.2.2.2.2.2.2.2.2.2.2.2.2.2.2.2.2.2.2.2.2.1 k0_t1
theorem k0_off66_wordsfp8e4m3 : ∀ (i : grid0.Coords) (v1 : BitVec 32) (k0_hw9 : k0_chk9 i v1) (k0_t1 : Fin (k0_t1_loop v1).trips), (Rect.unit (s := S2x1024x128) (k0_off66 v1 k0_t1) S1x128x128.size (k0_off66_inb i v1 k0_hw9 k0_t1)).WholeWords (EltTy.packing .fp8e4m3) := fun i v1 k0_hw9 k0_t1 => k0_hw9.2.1.2.2.2.2.2.2.2.2.2.2.2.2.2.2.2.2.2.2.2.2.2.2.2.2.2.2.2.1 k0_t1 (k0_off66_inb i v1 k0_hw9 k0_t1)
theorem k0_off68_inb : ∀ (i : grid0.Coords) (v1 : BitVec 32) (k0_hw9 : k0_chk9 i v1) (k0_t1 : Fin (k0_t1_loop v1).trips), ∀ a, (k0_off68 v1 k0_t1) a + S1x1.size a ≤ S2x2.size a := fun i v1 k0_hw9 k0_t1 => k0_hw9.2.1.2.2.2.2.2.2.2.2.2.2.2.2.2.2.2.2.2.2.2.2.2.2.2.2.2.2.2.2.1 k0_t1
theorem k0_off69_inb : ∀ (i : grid0.Coords) (v1 : BitVec 32) (k0_hw9 : k0_chk9 i v1) (k0_t1 : Fin (k0_t1_loop v1).trips), ∀ a, (k0_off69 v1 k0_t1) a + S1x128x128.size a ≤ S2x1024x128.size a := fun i v1 k0_hw9 k0_t1 => k0_hw9.2.1.2.2.2.2.2.2.2.2.2.2.2.2.2.2.2.2.2.2.2.2.2.2.2.2.2.2.2.2.2.1 k0_t1
theorem k0_off69_wordsfp8e4m3 : ∀ (i : grid0.Coords) (v1 : BitVec 32) (k0_hw9 : k0_chk9 i v1) (k0_t1 : Fin (k0_t1_loop v1).trips), (Rect.unit (s := S2x1024x128) (k0_off69 v1 k0_t1) S1x128x128.size (k0_off69_inb i v1 k0_hw9 k0_t1)).WholeWords (EltTy.packing .fp8e4m3) := fun i v1 k0_hw9 k0_t1 => k0_hw9.2.1.2.2.2.2.2.2.2.2.2.2.2.2.2.2.2.2.2.2.2.2.2.2.2.2.2.2.2.2.2.2.1 k0_t1 (k0_off69_inb i v1 k0_hw9 k0_t1)
theorem k0_off70_inb : ∀ (i : grid0.Coords) (v1 : BitVec 32) (k0_hw9 : k0_chk9 i v1) (k0_t1 : Fin (k0_t1_loop v1).trips), ∀ a, (k0_off70 v1 k0_t1) a + S1x1.size a ≤ S2x2.size a := fun i v1 k0_hw9 k0_t1 => k0_hw9.2.1.2.2.2.2.2.2.2.2.2.2.2.2.2.2.2.2.2.2.2.2.2.2.2.2.2.2.2.2.2.2.2 k0_t1
theorem k0_off71_inb : ∀ (i : grid0.Coords) (v1 : BitVec 32) (k0_hw9 : k0_chk9 i v1) (k0_t1 : Fin (k0_t1_loop v1).trips), ∀ a, (k0_off71 v1 k0_t1) a + S1x128x128.size a ≤ S2x1024x128.size a := fun i v1 k0_hw9 k0_t1 => k0_hw9.2.2.1.1 k0_t1
theorem k0_off71_wordsfp8e4m3 : ∀ (i : grid0.Coords) (v1 : BitVec 32) (k0_hw9 : k0_chk9 i v1) (k0_t1 : Fin (k0_t1_loop v1).trips), (Rect.unit (s := S2x1024x128) (k0_off71 v1 k0_t1) S1x128x128.size (k0_off71_inb i v1 k0_hw9 k0_t1)).WholeWords (EltTy.packing .fp8e4m3) := fun i v1 k0_hw9 k0_t1 => k0_hw9.2.2.1.2.1 k0_t1 (k0_off71_inb i v1 k0_hw9 k0_t1)
theorem k0_off73_inb : ∀ (i : grid0.Coords) (v1 : BitVec 32) (k0_hw9 : k0_chk9 i v1) (k0_t1 : Fin (k0_t1_loop v1).trips), ∀ a, (k0_off73 v1 k0_t1) a + S1x1.size a ≤ S2x2.size a := fun i v1 k0_hw9 k0_t1 => k0_hw9.2.2.1.2.2.1 k0_t1
theorem k0_off74_inb : ∀ (i : grid0.Coords) (v1 : BitVec 32) (k0_hw9 : k0_chk9 i v1) (k0_t1 : Fin (k0_t1_loop v1).trips), ∀ a, (k0_off74 v1 k0_t1) a + S1x128x128.size a ≤ S2x1024x128.size a := fun i v1 k0_hw9 k0_t1 => k0_hw9.2.2.1.2.2.2.1 k0_t1
theorem k0_off74_wordsfp8e4m3 : ∀ (i : grid0.Coords) (v1 : BitVec 32) (k0_hw9 : k0_chk9 i v1) (k0_t1 : Fin (k0_t1_loop v1).trips), (Rect.unit (s := S2x1024x128) (k0_off74 v1 k0_t1) S1x128x128.size (k0_off74_inb i v1 k0_hw9 k0_t1)).WholeWords (EltTy.packing .fp8e4m3) := fun i v1 k0_hw9 k0_t1 => k0_hw9.2.2.1.2.2.2.2.1 k0_t1 (k0_off74_inb i v1 k0_hw9 k0_t1)
theorem k0_off75_inb : ∀ (i : grid0.Coords) (v1 : BitVec 32) (k0_hw9 : k0_chk9 i v1) (k0_t1 : Fin (k0_t1_loop v1).trips), ∀ a, (k0_off75 v1 k0_t1) a + S1x1.size a ≤ S2x2.size a := fun i v1 k0_hw9 k0_t1 => k0_hw9.2.2.1.2.2.2.2.2.1 k0_t1
theorem k0_off76_inb : ∀ (i : grid0.Coords) (v1 : BitVec 32) (k0_hw9 : k0_chk9 i v1) (k0_t1 : Fin (k0_t1_loop v1).trips), ∀ a, (k0_off76 v1 k0_t1) a + S1x128x128.size a ≤ S2x1024x128.size a := fun i v1 k0_hw9 k0_t1 => k0_hw9.2.2.1.2.2.2.2.2.2.1 k0_t1
theorem k0_off76_wordsfp8e4m3 : ∀ (i : grid0.Coords) (v1 : BitVec 32) (k0_hw9 : k0_chk9 i v1) (k0_t1 : Fin (k0_t1_loop v1).trips), (Rect.unit (s := S2x1024x128) (k0_off76 v1 k0_t1) S1x128x128.size (k0_off76_inb i v1 k0_hw9 k0_t1)).WholeWords (EltTy.packing .fp8e4m3) := fun i v1 k0_hw9 k0_t1 => k0_hw9.2.2.1.2.2.2.2.2.2.2.1 k0_t1 (k0_off76_inb i v1 k0_hw9 k0_t1)
theorem k0_off78_inb : ∀ (i : grid0.Coords) (v1 : BitVec 32) (k0_hw9 : k0_chk9 i v1) (k0_t1 : Fin (k0_t1_loop v1).trips), ∀ a, (k0_off78 v1 k0_t1) a + S1x1.size a ≤ S2x2.size a := fun i v1 k0_hw9 k0_t1 => k0_hw9.2.2.1.2.2.2.2.2.2.2.2.1 k0_t1
theorem k0_off79_inb : ∀ (i : grid0.Coords) (v1 : BitVec 32) (k0_hw9 : k0_chk9 i v1) (k0_t1 : Fin (k0_t1_loop v1).trips), ∀ a, (k0_off79 v1 k0_t1) a + S1x128x128.size a ≤ S2x1024x128.size a := fun i v1 k0_hw9 k0_t1 => k0_hw9.2.2.1.2.2.2.2.2.2.2.2.2.1 k0_t1
theorem k0_off79_wordsfp8e4m3 : ∀ (i : grid0.Coords) (v1 : BitVec 32) (k0_hw9 : k0_chk9 i v1) (k0_t1 : Fin (k0_t1_loop v1).trips), (Rect.unit (s := S2x1024x128) (k0_off79 v1 k0_t1) S1x128x128.size (k0_off79_inb i v1 k0_hw9 k0_t1)).WholeWords (EltTy.packing .fp8e4m3) := fun i v1 k0_hw9 k0_t1 => k0_hw9.2.2.1.2.2.2.2.2.2.2.2.2.2.1 k0_t1 (k0_off79_inb i v1 k0_hw9 k0_t1)
theorem k0_off80_inb : ∀ (i : grid0.Coords) (v1 : BitVec 32) (k0_hw9 : k0_chk9 i v1) (k0_t1 : Fin (k0_t1_loop v1).trips), ∀ a, (k0_off80 v1 k0_t1) a + S1x1.size a ≤ S2x2.size a := fun i v1 k0_hw9 k0_t1 => k0_hw9.2.2.1.2.2.2.2.2.2.2.2.2.2.2.1 k0_t1
theorem k0_off81_inb : ∀ (i : grid0.Coords) (v1 : BitVec 32) (k0_hw9 : k0_chk9 i v1) (k0_t1 : Fin (k0_t1_loop v1).trips), ∀ a, (k0_off81 v1 k0_t1) a + S1x128x128.size a ≤ S2x1024x128.size a := fun i v1 k0_hw9 k0_t1 => k0_hw9.2.2.1.2.2.2.2.2.2.2.2.2.2.2.2.1 k0_t1
theorem k0_off81_wordsfp8e4m3 : ∀ (i : grid0.Coords) (v1 : BitVec 32) (k0_hw9 : k0_chk9 i v1) (k0_t1 : Fin (k0_t1_loop v1).trips), (Rect.unit (s := S2x1024x128) (k0_off81 v1 k0_t1) S1x128x128.size (k0_off81_inb i v1 k0_hw9 k0_t1)).WholeWords (EltTy.packing .fp8e4m3) := fun i v1 k0_hw9 k0_t1 => k0_hw9.2.2.1.2.2.2.2.2.2.2.2.2.2.2.2.2.1 k0_t1 (k0_off81_inb i v1 k0_hw9 k0_t1)
theorem k0_off83_inb : ∀ (i : grid0.Coords) (v1 : BitVec 32) (k0_hw9 : k0_chk9 i v1) (k0_t1 : Fin (k0_t1_loop v1).trips), ∀ a, (k0_off83 v1 k0_t1) a + S1x1.size a ≤ S2x2.size a := fun i v1 k0_hw9 k0_t1 => k0_hw9.2.2.1.2.2.2.2.2.2.2.2.2.2.2.2.2.2.1 k0_t1
theorem k0_off84_inb : ∀ (i : grid0.Coords) (v1 : BitVec 32) (k0_hw9 : k0_chk9 i v1) (k0_t1 : Fin (k0_t1_loop v1).trips), ∀ a, (k0_off84 v1 k0_t1) a + S1x128x128.size a ≤ S2x1024x128.size a := fun i v1 k0_hw9 k0_t1 => k0_hw9.2.2.1.2.2.2.2.2.2.2.2.2.2.2.2.2.2.2.1 k0_t1
theorem k0_off84_wordsfp8e4m3 : ∀ (i : grid0.Coords) (v1 : BitVec 32) (k0_hw9 : k0_chk9 i v1) (k0_t1 : Fin (k0_t1_loop v1).trips), (Rect.unit (s := S2x1024x128) (k0_off84 v1 k0_t1) S1x128x128.size (k0_off84_inb i v1 k0_hw9 k0_t1)).WholeWords (EltTy.packing .fp8e4m3) := fun i v1 k0_hw9 k0_t1 => k0_hw9.2.2.1.2.2.2.2.2.2.2.2.2.2.2.2.2.2.2.2.1 k0_t1 (k0_off84_inb i v1 k0_hw9 k0_t1)
theorem k0_off85_inb : ∀ (i : grid0.Coords) (v1 : BitVec 32) (k0_hw9 : k0_chk9 i v1) (k0_t1 : Fin (k0_t1_loop v1).trips), ∀ a, (k0_off85 v1 k0_t1) a + S1x1.size a ≤ S2x2.size a := fun i v1 k0_hw9 k0_t1 => k0_hw9.2.2.1.2.2.2.2.2.2.2.2.2.2.2.2.2.2.2.2.2.1 k0_t1
theorem k0_off86_inb : ∀ (i : grid0.Coords) (v1 : BitVec 32) (k0_hw9 : k0_chk9 i v1) (k0_t1 : Fin (k0_t1_loop v1).trips), ∀ a, (k0_off86 v1 k0_t1) a + S1x128x128.size a ≤ S2x1024x128.size a := fun i v1 k0_hw9 k0_t1 => k0_hw9.2.2.1.2.2.2.2.2.2.2.2.2.2.2.2.2.2.2.2.2.2.1 k0_t1
theorem k0_off86_wordsfp8e4m3 : ∀ (i : grid0.Coords) (v1 : BitVec 32) (k0_hw9 : k0_chk9 i v1) (k0_t1 : Fin (k0_t1_loop v1).trips), (Rect.unit (s := S2x1024x128) (k0_off86 v1 k0_t1) S1x128x128.size (k0_off86_inb i v1 k0_hw9 k0_t1)).WholeWords (EltTy.packing .fp8e4m3) := fun i v1 k0_hw9 k0_t1 => k0_hw9.2.2.1.2.2.2.2.2.2.2.2.2.2.2.2.2.2.2.2.2.2.2.1 k0_t1 (k0_off86_inb i v1 k0_hw9 k0_t1)
theorem k0_off88_inb : ∀ (i : grid0.Coords) (v1 : BitVec 32) (k0_hw9 : k0_chk9 i v1) (k0_t1 : Fin (k0_t1_loop v1).trips), ∀ a, (k0_off88 v1 k0_t1) a + S1x1.size a ≤ S2x2.size a := fun i v1 k0_hw9 k0_t1 => k0_hw9.2.2.1.2.2.2.2.2.2.2.2.2.2.2.2.2.2.2.2.2.2.2.2.1 k0_t1
theorem k0_off89_inb : ∀ (i : grid0.Coords) (v1 : BitVec 32) (k0_hw9 : k0_chk9 i v1) (k0_t1 : Fin (k0_t1_loop v1).trips), ∀ a, (k0_off89 v1 k0_t1) a + S1x128x128.size a ≤ S2x1024x128.size a := fun i v1 k0_hw9 k0_t1 => k0_hw9.2.2.1.2.2.2.2.2.2.2.2.2.2.2.2.2.2.2.2.2.2.2.2.2.1 k0_t1
theorem k0_off89_wordsfp8e4m3 : ∀ (i : grid0.Coords) (v1 : BitVec 32) (k0_hw9 : k0_chk9 i v1) (k0_t1 : Fin (k0_t1_loop v1).trips), (Rect.unit (s := S2x1024x128) (k0_off89 v1 k0_t1) S1x128x128.size (k0_off89_inb i v1 k0_hw9 k0_t1)).WholeWords (EltTy.packing .fp8e4m3) := fun i v1 k0_hw9 k0_t1 => k0_hw9.2.2.1.2.2.2.2.2.2.2.2.2.2.2.2.2.2.2.2.2.2.2.2.2.2.1 k0_t1 (k0_off89_inb i v1 k0_hw9 k0_t1)
theorem k0_off90_inb : ∀ (i : grid0.Coords) (v1 : BitVec 32) (k0_hw9 : k0_chk9 i v1) (k0_t1 : Fin (k0_t1_loop v1).trips), ∀ a, (k0_off90 v1 k0_t1) a + S1x1.size a ≤ S2x2.size a := fun i v1 k0_hw9 k0_t1 => k0_hw9.2.2.1.2.2.2.2.2.2.2.2.2.2.2.2.2.2.2.2.2.2.2.2.2.2.2.1 k0_t1
theorem k0_off91_inb : ∀ (i : grid0.Coords) (v1 : BitVec 32) (k0_hw9 : k0_chk9 i v1) (k0_t1 : Fin (k0_t1_loop v1).trips), ∀ a, (k0_off91 v1 k0_t1) a + S1x128x128.size a ≤ S2x1024x128.size a := fun i v1 k0_hw9 k0_t1 => k0_hw9.2.2.1.2.2.2.2.2.2.2.2.2.2.2.2.2.2.2.2.2.2.2.2.2.2.2.2.1 k0_t1
theorem k0_off91_wordsfp8e4m3 : ∀ (i : grid0.Coords) (v1 : BitVec 32) (k0_hw9 : k0_chk9 i v1) (k0_t1 : Fin (k0_t1_loop v1).trips), (Rect.unit (s := S2x1024x128) (k0_off91 v1 k0_t1) S1x128x128.size (k0_off91_inb i v1 k0_hw9 k0_t1)).WholeWords (EltTy.packing .fp8e4m3) := fun i v1 k0_hw9 k0_t1 => k0_hw9.2.2.1.2.2.2.2.2.2.2.2.2.2.2.2.2.2.2.2.2.2.2.2.2.2.2.2.2.1 k0_t1 (k0_off91_inb i v1 k0_hw9 k0_t1)
theorem k0_off93_inb : ∀ (i : grid0.Coords) (v1 : BitVec 32) (k0_hw9 : k0_chk9 i v1) (k0_t1 : Fin (k0_t1_loop v1).trips), ∀ a, (k0_off93 v1 k0_t1) a + S1x1.size a ≤ S2x2.size a := fun i v1 k0_hw9 k0_t1 => k0_hw9.2.2.1.2.2.2.2.2.2.2.2.2.2.2.2.2.2.2.2.2.2.2.2.2.2.2.2.2.2.1 k0_t1
theorem k0_off94_inb : ∀ (i : grid0.Coords) (v1 : BitVec 32) (k0_hw9 : k0_chk9 i v1) (k0_t1 : Fin (k0_t1_loop v1).trips), ∀ a, (k0_off94 v1 k0_t1) a + S1x128x128.size a ≤ S2x1024x128.size a := fun i v1 k0_hw9 k0_t1 => k0_hw9.2.2.1.2.2.2.2.2.2.2.2.2.2.2.2.2.2.2.2.2.2.2.2.2.2.2.2.2.2.2.1 k0_t1
theorem k0_off94_wordsfp8e4m3 : ∀ (i : grid0.Coords) (v1 : BitVec 32) (k0_hw9 : k0_chk9 i v1) (k0_t1 : Fin (k0_t1_loop v1).trips), (Rect.unit (s := S2x1024x128) (k0_off94 v1 k0_t1) S1x128x128.size (k0_off94_inb i v1 k0_hw9 k0_t1)).WholeWords (EltTy.packing .fp8e4m3) := fun i v1 k0_hw9 k0_t1 => k0_hw9.2.2.1.2.2.2.2.2.2.2.2.2.2.2.2.2.2.2.2.2.2.2.2.2.2.2.2.2.2.2.2.1 k0_t1 (k0_off94_inb i v1 k0_hw9 k0_t1)
theorem k0_off95_inb : ∀ (i : grid0.Coords) (v1 : BitVec 32) (k0_hw9 : k0_chk9 i v1) (k0_t1 : Fin (k0_t1_loop v1).trips), ∀ a, (k0_off95 v1 k0_t1) a + S1x1.size a ≤ S2x2.size a := fun i v1 k0_hw9 k0_t1 => k0_hw9.2.2.1.2.2.2.2.2.2.2.2.2.2.2.2.2.2.2.2.2.2.2.2.2.2.2.2.2.2.2.2.2.1 k0_t1
theorem k0_off96_inb : ∀ (i : grid0.Coords) (v1 : BitVec 32) (k0_hw9 : k0_chk9 i v1) (k0_t1 : Fin (k0_t1_loop v1).trips), ∀ a, (k0_off96 v1 k0_t1) a + S1x128x128.size a ≤ S2x1024x128.size a := fun i v1 k0_hw9 k0_t1 => k0_hw9.2.2.1.2.2.2.2.2.2.2.2.2.2.2.2.2.2.2.2.2.2.2.2.2.2.2.2.2.2.2.2.2.2.1 k0_t1
theorem k0_off96_wordsfp8e4m3 : ∀ (i : grid0.Coords) (v1 : BitVec 32) (k0_hw9 : k0_chk9 i v1) (k0_t1 : Fin (k0_t1_loop v1).trips), (Rect.unit (s := S2x1024x128) (k0_off96 v1 k0_t1) S1x128x128.size (k0_off96_inb i v1 k0_hw9 k0_t1)).WholeWords (EltTy.packing .fp8e4m3) := fun i v1 k0_hw9 k0_t1 => k0_hw9.2.2.1.2.2.2.2.2.2.2.2.2.2.2.2.2.2.2.2.2.2.2.2.2.2.2.2.2.2.2.2.2.2.2 k0_t1 (k0_off96_inb i v1 k0_hw9 k0_t1)
theorem k0_off98_inb : ∀ (i : grid0.Coords) (v1 : BitVec 32) (k0_hw9 : k0_chk9 i v1) (k0_t1 : Fin (k0_t1_loop v1).trips), ∀ a, (k0_off98 v1 k0_t1) a + S1x1.size a ≤ S2x2.size a := fun i v1 k0_hw9 k0_t1 => k0_hw9.2.2.2.1.1 k0_t1
theorem k0_off99_inb : ∀ (i : grid0.Coords) (v1 : BitVec 32) (k0_hw9 : k0_chk9 i v1) (k0_t1 : Fin (k0_t1_loop v1).trips), ∀ a, (k0_off99 v1 k0_t1) a + S1x128x128.size a ≤ S2x1024x128.size a := fun i v1 k0_hw9 k0_t1 => k0_hw9.2.2.2.1.2.1 k0_t1
theorem k0_off99_wordsfp8e4m3 : ∀ (i : grid0.Coords) (v1 : BitVec 32) (k0_hw9 : k0_chk9 i v1) (k0_t1 : Fin (k0_t1_loop v1).trips), (Rect.unit (s := S2x1024x128) (k0_off99 v1 k0_t1) S1x128x128.size (k0_off99_inb i v1 k0_hw9 k0_t1)).WholeWords (EltTy.packing .fp8e4m3) := fun i v1 k0_hw9 k0_t1 => k0_hw9.2.2.2.1.2.2.1 k0_t1 (k0_off99_inb i v1 k0_hw9 k0_t1)
theorem k0_off100_inb : ∀ (i : grid0.Coords) (v1 : BitVec 32) (k0_hw9 : k0_chk9 i v1) (k0_t1 : Fin (k0_t1_loop v1).trips), ∀ a, (k0_off100 v1 k0_t1) a + S1x1024x128.size a ≤ S2x1024x128.size a := fun i v1 k0_hw9 k0_t1 => k0_hw9.2.2.2.1.2.2.2.1 k0_t1
theorem k0_t2_ok : ∀ (i : grid0.Coords) (v1 : BitVec 32) (k0_hw9 : k0_chk9 i v1), (k0_t2_loop v1).OK := fun i v1 k0_hw9 => k0_hw9.2.2.2.1.2.2.2.2.1
theorem k0_off101_inb : ∀ (i : grid0.Coords) (v1 : BitVec 32) (k0_hw9 : k0_chk9 i v1) (k0_t2 : Fin (k0_t2_loop v1).trips), ∀ (k0_h3 : k0_cond3 v1 k0_t2 = 1#1), ∀ (r : Fin 8), ∀ a, (k0_off101 i v1 k0_t2 (BitVec.ofNat 32 r.val)) a + S1x1.size a ≤ S8x1024.size a := fun i v1 k0_hw9 k0_t2 k0_h3 r => k0_hw9.2.2.2.1.2.2.2.2.2.1 k0_t2 k0_h3 r
theorem k0_off102_inb : ∀ (i : grid0.Coords) (v1 : BitVec 32) (k0_hw9 : k0_chk9 i v1) (k0_t2 : Fin (k0_t2_loop v1).trips), ∀ (k0_h3 : k0_cond3 v1 k0_t2 = 1#1), ∀ a, (k0_off102 v1 k0_t2) a + S1x1.size a ≤ S2x2.size a := fun i v1 k0_hw9 k0_t2 k0_h3 => k0_hw9.2.2.2.1.2.2.2.2.2.2.1 k0_t2 k0_h3
theorem k0_off103_inb : ∀ (i : grid0.Coords) (v1 : BitVec 32) (k0_hw9 : k0_chk9 i v1) (k0_t2 : Fin (k0_t2_loop v1).trips), ∀ (k0_h3 : k0_cond3 v1 k0_t2 = 1#1), ∀ a, (k0_off103 v1 k0_t2) a + S1x128x128.size a ≤ S2x1024x128.size a := fun i v1 k0_hw9 k0_t2 k0_h3 => k0_hw9.2.2.2.1.2.2.2.2.2.2.2.1 k0_t2 k0_h3
theorem k0_off103_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off103 v1 k0_t2) S1x128x128.size (k0_off103_inb i v1 k0_hw9 k0_t2 k0_h3)).WholeWords (EltTy.packing .fp8e4m3) := fun i v1 k0_hw9 k0_t2 k0_h3 => k0_hw9.2.2.2.1.2.2.2.2.2.2.2.2.1 k0_t2 k0_h3 (k0_off103_inb i v1 k0_hw9 k0_t2 k0_h3)
theorem k0_off105_inb : ∀ (i : grid0.Coords) (v1 : BitVec 32) (k0_hw9 : k0_chk9 i v1) (k0_t2 : Fin (k0_t2_loop v1).trips), ∀ (k0_h3 : k0_cond3 v1 k0_t2 = 1#1), ∀ a, (k0_off105 v1 k0_t2) a + S1x1.size a ≤ S2x2.size a := fun i v1 k0_hw9 k0_t2 k0_h3 => k0_hw9.2.2.2.1.2.2.2.2.2.2.2.2.2.1 k0_t2 k0_h3
theorem k0_off106_inb : ∀ (i : grid0.Coords) (v1 : BitVec 32) (k0_hw9 : k0_chk9 i v1) (k0_t2 : Fin (k0_t2_loop v1).trips), ∀ (k0_h3 : k0_cond3 v1 k0_t2 = 1#1), ∀ a, (k0_off106 v1 k0_t2) a + S1x128x128.size a ≤ S2x1024x128.size a := fun i v1 k0_hw9 k0_t2 k0_h3 => k0_hw9.2.2.2.1.2.2.2.2.2.2.2.2.2.2.1 k0_t2 k0_h3
theorem k0_off106_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off106 v1 k0_t2) S1x128x128.size (k0_off106_inb i v1 k0_hw9 k0_t2 k0_h3)).WholeWords (EltTy.packing .fp8e4m3) := fun i v1 k0_hw9 k0_t2 k0_h3 => k0_hw9.2.2.2.1.2.2.2.2.2.2.2.2.2.2.2.1 k0_t2 k0_h3 (k0_off106_inb i v1 k0_hw9 k0_t2 k0_h3)
theorem k0_off107_inb : ∀ (i : grid0.Coords) (v1 : BitVec 32) (k0_hw9 : k0_chk9 i v1) (k0_t2 : Fin (k0_t2_loop v1).trips), ∀ (k0_h3 : k0_cond3 v1 k0_t2 = 1#1), ∀ a, (k0_off107 v1 k0_t2) a + S1x1.size a ≤ S2x2.size a := fun i v1 k0_hw9 k0_t2 k0_h3 => k0_hw9.2.2.2.1.2.2.2.2.2.2.2.2.2.2.2.2.1 k0_t2 k0_h3
theorem k0_off108_inb : ∀ (i : grid0.Coords) (v1 : BitVec 32) (k0_hw9 : k0_chk9 i v1) (k0_t2 : Fin (k0_t2_loop v1).trips), ∀ (k0_h3 : k0_cond3 v1 k0_t2 = 1#1), ∀ a, (k0_off108 v1 k0_t2) a + S1x128x128.size a ≤ S2x1024x128.size a := fun i v1 k0_hw9 k0_t2 k0_h3 => k0_hw9.2.2.2.1.2.2.2.2.2.2.2.2.2.2.2.2.2.1 k0_t2 k0_h3
theorem k0_off108_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off108 v1 k0_t2) S1x128x128.size (k0_off108_inb i v1 k0_hw9 k0_t2 k0_h3)).WholeWords (EltTy.packing .fp8e4m3) := fun i v1 k0_hw9 k0_t2 k0_h3 => k0_hw9.2.2.2.1.2.2.2.2.2.2.2.2.2.2.2.2.2.2.1 k0_t2 k0_h3 (k0_off108_inb i v1 k0_hw9 k0_t2 k0_h3)
theorem k0_off110_inb : ∀ (i : grid0.Coords) (v1 : BitVec 32) (k0_hw9 : k0_chk9 i v1) (k0_t2 : Fin (k0_t2_loop v1).trips), ∀ (k0_h3 : k0_cond3 v1 k0_t2 = 1#1), ∀ a, (k0_off110 v1 k0_t2) a + S1x1.size a ≤ S2x2.size a := fun i v1 k0_hw9 k0_t2 k0_h3 => k0_hw9.2.2.2.1.2.2.2.2.2.2.2.2.2.2.2.2.2.2.2.1 k0_t2 k0_h3
theorem k0_off111_inb : ∀ (i : grid0.Coords) (v1 : BitVec 32) (k0_hw9 : k0_chk9 i v1) (k0_t2 : Fin (k0_t2_loop v1).trips), ∀ (k0_h3 : k0_cond3 v1 k0_t2 = 1#1), ∀ a, (k0_off111 v1 k0_t2) a + S1x128x128.size a ≤ S2x1024x128.size a := fun i v1 k0_hw9 k0_t2 k0_h3 => k0_hw9.2.2.2.1.2.2.2.2.2.2.2.2.2.2.2.2.2.2.2.2.1 k0_t2 k0_h3
theorem k0_off111_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off111 v1 k0_t2) S1x128x128.size (k0_off111_inb i v1 k0_hw9 k0_t2 k0_h3)).WholeWords (EltTy.packing .fp8e4m3) := fun i v1 k0_hw9 k0_t2 k0_h3 => k0_hw9.2.2.2.1.2.2.2.2.2.2.2.2.2.2.2.2.2.2.2.2.2.1 k0_t2 k0_h3 (k0_off111_inb i v1 k0_hw9 k0_t2 k0_h3)
theorem k0_off112_inb : ∀ (i : grid0.Coords) (v1 : BitVec 32) (k0_hw9 : k0_chk9 i v1) (k0_t2 : Fin (k0_t2_loop v1).trips), ∀ (k0_h3 : k0_cond3 v1 k0_t2 = 1#1), ∀ a, (k0_off112 v1 k0_t2) a + S1x1.size a ≤ S2x2.size a := fun i v1 k0_hw9 k0_t2 k0_h3 => k0_hw9.2.2.2.1.2.2.2.2.2.2.2.2.2.2.2.2.2.2.2.2.2.2.1 k0_t2 k0_h3
theorem k0_off113_inb : ∀ (i : grid0.Coords) (v1 : BitVec 32) (k0_hw9 : k0_chk9 i v1) (k0_t2 : Fin (k0_t2_loop v1).trips), ∀ (k0_h3 : k0_cond3 v1 k0_t2 = 1#1), ∀ a, (k0_off113 v1 k0_t2) a + S1x128x128.size a ≤ S2x1024x128.size a := fun i v1 k0_hw9 k0_t2 k0_h3 => k0_hw9.2.2.2.1.2.2.2.2.2.2.2.2.2.2.2.2.2.2.2.2.2.2.2.1 k0_t2 k0_h3
theorem k0_off113_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off113 v1 k0_t2) S1x128x128.size (k0_off113_inb i v1 k0_hw9 k0_t2 k0_h3)).WholeWords (EltTy.packing .fp8e4m3) := fun i v1 k0_hw9 k0_t2 k0_h3 => k0_hw9.2.2.2.1.2.2.2.2.2.2.2.2.2.2.2.2.2.2.2.2.2.2.2.2.1 k0_t2 k0_h3 (k0_off113_inb i v1 k0_hw9 k0_t2 k0_h3)
theorem k0_off115_inb : ∀ (i : grid0.Coords) (v1 : BitVec 32) (k0_hw9 : k0_chk9 i v1) (k0_t2 : Fin (k0_t2_loop v1).trips), ∀ (k0_h3 : k0_cond3 v1 k0_t2 = 1#1), ∀ a, (k0_off115 v1 k0_t2) a + S1x1.size a ≤ S2x2.size a := fun i v1 k0_hw9 k0_t2 k0_h3 => k0_hw9.2.2.2.1.2.2.2.2.2.2.2.2.2.2.2.2.2.2.2.2.2.2.2.2.2.1 k0_t2 k0_h3
theorem k0_off116_inb : ∀ (i : grid0.Coords) (v1 : BitVec 32) (k0_hw9 : k0_chk9 i v1) (k0_t2 : Fin (k0_t2_loop v1).trips), ∀ (k0_h3 : k0_cond3 v1 k0_t2 = 1#1), ∀ a, (k0_off116 v1 k0_t2) a + S1x128x128.size a ≤ S2x1024x128.size a := fun i v1 k0_hw9 k0_t2 k0_h3 => k0_hw9.2.2.2.1.2.2.2.2.2.2.2.2.2.2.2.2.2.2.2.2.2.2.2.2.2.2.1 k0_t2 k0_h3
theorem k0_off116_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off116 v1 k0_t2) S1x128x128.size (k0_off116_inb i v1 k0_hw9 k0_t2 k0_h3)).WholeWords (EltTy.packing .fp8e4m3) := fun i v1 k0_hw9 k0_t2 k0_h3 => k0_hw9.2.2.2.1.2.2.2.2.2.2.2.2.2.2.2.2.2.2.2.2.2.2.2.2.2.2.2.1 k0_t2 k0_h3 (k0_off116_inb i v1 k0_hw9 k0_t2 k0_h3)
theorem k0_off117_inb : ∀ (i : grid0.Coords) (v1 : BitVec 32) (k0_hw9 : k0_chk9 i v1) (k0_t2 : Fin (k0_t2_loop v1).trips), ∀ (k0_h3 : k0_cond3 v1 k0_t2 = 1#1), ∀ a, (k0_off117 v1 k0_t2) a + S1x1.size a ≤ S2x2.size a := fun i v1 k0_hw9 k0_t2 k0_h3 => k0_hw9.2.2.2.1.2.2.2.2.2.2.2.2.2.2.2.2.2.2.2.2.2.2.2.2.2.2.2.2.1 k0_t2 k0_h3
theorem k0_off118_inb : ∀ (i : grid0.Coords) (v1 : BitVec 32) (k0_hw9 : k0_chk9 i v1) (k0_t2 : Fin (k0_t2_loop v1).trips), ∀ (k0_h3 : k0_cond3 v1 k0_t2 = 1#1), ∀ a, (k0_off118 v1 k0_t2) a + S1x128x128.size a ≤ S2x1024x128.size a := fun i v1 k0_hw9 k0_t2 k0_h3 => k0_hw9.2.2.2.1.2.2.2.2.2.2.2.2.2.2.2.2.2.2.2.2.2.2.2.2.2.2.2.2.2.1 k0_t2 k0_h3
theorem k0_off118_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off118 v1 k0_t2) S1x128x128.size (k0_off118_inb i v1 k0_hw9 k0_t2 k0_h3)).WholeWords (EltTy.packing .fp8e4m3) := fun i v1 k0_hw9 k0_t2 k0_h3 => k0_hw9.2.2.2.1.2.2.2.2.2.2.2.2.2.2.2.2.2.2.2.2.2.2.2.2.2.2.2.2.2.2.1 k0_t2 k0_h3 (k0_off118_inb i v1 k0_hw9 k0_t2 k0_h3)
theorem k0_off120_inb : ∀ (i : grid0.Coords) (v1 : BitVec 32) (k0_hw9 : k0_chk9 i v1) (k0_t2 : Fin (k0_t2_loop v1).trips), ∀ (k0_h3 : k0_cond3 v1 k0_t2 = 1#1), ∀ a, (k0_off120 v1 k0_t2) a + S1x1.size a ≤ S2x2.size a := fun i v1 k0_hw9 k0_t2 k0_h3 => k0_hw9.2.2.2.1.2.2.2.2.2.2.2.2.2.2.2.2.2.2.2.2.2.2.2.2.2.2.2.2.2.2.2.1 k0_t2 k0_h3
theorem k0_off121_inb : ∀ (i : grid0.Coords) (v1 : BitVec 32) (k0_hw9 : k0_chk9 i v1) (k0_t2 : Fin (k0_t2_loop v1).trips), ∀ (k0_h3 : k0_cond3 v1 k0_t2 = 1#1), ∀ a, (k0_off121 v1 k0_t2) a + S1x128x128.size a ≤ S2x1024x128.size a := fun i v1 k0_hw9 k0_t2 k0_h3 => k0_hw9.2.2.2.1.2.2.2.2.2.2.2.2.2.2.2.2.2.2.2.2.2.2.2.2.2.2.2.2.2.2.2.2.1 k0_t2 k0_h3
theorem k0_off121_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off121 v1 k0_t2) S1x128x128.size (k0_off121_inb i v1 k0_hw9 k0_t2 k0_h3)).WholeWords (EltTy.packing .fp8e4m3) := fun i v1 k0_hw9 k0_t2 k0_h3 => k0_hw9.2.2.2.1.2.2.2.2.2.2.2.2.2.2.2.2.2.2.2.2.2.2.2.2.2.2.2.2.2.2.2.2.2.1 k0_t2 k0_h3 (k0_off121_inb i v1 k0_hw9 k0_t2 k0_h3)
theorem k0_off122_inb : ∀ (i : grid0.Coords) (v1 : BitVec 32) (k0_hw9 : k0_chk9 i v1) (k0_t2 : Fin (k0_t2_loop v1).trips), ∀ (k0_h3 : k0_cond3 v1 k0_t2 = 1#1), ∀ a, (k0_off122 v1 k0_t2) a + S1x1.size a ≤ S2x2.size a := fun i v1 k0_hw9 k0_t2 k0_h3 => k0_hw9.2.2.2.1.2.2.2.2.2.2.2.2.2.2.2.2.2.2.2.2.2.2.2.2.2.2.2.2.2.2.2.2.2.2.1 k0_t2 k0_h3
theorem k0_off123_inb : ∀ (i : grid0.Coords) (v1 : BitVec 32) (k0_hw9 : k0_chk9 i v1) (k0_t2 : Fin (k0_t2_loop v1).trips), ∀ (k0_h3 : k0_cond3 v1 k0_t2 = 1#1), ∀ a, (k0_off123 v1 k0_t2) a + S1x128x128.size a ≤ S2x1024x128.size a := fun i v1 k0_hw9 k0_t2 k0_h3 => k0_hw9.2.2.2.1.2.2.2.2.2.2.2.2.2.2.2.2.2.2.2.2.2.2.2.2.2.2.2.2.2.2.2.2.2.2.2 k0_t2 k0_h3
theorem k0_off123_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off123 v1 k0_t2) S1x128x128.size (k0_off123_inb i v1 k0_hw9 k0_t2 k0_h3)).WholeWords (EltTy.packing .fp8e4m3) := fun i v1 k0_hw9 k0_t2 k0_h3 => k0_hw9.2.2.2.2.1.1 k0_t2 k0_h3 (k0_off123_inb i v1 k0_hw9 k0_t2 k0_h3)
theorem k0_off125_inb : ∀ (i : grid0.Coords) (v1 : BitVec 32) (k0_hw9 : k0_chk9 i v1) (k0_t2 : Fin (k0_t2_loop v1).trips), ∀ (k0_h3 : k0_cond3 v1 k0_t2 = 1#1), ∀ a, (k0_off125 v1 k0_t2) a + S1x1.size a ≤ S2x2.size a := fun i v1 k0_hw9 k0_t2 k0_h3 => k0_hw9.2.2.2.2.1.2.1 k0_t2 k0_h3
theorem k0_off126_inb : ∀ (i : grid0.Coords) (v1 : BitVec 32) (k0_hw9 : k0_chk9 i v1) (k0_t2 : Fin (k0_t2_loop v1).trips), ∀ (k0_h3 : k0_cond3 v1 k0_t2 = 1#1), ∀ a, (k0_off126 v1 k0_t2) a + S1x128x128.size a ≤ S2x1024x128.size a := fun i v1 k0_hw9 k0_t2 k0_h3 => k0_hw9.2.2.2.2.1.2.2.1 k0_t2 k0_h3
theorem k0_off126_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off126 v1 k0_t2) S1x128x128.size (k0_off126_inb i v1 k0_hw9 k0_t2 k0_h3)).WholeWords (EltTy.packing .fp8e4m3) := fun i v1 k0_hw9 k0_t2 k0_h3 => k0_hw9.2.2.2.2.1.2.2.2.1 k0_t2 k0_h3 (k0_off126_inb i v1 k0_hw9 k0_t2 k0_h3)
theorem k0_off127_inb : ∀ (i : grid0.Coords) (v1 : BitVec 32) (k0_hw9 : k0_chk9 i v1) (k0_t2 : Fin (k0_t2_loop v1).trips), ∀ (k0_h3 : k0_cond3 v1 k0_t2 = 1#1), ∀ a, (k0_off127 v1 k0_t2) a + S1x1.size a ≤ S2x2.size a := fun i v1 k0_hw9 k0_t2 k0_h3 => k0_hw9.2.2.2.2.1.2.2.2.2.1 k0_t2 k0_h3
theorem k0_off128_inb : ∀ (i : grid0.Coords) (v1 : BitVec 32) (k0_hw9 : k0_chk9 i v1) (k0_t2 : Fin (k0_t2_loop v1).trips), ∀ (k0_h3 : k0_cond3 v1 k0_t2 = 1#1), ∀ a, (k0_off128 v1 k0_t2) a + S1x128x128.size a ≤ S2x1024x128.size a := fun i v1 k0_hw9 k0_t2 k0_h3 => k0_hw9.2.2.2.2.1.2.2.2.2.2.1 k0_t2 k0_h3
theorem k0_off128_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off128 v1 k0_t2) S1x128x128.size (k0_off128_inb i v1 k0_hw9 k0_t2 k0_h3)).WholeWords (EltTy.packing .fp8e4m3) := fun i v1 k0_hw9 k0_t2 k0_h3 => k0_hw9.2.2.2.2.1.2.2.2.2.2.2.1 k0_t2 k0_h3 (k0_off128_inb i v1 k0_hw9 k0_t2 k0_h3)
theorem k0_off130_inb : ∀ (i : grid0.Coords) (v1 : BitVec 32) (k0_hw9 : k0_chk9 i v1) (k0_t2 : Fin (k0_t2_loop v1).trips), ∀ (k0_h3 : k0_cond3 v1 k0_t2 = 1#1), ∀ a, (k0_off130 v1 k0_t2) a + S1x1.size a ≤ S2x2.size a := fun i v1 k0_hw9 k0_t2 k0_h3 => k0_hw9.2.2.2.2.1.2.2.2.2.2.2.2.1 k0_t2 k0_h3
theorem k0_off131_inb : ∀ (i : grid0.Coords) (v1 : BitVec 32) (k0_hw9 : k0_chk9 i v1) (k0_t2 : Fin (k0_t2_loop v1).trips), ∀ (k0_h3 : k0_cond3 v1 k0_t2 = 1#1), ∀ a, (k0_off131 v1 k0_t2) a + S1x128x128.size a ≤ S2x1024x128.size a := fun i v1 k0_hw9 k0_t2 k0_h3 => k0_hw9.2.2.2.2.1.2.2.2.2.2.2.2.2.1 k0_t2 k0_h3
theorem k0_off131_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off131 v1 k0_t2) S1x128x128.size (k0_off131_inb i v1 k0_hw9 k0_t2 k0_h3)).WholeWords (EltTy.packing .fp8e4m3) := fun i v1 k0_hw9 k0_t2 k0_h3 => k0_hw9.2.2.2.2.1.2.2.2.2.2.2.2.2.2.1 k0_t2 k0_h3 (k0_off131_inb i v1 k0_hw9 k0_t2 k0_h3)
theorem k0_off132_inb : ∀ (i : grid0.Coords) (v1 : BitVec 32) (k0_hw9 : k0_chk9 i v1) (k0_t2 : Fin (k0_t2_loop v1).trips), ∀ (k0_h3 : k0_cond3 v1 k0_t2 = 1#1), ∀ a, (k0_off132 v1 k0_t2) a + S1x1.size a ≤ S2x2.size a := fun i v1 k0_hw9 k0_t2 k0_h3 => k0_hw9.2.2.2.2.1.2.2.2.2.2.2.2.2.2.2.1 k0_t2 k0_h3
theorem k0_off133_inb : ∀ (i : grid0.Coords) (v1 : BitVec 32) (k0_hw9 : k0_chk9 i v1) (k0_t2 : Fin (k0_t2_loop v1).trips), ∀ (k0_h3 : k0_cond3 v1 k0_t2 = 1#1), ∀ a, (k0_off133 v1 k0_t2) a + S1x128x128.size a ≤ S2x1024x128.size a := fun i v1 k0_hw9 k0_t2 k0_h3 => k0_hw9.2.2.2.2.1.2.2.2.2.2.2.2.2.2.2.2.1 k0_t2 k0_h3
theorem k0_off133_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off133 v1 k0_t2) S1x128x128.size (k0_off133_inb i v1 k0_hw9 k0_t2 k0_h3)).WholeWords (EltTy.packing .fp8e4m3) := fun i v1 k0_hw9 k0_t2 k0_h3 => k0_hw9.2.2.2.2.1.2.2.2.2.2.2.2.2.2.2.2.2.1 k0_t2 k0_h3 (k0_off133_inb i v1 k0_hw9 k0_t2 k0_h3)
theorem k0_off135_inb : ∀ (i : grid0.Coords) (v1 : BitVec 32) (k0_hw9 : k0_chk9 i v1) (k0_t2 : Fin (k0_t2_loop v1).trips), ∀ (k0_h3 : k0_cond3 v1 k0_t2 = 1#1), ∀ a, (k0_off135 v1 k0_t2) a + S1x1.size a ≤ S2x2.size a := fun i v1 k0_hw9 k0_t2 k0_h3 => k0_hw9.2.2.2.2.1.2.2.2.2.2.2.2.2.2.2.2.2.2.1 k0_t2 k0_h3
theorem k0_off136_inb : ∀ (i : grid0.Coords) (v1 : BitVec 32) (k0_hw9 : k0_chk9 i v1) (k0_t2 : Fin (k0_t2_loop v1).trips), ∀ (k0_h3 : k0_cond3 v1 k0_t2 = 1#1), ∀ a, (k0_off136 v1 k0_t2) a + S1x128x128.size a ≤ S2x1024x128.size a := fun i v1 k0_hw9 k0_t2 k0_h3 => k0_hw9.2.2.2.2.1.2.2.2.2.2.2.2.2.2.2.2.2.2.2.1 k0_t2 k0_h3
theorem k0_off136_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off136 v1 k0_t2) S1x128x128.size (k0_off136_inb i v1 k0_hw9 k0_t2 k0_h3)).WholeWords (EltTy.packing .fp8e4m3) := fun i v1 k0_hw9 k0_t2 k0_h3 => k0_hw9.2.2.2.2.1.2.2.2.2.2.2.2.2.2.2.2.2.2.2.2.1 k0_t2 k0_h3 (k0_off136_inb i v1 k0_hw9 k0_t2 k0_h3)
theorem k0_off137_inb : ∀ (i : grid0.Coords) (v1 : BitVec 32) (k0_hw9 : k0_chk9 i v1) (k0_t2 : Fin (k0_t2_loop v1).trips), ∀ (k0_h3 : k0_cond3 v1 k0_t2 = 1#1), ∀ a, (k0_off137 v1 k0_t2) a + S1x1.size a ≤ S2x2.size a := fun i v1 k0_hw9 k0_t2 k0_h3 => k0_hw9.2.2.2.2.1.2.2.2.2.2.2.2.2.2.2.2.2.2.2.2.2.1 k0_t2 k0_h3
theorem k0_off138_inb : ∀ (i : grid0.Coords) (v1 : BitVec 32) (k0_hw9 : k0_chk9 i v1) (k0_t2 : Fin (k0_t2_loop v1).trips), ∀ (k0_h3 : k0_cond3 v1 k0_t2 = 1#1), ∀ a, (k0_off138 v1 k0_t2) a + S1x128x128.size a ≤ S2x1024x128.size a := fun i v1 k0_hw9 k0_t2 k0_h3 => k0_hw9.2.2.2.2.1.2.2.2.2.2.2.2.2.2.2.2.2.2.2.2.2.2.1 k0_t2 k0_h3
theorem k0_off138_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off138 v1 k0_t2) S1x128x128.size (k0_off138_inb i v1 k0_hw9 k0_t2 k0_h3)).WholeWords (EltTy.packing .fp8e4m3) := fun i v1 k0_hw9 k0_t2 k0_h3 => k0_hw9.2.2.2.2.1.2.2.2.2.2.2.2.2.2.2.2.2.2.2.2.2.2.2.1 k0_t2 k0_h3 (k0_off138_inb i v1 k0_hw9 k0_t2 k0_h3)
theorem k0_off140_inb : ∀ (i : grid0.Coords) (v1 : BitVec 32) (k0_hw9 : k0_chk9 i v1) (k0_t2 : Fin (k0_t2_loop v1).trips), ∀ (k0_h3 : k0_cond3 v1 k0_t2 = 1#1), ∀ a, (k0_off140 v1 k0_t2) a + S1x1.size a ≤ S2x2.size a := fun i v1 k0_hw9 k0_t2 k0_h3 => k0_hw9.2.2.2.2.1.2.2.2.2.2.2.2.2.2.2.2.2.2.2.2.2.2.2.2.1 k0_t2 k0_h3
theorem k0_off141_inb : ∀ (i : grid0.Coords) (v1 : BitVec 32) (k0_hw9 : k0_chk9 i v1) (k0_t2 : Fin (k0_t2_loop v1).trips), ∀ (k0_h3 : k0_cond3 v1 k0_t2 = 1#1), ∀ a, (k0_off141 v1 k0_t2) a + S1x128x128.size a ≤ S2x1024x128.size a := fun i v1 k0_hw9 k0_t2 k0_h3 => k0_hw9.2.2.2.2.1.2.2.2.2.2.2.2.2.2.2.2.2.2.2.2.2.2.2.2.2.1 k0_t2 k0_h3
theorem k0_off141_wordsfp8e4m3 : ∀ (i : grid0.Coords) (v1 : BitVec 32) (k0_hw9 : k0_chk9 i v1) (k0_t2 : Fin (k0_t2_loop v1).trips), ∀ (k0_h3 : k0_cond3 v1 k0_t2 = 1#1), (Rect.unit (s := S2x1024x128) (k0_off141 v1 k0_t2) S1x128x128.size (k0_off141_inb i v1 k0_hw9 k0_t2 k0_h3)).WholeWords (EltTy.packing .fp8e4m3) := fun i v1 k0_hw9 k0_t2 k0_h3 => k0_hw9.2.2.2.2.1.2.2.2.2.2.2.2.2.2.2.2.2.2.2.2.2.2.2.2.2.2.1 k0_t2 k0_h3 (k0_off141_inb i v1 k0_hw9 k0_t2 k0_h3)
theorem k0_off142_inb : ∀ (i : grid0.Coords) (v1 : BitVec 32) (k0_hw9 : k0_chk9 i v1) (k0_t2 : Fin (k0_t2_loop v1).trips), ∀ (r : Fin 8), ∀ a, (k0_off142 i v1 k0_t2 (BitVec.ofNat 32 r.val)) a + S1x1.size a ≤ S8x1024.size a := fun i v1 k0_hw9 k0_t2 r => k0_hw9.2.2.2.2.1.2.2.2.2.2.2.2.2.2.2.2.2.2.2.2.2.2.2.2.2.2.2.1 k0_t2 r
theorem k0_off143_inb : ∀ (i : grid0.Coords) (v1 : BitVec 32) (k0_hw9 : k0_chk9 i v1) (k0_t2 : Fin (k0_t2_loop v1).trips), ∀ a, (k0_off143 v1 k0_t2) a + S1x1.size a ≤ S2x2.size a := fun i v1 k0_hw9 k0_t2 => k0_hw9.2.2.2.2.1.2.2.2.2.2.2.2.2.2.2.2.2.2.2.2.2.2.2.2.2.2.2.2.1 k0_t2
theorem k0_off144_inb : ∀ (i : grid0.Coords) (v1 : BitVec 32) (k0_hw9 : k0_chk9 i v1) (k0_t2 : Fin (k0_t2_loop v1).trips), ∀ a, (k0_off144 v1 k0_t2) a + S1x128x128.size a ≤ S2x1024x128.size a := fun i v1 k0_hw9 k0_t2 => k0_hw9.2.2.2.2.1.2.2.2.2.2.2.2.2.2.2.2.2.2.2.2.2.2.2.2.2.2.2.2.2.1 k0_t2
theorem k0_off144_wordsfp8e4m3 : ∀ (i : grid0.Coords) (v1 : BitVec 32) (k0_hw9 : k0_chk9 i v1) (k0_t2 : Fin (k0_t2_loop v1).trips), (Rect.unit (s := S2x1024x128) (k0_off144 v1 k0_t2) S1x128x128.size (k0_off144_inb i v1 k0_hw9 k0_t2)).WholeWords (EltTy.packing .fp8e4m3) := fun i v1 k0_hw9 k0_t2 => k0_hw9.2.2.2.2.1.2.2.2.2.2.2.2.2.2.2.2.2.2.2.2.2.2.2.2.2.2.2.2.2.2.1 k0_t2 (k0_off144_inb i v1 k0_hw9 k0_t2)
theorem k0_off146_inb : ∀ (i : grid0.Coords) (v1 : BitVec 32) (k0_hw9 : k0_chk9 i v1) (k0_t2 : Fin (k0_t2_loop v1).trips), ∀ a, (k0_off146 v1 k0_t2) a + S1x1.size a ≤ S2x2.size a := fun i v1 k0_hw9 k0_t2 => k0_hw9.2.2.2.2.1.2.2.2.2.2.2.2.2.2.2.2.2.2.2.2.2.2.2.2.2.2.2.2.2.2.2.1 k0_t2
theorem k0_off147_inb : ∀ (i : grid0.Coords) (v1 : BitVec 32) (k0_hw9 : k0_chk9 i v1) (k0_t2 : Fin (k0_t2_loop v1).trips), ∀ a, (k0_off147 v1 k0_t2) a + S1x128x128.size a ≤ S2x1024x128.size a := fun i v1 k0_hw9 k0_t2 => k0_hw9.2.2.2.2.1.2.2.2.2.2.2.2.2.2.2.2.2.2.2.2.2.2.2.2.2.2.2.2.2.2.2.2.1 k0_t2
theorem k0_off147_wordsfp8e4m3 : ∀ (i : grid0.Coords) (v1 : BitVec 32) (k0_hw9 : k0_chk9 i v1) (k0_t2 : Fin (k0_t2_loop v1).trips), (Rect.unit (s := S2x1024x128) (k0_off147 v1 k0_t2) S1x128x128.size (k0_off147_inb i v1 k0_hw9 k0_t2)).WholeWords (EltTy.packing .fp8e4m3) := fun i v1 k0_hw9 k0_t2 => k0_hw9.2.2.2.2.1.2.2.2.2.2.2.2.2.2.2.2.2.2.2.2.2.2.2.2.2.2.2.2.2.2.2.2.2.1 k0_t2 (k0_off147_inb i v1 k0_hw9 k0_t2)
theorem k0_off148_inb : ∀ (i : grid0.Coords) (v1 : BitVec 32) (k0_hw9 : k0_chk9 i v1) (k0_t2 : Fin (k0_t2_loop v1).trips), ∀ a, (k0_off148 v1 k0_t2) a + S1x1.size a ≤ S2x2.size a := fun i v1 k0_hw9 k0_t2 => k0_hw9.2.2.2.2.1.2.2.2.2.2.2.2.2.2.2.2.2.2.2.2.2.2.2.2.2.2.2.2.2.2.2.2.2.2.1 k0_t2
theorem k0_off149_inb : ∀ (i : grid0.Coords) (v1 : BitVec 32) (k0_hw9 : k0_chk9 i v1) (k0_t2 : Fin (k0_t2_loop v1).trips), ∀ a, (k0_off149 v1 k0_t2) a + S1x128x128.size a ≤ S2x1024x128.size a := fun i v1 k0_hw9 k0_t2 => k0_hw9.2.2.2.2.1.2.2.2.2.2.2.2.2.2.2.2.2.2.2.2.2.2.2.2.2.2.2.2.2.2.2.2.2.2.2.1 k0_t2
theorem k0_off149_wordsfp8e4m3 : ∀ (i : grid0.Coords) (v1 : BitVec 32) (k0_hw9 : k0_chk9 i v1) (k0_t2 : Fin (k0_t2_loop v1).trips), (Rect.unit (s := S2x1024x128) (k0_off149 v1 k0_t2) S1x128x128.size (k0_off149_inb i v1 k0_hw9 k0_t2)).WholeWords (EltTy.packing .fp8e4m3) := fun i v1 k0_hw9 k0_t2 => k0_hw9.2.2.2.2.1.2.2.2.2.2.2.2.2.2.2.2.2.2.2.2.2.2.2.2.2.2.2.2.2.2.2.2.2.2.2.2 k0_t2 (k0_off149_inb i v1 k0_hw9 k0_t2)
theorem k0_off151_inb : ∀ (i : grid0.Coords) (v1 : BitVec 32) (k0_hw9 : k0_chk9 i v1) (k0_t2 : Fin (k0_t2_loop v1).trips), ∀ a, (k0_off151 v1 k0_t2) a + S1x1.size a ≤ S2x2.size a := fun i v1 k0_hw9 k0_t2 => k0_hw9.2.2.2.2.2.1.1 k0_t2
theorem k0_off152_inb : ∀ (i : grid0.Coords) (v1 : BitVec 32) (k0_hw9 : k0_chk9 i v1) (k0_t2 : Fin (k0_t2_loop v1).trips), ∀ a, (k0_off152 v1 k0_t2) a + S1x128x128.size a ≤ S2x1024x128.size a := fun i v1 k0_hw9 k0_t2 => k0_hw9.2.2.2.2.2.1.2.1 k0_t2
theorem k0_off152_wordsfp8e4m3 : ∀ (i : grid0.Coords) (v1 : BitVec 32) (k0_hw9 : k0_chk9 i v1) (k0_t2 : Fin (k0_t2_loop v1).trips), (Rect.unit (s := S2x1024x128) (k0_off152 v1 k0_t2) S1x128x128.size (k0_off152_inb i v1 k0_hw9 k0_t2)).WholeWords (EltTy.packing .fp8e4m3) := fun i v1 k0_hw9 k0_t2 => k0_hw9.2.2.2.2.2.1.2.2.1 k0_t2 (k0_off152_inb i v1 k0_hw9 k0_t2)
theorem k0_off153_inb : ∀ (i : grid0.Coords) (v1 : BitVec 32) (k0_hw9 : k0_chk9 i v1) (k0_t2 : Fin (k0_t2_loop v1).trips), ∀ a, (k0_off153 v1 k0_t2) a + S1x1.size a ≤ S2x2.size a := fun i v1 k0_hw9 k0_t2 => k0_hw9.2.2.2.2.2.1.2.2.2.1 k0_t2
theorem k0_off154_inb : ∀ (i : grid0.Coords) (v1 : BitVec 32) (k0_hw9 : k0_chk9 i v1) (k0_t2 : Fin (k0_t2_loop v1).trips), ∀ a, (k0_off154 v1 k0_t2) a + S1x128x128.size a ≤ S2x1024x128.size a := fun i v1 k0_hw9 k0_t2 => k0_hw9.2.2.2.2.2.1.2.2.2.2.1 k0_t2
theorem k0_off154_wordsfp8e4m3 : ∀ (i : grid0.Coords) (v1 : BitVec 32) (k0_hw9 : k0_chk9 i v1) (k0_t2 : Fin (k0_t2_loop v1).trips), (Rect.unit (s := S2x1024x128) (k0_off154 v1 k0_t2) S1x128x128.size (k0_off154_inb i v1 k0_hw9 k0_t2)).WholeWords (EltTy.packing .fp8e4m3) := fun i v1 k0_hw9 k0_t2 => k0_hw9.2.2.2.2.2.1.2.2.2.2.2.1 k0_t2 (k0_off154_inb i v1 k0_hw9 k0_t2)
theorem k0_off156_inb : ∀ (i : grid0.Coords) (v1 : BitVec 32) (k0_hw9 : k0_chk9 i v1) (k0_t2 : Fin (k0_t2_loop v1).trips), ∀ a, (k0_off156 v1 k0_t2) a + S1x1.size a ≤ S2x2.size a := fun i v1 k0_hw9 k0_t2 => k0_hw9.2.2.2.2.2.1.2.2.2.2.2.2.1 k0_t2
theorem k0_off157_inb : ∀ (i : grid0.Coords) (v1 : BitVec 32) (k0_hw9 : k0_chk9 i v1) (k0_t2 : Fin (k0_t2_loop v1).trips), ∀ a, (k0_off157 v1 k0_t2) a + S1x128x128.size a ≤ S2x1024x128.size a := fun i v1 k0_hw9 k0_t2 => k0_hw9.2.2.2.2.2.1.2.2.2.2.2.2.2.1 k0_t2
theorem k0_off157_wordsfp8e4m3 : ∀ (i : grid0.Coords) (v1 : BitVec 32) (k0_hw9 : k0_chk9 i v1) (k0_t2 : Fin (k0_t2_loop v1).trips), (Rect.unit (s := S2x1024x128) (k0_off157 v1 k0_t2) S1x128x128.size (k0_off157_inb i v1 k0_hw9 k0_t2)).WholeWords (EltTy.packing .fp8e4m3) := fun i v1 k0_hw9 k0_t2 => k0_hw9.2.2.2.2.2.1.2.2.2.2.2.2.2.2.1 k0_t2 (k0_off157_inb i v1 k0_hw9 k0_t2)
theorem k0_off158_inb : ∀ (i : grid0.Coords) (v1 : BitVec 32) (k0_hw9 : k0_chk9 i v1) (k0_t2 : Fin (k0_t2_loop v1).trips), ∀ a, (k0_off158 v1 k0_t2) a + S1x1.size a ≤ S2x2.size a := fun i v1 k0_hw9 k0_t2 => k0_hw9.2.2.2.2.2.1.2.2.2.2.2.2.2.2.2.1 k0_t2
theorem k0_off159_inb : ∀ (i : grid0.Coords) (v1 : BitVec 32) (k0_hw9 : k0_chk9 i v1) (k0_t2 : Fin (k0_t2_loop v1).trips), ∀ a, (k0_off159 v1 k0_t2) a + S1x128x128.size a ≤ S2x1024x128.size a := fun i v1 k0_hw9 k0_t2 => k0_hw9.2.2.2.2.2.1.2.2.2.2.2.2.2.2.2.2.1 k0_t2
theorem k0_off159_wordsfp8e4m3 : ∀ (i : grid0.Coords) (v1 : BitVec 32) (k0_hw9 : k0_chk9 i v1) (k0_t2 : Fin (k0_t2_loop v1).trips), (Rect.unit (s := S2x1024x128) (k0_off159 v1 k0_t2) S1x128x128.size (k0_off159_inb i v1 k0_hw9 k0_t2)).WholeWords (EltTy.packing .fp8e4m3) := fun i v1 k0_hw9 k0_t2 => k0_hw9.2.2.2.2.2.1.2.2.2.2.2.2.2.2.2.2.2.1 k0_t2 (k0_off159_inb i v1 k0_hw9 k0_t2)
theorem k0_off161_inb : ∀ (i : grid0.Coords) (v1 : BitVec 32) (k0_hw9 : k0_chk9 i v1) (k0_t2 : Fin (k0_t2_loop v1).trips), ∀ a, (k0_off161 v1 k0_t2) a + S1x1.size a ≤ S2x2.size a := fun i v1 k0_hw9 k0_t2 => k0_hw9.2.2.2.2.2.1.2.2.2.2.2.2.2.2.2.2.2.2.1 k0_t2
theorem k0_off162_inb : ∀ (i : grid0.Coords) (v1 : BitVec 32) (k0_hw9 : k0_chk9 i v1) (k0_t2 : Fin (k0_t2_loop v1).trips), ∀ a, (k0_off162 v1 k0_t2) a + S1x128x128.size a ≤ S2x1024x128.size a := fun i v1 k0_hw9 k0_t2 => k0_hw9.2.2.2.2.2.1.2.2.2.2.2.2.2.2.2.2.2.2.2.1 k0_t2
theorem k0_off162_wordsfp8e4m3 : ∀ (i : grid0.Coords) (v1 : BitVec 32) (k0_hw9 : k0_chk9 i v1) (k0_t2 : Fin (k0_t2_loop v1).trips), (Rect.unit (s := S2x1024x128) (k0_off162 v1 k0_t2) S1x128x128.size (k0_off162_inb i v1 k0_hw9 k0_t2)).WholeWords (EltTy.packing .fp8e4m3) := fun i v1 k0_hw9 k0_t2 => k0_hw9.2.2.2.2.2.1.2.2.2.2.2.2.2.2.2.2.2.2.2.2.1 k0_t2 (k0_off162_inb i v1 k0_hw9 k0_t2)
theorem k0_off163_inb : ∀ (i : grid0.Coords) (v1 : BitVec 32) (k0_hw9 : k0_chk9 i v1) (k0_t2 : Fin (k0_t2_loop v1).trips), ∀ a, (k0_off163 v1 k0_t2) a + S1x1.size a ≤ S2x2.size a := fun i v1 k0_hw9 k0_t2 => k0_hw9.2.2.2.2.2.1.2.2.2.2.2.2.2.2.2.2.2.2.2.2.2.1 k0_t2
theorem k0_off164_inb : ∀ (i : grid0.Coords) (v1 : BitVec 32) (k0_hw9 : k0_chk9 i v1) (k0_t2 : Fin (k0_t2_loop v1).trips), ∀ a, (k0_off164 v1 k0_t2) a + S1x128x128.size a ≤ S2x1024x128.size a := fun i v1 k0_hw9 k0_t2 => k0_hw9.2.2.2.2.2.1.2.2.2.2.2.2.2.2.2.2.2.2.2.2.2.2.1 k0_t2
theorem k0_off164_wordsfp8e4m3 : ∀ (i : grid0.Coords) (v1 : BitVec 32) (k0_hw9 : k0_chk9 i v1) (k0_t2 : Fin (k0_t2_loop v1).trips), (Rect.unit (s := S2x1024x128) (k0_off164 v1 k0_t2) S1x128x128.size (k0_off164_inb i v1 k0_hw9 k0_t2)).WholeWords (EltTy.packing .fp8e4m3) := fun i v1 k0_hw9 k0_t2 => k0_hw9.2.2.2.2.2.1.2.2.2.2.2.2.2.2.2.2.2.2.2.2.2.2.2.1 k0_t2 (k0_off164_inb i v1 k0_hw9 k0_t2)
theorem k0_off166_inb : ∀ (i : grid0.Coords) (v1 : BitVec 32) (k0_hw9 : k0_chk9 i v1) (k0_t2 : Fin (k0_t2_loop v1).trips), ∀ a, (k0_off166 v1 k0_t2) a + S1x1.size a ≤ S2x2.size a := fun i v1 k0_hw9 k0_t2 => k0_hw9.2.2.2.2.2.1.2.2.2.2.2.2.2.2.2.2.2.2.2.2.2.2.2.2.1 k0_t2
theorem k0_off167_inb : ∀ (i : grid0.Coords) (v1 : BitVec 32) (k0_hw9 : k0_chk9 i v1) (k0_t2 : Fin (k0_t2_loop v1).trips), ∀ a, (k0_off167 v1 k0_t2) a + S1x128x128.size a ≤ S2x1024x128.size a := fun i v1 k0_hw9 k0_t2 => k0_hw9.2.2.2.2.2.1.2.2.2.2.2.2.2.2.2.2.2.2.2.2.2.2.2.2.2.1 k0_t2
theorem k0_off167_wordsfp8e4m3 : ∀ (i : grid0.Coords) (v1 : BitVec 32) (k0_hw9 : k0_chk9 i v1) (k0_t2 : Fin (k0_t2_loop v1).trips), (Rect.unit (s := S2x1024x128) (k0_off167 v1 k0_t2) S1x128x128.size (k0_off167_inb i v1 k0_hw9 k0_t2)).WholeWords (EltTy.packing .fp8e4m3) := fun i v1 k0_hw9 k0_t2 => k0_hw9.2.2.2.2.2.1.2.2.2.2.2.2.2.2.2.2.2.2.2.2.2.2.2.2.2.2.1 k0_t2 (k0_off167_inb i v1 k0_hw9 k0_t2)
theorem k0_off168_inb : ∀ (i : grid0.Coords) (v1 : BitVec 32) (k0_hw9 : k0_chk9 i v1) (k0_t2 : Fin (k0_t2_loop v1).trips), ∀ a, (k0_off168 v1 k0_t2) a + S1x1.size a ≤ S2x2.size a := fun i v1 k0_hw9 k0_t2 => k0_hw9.2.2.2.2.2.1.2.2.2.2.2.2.2.2.2.2.2.2.2.2.2.2.2.2.2.2.2.1 k0_t2
theorem k0_off169_inb : ∀ (i : grid0.Coords) (v1 : BitVec 32) (k0_hw9 : k0_chk9 i v1) (k0_t2 : Fin (k0_t2_loop v1).trips), ∀ a, (k0_off169 v1 k0_t2) a + S1x128x128.size a ≤ S2x1024x128.size a := fun i v1 k0_hw9 k0_t2 => k0_hw9.2.2.2.2.2.1.2.2.2.2.2.2.2.2.2.2.2.2.2.2.2.2.2.2.2.2.2.2.1 k0_t2
theorem k0_off169_wordsfp8e4m3 : ∀ (i : grid0.Coords) (v1 : BitVec 32) (k0_hw9 : k0_chk9 i v1) (k0_t2 : Fin (k0_t2_loop v1).trips), (Rect.unit (s := S2x1024x128) (k0_off169 v1 k0_t2) S1x128x128.size (k0_off169_inb i v1 k0_hw9 k0_t2)).WholeWords (EltTy.packing .fp8e4m3) := fun i v1 k0_hw9 k0_t2 => k0_hw9.2.2.2.2.2.1.2.2.2.2.2.2.2.2.2.2.2.2.2.2.2.2.2.2.2.2.2.2.2.1 k0_t2 (k0_off169_inb i v1 k0_hw9 k0_t2)
theorem k0_off171_inb : ∀ (i : grid0.Coords) (v1 : BitVec 32) (k0_hw9 : k0_chk9 i v1) (k0_t2 : Fin (k0_t2_loop v1).trips), ∀ a, (k0_off171 v1 k0_t2) a + S1x1.size a ≤ S2x2.size a := fun i v1 k0_hw9 k0_t2 => k0_hw9.2.2.2.2.2.1.2.2.2.2.2.2.2.2.2.2.2.2.2.2.2.2.2.2.2.2.2.2.2.2.1 k0_t2
theorem k0_off172_inb : ∀ (i : grid0.Coords) (v1 : BitVec 32) (k0_hw9 : k0_chk9 i v1) (k0_t2 : Fin (k0_t2_loop v1).trips), ∀ a, (k0_off172 v1 k0_t2) a + S1x128x128.size a ≤ S2x1024x128.size a := fun i v1 k0_hw9 k0_t2 => k0_hw9.2.2.2.2.2.1.2.2.2.2.2.2.2.2.2.2.2.2.2.2.2.2.2.2.2.2.2.2.2.2.2.1 k0_t2
theorem k0_off172_wordsfp8e4m3 : ∀ (i : grid0.Coords) (v1 : BitVec 32) (k0_hw9 : k0_chk9 i v1) (k0_t2 : Fin (k0_t2_loop v1).trips), (Rect.unit (s := S2x1024x128) (k0_off172 v1 k0_t2) S1x128x128.size (k0_off172_inb i v1 k0_hw9 k0_t2)).WholeWords (EltTy.packing .fp8e4m3) := fun i v1 k0_hw9 k0_t2 => k0_hw9.2.2.2.2.2.1.2.2.2.2.2.2.2.2.2.2.2.2.2.2.2.2.2.2.2.2.2.2.2.2.2.2.1 k0_t2 (k0_off172_inb i v1 k0_hw9 k0_t2)
theorem k0_off173_inb : ∀ (i : grid0.Coords) (v1 : BitVec 32) (k0_hw9 : k0_chk9 i v1) (k0_t2 : Fin (k0_t2_loop v1).trips), ∀ a, (k0_off173 v1 k0_t2) a + S1x1.size a ≤ S2x2.size a := fun i v1 k0_hw9 k0_t2 => k0_hw9.2.2.2.2.2.1.2.2.2.2.2.2.2.2.2.2.2.2.2.2.2.2.2.2.2.2.2.2.2.2.2.2.2.1 k0_t2
theorem k0_off174_inb : ∀ (i : grid0.Coords) (v1 : BitVec 32) (k0_hw9 : k0_chk9 i v1) (k0_t2 : Fin (k0_t2_loop v1).trips), ∀ a, (k0_off174 v1 k0_t2) a + S1x128x128.size a ≤ S2x1024x128.size a := fun i v1 k0_hw9 k0_t2 => k0_hw9.2.2.2.2.2.1.2.2.2.2.2.2.2.2.2.2.2.2.2.2.2.2.2.2.2.2.2.2.2.2.2.2.2.2.1 k0_t2
theorem k0_off174_wordsfp8e4m3 : ∀ (i : grid0.Coords) (v1 : BitVec 32) (k0_hw9 : k0_chk9 i v1) (k0_t2 : Fin (k0_t2_loop v1).trips), (Rect.unit (s := S2x1024x128) (k0_off174 v1 k0_t2) S1x128x128.size (k0_off174_inb i v1 k0_hw9 k0_t2)).WholeWords (EltTy.packing .fp8e4m3) := fun i v1 k0_hw9 k0_t2 => k0_hw9.2.2.2.2.2.1.2.2.2.2.2.2.2.2.2.2.2.2.2.2.2.2.2.2.2.2.2.2.2.2.2.2.2.2.2.1 k0_t2 (k0_off174_inb i v1 k0_hw9 k0_t2)
theorem k0_off176_inb : ∀ (i : grid0.Coords) (v1 : BitVec 32) (k0_hw9 : k0_chk9 i v1) (k0_t2 : Fin (k0_t2_loop v1).trips), ∀ a, (k0_off176 v1 k0_t2) a + S1x1.size a ≤ S2x2.size a := fun i v1 k0_hw9 k0_t2 => k0_hw9.2.2.2.2.2.1.2.2.2.2.2.2.2.2.2.2.2.2.2.2.2.2.2.2.2.2.2.2.2.2.2.2.2.2.2.2.1 k0_t2
theorem k0_off177_inb : ∀ (i : grid0.Coords) (v1 : BitVec 32) (k0_hw9 : k0_chk9 i v1) (k0_t2 : Fin (k0_t2_loop v1).trips), ∀ a, (k0_off177 v1 k0_t2) a + S1x128x128.size a ≤ S2x1024x128.size a := fun i v1 k0_hw9 k0_t2 => k0_hw9.2.2.2.2.2.1.2.2.2.2.2.2.2.2.2.2.2.2.2.2.2.2.2.2.2.2.2.2.2.2.2.2.2.2.2.2.2 k0_t2
theorem k0_off177_wordsfp8e4m3 : ∀ (i : grid0.Coords) (v1 : BitVec 32) (k0_hw9 : k0_chk9 i v1) (k0_t2 : Fin (k0_t2_loop v1).trips), (Rect.unit (s := S2x1024x128) (k0_off177 v1 k0_t2) S1x128x128.size (k0_off177_inb i v1 k0_hw9 k0_t2)).WholeWords (EltTy.packing .fp8e4m3) := fun i v1 k0_hw9 k0_t2 => k0_hw9.2.2.2.2.2.2.1.1 k0_t2 (k0_off177_inb i v1 k0_hw9 k0_t2)
theorem k0_off178_inb : ∀ (i : grid0.Coords) (v1 : BitVec 32) (k0_hw9 : k0_chk9 i v1) (k0_t2 : Fin (k0_t2_loop v1).trips), ∀ a, (k0_off178 v1 k0_t2) a + S1x1.size a ≤ S2x2.size a := fun i v1 k0_hw9 k0_t2 => k0_hw9.2.2.2.2.2.2.1.2.1 k0_t2
theorem k0_off179_inb : ∀ (i : grid0.Coords) (v1 : BitVec 32) (k0_hw9 : k0_chk9 i v1) (k0_t2 : Fin (k0_t2_loop v1).trips), ∀ a, (k0_off179 v1 k0_t2) a + S1x128x128.size a ≤ S2x1024x128.size a := fun i v1 k0_hw9 k0_t2 => k0_hw9.2.2.2.2.2.2.1.2.2.1 k0_t2
theorem k0_off179_wordsfp8e4m3 : ∀ (i : grid0.Coords) (v1 : BitVec 32) (k0_hw9 : k0_chk9 i v1) (k0_t2 : Fin (k0_t2_loop v1).trips), (Rect.unit (s := S2x1024x128) (k0_off179 v1 k0_t2) S1x128x128.size (k0_off179_inb i v1 k0_hw9 k0_t2)).WholeWords (EltTy.packing .fp8e4m3) := fun i v1 k0_hw9 k0_t2 => k0_hw9.2.2.2.2.2.2.1.2.2.2.1 k0_t2 (k0_off179_inb i v1 k0_hw9 k0_t2)
theorem k0_off181_inb : ∀ (i : grid0.Coords) (v1 : BitVec 32) (k0_hw9 : k0_chk9 i v1) (k0_t2 : Fin (k0_t2_loop v1).trips), ∀ a, (k0_off181 v1 k0_t2) a + S1x1.size a ≤ S2x2.size a := fun i v1 k0_hw9 k0_t2 => k0_hw9.2.2.2.2.2.2.1.2.2.2.2.1 k0_t2
theorem k0_off182_inb : ∀ (i : grid0.Coords) (v1 : BitVec 32) (k0_hw9 : k0_chk9 i v1) (k0_t2 : Fin (k0_t2_loop v1).trips), ∀ a, (k0_off182 v1 k0_t2) a + S1x128x128.size a ≤ S2x1024x128.size a := fun i v1 k0_hw9 k0_t2 => k0_hw9.2.2.2.2.2.2.1.2.2.2.2.2.1 k0_t2
theorem k0_off182_wordsfp8e4m3 : ∀ (i : grid0.Coords) (v1 : BitVec 32) (k0_hw9 : k0_chk9 i v1) (k0_t2 : Fin (k0_t2_loop v1).trips), (Rect.unit (s := S2x1024x128) (k0_off182 v1 k0_t2) S1x128x128.size (k0_off182_inb i v1 k0_hw9 k0_t2)).WholeWords (EltTy.packing .fp8e4m3) := fun i v1 k0_hw9 k0_t2 => k0_hw9.2.2.2.2.2.2.1.2.2.2.2.2.2.1 k0_t2 (k0_off182_inb i v1 k0_hw9 k0_t2)
theorem k0_off183_inb : ∀ (i : grid0.Coords) (v1 : BitVec 32) (k0_hw9 : k0_chk9 i v1) (k0_t2 : Fin (k0_t2_loop v1).trips), ∀ a, (k0_off183 v1 k0_t2) a + S1x1024x128.size a ≤ S2x1024x128.size a := fun i v1 k0_hw9 k0_t2 => k0_hw9.2.2.2.2.2.2.1.2.2.2.2.2.2.2.1 k0_t2
theorem k0_off184_inb : ∀ (i : grid0.Coords) (v1 : BitVec 32) (k0_hw9 : k0_chk9 i v1), ∀ (k0_h4 : k0_cond4 v1 = 1#1), ∀ (r : Fin 8), ∀ a, (k0_off184 i v1 (BitVec.ofNat 32 r.val)) a + S1x1.size a ≤ S8x1024.size a := fun i v1 k0_hw9 k0_h4 r => k0_hw9.2.2.2.2.2.2.1.2.2.2.2.2.2.2.2.1 k0_h4 r
theorem k0_off185_inb : ∀ (i : grid0.Coords) (v1 : BitVec 32) (k0_hw9 : k0_chk9 i v1), ∀ (k0_h4 : k0_cond4 v1 = 1#1), ∀ a, (k0_off185 v1) a + S1x1.size a ≤ S2x2.size a := fun i v1 k0_hw9 k0_h4 => k0_hw9.2.2.2.2.2.2.1.2.2.2.2.2.2.2.2.2.1 k0_h4
theorem k0_off186_inb : ∀ (i : grid0.Coords) (v1 : BitVec 32) (k0_hw9 : k0_chk9 i v1), ∀ (k0_h4 : k0_cond4 v1 = 1#1), ∀ a, (k0_off186 v1) a + S1x128x128.size a ≤ S2x1024x128.size a := fun i v1 k0_hw9 k0_h4 => k0_hw9.2.2.2.2.2.2.1.2.2.2.2.2.2.2.2.2.2.1 k0_h4
theorem k0_off186_wordsfp8e4m3 : ∀ (i : grid0.Coords) (v1 : BitVec 32) (k0_hw9 : k0_chk9 i v1), ∀ (k0_h4 : k0_cond4 v1 = 1#1), (Rect.unit (s := S2x1024x128) (k0_off186 v1) S1x128x128.size (k0_off186_inb i v1 k0_hw9 k0_h4)).WholeWords (EltTy.packing .fp8e4m3) := fun i v1 k0_hw9 k0_h4 => k0_hw9.2.2.2.2.2.2.1.2.2.2.2.2.2.2.2.2.2.2.1 k0_h4 (k0_off186_inb i v1 k0_hw9 k0_h4)
theorem k0_off188_inb : ∀ (i : grid0.Coords) (v1 : BitVec 32) (k0_hw9 : k0_chk9 i v1), ∀ (k0_h4 : k0_cond4 v1 = 1#1), ∀ a, (k0_off188 v1) a + S1x1.size a ≤ S2x2.size a := fun i v1 k0_hw9 k0_h4 => k0_hw9.2.2.2.2.2.2.1.2.2.2.2.2.2.2.2.2.2.2.2.1 k0_h4
theorem k0_off189_inb : ∀ (i : grid0.Coords) (v1 : BitVec 32) (k0_hw9 : k0_chk9 i v1), ∀ (k0_h4 : k0_cond4 v1 = 1#1), ∀ a, (k0_off189 v1) a + S1x128x128.size a ≤ S2x1024x128.size a := fun i v1 k0_hw9 k0_h4 => k0_hw9.2.2.2.2.2.2.1.2.2.2.2.2.2.2.2.2.2.2.2.2.1 k0_h4
theorem k0_off189_wordsfp8e4m3 : ∀ (i : grid0.Coords) (v1 : BitVec 32) (k0_hw9 : k0_chk9 i v1), ∀ (k0_h4 : k0_cond4 v1 = 1#1), (Rect.unit (s := S2x1024x128) (k0_off189 v1) S1x128x128.size (k0_off189_inb i v1 k0_hw9 k0_h4)).WholeWords (EltTy.packing .fp8e4m3) := fun i v1 k0_hw9 k0_h4 => k0_hw9.2.2.2.2.2.2.1.2.2.2.2.2.2.2.2.2.2.2.2.2.2.1 k0_h4 (k0_off189_inb i v1 k0_hw9 k0_h4)
theorem k0_off190_inb : ∀ (i : grid0.Coords) (v1 : BitVec 32) (k0_hw9 : k0_chk9 i v1), ∀ (k0_h4 : k0_cond4 v1 = 1#1), ∀ a, (k0_off190 v1) a + S1x1.size a ≤ S2x2.size a := fun i v1 k0_hw9 k0_h4 => k0_hw9.2.2.2.2.2.2.1.2.2.2.2.2.2.2.2.2.2.2.2.2.2.2.1 k0_h4
theorem k0_off191_inb : ∀ (i : grid0.Coords) (v1 : BitVec 32) (k0_hw9 : k0_chk9 i v1), ∀ (k0_h4 : k0_cond4 v1 = 1#1), ∀ a, (k0_off191 v1) a + S1x128x128.size a ≤ S2x1024x128.size a := fun i v1 k0_hw9 k0_h4 => k0_hw9.2.2.2.2.2.2.1.2.2.2.2.2.2.2.2.2.2.2.2.2.2.2.2.1 k0_h4
theorem k0_off191_wordsfp8e4m3 : ∀ (i : grid0.Coords) (v1 : BitVec 32) (k0_hw9 : k0_chk9 i v1), ∀ (k0_h4 : k0_cond4 v1 = 1#1), (Rect.unit (s := S2x1024x128) (k0_off191 v1) S1x128x128.size (k0_off191_inb i v1 k0_hw9 k0_h4)).WholeWords (EltTy.packing .fp8e4m3) := fun i v1 k0_hw9 k0_h4 => k0_hw9.2.2.2.2.2.2.1.2.2.2.2.2.2.2.2.2.2.2.2.2.2.2.2.2.1 k0_h4 (k0_off191_inb i v1 k0_hw9 k0_h4)
theorem k0_off193_inb : ∀ (i : grid0.Coords) (v1 : BitVec 32) (k0_hw9 : k0_chk9 i v1), ∀ (k0_h4 : k0_cond4 v1 = 1#1), ∀ a, (k0_off193 v1) a + S1x1.size a ≤ S2x2.size a := fun i v1 k0_hw9 k0_h4 => k0_hw9.2.2.2.2.2.2.1.2.2.2.2.2.2.2.2.2.2.2.2.2.2.2.2.2.2.1 k0_h4
theorem k0_off194_inb : ∀ (i : grid0.Coords) (v1 : BitVec 32) (k0_hw9 : k0_chk9 i v1), ∀ (k0_h4 : k0_cond4 v1 = 1#1), ∀ a, (k0_off194 v1) a + S1x128x128.size a ≤ S2x1024x128.size a := fun i v1 k0_hw9 k0_h4 => k0_hw9.2.2.2.2.2.2.1.2.2.2.2.2.2.2.2.2.2.2.2.2.2.2.2.2.2.2.1 k0_h4
theorem k0_off194_wordsfp8e4m3 : ∀ (i : grid0.Coords) (v1 : BitVec 32) (k0_hw9 : k0_chk9 i v1), ∀ (k0_h4 : k0_cond4 v1 = 1#1), (Rect.unit (s := S2x1024x128) (k0_off194 v1) S1x128x128.size (k0_off194_inb i v1 k0_hw9 k0_h4)).WholeWords (EltTy.packing .fp8e4m3) := fun i v1 k0_hw9 k0_h4 => k0_hw9.2.2.2.2.2.2.1.2.2.2.2.2.2.2.2.2.2.2.2.2.2.2.2.2.2.2.2.1 k0_h4 (k0_off194_inb i v1 k0_hw9 k0_h4)
theorem k0_off195_inb : ∀ (i : grid0.Coords) (v1 : BitVec 32) (k0_hw9 : k0_chk9 i v1), ∀ (k0_h4 : k0_cond4 v1 = 1#1), ∀ a, (k0_off195 v1) a + S1x1.size a ≤ S2x2.size a := fun i v1 k0_hw9 k0_h4 => k0_hw9.2.2.2.2.2.2.1.2.2.2.2.2.2.2.2.2.2.2.2.2.2.2.2.2.2.2.2.2.1 k0_h4
theorem k0_off196_inb : ∀ (i : grid0.Coords) (v1 : BitVec 32) (k0_hw9 : k0_chk9 i v1), ∀ (k0_h4 : k0_cond4 v1 = 1#1), ∀ a, (k0_off196 v1) a + S1x128x128.size a ≤ S2x1024x128.size a := fun i v1 k0_hw9 k0_h4 => k0_hw9.2.2.2.2.2.2.1.2.2.2.2.2.2.2.2.2.2.2.2.2.2.2.2.2.2.2.2.2.2.1 k0_h4
theorem k0_off196_wordsfp8e4m3 : ∀ (i : grid0.Coords) (v1 : BitVec 32) (k0_hw9 : k0_chk9 i v1), ∀ (k0_h4 : k0_cond4 v1 = 1#1), (Rect.unit (s := S2x1024x128) (k0_off196 v1) S1x128x128.size (k0_off196_inb i v1 k0_hw9 k0_h4)).WholeWords (EltTy.packing .fp8e4m3) := fun i v1 k0_hw9 k0_h4 => k0_hw9.2.2.2.2.2.2.1.2.2.2.2.2.2.2.2.2.2.2.2.2.2.2.2.2.2.2.2.2.2.2.1 k0_h4 (k0_off196_inb i v1 k0_hw9 k0_h4)
theorem k0_off198_inb : ∀ (i : grid0.Coords) (v1 : BitVec 32) (k0_hw9 : k0_chk9 i v1), ∀ (k0_h4 : k0_cond4 v1 = 1#1), ∀ a, (k0_off198 v1) a + S1x1.size a ≤ S2x2.size a := fun i v1 k0_hw9 k0_h4 => k0_hw9.2.2.2.2.2.2.1.2.2.2.2.2.2.2.2.2.2.2.2.2.2.2.2.2.2.2.2.2.2.2.2.1 k0_h4
theorem k0_off199_inb : ∀ (i : grid0.Coords) (v1 : BitVec 32) (k0_hw9 : k0_chk9 i v1), ∀ (k0_h4 : k0_cond4 v1 = 1#1), ∀ a, (k0_off199 v1) a + S1x128x128.size a ≤ S2x1024x128.size a := fun i v1 k0_hw9 k0_h4 => k0_hw9.2.2.2.2.2.2.1.2.2.2.2.2.2.2.2.2.2.2.2.2.2.2.2.2.2.2.2.2.2.2.2.2.1 k0_h4
theorem k0_off199_wordsfp8e4m3 : ∀ (i : grid0.Coords) (v1 : BitVec 32) (k0_hw9 : k0_chk9 i v1), ∀ (k0_h4 : k0_cond4 v1 = 1#1), (Rect.unit (s := S2x1024x128) (k0_off199 v1) S1x128x128.size (k0_off199_inb i v1 k0_hw9 k0_h4)).WholeWords (EltTy.packing .fp8e4m3) := fun i v1 k0_hw9 k0_h4 => k0_hw9.2.2.2.2.2.2.1.2.2.2.2.2.2.2.2.2.2.2.2.2.2.2.2.2.2.2.2.2.2.2.2.2.2.1 k0_h4 (k0_off199_inb i v1 k0_hw9 k0_h4)
theorem k0_off200_inb : ∀ (i : grid0.Coords) (v1 : BitVec 32) (k0_hw9 : k0_chk9 i v1), ∀ (k0_h4 : k0_cond4 v1 = 1#1), ∀ a, (k0_off200 v1) a + S1x1.size a ≤ S2x2.size a := fun i v1 k0_hw9 k0_h4 => k0_hw9.2.2.2.2.2.2.1.2.2.2.2.2.2.2.2.2.2.2.2.2.2.2.2.2.2.2.2.2.2.2.2.2.2.2.1 k0_h4
theorem k0_off201_inb : ∀ (i : grid0.Coords) (v1 : BitVec 32) (k0_hw9 : k0_chk9 i v1), ∀ (k0_h4 : k0_cond4 v1 = 1#1), ∀ a, (k0_off201 v1) a + S1x128x128.size a ≤ S2x1024x128.size a := fun i v1 k0_hw9 k0_h4 => k0_hw9.2.2.2.2.2.2.1.2.2.2.2.2.2.2.2.2.2.2.2.2.2.2.2.2.2.2.2.2.2.2.2.2.2.2.2.1 k0_h4
theorem k0_off201_wordsfp8e4m3 : ∀ (i : grid0.Coords) (v1 : BitVec 32) (k0_hw9 : k0_chk9 i v1), ∀ (k0_h4 : k0_cond4 v1 = 1#1), (Rect.unit (s := S2x1024x128) (k0_off201 v1) S1x128x128.size (k0_off201_inb i v1 k0_hw9 k0_h4)).WholeWords (EltTy.packing .fp8e4m3) := fun i v1 k0_hw9 k0_h4 => k0_hw9.2.2.2.2.2.2.1.2.2.2.2.2.2.2.2.2.2.2.2.2.2.2.2.2.2.2.2.2.2.2.2.2.2.2.2.2.1 k0_h4 (k0_off201_inb i v1 k0_hw9 k0_h4)
theorem k0_off203_inb : ∀ (i : grid0.Coords) (v1 : BitVec 32) (k0_hw9 : k0_chk9 i v1), ∀ (k0_h4 : k0_cond4 v1 = 1#1), ∀ a, (k0_off203 v1) a + S1x1.size a ≤ S2x2.size a := fun i v1 k0_hw9 k0_h4 => k0_hw9.2.2.2.2.2.2.1.2.2.2.2.2.2.2.2.2.2.2.2.2.2.2.2.2.2.2.2.2.2.2.2.2.2.2.2.2.2.1 k0_h4
theorem k0_off204_inb : ∀ (i : grid0.Coords) (v1 : BitVec 32) (k0_hw9 : k0_chk9 i v1), ∀ (k0_h4 : k0_cond4 v1 = 1#1), ∀ a, (k0_off204 v1) a + S1x128x128.size a ≤ S2x1024x128.size a := fun i v1 k0_hw9 k0_h4 => k0_hw9.2.2.2.2.2.2.1.2.2.2.2.2.2.2.2.2.2.2.2.2.2.2.2.2.2.2.2.2.2.2.2.2.2.2.2.2.2.2 k0_h4
theorem k0_off204_wordsfp8e4m3 : ∀ (i : grid0.Coords) (v1 : BitVec 32) (k0_hw9 : k0_chk9 i v1), ∀ (k0_h4 : k0_cond4 v1 = 1#1), (Rect.unit (s := S2x1024x128) (k0_off204 v1) S1x128x128.size (k0_off204_inb i v1 k0_hw9 k0_h4)).WholeWords (EltTy.packing .fp8e4m3) := fun i v1 k0_hw9 k0_h4 => k0_hw9.2.2.2.2.2.2.2.1 k0_h4 (k0_off204_inb i v1 k0_hw9 k0_h4)
theorem k0_off205_inb : ∀ (i : grid0.Coords) (v1 : BitVec 32) (k0_hw9 : k0_chk9 i v1), ∀ (k0_h4 : k0_cond4 v1 = 1#1), ∀ a, (k0_off205 v1) a + S1x1.size a ≤ S2x2.size a := fun i v1 k0_hw9 k0_h4 => k0_hw9.2.2.2.2.2.2.2.2.1 k0_h4
theorem k0_off206_inb : ∀ (i : grid0.Coords) (v1 : BitVec 32) (k0_hw9 : k0_chk9 i v1), ∀ (k0_h4 : k0_cond4 v1 = 1#1), ∀ a, (k0_off206 v1) a + S1x128x128.size a ≤ S2x1024x128.size a := fun i v1 k0_hw9 k0_h4 => k0_hw9.2.2.2.2.2.2.2.2.2.1 k0_h4
theorem k0_off206_wordsfp8e4m3 : ∀ (i : grid0.Coords) (v1 : BitVec 32) (k0_hw9 : k0_chk9 i v1), ∀ (k0_h4 : k0_cond4 v1 = 1#1), (Rect.unit (s := S2x1024x128) (k0_off206 v1) S1x128x128.size (k0_off206_inb i v1 k0_hw9 k0_h4)).WholeWords (EltTy.packing .fp8e4m3) := fun i v1 k0_hw9 k0_h4 => k0_hw9.2.2.2.2.2.2.2.2.2.2.1 k0_h4 (k0_off206_inb i v1 k0_hw9 k0_h4)
theorem k0_off208_inb : ∀ (i : grid0.Coords) (v1 : BitVec 32) (k0_hw9 : k0_chk9 i v1), ∀ (k0_h4 : k0_cond4 v1 = 1#1), ∀ a, (k0_off208 v1) a + S1x1.size a ≤ S2x2.size a := fun i v1 k0_hw9 k0_h4 => k0_hw9.2.2.2.2.2.2.2.2.2.2.2.1 k0_h4
theorem k0_off209_inb : ∀ (i : grid0.Coords) (v1 : BitVec 32) (k0_hw9 : k0_chk9 i v1), ∀ (k0_h4 : k0_cond4 v1 = 1#1), ∀ a, (k0_off209 v1) a + S1x128x128.size a ≤ S2x1024x128.size a := fun i v1 k0_hw9 k0_h4 => k0_hw9.2.2.2.2.2.2.2.2.2.2.2.2.1 k0_h4
theorem k0_off209_wordsfp8e4m3 : ∀ (i : grid0.Coords) (v1 : BitVec 32) (k0_hw9 : k0_chk9 i v1), ∀ (k0_h4 : k0_cond4 v1 = 1#1), (Rect.unit (s := S2x1024x128) (k0_off209 v1) S1x128x128.size (k0_off209_inb i v1 k0_hw9 k0_h4)).WholeWords (EltTy.packing .fp8e4m3) := fun i v1 k0_hw9 k0_h4 => k0_hw9.2.2.2.2.2.2.2.2.2.2.2.2.2.1 k0_h4 (k0_off209_inb i v1 k0_hw9 k0_h4)
theorem k0_off210_inb : ∀ (i : grid0.Coords) (v1 : BitVec 32) (k0_hw9 : k0_chk9 i v1), ∀ (k0_h4 : k0_cond4 v1 = 1#1), ∀ a, (k0_off210 v1) a + S1x1.size a ≤ S2x2.size a := fun i v1 k0_hw9 k0_h4 => k0_hw9.2.2.2.2.2.2.2.2.2.2.2.2.2.2.1 k0_h4
theorem k0_off211_inb : ∀ (i : grid0.Coords) (v1 : BitVec 32) (k0_hw9 : k0_chk9 i v1), ∀ (k0_h4 : k0_cond4 v1 = 1#1), ∀ a, (k0_off211 v1) a + S1x128x128.size a ≤ S2x1024x128.size a := fun i v1 k0_hw9 k0_h4 => k0_hw9.2.2.2.2.2.2.2.2.2.2.2.2.2.2.2.1 k0_h4
theorem k0_off211_wordsfp8e4m3 : ∀ (i : grid0.Coords) (v1 : BitVec 32) (k0_hw9 : k0_chk9 i v1), ∀ (k0_h4 : k0_cond4 v1 = 1#1), (Rect.unit (s := S2x1024x128) (k0_off211 v1) S1x128x128.size (k0_off211_inb i v1 k0_hw9 k0_h4)).WholeWords (EltTy.packing .fp8e4m3) := fun i v1 k0_hw9 k0_h4 => k0_hw9.2.2.2.2.2.2.2.2.2.2.2.2.2.2.2.2.1 k0_h4 (k0_off211_inb i v1 k0_hw9 k0_h4)
theorem k0_off213_inb : ∀ (i : grid0.Coords) (v1 : BitVec 32) (k0_hw9 : k0_chk9 i v1), ∀ (k0_h4 : k0_cond4 v1 = 1#1), ∀ a, (k0_off213 v1) a + S1x1.size a ≤ S2x2.size a := fun i v1 k0_hw9 k0_h4 => k0_hw9.2.2.2.2.2.2.2.2.2.2.2.2.2.2.2.2.2.1 k0_h4
theorem k0_off214_inb : ∀ (i : grid0.Coords) (v1 : BitVec 32) (k0_hw9 : k0_chk9 i v1), ∀ (k0_h4 : k0_cond4 v1 = 1#1), ∀ a, (k0_off214 v1) a + S1x128x128.size a ≤ S2x1024x128.size a := fun i v1 k0_hw9 k0_h4 => k0_hw9.2.2.2.2.2.2.2.2.2.2.2.2.2.2.2.2.2.2.1 k0_h4
theorem k0_off214_wordsfp8e4m3 : ∀ (i : grid0.Coords) (v1 : BitVec 32) (k0_hw9 : k0_chk9 i v1), ∀ (k0_h4 : k0_cond4 v1 = 1#1), (Rect.unit (s := S2x1024x128) (k0_off214 v1) S1x128x128.size (k0_off214_inb i v1 k0_hw9 k0_h4)).WholeWords (EltTy.packing .fp8e4m3) := fun i v1 k0_hw9 k0_h4 => k0_hw9.2.2.2.2.2.2.2.2.2.2.2.2.2.2.2.2.2.2.2.1 k0_h4 (k0_off214_inb i v1 k0_hw9 k0_h4)
theorem k0_off215_inb : ∀ (i : grid0.Coords) (v1 : BitVec 32) (k0_hw9 : k0_chk9 i v1), ∀ (k0_h4 : k0_cond4 v1 = 1#1), ∀ a, (k0_off215 v1) a + S1x1.size a ≤ S2x2.size a := fun i v1 k0_hw9 k0_h4 => k0_hw9.2.2.2.2.2.2.2.2.2.2.2.2.2.2.2.2.2.2.2.2.1 k0_h4
theorem k0_off216_inb : ∀ (i : grid0.Coords) (v1 : BitVec 32) (k0_hw9 : k0_chk9 i v1), ∀ (k0_h4 : k0_cond4 v1 = 1#1), ∀ a, (k0_off216 v1) a + S1x128x128.size a ≤ S2x1024x128.size a := fun i v1 k0_hw9 k0_h4 => k0_hw9.2.2.2.2.2.2.2.2.2.2.2.2.2.2.2.2.2.2.2.2.2.1 k0_h4
theorem k0_off216_wordsfp8e4m3 : ∀ (i : grid0.Coords) (v1 : BitVec 32) (k0_hw9 : k0_chk9 i v1), ∀ (k0_h4 : k0_cond4 v1 = 1#1), (Rect.unit (s := S2x1024x128) (k0_off216 v1) S1x128x128.size (k0_off216_inb i v1 k0_hw9 k0_h4)).WholeWords (EltTy.packing .fp8e4m3) := fun i v1 k0_hw9 k0_h4 => k0_hw9.2.2.2.2.2.2.2.2.2.2.2.2.2.2.2.2.2.2.2.2.2.2.1 k0_h4 (k0_off216_inb i v1 k0_hw9 k0_h4)
theorem k0_off218_inb : ∀ (i : grid0.Coords) (v1 : BitVec 32) (k0_hw9 : k0_chk9 i v1), ∀ (k0_h4 : k0_cond4 v1 = 1#1), ∀ a, (k0_off218 v1) a + S1x1.size a ≤ S2x2.size a := fun i v1 k0_hw9 k0_h4 => k0_hw9.2.2.2.2.2.2.2.2.2.2.2.2.2.2.2.2.2.2.2.2.2.2.2.1 k0_h4
theorem k0_off219_inb : ∀ (i : grid0.Coords) (v1 : BitVec 32) (k0_hw9 : k0_chk9 i v1), ∀ (k0_h4 : k0_cond4 v1 = 1#1), ∀ a, (k0_off219 v1) a + S1x128x128.size a ≤ S2x1024x128.size a := fun i v1 k0_hw9 k0_h4 => k0_hw9.2.2.2.2.2.2.2.2.2.2.2.2.2.2.2.2.2.2.2.2.2.2.2.2.1 k0_h4
theorem k0_off219_wordsfp8e4m3 : ∀ (i : grid0.Coords) (v1 : BitVec 32) (k0_hw9 : k0_chk9 i v1), ∀ (k0_h4 : k0_cond4 v1 = 1#1), (Rect.unit (s := S2x1024x128) (k0_off219 v1) S1x128x128.size (k0_off219_inb i v1 k0_hw9 k0_h4)).WholeWords (EltTy.packing .fp8e4m3) := fun i v1 k0_hw9 k0_h4 => k0_hw9.2.2.2.2.2.2.2.2.2.2.2.2.2.2.2.2.2.2.2.2.2.2.2.2.2.1 k0_h4 (k0_off219_inb i v1 k0_hw9 k0_h4)
theorem k0_off220_inb : ∀ (i : grid0.Coords) (v1 : BitVec 32) (k0_hw9 : k0_chk9 i v1), ∀ (k0_h4 : k0_cond4 v1 = 1#1), ∀ a, (k0_off220 v1) a + S1x1.size a ≤ S2x2.size a := fun i v1 k0_hw9 k0_h4 => k0_hw9.2.2.2.2.2.2.2.2.2.2.2.2.2.2.2.2.2.2.2.2.2.2.2.2.2.2.1 k0_h4
theorem k0_off221_inb : ∀ (i : grid0.Coords) (v1 : BitVec 32) (k0_hw9 : k0_chk9 i v1), ∀ (k0_h4 : k0_cond4 v1 = 1#1), ∀ a, (k0_off221 v1) a + S1x128x128.size a ≤ S2x1024x128.size a := fun i v1 k0_hw9 k0_h4 => k0_hw9.2.2.2.2.2.2.2.2.2.2.2.2.2.2.2.2.2.2.2.2.2.2.2.2.2.2.2.1 k0_h4
theorem k0_off221_wordsfp8e4m3 : ∀ (i : grid0.Coords) (v1 : BitVec 32) (k0_hw9 : k0_chk9 i v1), ∀ (k0_h4 : k0_cond4 v1 = 1#1), (Rect.unit (s := S2x1024x128) (k0_off221 v1) S1x128x128.size (k0_off221_inb i v1 k0_hw9 k0_h4)).WholeWords (EltTy.packing .fp8e4m3) := fun i v1 k0_hw9 k0_h4 => k0_hw9.2.2.2.2.2.2.2.2.2.2.2.2.2.2.2.2.2.2.2.2.2.2.2.2.2.2.2.2.1 k0_h4 (k0_off221_inb i v1 k0_hw9 k0_h4)
theorem k0_off223_inb : ∀ (i : grid0.Coords) (v1 : BitVec 32) (k0_hw9 : k0_chk9 i v1), ∀ (k0_h4 : k0_cond4 v1 = 1#1), ∀ a, (k0_off223 v1) a + S1x1.size a ≤ S2x2.size a := fun i v1 k0_hw9 k0_h4 => k0_hw9.2.2.2.2.2.2.2.2.2.2.2.2.2.2.2.2.2.2.2.2.2.2.2.2.2.2.2.2.2.1 k0_h4
theorem k0_off224_inb : ∀ (i : grid0.Coords) (v1 : BitVec 32) (k0_hw9 : k0_chk9 i v1), ∀ (k0_h4 : k0_cond4 v1 = 1#1), ∀ a, (k0_off224 v1) a + S1x128x128.size a ≤ S2x1024x128.size a := fun i v1 k0_hw9 k0_h4 => k0_hw9.2.2.2.2.2.2.2.2.2.2.2.2.2.2.2.2.2.2.2.2.2.2.2.2.2.2.2.2.2.2.1 k0_h4
theorem k0_off224_wordsfp8e4m3 : ∀ (i : grid0.Coords) (v1 : BitVec 32) (k0_hw9 : k0_chk9 i v1), ∀ (k0_h4 : k0_cond4 v1 = 1#1), (Rect.unit (s := S2x1024x128) (k0_off224 v1) S1x128x128.size (k0_off224_inb i v1 k0_hw9 k0_h4)).WholeWords (EltTy.packing .fp8e4m3) := fun i v1 k0_hw9 k0_h4 => k0_hw9.2.2.2.2.2.2.2.2.2.2.2.2.2.2.2.2.2.2.2.2.2.2.2.2.2.2.2.2.2.2.2.1 k0_h4 (k0_off224_inb i v1 k0_hw9 k0_h4)
theorem k0_off225_inb : ∀ (i : grid0.Coords) (v1 : BitVec 32) (k0_hw9 : k0_chk9 i v1), ∀ (k0_h4 : k0_cond4 v1 = 1#1), ∀ a, (k0_off225 v1) a + S1x1024x128.size a ≤ S2x1024x128.size a := fun i v1 k0_hw9 k0_h4 => k0_hw9.2.2.2.2.2.2.2.2.2.2.2.2.2.2.2.2.2.2.2.2.2.2.2.2.2.2.2.2.2.2.2.2 k0_h4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "exp2_scale" => some ((((Real.log 2) * (Real.sqrt 128))⁻¹ : ℝ) : EReal)
  | _ => none
-- ==== ReferenceIdeal.lean ====
abbrev S8x128x2048 : Shape := ⟨3, ![8, 128, 2048]⟩
abbrev S8x128x1x128 : Shape := ⟨4, ![8, 128, 1, 128]⟩
abbrev S8192x128x1x128 : Shape := ⟨4, ![8192, 128, 1, 128]⟩
abbrev S1 : Shape := ⟨1, ![1]⟩
abbrev S8x1024 : Shape := ⟨2, ![8, 1024]⟩
abbrev S8 : Shape := ⟨1, ![8]⟩
abbrev S254 : Shape := ⟨1, ![254]⟩
abbrev S_ : Shape := ⟨0, ![]⟩
abbrev S8x128x128 : Shape := ⟨3, ![8, 128, 128]⟩
abbrev S1x1x1 : Shape := ⟨3, ![1, 1, 1]⟩
abbrev S8192x128x128 : Shape := ⟨3, ![8192, 128, 128]⟩
abbrev S8x1024x1 : Shape := ⟨3, ![8, 1024, 1]⟩
abbrev S8x1024x128x128 : Shape := ⟨4, ![8, 1024, 128, 128]⟩
abbrev S8x131072x128 : Shape := ⟨3, ![8, 131072, 128]⟩
abbrev S8x131200x128 : Shape := ⟨3, ![8, 131200, 128]⟩
abbrev S8x128x131200 : Shape := ⟨3, ![8, 128, 131200]⟩
abbrev S8x1x1 : Shape := ⟨3, ![8, 1, 1]⟩
abbrev S8x128x16x128 : Shape := ⟨4, ![8, 128, 16, 128]⟩
abbrev S8x131200x128x16 : Shape := ⟨4, ![8, 131200, 128, 16]⟩
abbrev S8x16x128x131200 : Shape := ⟨4, ![8, 16, 128, 131200]⟩
abbrev S8x1x128x131200 : Shape := ⟨4, ![8, 1, 128, 131200]⟩
abbrev S8x16x128 : Shape := ⟨3, ![8, 16, 128]⟩
abbrev S8x16x128x1 : Shape := ⟨4, ![8, 16, 128, 1]⟩
abbrev S8x16x128x128 : Shape := ⟨4, ![8, 16, 128, 128]⟩

abbrev nBuf : Space → Nat
  | .hbm => 139
  | .vmem => 10
  | .smem => 0
  | _ => 0

abbrev hbmTy0_0 (i : Nat) : BufTy := match i % 128 with
  | 0 => ⟨S8x128x2048, .bf16⟩
  | 1 => ⟨S8x128x1x128, .bf16⟩
  | 2 => ⟨S8x128x1x128, .bf16⟩
  | 3 => ⟨S8192x128x1x128, .fp8e4m3⟩
  | 4 => ⟨S8192x128x1x128, .fp8e4m3⟩
  | 5 => ⟨S1, .f32⟩
  | 6 => ⟨S1, .f32⟩
  | 7 => ⟨S8x1024, .i32⟩
  | 8 => ⟨S8, .i32⟩
  | 9 => ⟨S254, .f32⟩
  | 10 => ⟨S254, .f32⟩
  | 11 => ⟨S1, .f32⟩
  | 12 => ⟨S254, .f32⟩
  | 13 => ⟨S254, .i1⟩
  | 14 => ⟨S_, .f32⟩
  | 15 => ⟨S254, .f32⟩
  | 16 => ⟨S254, .f32⟩
  | 17 => ⟨S_, .f32⟩
  | 18 => ⟨S_, .f32⟩
  | 19 => ⟨S1, .f32⟩
  | 20 => ⟨S_, .f32⟩
  | 21 => ⟨S1, .f32⟩
  | 22 => ⟨S1, .i1⟩
  | 23 => ⟨S_, .f32⟩
  | 24 => ⟨S1, .f32⟩
  | 25 => ⟨S1, .f32⟩
  | 26 => ⟨S_, .f32⟩
  | 27 => ⟨S1, .f32⟩
  | 28 => ⟨S1, .f32⟩
  | 29 => ⟨S8x128x128, .bf16⟩
  | 30 => ⟨S8x128x128, .f32⟩
  | 31 => ⟨S1x1x1, .f32⟩
  | 32 => ⟨S8x128x128, .f32⟩
  | 33 => ⟨S8x128x128, .f32⟩
  | 34 => ⟨S_, .f32⟩
  | 35 => ⟨S_, .f32⟩
  | 36 => ⟨S_, .f32⟩
  | 37 => ⟨S8x128x128, .f32⟩
  | 38 => ⟨S8x128x128, .f32⟩
  | 39 => ⟨S_, .f32⟩
  | 40 => ⟨S8x128x128, .f32⟩
  | 41 => ⟨S8x128x128, .f32⟩
  | 42 => ⟨S1, .f32⟩
  | 43 => ⟨S254, .f32⟩
  | 44 => ⟨S254, .i1⟩
  | 45 => ⟨S_, .f32⟩
  | 46 => ⟨S254, .f32⟩
  | 47 => ⟨S254, .f32⟩
  | 48 => ⟨S_, .f32⟩
  | 49 => ⟨S_, .f32⟩
  | 50 => ⟨S1, .f32⟩
  | 51 => ⟨S_, .f32⟩
  | 52 => ⟨S1, .f32⟩
  | 53 => ⟨S1, .i1⟩
  | 54 => ⟨S_, .f32⟩
  | 55 => ⟨S1, .f32⟩
  | 56 => ⟨S1, .f32⟩
  | 57 => ⟨S_, .f32⟩
  | 58 => ⟨S1, .f32⟩
  | 59 => ⟨S1, .f32⟩
  | 60 => ⟨S8x128x128, .bf16⟩
  | 61 => ⟨S8x128x128, .f32⟩
  | 62 => ⟨S1x1x1, .f32⟩
  | 63 => ⟨S8x128x128, .f32⟩
  | 64 => ⟨S8x128x128, .f32⟩
  | 65 => ⟨S_, .f32⟩
  | 66 => ⟨S_, .f32⟩
  | 67 => ⟨S_, .f32⟩
  | 68 => ⟨S8x128x128, .f32⟩
  | 69 => ⟨S8x128x128, .f32⟩
  | 70 => ⟨S_, .f32⟩
  | 71 => ⟨S8x128x128, .f32⟩
  | 72 => ⟨S8x128x128, .f32⟩
  | 73 => ⟨S8192x128x128, .fp8e4m3⟩
  | 74 => ⟨S8192x128x128, .fp8e4m3⟩
  | 75 => ⟨S8x128x128, .fp8e4m3⟩
  | 76 => ⟨S8x128x128, .fp8e4m3⟩
  | 77 => ⟨S8x128x128, .bf16⟩
  | 78 => ⟨S8x128x128, .bf16⟩
  | 79 => ⟨S8192x128x128, .bf16⟩
  | 80 => ⟨S8192x128x128, .bf16⟩
  | 81 => ⟨S8x1024x1, .i32⟩
  | 82 => ⟨S8x1024x128x128, .bf16⟩
  | 83 => ⟨S8x131072x128, .bf16⟩
  | 84 => ⟨S8x131200x128, .bf16⟩
  | 85 => ⟨S1, .bf16⟩
  | 86 => ⟨S1x1x1, .bf16⟩
  | 87 => ⟨S8x131200x128, .bf16⟩
  | 88 => ⟨S8x131200x128, .bf16⟩
  | 89 => ⟨S8x1024x1, .i32⟩
  | 90 => ⟨S8x1024x128x128, .bf16⟩
  | 91 => ⟨S8x131072x128, .bf16⟩
  | 92 => ⟨S8x131200x128, .bf16⟩
  | 93 => ⟨S1, .bf16⟩
  | 94 => ⟨S1x1x1, .bf16⟩
  | 95 => ⟨S8x131200x128, .bf16⟩
  | 96 => ⟨S8x131200x128, .bf16⟩
  | 97 => ⟨S8x128x131200, .i32⟩
  | 98 => ⟨S8x128x131200, .i32⟩
  | 99 => ⟨S_, .i32⟩
  | 100 => ⟨S8x128x131200, .i32⟩
  | 101 => ⟨S8x128x131200, .i1⟩
  | 102 => ⟨S8x1x1, .i32⟩
  | 103 => ⟨S8x128x131200, .i32⟩
  | 104 => ⟨S8x128x131200, .i1⟩
  | 105 => ⟨S_, .i32⟩
  | 106 => ⟨S8x128x131200, .i32⟩
  | 107 => ⟨S8x128x131200, .i32⟩
  | 108 => ⟨S8x128x131200, .i1⟩
  | 109 => ⟨S8x128x131200, .i1⟩
  | 110 => ⟨S8x128x16x128, .bf16⟩
  | 111 => ⟨S8x131200x128x16, .f32⟩
  | 112 => ⟨S8x16x128x131200, .f32⟩
  | 113 => ⟨S_, .f32⟩
  | 114 => ⟨S_, .f32⟩
  | 115 => ⟨S8x16x128x131200, .f32⟩
  | 116 => ⟨S8x16x128x131200, .f32⟩
  | 117 => ⟨S8x1x128x131200, .i1⟩
  | 118 => ⟨S_, .f32⟩
  | 119 => ⟨S_, .f32⟩
  | 120 => ⟨S8x16x128x131200, .i1⟩
  | 121 => ⟨S8x16x128x131200, .f32⟩
  | 122 => ⟨S8x16x128x131200, .f32⟩
  | 123 => ⟨S_, .f32⟩
  | 124 => ⟨S8x16x128, .f32⟩
  | 125 => ⟨S8x16x128x1, .f32⟩
  | 126 => ⟨S8x16x128x131200, .f32⟩
  | 127 => ⟨S8x16x128x131200, .f32⟩
  | _ => ⟨S8x128x2048, .bf16⟩

abbrev hbmTy0_1 (i : Nat) : BufTy := match i % 128 with
  | 0 => ⟨S8x16x128x131200, .f32⟩
  | 1 => ⟨S_, .f32⟩
  | 2 => ⟨S8x16x128, .f32⟩
  | 3 => ⟨S8x131200x128, .f32⟩
  | 4 => ⟨S8x16x128x128, .f32⟩
  | 5 => ⟨S8x16x128x1, .f32⟩
  | 6 => ⟨S8x16x128x128, .f32⟩
  | 7 => ⟨S8x16x128x128, .f32⟩
  | 8 => ⟨S8x128x16x128, .f32⟩
  | 9 => ⟨S8x128x2048, .f32⟩
  | 10 => ⟨S8x128x2048, .bf16⟩
  | _ => ⟨S8x128x2048, .bf16⟩

abbrev hbmTy (i : Nat) : BufTy := match i / 128 with
  | 0 => hbmTy0_0 i
  | 1 => hbmTy0_1 i
  | _ => ⟨S8x128x2048, .bf16⟩

abbrev bufTy : (tb : Table) → Fin (tcTables nBuf tb) → BufTy
  | .hbm, ⟨i, _⟩ => hbmTy i
  | .local _ .vmem, ⟨0, _⟩ => ⟨S8x128x128, .f32⟩
  | .local _ .vmem, ⟨1, _⟩ => ⟨S8x128x128, .f32⟩
  | .local _ .vmem, ⟨2, _⟩ => ⟨S8192x128x128, .fp8e4m3⟩
  | .local _ .vmem, ⟨3, _⟩ => ⟨S8192x128x128, .fp8e4m3⟩
  | .local _ .vmem, ⟨4, _⟩ => ⟨S8x128x128, .fp8e4m3⟩
  | .local _ .vmem, ⟨5, _⟩ => ⟨S8x128x128, .fp8e4m3⟩
  | .local _ .vmem, ⟨6, _⟩ => ⟨S8x128x128, .bf16⟩
  | .local _ .vmem, ⟨7, _⟩ => ⟨S8x128x128, .bf16⟩
  | .local _ .vmem, ⟨8, _⟩ => ⟨S8192x128x128, .bf16⟩
  | .local _ .vmem, ⟨9, _⟩ => ⟨S8192x128x128, .bf16⟩
  | _, _ => ⟨S8x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_call0_v0 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_cst_5 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_cst_7 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_8 : Ref sig .tc := ⟨.hbm, 45, rfl⟩
abbrev main_call3_v0 : Ref sig .tc := ⟨.hbm, 46, rfl⟩
abbrev main_v20 : Ref sig .tc := ⟨.hbm, 47, rfl⟩
abbrev main_cst_9 : Ref sig .tc := ⟨.hbm, 48, rfl⟩
abbrev main_v21 : Ref sig .tc := ⟨.hbm, 49, rfl⟩
abbrev main_v22 : Ref sig .tc := ⟨.hbm, 50, rfl⟩
abbrev main_cst_10 : Ref sig .tc := ⟨.hbm, 51, rfl⟩
abbrev main_v23 : Ref sig .tc := ⟨.hbm, 52, rfl⟩
abbrev main_v24 : Ref sig .tc := ⟨.hbm, 53, rfl⟩
abbrev main_cst_11 : Ref sig .tc := ⟨.hbm, 54, rfl⟩
abbrev main_v25 : Ref sig .tc := ⟨.hbm, 55, rfl⟩
abbrev main_v26 : Ref sig .tc := ⟨.hbm, 56, rfl⟩
abbrev main_cst_12 : Ref sig .tc := ⟨.hbm, 57, rfl⟩
abbrev main_call4_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_13 : Ref sig .tc := ⟨.hbm, 65, rfl⟩
abbrev main_cst_14 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36_0 : Ref sig .tc := ⟨.hbm, 75, rfl⟩
abbrev main_v36_1 : Ref sig .tc := ⟨.hbm, 76, rfl⟩
abbrev main_v36_2 : Ref sig .tc := ⟨.hbm, 77, rfl⟩
abbrev main_v36_3 : Ref sig .tc := ⟨.hbm, 78, rfl⟩
abbrev main_v36_4 : Ref sig .tc := ⟨.hbm, 79, rfl⟩
abbrev main_v36_5 : Ref sig .tc := ⟨.hbm, 80, rfl⟩
abbrev main_call6_v0 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call7_v0 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_15 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_16 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_17 : Ref sig .tc := ⟨.hbm, 118, rfl⟩
abbrev main_call9_v0 : Ref sig .tc := ⟨.hbm, 119, rfl⟩
abbrev main_call9_v1 : Ref sig .tc := ⟨.hbm, 120, rfl⟩
abbrev main_call9_v2 : Ref sig .tc := ⟨.hbm, 121, rfl⟩
abbrev main_v69 : Ref sig .tc := ⟨.hbm, 122, rfl⟩
abbrev main_cst_18 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_19 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Struct.lean ====
/-
  The kernel's body over again, in the words a proof wants: a page word's load and check, the transfers of one block
  of eight pages, their waits, one tile of the attention, one head's transpose, one head's result. Each is written ONCE,
  at any tile, head, page and slot; `Body.lean` shows that the printed body is these pieces in a row.
-/
module

public import proofs.«01_k».proof.Proof.Gen.Kernel
public import Idealize.ShloMosaic.PureOps.Ideal

@[expose] public section

set_option synthInstance.maxSize 4096

noncomputable section

namespace Cert.Kernel.Hand

open Cert.Kernel
open Idealize.ShloMosaic Idealize.SL.Sem
open Facts₀ Facts

variable {F : FTy → Type} [FloatOps F]

/-- The factor the kernel multiplies scores by before `exp2`. -/
abbrev cE : F .f32 := Scalar.ofBits .f32 0x3E0293EE#32

/-- The operands of the body: tables and scalars, input blocks, caches, result blocks, scratch. -/
structure Args where
  pt : Memref sig .tc .smem S8x1024 .i32
  hpt : pt.IsWhole
  sl : Memref sig .tc .smem S8 .i32
  hsl : sl.IsWhole
  sc : Memref sig .tc .smem S4 .f32
  hsc : sc.IsWhole
  x : Memref sig .tc .vmem S1x128x2048 .bf16
  hx : x.IsWhole
  kn : Memref sig .tc .vmem S1x128x128 .bf16
  hkn : kn.IsWhole
  vn : Memref sig .tc .vmem S1x128x128 .bf16
  hvn : vn.IsWhole
  kc : Memref sig .tc .hbm S8192x128x128 .fp8e4m3
  hkc : kc.IsWhole
  vc : Memref sig .tc .hbm S8192x128x128 .fp8e4m3
  hvc : vc.IsWhole
  y : Memref sig .tc .vmem S1x128x2048 .bf16
  hy : y.IsWhole
  ko : Memref sig .tc .vmem S1x128x128 .fp8e4m3
  hko : ko.IsWhole
  vo : Memref sig .tc .vmem S1x128x128 .fp8e4m3
  hvo : vo.IsWhole
  kb : Memref sig .tc .vmem S2x1024x128 .fp8e4m3
  hkb : kb.IsWhole
  vb : Memref sig .tc .vmem S2x1024x128 .fp8e4m3
  hvb : vb.IsWhole
  sm : DmaSems sig S2x2
  qt : Memref sig .tc .vmem S128x2048 .bf16
  hqt : qt.IsWhole
  m : Memref sig .tc .vmem S1x2048 .f32
  hm : m.IsWhole
  l : Memref sig .tc .vmem S1x2048 .f32
  hl : l.IsWhole
  acc : Memref sig .tc .vmem S128x2048 .f32
  hacc : acc.IsWhole

/-- The programs of the body. -/
local notation "Pg" => Prog (TpuEff nD τ sig (Elt F) Λ₀ Proc.tc)

/-! ## The rectangles -/

/-- The page `w` of a cache. -/
abbrev offC (w : BitVec 32) : Fin 3 → ℕ := ![w.toNat, 0, 0]
/-- The semaphore of slot `s`, for keys (`0`) or values (`1`). -/
abbrev offS (s : BitVec 32) (u : ℕ) : Fin 2 → ℕ := ![s.toNat, u]
/-- The page `p` of slot `s` of a buffer. -/
abbrev offB (s : BitVec 32) (p : ℕ) : Fin 3 → ℕ := ![s.toNat, 128 * p, 0]

theorem inb_tile (t : ℕ) (ht : t < 8) : ∀ a, (![0, 256 * t] : Fin 2 → ℕ) a + S128x256.size a ≤ S128x2048.size a := by
  intro a; fin_cases a
  · show 0 + 128 ≤ 128; omega
  · show 256 * t + 256 ≤ 2048; omega
theorem inb_tile1 (t : ℕ) (ht : t < 8) : ∀ a, (![0, 256 * t] : Fin 2 → ℕ) a + S1x256.size a ≤ S1x2048.size a := by
  intro a; fin_cases a
  · show 0 + 1 ≤ 1; omega
  · show 256 * t + 256 ≤ 2048; omega
theorem inb_head (h : ℕ) (hh : h < 16) : ∀ a, (![0, 128 * h] : Fin 2 → ℕ) a + S128x128.size a ≤ S128x2048.size a := by
  intro a; fin_cases a
  · show 0 + 128 ≤ 128; omega
  · show 128 * h + 128 ≤ 2048; omega
theorem inb_head1 (h : ℕ) (hh : h < 16) : ∀ a, (![0, 128 * h] : Fin 2 → ℕ) a + S1x128.size a ≤ S1x2048.size a := by
  intro a; fin_cases a
  · show 0 + 1 ≤ 1; omega
  · show 128 * h + 128 ≤ 2048; omega
theorem inb_head3 (h : ℕ) (hh : h < 16) : ∀ a, (![0, 0, 128 * h] : Fin 3 → ℕ) a + S1x128x128.size a ≤ S1x128x2048.size a := by
  intro a; fin_cases a
  · show 0 + 1 ≤ 1; omega
  · show 0 + 128 ≤ 128; omega
  · show 128 * h + 128 ≤ 2048; omega

/-- Columns `256 t ..` of a [128, 2048] buffer. -/
abbrev rT (t : ℕ) (ht : t < 8) : Rect S128x2048 := Rect.unit (s := S128x2048) ![0, 256 * t] S128x256.size (inb_tile t ht)
/-- Columns `256 t ..` of a [1, 2048] buffer. -/
abbrev rT1 (t : ℕ) (ht : t < 8) : Rect S1x2048 := Rect.unit (s := S1x2048) ![0, 256 * t] S1x256.size (inb_tile1 t ht)
/-- Head `h`'s columns of a [128, 2048] buffer. -/
abbrev rH (h : ℕ) (hh : h < 16) : Rect S128x2048 := Rect.unit (s := S128x2048) ![0, 128 * h] S128x128.size (inb_head h hh)
/-- Head `h`'s columns of a [1, 2048] buffer. -/
abbrev rH1 (h : ℕ) (hh : h < 16) : Rect S1x2048 := Rect.unit (s := S1x2048) ![0, 128 * h] S1x128.size (inb_head1 h hh)
/-- Head `h`'s columns of a [1, 128, 2048] block. -/
abbrev rH3 (h : ℕ) (hh : h < 16) : Rect S1x128x2048 := Rect.unit (s := S1x128x2048) ![0, 0, 128 * h] S1x128x128.size (inb_head3 h hh)

variable [Facts]

/-- All of a [1, 128, 128] block. -/
abbrev rK : Rect S1x128x128 := Rect.unit (s := S1x128x128) ![0, 0, 0] S1x128x128.size inb_S1x128x128_S1x128x128_0_0_0

theorem packed_qt (h : ℕ) (hh : h < 16) : (rH h hh).PackedRows (EltTy.packing .bf16) := by
  interval_cases h
  exacts [packedbf16_S128x2048_S128x128_0_0, packedbf16_S128x2048_S128x128_0_128, packedbf16_S128x2048_S128x128_0_256,
    packedbf16_S128x2048_S128x128_0_384, packedbf16_S128x2048_S128x128_0_512, packedbf16_S128x2048_S128x128_0_640,
    packedbf16_S128x2048_S128x128_0_768, packedbf16_S128x2048_S128x128_0_896, packedbf16_S128x2048_S128x128_0_1024,
    packedbf16_S128x2048_S128x128_0_1152, packedbf16_S128x2048_S128x128_0_1280, packedbf16_S128x2048_S128x128_0_1408,
    packedbf16_S128x2048_S128x128_0_1536, packedbf16_S128x2048_S128x128_0_1664, packedbf16_S128x2048_S128x128_0_1792,
    packedbf16_S128x2048_S128x128_0_1920]
theorem packed_y (h : ℕ) (hh : h < 16) : (rH3 h hh).PackedRows (EltTy.packing .bf16) := by
  interval_cases h
  exacts [packedbf16_S1x128x2048_S1x128x128_0_0_0, packedbf16_S1x128x2048_S1x128x128_0_0_128, packedbf16_S1x128x2048_S1x128x128_0_0_256,
    packedbf16_S1x128x2048_S1x128x128_0_0_384, packedbf16_S1x128x2048_S1x128x128_0_0_512, packedbf16_S1x128x2048_S1x128x128_0_0_640,
    packedbf16_S1x128x2048_S1x128x128_0_0_768, packedbf16_S1x128x2048_S1x128x128_0_0_896, packedbf16_S1x128x2048_S1x128x128_0_0_1024,
    packedbf16_S1x128x2048_S1x128x128_0_0_1152, packedbf16_S1x128x2048_S1x128x128_0_0_1280, packedbf16_S1x128x2048_S1x128x128_0_0_1408,
    packedbf16_S1x128x2048_S1x128x128_0_0_1536, packedbf16_S1x128x2048_S1x128x128_0_0_1664, packedbf16_S1x128x2048_S1x128x128_0_0_1792,
    packedbf16_S1x128x2048_S1x128x128_0_0_1920]

/-! ## Pieces in a row -/

/-- `f t`, `f (t + 1)`, …, the last `f (N - 1)`, for `n` of them. -/
def rowFrom (N : ℕ) (f : (t : ℕ) → t < N → Pg PUnit) : (n t : ℕ) → n + t = N → Pg PUnit
  | 0, _, _ => pure ⟨⟩
  | n + 1, t, h => f t (by omega) >>= fun _ => rowFrom N f n (t + 1) (by omega)

/-! ## Pages -/

/-- One word of the page table, checked. -/
def ldWord (A : Args) (off : Fin 2 → ℕ) (h : ∀ a, off a + S1x1.size a ≤ S8x1024.size a) (P : BitVec 32 → Prop) (dec : ∀ w, Decidable (P w)) :
    Pg (Σ' w : Elt F .i32, P w) := do
  let w : Elt F .i32 ← smemLoad A.pt (Rect.unit (s := S8x1024) off S1x1.size h) numel1_S1x1 rfl
  have hw : P w := (← Prog.lift (TpuEff.assume (P w) (dec w))).down
  pure ⟨w, hw⟩

/-- Page `w` of a cache. -/
abbrev cPage (M : Memref sig .tc .hbm S8192x128x128 .fp8e4m3) (off : Fin 3 → ℕ) (h : ∀ a, off a + S1x128x128.size a ≤ S8192x128x128.size a) :
    Memref sig .tc .hbm S128x128 .fp8e4m3 :=
  (M.slice (Rect.unit (s := S8192x128x128) off S1x128x128.size h) (fun _ => rfl)).squeeze S128x128 squeezes_S1x128x128_S128x128
/-- Page `p` of a slot of a buffer. -/
abbrev bPage (M : Memref sig .tc .vmem S2x1024x128 .fp8e4m3) (off : Fin 3 → ℕ) (h : ∀ a, off a + S1x128x128.size a ≤ S2x1024x128.size a) :
    Memref sig .tc .vmem S128x128 .fp8e4m3 :=
  (M.slice (Rect.unit (s := S2x1024x128) off S1x128x128.size h) (fun _ => rfl)).squeeze S128x128 squeezes_S1x128x128_S128x128
/-- One of the four semaphores. -/
abbrev cell (A : Args) (off : Fin 2 → ℕ) (h : ∀ a, off a + S1x1.size a ≤ S2x2.size a) :=
  ((A.sm.slice (Rect.unit (s := S2x2) off S1x1.size h)).squeeze S_ squeezes_S1x1_S_).sem

/-- Page offsets inside the two slots and whole words, for a slot word. -/
structure SlotOk (s : BitVec 32) : Prop where
  hs : ∀ u, u < 2 → ∀ a, (offS s u) a + S1x1.size a ≤ S2x2.size a
  hb : ∀ p, p < 8 → ∀ a, (offB s p) a + S1x128x128.size a ≤ S2x1024x128.size a
  hbw : ∀ p (hp : p < 8), (Rect.unit (s := S2x1024x128) (offB s p) S1x128x128.size (hb p hp)).WholeWords (EltTy.packing .fp8e4m3)
/-- A page word inside the pool, whole words. -/
structure PageOk (w : BitVec 32) : Prop where
  hc : ∀ a, (offC w) a + S1x128x128.size a ≤ S8192x128x128.size a
  hcw : (Rect.unit (s := S8192x128x128) (offC w) S1x128x128.size hc).WholeWords (EltTy.packing .fp8e4m3)

/-- The transfers of page `w`'s keys and values into page `p` of slot `s`. -/
def enq (A : Args) (s : BitVec 32) (hs : SlotOk s) (w : BitVec 32) (hw : PageOk w) (p : ℕ) (hp : p < 8) : Pg PUnit := do
  Prog.lift (.enqueueDma (cPage A.kc (offC w) hw.hc) (.here (bPage A.kb (offB s p) (hs.hb p hp)))
    (.dma (cell A (offS s 0) (hs.hs 0 (by decide))))
    ((A.hkc.wordExact_slice rfl _ hw.hcw).reshape _ _) ((A.hkb.wordExact_slice rfl _ (hs.hbw p hp)).reshape _ _) ⟨Or.inl rfl, trivial⟩)
  Prog.lift (.enqueueDma (cPage A.vc (offC w) hw.hc) (.here (bPage A.vb (offB s p) (hs.hb p hp)))
    (.dma (cell A (offS s 1) (hs.hs 1 (by decide))))
    ((A.hvc.wordExact_slice rfl _ hw.hcw).reshape _ _) ((A.hvb.wordExact_slice rfl _ (hs.hbw p hp)).reshape _ _) ⟨Or.inl rfl, trivial⟩)

/-- The waits for page `p` of slot `s`. -/
def wait (A : Args) (s : BitVec 32) (hs : SlotOk s) (w : BitVec 32) (hw : PageOk w) (p : ℕ) (hp : p < 8) : Pg PUnit := do
  Prog.lift (.waitDma2 (cell A (offS s 0) (hs.hs 0 (by decide))) (cPage A.kc (offC w) hw.hc) (bPage A.kb (offB s p) (hs.hb p hp))
    ((A.hkc.wordExact_slice rfl _ hw.hcw).reshape _ _) ((A.hkb.wordExact_slice rfl _ (hs.hbw p hp)).reshape _ _))
  Prog.lift (.waitDma2 (cell A (offS s 1) (hs.hs 1 (by decide))) (cPage A.vc (offC w) hw.hc) (bPage A.vb (offB s p) (hs.hb p hp))
    ((A.hvc.wordExact_slice rfl _ hw.hcw).reshape _ _) ((A.hvb.wordExact_slice rfl _ (hs.hbw p hp)).reshape _ _))

/-- The eight page words of a block, then `f` at each. -/
def block (A : Args) (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (f : (w : BitVec 32) → PageOk w → (p : ℕ) → p < 8 → Pg PUnit) : Pg PUnit := do
  let w0 ← ldWord A (offW 0) (hW 0 (by decide)) P dec
  let w1 ← ldWord A (offW 1) (hW 1 (by decide)) P dec
  let w2 ← ldWord A (offW 2) (hW 2 (by decide)) P dec
  let w3 ← ldWord A (offW 3) (hW 3 (by decide)) P dec
  let w4 ← ldWord A (offW 4) (hW 4 (by decide)) P dec
  let w5 ← ldWord A (offW 5) (hW 5 (by decide)) P dec
  let w6 ← ldWord A (offW 6) (hW 6 (by decide)) P dec
  let w7 ← ldWord A (offW 7) (hW 7 (by decide)) P dec
  f w0.1 (hP _ w0.2) 0 (by decide)
  f w1.1 (hP _ w1.2) 1 (by decide)
  f w2.1 (hP _ w2.2) 2 (by decide)
  f w3.1 (hP _ w3.2) 3 (by decide)
  f w4.1 (hP _ w4.2) 4 (by decide)
  f w5.1 (hP _ w5.2) 5 (by decide)
  f w6.1 (hP _ w6.2) 6 (by decide)
  f w7.1 (hP _ w7.2) 7 (by decide)

/-! ## One tile of attention over 1024 cached keys -/

/-- The largest score of each column. -/
def mx (s : FVec F S1024x256 .f32) : FVec F S1x256 .f32 :=
  shapeCast S1x256 (multiReduction .maximumf [0] S256 (multiReduction .maximumf [1] S4x256 (shapeCast S4x256x256 s shapeCasts_S1024x256_S4x256x256)
    0xFF800000#32 reduces_S4x256x256_S4x256 (.inl rfl) rfl) 0xFF800000#32 reduces_S4x256_S256 (.inl rfl) rfl) shapeCasts_S256_S1x256
/-- The sum of each column. -/
def sm (s : FVec F S1024x256 .f32) : FVec F S1x256 .f32 :=
  shapeCast S1x256 (multiReduction .add [0] S256 (multiReduction .add [1] S4x256 (shapeCast S4x256x256 s shapeCasts_S1024x256_S4x256x256)
    0x00000000#32 reduces_S4x256x256_S4x256 (.inl rfl) rfl) 0x00000000#32 reduces_S4x256_S256 (.inl rfl) rfl) shapeCasts_S256_S1x256
/-- The weights of a tile's scores against the running maxima `mN`. -/
def wt (s : FVec F S1024x256 .f32) (mN : FVec F S1x256 .f32) : FVec F S1024x256 .f32 :=
  exp2 (subf (mulf s (broadcast S1024x256 cE)) (broadcastTo S1024x256 (mulf mN (broadcast S1x256 cE)) broadcasts_S1x256_S1024x256))
/-- The factor by which the older sums shrink. -/
def al (m mN : FVec F S1x256 .f32) : FVec F S1x256 .f32 :=
  exp2 (subf (mulf m (broadcast S1x256 cE)) (mulf mN (broadcast S1x256 cE)))
/-- The weighted values. -/
def pv (vt : FVec F S128x1024 .bf16) (p : FVec F S1024x256 .f32) : FVec F S128x256 .f32 :=
  matmul dot_S128x1024_S1024x256_S128x256_1_0_0_1_n_n none vt (truncf .bf16 p bitsLt_bf16_f32) (constant S128x256 .f32 0x00000000#32)

/-- One tile: columns `256 t ..`. -/
def tile (A : Args) (mask : FVec F S1024x256 .f32 → FVec F S1024x256 .f32) (k : FVec F S1024x128 .bf16) (vt : FVec F S128x1024 .bf16)
    (t : ℕ) (ht : t < 8) : Pg PUnit := do
  let q : Vec F S128x256 .bf16 ← Prog.lift (.load A.qt (rT t ht).toLoadRect (View.loadsAt_vmem h_S128x256))
  have s : FVec F S1024x256 .f32 := mask (matmul dot_S1024x128_S128x256_S1024x256_1_0_0_1_n_n none k q (constant S1024x256 .f32 0x00000000#32))
  let m0 : Vec F S1x256 .f32 ← Prog.lift (.load A.m (rT1 t ht).toLoadRect (View.loadsAt_vmem h_S1x256))
  have mN : FVec F S1x256 .f32 := maximumf m0 (mx s)
  have p : FVec F S1024x256 .f32 := wt s mN
  let m1 : Vec F S1x256 .f32 ← Prog.lift (.load A.m (rT1 t ht).toLoadRect (View.loadsAt_vmem h_S1x256))
  let l0 : Vec F S1x256 .f32 ← Prog.lift (.load A.l (rT1 t ht).toLoadRect (View.loadsAt_vmem h_S1x256))
  let _l1 : Vec F S1x256 .f32 ← Prog.lift (.load A.l (rT1 t ht).toLoadRect (View.loadsAt_vmem h_S1x256))
  Prog.lift (.store A.l (rT1 t ht) (shapeCast S1x256 (addf (mulf l0 (al m1 mN)) (sm p)) shapeCasts_S1x256_S1x256) Finset.univ
    (View.stores_vmem_bits_univ h_S1x256 rfl) (.inl rfl))
  let a0 : Vec F S128x256 .f32 ← Prog.lift (.load A.acc (rT t ht).toLoadRect (View.loadsAt_vmem h_S128x256))
  let _a1 : Vec F S128x256 .f32 ← Prog.lift (.load A.acc (rT t ht).toLoadRect (View.loadsAt_vmem h_S128x256))
  Prog.lift (.store A.acc (rT t ht) (shapeCast S128x256 (addf (mulf a0 (broadcastTo S128x256 (al m1 mN) broadcasts_S1x256_S128x256)) (pv vt p))
    shapeCasts_S128x256_S128x256) Finset.univ (View.stores_vmem_bits_univ h_S128x256 rfl) (.inl rfl))
  let _m2 : Vec F S1x256 .f32 ← Prog.lift (.load A.m (rT1 t ht).toLoadRect (View.loadsAt_vmem h_S1x256))
  Prog.lift (.store A.m (rT1 t ht) (shapeCast S1x256 mN shapeCasts_S1x256_S1x256) Finset.univ (View.stores_vmem_bits_univ h_S1x256 rfl) (.inl rfl))

/-- The eight tiles over slot `off` of the buffers. -/
def attend (A : Args) (mask : FVec F S1024x256 .f32 → FVec F S1024x256 .f32) (ks vs : FVec F S1x128 .bf16) (off : Fin 3 → ℕ)
    (h : ∀ a, off a + S1x1024x128.size a ≤ S2x1024x128.size a) : Pg PUnit := do
  let k : Vec F S1x1024x128 .fp8e4m3 ← Prog.lift (.load A.kb (Rect.unit (s := S2x1024x128) off S1x1024x128.size h).toLoadRect (View.loadsAt_vmem h_S1x1024x128))
  let v : Vec F S1x1024x128 .fp8e4m3 ← Prog.lift (.load A.vb (Rect.unit (s := S2x1024x128) off S1x1024x128.size h).toLoadRect (View.loadsAt_vmem h_S1x1024x128))
  rowFrom 8 (tile A mask
      (mulf (extf .bf16 (shapeCast S1024x128 k shapeCasts_S1x1024x128_S1024x128) bitsLt_fp8e4m3_bf16) (broadcastTo S1024x128 ks broadcasts_S1x128_S1024x128))
      (transpose S128x1024 [1, 0]
        (mulf (extf .bf16 (shapeCast S1024x128 v shapeCasts_S1x1024x128_S1024x128) bitsLt_fp8e4m3_bf16) (broadcastTo S1024x128 vs broadcasts_S1x128_S1024x128))
        transposes_S1024x128_p1_0_S128x1024)) 8 0 rfl

/-- The mask of the last block: keys from `rem` on count for nothing. -/
def tailMask (rem : BitVec 32) (s : FVec F S1024x256 .f32) : FVec F S1024x256 .f32 :=
  select (cmpi .slt (iota .tc S1024x256 32 [0] iota_S1024x256_d0_w32) (broadcast S1024x256 rem)) s (broadcast S1024x256 (Scalar.ofBits .f32 0xFF800000#32))

/-! ## One tile of attention over the 128 new keys -/

def mxN (s : FVec F S128x256 .f32) : FVec F S1x256 .f32 :=
  shapeCast S1x256 (multiReduction .maximumf [0] S256 (multiReduction .maximumf [1] S4x256 (shapeCast S4x32x256 s shapeCasts_S128x256_S4x32x256)
    0xFF800000#32 reduces_S4x32x256_S4x256 (.inl rfl) rfl) 0xFF800000#32 reduces_S4x256_S256 (.inl rfl) rfl) shapeCasts_S256_S1x256
def smN (s : FVec F S128x256 .f32) : FVec F S1x256 .f32 :=
  shapeCast S1x256 (multiReduction .add [0] S256 (multiReduction .add [1] S4x256 (shapeCast S4x32x256 s shapeCasts_S128x256_S4x32x256)
    0x00000000#32 reduces_S4x32x256_S4x256 (.inl rfl) rfl) 0x00000000#32 reduces_S4x256_S256 (.inl rfl) rfl) shapeCasts_S256_S1x256
def wtN (s : FVec F S128x256 .f32) (mN : FVec F S1x256 .f32) : FVec F S128x256 .f32 :=
  exp2 (subf (mulf s (broadcast S128x256 cE)) (broadcastTo S128x256 (mulf mN (broadcast S1x256 cE)) broadcasts_S1x256_S128x256))
def pvN (vt : FVec F S128x128 .bf16) (p : FVec F S128x256 .f32) : FVec F S128x256 .f32 :=
  matmul dot_S128x128_S128x256_S128x256_1_0_0_1_n_n none vt (truncf .bf16 p bitsLt_bf16_f32) (constant S128x256 .f32 0x00000000#32)

/-- The word of the query token of each column, as the kernel computes it (the column number modulo 128). -/
def tokW : IVec S128x256 32 :=
  have v169 : IVec S128x256 32 := iota .tc S128x256 32 [1] iota_S128x256_d1_w32
  let v171 : BitVec 32 := Scalar.select (Scalar.cmpi .eq 128#32 0#32) 1#32 128#32
  have v173 : IVec S128x256 32 := remsi v169 (broadcast S128x256 v171)
  have v175 : IVec S128x256 1 := cmpi .ne v173 (broadcast S128x256 0#32)
  have v177 : IVec S128x256 1 := cmpi .slt v173 (broadcast S128x256 0#32)
  have v179 : IVec S128x256 1 := broadcast S128x256 (Scalar.cmpi .slt v171 0#32)
  have v180 : IVec S128x256 1 := broadcastTo S128x256 v179 broadcasts_S128x256_S128x256
  select (andi (xori v177 v180) v175) (addi v173 (broadcast S128x256 v171)) v173

/-- The causal mask: a new key later than the query token counts for nothing. -/
def causal (s : FVec F S128x256 .f32) : FVec F S128x256 .f32 :=
  select (cmpi .sle (iota .tc S128x256 32 [0] iota_S128x256_d0_w32) tokW) s (broadcast S128x256 (Scalar.ofBits .f32 0xFF800000#32))

/-- The first tile step: nothing accumulated before it. -/
def tileN (A : Args) (k : FVec F S128x128 .bf16) (vt : FVec F S128x128 .bf16) (t : ℕ) (ht : t < 8) : Pg PUnit := do
  let q : Vec F S128x256 .bf16 ← Prog.lift (.load A.qt (rT t ht).toLoadRect (View.loadsAt_vmem h_S128x256))
  have s : FVec F S128x256 .f32 := causal (matmul dot_S128x128_S128x256_S128x256_1_0_0_1_n_n none k q (constant S128x256 .f32 0x00000000#32))
  have mN : FVec F S1x256 .f32 := mxN s
  have p : FVec F S128x256 .f32 := wtN s mN
  let _l1 : Vec F S1x256 .f32 ← Prog.lift (.load A.l (rT1 t ht).toLoadRect (View.loadsAt_vmem h_S1x256))
  Prog.lift (.store A.l (rT1 t ht) (shapeCast S1x256 (smN p) shapeCasts_S1x256_S1x256) Finset.univ
    (View.stores_vmem_bits_univ h_S1x256 rfl) (.inl rfl))
  let _a1 : Vec F S128x256 .f32 ← Prog.lift (.load A.acc (rT t ht).toLoadRect (View.loadsAt_vmem h_S128x256))
  Prog.lift (.store A.acc (rT t ht) (shapeCast S128x256 (pvN vt p) shapeCasts_S128x256_S128x256) Finset.univ
    (View.stores_vmem_bits_univ h_S128x256 rfl) (.inl rfl))
  let _m2 : Vec F S1x256 .f32 ← Prog.lift (.load A.m (rT1 t ht).toLoadRect (View.loadsAt_vmem h_S1x256))
  Prog.lift (.store A.m (rT1 t ht) (shapeCast S1x256 mN shapeCasts_S1x256_S1x256) Finset.univ (View.stores_vmem_bits_univ h_S1x256 rfl) (.inl rfl))

/-! ## Heads -/

/-- Head `h` of `x`, transposed into `qt`. -/
def transp (A : Args) (h : ℕ) (hh : h < 16) : Pg PUnit := do
  let x : Vec F S1x128x128 .bf16 ← Prog.lift (.load A.x (rH3 h hh).toLoadRect (View.loadsAt_vmem h_S1x128x128))
  let _q : Vec F S128x128 .bf16 ← Prog.lift (.load A.qt (rH h hh).toLoadRect (View.loadsAt_vmem h_S128x128))
  Prog.lift (.store A.qt (rH h hh)
    (shapeCast S128x128 (transpose S128x128 [1, 0] (shapeCast S128x128 x shapeCasts_S1x128x128_S128x128) transposes_S128x128_p1_0_S128x128) shapeCasts_S128x128_S128x128)
    Finset.univ (View.stores_vmem h_S128x128 (A.hqt.storeExact_slice rfl _ (packed_qt h hh)) (fun _ => rfl)) (.inl rfl))

/-- Head `h` of the result. -/
def outH (A : Args) (h : ℕ) (hh : h < 16) : Pg PUnit := do
  let a : Vec F S128x128 .f32 ← Prog.lift (.load A.acc (rH h hh).toLoadRect (View.loadsAt_vmem h_S128x128))
  let l : Vec F S1x128 .f32 ← Prog.lift (.load A.l (rH1 h hh).toLoadRect (View.loadsAt_vmem h_S1x128))
  let _y : Vec F S1x128x128 .bf16 ← Prog.lift (.load A.y (rH3 h hh).toLoadRect (View.loadsAt_vmem h_S1x128x128))
  Prog.lift (.store A.y (rH3 h hh)
    (shapeCast S1x128x128 (truncf .bf16 (transpose S128x128 [1, 0] (divf a (broadcastTo S128x128 l broadcasts_S1x128_S128x128)) transposes_S128x128_p1_0_S128x128)
      bitsLt_bf16_f32) shapeCasts_S128x128_S1x128x128)
    Finset.univ (View.stores_vmem h_S1x128x128 (A.hy.storeExact_slice rfl _ (packed_y h hh)) (fun _ => rfl)) (.inl rfl))

/-- The codes of one input block under a factor: multiply, clip to ±448, round to fp8. -/
def codes (x : Vec F S1x128x128 .bf16) (s : F .f32) : FVec F S128x128 .fp8e4m3 :=
  truncf .fp8e4m3 (minimumf (broadcast S128x128 (Scalar.ofBits .f32 0x43E00000#32)) (maximumf (broadcast S128x128 (Scalar.ofBits .f32 0xC3E00000#32))
    (mulf (extf .f32 (shapeCast S128x128 x shapeCasts_S1x128x128_S128x128) bitsLt_bf16_f32) (broadcast S128x128 s)))) bitsLt_fp8e4m3_f32
/-- One row of the scale a scalar holds. -/
def srow (s : F .f32) : FVec F S1x128 .bf16 :=
  extractStridedSlice S1x128 ![0, 0] (truncf .bf16 (broadcast S16x128 s) bitsLt_bf16_f32) slices_S16x128_o0_0_S1x128
/-- The new keys or values: the codes times the scale. -/
def deq (c : FVec F S128x128 .fp8e4m3) (r : FVec F S1x128 .bf16) : FVec F S128x128 .bf16 :=
  mulf (extf .bf16 c bitsLt_fp8e4m3_bf16) (broadcastTo S128x128 r broadcasts_S1x128_S128x128)

/-- Quantise the new keys and values, store the codes, and attend over them. -/
def newTok (A : Args) (ks vs : FVec F S1x128 .bf16) : Pg PUnit := do
  let s0 : Elt F .f32 ← smemLoad A.sc (Rect.unit (s := S4) ![0] S1.size inb_S4_S1_0) numel1_S1 rfl
  let kn : Vec F S1x128x128 .bf16 ← Prog.lift (.load A.kn rK.toLoadRect (View.loadsAt_vmem h_S1x128x128))
  let _k : Vec F S1x128x128 .fp8e4m3 ← Prog.lift (.load A.ko rK.toLoadRect (View.loadsAt_vmem h_S1x128x128))
  Prog.lift (.store A.ko rK (shapeCast S1x128x128 (codes kn s0) shapeCasts_S128x128_S1x128x128) Finset.univ
    (View.stores_vmem h_S1x128x128 (A.hko.storeExact_slice rfl _ packedfp8e4m3_S1x128x128_S1x128x128_0_0_0) (fun _ => rfl)) (.inl rfl))
  let s1 : Elt F .f32 ← smemLoad A.sc (Rect.unit (s := S4) ![1] S1.size inb_S4_S1_1) numel1_S1 rfl
  let vn : Vec F S1x128x128 .bf16 ← Prog.lift (.load A.vn rK.toLoadRect (View.loadsAt_vmem h_S1x128x128))
  let _v : Vec F S1x128x128 .fp8e4m3 ← Prog.lift (.load A.vo rK.toLoadRect (View.loadsAt_vmem h_S1x128x128))
  Prog.lift (.store A.vo rK (shapeCast S1x128x128 (codes vn s1) shapeCasts_S128x128_S1x128x128) Finset.univ
    (View.stores_vmem h_S1x128x128 (A.hvo.storeExact_slice rfl _ packedfp8e4m3_S1x128x128_S1x128x128_0_0_0) (fun _ => rfl)) (.inl rfl))
  rowFrom 8 (tileN A (deq (codes kn s0) ks)
    (transpose S128x128 [1, 0] (deq (codes vn s1) vs) transposes_S128x128_p1_0_S128x128)) 8 0 rfl

end Cert.Kernel.Hand
-- ==== Proof.Kernel.Body.lean ====
/-
  The printed body is the pieces of `Struct.lean` in a row: by unfolding, once the three conditionals are cut off from
  what follows them.
-/
module

public import proofs.«01_k».proof.Proof.Kernel.Struct
public import proofs.«01_k».proof.Proof.Gen.Kernel.Skeleton

@[expose] public section

set_option synthInstance.maxSize 4096

noncomputable section

namespace Cert.Kernel.Hand

open Cert.Kernel
open Idealize.ShloMosaic Idealize.SL.Sem
open Facts₀ Facts

variable {F : FTy → Type} [FloatOps F]
local notation "Pg" => Prog (TpuEff nD τ sig (Elt F) Λ₀ Proc.tc)

/-! ## Slots and pages inside their buffers -/

theorem slotOk {s : BitVec 32} (h : s.toNat < 2) : SlotOk s where
  hs u hu a := by
    fin_cases a
    · show s.toNat + 1 ≤ 2; omega
    · show u + 1 ≤ 2; omega
  hb p hp a := by
    fin_cases a
    · show s.toNat + 1 ≤ 2; omega
    · show 128 * p + 128 ≤ 1024; omega
    · show 0 + 128 ≤ 128; omega
  hbw p hp := by
    have h2 : 2 ≤ S2x1024x128.rank := by decide
    exact .inl (.inr ⟨h2, rfl, .inl ⟨(show 4 ∣ 128 * p by omega), (show 4 ∣ 128 by decide)⟩⟩)

theorem pageOk {w : BitVec 32} (h : w.toNat < 8192) : PageOk w where
  hc a := by
    fin_cases a
    · show w.toNat + 1 ≤ 8192; omega
    · show 0 + 128 ≤ 128; omega
    · show 0 + 128 ≤ 128; omega
  hcw := by
    have h2 : 2 ≤ S8192x128x128.rank := by decide
    exact .inl (.inr ⟨h2, rfl, .inl ⟨(show 4 ∣ 0 by decide), (show 4 ∣ 128 by decide)⟩⟩)

theorem pageOk_of_inb {w : BitVec 32} (h : ∀ a, (offC w) a + S1x128x128.size a ≤ S8192x128x128.size a) : PageOk w :=
  pageOk (by have := h 0; change w.toNat + 1 ≤ 8192 at this; omega)
theorem slotOk_of_inb {s : BitVec 32} (h : ∀ a, (offS s 0) a + S1x1.size a ≤ S2x2.size a) : SlotOk s :=
  slotOk (by have := h 0; change s.toNat + 1 ≤ 2 at this; omega)

/-! ## The words the body computes from the sequence's length -/

/-- The full blocks of 1024 keys before position `v`. -/
def nF (v1 : BitVec 32) : BitVec 32 :=
  let v2 : BitVec 32 := Scalar.divsi v1 1024#32
  let v7 : BitVec 32 := Scalar.subi (Scalar.extui (Scalar.cmpi .sgt v1 0#32)) (Scalar.extui (Scalar.cmpi .slt v1 0#32))
  let v12 : BitVec 32 := Scalar.subi (Scalar.extui (Scalar.cmpi .sgt 1024#32 0#32)) (Scalar.extui (Scalar.cmpi .slt 1024#32 0#32))
  let v13 : BitVec 1 := Scalar.cmpi .ne v7 v12
  let v14 : BitVec 32 := Scalar.remsi v1 1024#32
  let v15 : BitVec 1 := Scalar.cmpi .ne v14 0#32
  Scalar.select (Scalar.andi v13 v15) (Scalar.subi v2 1#32) v2
/-- The keys of the last, partial block. -/
def rem (v1 : BitVec 32) : BitVec 32 := Scalar.subi v1 (Scalar.muli (nF v1) 1024#32)
/-- The blocks, the partial one counted. -/
def nB (v1 : BitVec 32) : BitVec 32 := Scalar.addi (nF v1) (Scalar.extui (Scalar.cmpi .sgt (rem v1) 0#32))

/-- The slot of trip `k`, of the trip after it, and of the partial block. -/
def slotW {v1 : BitVec 32} (k : Fin (k0_t1_loop v1).trips) : BitVec 32 := Scalar.remsi (Scf.iv 0#32 1#32 k) 2#32
def slotW' {v1 : BitVec 32} (k : Fin (k0_t1_loop v1).trips) : BitVec 32 := Scalar.subi 1#32 (slotW k)
def slotT (v1 : BitVec 32) : BitVec 32 := Scalar.remsi (nF v1) 2#32

variable [Facts]

/-! ## The body -/

/-- The first block's transfers, into slot 0. -/
def start0 (A : Args) (i : grid0.Coords) (v1 : BitVec 32) (h1 : k0_cond1 v1 = 1#1) : Pg PUnit :=
  block A (fun p => ![(Scalar.indexCast (BitVec.ofNat 32 (i 0).val)).toNat, p])
    (fun p hp => by
      have := k0_off2_inb i 0
      intro a; fin_cases a
      · exact this
      · show p + 1 ≤ 1024; omega)
    (k0_chk1 v1) (fun w => k0_chk1.dec v1 w) (fun w h => pageOk_of_inb (h.1 h1))
    (enq A 0#32 (slotOk (by decide)))

/-- The next block's transfers, into the other slot. -/
def startK (A : Args) (i : grid0.Coords) (v1 : BitVec 32) (hw : k0_chk9 i v1) (k : Fin (k0_t1_loop v1).trips) (h2 : k0_cond2 v1 k = 1#1) : Pg PUnit :=
  block A (fun p => k0_off18 i v1 k (BitVec.ofNat 32 p)) (fun p hp => k0_off18_inb i v1 hw k h2 ⟨p, hp⟩)
    (k0_chk10 v1 k) (fun w => k0_chk10.dec v1 k w) (fun w h => pageOk_of_inb (h.1 h2))
    (enq A (slotW' k) (slotOk_of_inb (k0_off19_inb i v1 hw k h2)))

/-- The waits for trip `k`'s block. -/
def waitK (A : Args) (i : grid0.Coords) (v1 : BitVec 32) (hw : k0_chk9 i v1) (k : Fin (k0_t1_loop v1).trips) : Pg PUnit :=
  block A (fun p => k0_off59 i v1 k (BitVec.ofNat 32 p)) (fun p hp => k0_off59_inb i v1 hw k ⟨p, hp⟩)
    k0_chk18 (fun w => k0_chk18.dec w) (fun w h => pageOk_of_inb h.1)
    (wait A (slotW k) (slotOk_of_inb (k0_off60_inb i v1 hw k)))

/-- One trip: the next block's transfers, this block's waits, its eight tiles. -/
def trip (A : Args) (i : grid0.Coords) (v1 : BitVec 32) (hw : k0_chk9 i v1) (ks vs : FVec F S1x128 .bf16) (k : Fin (k0_t1_loop v1).trips) : Pg PUnit := do
  (if h2 : k0_cond2 v1 k = 1#1 then startK A i v1 hw k h2 else pure ⟨⟩)
  waitK A i v1 hw k
  attend A id ks vs (k0_off100 v1 k) (k0_off100_inb i v1 hw k)

/-- The partial block: its waits, its eight tiles under the mask. -/
def tail (A : Args) (i : grid0.Coords) (v1 : BitVec 32) (hw : k0_chk9 i v1) (ks vs : FVec F S1x128 .bf16) (h4 : k0_cond4 v1 = 1#1) : Pg PUnit := do
  block A (fun p => k0_off184 i v1 (BitVec.ofNat 32 p)) (fun p hp => k0_off184_inb i v1 hw h4 ⟨p, hp⟩)
    (k0_chk42 v1) (fun w => k0_chk42.dec v1 w) (fun w h => pageOk_of_inb (h.1 h4))
    (wait A (slotT v1) (slotOk_of_inb (k0_off185_inb i v1 hw h4)))
  attend A (tailMask (rem v1)) ks vs (k0_off225 v1) (k0_off225_inb i v1 hw h4)

/-- From the loop on: the full blocks, the remainder loop (which takes no trip), the partial block, the result. -/
def late (A : Args) (i : grid0.Coords) (v1 : BitVec 32) (hw : k0_chk9 i v1) (ks vs : FVec F S1x128 .bf16) : Pg PUnit := do
  Scf.Loop.for (k0_t1_loop v1) (k0_t1_ok i v1 hw) ⟨⟩ (fun k _ => trip A i v1 hw ks vs k)
  Scf.Loop.for (k0_t2_loop v1) (k0_t2_ok i v1 hw) ⟨⟩
    (Gen.k0_t2_body i A.pt A.hpt A.sl A.hsl A.sc A.hsc A.x A.hx A.kn A.hkn A.vn A.hvn A.kc A.hkc A.vc A.hvc A.y A.hy A.ko A.hko A.vo A.hvo
      A.kb A.hkb A.vb A.hvb A.sm A.qt A.hqt A.m A.hm A.l A.hl A.acc A.hacc (BitVec.ofNat 32 (i 0).val) v1 hw (nF v1) (rem v1) (nB v1) ks vs 0#32
      (Scalar.addi 0#32 (Scalar.muli (Scalar.divsi (Scalar.subi (nF v1) 0#32) 1#32) 1#32)))
  (if h4 : k0_cond4 v1 = 1#1 then tail A i v1 hw ks vs h4 else pure ⟨⟩)
  rowFrom 16 (outH A) 16 0 rfl

/-- After the first block's transfers: transposes, the new tokens, and the rest. -/
def early (A : Args) (i : grid0.Coords) (v1 : BitVec 32) (hw : k0_chk9 i v1) (ks vs : FVec F S1x128 .bf16) : Pg PUnit := do
  rowFrom 16 (transp A) 16 0 rfl
  newTok A ks vs
  late A i v1 hw ks vs

/-- The whole body. -/
def kbody (A : Args) (i : grid0.Coords) : Pg PUnit := do
  let v1 : Elt F .i32 ← smemLoad A.sl (Rect.unit (s := S8) (k0_off1 i) S1.size (k0_off1_inb i)) numel1_S1 rfl
  have hw : k0_chk9 i v1 := (← Prog.lift (TpuEff.assume (k0_chk9 i v1) (k0_chk9.dec i v1))).down
  let s2 : Elt F .f32 ← smemLoad A.sc (Rect.unit (s := S4) ![2] S1.size inb_S4_S1_2) numel1_S1 rfl
  let s3 : Elt F .f32 ← smemLoad A.sc (Rect.unit (s := S4) ![3] S1.size inb_S4_S1_3) numel1_S1 rfl
  (if h1 : k0_cond1 v1 = 1#1 then start0 A i v1 h1 else pure ⟨⟩)
  early A i v1 hw (srow s2) (srow s3)

/-! ## The printed text is that -/

theorem dite_bind {c : Prop} [Decidable c] {α β : Type} {L : c → Pg β} {L' : ¬c → Pg β} (a : c → Pg α) (u : α) (J : α → Pg β)
    (h1 : ∀ h, L h = a h >>= J) (h2 : ∀ h, L' h = J u) : dite c L L' = (if h : c then a h else pure u) >>= J := by
  by_cases h : c
  · rw [dif_pos h, dif_pos h]; exact h1 h
  · rw [dif_neg h, dif_neg h]; exact h2 h

set_option maxRecDepth 65536 in
set_option maxHeartbeats 4000000 in
theorem part55_eq (A : Args) (i : grid0.Coords) :
    k0_part55 (F := F) i A.pt A.hpt A.sl A.hsl A.sc A.hsc A.x A.hx A.kn A.hkn A.vn A.hvn A.kc A.hkc A.vc A.hvc A.y A.hy A.ko A.hko A.vo A.hvo
      A.kb A.hkb A.vb A.hvb A.sm A.qt A.hqt A.m A.hm A.l A.hl A.acc A.hacc
    = (do
      let v1 : Elt F .i32 ← smemLoad A.sl (Rect.unit (s := S8) (k0_off1 i) S1.size (k0_off1_inb i)) numel1_S1 rfl
      have hw : k0_chk9 i v1 := (← Prog.lift (TpuEff.assume (k0_chk9 i v1) (k0_chk9.dec i v1))).down
      let s2 : Elt F .f32 ← smemLoad A.sc (Rect.unit (s := S4) ![2] S1.size inb_S4_S1_2) numel1_S1 rfl
      let s3 : Elt F .f32 ← smemLoad A.sc (Rect.unit (s := S4) ![3] S1.size inb_S4_S1_3) numel1_S1 rfl
      let _ ← (if h1 : k0_cond1 v1 = 1#1 then start0 A i v1 h1 else pure ⟨⟩)
      let x0 : Vec F S1x128x128 .bf16 ← Prog.lift (.load A.x (rH3 0 (by decide)).toLoadRect (View.loadsAt_vmem h_S1x128x128))
      let q0 : Vec F S128x128 .bf16 ← Prog.lift (.load A.qt (rH 0 (by decide)).toLoadRect (View.loadsAt_vmem h_S128x128))
      pure ⟨BitVec.ofNat 32 (i 0).val, v1, hw, nF v1, rem v1, nB v1, srow s2, srow s3,
        transpose S128x128 [1, 0] (shapeCast S128x128 x0 shapeCasts_S1x128x128_S128x128) transposes_S128x128_p1_0_S128x128, q0⟩) := by
  refine congrArg (Prog.op _) (funext fun f1 => ?_)
  refine congrArg (Prog.op _) (funext fun f2 => ?_)
  refine congrArg (Prog.op _) (funext fun f3 => ?_)
  refine congrArg (Prog.op _) (funext fun f4 => ?_)
  exact dite_bind _ _ _ (fun _ => rfl) (fun _ => rfl)

theorem dite_bind' {c : Prop} [Decidable c] {β γ : Type} {L : c → Pg β} {L' : ¬c → Pg β} {K : β → Pg γ} (a : c → Pg PUnit) (R : Pg γ)
    {J : Pg β} (h2 : ∀ h, L' h = J) (h1 : ∀ h, L h = a h >>= fun _ => J) (h3 : J >>= K = R) :
    dite c L L' >>= K = (if h : c then a h else pure ⟨⟩) >>= fun _ => R := by
  by_cases h : c
  · rw [dif_pos h, dif_pos h, h1 h]; exact (Prog.bind_assoc _ _ _).trans (congrArg (Prog.bind (a h)) (funext fun _ => h3))
  · rw [dif_neg h, dif_neg h, h2 h]; exact h3

theorem assoc3 {α β γ δ : Type} (D : Pg α) {J : α → Pg β} {G : β → Pg γ} {L : γ → Pg δ} {R : α → Pg δ} (h : ∀ u, (J u >>= G) >>= L = R u) :
    ((D >>= J) >>= G) >>= L = D >>= R := by
  rw [Prog.bind_assoc, Prog.bind_assoc]
  exact congrArg (Prog.bind D) (funext fun u => (Prog.bind_assoc _ _ _).symm.trans (h u))

/-- What follows the loops in the printed body: heads 2 to 15 of the result (the first of two parts). -/
def rest (A : Args) (i : grid0.Coords) (v589 : FVec F S128x128 .bf16) : Pg (FVec F S128x128 .bf16) := do
  k0_part71 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc v589
  let v652 : FVec F S128x128 .bf16 ← k0_part72 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc
  let v683 : Vec F S128x128 .f32 ← k0_part73 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc v652
  let v684 : Vec F S1x128 .f32 ← Prog.lift (.load A.l (Rect.unit (s := S1x2048) ![0, 1664] S1x128.size inb_S1x2048_S1x128_0_1664).toLoadRect (View.loadsAt_vmem h_S1x128))
  have v685 : FVec F S128x128 .f32 := broadcastTo S128x128 v684 broadcasts_S1x128_S128x128
  have v686 : FVec F S128x128 .f32 := divf v683 v685
  have v687 : FVec F S128x128 .f32 := transpose S128x128 [1, 0] v686 transposes_S128x128_p1_0_S128x128
  have v688 : FVec F S128x128 .bf16 := truncf .bf16 v687 bitsLt_bf16_f32
  let v689 : Vec F S1x128x128 .bf16 ← Prog.lift (.load A.y (Rect.unit (s := S1x128x2048) ![0, 0, 1664] S1x128x128.size inb_S1x128x2048_S1x128x128_0_0_1664).toLoadRect (View.loadsAt_vmem h_S1x128x128))
  have v690 : FVec F S128x128 .bf16 := shapeCast S128x128 v689 shapeCasts_S1x128x128_S128x128
  have v691 : FVec F S1x128x128 .bf16 := shapeCast S1x128x128 v688 shapeCasts_S128x128_S1x128x128
  Prog.lift (.store A.y (Rect.unit (s := S1x128x2048) ![0, 0, 1664] S1x128x128.size inb_S1x128x2048_S1x128x128_0_0_1664) v691 Finset.univ (View.stores_vmem h_S1x128x128 (A.hy.storeExact_slice rfl _ packedbf16_S1x128x2048_S1x128x128_0_0_1664) (fun _ => rfl)) (.inl rfl))
  let v692 : Vec F S128x128 .f32 ← Prog.lift (.load A.acc (Rect.unit (s := S128x2048) ![0, 1792] S128x128.size inb_S128x2048_S128x128_0_1792).toLoadRect (View.loadsAt_vmem h_S128x128))
  let v693 : Vec F S1x128 .f32 ← Prog.lift (.load A.l (Rect.unit (s := S1x2048) ![0, 1792] S1x128.size inb_S1x2048_S1x128_0_1792).toLoadRect (View.loadsAt_vmem h_S1x128))
  have v694 : FVec F S128x128 .f32 := broadcastTo S128x128 v693 broadcasts_S1x128_S128x128
  have v695 : FVec F S128x128 .f32 := divf v692 v694
  have v696 : FVec F S128x128 .f32 := transpose S128x128 [1, 0] v695 transposes_S128x128_p1_0_S128x128
  have v697 : FVec F S128x128 .bf16 := truncf .bf16 v696 bitsLt_bf16_f32
  let v698 : Vec F S1x128x128 .bf16 ← Prog.lift (.load A.y (Rect.unit (s := S1x128x2048) ![0, 0, 1792] S1x128x128.size inb_S1x128x2048_S1x128x128_0_0_1792).toLoadRect (View.loadsAt_vmem h_S1x128x128))
  have v699 : FVec F S128x128 .bf16 := shapeCast S128x128 v698 shapeCasts_S1x128x128_S128x128
  have v700 : FVec F S1x128x128 .bf16 := shapeCast S1x128x128 v697 shapeCasts_S128x128_S1x128x128
  Prog.lift (.store A.y (Rect.unit (s := S1x128x2048) ![0, 0, 1792] S1x128x128.size inb_S1x128x2048_S1x128x128_0_0_1792) v700 Finset.univ (View.stores_vmem h_S1x128x128 (A.hy.storeExact_slice rfl _ packedbf16_S1x128x2048_S1x128x128_0_0_1792) (fun _ => rfl)) (.inl rfl))
  let v701 : Vec F S128x128 .f32 ← Prog.lift (.load A.acc (Rect.unit (s := S128x2048) ![0, 1920] S128x128.size inb_S128x2048_S128x128_0_1920).toLoadRect (View.loadsAt_vmem h_S128x128))
  let v702 : Vec F S1x128 .f32 ← Prog.lift (.load A.l (Rect.unit (s := S1x2048) ![0, 1920] S1x128.size inb_S1x2048_S1x128_0_1920).toLoadRect (View.loadsAt_vmem h_S1x128))
  have v703 : FVec F S128x128 .f32 := broadcastTo S128x128 v702 broadcasts_S1x128_S128x128
  have v704 : FVec F S128x128 .f32 := divf v701 v703
  have v705 : FVec F S128x128 .f32 := transpose S128x128 [1, 0] v704 transposes_S128x128_p1_0_S128x128
  have v706 : FVec F S128x128 .bf16 := truncf .bf16 v705 bitsLt_bf16_f32
  pure v706

/-- The last head's store. -/
def restL (A : Args) (i : grid0.Coords) (v706 : FVec F S128x128 .bf16) : Pg PUnit := do
  let v707 : Vec F S1x128x128 .bf16 ← Prog.lift (.load A.y (Rect.unit (s := S1x128x2048) ![0, 0, 1920] S1x128x128.size inb_S1x128x2048_S1x128x128_0_0_1920).toLoadRect (View.loadsAt_vmem h_S1x128x128))
  have v708 : FVec F S128x128 .bf16 := shapeCast S128x128 v707 shapeCasts_S1x128x128_S128x128
  have v709 : FVec F S1x128x128 .bf16 := shapeCast S1x128x128 v706 shapeCasts_S128x128_S1x128x128
  Prog.lift (.store A.y (Rect.unit (s := S1x128x2048) ![0, 0, 1920] S1x128x128.size inb_S1x128x2048_S1x128x128_0_0_1920) v709 Finset.univ (View.stores_vmem h_S1x128x128 (A.hy.storeExact_slice rfl _ packedbf16_S1x128x2048_S1x128x128_0_0_1920) (fun _ => rfl)) (.inl rfl))
  pure ⟨⟩

set_option maxRecDepth 65536 in
set_option maxHeartbeats 4000000 in
theorem late_eq (A : Args) (i : grid0.Coords) (v1 : BitVec 32) (hw : k0_chk9 i v1) (ks vs : FVec F S1x128 .bf16) :
    (k0_part70 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc (BitVec.ofNat 32 (i 0).val) v1 hw (nF v1) (rem v1) (nB v1) ks vs 0#32 >>= rest A i) >>= restL A i
      = late A i v1 hw ks vs := by
  refine (Prog.bind_assoc _ _ _).trans ?_
  refine (Prog.bind_assoc _ _ _).trans ?_
  refine congr (congrArg Prog.bind ?_) (funext fun _ => ?_)
  · refine congrArg (Scf.Loop.for (k0_t1_loop v1) (k0_t1_ok i v1 hw) PUnit.unit) (funext fun k => funext fun _ => ?_)
    exact dite_bind' (fun h2 => startK A i v1 hw k h2) _ (fun _ => rfl) (fun _ => rfl) rfl
  refine (Prog.bind_assoc _ _ _).trans ?_
  refine congr (congrArg Prog.bind ?_) (funext fun _ => ?_)
  · rfl
  exact dite_bind' (fun h4 => tail A i v1 hw ks vs h4) _ (fun _ => rfl) (fun _ => rfl) rfl

set_option maxRecDepth 65536 in
set_option maxHeartbeats 4000000 in
theorem body_eq (A : Args) (i : grid0.Coords) :
    cc0_paged_fp8_gqa i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc = kbody (F := F) A i := by
  refine (congrArg (fun P => (P >>= _) >>= restL A i) (part55_eq A i)).trans ?_
  refine congrArg (Prog.op _) (funext fun f1 => ?_)
  refine congrArg (Prog.op _) (funext fun f2 => ?_)
  refine congrArg (Prog.op _) (funext fun f3 => ?_)
  refine congrArg (Prog.op _) (funext fun f4 => ?_)
  refine assoc3 (if h1 : k0_cond1 (f1 (Shape.Idx.first (numel1_S1.symm ▸ Nat.one_pos))) = 1#1 then start0 A i (f1 (Shape.Idx.first (numel1_S1.symm ▸ Nat.one_pos))) h1 else pure ⟨⟩) fun _ => ?_
  unfold early
  rw [← late_eq A i]
  rfl

end Cert.Kernel.Hand
-- ==== Proof.Kernel.Rules.lean ====
/-
  What the pieces of the body do to the buffers they use: one rule per piece, over memrefs owned at named contents.
-/
module

public import proofs.«01_k».proof.Proof.Kernel.Body
public import Idealize.ShloMosaic.Lib.Pipeline.FrameBody
public import Idealize.ShloMosaic.Lib.Batch
public import Idealize.ShloMosaic.Lib.Tactic

@[expose] public section

set_option synthInstance.maxSize 4096

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

/-- The body run on core `c`. -/
abbrev Wp {α : Type} (c : Dev nD) (p : Pg α) (Q : α → sProp 𝕄) : sProp 𝕄 :=
  wp frame (wpE (defs₀ (F := F)) Variants.none (c : Thread nD τ) none) Set.univ p Q

/-- A memref owned whole on core `c`. -/
abbrev Own (c : Dev nD) {sp : Space} {s : Shape} {e : EltTy} (m : Memref sig .tc sp s e) (q : PosShare TreeShare) (X : s.Idx → Elt F e) : sProp 𝕄 :=
  owns (c : Thread nD τ) m q X

variable (c : Dev nD)

/-! ## Putting pieces in a row -/

theorem wp_step {α β : Type} {P : sProp 𝕄} {p : Pg α} {R : α → sProp 𝕄} (h : P ⊢ Wp c p R) {k : α → Pg β} {Q : β → sProp 𝕄} :
    P ⊢ iprop((∀ a, R a -∗ Wp c (k a) Q) -∗ Wp c (p >>= k) Q) := by
  unfold Wp
  rw [wp_bind]
  iintro HP HK
  ihave H := h $$ HP
  iapply (wp_wand_r _ _ _)
  isplitl [H]; · iexact H
  iexact HK

theorem wp_pure {α : Type} (a : α) {Q : α → sProp 𝕄} : Q a ⊢ Wp c (pure a) Q := le_wp_ret _ _ _ a Q

theorem wp_seq {α β : Type} {P : sProp 𝕄} {p : Pg α} {R : α → sProp 𝕄} (h : P ⊢ Wp c p R) {k : α → Pg β} {Q : β → sProp 𝕄}
    (hk : ∀ a, R a ⊢ Wp c (k a) Q) : P ⊢ Wp c (p >>= k) Q := by
  unfold Wp
  rw [wp_bind]
  exact h.trans (wp_mono _ _ _ hk)

theorem wp_fr {α : Type} {P : sProp 𝕄} {p : Pg α} {R : α → sProp 𝕄} (h : P ⊢ Wp c p R) (Fr : sProp 𝕄) :
    iprop(P ∗ Fr) ⊢ Wp c p (fun a => iprop(R a ∗ Fr)) :=
  (sep_mono h .rfl).trans (wp_frame_r _ _ _)

theorem rowFrom_wp (N : ℕ) (f : (t : ℕ) → t < N → Pg PUnit) (I : ℕ → sProp 𝕄)
    (hf : ∀ t (ht : t < N), I t ⊢ Wp c (f t ht) (fun _ => I (t + 1))) :
    ∀ (n t : ℕ) (h : n + t = N), I t ⊢ Wp c (rowFrom N f n t h) (fun _ => I N)
  | 0, t, h => by
    obtain rfl : t = N := by omega
    exact wp_pure c _
  | n + 1, t, h => wp_seq c (hf t (by omega)) fun _ => rowFrom_wp N f I hf n (t + 1) (by omega)

/-! ## Loads and stores -/

section Mem
variable {sp : CoreSpace} {s : Shape} {e : EltTy} {m : Memref sig .tc sp s e} {r : Rect s}

theorem read_store (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact congrFun ((m.access r).read_write_univ (Val := Elt F) f w) i
  · rw [Rect.overlay_of_not_mem _ _ _ hj, View.read_apply, View.read_apply, View.write_of_not_mem]
    show m.view.emb j ∉ (m.view.slice r).set
    rw [View.set_slice, Finset.mem_map' m.view.emb]; exact hj

theorem wp_ld {q : PosShare TreeShare} {X : s.Idx → Elt F e} {hl : m.view.LoadsAt r.toLoadRect} {β : Type} {k : (r.shape.Idx → Elt F e) → Pg β} {Q : β → sProp 𝕄} :
    Own c m q X ⊢ iprop((Own c m q X -∗ Wp c (k fun j => X (r.emb j)) Q) -∗ Wp c (Prog.lift (.load m r.toLoadRect hl) >>= k) Q) := by
  unfold Own owns
  iintro ⟨%f, %hf, H⟩ Hk
  subst hf
  iapply (wp_load_rect (m := m) (r := r) (hl := hl) (k := k) (Q := Q) (defs := defs₀ (F := F)) (S := m.view.set) (q := q) (f := f) Variants.none (c : Thread nD τ) none Set.univ (m.view.set_slice_subset r)) $$ H
  iintro H
  iapply Hk
  iexists f
  isplitr; · ipureintro; rfl
  iexact H

theorem wp_st {X : s.Idx → Elt F e} {w : r.shape.Idx → Elt F e} {hx : (m.access r).Stores Finset.univ} {hm : Finset.univ = Finset.univ ∨ ∀ a, r.stride a = 1}
    {β : Type} {k : PUnit → Pg β} {Q : β → sProp 𝕄} :
    Own c m fullShare X ⊢ iprop((Own c m fullShare (r.overlay X w) -∗ Wp c (k ⟨⟩) Q) -∗ Wp c (Prog.lift (.store m r w Finset.univ hx hm) >>= k) Q) := by
  unfold Own owns
  iintro ⟨%f, %hf, H⟩ Hk
  subst hf
  iapply (wp_store (m := m) (r := r) (w := w) (hx := hx) (hm := hm) (k := k) (Q := Q) (defs := defs₀ (F := F)) (S := m.view.set) (f := f) Variants.none (c : Thread nD τ) none Set.univ (m.view.set_slice_subset r)) $$ H
  iintro H
  iapply Hk
  iexists _
  isplitr; swap; · iexact H
  ipureintro; exact read_store f w

theorem wp_stE {X : s.Idx → Elt F e} {w : r.shape.Idx → Elt F e} {hx : (m.access r).Stores Finset.univ} {hm : Finset.univ = Finset.univ ∨ ∀ a, r.stride a = 1}
    {Q : PUnit → sProp 𝕄} :
    Own c m fullShare X ⊢ iprop((Own c m fullShare (r.overlay X w) -∗ Q ⟨⟩) -∗ Wp c (Prog.lift (.store m r w Finset.univ hx hm)) Q) := by
  iintro H Hk
  iapply (wp_st (w := w) (hx := hx) (hm := hm) c (k := pure) (Q := Q)) $$ H
  iintro H
  iapply (wp_pure c (Q := Q))
  iapply Hk; iexact H

end Mem

theorem wp_smem {s : Shape} {e : EltTy} {m : Memref sig .tc .smem s e} {r : Rect s} {h1 : r.shape.numel = 1} {hp : e.packing = 1} {q : PosShare TreeShare}
    {X : s.Idx → Elt F e} {β : Type} {k : Elt F e → Pg β} {Q : β → sProp 𝕄} :
    Own c m q X ⊢ iprop((Own c m q X -∗ Wp c (k (X (r.emb (Shape.Idx.first (h1.symm ▸ Nat.one_pos))))) Q) -∗ Wp c (smemLoad m r h1 hp >>= k) Q) := by
  unfold Own owns
  iintro ⟨%f, %hf, H⟩ Hk
  subst hf
  iapply (wp_smemLoadElt (m := m) (r := r) (x := Shape.Idx.first (h1.symm ▸ Nat.one_pos)) (k := k) (Q := Q) (defs := defs₀ (F := F)) (hw := View.loads_smem_one hp h1) (S := m.view.set) (q := q) (f := f) Variants.none (c : Thread nD τ) none Set.univ (m.view.set_slice_subset r)) $$ H
  iintro H
  iapply Hk
  iexists f
  isplitr; · ipureintro; rfl
  iexact H

/-! ## The running maximum, sum and weighted values -/

/-- What `m`, `l` and `acc` hold. -/
structure St (F : FTy → Type) where
  m : Vec F S1x2048 .f32
  l : Vec F S1x2048 .f32
  acc : Vec F S128x2048 .f32

/-- A tile's columns. -/
abbrev atT (X : Vec F S128x2048 .f32) (t : ℕ) (ht : t < 8) : Vec F S128x256 .f32 := fun j => X ((rT t ht).emb j)
abbrev atQ (X : Vec F S128x2048 .bf16) (t : ℕ) (ht : t < 8) : Vec F S128x256 .bf16 := fun j => X ((rT t ht).emb j)
abbrev atT1 (X : Vec F S1x2048 .f32) (t : ℕ) (ht : t < 8) : Vec F S1x256 .f32 := fun j => X ((rT1 t ht).emb j)

/-- The state after one tile over 1024 keys. -/
def tileS (mask : FVec F S1024x256 .f32 → FVec F S1024x256 .f32) (k : FVec F S1024x128 .bf16) (vt : FVec F S128x1024 .bf16) (qX : Vec F S128x2048 .bf16)
    (t : ℕ) (ht : t < 8) (st : St F) : St F :=
  have s : FVec F S1024x256 .f32 := mask (matmul dot_S1024x128_S128x256_S1024x256_1_0_0_1_n_n none k (atQ qX t ht) (constant S1024x256 .f32 0x00000000#32))
  have mN : FVec F S1x256 .f32 := maximumf (atT1 st.m t ht) (mx s)
  have p : FVec F S1024x256 .f32 := wt s mN
  { m := (rT1 t ht).overlay st.m (shapeCast S1x256 mN shapeCasts_S1x256_S1x256)
    l := (rT1 t ht).overlay st.l (shapeCast S1x256 (addf (mulf (atT1 st.l t ht) (al (atT1 st.m t ht) mN)) (sm p)) shapeCasts_S1x256_S1x256)
    acc := (rT t ht).overlay st.acc (shapeCast S128x256 (addf (mulf (atT st.acc t ht) (broadcastTo S128x256 (al (atT1 st.m t ht) mN) broadcasts_S1x256_S128x256)) (pv vt p))
      shapeCasts_S128x256_S128x256) }

/-- The state after one tile over the new keys. -/
def tileNS (k : FVec F S128x128 .bf16) (vt : FVec F S128x128 .bf16) (qX : Vec F S128x2048 .bf16) (t : ℕ) (ht : t < 8) (st : St F) : St F :=
  have s : FVec F S128x256 .f32 := causal (matmul dot_S128x128_S128x256_S128x256_1_0_0_1_n_n none k (atQ qX t ht) (constant S128x256 .f32 0x00000000#32))
  have mN : FVec F S1x256 .f32 := mxN s
  have p : FVec F S128x256 .f32 := wtN s mN
  { m := (rT1 t ht).overlay st.m (shapeCast S1x256 mN shapeCasts_S1x256_S1x256)
    l := (rT1 t ht).overlay st.l (shapeCast S1x256 (smN p) shapeCasts_S1x256_S1x256)
    acc := (rT t ht).overlay st.acc (shapeCast S128x256 (pvN vt p) shapeCasts_S128x256_S128x256) }

/-- `f 0`, …, `f (n - 1)` on a state, for `n ≤ N`. -/
def rowS {σ : Type} {N : ℕ} (f : (t : ℕ) → t < N → σ → σ) : ℕ → σ → σ
  | 0, s => s
  | n + 1, s => if h : n < N then f n h (rowS f n s) else rowS f n s

theorem rowS_succ {σ : Type} {N : ℕ} (f : (t : ℕ) → t < N → σ → σ) {n : ℕ} (h : n < N) (s : σ) : rowS f (n + 1) s = f n h (rowS f n s) := dif_pos h

theorem rowS_wp {σ : Type} (N : ℕ) (f : (t : ℕ) → t < N → Pg PUnit) (step : (t : ℕ) → t < N → σ → σ) (R : σ → sProp 𝕄)
    (h : ∀ t (ht : t < N) s, R s ⊢ Wp c (f t ht) (fun _ => R (step t ht s))) (s : σ) :
    R s ⊢ Wp c (rowFrom N f N 0 rfl) (fun _ => R (rowS step N s)) :=
  rowFrom_wp c N f (fun t => R (rowS step t s)) (fun t ht => by rw [rowS_succ _ ht]; exact h t ht _) N 0 rfl

/-- The queries and the state, owned. -/
def Acc (A : Args) (qX : Vec F S128x2048 .bf16) (st : St F) : sProp 𝕄 :=
  iprop(Own c A.qt fullShare qX ∗ Own c A.m fullShare st.m ∗ Own c A.l fullShare st.l ∗ Own c A.acc fullShare st.acc)

theorem tile_wp (A : Args) (mask : FVec F S1024x256 .f32 → FVec F S1024x256 .f32) (k : FVec F S1024x128 .bf16) (vt : FVec F S128x1024 .bf16)
    (qX : Vec F S128x2048 .bf16) (t : ℕ) (ht : t < 8) (st : St F) :
    Acc c A qX st ⊢ Wp c (tile A mask k vt t ht) (fun _ => Acc c A qX (tileS mask k vt qX t ht st)) := by
  unfold Acc tile
  iintro ⟨Hq, Hm, Hl, Ha⟩
  iapply (wp_ld c) $$ Hq; iintro Hq
  iapply (wp_ld c) $$ Hm; iintro Hm
  iapply (wp_ld c) $$ Hm; iintro Hm
  iapply (wp_ld c) $$ Hl; iintro Hl
  iapply (wp_ld c) $$ Hl; iintro Hl
  iapply (wp_st c) $$ Hl; iintro Hl
  iapply (wp_ld c) $$ Ha; iintro Ha
  iapply (wp_ld c) $$ Ha; iintro Ha
  iapply (wp_st c) $$ Ha; iintro Ha
  iapply (wp_ld c) $$ Hm; iintro Hm
  iapply (wp_stE c) $$ Hm; iintro Hm
  isplitl [Hq]; · iexact Hq
  isplitl [Hm]; · iexact Hm
  isplitl [Hl]; · iexact Hl
  iexact Ha

theorem tileN_wp (A : Args) (k : FVec F S128x128 .bf16) (vt : FVec F S128x128 .bf16)
    (qX : Vec F S128x2048 .bf16) (t : ℕ) (ht : t < 8) (st : St F) :
    Acc c A qX st ⊢ Wp c (tileN A k vt t ht) (fun _ => Acc c A qX (tileNS k vt qX t ht st)) := by
  unfold Acc tileN
  iintro ⟨Hq, Hm, Hl, Ha⟩
  iapply (wp_ld c) $$ Hq; iintro Hq
  iapply (wp_ld c) $$ Hl; iintro Hl
  iapply (wp_st c) $$ Hl; iintro Hl
  iapply (wp_ld c) $$ Ha; iintro Ha
  iapply (wp_st c) $$ Ha; iintro Ha
  iapply (wp_ld c) $$ Hm; iintro Hm
  iapply (wp_stE c) $$ Hm; iintro Hm
  isplitl [Hq]; · iexact Hq
  isplitl [Hm]; · iexact Hm
  isplitl [Hl]; · iexact Hl
  iexact Ha

/-! ## Heads -/

def transpS (X : Vec F S1x128x2048 .bf16) (h : ℕ) (hh : h < 16) (q : Vec F S128x2048 .bf16) : Vec F S128x2048 .bf16 :=
  (rH h hh).overlay q (shapeCast S128x128 (transpose S128x128 [1, 0] (shapeCast S128x128 (fun j => X ((rH3 h hh).emb j) : Vec F S1x128x128 .bf16)
    shapeCasts_S1x128x128_S128x128) transposes_S128x128_p1_0_S128x128) shapeCasts_S128x128_S128x128)

theorem transp_wp (A : Args) (q : PosShare TreeShare) (X : Vec F S1x128x2048 .bf16) (h : ℕ) (hh : h < 16) (qX : Vec F S128x2048 .bf16) :
    iprop(Own c A.x q X ∗ Own c A.qt fullShare qX) ⊢ Wp c (transp A h hh) (fun _ => iprop(Own c A.x q X ∗ Own c A.qt fullShare (transpS X h hh qX))) := by
  unfold transp
  iintro ⟨Hx, Hq⟩
  iapply (wp_ld c) $$ Hx; iintro Hx
  iapply (wp_ld c) $$ Hq; iintro Hq
  iapply (wp_stE c) $$ Hq; iintro Hq
  isplitl [Hx]; · iexact Hx
  iexact Hq

def outS (st : St F) (h : ℕ) (hh : h < 16) (y : Vec F S1x128x2048 .bf16) : Vec F S1x128x2048 .bf16 :=
  (rH3 h hh).overlay y (shapeCast S1x128x128 (truncf .bf16 (transpose S128x128 [1, 0] (divf (fun j => st.acc ((rH h hh).emb j) : Vec F S128x128 .f32)
    (broadcastTo S128x128 (fun j => st.l ((rH1 h hh).emb j) : Vec F S1x128 .f32) broadcasts_S1x128_S128x128)) transposes_S128x128_p1_0_S128x128)
      bitsLt_bf16_f32) shapeCasts_S128x128_S1x128x128)

theorem outH_wp (A : Args) (qX : Vec F S128x2048 .bf16) (st : St F) (h : ℕ) (hh : h < 16) (y : Vec F S1x128x2048 .bf16) :
    iprop(Acc c A qX st ∗ Own c A.y fullShare y) ⊢ Wp c (outH A h hh) (fun _ => iprop(Acc c A qX st ∗ Own c A.y fullShare (outS st h hh y))) := by
  unfold Acc outH
  iintro ⟨⟨Hq, Hm, Hl, Ha⟩, Hy⟩
  iapply (wp_ld c) $$ Ha; iintro Ha
  iapply (wp_ld c) $$ Hl; iintro Hl
  iapply (wp_ld c) $$ Hy; iintro Hy
  iapply (wp_stE c) $$ Hy; iintro Hy
  isplitr [Hy]
  · isplitl [Hq]; · iexact Hq
    isplitl [Hm]; · iexact Hm
    isplitl [Hl]; · iexact Hl
    iexact Ha
  iexact Hy

/-! ## The new tokens -/

/-- A word of the scalars. -/
def scAt (X : Vec F S4 .f32) (p : ℕ) (h : ∀ a, (![p] : Fin 1 → ℕ) a + S1.size a ≤ S4.size a) : F .f32 :=
  X ((Rect.unit (s := S4) ![p] S1.size h).emb (Shape.Idx.first (numel1_S1.symm ▸ Nat.one_pos)))

def codesS (x : Vec F S1x128x128 .bf16) (s : F .f32) (o : Vec F S1x128x128 .fp8e4m3) : Vec F S1x128x128 .fp8e4m3 :=
  rK.overlay o (shapeCast S1x128x128 (codes (fun j => x (rK.emb j)) s) shapeCasts_S128x128_S1x128x128)

/-- The state after the new tokens. -/
def newS (ks vs : FVec F S1x128 .bf16) (sX : Vec F S4 .f32) (kX vX : Vec F S1x128x128 .bf16) (qX : Vec F S128x2048 .bf16) : St F → St F :=
  rowS (N := 8) (tileNS (deq (codes (fun j => kX (rK.emb j)) (scAt sX 0 inb_S4_S1_0)) ks)
    (transpose S128x128 [1, 0] (deq (codes (fun j => vX (rK.emb j)) (scAt sX 1 inb_S4_S1_1)) vs) transposes_S128x128_p1_0_S128x128) qX) 8

theorem newTok_wp (A : Args) (ks vs : FVec F S1x128 .bf16) (q0 q1 q2 : PosShare TreeShare) (sX : Vec F S4 .f32) (kX vX : Vec F S1x128x128 .bf16)
    (qX : Vec F S128x2048 .bf16) (st : St F) (ko vo : Vec F S1x128x128 .fp8e4m3) :
    iprop(Acc c A qX st ∗ Own c A.sc q0 sX ∗ Own c A.kn q1 kX ∗ Own c A.vn q2 vX ∗ Own c A.ko fullShare ko ∗ Own c A.vo fullShare vo)
      ⊢ Wp c (newTok A ks vs) (fun _ => iprop(Acc c A qX (newS ks vs sX kX vX qX st) ∗ Own c A.sc q0 sX ∗ Own c A.kn q1 kX ∗ Own c A.vn q2 vX
        ∗ Own c A.ko fullShare (codesS kX (scAt sX 0 inb_S4_S1_0) ko) ∗ Own c A.vo fullShare (codesS vX (scAt sX 1 inb_S4_S1_1) vo))) := by
  unfold newTok
  iintro ⟨HA, Hs, Hk, Hv, Hko, Hvo⟩
  iapply (wp_smem c) $$ Hs; iintro Hs
  iapply (wp_ld c) $$ Hk; iintro Hk
  iapply (wp_ld c) $$ Hko; iintro Hko
  iapply (wp_st c) $$ Hko; iintro Hko
  iapply (wp_smem c) $$ Hs; iintro Hs
  iapply (wp_ld c) $$ Hv; iintro Hv
  iapply (wp_ld c) $$ Hvo; iintro Hvo
  iapply (wp_st c) $$ Hvo; iintro Hvo
  ihave H := (rowS_wp c 8 _ _ (Acc c A qX) (fun t ht st => tileN_wp c A (deq (codes (fun j => kX (rK.emb j)) (scAt sX 0 inb_S4_S1_0)) ks)
    (transpose S128x128 [1, 0] (deq (codes (fun j => vX (rK.emb j)) (scAt sX 1 inb_S4_S1_1)) vs) transposes_S128x128_p1_0_S128x128) qX t ht st) st) $$ HA
  iapply (wp_wand_r _ _ _)
  isplitl [H]; · iexact H
  iintro %_ HA
  isplitl [HA]; · iexact HA
  isplitl [Hs]; · iexact Hs
  isplitl [Hk]; · iexact Hk
  isplitl [Hv]; · iexact Hv
  isplitl [Hko]; · iexact Hko
  iexact Hvo

end Cert.Kernel.Hand
-- ==== Proof.Kernel.Dma.lean ====
/-
  The blocks of pages: a slot of the two buffers is free, or its eight pages are on their way. Starting a block, waiting
  for one, and reading the slot it landed in.
-/
module

public import proofs.«01_k».proof.Proof.Kernel.Rules

@[expose] public section

set_option synthInstance.maxSize 4096

noncomputable section

namespace Cert.Kernel.Hand

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

variable (c : Dev nD)

/-- The points-to of a memref's elements. -/
abbrev Pt {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f
/-- The points-to of a cache's elements outside a page. -/
abbrev PtOff (m : Memref sig .tc .hbm S8192x128x128 .fp8e4m3) (w : BitVec 32) (hw : PageOk w) (q : PosShare TreeShare)
    (f : Buf (Elt F) (m.view.loc (c : Thread nD τ))) : sProp 𝕄 :=
  m.view.loc (c : Thread nD τ) ↦[m.view.set \ (cPage m (offC w) hw.hc).view.set]{q} f

theorem cPage_subset (m : Memref sig .tc .hbm S8192x128x128 .fp8e4m3) (w : BitVec 32) (hw : PageOk w) :
    (cPage m (offC w) hw.hc).view.set ⊆ m.view.set := by
  rw [Memref.set_view_squeeze]; exact m.view.set_slice_subset _

theorem split_c (m : Memref sig .tc .hbm S8192x128x128 .fp8e4m3) (w : BitVec 32) (hw : PageOk w) (q : PosShare TreeShare)
    (f : Buf (Elt F) (m.view.loc (c : Thread nD τ))) :
    Pt c m q f ⊢ iprop(Pt c (cPage m (offC w) hw.hc) q f ∗ PtOff c m w hw q f) :=
  (pointsTo_split_subset (cPage_subset m w hw)).1
theorem join_c (m : Memref sig .tc .hbm S8192x128x128 .fp8e4m3) (w : BitVec 32) (hw : PageOk w) (q : PosShare TreeShare)
    (f : Buf (Elt F) (m.view.loc (c : Thread nD τ))) :
    iprop(Pt c (cPage m (offC w) hw.hc) q f ∗ PtOff c m w hw q f) ⊢ Pt c m q f :=
  (pointsTo_split_subset (cPage_subset m w hw)).2

/-- The units one page's transfer counts. -/
abbrev unitsB (B : Memref sig .tc .vmem S2x1024x128 .fp8e4m3) : ℕ := B.view.ref.dmaCredit S128x128 .fp8e4m3

section Side
variable (C : Memref sig .tc .hbm S8192x128x128 .fp8e4m3) (B : Memref sig .tc .vmem S2x1024x128 .fp8e4m3)
  (s : BitVec 32) (hs : SlotOk s) (q : PosShare TreeShare) (f : Buf (Elt F) (C.view.loc (c : Thread nD τ)))
  (ws : Fin 8 → BitVec 32) (hw : ∀ t, PageOk (ws t))

/-- What transfer `t` leaves: its page of the slot at the pool's page, and its part of the pool back. -/
def deliv (t : Fin 8) : sProp 𝕄 :=
  iprop(Own c (bPage B (offB s t) (hs.hb t t.2)) fullShare ((cPage C (offC (ws t)) (hw t).hc).view.read (Elt F) f)
    ∗ Pt c (cPage C (offC (ws t)) (hw t).hc) (Transfers.shareTok q 8 t) f)
instance deliv_storable (t : Fin 8) : Storable (upEmb : UEmb _ 𝕄) (deliv c C B s hs q f ws hw t) := by
  unfold deliv; infer_instance

/-- Before transfer `t` is issued: its page of the slot, and a token of the pool. -/
def todo (t : Fin 8) : sProp 𝕄 :=
  iprop((∃ g, Pt c (bPage B (offB s t) (hs.hb t t.2)) fullShare g) ∗ Pt c C (Transfers.shareTok q 8 t) f)
/-- After: the token's rest. -/
def done (t : Fin 8) : sProp 𝕄 := PtOff c C (ws t) (hw t) (Transfers.shareTok q 8 t) f

/-- A slot's eight pages, at anything. -/
def pages : sProp 𝕄 := bigSep Finset.univ fun t : Fin 8 => iprop(∃ g, Pt c (bPage B (offB s t) (hs.hb t t.2)) fullShare g)

abbrev Bt (sem : DmaSem sig) (j u : ℕ) : sProp 𝕄 :=
  Transfers.Batch (countersEmb (U := Pipeline.UD sig nD τ)) (c : Thread nD τ) (.dma sem) () (unitsB B) (deliv c C B s hs q f ws hw) j u

/-- `p` of the eight transfers issued. -/
def issued (sem : DmaSem sig) (p : ℕ) : sProp 𝕄 :=
  iprop(Bt c C B s hs q f ws hw sem p 0
    ∗ bigSep Finset.univ (fun t : Fin 8 => if t.val < p then done c C q f ws hw t else todo c C B s hs q f t))

theorem bigSep_at {Φ Ψ : Fin 8 → sProp 𝕄} (t : Fin 8) (h : ∀ t', t' ≠ t → Φ t' = Ψ t') :
    bigSep Finset.univ Φ ⊢ iprop(Φ t ∗ (Ψ t -∗ bigSep Finset.univ Ψ)) := by
  rw [bigSep_univ_split t (Φ := Φ), bigSep_univ_split t (Φ := Ψ)]
  have e : bigSep (Finset.univ.erase t) Φ = bigSep (Finset.univ.erase t) Ψ := bigSep_congr fun t' ht' => h t' (Finset.ne_of_mem_erase ht')
  rw [e]
  change iprop(Φ t ∗ bigSep (Finset.univ.erase t) Ψ) ⊢ iprop(Φ t ∗ (Ψ t -∗ (Ψ t ∗ bigSep (Finset.univ.erase t) Ψ)))
  iintro ⟨H, Hr⟩
  isplitl [H]; · iexact H
  iintro H'
  isplitl [H']; · iexact H'
  iexact Hr

theorem enq_one (sem : DmaSem sig) (p : ℕ) (hp : p < 8) (hc : (cPage C (offC (ws ⟨p, hp⟩)) (hw ⟨p, hp⟩).hc).view.WordExact)
    (hb : (bPage B (offB s p) (hs.hb p hp)).view.WordExact) (hsem) {β : Type} {k : PUnit → Pg β} {Q : β → sProp 𝕄} :
    issued c C B s hs q f ws hw sem p
      ⊢ iprop((issued c C B s hs q f ws hw sem (p + 1) -∗ Wp c (k ⟨⟩) Q)
        -∗ Wp c (Prog.lift (.enqueueDma (cPage C (offC (ws ⟨p, hp⟩)) (hw ⟨p, hp⟩).hc) (.here (bPage B (offB s p) (hs.hb p hp))) (.dma sem) hc hb hsem) >>= k) Q) := by
  unfold issued
  iintro ⟨HB, HS⟩ Hk
  ihave HS' := (bigSep_at (Ψ := fun t : Fin 8 => if t.val < p + 1 then done c C q f ws hw t else todo c C B s hs q f t) ⟨p, hp⟩ (fun t' ht' => by
    have : t'.val ≠ p := fun e => ht' (Fin.ext e)
    by_cases h : t'.val < p
    · rw [if_pos h, if_pos (by omega)]
    · rw [if_neg h, if_neg (by omega)])) $$ HS
  rw [if_neg (show ¬ ((⟨p, hp⟩ : Fin 8).val < p) from lt_irrefl p), if_pos (show ((⟨p, hp⟩ : Fin 8).val < p + 1) from Nat.lt_succ_self p)]
  icases HS' with ⟨Ht, HS⟩
  unfold todo
  icases Ht with ⟨⟨%g, Hg⟩, Ht⟩
  ihave Ht' := (split_c c C (ws ⟨p, hp⟩) (hw ⟨p, hp⟩) (Transfers.shareTok q 8 ⟨p, hp⟩) f) $$ Ht
  icases Ht' with ⟨Hs, Hr⟩
  iapply (Transfers.wp_dmaBatch (EC := countersEmb (U := Pipeline.UD sig nD τ)) (defs := defs₀ (F := F)) Variants.none (c : Thread nD τ) none
    (src := cPage C (offC (ws ⟨p, hp⟩)) (hw ⟨p, hp⟩).hc) (dst := bPage B (offB s p) (hs.hb p hp)) (via := .same) (sm := .dma sem) (hsrc := hc) (hdst := hb) (hsem := hsem)
    (k := k) (Q := Q) (q := Transfers.shareTok q 8 ⟨p, hp⟩) (fs := f) (Sd := (bPage B (offB s p) (hs.hb p hp)).view.set) (fd := g) (D := deliv c C B s hs q f ws hw) (j := p) (u := 0)
    () (unitsB B) rfl (Finset.Subset.refl _) hp (Nat.zero_le _) (by
      unfold deliv
      iintro ⟨H1, H2⟩
      isplitr [H2]
      · unfold Own owns
        iexists _
        isplitr; swap; · iexact H1
        ipureintro; exact View.read_write_univ _ _
      · iexact H2)) $$ [HB Hs Hg]
  · isplitl [Hs]; · iexact Hs
    isplitl [Hg]; · iexact Hg
    iexact HB
  iintro HB
  iapply Hk
  isplitl [HB]; · iexact HB
  iapply HS
  unfold done
  iexact Hr

/-- A side of a slot nothing is under way in. -/
def freeSide (sem : DmaSem sig) : sProp 𝕄 := iprop(semVal ((c : Thread nD τ), .dma sem) 0 ∗ pages c B s hs ∗ Pt c C q f)

/-- All eight under way. -/
def flightSide (sem : DmaSem sig) : sProp 𝕄 := iprop(issued c C B s hs q f ws hw sem 8 ∗ Pt c C (Transfers.shareDrop q 8) f)

theorem start_side (sem : DmaSem sig) :
    freeSide c C B s hs q f sem ⊢ |={Set.univ}=> iprop(issued c C B s hs q f ws hw sem 0 ∗ Pt c C (Transfers.shareDrop q 8) f) := by
  unfold freeSide issued
  iintro ⟨Hv, Hp, Hc⟩
  imod (Transfers.batch_alloc' (countersEmb (U := Pipeline.UD sig nD τ)) (c : Thread nD τ) () (unitsB B) (deliv c C B s hs q f ws hw) (sm := .dma sem) (E := Set.univ)) $$ Hv with HB
  ihave Hc' := (Transfers.pointsTo_toks_split q 8) $$ Hc
  icases Hc' with ⟨Hd, Ht⟩
  imodintro
  isplitr [Hd]; swap; · iexact Hd
  isplitl [HB]; · iexact HB
  have e : bigSep Finset.univ (fun t : Fin 8 => if t.val < 0 then done c C q f ws hw t else todo c C B s hs q f t)
      = iprop(pages c B s hs ∗ bigSep Finset.univ fun t : Fin 8 => Pt c C (Transfers.shareTok q 8 t) f) := by
    unfold pages
    refine (bigSep_congr (Ψ := fun t : Fin 8 => todo c C B s hs q f t) fun t _ => ?_).trans ?_
    · rw [if_neg (Nat.not_lt_zero _)]
    · unfold todo; exact bigSep_sep _ _ _
  iapply (Entails.of_eq e.symm)
  isplitl [Hp]; · iexact Hp
  iexact Ht

/-- `p` of the eight waited for. -/
def waited (sem : DmaSem sig) (p : ℕ) : sProp 𝕄 :=
  if p < 8 then Bt c C B s hs q f ws hw sem 8 (p * unitsB B)
  else iprop(bigSep Finset.univ (deliv c C B s hs q f ws hw) ∗ semVal ((c : Thread nD τ), .dma sem) 0)

theorem flight_waited (sem : DmaSem sig) :
    flightSide c C B s hs q f ws hw sem ⊢ iprop(waited c C B s hs q f ws hw sem 0 ∗ bigSep Finset.univ (done c C q f ws hw) ∗ Pt c C (Transfers.shareDrop q 8) f) := by
  unfold flightSide issued waited
  rw [if_pos (by decide : 0 < 8), Nat.zero_mul]
  iintro ⟨⟨HB, HS⟩, Hd⟩
  isplitl [HB]; · iexact HB
  isplitl [HS]
  · have e : bigSep Finset.univ (fun t : Fin 8 => if t.val < 8 then done c C q f ws hw t else todo c C B s hs q f t) = bigSep Finset.univ (done c C q f ws hw) :=
      bigSep_congr fun t _ => if_pos t.2
    iapply (Entails.of_eq e); iexact HS
  · iexact Hd

/-- The eight pages landed. -/
def landed (sem : DmaSem sig) : sProp 𝕄 :=
  iprop((bigSep Finset.univ fun t : Fin 8 => Own c (bPage B (offB s t) (hs.hb t t.2)) fullShare ((cPage C (offC (ws t)) (hw t).hc).view.read (Elt F) f))
    ∗ semVal ((c : Thread nD τ), .dma sem) 0 ∗ Pt c C q f)

theorem waited_landed (sem : DmaSem sig) :
    iprop(waited c C B s hs q f ws hw sem 8 ∗ bigSep Finset.univ (done c C q f ws hw) ∗ Pt c C (Transfers.shareDrop q 8) f) ⊢ landed c C B s hs q f ws hw sem := by
  unfold waited landed
  rw [if_neg (by decide : ¬ 8 < 8)]
  iintro ⟨⟨HD, Hv⟩, HS, Hd⟩
  have e : bigSep Finset.univ (deliv c C B s hs q f ws hw)
      = iprop((bigSep Finset.univ fun t : Fin 8 => Own c (bPage B (offB s t) (hs.hb t t.2)) fullShare ((cPage C (offC (ws t)) (hw t).hc).view.read (Elt F) f))
        ∗ bigSep Finset.univ fun t : Fin 8 => Pt c (cPage C (offC (ws t)) (hw t).hc) (Transfers.shareTok q 8 t) f) := by
    unfold deliv; exact bigSep_sep _ _ _
  ihave HD := (Entails.of_eq e) $$ HD
  icases HD with ⟨HP, HC⟩
  isplitl [HP]; · iexact HP
  isplitl [Hv]; · iexact Hv
  have e2 : iprop((bigSep Finset.univ fun t : Fin 8 => Pt c (cPage C (offC (ws t)) (hw t).hc) (Transfers.shareTok q 8 t) f) ∗ bigSep Finset.univ (done c C q f ws hw))
      ⊢ bigSep Finset.univ fun t : Fin 8 => Pt c C (Transfers.shareTok q 8 t) f := by
    refine (Entails.of_eq (bigSep_sep _ _ _).symm).trans ?_
    exact bigSep_mono fun t _ => join_c c C (ws t) (hw t) _ f
  iapply (Transfers.pointsTo_toks_join q 8)
  isplitl [Hd]; · iexact Hd
  iapply e2
  isplitl [HC]; · iexact HC
  iexact HS

/-- Some waits are recorded; nothing is owed. -/
def owed : sProp 𝕄 := iprop(∃ W, owes (c : Thread nD τ) 0 W)

theorem wait_one (sem : DmaSem sig) (p : ℕ) (hp : p < 8) {sp' : Space} {src : Memref sig .tc sp' S128x128 .fp8e4m3} {hc : src.view.WordExact}
    {hb : (bPage B (offB s p) (hs.hb p hp)).view.WordExact} {β : Type} {k : PUnit → Pg β} {Q : β → sProp 𝕄} :
    iprop(waited c C B s hs q f ws hw sem p ∗ owed c)
      ⊢ iprop((iprop(waited c C B s hs q f ws hw sem (p + 1) ∗ owed c) -∗ Wp c (k ⟨⟩) Q)
        -∗ Wp c (Prog.lift (.waitDma2 sem src (bPage B (offB s p) (hs.hb p hp)) hc hb) >>= k) Q) := by
  have h0 : 0 < unitsB B := View.dmaCredit_pos (bPage B (offB s p) (hs.hb p hp)).view (by decide)
  unfold waited owed
  rw [if_pos hp]
  iintro ⟨HB, ⟨%W, HW⟩⟩ Hk
  by_cases h : p + 1 < 8
  · rw [if_pos h]
    iapply (Transfers.wp_waitBatch (countersEmb (U := Pipeline.UD sig nD τ)) (defs := defs₀ (F := F)) Variants.none (c : Thread nD τ) none
      (sem := sem) (srcw := src) (dstw := bPage B (offB s p) (hs.hb p hp)) (hsrc := hc) (hdst := hb) (k := k) (Q := Q)
      () (N := unitsB B) rfl (D := deliv c C B s hs q f ws hw) (u := p * unitsB B) (by nlinarith) (W := W)) $$ [HB HW]
    · isplitl [HB]; · iexact HB
      iexact HW
    iintro ⟨HB, HW⟩
    iapply Hk
    isplitl [HB]
    · rw [show (p + 1) * unitsB B = p * unitsB B + unitsB B by ring]; iexact HB
    iexists _; iexact HW
  · obtain rfl : p = 7 := by omega
    rw [if_neg h]
    iapply (Transfers.wp_waitBatchLast (countersEmb (U := Pipeline.UD sig nD τ)) (defs := defs₀ (F := F)) Variants.none (c : Thread nD τ) none
      (sem := sem) (srcw := src) (dstw := bPage B (offB s 7) (hs.hb 7 hp)) (hsrc := hc) (hdst := hb) (k := k) (Q := Q)
      () (N := unitsB B) rfl h0 (D := deliv c C B s hs q f ws hw) (u := 7 * unitsB B) (by ring) (W := W)) $$ [HB HW]
    · isplitl [HB]; · iexact HB
      iexact HW
    iintro ⟨HD, Hv, HW⟩
    iapply Hk
    isplitr [HW]
    · isplitl [HD]; · iexact HD
      iexact Hv
    iexists _; iexact HW

end Side

/-! ## A block -/

/-- The word of the page table a rectangle of one element names. -/
def wordAt (X : Vec F S8x1024 .i32) (off : Fin 2 → ℕ) (h : ∀ a, off a + S1x1.size a ≤ S8x1024.size a) : BitVec 32 :=
  X ((Rect.unit (s := S8x1024) off S1x1.size h).emb (Shape.Idx.first (numel1_S1x1.symm ▸ Nat.one_pos)))

variable (A : Args)

theorem ldWord_wp {q : PosShare TreeShare} {X : Vec F S8x1024 .i32} {off : Fin 2 → ℕ} {h : ∀ a, off a + S1x1.size a ≤ S8x1024.size a} {P : BitVec 32 → Prop}
    {dec : ∀ w, Decidable (P w)} (hp : P (wordAt X off h)) {β : Type} {k : (Σ' w : Elt F .i32, P w) → Pg β} {Q : β → sProp 𝕄} :
    Own c A.pt q X ⊢ iprop((Own c A.pt q X -∗ Wp c (k ⟨wordAt X off h, hp⟩) Q) -∗ Wp c (ldWord (F := F) A off h P dec >>= k) Q) := by
  have e : (ldWord (F := F) A off h P dec >>= k)
      = (smemLoad A.pt (Rect.unit (s := S8x1024) off S1x1.size h) numel1_S1x1 rfl : Pg (Elt F .i32)) >>= fun w =>
          (.op (.assume (P w) (dec w)) fun h' : PLift (P w) => k ⟨w, h'.down⟩ : Pg β) := by
    unfold ldWord
    exact Prog.bind_assoc _ _ _
  rw [e]
  iintro H Hk
  iapply (wp_smem c) $$ H; iintro H
  iapply (wp_assume (k := fun h' : PLift (P (wordAt X off h)) => k ⟨wordAt X off h, h'.down⟩) (Q := Q) Variants.none (c : Thread nD τ) none Set.univ hp)
  iapply Hk
  iexact H

theorem block_wp {q : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (f : (w : BitVec 32) → PageOk w → (p : ℕ) → p < 8 → Pg PUnit) (hp : ∀ p hp, P (wordAt X (offW p) (hW p hp)))
    (I : ℕ → sProp 𝕄) (hf : ∀ p hp hw, I p ⊢ Wp c (f (wordAt X (offW p) (hW p hp)) hw p hp) (fun _ => I (p + 1))) :
    iprop(Own c A.pt q X ∗ I 0) ⊢ Wp c (block (F := F) A offW hW P dec hP f) (fun _ => iprop(Own c A.pt q X ∗ I 8)) := by
  unfold block
  iintro ⟨H, HI⟩
  iapply (ldWord_wp c A (hp 0 (by decide))) $$ H; iintro H
  iapply (ldWord_wp c A (hp 1 (by decide))) $$ H; iintro H
  iapply (ldWord_wp c A (hp 2 (by decide))) $$ H; iintro H
  iapply (ldWord_wp c A (hp 3 (by decide))) $$ H; iintro H
  iapply (ldWord_wp c A (hp 4 (by decide))) $$ H; iintro H
  iapply (ldWord_wp c A (hp 5 (by decide))) $$ H; iintro H
  iapply (ldWord_wp c A (hp 6 (by decide))) $$ H; iintro H
  iapply (ldWord_wp c A (hp 7 (by decide))) $$ H; iintro H
  iapply (wp_step c (hf 0 _ _)) $$ HI; iintro %_ HI
  iapply (wp_step c (hf 1 _ _)) $$ HI; iintro %_ HI
  iapply (wp_step c (hf 2 _ _)) $$ HI; iintro %_ HI
  iapply (wp_step c (hf 3 _ _)) $$ HI; iintro %_ HI
  iapply (wp_step c (hf 4 _ _)) $$ HI; iintro %_ HI
  iapply (wp_step c (hf 5 _ _)) $$ HI; iintro %_ HI
  iapply (wp_step c (hf 6 _ _)) $$ HI; iintro %_ HI
  iapply (wp_wand_r _ _ _)
  isplitl [HI]; · iapply (hf 7 _ _) $$ HI
  iintro %_ HI
  isplitl [H]; · iexact H
  iexact HI

section Slot
variable (s : BitVec 32) (hs : SlotOk s) (q qv : PosShare TreeShare) (fk : Buf (Elt F) (A.kc.view.loc (c : Thread nD τ))) (fv : Buf (Elt F) (A.vc.view.loc (c : Thread nD τ)))
  (ws : Fin 8 → BitVec 32) (hw : ∀ t, PageOk (ws t))

abbrev semK : DmaSem sig := cell A (offS s 0) (hs.hs 0 (by decide))
abbrev semV : DmaSem sig := cell A (offS s 1) (hs.hs 1 (by decide))

/-- A slot nothing is under way in, with what its transfers take of the pools. -/
def Free : sProp 𝕄 := iprop(freeSide c A.kc A.kb s hs q fk (semK A s hs) ∗ freeSide c A.vc A.vb s hs qv fv (semV A s hs))
/-- A slot whose block is under way. -/
def Flight : sProp 𝕄 := iprop(flightSide c A.kc A.kb s hs q fk ws hw (semK A s hs) ∗ flightSide c A.vc A.vb s hs qv fv ws hw (semV A s hs))
/-- A slot whose block has landed. -/
def Landed : sProp 𝕄 := iprop(landed c A.kc A.kb s hs q fk ws hw (semK A s hs) ∗ landed c A.vc A.vb s hs qv fv ws hw (semV A s hs))

def Issued (p : ℕ) : sProp 𝕄 := iprop(issued c A.kc A.kb s hs q fk ws hw (semK A s hs) p ∗ issued c A.vc A.vb s hs qv fv ws hw (semV A s hs) p)
def Waited (p : ℕ) : sProp 𝕄 := iprop(waited c A.kc A.kb s hs q fk ws hw (semK A s hs) p ∗ waited c A.vc A.vb s hs qv fv ws hw (semV A s hs) p ∗ owed c)

theorem enq_wp (p : ℕ) (hp : p < 8) (w : BitVec 32) (hw' : PageOk w) (e : w = ws ⟨p, hp⟩) :
    Issued c A s hs q qv fk fv ws hw p ⊢ Wp c (enq A s hs w hw' p hp) (fun _ => Issued c A s hs q qv fk fv ws hw (p + 1)) := by
  subst e
  unfold Issued enq
  iintro ⟨HK, HV⟩
  iapply (enq_one c A.kc A.kb s hs q fk ws hw (semK A s hs) p hp _ _ _) $$ HK; iintro HK
  iapply (enq_one c A.vc A.vb s hs qv fv ws hw (semV A s hs) p hp _ _ _ (k := pure)) $$ HV; iintro HV
  iapply (wp_pure c)
  isplitl [HK]; · iexact HK
  iexact HV

theorem wait_wp (p : ℕ) (hp : p < 8) (w : BitVec 32) (hw' : PageOk w) :
    Waited c A s hs q qv fk fv ws hw p ⊢ Wp c (wait A s hs w hw' p hp) (fun _ => Waited c A s hs q qv fk fv ws hw (p + 1)) := by
  unfold Waited wait
  iintro ⟨HK, HV, HO⟩
  iapply (wait_one c A.kc A.kb s hs q fk ws hw (semK A s hs) p hp) $$ [HK HO]
  · isplitl [HK]; · iexact HK
    iexact HO
  iintro ⟨HK, HO⟩
  iapply (wait_one c A.vc A.vb s hs qv fv ws hw (semV A s hs) p hp (k := pure)) $$ [HV HO]
  · isplitl [HV]; · iexact HV
    iexact HO
  iintro ⟨HV, HO⟩
  iapply (wp_pure c)
  isplitl [HK]; · iexact HK
  isplitl [HV]; · iexact HV
  iexact HO

/-- Starting a block. -/
theorem start_block {qp : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (hp : ∀ p hp, P (wordAt X (offW p) (hW p hp))) (he : ∀ p hp, wordAt X (offW p) (hW p hp) = ws ⟨p, hp⟩) :
    iprop(Own c A.pt qp X ∗ Free c A s hs q qv fk fv)
      ⊢ Wp c (block (F := F) A offW hW P dec hP (enq A s hs)) (fun _ => iprop(Own c A.pt qp X ∗ Flight c A s hs q qv fk fv ws hw)) := by
  unfold Free
  iintro ⟨H, HK, HV⟩
  imod (start_side c A.kc A.kb s hs q fk ws hw (semK A s hs)) $$ HK with ⟨HK, HKd⟩
  imod (start_side c A.vc A.vb s hs qv fv ws hw (semV A s hs)) $$ HV with ⟨HV, HVd⟩
  ihave H' := (block_wp c A (q := qp) (X := X) offW hW P dec hP (enq A s hs) hp (Issued c A s hs q qv fk fv ws hw)
    (fun p hp hw' => enq_wp c A s hs q qv fk fv ws hw p hp _ hw' (he p hp))) $$ [H HK HV]
  · isplitl [H]; · iexact H
    unfold Issued
    isplitl [HK]; · iexact HK
    iexact HV
  iapply (wp_wand_r _ _ _)
  isplitl [H']; · iexact H'
  iintro %_ ⟨H, HI⟩
  isplitl [H]; · iexact H
  unfold Issued Flight flightSide
  icases HI with ⟨HK, HV⟩
  isplitl [HK HKd]
  · isplitl [HK]; · iexact HK
    iexact HKd
  · isplitl [HV]; · iexact HV
    iexact HVd

/-- Waiting for a block. -/
theorem wait_block {qp : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (hp : ∀ p hp, P (wordAt X (offW p) (hW p hp))) :
    iprop(Own c A.pt qp X ∗ Flight c A s hs q qv fk fv ws hw ∗ owed c)
      ⊢ Wp c (block (F := F) A offW hW P dec hP (wait A s hs)) (fun _ => iprop(Own c A.pt qp X ∗ Landed c A s hs q qv fk fv ws hw ∗ owed c)) := by
  unfold Flight
  iintro ⟨H, ⟨HK, HV⟩, HO⟩
  ihave HK := (flight_waited c A.kc A.kb s hs q fk ws hw (semK A s hs)) $$ HK
  ihave HV := (flight_waited c A.vc A.vb s hs qv fv ws hw (semV A s hs)) $$ HV
  icases HK with ⟨HK, HKr⟩
  icases HV with ⟨HV, HVr⟩
  ihave H' := (block_wp c A (q := qp) (X := X) offW hW P dec hP (wait A s hs) hp (Waited c A s hs q qv fk fv ws hw)
    (fun p hp hw' => wait_wp c A s hs q qv fk fv ws hw p hp _ hw')) $$ [H HK HV HO]
  · isplitl [H]; · iexact H
    unfold Waited
    isplitl [HK]; · iexact HK
    isplitl [HV]; · iexact HV
    iexact HO
  iapply (wp_wand_r _ _ _)
  isplitl [H']; · iexact H'
  iintro %_ ⟨H, HI⟩
  isplitl [H]; · iexact H
  unfold Waited Landed
  icases HI with ⟨HK, HV, HO⟩
  isplitr [HO]; swap; · iexact HO
  isplitl [HK HKr]
  · iapply (waited_landed c A.kc A.kb s hs q fk ws hw (semK A s hs))
    isplitl [HK]; · iexact HK
    iexact HKr
  · iapply (waited_landed c A.vc A.vb s hs qv fv ws hw (semV A s hs))
    isplitl [HV]; · iexact HV
    iexact HVr

end Slot

end Cert.Kernel.Hand
-- ==== Proof.Kernel.Slot.lean ====
/-
  A slot of a buffer is the union of its eight pages: owned page by page, or as one. Attending over a slot.
-/
module

public import proofs.«01_k».proof.Proof.Kernel.Dma
public import Idealize.ShloMosaic.Lib.ValueIdxCore
public import Idealize.ShloMosaic.Lib.Pipeline.Value

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

variable (c : Dev nD) (B : Memref sig .tc .vmem S2x1024x128 .fp8e4m3) (s : BitVec 32) (hs : SlotOk s)

/-- Page `t` of the slot, as a rectangle of the buffer. -/
abbrev rP (t : Fin 8) : Rect S2x1024x128 := Rect.unit (s := S2x1024x128) (offB s t) S1x128x128.size (hs.hb t t.2)
/-- Its elements. -/
abbrev pgSet (t : Fin 8) : Finset (Idx (B.view.loc (c : Thread nD τ))) := (bPage B (offB s t) (hs.hb t t.2)).view.set
/-- The slot's elements. -/
abbrev slotSet : Finset (Idx (B.view.loc (c : Thread nD τ))) := Finset.univ.biUnion (pgSet c B s hs)

theorem pgSet_eq (t : Fin 8) : pgSet c B s hs t = (rP s hs t).set.map B.view.emb := by
  show (bPage B (offB s t) (hs.hb t t.2)).view.set = _
  rw [Memref.set_view_squeeze]; exact View.set_slice _ _

theorem pgSet_disj (t t' : Fin 8) (h : t ≠ t') : Disjoint (pgSet c B s hs t) (pgSet c B s hs t') := by
  rw [pgSet_eq, pgSet_eq, Finset.disjoint_map]
  refine Rect.unit_disjoint 1 ?_
  have : t.val ≠ t'.val := fun e => h (Fin.ext e)
  show 128 * t.val + 128 ≤ 128 * t'.val ∨ 128 * t'.val + 128 ≤ 128 * t.val
  omega

theorem slotSet_subset : slotSet c B s hs ⊆ B.view.set := by
  refine Finset.biUnion_subset.mpr fun t _ => ?_
  show (bPage B (offB s t) (hs.hb t t.2)).view.set ⊆ _
  rw [Memref.set_view_squeeze]; exact View.set_slice_subset _ _

theorem slotSet_disj (s' : BitVec 32) (hs' : SlotOk s') (h : s.toNat ≠ s'.toNat) : Disjoint (slotSet c B s hs) (slotSet c B s' hs') := by
  refine (Finset.disjoint_biUnion_left _ _ _).mpr fun t _ => (Finset.disjoint_biUnion_right _ _ _).mpr fun t' _ => ?_
  rw [pgSet_eq, pgSet_eq, Finset.disjoint_map]
  refine Rect.unit_disjoint 0 ?_
  show s.toNat + 1 ≤ s'.toNat ∨ s'.toNat + 1 ≤ s.toNat
  omega

/-- Row `r` of a slot lies in page `r / 128`, at row `r % 128`. -/
theorem slot_emb (h : ∀ a, (![s.toNat, 0, 0] : Fin 3 → ℕ) a + S1x1024x128.size a ≤ S2x1024x128.size a) (r : Fin 1024) (d : Fin 128) :
    (Rect.unit (s := S2x1024x128) ![s.toNat, 0, 0] S1x1024x128.size h).emb (ix3 (n0 := 1) 0 r d)
      = (rP s hs ⟨r.val / 128, by omega⟩).emb (ix3 (n0 := 1) 0 (⟨r.val % 128, Nat.mod_lt _ (by decide)⟩ : Fin 128) d) := by
  funext a
  refine Fin.ext ?_
  match a with
  | ⟨0, _⟩ => rfl
  | ⟨1, _⟩ => show 0 + 1 * r.val = 128 * (r.val / 128) + 1 * (r.val % 128); omega
  | ⟨2, _⟩ => rfl

theorem slot_load_subset (h : ∀ a, (![s.toNat, 0, 0] : Fin 3 → ℕ) a + S1x1024x128.size a ≤ S2x1024x128.size a) :
    (B.view.slice (Rect.unit (s := S2x1024x128) ![s.toNat, 0, 0] S1x1024x128.size h)).set ⊆ slotSet c B s hs := by
  rw [View.set_slice]
  intro x hx
  obtain ⟨y, hy, rfl⟩ := Finset.mem_map.mp hx
  obtain ⟨j, rfl⟩ := (Rect.unit (s := S2x1024x128) ![s.toNat, 0, 0] S1x1024x128.size h).exists_idx_of_mem hy
  rw [eq_ix3 (n0 := 1) (n1 := 1024) (n2 := 128) j]
  have e0 : j 0 = (0 : Fin 1) := Subsingleton.elim (α := Fin 1) _ _
  refine Finset.mem_biUnion.mpr ⟨⟨(j 1).val / 128, by have := (j 1).isLt; change (j 1).val < 1024 at this; omega⟩, Finset.mem_univ _, ?_⟩
  rw [pgSet_eq]
  refine Finset.mem_map_of_mem _ ?_
  rw [e0]
  have m := (rP s hs ⟨(j 1).val / 128, by have := (j 1).isLt; change (j 1).val < 1024 at this; omega⟩).idx_mem
    (ix3 (n0 := 1) 0 (⟨(j 1).val % 128, Nat.mod_lt _ (by decide)⟩ : Fin 128) (j 2 : Fin 128))
  exact Eq.mpr (congrArg (· ∈ _) (slot_emb s hs h (j 1) (j 2))) m

/-- What a slot holds, from its pages. -/
def slotX (X : Fin 8 → Vec F S128x128 .fp8e4m3) : Vec F S1x1024x128 .fp8e4m3 := fun j =>
  X ⟨(j 1).val / 128, by have := (j 1).isLt; change (j 1).val < 1024 at this; omega⟩ (ix2 (⟨(j 1).val % 128, Nat.mod_lt _ (by decide)⟩ : Fin 128) (j 2 : Fin 128))

theorem page_read (off : Fin 3 → ℕ) (h : ∀ a, off a + S1x128x128.size a ≤ S2x1024x128.size a) (g : B.view.ty.Contents (Elt F)) (r d : Fin 128) :
    (bPage B off h).view.read (Elt F) g (ix2 r d) = B.view.read (Elt F) g ((Rect.unit (s := S2x1024x128) off S1x128x128.size h).emb (ix3 (n0 := 1) 0 r d)) := by
  have e := congrFun (Memref.read_squeeze_slice (Val := Elt F) B (Rect.unit (s := S2x1024x128) off S1x128x128.size h) (fun _ => rfl) squeezes_S1x128x128_S128x128
    (show S1x128x128.ShapeCasts S128x128 by decide) g) (ix2 r d)
  rw [e, shapeCast_dropUnit_apply (n := 2) ![128, 128]]
  refine congrArg (fun j => B.view.read (Elt F) g ((Rect.unit (s := S2x1024x128) off S1x128x128.size h).emb j)) ?_
  funext a
  match a with
  | ⟨0, _⟩ => rfl
  | ⟨1, _⟩ => rfl
  | ⟨2, _⟩ => rfl

/-- The points-to of a slot. -/
abbrev PtS (g : Buf (Elt F) (B.view.loc (c : Thread nD τ))) : sProp 𝕄 := B.view.loc (c : Thread nD τ) ↦[slotSet c B s hs]{fullShare} g

theorem slot_split (g : Buf (Elt F) (B.view.loc (c : Thread nD τ))) : PtS c B s hs g ⊢ pages (F := F) c B s hs := by
  refine (Entails.of_eq (pointsTo_biUnion Finset.univ (pgSet c B s hs) fun t _ t' _ h => pgSet_disj c B s hs t t' h)).trans ?_
  unfold pages
  exact bigSep_mono fun t _ => exists_intro (Φ := fun g => Pt c (bPage B (offB s t) (hs.hb t t.2)) fullShare g) g

theorem slot_join (X : Fin 8 → Vec F S128x128 .fp8e4m3) (h : ∀ a, (![s.toNat, 0, 0] : Fin 3 → ℕ) a + S1x1024x128.size a ≤ S2x1024x128.size a) :
    (bigSep Finset.univ fun t : Fin 8 => Own c (bPage B (offB s t) (hs.hb t t.2)) fullShare (X t))
      ⊢ iprop(∃ g, ⌜(fun j => B.view.read (Elt F) g ((Rect.unit (s := S2x1024x128) ![s.toNat, 0, 0] S1x1024x128.size h).emb j)) = slotX X⌝ ∗ PtS c B s hs g) := by
  let canon : Fin 8 → Buf (Elt F) (B.view.loc (c : Thread nD τ)) → Buf (Elt F) (B.view.loc (c : Thread nD τ)) := fun t z =>
    (bPage B (offB s t) (hs.hb t t.2)).view.write (Elt F) z (X t) Finset.univ
  have h1 : ∀ t : Fin 8, Own c (bPage B (offB s t) (hs.hb t t.2)) fullShare (X t)
      ⊢ (iprop(∃ z, B.view.loc (c : Thread nD τ) ↦[pgSet c B s hs t]{fullShare} (canon t z)) : sProp 𝕄) := fun t => by
    unfold Own owns
    iintro ⟨%f, %hf, H⟩
    iexists f
    have e : (B.view.loc (c : Thread nD τ) ↦[pgSet c B s hs t]{fullShare} f : sProp 𝕄) = (B.view.loc (c : Thread nD τ) ↦[pgSet c B s hs t]{fullShare} (canon t f)) := by
      refine pointsTo_congr fun i hi => ?_
      obtain ⟨j, rfl⟩ := View.exists_emb_of_mem_set _ hi
      have h2 : (bPage B (offB s t) (hs.hb t t.2)).view.read (Elt F) f j = (bPage B (offB s t) (hs.hb t t.2)).view.read (Elt F) (canon t f) j := by
        rw [hf]; exact (congrFun (View.read_write_univ (v := (bPage B (offB s t) (hs.hb t t.2)).view) f (X t)) j).symm
      rw [View.read_apply, View.read_apply] at h2
      exact (cast_inj _).mp h2
    iapply (Entails.of_eq e)
    iexact H
  refine (bigSep_mono fun t _ => h1 t).trans ((bigSep_exists_pi Finset.univ _).trans ?_)
  iintro ⟨%ys, H⟩
  ihave H := (pointsTo_biUnion_join Finset.univ (pgSet c B s hs) (fun t => canon t (ys t)) (ys 0) fun t _ t' _ h => pgSet_disj c B s hs t t' h) $$ H
  icases H with ⟨%g, %hg, H⟩
  iexists g
  isplitr; swap; · iexact H
  ipureintro
  have hr : ∀ t : Fin 8, (bPage B (offB s t) (hs.hb t t.2)).view.read (Elt F) g = X t := fun t => by
    rw [← View.read_write_univ (v := (bPage B (offB s t) (hs.hb t t.2)).view) (Val := Elt F) (ys t) (X t)]
    funext j
    rw [View.read_apply, View.read_apply, hg t (Finset.mem_univ _) _ (View.emb_mem_set _ j)]
  funext j
  rw [eq_ix3 (n0 := 1) (n1 := 1024) (n2 := 128) j]
  have e0 : j 0 = (0 : Fin 1) := Subsingleton.elim (α := Fin 1) _ _
  rw [e0]
  have e1 := slot_emb s hs h (j 1) (j 2)
  erw [e1]
  refine (page_read B _ _ g _ _).symm.trans ?_
  rw [hr]
  rfl

theorem pages_join : pages (F := F) c B s hs ⊢ iprop(∃ g, PtS c B s hs g) := by
  unfold pages
  refine (bigSep_exists_pi Finset.univ _).trans ?_
  iintro ⟨%ys, H⟩
  ihave H := (pointsTo_biUnion_join Finset.univ (pgSet c B s hs) ys (ys 0) fun t _ t' _ h => pgSet_disj c B s hs t t' h) $$ H
  icases H with ⟨%g, -, H⟩
  iexists g
  iexact H

/-! ## Attending over a slot -/

/-- The keys of a slot, rows of the pool times the scale. -/
def keys (X : Vec F S1x1024x128 .fp8e4m3) (r : FVec F S1x128 .bf16) : FVec F S1024x128 .bf16 :=
  mulf (extf .bf16 (shapeCast S1024x128 X shapeCasts_S1x1024x128_S1024x128) bitsLt_fp8e4m3_bf16) (broadcastTo S1024x128 r broadcasts_S1x128_S1024x128)

/-- The state after a slot. -/
def attS (mask : FVec F S1024x256 .f32 → FVec F S1024x256 .f32) (ks vs : FVec F S1x128 .bf16) (K V : Vec F S1x1024x128 .fp8e4m3) (qX : Vec F S128x2048 .bf16) : St F → St F :=
  rowS (N := 8) (tileS mask (keys K ks) (transpose S128x1024 [1, 0] (keys V vs) transposes_S1024x128_p1_0_S128x1024) qX) 8

variable {B}

theorem wp_ldS {g : Buf (Elt F) (B.view.loc (c : Thread nD τ))} {X : S1x1024x128.Idx → Elt F .fp8e4m3} (h : ∀ a, (![s.toNat, 0, 0] : Fin 3 → ℕ) a + S1x1024x128.size a ≤ S2x1024x128.size a)
    (hX : (fun j => B.view.read (Elt F) g ((Rect.unit (s := S2x1024x128) ![s.toNat, 0, 0] S1x1024x128.size h).emb j)) = X)
    {hl : B.view.LoadsAt (Rect.unit (s := S2x1024x128) ![s.toNat, 0, 0] S1x1024x128.size h).toLoadRect} {β : Type} {k : (S1x1024x128.Idx → Elt F .fp8e4m3) → Pg β} {Q : β → sProp 𝕄} :
    PtS c B s hs g ⊢ iprop((PtS c B s hs g -∗ Wp c (k X) Q)
      -∗ Wp c (Prog.lift (.load B (Rect.unit (s := S2x1024x128) ![s.toNat, 0, 0] S1x1024x128.size h).toLoadRect hl) >>= k) Q) := by
  subst hX
  iintro H Hk
  iapply (wp_load_rect (m := B) (r := Rect.unit (s := S2x1024x128) ![s.toNat, 0, 0] S1x1024x128.size h) (hl := hl) (k := k) (Q := Q) (defs := defs₀ (F := F))
    (S := slotSet c B s hs) (q := fullShare) (f := g) Variants.none (c : Thread nD τ) none Set.univ (slot_load_subset c B s hs h)) $$ H
  iintro H
  iapply Hk
  iexact H

variable (A : Args)

/-- The eight pages a block's words name, of a pool. -/
abbrev pool (C : Memref sig .tc .hbm S8192x128x128 .fp8e4m3) (f : Buf (Elt F) (C.view.loc (c : Thread nD τ))) (ws : Fin 8 → BitVec 32) (hw : ∀ t, PageOk (ws t)) :
    Vec F S1x1024x128 .fp8e4m3 :=
  slotX fun t => (cPage C (offC (ws t)) (hw t).hc).view.read (Elt F) f

theorem attend_wp (mask : FVec F S1024x256 .f32 → FVec F S1024x256 .f32) (ks vs : FVec F S1x128 .bf16) (off : Fin 3 → ℕ)
    (h : ∀ a, off a + S1x1024x128.size a ≤ S2x1024x128.size a) (e : off = ![s.toNat, 0, 0])
    (q qv : PosShare TreeShare) (fk : Buf (Elt F) (A.kc.view.loc (c : Thread nD τ))) (fv : Buf (Elt F) (A.vc.view.loc (c : Thread nD τ)))
    (ws : Fin 8 → BitVec 32) (hw : ∀ t, PageOk (ws t)) (qX : Vec F S128x2048 .bf16) (st : St F) :
    iprop(Acc c A qX st ∗ Landed c A s hs q qv fk fv ws hw)
      ⊢ Wp c (attend A mask ks vs off h) (fun _ => iprop(Acc c A qX (attS mask ks vs (pool c A.kc fk ws hw) (pool c A.vc fv ws hw) qX st) ∗ Free c A s hs q qv fk fv)) := by
  subst e
  unfold Landed landed attend
  iintro ⟨HA, ⟨HK, HKv, HKc⟩, ⟨HV, HVv, HVc⟩⟩
  ihave HK := (slot_join c A.kb s hs _ h) $$ HK
  icases HK with ⟨%g, %hg, HK⟩
  ihave HV := (slot_join c A.vb s hs _ h) $$ HV
  icases HV with ⟨%g', %hg', HV⟩
  iapply (wp_ldS c s hs h hg) $$ HK; iintro HK
  iapply (wp_ldS c s hs h hg') $$ HV; iintro HV
  ihave H := (rowS_wp c 8 _ _ (Acc c A qX) (fun t ht st => tile_wp c A mask (keys (pool c A.kc fk ws hw) ks)
    (transpose S128x1024 [1, 0] (keys (pool c A.vc fv ws hw) vs) transposes_S1024x128_p1_0_S128x1024) qX t ht st) st) $$ HA
  iapply (wp_wand_r _ _ _)
  isplitl [H]; · iexact H
  iintro %_ HA
  isplitl [HA]; · iexact HA
  unfold Free freeSide
  ihave HK := (slot_split c A.kb s hs g) $$ HK
  ihave HV := (slot_split c A.vb s hs g') $$ HV
  isplitl [HK HKv HKc]
  · isplitl [HKv]; · iexact HKv
    isplitl [HK]; · iexact HK
    iexact HKc
  · isplitl [HVv]; · iexact HVv
    isplitl [HV]; · iexact HV
    iexact HVc

end Cert.Kernel.Hand
-- ==== Proof.Kernel.Words.lean ====
/-
  The body's index words in closed form, when the sequence is no longer than its page table: whole blocks, remainder,
  slots, offsets, conditions, and the body's side condition on the length.
-/
module

public import proofs.«01_k».proof.Proof.Kernel.Body
public import Idealize.ShloMosaic.Lib.Affine

@[expose] public section

set_option synthInstance.maxSize 4096

noncomputable section

namespace Cert.Kernel.Hand

open Cert.Kernel
open Idealize.ShloMosaic Idealize.SL.Sem
open Idealize.ShloMosaic.Affine (IsInt)
open Facts₀ Facts

/-! ## Words read as integers -/

theorem isInt_toInt {x : BitVec 32} {e : Int} (h : IsInt x e) : x.toInt = e := by unfold IsInt at h; exact h
theorem isInt_of {x : BitVec 32} {e : Int} (h : x.toInt = e) : IsInt x e := by unfold IsInt; exact h
theorem isInt_toNat {x : BitVec 32} {n : Nat} (h : IsInt x n) : x.toNat = n := by
  have h := isInt_toInt h
  rw [BitVec.toInt_eq_toNat_cond] at h
  have := x.isLt
  split at h <;> omega
theorem isInt_ofNat {x : BitVec 32} (h : x.toNat < 2 ^ 31) : IsInt x x.toNat :=
  isInt_of (by rw [BitVec.toInt_eq_toNat_cond]; split <;> omega)
theorem lit (n : Nat) (h : n < 2 ^ 31) : IsInt (BitVec.ofNat 32 n) n := Affine.ofNat n ⟨rfl, h⟩

theorem sign_pos {x : BitVec 32} {e : Int} (hx : IsInt x e) (h : 0 < e) :
    IsInt (Scalar.subi (Scalar.extui (Scalar.cmpi .sgt x 0#32)) (Scalar.extui (Scalar.cmpi .slt x 0#32))) 1 :=
  Affine.subi (Affine.extui_holds (Affine.sgt_holds hx (lit 0 (by decide)) (by simpa using h)) (e := 1) rfl)
    (Affine.extui_fails (Affine.slt_fails hx (lit 0 (by decide)) (by simp; omega)) (e := 0) rfl) (by omega)

variable {v1 : BitVec 32}

/-! ## Blocks -/

theorem nF_int (h : v1.toNat ≤ 131072) : IsInt (nF v1) (v1.toNat / 1024 : Nat) := by
  have hv : IsInt v1 v1.toNat := isInt_ofNat (by omega)
  have h1024 : IsInt 1024#32 (1024 : Nat) := lit 1024 (by decide)
  have h0 : IsInt 0#32 (0 : Nat) := lit 0 (by decide)
  have hr : IsInt (Scalar.remsi v1 1024#32) (v1.toNat % 1024 : Nat) := Affine.remsi hv h1024 ⟨by push_cast; rfl, by omega, by decide⟩
  have hd : IsInt (Scalar.divsi v1 1024#32) (v1.toNat / 1024 : Nat) := Affine.divsi hv h1024 ⟨by push_cast; rfl, by omega, by decide⟩
  have hs := sign_pos h1024 (by decide)
  unfold nF
  refine Affine.select_fails ?_ (Affine.subi hd (lit 1 (by decide)) ⟨rfl, by omega, by omega⟩) hd rfl
  rcases Nat.eq_zero_or_pos v1.toNat with hz | hp
  · exact Affine.andi_fails_right (Affine.cmpi_term _ (isInt_of rfl) hs) (Affine.ne_fails hr h0 (by rw [hz]))
  · exact Affine.andi_fails_left (Affine.ne_fails (sign_pos hv (by omega)) hs rfl) trivial

theorem rem_int (h : v1.toNat ≤ 131072) : IsInt (rem v1) (v1.toNat % 1024 : Nat) :=
  Affine.subi (isInt_ofNat (by omega)) (Affine.muli (nF_int h) (lit 1024 (by decide)) ⟨rfl, by omega, by omega⟩) (by omega)

theorem rem_pos (h : v1.toNat ≤ 131072) (hr : 0 < v1.toNat % 1024) : Scalar.cmpi .sgt (rem v1) 0#32 = 1#1 :=
  Affine.sgt_holds (rem_int h) (lit 0 (by decide)) (by omega)
theorem rem_npos (h : v1.toNat ≤ 131072) (hr : v1.toNat % 1024 = 0) : ¬Scalar.cmpi .sgt (rem v1) 0#32 = 1#1 :=
  Affine.sgt_fails (rem_int h) (lit 0 (by decide)) (by omega)

/-- The blocks of a sequence of `n` keys, the partial one counted. -/
def blocks (n : Nat) : Nat := n / 1024 + if 0 < n % 1024 then 1 else 0

theorem nB_int (h : v1.toNat ≤ 131072) : IsInt (nB v1) (blocks v1.toNat : Nat) := by
  unfold nB blocks
  by_cases hr : 0 < v1.toNat % 1024
  · rw [if_pos hr]
    exact Affine.addi (nF_int h) (Affine.extui_holds (rem_pos h hr) (e := 1) rfl) (by push_cast; omega)
  · rw [if_neg hr]
    exact Affine.addi (nF_int h) (Affine.extui_fails (rem_npos h (by omega)) (e := 0) rfl) (by push_cast; omega)

/-- A condition widened and compared with zero is the condition. -/
theorem guard_iff (c : BitVec 1) : Scalar.cmpi .ne (Scalar.extui c : BitVec 32) 0#32 = 1#1 ↔ c = 1#1 := by
  rcases BitVec.eq_zero_or_eq_one c with rfl | rfl <;> decide

theorem cond1_iff (h : v1.toNat ≤ 131072) : k0_cond1 v1 = 1#1 ↔ 0 < blocks v1.toNat := by
  refine (guard_iff (Scalar.cmpi .sgt (nB v1) 0#32)).trans ?_
  constructor
  · intro hc
    by_contra hn
    exact Affine.sgt_fails (nB_int h) (lit 0 (by decide)) (by omega) hc
  · intro hp
    exact Affine.sgt_holds (nB_int h) (lit 0 (by decide)) (by omega)

theorem cond4_iff (h : v1.toNat ≤ 131072) : k0_cond4 v1 = 1#1 ↔ 0 < v1.toNat % 1024 := by
  refine (guard_iff (Scalar.cmpi .sgt (rem v1) 0#32)).trans ?_
  constructor
  · intro hc
    by_contra hn
    exact rem_npos h (by omega) hc
  · exact rem_pos h

/-! ## The loops -/

theorem ub_int (h : v1.toNat ≤ 131072) : IsInt (k0_t1_loop v1).ub (v1.toNat / 1024 : Nat) :=
  Affine.addi (lit 0 (by decide))
    (Affine.muli
      (Affine.divsi_one (Affine.subi (nF_int h) (lit 0 (by decide)) (e := (v1.toNat / 1024 : Nat)) (by push_cast; omega))
        (lit 1 (by decide)) ⟨rfl, by rfl⟩)
      (lit 1 (by decide)) (e := (v1.toNat / 1024 : Nat)) (by push_cast; omega))
    (by push_cast; omega)

theorem ub2_int (h : v1.toNat ≤ 131072) : IsInt (k0_t2_loop v1).ub (v1.toNat / 1024 : Nat) :=
  Affine.addi (lit 0 (by decide)) (Affine.subi (nF_int h) (lit 0 (by decide)) (e := (v1.toNat / 1024 : Nat)) (by push_cast; omega))
    (by push_cast; omega)

theorem trips1 (h : v1.toNat ≤ 131072) : (k0_t1_loop v1).trips = v1.toNat / 1024 := by
  have hu := isInt_toInt (ub_int h)
  show ((((k0_t1_loop v1).ub).toInt - (0#32).toInt + (1#32).toInt - 1) / (1#32).toInt).toNat = _
  rw [hu, show (0#32 : BitVec 32).toInt = 0 from by decide, show (1#32 : BitVec 32).toInt = 1 from by decide]
  omega

theorem trips2 (h : v1.toNat ≤ 131072) : (k0_t2_loop v1).trips = 0 := by
  have hl : ((k0_t2_loop v1).lb).toInt = _ := isInt_toInt (ub_int h)
  have hu := isInt_toInt (ub2_int h)
  show ((((k0_t2_loop v1).ub).toInt - ((k0_t2_loop v1).lb).toInt + (1#32).toInt - 1) / (1#32).toInt).toNat = _
  rw [hu, hl, show (1#32 : BitVec 32).toInt = 1 from by decide]
  omega

theorem ok1 (h : v1.toNat ≤ 131072) : (k0_t1_loop v1).OK := by
  refine ⟨show 0 < (1#32 : BitVec 32).toInt by decide, ?_⟩
  show (0#32 : BitVec 32).toInt + ((k0_t1_loop v1).trips : Int) * (1#32 : BitVec 32).toInt < 2 ^ 31
  rw [trips1 h, show (0#32 : BitVec 32).toInt = 0 from by decide, show (1#32 : BitVec 32).toInt = 1 from by decide]
  omega

theorem ok2 (h : v1.toNat ≤ 131072) : (k0_t2_loop v1).OK := by
  refine ⟨show 0 < (1#32 : BitVec 32).toInt by decide, ?_⟩
  have hl : ((k0_t2_loop v1).lb).toInt = _ := isInt_toInt (ub_int h)
  show ((k0_t2_loop v1).lb).toInt + ((k0_t2_loop v1).trips : Int) * (1#32 : BitVec 32).toInt < 2 ^ 31
  rw [trips2 h, hl]
  push_cast; omega

theorem iv_int (h : v1.toNat ≤ 131072) (k : Fin (k0_t1_loop v1).trips) : IsInt (Scf.iv 0#32 1#32 k) (k.val : Nat) := by
  have := k.isLt
  have ht := trips1 h
  exact Affine.iv (lit 0 (by decide)) (lit 1 (by decide)) k.val (by push_cast; omega)

theorem word_eq {x : BitVec 32} {n : Nat} (h : IsInt x n) (hn : n < 2 ^ 31) : x = BitVec.ofNat 32 n :=
  BitVec.eq_of_toNat_eq (by rw [isInt_toNat h, BitVec.toNat_ofNat]; omega)

theorem slotW_int (h : v1.toNat ≤ 131072) (k : Fin (k0_t1_loop v1).trips) : IsInt (slotW k) (k.val % 2 : Nat) :=
  Affine.remsi (iv_int h k) (lit 2 (by decide)) ⟨by push_cast; rfl, by omega, by decide⟩
theorem slotW'_int (h : v1.toNat ≤ 131072) (k : Fin (k0_t1_loop v1).trips) : IsInt (slotW' k) ((k.val + 1) % 2 : Nat) :=
  Affine.subi (lit 1 (by decide)) (slotW_int h k) (by push_cast; omega)
theorem slotT_int (h : v1.toNat ≤ 131072) : IsInt (slotT v1) (v1.toNat / 1024 % 2 : Nat) :=
  Affine.remsi (nF_int h) (lit 2 (by decide)) ⟨by push_cast; rfl, by omega, by decide⟩

/-- The slot of block `b`. -/
def slot (b : Nat) : BitVec 32 := BitVec.ofNat 32 (b % 2)

theorem slot_lt (b : Nat) : (slot b).toNat < 2 := by
  unfold slot; rw [BitVec.toNat_ofNat]; omega
theorem slotOf (b : Nat) : SlotOk (slot b) := slotOk (slot_lt b)

theorem slotW_eq (h : v1.toNat ≤ 131072) (k : Fin (k0_t1_loop v1).trips) : slotW k = slot k.val :=
  word_eq (slotW_int h k) (by omega)
theorem slotW'_eq (h : v1.toNat ≤ 131072) (k : Fin (k0_t1_loop v1).trips) : slotW' k = slot (k.val + 1) :=
  word_eq (slotW'_int h k) (by omega)
theorem slotT_eq (h : v1.toNat ≤ 131072) : slotT v1 = slot (v1.toNat / 1024) :=
  word_eq (slotT_int h) (by omega)

theorem cond2_iff (h : v1.toNat ≤ 131072) (k : Fin (k0_t1_loop v1).trips) :
    k0_cond2 v1 k = 1#1 ↔ k.val + 1 < blocks v1.toNat := by
  have hk := k.isLt
  have ht := trips1 h
  have hi : IsInt (Scalar.addi (Scf.iv 0#32 1#32 k) 1#32) (k.val + 1 : Nat) :=
    Affine.addi (iv_int h k) (lit 1 (by decide)) (by push_cast; omega)
  refine (guard_iff (Scalar.cmpi .slt (Scalar.addi (Scf.iv 0#32 1#32 k) 1#32) (nB v1))).trans ?_
  constructor
  · intro hc
    by_contra hn
    exact Affine.slt_fails hi (nB_int h) (by omega) hc
  · intro hp
    exact Affine.slt_holds hi (nB_int h) (by omega)

theorem blocks_le (h : v1.toNat ≤ 131072) : blocks v1.toNat ≤ 128 := by
  unfold blocks; split <;> omega

/-! ## Offsets of the page table's words -/

theorem row_toNat (i : grid0.Coords) : (BitVec.ofNat 32 (i 0).val).toNat = (i 0).val := by
  have : (i 0).val < 8 := (i 0).isLt
  rw [BitVec.toNat_ofNat]; omega

theorem off18_eq (h : v1.toNat ≤ 131072) (i : grid0.Coords) (k : Fin (k0_t1_loop v1).trips) (p : Nat) (hp : p < 8) :
    k0_off18 i v1 k (BitVec.ofNat 32 p) = ![(i 0).val, 8 * (k.val + 1) + p] := by
  have hk := k.isLt
  have ht := trips1 h
  have hi : IsInt (Scalar.addi (Scalar.muli (Scalar.addi (Scf.iv 0#32 1#32 k) 1#32) 8#32) (BitVec.ofNat 32 p)) (8 * (k.val + 1) + p : Nat) :=
    Affine.addi (Affine.muli (Affine.addi (iv_int h k) (lit 1 (by decide)) (e := (k.val + 1 : Nat)) (by push_cast; omega)) (lit 8 (by decide))
      (e := (8 * (k.val + 1) : Nat)) (by push_cast; omega)) (lit p (by omega)) (by push_cast; omega)
  show ![(BitVec.ofNat 32 (i 0).val).toNat, BitVec.toNat _] = _
  rw [row_toNat, show Scalar.indexCast (Scalar.addi (Scalar.muli (Scalar.addi (Scf.iv 0#32 1#32 k) 1#32) 8#32) (BitVec.ofNat 32 p)) = _ from rfl]
  exact congrArg (fun n => ![(i 0).val, n]) (isInt_toNat hi)

theorem off59_eq (h : v1.toNat ≤ 131072) (i : grid0.Coords) (k : Fin (k0_t1_loop v1).trips) (p : Nat) (hp : p < 8) :
    k0_off59 i v1 k (BitVec.ofNat 32 p) = ![(i 0).val, 8 * k.val + p] := by
  have hk := k.isLt
  have ht := trips1 h
  have hi : IsInt (Scalar.addi (Scalar.muli (Scf.iv 0#32 1#32 k) 8#32) (BitVec.ofNat 32 p)) (8 * k.val + p : Nat) :=
    Affine.addi (Affine.muli (iv_int h k) (lit 8 (by decide))
      (e := (8 * k.val : Nat)) (by push_cast; omega)) (lit p (by omega)) (by push_cast; omega)
  show ![(BitVec.ofNat 32 (i 0).val).toNat, BitVec.toNat _] = _
  rw [row_toNat]
  exact congrArg (fun n => ![(i 0).val, n]) (isInt_toNat hi)

theorem off184_eq (h : v1.toNat ≤ 131072) (i : grid0.Coords) (p : Nat) (hp : p < 8) :
    k0_off184 i v1 (BitVec.ofNat 32 p) = ![(i 0).val, 8 * (v1.toNat / 1024) + p] := by
  have hi : IsInt (Scalar.addi (Scalar.muli (nF v1) 8#32) (BitVec.ofNat 32 p)) (8 * (v1.toNat / 1024) + p : Nat) :=
    Affine.addi (Affine.muli (nF_int h) (lit 8 (by decide))
      (e := (8 * (v1.toNat / 1024) : Nat)) (by push_cast; omega)) (lit p (by omega)) (by push_cast; omega)
  show ![(BitVec.ofNat 32 (i 0).val).toNat, BitVec.toNat _] = _
  rw [row_toNat]
  exact congrArg (fun n => ![(i 0).val, n]) (isInt_toNat hi)

theorem off100_eq (h : v1.toNat ≤ 131072) (k : Fin (k0_t1_loop v1).trips) : k0_off100 v1 k = ![(slot k.val).toNat, 0, 0] := by
  rw [← slotW_eq h k]; rfl
theorem off225_eq (h : v1.toNat ≤ 131072) : k0_off225 v1 = ![(slot (v1.toNat / 1024)).toNat, 0, 0] := by
  rw [← slotT_eq h]; rfl

/-! ## The body's side condition on the length -/

/-- A first row of a page within its slot. -/
def Row (n : Nat) : Prop := n % 4 = 0 ∧ n ≤ 896
theorem Row.of {n : Nat} (m : Nat) (hm : m % 4 = 0 ∧ m ≤ 896) (h : n = m) : Row n := h ▸ hm
theorem bit0 {n : Nat} (h : n = 0) : n < 2 := by omega
theorem bit1 {n : Nat} (h : n = 1) : n < 2 := by omega

theorem inS (off : Fin 2 → Nat) (h0 : off 0 < 2) (h1 : off 1 < 2) : ∀ a, off a + S1x1.size a ≤ S2x2.size a := by
  intro a; fin_cases a
  · show off 0 + 1 ≤ 2; omega
  · show off 1 + 1 ≤ 2; omega
theorem inT (off : Fin 2 → Nat) (h0 : off 0 < 8) (h1 : off 1 < 1024) : ∀ a, off a + S1x1.size a ≤ S8x1024.size a := by
  intro a; fin_cases a
  · show off 0 + 1 ≤ 8; omega
  · show off 1 + 1 ≤ 1024; omega
theorem inB (off : Fin 3 → Nat) (h0 : off 0 < 2) (h1 : Row (off 1)) (h2 : off 2 = 0) :
    ∀ a, off a + S1x128x128.size a ≤ S2x1024x128.size a := by
  intro a; fin_cases a
  · show off 0 + 1 ≤ 2; omega
  · show off 1 + 128 ≤ 1024; have := h1.2; omega
  · show off 2 + 128 ≤ 128; omega
theorem inA (off : Fin 3 → Nat) (h0 : off 0 < 2) (h1 : off 1 = 0) (h2 : off 2 = 0) :
    ∀ a, off a + S1x1024x128.size a ≤ S2x1024x128.size a := by
  intro a; fin_cases a
  · show off 0 + 1 ≤ 2; omega
  · show off 1 + 1024 ≤ 1024; omega
  · show off 2 + 128 ≤ 128; omega
theorem wwB (off : Fin 3 → Nat) (h1 : Row (off 1)) (hinb : ∀ a, off a + S1x128x128.size a ≤ S2x1024x128.size a) :
    (Rect.unit (s := S2x1024x128) off S1x128x128.size hinb).WholeWords (EltTy.packing .fp8e4m3) := by
  have h2 : 2 ≤ S2x1024x128.rank := by decide
  exact .inl (.inr ⟨h2, rfl, .inl ⟨(show 4 ∣ off 1 from Nat.dvd_of_mod_eq_zero h1.1), (show 4 ∣ 128 by decide)⟩⟩)

set_option maxHeartbeats 4000000 in
theorem chk9_of (h : v1.toNat ≤ 131072) (i : grid0.Coords) : k0_chk9 i v1 := by
  have hW : ∀ k : Fin (k0_t1_loop v1).trips, (slotW k).toNat < 2 := fun k => by rw [slotW_eq h]; exact slot_lt _
  have hW' : ∀ k : Fin (k0_t1_loop v1).trips, (slotW' k).toNat < 2 := fun k => by rw [slotW'_eq h]; exact slot_lt _
  have hT : (slotT v1).toNat < 2 := by rw [slotT_eq h]; exact slot_lt _
  have none : Fin (k0_t2_loop v1).trips → False := fun k => by have := k.isLt; have := trips2 h; omega
  have hok1 := ok1 h
  have hok2 := ok2 h
  have hb := blocks_le h
  have h18 : ∀ k : Fin (k0_t1_loop v1).trips, ∀ (h2 : k0_cond2 v1 k = 1#1), ∀ (r : Fin 8), ∀ a,
      (k0_off18 i v1 k (BitVec.ofNat 32 r.val)) a + S1x1.size a ≤ S8x1024.size a := fun k h2 r => by
    have hi : (i 0).val < 8 := (i 0).isLt
    have := (cond2_iff h k).1 h2
    rw [off18_eq h i k r.val r.isLt]
    exact inT _ hi (show 8 * (k.val + 1) + r.val < 1024 by omega)
  have h59 : ∀ k : Fin (k0_t1_loop v1).trips, ∀ (r : Fin 8), ∀ a,
      (k0_off59 i v1 k (BitVec.ofNat 32 r.val)) a + S1x1.size a ≤ S8x1024.size a := fun k r => by
    have hi : (i 0).val < 8 := (i 0).isLt
    have hk := k.isLt
    have ht := trips1 h
    rw [off59_eq h i k r.val r.isLt]
    exact inT _ hi (show 8 * k.val + r.val < 1024 by omega)
  have h184 : k0_cond4 v1 = 1#1 → ∀ (r : Fin 8), ∀ a,
      (k0_off184 i v1 (BitVec.ofNat 32 r.val)) a + S1x1.size a ≤ S8x1024.size a := fun h4 r => by
    have hi : (i 0).val < 8 := (i 0).isLt
    have := (cond4_iff h).1 h4
    rw [off184_eq h i r.val r.isLt]
    exact inT _ hi (show 8 * (v1.toNat / 1024) + r.val < 1024 by omega)
  refine ⟨?_, ?_, ?_, ?_, ?_, ?_, ?_, ?_⟩
  all_goals first | unfold k0_chk9_0 | unfold k0_chk9_1 | unfold k0_chk9_2 | unfold k0_chk9_3 | unfold k0_chk9_4 | unfold k0_chk9_5 | unfold k0_chk9_6 | unfold k0_chk9_7
  all_goals repeat' first
    | with_reducible exact hok1
    | with_reducible exact hok2
    | with_reducible exact h18
    | with_reducible exact h59
    | with_reducible exact h184
    | with_reducible exact fun k => (none k).elim
    | (with_reducible refine And.intro ?_ ?_)
    | ((with_reducible refine fun (k : Fin (k0_t1_loop v1).trips) (_ : k0_cond2 v1 k = 1#1) => inS _ ?_ ?_); exact hW' k)
    | ((with_reducible refine fun (k : Fin (k0_t1_loop v1).trips) (_ : k0_cond2 v1 k = 1#1) => inB _ ?_ ?_ ?_); exact hW' k)
    | (with_reducible refine fun (k : Fin (k0_t1_loop v1).trips) (_ : k0_cond2 v1 k = 1#1) => wwB _ ?_)
    | ((with_reducible refine fun (k : Fin (k0_t1_loop v1).trips) => inS _ ?_ ?_); exact hW k)
    | ((with_reducible refine fun (k : Fin (k0_t1_loop v1).trips) => inB _ ?_ ?_ ?_); exact hW k)
    | ((with_reducible refine fun (k : Fin (k0_t1_loop v1).trips) => inA _ ?_ ?_ ?_); exact hW k)
    | (with_reducible refine fun (k : Fin (k0_t1_loop v1).trips) => wwB _ ?_)
    | ((with_reducible refine fun (_ : k0_cond4 v1 = 1#1) => inS _ ?_ ?_); exact hT)
    | ((with_reducible refine fun (_ : k0_cond4 v1 = 1#1) => inB _ ?_ ?_ ?_); exact hT)
    | ((with_reducible refine fun (_ : k0_cond4 v1 = 1#1) => inA _ ?_ ?_ ?_); exact hT)
    | (with_reducible refine fun (_ : k0_cond4 v1 = 1#1) => wwB _ ?_)
    | ((with_reducible refine Row.of 0 (by decide) ?_); rfl)
    | ((with_reducible refine Row.of 128 (by decide) ?_); rfl)
    | ((with_reducible refine Row.of 256 (by decide) ?_); rfl)
    | ((with_reducible refine Row.of 384 (by decide) ?_); rfl)
    | ((with_reducible refine Row.of 512 (by decide) ?_); rfl)
    | ((with_reducible refine Row.of 640 (by decide) ?_); rfl)
    | ((with_reducible refine Row.of 768 (by decide) ?_); rfl)
    | ((with_reducible refine Row.of 896 (by decide) ?_); rfl)
    | ((with_reducible refine bit0 ?_); rfl)
    | ((with_reducible refine bit1 ?_); rfl)
    | rfl

end Cert.Kernel.Hand
-- ==== Proof.Kernel.Loop.lean ====
/-
  The loop over whole blocks: while one slot is read, the next block is on its way into the other.
-/
module

public import proofs.«01_k».proof.Proof.Kernel.Slot
public import proofs.«01_k».proof.Proof.Kernel.Words

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

/-! ## The words of a block -/

/-- The page-table words of block `b` of row `i`. -/
def pgW (X : Vec F S8x1024 .i32) (i : grid0.Coords) (b : ℕ) : Fin 8 → BitVec 32 := fun p =>
  X (ix2 (n0 := 8) (n1 := 1024) ⟨(i 0).val, (i 0).isLt⟩ ⟨(8 * b + p.val) % 1024, Nat.mod_lt _ (by decide)⟩)

theorem wordAt_eq (X : Vec F S8x1024 .i32) (i : grid0.Coords) (b : ℕ) (p : ℕ) (hp : p < 8) (hb : b < 128) (off : Fin 2 → ℕ)
    (h : ∀ a, off a + S1x1.size a ≤ S8x1024.size a) (e : off = ![(i 0).val, 8 * b + p]) : wordAt X off h = pgW X i b ⟨p, hp⟩ := by
  subst e
  refine congrArg X ?_
  funext a
  refine Fin.ext ?_
  match a with
  | ⟨0, _⟩ => rfl
  | ⟨1, _⟩ => show 8 * b + p + 1 * 0 = (8 * b + p) % 1024; omega

/-! ## Slots by word -/

variable (c : Dev nD) (A : Args) (X : Vec F S8x1024 .i32) (i : grid0.Coords) (qs : BitVec 32 → PosShare TreeShare) (qp : PosShare TreeShare)
  (fk : Buf (Elt F) (A.kc.view.loc (c : Thread nD τ))) (fv : Buf (Elt F) (A.vc.view.loc (c : Thread nD τ)))
  (hX : ∀ j, (X j : BitVec 32).toNat < 8192) (qX : Vec F S128x2048 .bf16) (ks vs : FVec F S1x128 .bf16)

theorem pgOk (hX : ∀ j, (X j : BitVec 32).toNat < 8192) (b : ℕ) : ∀ t, PageOk (pgW X i b t) := fun t => pageOk (hX _)

/-- Slot `s` with nothing under way, each slot with its share of the pools. -/
abbrev FreeW (s : BitVec 32) (hs : SlotOk s) : sProp 𝕄 := Free c A s hs (qs s) (qs s) fk fv
/-- Slot `s` with block `b` under way. -/
abbrev FlightW (s : BitVec 32) (hs : SlotOk s) (b : ℕ) : sProp 𝕄 := Flight c A s hs (qs s) (qs s) fk fv (pgW X i b) (pgOk X i hX b)

theorem FreeW_congr {s s' : BitVec 32} (e : s = s') (hs : SlotOk s) (hs' : SlotOk s') : FreeW c A qs fk fv s hs = FreeW c A qs fk fv s' hs' := by
  subst e; rfl
theorem FlightW_congr {s s' : BitVec 32} (e : s = s') (hs : SlotOk s) (hs' : SlotOk s') (b : ℕ) :
    FlightW c A X i qs fk fv hX s hs b = FlightW c A X i qs fk fv hX s' hs' b := by
  subst e; rfl

/-- Block `b` of `n` is under way in its slot, or there is no such block and the slot is free. -/
def Ready (n b : ℕ) : sProp 𝕄 :=
  if b < n then FlightW c A X i qs fk fv hX (slot b) (slotOf b) b else FreeW c A qs fk fv (slot b) (slotOf b)

theorem slot_add_two (b : ℕ) : slot (b + 1 + 1) = slot b := by
  unfold slot; rw [show (b + 1 + 1) % 2 = b % 2 by omega]

/-- The state after block `b` read whole. -/
def blkS (b : ℕ) : St F → St F := attS id ks vs (pool c A.kc fk (pgW X i b) (pgOk X i hX b)) (pool c A.vc fv (pgW X i b) (pgOk X i hX b)) qX
/-- The state after the first `b` blocks. -/
def blksS : ℕ → St F → St F
  | 0, s => s
  | b + 1, s => blkS c A X i fk fv hX qX ks vs b (blksS b s)
/-- The state after every cached key of a sequence of `v1` keys. -/
def lastS (v1 : BitVec 32) (s : St F) : St F :=
  if 0 < v1.toNat % 1024 then
    attS (tailMask (rem v1)) ks vs (pool c A.kc fk (pgW X i (v1.toNat / 1024)) (pgOk X i hX (v1.toNat / 1024)))
      (pool c A.vc fv (pgW X i (v1.toNat / 1024)) (pgOk X i hX (v1.toNat / 1024))) qX (blksS c A X i fk fv hX qX ks vs (v1.toNat / 1024) s)
  else blksS c A X i fk fv hX qX ks vs (v1.toNat / 1024) s

variable {v1 : BitVec 32} (hv : v1.toNat ≤ 131072)

/-- Before trip `k`. -/
def Inv (n : ℕ) (st : St F) (k : ℕ) : sProp 𝕄 :=
  iprop(Own c A.pt qp X ∗ Acc c A qX (blksS c A X i fk fv hX qX ks vs k st) ∗ Ready c A X i qs fk fv hX n k ∗ FreeW c A qs fk fv (slot (k + 1)) (slotOf (k + 1)) ∗ owed c)

include hv

theorem startK_wp (hw : k0_chk9 i v1) (k : Fin (k0_t1_loop v1).trips) (h2 : k0_cond2 v1 k = 1#1) :
    iprop(Own c A.pt qp X ∗ FreeW c A qs fk fv (slot (k.val + 1)) (slotOf (k.val + 1)))
      ⊢ Wp c (startK A i v1 hw k h2) (fun _ => iprop(Own c A.pt qp X ∗ FlightW c A X i qs fk fv hX (slot (k.val + 1)) (slotOf (k.val + 1)) (k.val + 1))) := by
  have hb := (cond2_iff hv k).1 h2
  have hb' := blocks_le hv
  have hk := k.isLt
  rw [FreeW_congr c A qs fk fv (slotW'_eq hv k).symm (slotOf _) (slotOk_of_inb (k0_off19_inb i v1 hw k h2)),
    FlightW_congr c A X i qs fk fv hX (slotW'_eq hv k).symm (slotOf _) (slotOk_of_inb (k0_off19_inb i v1 hw k h2))]
  exact start_block c A (slotW' k) _ _ _ fk fv (pgW X i (k.val + 1)) (pgOk X i hX _) _ _ _ _ _
    (fun p hp => ⟨fun _ => (pageOk (hX _)).hc, fun _ _ => (pageOk (hX _)).hcw⟩)
    (fun p hp => wordAt_eq X i (k.val + 1) p hp (by omega) _ _ (off18_eq hv i k p hp))

theorem waitK_wp (hw : k0_chk9 i v1) (k : Fin (k0_t1_loop v1).trips) :
    iprop(Own c A.pt qp X ∗ FlightW c A X i qs fk fv hX (slot k.val) (slotOf k.val) k.val ∗ owed c)
      ⊢ Wp c (waitK A i v1 hw k) (fun _ => iprop(Own c A.pt qp X ∗ Landed c A (slot k.val) (slotOf k.val) (qs (slot k.val)) (qs (slot k.val)) fk fv (pgW X i k.val) (pgOk X i hX k.val) ∗ owed c)) := by
  have gen : ∀ (s : BitVec 32) (hs : SlotOk s), s = slot k.val →
      iprop(Own c A.pt qp X ∗ FlightW c A X i qs fk fv hX (slot k.val) (slotOf k.val) k.val ∗ owed c)
      ⊢ Wp c (block A (fun p => k0_off59 i v1 k (BitVec.ofNat 32 p)) (fun p hp => k0_off59_inb i v1 hw k ⟨p, hp⟩)
          k0_chk18 (fun w => k0_chk18.dec w) (fun w h => pageOk_of_inb h.1) (wait A s hs))
        (fun _ => iprop(Own c A.pt qp X ∗ Landed c A (slot k.val) (slotOf k.val) (qs (slot k.val)) (qs (slot k.val)) fk fv (pgW X i k.val) (pgOk X i hX k.val) ∗ owed c)) := by
    rintro s hs rfl
    exact wait_block c A _ _ _ _ fk fv (pgW X i k.val) (pgOk X i hX _) _ _ _ _ _
      (fun p hp => ⟨(pageOk (hX _)).hc, fun _ => (pageOk (hX _)).hcw⟩)
  exact gen _ _ (slotW_eq hv k)

theorem trip_wp (hw : k0_chk9 i v1) (st : St F) (k : Fin (k0_t1_loop v1).trips) :
    Inv c A X i qs qp fk fv hX qX ks vs (blocks v1.toNat) st k.val
      ⊢ Wp c (trip A i v1 hw ks vs k) (fun _ => Inv c A X i qs qp fk fv hX qX ks vs (blocks v1.toNat) st (k.val + 1)) := by
  have hk : k.val < v1.toNat / 1024 := by have := k.isLt; have := trips1 hv; omega
  have hkb : k.val < blocks v1.toNat := by unfold blocks; omega
  have h2 : iprop(Own c A.pt qp X ∗ FreeW c A qs fk fv (slot (k.val + 1)) (slotOf (k.val + 1)))
      ⊢ Wp c (if h2 : k0_cond2 v1 k = 1#1 then startK A i v1 hw k h2 else pure ⟨⟩)
        (fun _ => iprop(Own c A.pt qp X ∗ Ready c A X i qs fk fv hX (blocks v1.toNat) (k.val + 1))) := by
    unfold Ready
    by_cases hc : k0_cond2 v1 k = 1#1
    · rw [dif_pos hc]
      rw [if_pos ((cond2_iff hv k).1 hc)]
      exact startK_wp c A X i qs qp fk fv hX hv hw k hc
    · rw [dif_neg hc]
      rw [if_neg (fun h => hc ((cond2_iff hv k).2 h))]
      exact wp_pure (F := F) c PUnit.unit (Q := fun _ => _)
  unfold Inv
  rw [show Ready c A X i qs fk fv hX (blocks v1.toNat) k.val = FlightW c A X i qs fk fv hX (slot k.val) (slotOf k.val) k.val from if_pos hkb,
    FreeW_congr c A qs fk fv (slot_add_two k.val) (slotOf _) (slotOf k.val)]
  unfold trip
  iintro ⟨Hp, HA, HR, HF, HO⟩
  iapply (wp_step c h2) $$ [Hp HF]
  · isplitl [Hp]; · iexact Hp
    iexact HF
  iintro %_ ⟨Hp, HF⟩
  iapply (wp_step c (waitK_wp c A X i qs qp fk fv hX hv hw k)) $$ [Hp HR HO]
  · isplitl [Hp]; · iexact Hp
    isplitl [HR]; · iexact HR
    iexact HO
  iintro %_ ⟨Hp, HR, HO⟩
  iapply (wp_wand_r _ _ _)
  isplitl [HA HR]
  · iapply (attend_wp c (slot k.val) (slotOf k.val) A id ks vs (k0_off100 v1 k) (k0_off100_inb i v1 hw k) (off100_eq hv k) _ _ fk fv
      (pgW X i k.val) (pgOk X i hX k.val) qX _)
    isplitl [HA]; · iexact HA
    iexact HR
  iintro %_ ⟨HA, HR⟩
  isplitl [Hp]; · iexact Hp
  isplitl [HA]; · iexact HA
  isplitl [HF]; · iexact HF
  isplitl [HR]; · iexact HR
  iexact HO

theorem tail_wp (hw : k0_chk9 i v1) (h4 : k0_cond4 v1 = 1#1) (st : St F) :
    iprop(Own c A.pt qp X ∗ Acc c A qX st ∗ FlightW c A X i qs fk fv hX (slot (v1.toNat / 1024)) (slotOf (v1.toNat / 1024)) (v1.toNat / 1024) ∗ owed c)
      ⊢ Wp c (tail A i v1 hw ks vs h4) (fun _ => iprop(Own c A.pt qp X
        ∗ Acc c A qX (attS (tailMask (rem v1)) ks vs (pool c A.kc fk (pgW X i (v1.toNat / 1024)) (pgOk X i hX (v1.toNat / 1024)))
            (pool c A.vc fv (pgW X i (v1.toNat / 1024)) (pgOk X i hX (v1.toNat / 1024))) qX st)
        ∗ FreeW c A qs fk fv (slot (v1.toNat / 1024)) (slotOf (v1.toNat / 1024)) ∗ owed c)) := by
  have gen : ∀ (s : BitVec 32) (hs : SlotOk s), s = slot (v1.toNat / 1024) →
      iprop(Own c A.pt qp X ∗ FlightW c A X i qs fk fv hX (slot (v1.toNat / 1024)) (slotOf (v1.toNat / 1024)) (v1.toNat / 1024) ∗ owed c)
      ⊢ Wp c (block A (fun p => k0_off184 i v1 (BitVec.ofNat 32 p)) (fun p hp => k0_off184_inb i v1 hw h4 ⟨p, hp⟩)
          (k0_chk42 v1) (fun w => k0_chk42.dec v1 w) (fun w h => pageOk_of_inb (h.1 h4)) (wait A s hs))
        (fun _ => iprop(Own c A.pt qp X ∗ Landed c A (slot (v1.toNat / 1024)) (slotOf (v1.toNat / 1024)) (qs (slot (v1.toNat / 1024))) (qs (slot (v1.toNat / 1024))) fk fv
          (pgW X i (v1.toNat / 1024)) (pgOk X i hX (v1.toNat / 1024)) ∗ owed c)) := by
    rintro s hs rfl
    exact wait_block c A _ _ _ _ fk fv (pgW X i (v1.toNat / 1024)) (pgOk X i hX _) _ _ _ _ _
      (fun p hp => ⟨fun _ => (pageOk (hX _)).hc, fun _ _ => (pageOk (hX _)).hcw⟩)
  unfold tail
  iintro ⟨Hp, HA, HR, HO⟩
  iapply (wp_step c (gen _ _ (slotT_eq hv))) $$ [Hp HR HO]
  · isplitl [Hp]; · iexact Hp
    isplitl [HR]; · iexact HR
    iexact HO
  iintro %_ ⟨Hp, HR, HO⟩
  iapply (wp_wand_r _ _ _)
  isplitl [HA HR]
  · iapply (attend_wp c (slot (v1.toNat / 1024)) (slotOf (v1.toNat / 1024)) A (tailMask (rem v1)) ks vs (k0_off225 v1) (k0_off225_inb i v1 hw h4) (off225_eq hv) _ _ fk fv
      (pgW X i (v1.toNat / 1024)) (pgOk X i hX (v1.toNat / 1024)) qX st)
    isplitl [HA]; · iexact HA
    iexact HR
  iintro %_ ⟨HA, HR⟩
  isplitl [Hp]; · iexact Hp
  isplitl [HA]; · iexact HA
  isplitl [HR]; · iexact HR
  iexact HO

/-! ## From the loop on -/

/-- What the result block holds. -/
def outR (st : St F) (y : Vec F S1x128x2048 .bf16) : Vec F S1x128x2048 .bf16 := rowS (N := 16) (outS st) 16 y

theorem late_wp (hw : k0_chk9 i v1) (st : St F) (y : Vec F S1x128x2048 .bf16) :
    iprop(Own c A.pt qp X ∗ Acc c A qX st ∗ Ready c A X i qs fk fv hX (blocks v1.toNat) 0 ∗ FreeW c A qs fk fv (slot 1) (slotOf 1) ∗ owed c ∗ Own c A.y fullShare y)
      ⊢ Wp c (late A i v1 hw ks vs) (fun _ => iprop(Own c A.pt qp X ∗ Acc c A qX (lastS c A X i fk fv hX qX ks vs v1 st)
        ∗ FreeW c A qs fk fv (slot 0) (slotOf 0) ∗ FreeW c A qs fk fv (slot 1) (slotOf 1) ∗ owed c
        ∗ Own c A.y fullShare (outR (lastS c A X i fk fv hX qX ks vs v1 st) y))) := by
  have hcond : iprop(Own c A.pt qp X ∗ Acc c A qX (blksS c A X i fk fv hX qX ks vs (v1.toNat / 1024) st)
        ∗ Ready c A X i qs fk fv hX (blocks v1.toNat) (v1.toNat / 1024) ∗ owed c)
      ⊢ Wp c (if h4 : k0_cond4 v1 = 1#1 then tail A i v1 hw ks vs h4 else pure ⟨⟩) (fun _ => iprop(Own c A.pt qp X
        ∗ Acc c A qX (lastS c A X i fk fv hX qX ks vs v1 st)
        ∗ FreeW c A qs fk fv (slot (v1.toNat / 1024)) (slotOf (v1.toNat / 1024)) ∗ owed c)) := by
    unfold Ready lastS
    by_cases hr : 0 < v1.toNat % 1024
    · rw [dif_pos ((cond4_iff hv).2 hr)]
      rw [if_pos hr, if_pos (by unfold blocks; rw [if_pos hr]; omega)]
      exact tail_wp c A X i qs qp fk fv hX qX ks vs hv hw ((cond4_iff hv).2 hr) _
    · rw [dif_neg (fun h => hr ((cond4_iff hv).1 h))]
      rw [if_neg hr, if_neg (by unfold blocks; rw [if_neg hr]; omega)]
      exact wp_pure (F := F) c PUnit.unit (Q := fun _ => _)
  have hslots : iprop(FreeW c A qs fk fv (slot (v1.toNat / 1024)) (slotOf (v1.toNat / 1024)) ∗ FreeW c A qs fk fv (slot (v1.toNat / 1024 + 1)) (slotOf (v1.toNat / 1024 + 1)))
      ⊢ iprop(FreeW c A qs fk fv (slot 0) (slotOf 0) ∗ FreeW c A qs fk fv (slot 1) (slotOf 1)) := by
    rcases Nat.mod_two_eq_zero_or_one (v1.toNat / 1024) with h0 | h0
    · have e0 : slot (v1.toNat / 1024) = slot 0 := by unfold slot; rw [h0]
      have e1 : slot (v1.toNat / 1024 + 1) = slot 1 := by unfold slot; rw [show (v1.toNat / 1024 + 1) % 2 = 1 by omega]
      rw [FreeW_congr c A qs fk fv e0 (slotOf _) (slotOf _), FreeW_congr c A qs fk fv e1 (slotOf _) (slotOf _)]
    · have e0 : slot (v1.toNat / 1024) = slot 1 := by unfold slot; rw [h0]
      have e1 : slot (v1.toNat / 1024 + 1) = slot 0 := by unfold slot; rw [show (v1.toNat / 1024 + 1) % 2 = 0 by omega]
      rw [FreeW_congr c A qs fk fv e0 (slotOf _) (slotOf _), FreeW_congr c A qs fk fv e1 (slotOf _) (slotOf _)]
      exact sep_comm.1
  unfold late
  iintro ⟨Hp, HA, HR, HF, HO, Hy⟩
  iapply (Scf.wp_for_bind _ _ _ _ _ _ (k0_t1_ok i v1 hw) _ _ (fun k _ => Inv c A X i qs qp fk fv hX qX ks vs (blocks v1.toNat) st k)
    (fun k _ => trip_wp c A X i qs qp fk fv hX qX ks vs hv hw st k)) $$ [Hp HA HR HF HO]
  · unfold Inv
    isplitl [Hp]; · iexact Hp
    isplitl [HA]; · iexact HA
    isplitl [HR]; · iexact HR
    isplitl [HF]; · iexact HF
    iexact HO
  iintro %_ H
  iapply (Scf.wp_for_bind _ _ _ _ _ _ (k0_t2_ok i v1 hw) _ _ (fun k _ => (iprop(emp) : sProp 𝕄))
    (fun k _ => absurd k.isLt (by have e : Scf.trips (k0_t2_loop v1).lb (k0_t2_loop v1).ub (k0_t2_loop v1).st = 0 := trips2 hv; omega))) $$ []
  · iempintro
  iintro %_ -
  have e1 : Inv c A X i qs qp fk fv hX qX ks vs (blocks v1.toNat) st (k0_t1_loop v1).trips = Inv c A X i qs qp fk fv hX qX ks vs (blocks v1.toNat) st (v1.toNat / 1024) := by
    rw [trips1 hv]
  ihave H := (Entails.of_eq e1) $$ H
  unfold Inv
  icases H with ⟨Hp, HA, HR, HF, HO⟩
  iapply (wp_step c hcond) $$ [Hp HA HR HO]
  · isplitl [Hp]; · iexact Hp
    isplitl [HA]; · iexact HA
    isplitl [HR]; · iexact HR
    iexact HO
  iintro %_ ⟨Hp, HA, HR, HO⟩
  ihave H := hslots $$ [HR HF]
  · isplitl [HR]; · iexact HR
    iexact HF
  icases H with ⟨H0, H1⟩
  ihave H := (rowS_wp c 16 (outH A) _ (fun y => iprop(Acc c A qX (lastS c A X i fk fv hX qX ks vs v1 st) ∗ Own c A.y fullShare y))
    (fun h hh y => outH_wp c A qX _ h hh y) y) $$ [HA Hy]
  · isplitl [HA]; · iexact HA
    iexact Hy
  iapply (wp_wand_r _ _ _)
  isplitl [H]; · iexact H
  iintro %_ ⟨HA, Hy⟩
  isplitl [Hp]; · iexact Hp
  isplitl [HA]; · iexact HA
  isplitl [H0]; · iexact H0
  isplitl [H1]; · iexact H1
  isplitl [HO]; · iexact HO
  iexact Hy

end Cert.Kernel.Hand
-- ==== Proof.Kernel.Kbody.lean ====
/-
  The whole body of the kernel at one grid point: from the blocks it finds to the blocks it leaves. Every
  block it writes is written all over, so what it leaves does not depend on what was there.
-/
module

public import proofs.«01_k».proof.Proof.Kernel.Loop

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

/-! ## A row of stores that covers its buffer -/

section Cover
variable {s : Shape} {α : Type} {N : ℕ}

/-- A row of stores agrees, wherever one of them reaches, from whatever it starts. -/
theorem rowS_cover_le (r : (t : ℕ) → t < N → Rect s) (v : (t : ℕ) → (ht : t < N) → (r t ht).shape.Idx → α) (a b : s.Idx → α) :
    ∀ n, n ≤ N → ∀ j, (∃ t, ∃ ht : t < N, t < n ∧ j ∈ (r t ht).set) →
      rowS (N := N) (fun t ht x => (r t ht).overlay x (v t ht)) n a j = rowS (N := N) (fun t ht x => (r t ht).overlay x (v t ht)) n b j
  | 0, _, j, ⟨t, ht, h, _⟩ => absurd h (Nat.not_lt_zero t)
  | n + 1, hn, j, ⟨t, ht, h, hj⟩ => by
    rw [rowS_succ _ (by omega : n < N), rowS_succ _ (by omega : n < N)]
    by_cases hm : j ∈ (r n (by omega)).set
    · obtain ⟨x, rfl⟩ := (r n (by omega)).exists_idx_of_mem hm
      exact (Rect.overlay_emb _ _ _ x).trans (Rect.overlay_emb _ _ _ x).symm
    · rw [Rect.overlay_of_not_mem _ _ _ hm, Rect.overlay_of_not_mem _ _ _ hm]
      refine rowS_cover_le r v a b n (by omega) j ⟨t, ht, ?_, hj⟩
      have : t ≠ n := by rintro rfl; exact hm hj
      omega

theorem rowS_cover (r : (t : ℕ) → t < N → Rect s) (v : (t : ℕ) → (ht : t < N) → (r t ht).shape.Idx → α) (a b : s.Idx → α)
    (hc : ∀ j, ∃ t, ∃ ht : t < N, j ∈ (r t ht).set) :
    rowS (N := N) (fun t ht x => (r t ht).overlay x (v t ht)) N a = rowS (N := N) (fun t ht x => (r t ht).overlay x (v t ht)) N b :=
  funext fun j => rowS_cover_le r v a b N le_rfl j (let ⟨t, ht, h⟩ := hc j; ⟨t, ht, ht, h⟩)

/-- A row of steps, read through a projection the steps respect. -/
theorem rowS_proj {σ τ' : Type} (f : (t : ℕ) → t < N → σ → σ) (g : (t : ℕ) → t < N → τ' → τ') (p : σ → τ')
    (h : ∀ t ht x, p (f t ht x) = g t ht (p x)) : ∀ n, n ≤ N → ∀ x, p (rowS f n x) = rowS g n (p x)
  | 0, _, _ => rfl
  | n + 1, hn, x => by
    rw [rowS_succ _ (by omega : n < N), rowS_succ _ (by omega : n < N), h, rowS_proj f g p h n (by omega)]

end Cover

theorem mem_rH (j : S128x2048.Idx) : ∃ h, ∃ hh : h < 16, j ∈ (rH h hh).set := by
  have h1 : (j 1).val < 2048 := (j 1).isLt
  have h0 : (j 0).val < 128 := (j 0).isLt
  refine ⟨(j 1).val / 128, by omega, Rect.mem_set_unit.2 (Fin.forall_fin_two.2 ⟨⟨Nat.zero_le _, ?_⟩, ⟨?_, ?_⟩⟩)⟩
  · show (j 0).val < 0 + 128; omega
  · show 128 * ((j 1).val / 128) ≤ (j 1).val; omega
  · show (j 1).val < 128 * ((j 1).val / 128) + 128; omega

theorem mem_rT (j : S128x2048.Idx) : ∃ t, ∃ ht : t < 8, j ∈ (rT t ht).set := by
  have h1 : (j 1).val < 2048 := (j 1).isLt
  have h0 : (j 0).val < 128 := (j 0).isLt
  refine ⟨(j 1).val / 256, by omega, Rect.mem_set_unit.2 (Fin.forall_fin_two.2 ⟨⟨Nat.zero_le _, ?_⟩, ⟨?_, ?_⟩⟩)⟩
  · show (j 0).val < 0 + 128; omega
  · show 256 * ((j 1).val / 256) ≤ (j 1).val; omega
  · show (j 1).val < 256 * ((j 1).val / 256) + 256; omega

theorem mem_rT1 (j : S1x2048.Idx) : ∃ t, ∃ ht : t < 8, j ∈ (rT1 t ht).set := by
  have h1 : (j 1).val < 2048 := (j 1).isLt
  have h0 : (j 0).val < 1 := (j 0).isLt
  refine ⟨(j 1).val / 256, by omega, Rect.mem_set_unit.2 (Fin.forall_fin_two.2 ⟨⟨Nat.zero_le _, ?_⟩, ⟨?_, ?_⟩⟩)⟩
  · show (j 0).val < 0 + 1; omega
  · show 256 * ((j 1).val / 256) ≤ (j 1).val; omega
  · show (j 1).val < 256 * ((j 1).val / 256) + 256; omega

theorem mem_rH3 (j : S1x128x2048.Idx) : ∃ h, ∃ hh : h < 16, j ∈ (rH3 h hh).set := by
  have h2 : (j 2).val < 2048 := (j 2).isLt
  have h1 : (j 1).val < 128 := (j 1).isLt
  have h0 : (j 0).val < 1 := (j 0).isLt
  refine ⟨(j 2).val / 128, by omega, Rect.mem_set_unit.2 fun a => ?_⟩
  match a with
  | ⟨0, _⟩ => exact ⟨Nat.zero_le _, by show (j 0).val < 0 + 1; omega⟩
  | ⟨1, _⟩ => exact ⟨Nat.zero_le _, by show (j 1).val < 0 + 128; omega⟩
  | ⟨2, _⟩ => exact ⟨by show 128 * ((j 2).val / 128) ≤ (j 2).val; omega, by show (j 2).val < 128 * ((j 2).val / 128) + 128; omega⟩

theorem mem_rK (j : S1x128x128.Idx) : j ∈ rK.set := by
  have h2 : (j 2).val < 128 := (j 2).isLt
  have h1 : (j 1).val < 128 := (j 1).isLt
  have h0 : (j 0).val < 1 := (j 0).isLt
  refine Rect.mem_set_unit.2 fun a => ?_
  match a with
  | ⟨0, _⟩ => exact ⟨Nat.zero_le _, by show (j 0).val < 0 + 1; omega⟩
  | ⟨1, _⟩ => exact ⟨Nat.zero_le _, by show (j 1).val < 0 + 128; omega⟩
  | ⟨2, _⟩ => exact ⟨Nat.zero_le _, by show (j 2).val < 0 + 128; omega⟩

theorem overlay_cover {s : Shape} {α : Type} (r : Rect s) (v : r.shape.Idx → α) (a b : s.Idx → α) (hc : ∀ j, j ∈ r.set) : r.overlay a v = r.overlay b v := by
  funext j
  obtain ⟨x, rfl⟩ := r.exists_idx_of_mem (hc j)
  exact (Rect.overlay_emb _ _ _ x).trans (Rect.overlay_emb _ _ _ x).symm

/-- The queries transposed, whatever the buffer held. -/
theorem queries_any (X : Vec F S1x128x2048 .bf16) (a b : Vec F S128x2048 .bf16) : rowS (N := 16) (transpS X) 16 a = rowS (N := 16) (transpS X) 16 b :=
  rowS_cover (N := 16) rH _ a b mem_rH
/-- The result block, whatever the buffer held. -/
theorem outR_any (st : St F) (a b : Vec F S1x128x2048 .bf16) : outR st a = outR st b :=
  rowS_cover (N := 16) rH3 _ a b mem_rH3
theorem codesS_any (x : Vec F S1x128x128 .bf16) (s : F .f32) (a b : Vec F S1x128x128 .fp8e4m3) : codesS x s a = codesS x s b :=
  overlay_cover rK _ a b mem_rK
/-- The state after the new tokens, whatever the buffers held. -/
theorem newS_any (ks vs : FVec F S1x128 .bf16) (sX : Vec F S4 .f32) (kX vX : Vec F S1x128x128 .bf16) (qX : Vec F S128x2048 .bf16) (a b : St F) :
    newS ks vs sX kX vX qX a = newS ks vs sX kX vX qX b := by
  unfold newS
  generalize (deq (codes (fun j => kX (rK.emb j)) (scAt sX 0 inb_S4_S1_0)) ks) = k
  generalize (transpose S128x128 [1, 0] (deq (codes (fun j => vX (rK.emb j)) (scAt sX 1 inb_S4_S1_1)) vs) transposes_S128x128_p1_0_S128x128) = vt
  have hm := fun x => (rowS_proj (N := 8) (tileNS k vt qX) _ St.m (fun t ht _ => rfl) 8 le_rfl x).trans (rowS_cover (N := 8) rT1 _ x.m a.m mem_rT1)
  have hl := fun x => (rowS_proj (N := 8) (tileNS k vt qX) _ St.l (fun t ht _ => rfl) 8 le_rfl x).trans (rowS_cover (N := 8) rT1 _ x.l a.l mem_rT1)
  have ha := fun x => (rowS_proj (N := 8) (tileNS k vt qX) _ St.acc (fun t ht _ => rfl) 8 le_rfl x).trans (rowS_cover (N := 8) rT _ x.acc a.acc mem_rT)
  have ext : ∀ x y : St F, x.m = y.m → x.l = y.l → x.acc = y.acc → x = y := by
    rintro ⟨_, _, _⟩ ⟨_, _, _⟩ h1 h2 h3; cases h1; cases h2; cases h3; rfl
  exact ext _ _ ((hm a).trans (hm b).symm) ((hl a).trans (hl b).symm) ((ha a).trans (ha b).symm)

/-! ## What the body leaves -/

/-- The queries, transposed. -/
def qC (X : Vec F S1x128x2048 .bf16) : Vec F S128x2048 .bf16 := rowS (N := 16) (transpS X) 16 (constant S128x2048 .bf16 0x0000#16)
def st0 : St F := ⟨constant S1x2048 .f32 0x00000000#32, constant S1x2048 .f32 0x00000000#32, constant S128x2048 .f32 0x00000000#32⟩
/-- A scale as the body dequantises by it. -/
def kS (sX : Vec F S4 .f32) : FVec F S1x128 .bf16 := srow (scAt sX 2 inb_S4_S1_2)
def vS (sX : Vec F S4 .f32) : FVec F S1x128 .bf16 := srow (scAt sX 3 inb_S4_S1_3)
/-- The state after the new tokens. -/
def newC (sX : Vec F S4 .f32) (QX : Vec F S1x128x2048 .bf16) (kX vX : Vec F S1x128x128 .bf16) : St F := newS (kS sX) (vS sX) sX kX vX (qC QX) st0
def kCodes (sX : Vec F S4 .f32) (kX : Vec F S1x128x128 .bf16) : Vec F S1x128x128 .fp8e4m3 := codesS kX (scAt sX 0 inb_S4_S1_0) (constant S1x128x128 .fp8e4m3 0x00#8)
def vCodes (sX : Vec F S4 .f32) (vX : Vec F S1x128x128 .bf16) : Vec F S1x128x128 .fp8e4m3 := codesS vX (scAt sX 1 inb_S4_S1_1) (constant S1x128x128 .fp8e4m3 0x00#8)

variable (c : Dev nD) (A : Args) (X : Vec F S8x1024 .i32) (i : grid0.Coords) (qs : BitVec 32 → PosShare TreeShare) (qp ql : PosShare TreeShare)
  (fk : Buf (Elt F) (A.kc.view.loc (c : Thread nD τ))) (fv : Buf (Elt F) (A.vc.view.loc (c : Thread nD τ)))
  (hX : ∀ j, (X j : BitVec 32).toNat < 8192)

/-- The length of row `i`, as the body loads it. -/
def lenAt (L : Vec F S8 .i32) : BitVec 32 := L ((Rect.unit (s := S8) (k0_off1 i) S1.size (k0_off1_inb i)).emb (Shape.Idx.first (numel1_S1.symm ▸ Nat.one_pos)))

/-- The result block. -/
def yC (sX : Vec F S4 .f32) (QX : Vec F S1x128x2048 .bf16) (kX vX : Vec F S1x128x128 .bf16) (L : Vec F S8 .i32) : Vec F S1x128x2048 .bf16 :=
  outR (lastS c A X i fk fv hX (qC QX) (kS sX) (vS sX) (lenAt i L) (newC sX QX kX vX)) (constant S1x128x2048 .bf16 0x0000#16)

theorem start0_wp {v1 : BitVec 32} (h1 : k0_cond1 v1 = 1#1) :
    iprop(Own c A.pt qp X ∗ FreeW c A qs fk fv (slot 0) (slotOf 0))
      ⊢ Wp c (start0 A i v1 h1) (fun _ => iprop(Own c A.pt qp X ∗ FlightW c A X i qs fk fv hX (slot 0) (slotOf 0) 0)) := by
  have hi : (i 0).val < 8 := (i 0).isLt
  exact start_block c A 0#32 (slotOk (by decide)) _ _ fk fv (pgW X i 0) (pgOk X i hX _) _ _ _ _ _
    (fun p hp => ⟨fun _ => (pageOk (hX _)).hc, fun _ _ => (pageOk (hX _)).hcw⟩)
    (fun p hp => wordAt_eq X i 0 p hp (by omega) _ _ (by
      have e : (Scalar.indexCast (BitVec.ofNat 32 (i 0).val)).toNat = (i 0).val := row_toNat i
      rw [e, show 8 * 0 + p = p by omega]))

/-- The body after its length is known to be in range. -/
def kafter (A : Args) (i : grid0.Coords) (v1 : BitVec 32) (hw : k0_chk9 i v1) : Pg PUnit := do
  let s2 : Elt F .f32 ← smemLoad A.sc (Rect.unit (s := S4) ![2] S1.size inb_S4_S1_2) numel1_S1 rfl
  let s3 : Elt F .f32 ← smemLoad A.sc (Rect.unit (s := S4) ![3] S1.size inb_S4_S1_3) numel1_S1 rfl
  (if h1 : k0_cond1 v1 = 1#1 then start0 A i v1 h1 else pure ⟨⟩)
  early A i v1 hw (srow s2) (srow s3)

/-- All the body owns but the shared tables. -/
def Held (QX : Vec F S1x128x2048 .bf16) (sX : Vec F S4 .f32) (kX vX : Vec F S1x128x128 .bf16) (q0 q1 q2 q3 : PosShare TreeShare) (L : Vec F S8 .i32) : sProp 𝕄 :=
  iprop(Own c A.pt qp X ∗ Own c A.sl ql L ∗ Own c A.sc q0 sX ∗ Own c A.x q1 QX ∗ Own c A.kn q2 kX ∗ Own c A.vn q3 vX
    ∗ FreeW c A qs fk fv (slot 0) (slotOf 0) ∗ FreeW c A qs fk fv (slot 1) (slotOf 1) ∗ owed c ∗ ∃ qX, ∃ st, Acc c A qX st)

theorem kbody_wp (L : Vec F S8 .i32) (hL : ∀ j, (L j : BitVec 32).toNat ≤ 131072) (QX : Vec F S1x128x2048 .bf16) (sX : Vec F S4 .f32)
    (kX vX : Vec F S1x128x128 .bf16) (q0 q1 q2 q3 : PosShare TreeShare) (y : Vec F S1x128x2048 .bf16) (ko vo : Vec F S1x128x128 .fp8e4m3) :
    iprop(Held c A X qs qp ql fk fv QX sX kX vX q0 q1 q2 q3 L ∗ Own c A.y fullShare y ∗ Own c A.ko fullShare ko ∗ Own c A.vo fullShare vo)
      ⊢ Wp c (kbody A i) (fun _ => iprop(Held c A X qs qp ql fk fv QX sX kX vX q0 q1 q2 q3 L
        ∗ Own c A.y fullShare (yC c A X i fk fv hX sX QX kX vX L) ∗ Own c A.ko fullShare (kCodes sX kX) ∗ Own c A.vo fullShare (vCodes sX vX))) := by
  have hv : (lenAt i L).toNat ≤ 131072 := hL _
  have hw := chk9_of hv i
  have h1 : iprop(Own c A.pt qp X ∗ FreeW c A qs fk fv (slot 0) (slotOf 0))
      ⊢ Wp c (if h1 : k0_cond1 (lenAt i L) = 1#1 then start0 A i (lenAt i L) h1 else pure ⟨⟩)
        (fun _ => iprop(Own c A.pt qp X ∗ Ready c A X i qs fk fv hX (blocks (lenAt i L).toNat) 0)) := by
    unfold Ready
    by_cases hc : k0_cond1 (lenAt i L) = 1#1
    · rw [dif_pos hc]
      rw [if_pos ((cond1_iff hv).1 hc)]
      exact start0_wp c A X i qs qp fk fv hX hc
    · rw [dif_neg hc]
      rw [if_neg (fun h => hc ((cond1_iff hv).2 h))]
      exact wp_pure (F := F) c PUnit.unit (Q := fun _ => _)
  unfold Held kbody
  iintro ⟨⟨Hp, Hl, Hs, Hx, Hk, Hv, H0, H1, HO, %qX, %st, HA⟩, Hy, Hko, Hvo⟩
  iapply (wp_smem c) $$ Hl; iintro Hl
  iapply (wp_assume (k := fun h' : PLift (k0_chk9 i (lenAt i L)) => kafter A i (lenAt i L) h'.down) Variants.none (c : Thread nD τ) none Set.univ hw)
  unfold kafter
  iapply (wp_smem c) $$ Hs; iintro Hs
  iapply (wp_smem c) $$ Hs; iintro Hs
  iapply (wp_step c h1) $$ [Hp H0]
  · isplitl [Hp]; · iexact Hp
    iexact H0
  iintro %_ ⟨Hp, HR⟩
  unfold early Acc
  icases HA with ⟨Hq, HA⟩
  iapply (wp_step c (rowS_wp c 16 (transp A) _ (fun q => iprop(Own c A.x q1 QX ∗ Own c A.qt fullShare q))
    (fun h hh q => transp_wp c A q1 QX h hh q) qX)) $$ [Hx Hq]
  · isplitl [Hx]; · iexact Hx
    iexact Hq
  iintro %_ ⟨Hx, Hq⟩
  ihave Hq := (Entails.of_eq (congrArg (Own c A.qt fullShare) (queries_any QX qX (constant S128x2048 .bf16 0x0000#16)))) $$ Hq
  iapply (wp_step c (newTok_wp c A (kS sX) (vS sX) q0 q2 q3 sX kX vX (qC QX) st ko vo)) $$ [Hq HA Hs Hk Hv Hko Hvo]
  · unfold Acc
    isplitl [Hq HA]
    · isplitl [Hq]; · iexact Hq
      iexact HA
    isplitl [Hs]; · iexact Hs
    isplitl [Hk]; · iexact Hk
    isplitl [Hv]; · iexact Hv
    isplitl [Hko]; · iexact Hko
    iexact Hvo
  iintro %_ ⟨HA, Hs, Hk, Hv, Hko, Hvo⟩
  ihave HA := (Entails.of_eq (congrArg (Acc c A (qC QX)) (newS_any (kS sX) (vS sX) sX kX vX (qC QX) st st0))) $$ HA
  iapply (wp_wand_r _ _ _)
  isplitl [Hp HA HR H1 HO Hy]
  · iapply (late_wp c A X i qs qp fk fv hX (qC QX) (kS sX) (vS sX) hv hw (newC sX QX kX vX) y)
    isplitl [Hp]; · iexact Hp
    isplitl [HA]; · iexact HA
    isplitl [HR]; · iexact HR
    isplitl [H1]; · iexact H1
    isplitl [HO]; · iexact HO
    iexact Hy
  iintro %_ ⟨Hp, HA, H0, H1, HO, Hy⟩
  ihave Hy := (Entails.of_eq (congrArg (Own c A.y fullShare) (outR_any (lastS c A X i fk fv hX (qC QX) (kS sX) (vS sX) (lenAt i L) (newC sX QX kX vX)) y (constant S1x128x2048 .bf16 0x0000#16)))) $$ Hy
  ihave Hko := (Entails.of_eq (congrArg (Own c A.ko fullShare) (codesS_any kX (scAt sX 0 inb_S4_S1_0) ko (constant S1x128x128 .fp8e4m3 0x00#8)))) $$ Hko
  ihave Hvo := (Entails.of_eq (congrArg (Own c A.vo fullShare) (codesS_any vX (scAt sX 1 inb_S4_S1_1) vo (constant S1x128x128 .fp8e4m3 0x00#8)))) $$ Hvo
  isplitl [Hp Hl Hs Hx Hk Hv H0 H1 HO HA]
  · isplitl [Hp]; · iexact Hp
    isplitl [Hl]; · iexact Hl
    isplitl [Hs]; · iexact Hs
    isplitl [Hx]; · iexact Hx
    isplitl [Hk]; · iexact Hk
    isplitl [Hv]; · iexact Hv
    isplitl [H0]; · iexact H0
    isplitl [H1]; · iexact H1
    isplitl [HO]; · iexact HO
    iexists (qC QX), (lastS c A X i fk fv hX (qC QX) (kS sX) (vS sX) (lenAt i L) (newC sX QX kX vX))
    unfold Acc; iexact HA
  isplitl [Hy]; · iexact Hy
  isplitl [Hko]; · iexact Hko
  iexact Hvo

end Cert.Kernel.Hand
-- ==== Proof.Kernel.Host.lean ====
/-
  What the buffers hold when the kernel starts: the host's operations before it, which write none of the arguments.
-/
module

public import proofs.«01_k».proof.Proof.Gen.Kernel.Launch
public import proofs.«01_k».proof.Proof.Kernel.Kbody
public import Idealize.ShloMosaic.Lib.Pipeline.FrameBody
public import Idealize.ShloMosaic.Lib.StableHlo.Run

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ)

/-- The host's operations before the kernel, in order: scales to powers of two, then the reshapes. -/
abbrev hostOps : List (List (HloOp τ sig (Elt F))) :=
  [Gen.hostOps0, Gen.hostOps0_1, Gen.hostOps0_2, Gen.hostOps0_3, Gen.hostOps0_4, Gen.hostOps0_5, Gen.hostOps0_6, Gen.hostOps0_7, Gen.hostOps0_8]

/-- What a buffer holds when the kernel starts. -/
@[irreducible] def V (c : Dev nD) (b : Ref sig .tc) : Buf (Elt F) ((c : Thread nD τ).loc b) :=
  StableHlo.after (hostOps (F := F)).flatten (fun b => m (c, b)) b

theorem V_eq : V m = fun c (b : Ref sig .tc) => StableHlo.after (hostOps (F := F)).flatten (fun b => m (c, b)) b := by
  funext c b; unfold V; rfl

/-- Every reference the host writes, in order. -/
def written : List (Ref sig .tc) :=
  [ main_cst, main_cst_0, main_v0, main_v1, main_v2, main_cst_1, main_call0_v0, main_v3, main_cst_2, main_v4, main_v5, main_cst_3, main_v6,
    main_v7, main_cst_4, main_v8, main_v9, main_cst_5, main_call1_v0, main_v10, main_v11, main_v12, main_v13, main_cst_6, main_call2_v0,
    main_v14, main_cst_7, main_v15, main_v16, main_cst_8, main_v17, main_v18, main_cst_9, main_v19, main_v20, main_cst_10, main_call3_v0,
    main_v21, main_v22, main_v23, main_v24, main_v25, main_v26 ]

theorem writes_written : (hostOps (F := F)).flatten.Forall fun op => op.writes ⊆ (written.map (Proc.devRef (τ := τ) .tc)).toFinset :=
  StableHlo.forall_writes_sub_of_map rfl

theorem V_of_not_written (c : Dev nD) (r : Ref sig .tc) (hr : r ∉ written) : V m c r = m ((c : Thread nD τ).loc r) := by
  unfold V
  exact StableHlo.after_of_writes_sub _ _ writes_written hr

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)

theorem hmain (𝒱₀ : Variants) : Pipeline.HMainP (Ix := Unit) (Name := ℕ) (U := Pipeline.UD sig nD τ) (Lvl := ℕ) pcfgs 0 defs₀ 𝒱₀ m (main (F := F)) (V m) := by
  rw [V_eq]
  refine Pipeline.hmainP_prefixes pcfgs 0 defs₀ 𝒱₀ m main hostOps ?_ ?_ Gen.main_chain
  · exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub⟩
  · exact ⟨StableHlo.forall_fresh_of_map rfl, StableHlo.forall_fresh_of_map rfl, StableHlo.forall_fresh_of_map rfl, StableHlo.forall_fresh_of_map rfl,
      StableHlo.forall_fresh_of_map rfl, StableHlo.forall_fresh_of_map rfl, StableHlo.forall_fresh_of_map rfl, StableHlo.forall_fresh_of_map rfl,
      StableHlo.forall_fresh_of_map rfl⟩

/-! ## The prefetched tables -/

/-- The page table and the lengths, which the kernel's scalar memory holds. -/
def tbl : pre0.Contents (Elt F) := fun j => V m (0 : Dev nD) (pre0.ref j)
theorem V_pre (c : Dev nD) (j : Fin 2) : V m c (pre0.ref j) = tbl m j := by obtain rfl : c = 0 := Subsingleton.elim _ _; rfl
/-- No block is chosen by a table, so every content of theirs is admitted. -/
abbrev adm : (pcfg0 (F := F)).Adm := ⟨tbl m, trivial⟩

end Cert.Kernel.Hand

end
-- ==== Proof.Kernel.Keep.lean ====
/-
  Between grid points: what the kernel keeps from one point to the next — the tables, the two slots, the
  running accumulators — and how it is made of, and gives back, what the launch hands over.
-/
module

public import proofs.«01_k».proof.Proof.Kernel.Host

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ)

/-! ## The body's operands -/

/-- The kernel's operands, from the staging buffers a grid point uses. -/
abbrev argsAt (s : (w : Fin 7) → Fin (spec0 w).nbuf) : Args where
  pt := Memref.whole main_arg7
  hpt := Memref.isWhole_whole _
  sl := Memref.whole main_arg8
  hsl := Memref.isWhole_whole _
  sc := spec0_0.stage (s 0)
  hsc := hstage0_0 ((s 0).cast nbuf0_0)
  x := spec0_1.stage (s 1)
  hx := hstage0_1 ((s 1).cast nbuf0_1)
  kn := spec0_2.stage (s 2)
  hkn := hstage0_2 ((s 2).cast nbuf0_2)
  vn := spec0_3.stage (s 3)
  hvn := hstage0_3 ((s 3).cast nbuf0_3)
  kc := Memref.whole main_v25
  hkc := Memref.isWhole_whole _
  vc := Memref.whole main_v26
  hvc := Memref.isWhole_whole _
  y := spec0_4.stage (s 4)
  hy := hstage0_4 ((s 4).cast nbuf0_4)
  ko := spec0_5.stage (s 5)
  hko := hstage0_5 ((s 5).cast nbuf0_5)
  vo := spec0_6.stage (s 6)
  hvo := hstage0_6 ((s 6).cast nbuf0_6)
  kb := Memref.whole cc0_scratch0
  hkb := Memref.isWhole_whole _
  vb := Memref.whole cc0_scratch1
  hvb := Memref.isWhole_whole _
  sm := cc0_scratch2
  qt := Memref.whole cc0_scratch3
  hqt := Memref.isWhole_whole _
  m := Memref.whole cc0_scratch4
  hm := Memref.isWhole_whole _
  l := Memref.whole cc0_scratch5
  hl := Memref.isWhole_whole _
  acc := Memref.whole cc0_scratch6
  hacc := Memref.isWhole_whole _

variable (s : (w : Fin 7) → Fin (spec0 w).nbuf)

/-! ## What the launch hands over -/

/-- The kernel's own four counters: keys and values of slot 0, then of slot 1. -/
abbrev osem0 : Fin 4 → SemLoc sig := fun j => (![SemLoc.dma 13, SemLoc.dma 14, SemLoc.dma 15, SemLoc.dma 16] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0
          ∗ semVal ((c : Thread nD τ), SemLoc.dma 15) 0 ∗ semVal ((c : Thread nD τ), SemLoc.dma 16) 0) := by
  rw [Pipeline.ownSems0_eq_of_list c osem0 [0, 1, 2, 3] (by decide) (by decide)]; rfl

/-- The two page pools the transfers read. -/
def H0 : Finset (Ref sig .tc) := {main_v25, main_v26}
theorem H0_sub : H0 ⊆ Pipeline.restRefsP sig pre0 spec0 := by decide
theorem hbmPts0_eq (c : Dev nD) (W : (b : Ref sig .tc) → Buf (Elt F) ((c : Thread nD τ).loc b)) :
    (bigSep H0 (fun b => ((c : Thread nD τ).loc b) ↦{fullShare} W b) : sProp 𝕄)
      = iprop(((c : Thread nD τ).loc main_v25 ↦{fullShare} W main_v25) ∗ ((c : Thread nD τ).loc main_v26 ↦{fullShare} W main_v26)) := by
  rw [BI.bigSep_eq_bigSepL_of_eq [main_v25, main_v26] (by decide) (by decide)]; rfl

/-- The tables' halves the body reads through. -/
theorem tables_eq (c : Dev nD) :
    (Pipeline.ΦT pre0 (tbl m) c : sProp 𝕄)
      = iprop(((c : Thread nD τ).loc main_arg7 ↦{fullShare.right} tbl m 0) ∗ ((c : Thread nD τ).loc main_arg8 ↦{fullShare.right} tbl m 1)) := by
  unfold Pipeline.ΦT Pipeline.prefHeld
  rw [bigSep_univ_eq_bigSepL [(0 : Fin 2), (1 : Fin 2)] (by decide) (by decide)]; rfl

theorem semK0 : semK (argsAt s) (slot 0) (slotOf 0) = 13 := rfl
theorem semV0 : semV (argsAt s) (slot 0) (slotOf 0) = 14 := rfl
theorem semK1 : semK (argsAt s) (slot 1) (slotOf 1) = 15 := rfl
theorem semV1 : semV (argsAt s) (slot 1) (slotOf 1) = 16 := rfl

/-! ## A double buffer as its two slots -/

section Buffer
variable (c : Dev nD) (B : Memref sig .tc .vmem S2x1024x128 .fp8e4m3)

/-- The elements of the buffer in neither slot. -/
def restSet : Finset (Idx (B.view.loc (c : Thread nD τ))) :=
  (Finset.univ \ slotSet c B (slot 0) (slotOf 0)) \ slotSet c B (slot 1) (slotOf 1)

/-- What is left of the buffer beside the slots, at anything. -/
def leftover : sProp 𝕄 := iprop(∃ g : Buf (Elt F) (B.view.loc (c : Thread nD τ)), B.view.loc (c : Thread nD τ) ↦[restSet c B]{fullShare} g)

theorem slot1_sub : slotSet c B (slot 1) (slotOf 1) ⊆ Finset.univ \ slotSet c B (slot 0) (slotOf 0) := by
  intro x hx
  refine Finset.mem_sdiff.mpr ⟨Finset.mem_univ _, fun h => ?_⟩
  exact Finset.disjoint_left.mp (slotSet_disj c B (slot 0) (slotOf 0) (slot 1) (slotOf 1) (by decide)) h hx

theorem buffer_split (g : Buf (Elt F) (B.view.loc (c : Thread nD τ))) :
    (B.view.loc (c : Thread nD τ) ↦{fullShare} g : sProp 𝕄)
      ⊢ iprop(pages (F := F) c B (slot 0) (slotOf 0) ∗ pages (F := F) c B (slot 1) (slotOf 1) ∗ leftover (F := F) c B) := by
  iintro H
  ihave H := (pointsTo_split_subset (Finset.subset_univ (slotSet c B (slot 0) (slotOf 0)))).1 $$ H
  icases H with ⟨H0, H⟩
  ihave H := (pointsTo_split_subset (slot1_sub c B)).1 $$ H
  icases H with ⟨H1, H⟩
  isplitl [H0]; · iapply (slot_split c B _ (slotOf 0) g); iexact H0
  isplitl [H1]; · iapply (slot_split c B _ (slotOf 1) g); iexact H1
  unfold leftover restSet
  iexists g; iexact H

theorem buffer_join :
    iprop(pages (F := F) c B (slot 0) (slotOf 0) ∗ pages (F := F) c B (slot 1) (slotOf 1) ∗ leftover (F := F) c B)
      ⊢ (iprop(∃ g, B.view.loc (c : Thread nD τ) ↦{fullShare} g) : sProp 𝕄) := by
  iintro ⟨H0, H1, H⟩
  ihave H0 := (pages_join c B _ (slotOf 0)) $$ H0
  icases H0 with ⟨%g0, H0⟩
  ihave H1 := (pages_join c B _ (slotOf 1)) $$ H1
  icases H1 with ⟨%g1, H1⟩
  unfold leftover restSet
  icases H with ⟨%g, H⟩
  ihave H := (pointsTo_join_subset (slot1_sub c B)) $$ [H1 H]
  · isplitl [H1]; · iexact H1
    iexact H
  ihave H := (pointsTo_join_subset (Finset.subset_univ (slotSet c B (slot 0) (slotOf 0)))) $$ [H0 H]
  · isplitl [H0]; · iexact H0
    iexact H
  iexists _; iexact H

end Buffer

/-! ## The invariant -/

/-- The share of a page pool a slot's transfers read through: one half each. -/
def qs (s : BitVec 32) : PosShare TreeShare := if s = slot 0 then fullShare.left else fullShare.right
theorem qs0 : qs (slot 0) = fullShare.left := if_pos rfl
theorem qs1 : qs (slot 1) = fullShare.right := if_neg (by decide)

local instance : IsOp fullShare fullShare.left fullShare.right := IsOp.posShare_halves fullShare

theorem pool_split {sp : Space} {S : Shape} {e : EltTy} (c : Dev nD) (M : Memref sig .tc sp S e) (f : Buf (Elt F) (M.view.loc (c : Thread nD τ))) :
    Pt c M fullShare f ⊢ iprop(Pt c M (qs (slot 0)) f ∗ Pt c M (qs (slot 1)) f) := by
  rw [qs0, qs1]; exact (pointsTo_share IsOp.mem_op).1
theorem pool_join {sp : Space} {S : Shape} {e : EltTy} (c : Dev nD) (M : Memref sig .tc sp S e) (f : Buf (Elt F) (M.view.loc (c : Thread nD τ))) :
    iprop(Pt c M (qs (slot 0)) f ∗ Pt c M (qs (slot 1)) f) ⊢ Pt c M fullShare f := by
  rw [qs0, qs1]; exact (pointsTo_share IsOp.mem_op).2

/-- A whole reference, as the rules of the body speak of it. -/
theorem Pt_whole (c : Dev nD) (b : Ref sig .tc) (q : PosShare TreeShare) (f : Buf (Elt F) ((c : Thread nD τ).loc b)) :
    (Pt c (Memref.whole b) q f : sProp 𝕄) = ((c : Thread nD τ).loc b ↦{q} f) := by
  have e : (Memref.whole b).view.set = Finset.univ := by rw [Memref.view_whole, View.set_whole]
  show (_ ↦[(Memref.whole b).view.set]{q} f : sProp 𝕄) = _
  rw [e]

/-- What the kernel holds between two grid points. -/
def Keep (c : Dev nD) (s : (w : Fin 7) → Fin (spec0 w).nbuf) : sProp 𝕄 :=
  iprop(Own c (argsAt s).pt fullShare.right (V m c main_arg7) ∗ Own c (argsAt s).sl fullShare.right (V m c main_arg8)
    ∗ FreeW c (argsAt s) qs (V m c main_v25) (V m c main_v26) (slot 0) (slotOf 0)
    ∗ FreeW c (argsAt s) qs (V m c main_v25) (V m c main_v26) (slot 1) (slotOf 1)
    ∗ (∃ qX, ∃ st, Acc c (argsAt s) qX st)
    ∗ leftover (F := F) c (argsAt s).kb ∗ leftover (F := F) c (argsAt s).vb ∗ (∃ r, prngReg c r))

theorem Keep_eq (c : Dev nD) (s s' : (w : Fin 7) → Fin (spec0 w).nbuf) : Keep m c s = Keep m c s' := rfl

theorem keep_in (c : Dev nD) :
    iprop(Pipeline.ΦD osem0 spec0 H0 (V m) c ∗ Pipeline.ΦT pre0 (tbl m) c) ⊢ Keep m c s := by
  obtain rfl : c = 0 := Subsingleton.elim _ _
  rw [Pipeline.ΦD_eq, Gen.scopedRest0_eq, ownSems00_eq, hbmPts0_eq, tables_eq]
  unfold Keep FreeW Free freeSide Acc
  rw [semK0, semV0, semK1, semV1]
  iintro ⟨⟨⟨⟨%f0, H0⟩, ⟨%f1, H1⟩, ⟨%f3, H3⟩, ⟨%f4, H4⟩, ⟨%f5, H5⟩, ⟨%f6, H6⟩⟩, Hg, ⟨S0, S1, S2, S3⟩, ⟨Hk, Hv⟩⟩, ⟨HX, HL⟩⟩
  ihave HB0 := (buffer_split (0 : Dev nD) (Memref.whole cc0_scratch0) f0) $$ H0
  icases HB0 with ⟨K0, K1, KR⟩
  ihave HB1 := (buffer_split (0 : Dev nD) (Memref.whole cc0_scratch1) f1) $$ H1
  icases HB1 with ⟨V0, V1, VR⟩
  ihave Hk := (Entails.of_eq (Pt_whole 0 main_v25 fullShare (V m 0 main_v25)).symm) $$ Hk
  ihave Hv := (Entails.of_eq (Pt_whole 0 main_v26 fullShare (V m 0 main_v26)).symm) $$ Hv
  ihave Hk := (pool_split 0 _ _) $$ Hk
  icases Hk with ⟨Hk0, Hk1⟩
  ihave Hv := (pool_split 0 _ _) $$ Hv
  icases Hv with ⟨Hv0, Hv1⟩
  ihave HX := (Entails.of_eq (owns_whole ((0 : Dev nD) : Thread nD τ) main_arg7 fullShare.right (V m 0 main_arg7)).symm) $$ [HX]; · iexact HX
  ihave HL := (Entails.of_eq (owns_whole ((0 : Dev nD) : Thread nD τ) main_arg8 fullShare.right (V m 0 main_arg8)).symm) $$ [HL]; · iexact HL
  ihave H3 := (Entails.of_eq (owns_whole ((0 : Dev nD) : Thread nD τ) cc0_scratch3 fullShare f3).symm) $$ H3
  ihave H4 := (Entails.of_eq (owns_whole ((0 : Dev nD) : Thread nD τ) cc0_scratch4 fullShare f4).symm) $$ H4
  ihave H5 := (Entails.of_eq (owns_whole ((0 : Dev nD) : Thread nD τ) cc0_scratch5 fullShare f5).symm) $$ H5
  ihave H6 := (Entails.of_eq (owns_whole ((0 : Dev nD) : Thread nD τ) cc0_scratch6 fullShare f6).symm) $$ H6
  isplitl [HX]; · iexact HX
  isplitl [HL]; · iexact HL
  isplitl [S0 S1 K0 V0 Hk0 Hv0]
  · isplitl [S0 K0 Hk0]
    · isplitl [S0]; · iexact S0
      isplitl [K0]; · iexact K0
      iexact Hk0
    isplitl [S1]; · iexact S1
    isplitl [V0]; · iexact V0
    iexact Hv0
  isplitl [S2 S3 K1 V1 Hk1 Hv1]
  · isplitl [S2 K1 Hk1]
    · isplitl [S2]; · iexact S2
      isplitl [K1]; · iexact K1
      iexact Hk1
    isplitl [S3]; · iexact S3
    isplitl [V1]; · iexact V1
    iexact Hv1
  isplitl [H3 H4 H5 H6]
  · iexists f3
    iexists (⟨f4, f5, f6⟩ : St F)
    isplitl [H3]; · iexact H3
    isplitl [H4]; · iexact H4
    isplitl [H5]; · iexact H5
    iexact H6
  isplitl [KR]; · iexact KR
  isplitl [VR]; · iexact VR
  iexact Hg

theorem keep_out (c : Dev nD) : Keep m c s ⊢ Pipeline.ΦD osem0 spec0 H0 (V m) c := by
  rw [Pipeline.ΦD_eq, Gen.scopedRest0_eq, ownSems00_eq, hbmPts0_eq]
  unfold Keep FreeW Free freeSide Acc
  rw [semK0, semV0, semK1, semV1]
  iintro ⟨-, -, ⟨⟨S0, K0, Hk0⟩, ⟨S1, V0, Hv0⟩⟩, ⟨⟨S2, K1, Hk1⟩, ⟨S3, V1, Hv1⟩⟩, ⟨%f3, %st, ⟨H3, H4, H5, H6⟩⟩, KR, VR, Hg⟩
  ihave H0 := (buffer_join c (Memref.whole cc0_scratch0)) $$ [K0 K1 KR]
  · isplitl [K0]; · iexact K0
    isplitl [K1]; · iexact K1
    iexact KR
  ihave H1 := (buffer_join c (Memref.whole cc0_scratch1)) $$ [V0 V1 VR]
  · isplitl [V0]; · iexact V0
    isplitl [V1]; · iexact V1
    iexact VR
  ihave Hk := (pool_join c _ _) $$ [Hk0 Hk1]
  · isplitl [Hk0]; · iexact Hk0
    iexact Hk1
  ihave Hv := (pool_join c _ _) $$ [Hv0 Hv1]
  · isplitl [Hv0]; · iexact Hv0
    iexact Hv1
  ihave Hk := (Entails.of_eq (Pt_whole c main_v25 fullShare (V m c main_v25))) $$ Hk
  ihave Hv := (Entails.of_eq (Pt_whole c main_v26 fullShare (V m c main_v26))) $$ Hv
  ihave H3 := (Entails.of_eq (owns_whole (c : Thread nD τ) cc0_scratch3 fullShare f3)) $$ H3
  ihave H4 := (Entails.of_eq (owns_whole (c : Thread nD τ) cc0_scratch4 fullShare st.m)) $$ H4
  ihave H5 := (Entails.of_eq (owns_whole (c : Thread nD τ) cc0_scratch5 fullShare st.l)) $$ H5
  ihave H6 := (Entails.of_eq (owns_whole (c : Thread nD τ) cc0_scratch6 fullShare st.acc)) $$ H6
  isplitl [H0 H1 H3 H4 H5 H6]
  · isplitl [H0]; · iexact H0
    isplitl [H1]; · iexact H1
    isplitl [H3]; · iexists _; iexact H3
    isplitl [H4]; · iexists _; iexact H4
    isplitl [H5]; · iexists _; iexact H5
    iexists _; iexact H6
  isplitl [Hg]; · iexact Hg
  isplitl [S0 S1 S2 S3]
  · isplitl [S0]; · iexact S0
    isplitl [S1]; · iexact S1
    isplitl [S2]; · iexact S2
    iexact S3
  isplitl [Hk]; · iexact Hk
  iexact Hv

end Cert.Kernel.Hand

end
-- ==== Proof.Kernel.Frame.lean ====
/-
  The whole program: every grid point runs the body, the launch runs the grid. It terminates, nothing faults, the
  arguments end unchanged, every counter ends at zero, and the three results end at the blocks the body leaves.
-/
module

public import proofs.«01_k».proof.Proof.Kernel.Keep

@[expose] public section

set_option synthInstance.maxSize 4096

noncomputable section

namespace Cert.Kernel.Hand

open Cert.Kernel
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.Pipeline (Dat Cfg Window BodyObligation cellOf)

variable {F : FTy → Type} [FloatOps F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ) (ρ : Dev nD → PrngReg)

/-- The words the transfers read are pages of the pools. -/
def PagesOk : Prop := ∀ (c : Dev nD) j, (((V m c main_arg7 : Vec F S8x1024 .i32) j : BitVec 32)).toNat < 8192
/-- The lengths fit the page table. -/
def LensOk : Prop := ∀ (c : Dev nD) j, (((V m c main_arg8 : Vec F S8 .i32) j : BitVec 32)).toNat ≤ 131072

abbrev C0 : Cfg sig Λ₀ := cfg0 (adm m)

/-! ## The blocks of a grid point -/

def scB (c : Dev nD) (t : Fin (C0 m).N) : Vec F S4 .f32 := (((C0 m).win 0).blk t).view.read (Elt F) (V m c main_v22)
def xB (c : Dev nD) (t : Fin (C0 m).N) : Vec F S1x128x2048 .bf16 := (((C0 m).win 1).blk t).view.read (Elt F) (V m c main_arg0)
def kB (c : Dev nD) (t : Fin (C0 m).N) : Vec F S1x128x128 .bf16 := (((C0 m).win 2).blk t).view.read (Elt F) (V m c main_v23)
def vB (c : Dev nD) (t : Fin (C0 m).N) : Vec F S1x128x128 .bf16 := (((C0 m).win 3).blk t).view.read (Elt F) (V m c main_v24)

variable (hX : PagesOk m) (hL : LensOk m)

/-- What the body leaves of the attention's result at point `t`. -/
def yB (c : Dev nD) (t : Fin (C0 m).N) : Vec F S1x128x2048 .bf16 :=
  yC c (argsAt ((C0 m).slots t)) (V m c main_arg7) (grid0.coords t) (V m c main_v25) (V m c main_v26) (hX c) (scB m c t) (xB m c t) (kB m c t) (vB m c t)
    (V m c main_arg8)

/-- The pipeline's data: its windows read their blocks, and the body leaves its three. -/
def dats (p : Fin 1) (c : Dev nD) : Dat τ (Elt F) Unit ℕ (Pipeline.UD sig nD τ) ℕ (Pipeline.pin pcfgs (fun _ => adm m) p) c where
  A w := V m c (Pipeline.arrRef spec0 w)
  after w t := match w with
    | ⟨0, _⟩ => scB m c t
    | ⟨1, _⟩ => xB m c t
    | ⟨2, _⟩ => kB m c t
    | ⟨3, _⟩ => vB m c t
    | ⟨4, _⟩ => yB m hX c t
    | ⟨5, _⟩ => kCodes (scB m c t) (kB m c t)
    | ⟨6, _⟩ => vCodes (scB m c t) (vB m c t)
    | ⟨_ + 7, h⟩ => absurd h (Nat.not_lt.2 (Nat.le_add_left _ _))
  Φ _ := Keep m c ((C0 m).slots Gen.t0_0)
  q _ := fullShare
  owed _ := 0

theorem A_eq (c : Dev nD) (w : Fin (C0 m).W) : (dats m hX 0 c).A w = V m c (Pipeline.arrRef spec0 w) := by
  dsimp only [dats]

theorem before0 (c : Dev nD) (t : Fin (C0 m).N) (d) : (dats m hX 0 c).before 0 t d = scB m c t :=
  ((dats m hX 0 c).before_in_eq_fetched 0 rfl (fun _ => rfl) (fun _ _ _ => rfl) (fun _ => rfl) t d).trans rfl
theorem before1 (c : Dev nD) (t : Fin (C0 m).N) (d) : (dats m hX 0 c).before 1 t d = xB m c t :=
  ((dats m hX 0 c).before_in_eq_fetched 1 rfl (fun _ => rfl) (fun _ _ _ => rfl) (fun _ => rfl) t d).trans rfl
theorem before2 (c : Dev nD) (t : Fin (C0 m).N) (d) : (dats m hX 0 c).before 2 t d = kB m c t :=
  ((dats m hX 0 c).before_in_eq_fetched 2 rfl (fun _ => rfl) (fun _ _ _ => rfl) (fun _ => rfl) t d).trans rfl
theorem before3 (c : Dev nD) (t : Fin (C0 m).N) (d) : (dats m hX 0 c).before 3 t d = vB m c t :=
  ((dats m hX 0 c).before_in_eq_fetched 3 rfl (fun _ => rfl) (fun _ _ _ => rfl) (fun _ => rfl) t d).trans rfl

theorem defs₀_row (t : Fin (C0 m).N) :
    defs₀ (F := F) .tc (C0 m).body ((C0 m).bodyArgs t ((C0 m).slots t)) = kbody (argsAt ((C0 m).slots t)) (grid0.coords t) := by
  unfold defs₀; rw [Defs.onTc_tc]; exact body_eq (argsAt ((C0 m).slots t)) (grid0.coords t)

/-! ## One grid point -/

def bodyPre (c : Dev nD) (t : Fin (C0 m).N) : sProp 𝕄 :=
  iprop((dats m hX 0 c).Φ t.castSucc ∗ (dats m hX 0 c).owesAt () t.castSucc
    ∗ (∃ d, owns (c : Thread nD τ) (argsAt ((C0 m).slots t)).sc fullShare ((dats m hX 0 c).before 0 t d))
    ∗ (∃ d, owns (c : Thread nD τ) (argsAt ((C0 m).slots t)).x fullShare ((dats m hX 0 c).before 1 t d))
    ∗ (∃ d, owns (c : Thread nD τ) (argsAt ((C0 m).slots t)).kn fullShare ((dats m hX 0 c).before 2 t d))
    ∗ (∃ d, owns (c : Thread nD τ) (argsAt ((C0 m).slots t)).vn fullShare ((dats m hX 0 c).before 3 t d))
    ∗ (∃ d, owns (c : Thread nD τ) (argsAt ((C0 m).slots t)).y fullShare ((dats m hX 0 c).before 4 t d))
    ∗ (∃ d, owns (c : Thread nD τ) (argsAt ((C0 m).slots t)).ko fullShare ((dats m hX 0 c).before 5 t d))
    ∗ (∃ d, owns (c : Thread nD τ) (argsAt ((C0 m).slots t)).vo fullShare ((dats m hX 0 c).before 6 t d)))
def bodyPost (c : Dev nD) (t : Fin (C0 m).N) : sProp 𝕄 :=
  iprop((dats m hX 0 c).Φ t.succ ∗ (dats m hX 0 c).owesAt () t.succ
    ∗ owns (c : Thread nD τ) (argsAt ((C0 m).slots t)).sc fullShare ((dats m hX 0 c).after 0 t)
    ∗ owns (c : Thread nD τ) (argsAt ((C0 m).slots t)).x fullShare ((dats m hX 0 c).after 1 t)
    ∗ owns (c : Thread nD τ) (argsAt ((C0 m).slots t)).kn fullShare ((dats m hX 0 c).after 2 t)
    ∗ owns (c : Thread nD τ) (argsAt ((C0 m).slots t)).vn fullShare ((dats m hX 0 c).after 3 t)
    ∗ owns (c : Thread nD τ) (argsAt ((C0 m).slots t)).y fullShare ((dats m hX 0 c).after 4 t)
    ∗ owns (c : Thread nD τ) (argsAt ((C0 m).slots t)).ko fullShare ((dats m hX 0 c).after 5 t)
    ∗ owns (c : Thread nD τ) (argsAt ((C0 m).slots t)).vo fullShare ((dats m hX 0 c).after 6 t))

/-- What the body takes of what is kept, and gives back. -/
def Spec (c : Dev nD) (t : Fin (C0 m).N) : sProp 𝕄 :=
  Held c (argsAt ((C0 m).slots t)) (V m c main_arg7) qs fullShare.right fullShare.right (V m c main_v25) (V m c main_v26)
    (xB m c t) (scB m c t) (kB m c t) (vB m c t) fullShare fullShare fullShare fullShare (V m c main_arg8)

include hL in
theorem spec_wp (c : Dev nD) (t : Fin (C0 m).N) (y : Vec F S1x128x2048 .bf16) (ko vo : Vec F S1x128x128 .fp8e4m3) :
    iprop(Spec m c t ∗ Own c (argsAt ((C0 m).slots t)).y fullShare y ∗ Own c (argsAt ((C0 m).slots t)).ko fullShare ko ∗ Own c (argsAt ((C0 m).slots t)).vo fullShare vo)
      ⊢ Wp c (kbody (argsAt ((C0 m).slots t)) (grid0.coords t)) (fun _ => iprop(Spec m c t ∗ Own c (argsAt ((C0 m).slots t)).y fullShare (yB m hX c t)
        ∗ Own c (argsAt ((C0 m).slots t)).ko fullShare (kCodes (scB m c t) (kB m c t)) ∗ Own c (argsAt ((C0 m).slots t)).vo fullShare (vCodes (scB m c t) (vB m c t)))) := by
  unfold Spec yB
  exact kbody_wp c (argsAt ((C0 m).slots t)) (V m c main_arg7) (grid0.coords t) qs fullShare.right fullShare.right (V m c main_v25) (V m c main_v26) (hX c)
    (V m c main_arg8) (hL c) (xB m c t) (scB m c t) (kB m c t) (vB m c t) fullShare fullShare fullShare fullShare y ko vo

include hL in
theorem sound_body (c : Dev nD) (t : Fin (C0 m).N) :
    bodyPre m hX c t ⊢ wp frame (wpE (defs₀ (F := F)) Variants.none c none) Set.univ (kbody (argsAt ((C0 m).slots t)) (grid0.coords t)) (fun _ => bodyPost m hX c t) := by
  unfold bodyPre bodyPost
  simp only [before0, before1, before2, before3]
  rw [show (dats m hX 0 c).Φ t.succ = Keep m c ((C0 m).slots t) from Keep_eq m c _ _, show (dats m hX 0 c).Φ t.castSucc = Keep m c ((C0 m).slots t) from Keep_eq m c _ _]
  rw [show (dats m hX 0 c).after 0 t = scB m c t from rfl, show (dats m hX 0 c).after 1 t = xB m c t from rfl,
    show (dats m hX 0 c).after 2 t = kB m c t from rfl, show (dats m hX 0 c).after 3 t = vB m c t from rfl, show (dats m hX 0 c).after 4 t = yB m hX c t from rfl,
    show (dats m hX 0 c).after 5 t = kCodes (scB m c t) (kB m c t) from rfl, show (dats m hX 0 c).after 6 t = vCodes (scB m c t) (vB m c t) from rfl]
  unfold Dat.owesAt Pipeline.owesWithin
  rw [show (dats m hX 0 c).owed t.castSucc = 0 from rfl, show (dats m hX 0 c).owed t.succ = 0 from rfl]
  iintro ⟨HK, ⟨%W, -, HW⟩, ⟨%d0, Hsc⟩, ⟨%d1, Hx⟩, ⟨%d2, Hkn⟩, ⟨%d3, Hvn⟩, ⟨%d4, Hy⟩, ⟨%d5, Hko⟩, ⟨%d6, Hvo⟩⟩
  unfold Keep
  icases HK with ⟨HX, HL, HF0, HF1, HA, HR0, HR1, Hg⟩
  iapply (wp_wand_r)
  isplitl [Hsc Hx Hkn Hvn Hy Hko Hvo HX HL HF0 HF1 HA HW]
  · iapply (spec_wp m hX hL c t _ _ _)
    isplitl [Hsc Hx Hkn Hvn HX HL HF0 HF1 HA HW]
    · unfold Spec Held
      isplitl [HX]; · iexact HX
      isplitl [HL]; · iexact HL
      isplitl [Hsc]; · iexact Hsc
      isplitl [Hx]; · iexact Hx
      isplitl [Hkn]; · iexact Hkn
      isplitl [Hvn]; · iexact Hvn
      isplitl [HF0]; · iexact HF0
      isplitl [HF1]; · iexact HF1
      isplitl [HW]; · unfold owed; iexists W; iexact HW
      iexact HA
    isplitl [Hy]; · iexact Hy
    isplitl [Hko]; · iexact Hko
    iexact Hvo
  iintro %_ ⟨HS, Hy, Hko, Hvo⟩
  unfold Spec Held owed
  icases HS with ⟨HX, HL, Hsc, Hx, Hkn, Hvn, HF0, HF1, ⟨%W', HW⟩, HA⟩
  isplitl [HX HL HF0 HF1 HA HR0 HR1 Hg]
  · isplitl [HX]; · iexact HX
    isplitl [HL]; · iexact HL
    isplitl [HF0]; · iexact HF0
    isplitl [HF1]; · iexact HF1
    isplitl [HA]; · iexact HA
    isplitl [HR0]; · iexact HR0
    isplitl [HR1]; · iexact HR1
    iexact Hg
  isplitl [HW]
  · iexists W'; isplitr; · ipureintro; exact fun _ _ => Or.inl trivial
    iexact HW
  isplitl [Hsc]; · iexact Hsc
  isplitl [Hx]; · iexact Hx
  isplitl [Hkn]; · iexact Hkn
  isplitl [Hvn]; · iexact Hvn
  isplitl [Hy]; · iexact Hy
  isplitl [Hko]; · iexact Hko
  iexact Hvo

include hL in
theorem body_obligation (c : Dev nD) : BodyObligation (dats m hX 0 c) (defs₀ (F := F)) Variants.none () Set.univ := fun t => by
  rw [Gen.bigSep_W0, Gen.bigSep_W0, defs₀_row]
  exact triple_restated (sound_body m hX hL c t) rfl .rfl fun _ => .rfl

/-! ## The run -/

include hL in
set_option backward.isDefEq.respectTransparency.types false in
theorem run_main : θ_run defs (onTc (τ := τ) (main (F := F))) (s₀ m ρ)
    (fun r => Pipeline.FramePost (Pipeline.pin pcfgs (fun _ => adm m)) (dats m hX) 0 (V m) r ∧ r.2.sem = fun _ => 0) :=
  Pipeline.θ_run_frameP_dma (Q' := _) pcfgs (fun _ => adm m) (dats m hX) (0 : Fin 1) Gen.launch0 osem0 defs₀ Variants.none ownSemFacts0 H0 H0_sub m ρ main
    (hbody := fun c => (body_obligation m hX hL c).loose) (hshare := fun c => (dats m hX 0 c).share_full fun _ => rfl)
    (howed := fun _ _ => rfl) (V := V m) (hmain := hmain m Variants.none) (hA := A_eq m hX) (hpf := V_pre m)
    (hin := fun c => keep_in m _ c) (hout := fun c => keep_out m _ c)

theorem mem_rest (b : Ref sig .tc) (h : b.isScoped = false) (hb : ∀ w : Fin 7, (spec0 w).arr.view.ref ≠ b) : b ∈ Pipeline.restRefs sig spec0 :=
  Pipeline.mem_restRefs_of b h hb

include hX hL in
/-- The frame: the program terminates, nothing faults, its arguments end unchanged, every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 1).trans (V_main_arg0 m c),
      ((h.1 c).2 main_arg1 (mem_rest main_arg1 (by decide) (by decide))).trans (V_main_arg1 m c),
      ((h.1 c).2 main_arg2 (mem_rest main_arg2 (by decide) (by decide))).trans (V_main_arg2 m c),
      ((h.1 c).2 main_arg3 (mem_rest main_arg3 (by decide) (by decide))).trans (V_main_arg3 m c),
      ((h.1 c).2 main_arg4 (mem_rest main_arg4 (by decide) (by decide))).trans (V_main_arg4 m c),
      ((h.1 c).2 main_arg5 (mem_rest main_arg5 (by decide) (by decide))).trans (V_main_arg5 m c),
      ((h.1 c).2 main_arg6 (mem_rest main_arg6 (by decide) (by decide))).trans (V_main_arg6 m c),
      ((h.1 c).2 main_arg7 (mem_rest main_arg7 (by decide) (by decide))).trans (V_main_arg7 m c),
      ((h.1 c).2 main_arg8 (mem_rest main_arg8 (by decide) (by decide))).trans (V_main_arg8 m c)⟩, h.2⟩) (run_main m ρ hX hL)

end Cert.Kernel.Hand

end
-- ==== Proof.KernelIdeal.Struct.lean ====
/-
  The kernel's body over again, in the words a proof wants: a page word's load and check, the transfers of one block
  of eight pages, their waits, one tile of the attention, one head's transpose, one head's result. Each is written ONCE,
  at any tile, head, page and slot; `Body.lean` shows that the printed body is these pieces in a row.
-/
module

public import proofs.«01_k».proof.Proof.Gen.KernelIdeal

@[expose] public section

set_option synthInstance.maxSize 4096

noncomputable section

namespace Cert.KernelIdeal.Hand

open Cert.KernelIdeal
open Idealize.ShloMosaic Idealize.SL.Sem
open Facts₀ Facts

variable {F : FTy → Type} [FloatOps F] [Named F]

/-- The factor the kernel multiplies scores by before `exp2`. -/
abbrev cE : F .f32 := Named.named κ "exp2_scale" 0x3E0293EE#32

/-- The operands of the body: tables and scalars, input blocks, caches, result blocks, scratch. -/
structure Args where
  pt : Memref sig .tc .smem S8x1024 .i32
  hpt : pt.IsWhole
  sl : Memref sig .tc .smem S8 .i32
  hsl : sl.IsWhole
  sc : Memref sig .tc .smem S4 .f32
  hsc : sc.IsWhole
  x : Memref sig .tc .vmem S1x128x2048 .bf16
  hx : x.IsWhole
  kn : Memref sig .tc .vmem S1x128x128 .bf16
  hkn : kn.IsWhole
  vn : Memref sig .tc .vmem S1x128x128 .bf16
  hvn : vn.IsWhole
  kc : Memref sig .tc .hbm S8192x128x128 .fp8e4m3
  hkc : kc.IsWhole
  vc : Memref sig .tc .hbm S8192x128x128 .fp8e4m3
  hvc : vc.IsWhole
  y : Memref sig .tc .vmem S1x128x2048 .bf16
  hy : y.IsWhole
  ko : Memref sig .tc .vmem S1x128x128 .fp8e4m3
  hko : ko.IsWhole
  vo : Memref sig .tc .vmem S1x128x128 .fp8e4m3
  hvo : vo.IsWhole
  kb : Memref sig .tc .vmem S2x1024x128 .fp8e4m3
  hkb : kb.IsWhole
  vb : Memref sig .tc .vmem S2x1024x128 .fp8e4m3
  hvb : vb.IsWhole
  sm : DmaSems sig S2x2
  qt : Memref sig .tc .vmem S128x2048 .bf16
  hqt : qt.IsWhole
  m : Memref sig .tc .vmem S1x2048 .f32
  hm : m.IsWhole
  l : Memref sig .tc .vmem S1x2048 .f32
  hl : l.IsWhole
  acc : Memref sig .tc .vmem S128x2048 .f32
  hacc : acc.IsWhole

/-- The programs of the body. -/
local notation "Pg" => Prog (TpuEff nD τ sig (Elt F) Λ₀ Proc.tc)

/-! ## The rectangles -/

/-- The page `w` of a cache. -/
abbrev offC (w : BitVec 32) : Fin 3 → ℕ := ![w.toNat, 0, 0]
/-- The semaphore of slot `s`, for keys (`0`) or values (`1`). -/
abbrev offS (s : BitVec 32) (u : ℕ) : Fin 2 → ℕ := ![s.toNat, u]
/-- The page `p` of slot `s` of a buffer. -/
abbrev offB (s : BitVec 32) (p : ℕ) : Fin 3 → ℕ := ![s.toNat, 128 * p, 0]

theorem inb_tile (t : ℕ) (ht : t < 8) : ∀ a, (![0, 256 * t] : Fin 2 → ℕ) a + S128x256.size a ≤ S128x2048.size a := by
  intro a; fin_cases a
  · show 0 + 128 ≤ 128; omega
  · show 256 * t + 256 ≤ 2048; omega
theorem inb_tile1 (t : ℕ) (ht : t < 8) : ∀ a, (![0, 256 * t] : Fin 2 → ℕ) a + S1x256.size a ≤ S1x2048.size a := by
  intro a; fin_cases a
  · show 0 + 1 ≤ 1; omega
  · show 256 * t + 256 ≤ 2048; omega
theorem inb_head (h : ℕ) (hh : h < 16) : ∀ a, (![0, 128 * h] : Fin 2 → ℕ) a + S128x128.size a ≤ S128x2048.size a := by
  intro a; fin_cases a
  · show 0 + 128 ≤ 128; omega
  · show 128 * h + 128 ≤ 2048; omega
theorem inb_head1 (h : ℕ) (hh : h < 16) : ∀ a, (![0, 128 * h] : Fin 2 → ℕ) a + S1x128.size a ≤ S1x2048.size a := by
  intro a; fin_cases a
  · show 0 + 1 ≤ 1; omega
  · show 128 * h + 128 ≤ 2048; omega
theorem inb_head3 (h : ℕ) (hh : h < 16) : ∀ a, (![0, 0, 128 * h] : Fin 3 → ℕ) a + S1x128x128.size a ≤ S1x128x2048.size a := by
  intro a; fin_cases a
  · show 0 + 1 ≤ 1; omega
  · show 0 + 128 ≤ 128; omega
  · show 128 * h + 128 ≤ 2048; omega

/-- Columns `256 t ..` of a [128, 2048] buffer. -/
abbrev rT (t : ℕ) (ht : t < 8) : Rect S128x2048 := Rect.unit (s := S128x2048) ![0, 256 * t] S128x256.size (inb_tile t ht)
/-- Columns `256 t ..` of a [1, 2048] buffer. -/
abbrev rT1 (t : ℕ) (ht : t < 8) : Rect S1x2048 := Rect.unit (s := S1x2048) ![0, 256 * t] S1x256.size (inb_tile1 t ht)
/-- Head `h`'s columns of a [128, 2048] buffer. -/
abbrev rH (h : ℕ) (hh : h < 16) : Rect S128x2048 := Rect.unit (s := S128x2048) ![0, 128 * h] S128x128.size (inb_head h hh)
/-- Head `h`'s columns of a [1, 2048] buffer. -/
abbrev rH1 (h : ℕ) (hh : h < 16) : Rect S1x2048 := Rect.unit (s := S1x2048) ![0, 128 * h] S1x128.size (inb_head1 h hh)
/-- Head `h`'s columns of a [1, 128, 2048] block. -/
abbrev rH3 (h : ℕ) (hh : h < 16) : Rect S1x128x2048 := Rect.unit (s := S1x128x2048) ![0, 0, 128 * h] S1x128x128.size (inb_head3 h hh)

variable [Facts]

/-- All of a [1, 128, 128] block. -/
abbrev rK : Rect S1x128x128 := Rect.unit (s := S1x128x128) ![0, 0, 0] S1x128x128.size inb_S1x128x128_S1x128x128_0_0_0

theorem packed_qt (h : ℕ) (hh : h < 16) : (rH h hh).PackedRows (EltTy.packing .bf16) := by
  interval_cases h
  exacts [packedbf16_S128x2048_S128x128_0_0, packedbf16_S128x2048_S128x128_0_128, packedbf16_S128x2048_S128x128_0_256,
    packedbf16_S128x2048_S128x128_0_384, packedbf16_S128x2048_S128x128_0_512, packedbf16_S128x2048_S128x128_0_640,
    packedbf16_S128x2048_S128x128_0_768, packedbf16_S128x2048_S128x128_0_896, packedbf16_S128x2048_S128x128_0_1024,
    packedbf16_S128x2048_S128x128_0_1152, packedbf16_S128x2048_S128x128_0_1280, packedbf16_S128x2048_S128x128_0_1408,
    packedbf16_S128x2048_S128x128_0_1536, packedbf16_S128x2048_S128x128_0_1664, packedbf16_S128x2048_S128x128_0_1792,
    packedbf16_S128x2048_S128x128_0_1920]
theorem packed_y (h : ℕ) (hh : h < 16) : (rH3 h hh).PackedRows (EltTy.packing .bf16) := by
  interval_cases h
  exacts [packedbf16_S1x128x2048_S1x128x128_0_0_0, packedbf16_S1x128x2048_S1x128x128_0_0_128, packedbf16_S1x128x2048_S1x128x128_0_0_256,
    packedbf16_S1x128x2048_S1x128x128_0_0_384, packedbf16_S1x128x2048_S1x128x128_0_0_512, packedbf16_S1x128x2048_S1x128x128_0_0_640,
    packedbf16_S1x128x2048_S1x128x128_0_0_768, packedbf16_S1x128x2048_S1x128x128_0_0_896, packedbf16_S1x128x2048_S1x128x128_0_0_1024,
    packedbf16_S1x128x2048_S1x128x128_0_0_1152, packedbf16_S1x128x2048_S1x128x128_0_0_1280, packedbf16_S1x128x2048_S1x128x128_0_0_1408,
    packedbf16_S1x128x2048_S1x128x128_0_0_1536, packedbf16_S1x128x2048_S1x128x128_0_0_1664, packedbf16_S1x128x2048_S1x128x128_0_0_1792,
    packedbf16_S1x128x2048_S1x128x128_0_0_1920]

/-! ## Pieces in a row -/

/-- `f t`, `f (t + 1)`, …, the last `f (N - 1)`, for `n` of them. -/
def rowFrom (N : ℕ) (f : (t : ℕ) → t < N → Pg PUnit) : (n t : ℕ) → n + t = N → Pg PUnit
  | 0, _, _ => pure ⟨⟩
  | n + 1, t, h => f t (by omega) >>= fun _ => rowFrom N f n (t + 1) (by omega)

/-! ## Pages -/

/-- One word of the page table, checked. -/
def ldWord (A : Args) (off : Fin 2 → ℕ) (h : ∀ a, off a + S1x1.size a ≤ S8x1024.size a) (P : BitVec 32 → Prop) (dec : ∀ w, Decidable (P w)) :
    Pg (Σ' w : Elt F .i32, P w) := do
  let w : Elt F .i32 ← smemLoad A.pt (Rect.unit (s := S8x1024) off S1x1.size h) numel1_S1x1 rfl
  have hw : P w := (← Prog.lift (TpuEff.assume (P w) (dec w))).down
  pure ⟨w, hw⟩

/-- Page `w` of a cache. -/
abbrev cPage (M : Memref sig .tc .hbm S8192x128x128 .fp8e4m3) (off : Fin 3 → ℕ) (h : ∀ a, off a + S1x128x128.size a ≤ S8192x128x128.size a) :
    Memref sig .tc .hbm S128x128 .fp8e4m3 :=
  (M.slice (Rect.unit (s := S8192x128x128) off S1x128x128.size h) (fun _ => rfl)).squeeze S128x128 squeezes_S1x128x128_S128x128
/-- Page `p` of a slot of a buffer. -/
abbrev bPage (M : Memref sig .tc .vmem S2x1024x128 .fp8e4m3) (off : Fin 3 → ℕ) (h : ∀ a, off a + S1x128x128.size a ≤ S2x1024x128.size a) :
    Memref sig .tc .vmem S128x128 .fp8e4m3 :=
  (M.slice (Rect.unit (s := S2x1024x128) off S1x128x128.size h) (fun _ => rfl)).squeeze S128x128 squeezes_S1x128x128_S128x128
/-- One of the four semaphores. -/
abbrev cell (A : Args) (off : Fin 2 → ℕ) (h : ∀ a, off a + S1x1.size a ≤ S2x2.size a) :=
  ((A.sm.slice (Rect.unit (s := S2x2) off S1x1.size h)).squeeze S_ squeezes_S1x1_S_).sem

/-- Page offsets inside the two slots and whole words, for a slot word. -/
structure SlotOk (s : BitVec 32) : Prop where
  hs : ∀ u, u < 2 → ∀ a, (offS s u) a + S1x1.size a ≤ S2x2.size a
  hb : ∀ p, p < 8 → ∀ a, (offB s p) a + S1x128x128.size a ≤ S2x1024x128.size a
  hbw : ∀ p (hp : p < 8), (Rect.unit (s := S2x1024x128) (offB s p) S1x128x128.size (hb p hp)).WholeWords (EltTy.packing .fp8e4m3)
/-- A page word inside the pool, whole words. -/
structure PageOk (w : BitVec 32) : Prop where
  hc : ∀ a, (offC w) a + S1x128x128.size a ≤ S8192x128x128.size a
  hcw : (Rect.unit (s := S8192x128x128) (offC w) S1x128x128.size hc).WholeWords (EltTy.packing .fp8e4m3)

/-- The transfers of page `w`'s keys and values into page `p` of slot `s`. -/
def enq (A : Args) (s : BitVec 32) (hs : SlotOk s) (w : BitVec 32) (hw : PageOk w) (p : ℕ) (hp : p < 8) : Pg PUnit := do
  Prog.lift (.enqueueDma (cPage A.kc (offC w) hw.hc) (.here (bPage A.kb (offB s p) (hs.hb p hp)))
    (.dma (cell A (offS s 0) (hs.hs 0 (by decide))))
    ((A.hkc.wordExact_slice rfl _ hw.hcw).reshape _ _) ((A.hkb.wordExact_slice rfl _ (hs.hbw p hp)).reshape _ _) ⟨Or.inl rfl, trivial⟩)
  Prog.lift (.enqueueDma (cPage A.vc (offC w) hw.hc) (.here (bPage A.vb (offB s p) (hs.hb p hp)))
    (.dma (cell A (offS s 1) (hs.hs 1 (by decide))))
    ((A.hvc.wordExact_slice rfl _ hw.hcw).reshape _ _) ((A.hvb.wordExact_slice rfl _ (hs.hbw p hp)).reshape _ _) ⟨Or.inl rfl, trivial⟩)

/-- The waits for page `p` of slot `s`. -/
def wait (A : Args) (s : BitVec 32) (hs : SlotOk s) (w : BitVec 32) (hw : PageOk w) (p : ℕ) (hp : p < 8) : Pg PUnit := do
  Prog.lift (.waitDma2 (cell A (offS s 0) (hs.hs 0 (by decide))) (cPage A.kc (offC w) hw.hc) (bPage A.kb (offB s p) (hs.hb p hp))
    ((A.hkc.wordExact_slice rfl _ hw.hcw).reshape _ _) ((A.hkb.wordExact_slice rfl _ (hs.hbw p hp)).reshape _ _))
  Prog.lift (.waitDma2 (cell A (offS s 1) (hs.hs 1 (by decide))) (cPage A.vc (offC w) hw.hc) (bPage A.vb (offB s p) (hs.hb p hp))
    ((A.hvc.wordExact_slice rfl _ hw.hcw).reshape _ _) ((A.hvb.wordExact_slice rfl _ (hs.hbw p hp)).reshape _ _))

/-- The eight page words of a block, then `f` at each. -/
def block (A : Args) (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (f : (w : BitVec 32) → PageOk w → (p : ℕ) → p < 8 → Pg PUnit) : Pg PUnit := do
  let w0 ← ldWord A (offW 0) (hW 0 (by decide)) P dec
  let w1 ← ldWord A (offW 1) (hW 1 (by decide)) P dec
  let w2 ← ldWord A (offW 2) (hW 2 (by decide)) P dec
  let w3 ← ldWord A (offW 3) (hW 3 (by decide)) P dec
  let w4 ← ldWord A (offW 4) (hW 4 (by decide)) P dec
  let w5 ← ldWord A (offW 5) (hW 5 (by decide)) P dec
  let w6 ← ldWord A (offW 6) (hW 6 (by decide)) P dec
  let w7 ← ldWord A (offW 7) (hW 7 (by decide)) P dec
  f w0.1 (hP _ w0.2) 0 (by decide)
  f w1.1 (hP _ w1.2) 1 (by decide)
  f w2.1 (hP _ w2.2) 2 (by decide)
  f w3.1 (hP _ w3.2) 3 (by decide)
  f w4.1 (hP _ w4.2) 4 (by decide)
  f w5.1 (hP _ w5.2) 5 (by decide)
  f w6.1 (hP _ w6.2) 6 (by decide)
  f w7.1 (hP _ w7.2) 7 (by decide)

/-! ## One tile of attention over 1024 cached keys -/

/-- The largest score of each column. -/
def mx (s : FVec F S1024x256 .f32) : FVec F S1x256 .f32 :=
  shapeCast S1x256 (multiReduction .maximumf [0] S256 (multiReduction .maximumf [1] S4x256 (shapeCast S4x256x256 s shapeCasts_S1024x256_S4x256x256)
    0xFF800000#32 reduces_S4x256x256_S4x256 (.inl rfl) rfl) 0xFF800000#32 reduces_S4x256_S256 (.inl rfl) rfl) shapeCasts_S256_S1x256
/-- The sum of each column. -/
def sm (s : FVec F S1024x256 .f32) : FVec F S1x256 .f32 :=
  shapeCast S1x256 (multiReduction .add [0] S256 (multiReduction .add [1] S4x256 (shapeCast S4x256x256 s shapeCasts_S1024x256_S4x256x256)
    0x00000000#32 reduces_S4x256x256_S4x256 (.inl rfl) rfl) 0x00000000#32 reduces_S4x256_S256 (.inl rfl) rfl) shapeCasts_S256_S1x256
/-- The weights of a tile's scores against the running maxima `mN`. -/
def wt (s : FVec F S1024x256 .f32) (mN : FVec F S1x256 .f32) : FVec F S1024x256 .f32 :=
  exp2 (subf (mulf s (broadcast S1024x256 cE)) (broadcastTo S1024x256 (mulf mN (broadcast S1x256 cE)) broadcasts_S1x256_S1024x256))
/-- The factor by which the older sums shrink. -/
def al (m mN : FVec F S1x256 .f32) : FVec F S1x256 .f32 :=
  exp2 (subf (mulf m (broadcast S1x256 cE)) (mulf mN (broadcast S1x256 cE)))
/-- The weighted values. -/
def pv (vt : FVec F S128x1024 .bf16) (p : FVec F S1024x256 .f32) : FVec F S128x256 .f32 :=
  matmul dot_S128x1024_S1024x256_S128x256_1_0_0_1_n_n none vt (truncf .bf16 p bitsLt_bf16_f32) (constant S128x256 .f32 0x00000000#32)

/-- One tile: columns `256 t ..`. -/
def tile (A : Args) (mask : FVec F S1024x256 .f32 → FVec F S1024x256 .f32) (k : FVec F S1024x128 .bf16) (vt : FVec F S128x1024 .bf16)
    (t : ℕ) (ht : t < 8) : Pg PUnit := do
  let q : Vec F S128x256 .bf16 ← Prog.lift (.load A.qt (rT t ht).toLoadRect (View.loadsAt_vmem h_S128x256))
  have s : FVec F S1024x256 .f32 := mask (matmul dot_S1024x128_S128x256_S1024x256_1_0_0_1_n_n none k q (constant S1024x256 .f32 0x00000000#32))
  let m0 : Vec F S1x256 .f32 ← Prog.lift (.load A.m (rT1 t ht).toLoadRect (View.loadsAt_vmem h_S1x256))
  have mN : FVec F S1x256 .f32 := maximumf m0 (mx s)
  have p : FVec F S1024x256 .f32 := wt s mN
  let m1 : Vec F S1x256 .f32 ← Prog.lift (.load A.m (rT1 t ht).toLoadRect (View.loadsAt_vmem h_S1x256))
  let l0 : Vec F S1x256 .f32 ← Prog.lift (.load A.l (rT1 t ht).toLoadRect (View.loadsAt_vmem h_S1x256))
  let _l1 : Vec F S1x256 .f32 ← Prog.lift (.load A.l (rT1 t ht).toLoadRect (View.loadsAt_vmem h_S1x256))
  Prog.lift (.store A.l (rT1 t ht) (shapeCast S1x256 (addf (mulf l0 (al m1 mN)) (sm p)) shapeCasts_S1x256_S1x256) Finset.univ
    (View.stores_vmem_bits_univ h_S1x256 rfl) (.inl rfl))
  let a0 : Vec F S128x256 .f32 ← Prog.lift (.load A.acc (rT t ht).toLoadRect (View.loadsAt_vmem h_S128x256))
  let _a1 : Vec F S128x256 .f32 ← Prog.lift (.load A.acc (rT t ht).toLoadRect (View.loadsAt_vmem h_S128x256))
  Prog.lift (.store A.acc (rT t ht) (shapeCast S128x256 (addf (mulf a0 (broadcastTo S128x256 (al m1 mN) broadcasts_S1x256_S128x256)) (pv vt p))
    shapeCasts_S128x256_S128x256) Finset.univ (View.stores_vmem_bits_univ h_S128x256 rfl) (.inl rfl))
  let _m2 : Vec F S1x256 .f32 ← Prog.lift (.load A.m (rT1 t ht).toLoadRect (View.loadsAt_vmem h_S1x256))
  Prog.lift (.store A.m (rT1 t ht) (shapeCast S1x256 mN shapeCasts_S1x256_S1x256) Finset.univ (View.stores_vmem_bits_univ h_S1x256 rfl) (.inl rfl))

/-- The eight tiles over slot `off` of the buffers. -/
def attend (A : Args) (mask : FVec F S1024x256 .f32 → FVec F S1024x256 .f32) (ks vs : FVec F S1x128 .bf16) (off : Fin 3 → ℕ)
    (h : ∀ a, off a + S1x1024x128.size a ≤ S2x1024x128.size a) : Pg PUnit := do
  let k : Vec F S1x1024x128 .fp8e4m3 ← Prog.lift (.load A.kb (Rect.unit (s := S2x1024x128) off S1x1024x128.size h).toLoadRect (View.loadsAt_vmem h_S1x1024x128))
  let v : Vec F S1x1024x128 .fp8e4m3 ← Prog.lift (.load A.vb (Rect.unit (s := S2x1024x128) off S1x1024x128.size h).toLoadRect (View.loadsAt_vmem h_S1x1024x128))
  rowFrom 8 (tile A mask
      (mulf (extf .bf16 (shapeCast S1024x128 k shapeCasts_S1x1024x128_S1024x128) bitsLt_fp8e4m3_bf16) (broadcastTo S1024x128 ks broadcasts_S1x128_S1024x128))
      (transpose S128x1024 [1, 0]
        (mulf (extf .bf16 (shapeCast S1024x128 v shapeCasts_S1x1024x128_S1024x128) bitsLt_fp8e4m3_bf16) (broadcastTo S1024x128 vs broadcasts_S1x128_S1024x128))
        transposes_S1024x128_p1_0_S128x1024)) 8 0 rfl

/-- The mask of the last block: keys from `rem` on count for nothing. -/
def tailMask (rem : BitVec 32) (s : FVec F S1024x256 .f32) : FVec F S1024x256 .f32 :=
  select (cmpi .slt (iota .tc S1024x256 32 [0] iota_S1024x256_d0_w32) (broadcast S1024x256 rem)) s (broadcast S1024x256 (Scalar.ofBits .f32 0xFF800000#32))

/-! ## One tile of attention over the 128 new keys -/

def mxN (s : FVec F S128x256 .f32) : FVec F S1x256 .f32 :=
  shapeCast S1x256 (multiReduction .maximumf [0] S256 (multiReduction .maximumf [1] S4x256 (shapeCast S4x32x256 s shapeCasts_S128x256_S4x32x256)
    0xFF800000#32 reduces_S4x32x256_S4x256 (.inl rfl) rfl) 0xFF800000#32 reduces_S4x256_S256 (.inl rfl) rfl) shapeCasts_S256_S1x256
def smN (s : FVec F S128x256 .f32) : FVec F S1x256 .f32 :=
  shapeCast S1x256 (multiReduction .add [0] S256 (multiReduction .add [1] S4x256 (shapeCast S4x32x256 s shapeCasts_S128x256_S4x32x256)
    0x00000000#32 reduces_S4x32x256_S4x256 (.inl rfl) rfl) 0x00000000#32 reduces_S4x256_S256 (.inl rfl) rfl) shapeCasts_S256_S1x256
def wtN (s : FVec F S128x256 .f32) (mN : FVec F S1x256 .f32) : FVec F S128x256 .f32 :=
  exp2 (subf (mulf s (broadcast S128x256 cE)) (broadcastTo S128x256 (mulf mN (broadcast S1x256 cE)) broadcasts_S1x256_S128x256))
def pvN (vt : FVec F S128x128 .bf16) (p : FVec F S128x256 .f32) : FVec F S128x256 .f32 :=
  matmul dot_S128x128_S128x256_S128x256_1_0_0_1_n_n none vt (truncf .bf16 p bitsLt_bf16_f32) (constant S128x256 .f32 0x00000000#32)

/-- The word of the query token of each column, as the kernel computes it (the column number modulo 128). -/
def tokW : IVec S128x256 32 :=
  have v169 : IVec S128x256 32 := iota .tc S128x256 32 [1] iota_S128x256_d1_w32
  let v171 : BitVec 32 := Scalar.select (Scalar.cmpi .eq 128#32 0#32) 1#32 128#32
  have v173 : IVec S128x256 32 := remsi v169 (broadcast S128x256 v171)
  have v175 : IVec S128x256 1 := cmpi .ne v173 (broadcast S128x256 0#32)
  have v177 : IVec S128x256 1 := cmpi .slt v173 (broadcast S128x256 0#32)
  have v179 : IVec S128x256 1 := broadcast S128x256 (Scalar.cmpi .slt v171 0#32)
  have v180 : IVec S128x256 1 := broadcastTo S128x256 v179 broadcasts_S128x256_S128x256
  select (andi (xori v177 v180) v175) (addi v173 (broadcast S128x256 v171)) v173

/-- The causal mask: a new key later than the query token counts for nothing. -/
def causal (s : FVec F S128x256 .f32) : FVec F S128x256 .f32 :=
  select (cmpi .sle (iota .tc S128x256 32 [0] iota_S128x256_d0_w32) tokW) s (broadcast S128x256 (Scalar.ofBits .f32 0xFF800000#32))

/-- The first tile step: nothing accumulated before it. -/
def tileN (A : Args) (k : FVec F S128x128 .bf16) (vt : FVec F S128x128 .bf16) (t : ℕ) (ht : t < 8) : Pg PUnit := do
  let q : Vec F S128x256 .bf16 ← Prog.lift (.load A.qt (rT t ht).toLoadRect (View.loadsAt_vmem h_S128x256))
  have s : FVec F S128x256 .f32 := causal (matmul dot_S128x128_S128x256_S128x256_1_0_0_1_n_n none k q (constant S128x256 .f32 0x00000000#32))
  have mN : FVec F S1x256 .f32 := mxN s
  have p : FVec F S128x256 .f32 := wtN s mN
  let _l1 : Vec F S1x256 .f32 ← Prog.lift (.load A.l (rT1 t ht).toLoadRect (View.loadsAt_vmem h_S1x256))
  Prog.lift (.store A.l (rT1 t ht) (shapeCast S1x256 (smN p) shapeCasts_S1x256_S1x256) Finset.univ
    (View.stores_vmem_bits_univ h_S1x256 rfl) (.inl rfl))
  let _a1 : Vec F S128x256 .f32 ← Prog.lift (.load A.acc (rT t ht).toLoadRect (View.loadsAt_vmem h_S128x256))
  Prog.lift (.store A.acc (rT t ht) (shapeCast S128x256 (pvN vt p) shapeCasts_S128x256_S128x256) Finset.univ
    (View.stores_vmem_bits_univ h_S128x256 rfl) (.inl rfl))
  let _m2 : Vec F S1x256 .f32 ← Prog.lift (.load A.m (rT1 t ht).toLoadRect (View.loadsAt_vmem h_S1x256))
  Prog.lift (.store A.m (rT1 t ht) (shapeCast S1x256 mN shapeCasts_S1x256_S1x256) Finset.univ (View.stores_vmem_bits_univ h_S1x256 rfl) (.inl rfl))

/-! ## Heads -/

/-- Head `h` of `x`, transposed into `qt`. -/
def transp (A : Args) (h : ℕ) (hh : h < 16) : Pg PUnit := do
  let x : Vec F S1x128x128 .bf16 ← Prog.lift (.load A.x (rH3 h hh).toLoadRect (View.loadsAt_vmem h_S1x128x128))
  let _q : Vec F S128x128 .bf16 ← Prog.lift (.load A.qt (rH h hh).toLoadRect (View.loadsAt_vmem h_S128x128))
  Prog.lift (.store A.qt (rH h hh)
    (shapeCast S128x128 (transpose S128x128 [1, 0] (shapeCast S128x128 x shapeCasts_S1x128x128_S128x128) transposes_S128x128_p1_0_S128x128) shapeCasts_S128x128_S128x128)
    Finset.univ (View.stores_vmem h_S128x128 (A.hqt.storeExact_slice rfl _ (packed_qt h hh)) (fun _ => rfl)) (.inl rfl))

/-- Head `h` of the result. -/
def outH (A : Args) (h : ℕ) (hh : h < 16) : Pg PUnit := do
  let a : Vec F S128x128 .f32 ← Prog.lift (.load A.acc (rH h hh).toLoadRect (View.loadsAt_vmem h_S128x128))
  let l : Vec F S1x128 .f32 ← Prog.lift (.load A.l (rH1 h hh).toLoadRect (View.loadsAt_vmem h_S1x128))
  let _y : Vec F S1x128x128 .bf16 ← Prog.lift (.load A.y (rH3 h hh).toLoadRect (View.loadsAt_vmem h_S1x128x128))
  Prog.lift (.store A.y (rH3 h hh)
    (shapeCast S1x128x128 (truncf .bf16 (transpose S128x128 [1, 0] (divf a (broadcastTo S128x128 l broadcasts_S1x128_S128x128)) transposes_S128x128_p1_0_S128x128)
      bitsLt_bf16_f32) shapeCasts_S128x128_S1x128x128)
    Finset.univ (View.stores_vmem h_S1x128x128 (A.hy.storeExact_slice rfl _ (packed_y h hh)) (fun _ => rfl)) (.inl rfl))

/-- The codes of one input block under a factor: multiply, clip to ±448, round to fp8. -/
def codes (x : Vec F S1x128x128 .bf16) (s : F .f32) : FVec F S128x128 .fp8e4m3 :=
  truncf .fp8e4m3 (minimumf (broadcast S128x128 (Scalar.ofBits .f32 0x43E00000#32)) (maximumf (broadcast S128x128 (Scalar.ofBits .f32 0xC3E00000#32))
    (mulf (extf .f32 (shapeCast S128x128 x shapeCasts_S1x128x128_S128x128) bitsLt_bf16_f32) (broadcast S128x128 s)))) bitsLt_fp8e4m3_f32
/-- One row of the scale a scalar holds. -/
def srow (s : F .f32) : FVec F S1x128 .bf16 :=
  extractStridedSlice S1x128 ![0, 0] (truncf .bf16 (broadcast S16x128 s) bitsLt_bf16_f32) slices_S16x128_o0_0_S1x128
/-- The new keys or values: the codes times the scale. -/
def deq (c : FVec F S128x128 .fp8e4m3) (r : FVec F S1x128 .bf16) : FVec F S128x128 .bf16 :=
  mulf (extf .bf16 c bitsLt_fp8e4m3_bf16) (broadcastTo S128x128 r broadcasts_S1x128_S128x128)

/-- Quantise the new keys and values, store the codes, and attend over them. -/
def newTok (A : Args) (ks vs : FVec F S1x128 .bf16) : Pg PUnit := do
  let s0 : Elt F .f32 ← smemLoad A.sc (Rect.unit (s := S4) ![0] S1.size inb_S4_S1_0) numel1_S1 rfl
  let kn : Vec F S1x128x128 .bf16 ← Prog.lift (.load A.kn rK.toLoadRect (View.loadsAt_vmem h_S1x128x128))
  let _k : Vec F S1x128x128 .fp8e4m3 ← Prog.lift (.load A.ko rK.toLoadRect (View.loadsAt_vmem h_S1x128x128))
  Prog.lift (.store A.ko rK (shapeCast S1x128x128 (codes kn s0) shapeCasts_S128x128_S1x128x128) Finset.univ
    (View.stores_vmem h_S1x128x128 (A.hko.storeExact_slice rfl _ packedfp8e4m3_S1x128x128_S1x128x128_0_0_0) (fun _ => rfl)) (.inl rfl))
  let s1 : Elt F .f32 ← smemLoad A.sc (Rect.unit (s := S4) ![1] S1.size inb_S4_S1_1) numel1_S1 rfl
  let vn : Vec F S1x128x128 .bf16 ← Prog.lift (.load A.vn rK.toLoadRect (View.loadsAt_vmem h_S1x128x128))
  let _v : Vec F S1x128x128 .fp8e4m3 ← Prog.lift (.load A.vo rK.toLoadRect (View.loadsAt_vmem h_S1x128x128))
  Prog.lift (.store A.vo rK (shapeCast S1x128x128 (codes vn s1) shapeCasts_S128x128_S1x128x128) Finset.univ
    (View.stores_vmem h_S1x128x128 (A.hvo.storeExact_slice rfl _ packedfp8e4m3_S1x128x128_S1x128x128_0_0_0) (fun _ => rfl)) (.inl rfl))
  rowFrom 8 (tileN A (deq (codes kn s0) ks)
    (transpose S128x128 [1, 0] (deq (codes vn s1) vs) transposes_S128x128_p1_0_S128x128)) 8 0 rfl

end Cert.KernelIdeal.Hand
-- ==== Proof.KernelIdeal.Body.lean ====
/-
  The printed body is the pieces of `Struct.lean` in a row: by unfolding, once the three conditionals are cut off from
  what follows them.
-/
module

public import proofs.«01_k».proof.Proof.KernelIdeal.Struct
public import proofs.«01_k».proof.Proof.Gen.KernelIdeal.Skeleton

@[expose] public section

set_option synthInstance.maxSize 4096

noncomputable section

namespace Cert.KernelIdeal.Hand

open Cert.KernelIdeal
open Idealize.ShloMosaic Idealize.SL.Sem
open Facts₀ Facts

variable {F : FTy → Type} [FloatOps F] [Named F]
local notation "Pg" => Prog (TpuEff nD τ sig (Elt F) Λ₀ Proc.tc)

/-! ## Slots and pages inside their buffers -/

theorem slotOk {s : BitVec 32} (h : s.toNat < 2) : SlotOk s where
  hs u hu a := by
    fin_cases a
    · show s.toNat + 1 ≤ 2; omega
    · show u + 1 ≤ 2; omega
  hb p hp a := by
    fin_cases a
    · show s.toNat + 1 ≤ 2; omega
    · show 128 * p + 128 ≤ 1024; omega
    · show 0 + 128 ≤ 128; omega
  hbw p hp := by
    have h2 : 2 ≤ S2x1024x128.rank := by decide
    exact .inl (.inr ⟨h2, rfl, .inl ⟨(show 4 ∣ 128 * p by omega), (show 4 ∣ 128 by decide)⟩⟩)

theorem pageOk {w : BitVec 32} (h : w.toNat < 8192) : PageOk w where
  hc a := by
    fin_cases a
    · show w.toNat + 1 ≤ 8192; omega
    · show 0 + 128 ≤ 128; omega
    · show 0 + 128 ≤ 128; omega
  hcw := by
    have h2 : 2 ≤ S8192x128x128.rank := by decide
    exact .inl (.inr ⟨h2, rfl, .inl ⟨(show 4 ∣ 0 by decide), (show 4 ∣ 128 by decide)⟩⟩)

theorem pageOk_of_inb {w : BitVec 32} (h : ∀ a, (offC w) a + S1x128x128.size a ≤ S8192x128x128.size a) : PageOk w :=
  pageOk (by have := h 0; change w.toNat + 1 ≤ 8192 at this; omega)
theorem slotOk_of_inb {s : BitVec 32} (h : ∀ a, (offS s 0) a + S1x1.size a ≤ S2x2.size a) : SlotOk s :=
  slotOk (by have := h 0; change s.toNat + 1 ≤ 2 at this; omega)

/-! ## The words the body computes from the sequence's length -/

/-- The full blocks of 1024 keys before position `v`. -/
def nF (v1 : BitVec 32) : BitVec 32 :=
  let v2 : BitVec 32 := Scalar.divsi v1 1024#32
  let v7 : BitVec 32 := Scalar.subi (Scalar.extui (Scalar.cmpi .sgt v1 0#32)) (Scalar.extui (Scalar.cmpi .slt v1 0#32))
  let v12 : BitVec 32 := Scalar.subi (Scalar.extui (Scalar.cmpi .sgt 1024#32 0#32)) (Scalar.extui (Scalar.cmpi .slt 1024#32 0#32))
  let v13 : BitVec 1 := Scalar.cmpi .ne v7 v12
  let v14 : BitVec 32 := Scalar.remsi v1 1024#32
  let v15 : BitVec 1 := Scalar.cmpi .ne v14 0#32
  Scalar.select (Scalar.andi v13 v15) (Scalar.subi v2 1#32) v2
/-- The keys of the last, partial block. -/
def rem (v1 : BitVec 32) : BitVec 32 := Scalar.subi v1 (Scalar.muli (nF v1) 1024#32)
/-- The blocks, the partial one counted. -/
def nB (v1 : BitVec 32) : BitVec 32 := Scalar.addi (nF v1) (Scalar.extui (Scalar.cmpi .sgt (rem v1) 0#32))

/-- The slot of trip `k`, of the trip after it, and of the partial block. -/
def slotW {v1 : BitVec 32} (k : Fin (k0_t1_loop v1).trips) : BitVec 32 := Scalar.remsi (Scf.iv 0#32 1#32 k) 2#32
def slotW' {v1 : BitVec 32} (k : Fin (k0_t1_loop v1).trips) : BitVec 32 := Scalar.subi 1#32 (slotW k)
def slotT (v1 : BitVec 32) : BitVec 32 := Scalar.remsi (nF v1) 2#32

variable [Facts]

/-! ## The body -/

/-- The first block's transfers, into slot 0. -/
def start0 (A : Args) (i : grid0.Coords) (v1 : BitVec 32) (h1 : k0_cond1 v1 = 1#1) : Pg PUnit :=
  block A (fun p => ![(Scalar.indexCast (BitVec.ofNat 32 (i 0).val)).toNat, p])
    (fun p hp => by
      have := k0_off2_inb i 0
      intro a; fin_cases a
      · exact this
      · show p + 1 ≤ 1024; omega)
    (k0_chk1 v1) (fun w => k0_chk1.dec v1 w) (fun w h => pageOk_of_inb (h.1 h1))
    (enq A 0#32 (slotOk (by decide)))

/-- The next block's transfers, into the other slot. -/
def startK (A : Args) (i : grid0.Coords) (v1 : BitVec 32) (hw : k0_chk9 i v1) (k : Fin (k0_t1_loop v1).trips) (h2 : k0_cond2 v1 k = 1#1) : Pg PUnit :=
  block A (fun p => k0_off18 i v1 k (BitVec.ofNat 32 p)) (fun p hp => k0_off18_inb i v1 hw k h2 ⟨p, hp⟩)
    (k0_chk10 v1 k) (fun w => k0_chk10.dec v1 k w) (fun w h => pageOk_of_inb (h.1 h2))
    (enq A (slotW' k) (slotOk_of_inb (k0_off19_inb i v1 hw k h2)))

/-- The waits for trip `k`'s block. -/
def waitK (A : Args) (i : grid0.Coords) (v1 : BitVec 32) (hw : k0_chk9 i v1) (k : Fin (k0_t1_loop v1).trips) : Pg PUnit :=
  block A (fun p => k0_off59 i v1 k (BitVec.ofNat 32 p)) (fun p hp => k0_off59_inb i v1 hw k ⟨p, hp⟩)
    k0_chk18 (fun w => k0_chk18.dec w) (fun w h => pageOk_of_inb h.1)
    (wait A (slotW k) (slotOk_of_inb (k0_off60_inb i v1 hw k)))

/-- One trip: the next block's transfers, this block's waits, its eight tiles. -/
def trip (A : Args) (i : grid0.Coords) (v1 : BitVec 32) (hw : k0_chk9 i v1) (ks vs : FVec F S1x128 .bf16) (k : Fin (k0_t1_loop v1).trips) : Pg PUnit := do
  (if h2 : k0_cond2 v1 k = 1#1 then startK A i v1 hw k h2 else pure ⟨⟩)
  waitK A i v1 hw k
  attend A id ks vs (k0_off100 v1 k) (k0_off100_inb i v1 hw k)

/-- The partial block: its waits, its eight tiles under the mask. -/
def tail (A : Args) (i : grid0.Coords) (v1 : BitVec 32) (hw : k0_chk9 i v1) (ks vs : FVec F S1x128 .bf16) (h4 : k0_cond4 v1 = 1#1) : Pg PUnit := do
  block A (fun p => k0_off184 i v1 (BitVec.ofNat 32 p)) (fun p hp => k0_off184_inb i v1 hw h4 ⟨p, hp⟩)
    (k0_chk42 v1) (fun w => k0_chk42.dec v1 w) (fun w h => pageOk_of_inb (h.1 h4))
    (wait A (slotT v1) (slotOk_of_inb (k0_off185_inb i v1 hw h4)))
  attend A (tailMask (rem v1)) ks vs (k0_off225 v1) (k0_off225_inb i v1 hw h4)

/-- From the loop on: the full blocks, the remainder loop (which takes no trip), the partial block, the result. -/
def late (A : Args) (i : grid0.Coords) (v1 : BitVec 32) (hw : k0_chk9 i v1) (ks vs : FVec F S1x128 .bf16) : Pg PUnit := do
  Scf.Loop.for (k0_t1_loop v1) (k0_t1_ok i v1 hw) ⟨⟩ (fun k _ => trip A i v1 hw ks vs k)
  Scf.Loop.for (k0_t2_loop v1) (k0_t2_ok i v1 hw) ⟨⟩
    (Gen.k0_t2_body i A.pt A.hpt A.sl A.hsl A.sc A.hsc A.x A.hx A.kn A.hkn A.vn A.hvn A.kc A.hkc A.vc A.hvc A.y A.hy A.ko A.hko A.vo A.hvo
      A.kb A.hkb A.vb A.hvb A.sm A.qt A.hqt A.m A.hm A.l A.hl A.acc A.hacc (BitVec.ofNat 32 (i 0).val) v1 hw (nF v1) (rem v1) (nB v1) ks vs 0#32
      (Scalar.addi 0#32 (Scalar.muli (Scalar.divsi (Scalar.subi (nF v1) 0#32) 1#32) 1#32)))
  (if h4 : k0_cond4 v1 = 1#1 then tail A i v1 hw ks vs h4 else pure ⟨⟩)
  rowFrom 16 (outH A) 16 0 rfl

/-- After the first block's transfers: transposes, the new tokens, and the rest. -/
def early (A : Args) (i : grid0.Coords) (v1 : BitVec 32) (hw : k0_chk9 i v1) (ks vs : FVec F S1x128 .bf16) : Pg PUnit := do
  rowFrom 16 (transp A) 16 0 rfl
  newTok A ks vs
  late A i v1 hw ks vs

/-- The whole body. -/
def kbody (A : Args) (i : grid0.Coords) : Pg PUnit := do
  let v1 : Elt F .i32 ← smemLoad A.sl (Rect.unit (s := S8) (k0_off1 i) S1.size (k0_off1_inb i)) numel1_S1 rfl
  have hw : k0_chk9 i v1 := (← Prog.lift (TpuEff.assume (k0_chk9 i v1) (k0_chk9.dec i v1))).down
  let s2 : Elt F .f32 ← smemLoad A.sc (Rect.unit (s := S4) ![2] S1.size inb_S4_S1_2) numel1_S1 rfl
  let s3 : Elt F .f32 ← smemLoad A.sc (Rect.unit (s := S4) ![3] S1.size inb_S4_S1_3) numel1_S1 rfl
  (if h1 : k0_cond1 v1 = 1#1 then start0 A i v1 h1 else pure ⟨⟩)
  early A i v1 hw (srow s2) (srow s3)

/-! ## The printed text is that -/

theorem dite_bind {c : Prop} [Decidable c] {α β : Type} {L : c → Pg β} {L' : ¬c → Pg β} (a : c → Pg α) (u : α) (J : α → Pg β)
    (h1 : ∀ h, L h = a h >>= J) (h2 : ∀ h, L' h = J u) : dite c L L' = (if h : c then a h else pure u) >>= J := by
  by_cases h : c
  · rw [dif_pos h, dif_pos h]; exact h1 h
  · rw [dif_neg h, dif_neg h]; exact h2 h

set_option maxRecDepth 65536 in
set_option maxHeartbeats 4000000 in
theorem part55_eq (A : Args) (i : grid0.Coords) :
    k0_part55 (F := F) i A.pt A.hpt A.sl A.hsl A.sc A.hsc A.x A.hx A.kn A.hkn A.vn A.hvn A.kc A.hkc A.vc A.hvc A.y A.hy A.ko A.hko A.vo A.hvo
      A.kb A.hkb A.vb A.hvb A.sm A.qt A.hqt A.m A.hm A.l A.hl A.acc A.hacc
    = (do
      let v1 : Elt F .i32 ← smemLoad A.sl (Rect.unit (s := S8) (k0_off1 i) S1.size (k0_off1_inb i)) numel1_S1 rfl
      have hw : k0_chk9 i v1 := (← Prog.lift (TpuEff.assume (k0_chk9 i v1) (k0_chk9.dec i v1))).down
      let s2 : Elt F .f32 ← smemLoad A.sc (Rect.unit (s := S4) ![2] S1.size inb_S4_S1_2) numel1_S1 rfl
      let s3 : Elt F .f32 ← smemLoad A.sc (Rect.unit (s := S4) ![3] S1.size inb_S4_S1_3) numel1_S1 rfl
      let _ ← (if h1 : k0_cond1 v1 = 1#1 then start0 A i v1 h1 else pure ⟨⟩)
      let x0 : Vec F S1x128x128 .bf16 ← Prog.lift (.load A.x (rH3 0 (by decide)).toLoadRect (View.loadsAt_vmem h_S1x128x128))
      let q0 : Vec F S128x128 .bf16 ← Prog.lift (.load A.qt (rH 0 (by decide)).toLoadRect (View.loadsAt_vmem h_S128x128))
      pure ⟨BitVec.ofNat 32 (i 0).val, v1, hw, nF v1, rem v1, nB v1, srow s2, srow s3,
        transpose S128x128 [1, 0] (shapeCast S128x128 x0 shapeCasts_S1x128x128_S128x128) transposes_S128x128_p1_0_S128x128, q0⟩) := by
  refine congrArg (Prog.op _) (funext fun f1 => ?_)
  refine congrArg (Prog.op _) (funext fun f2 => ?_)
  refine congrArg (Prog.op _) (funext fun f3 => ?_)
  refine congrArg (Prog.op _) (funext fun f4 => ?_)
  exact dite_bind _ _ _ (fun _ => rfl) (fun _ => rfl)

theorem dite_bind' {c : Prop} [Decidable c] {β γ : Type} {L : c → Pg β} {L' : ¬c → Pg β} {K : β → Pg γ} (a : c → Pg PUnit) (R : Pg γ)
    {J : Pg β} (h2 : ∀ h, L' h = J) (h1 : ∀ h, L h = a h >>= fun _ => J) (h3 : J >>= K = R) :
    dite c L L' >>= K = (if h : c then a h else pure ⟨⟩) >>= fun _ => R := by
  by_cases h : c
  · rw [dif_pos h, dif_pos h, h1 h]; exact (Prog.bind_assoc _ _ _).trans (congrArg (Prog.bind (a h)) (funext fun _ => h3))
  · rw [dif_neg h, dif_neg h, h2 h]; exact h3

theorem assoc3 {α β γ δ : Type} (D : Pg α) {J : α → Pg β} {G : β → Pg γ} {L : γ → Pg δ} {R : α → Pg δ} (h : ∀ u, (J u >>= G) >>= L = R u) :
    ((D >>= J) >>= G) >>= L = D >>= R := by
  rw [Prog.bind_assoc, Prog.bind_assoc]
  exact congrArg (Prog.bind D) (funext fun u => (Prog.bind_assoc _ _ _).symm.trans (h u))

/-- What follows the loops in the printed body: heads 2 to 15 of the result (the first of two parts). -/
def rest (A : Args) (i : grid0.Coords) (v589 : FVec F S128x128 .bf16) : Pg (FVec F S128x128 .bf16) := do
  k0_part71 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc v589
  let v652 : FVec F S128x128 .bf16 ← k0_part72 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc
  let v683 : Vec F S128x128 .f32 ← k0_part73 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc v652
  let v684 : Vec F S1x128 .f32 ← Prog.lift (.load A.l (Rect.unit (s := S1x2048) ![0, 1664] S1x128.size inb_S1x2048_S1x128_0_1664).toLoadRect (View.loadsAt_vmem h_S1x128))
  have v685 : FVec F S128x128 .f32 := broadcastTo S128x128 v684 broadcasts_S1x128_S128x128
  have v686 : FVec F S128x128 .f32 := divf v683 v685
  have v687 : FVec F S128x128 .f32 := transpose S128x128 [1, 0] v686 transposes_S128x128_p1_0_S128x128
  have v688 : FVec F S128x128 .bf16 := truncf .bf16 v687 bitsLt_bf16_f32
  let v689 : Vec F S1x128x128 .bf16 ← Prog.lift (.load A.y (Rect.unit (s := S1x128x2048) ![0, 0, 1664] S1x128x128.size inb_S1x128x2048_S1x128x128_0_0_1664).toLoadRect (View.loadsAt_vmem h_S1x128x128))
  have v690 : FVec F S128x128 .bf16 := shapeCast S128x128 v689 shapeCasts_S1x128x128_S128x128
  have v691 : FVec F S1x128x128 .bf16 := shapeCast S1x128x128 v688 shapeCasts_S128x128_S1x128x128
  Prog.lift (.store A.y (Rect.unit (s := S1x128x2048) ![0, 0, 1664] S1x128x128.size inb_S1x128x2048_S1x128x128_0_0_1664) v691 Finset.univ (View.stores_vmem h_S1x128x128 (A.hy.storeExact_slice rfl _ packedbf16_S1x128x2048_S1x128x128_0_0_1664) (fun _ => rfl)) (.inl rfl))
  let v692 : Vec F S128x128 .f32 ← Prog.lift (.load A.acc (Rect.unit (s := S128x2048) ![0, 1792] S128x128.size inb_S128x2048_S128x128_0_1792).toLoadRect (View.loadsAt_vmem h_S128x128))
  let v693 : Vec F S1x128 .f32 ← Prog.lift (.load A.l (Rect.unit (s := S1x2048) ![0, 1792] S1x128.size inb_S1x2048_S1x128_0_1792).toLoadRect (View.loadsAt_vmem h_S1x128))
  have v694 : FVec F S128x128 .f32 := broadcastTo S128x128 v693 broadcasts_S1x128_S128x128
  have v695 : FVec F S128x128 .f32 := divf v692 v694
  have v696 : FVec F S128x128 .f32 := transpose S128x128 [1, 0] v695 transposes_S128x128_p1_0_S128x128
  have v697 : FVec F S128x128 .bf16 := truncf .bf16 v696 bitsLt_bf16_f32
  let v698 : Vec F S1x128x128 .bf16 ← Prog.lift (.load A.y (Rect.unit (s := S1x128x2048) ![0, 0, 1792] S1x128x128.size inb_S1x128x2048_S1x128x128_0_0_1792).toLoadRect (View.loadsAt_vmem h_S1x128x128))
  have v699 : FVec F S128x128 .bf16 := shapeCast S128x128 v698 shapeCasts_S1x128x128_S128x128
  have v700 : FVec F S1x128x128 .bf16 := shapeCast S1x128x128 v697 shapeCasts_S128x128_S1x128x128
  Prog.lift (.store A.y (Rect.unit (s := S1x128x2048) ![0, 0, 1792] S1x128x128.size inb_S1x128x2048_S1x128x128_0_0_1792) v700 Finset.univ (View.stores_vmem h_S1x128x128 (A.hy.storeExact_slice rfl _ packedbf16_S1x128x2048_S1x128x128_0_0_1792) (fun _ => rfl)) (.inl rfl))
  let v701 : Vec F S128x128 .f32 ← Prog.lift (.load A.acc (Rect.unit (s := S128x2048) ![0, 1920] S128x128.size inb_S128x2048_S128x128_0_1920).toLoadRect (View.loadsAt_vmem h_S128x128))
  let v702 : Vec F S1x128 .f32 ← Prog.lift (.load A.l (Rect.unit (s := S1x2048) ![0, 1920] S1x128.size inb_S1x2048_S1x128_0_1920).toLoadRect (View.loadsAt_vmem h_S1x128))
  have v703 : FVec F S128x128 .f32 := broadcastTo S128x128 v702 broadcasts_S1x128_S128x128
  have v704 : FVec F S128x128 .f32 := divf v701 v703
  have v705 : FVec F S128x128 .f32 := transpose S128x128 [1, 0] v704 transposes_S128x128_p1_0_S128x128
  have v706 : FVec F S128x128 .bf16 := truncf .bf16 v705 bitsLt_bf16_f32
  pure v706

/-- The last head's store. -/
def restL (A : Args) (i : grid0.Coords) (v706 : FVec F S128x128 .bf16) : Pg PUnit := do
  let v707 : Vec F S1x128x128 .bf16 ← Prog.lift (.load A.y (Rect.unit (s := S1x128x2048) ![0, 0, 1920] S1x128x128.size inb_S1x128x2048_S1x128x128_0_0_1920).toLoadRect (View.loadsAt_vmem h_S1x128x128))
  have v708 : FVec F S128x128 .bf16 := shapeCast S128x128 v707 shapeCasts_S1x128x128_S128x128
  have v709 : FVec F S1x128x128 .bf16 := shapeCast S1x128x128 v706 shapeCasts_S128x128_S1x128x128
  Prog.lift (.store A.y (Rect.unit (s := S1x128x2048) ![0, 0, 1920] S1x128x128.size inb_S1x128x2048_S1x128x128_0_0_1920) v709 Finset.univ (View.stores_vmem h_S1x128x128 (A.hy.storeExact_slice rfl _ packedbf16_S1x128x2048_S1x128x128_0_0_1920) (fun _ => rfl)) (.inl rfl))
  pure ⟨⟩

set_option maxRecDepth 65536 in
set_option maxHeartbeats 4000000 in
theorem late_eq (A : Args) (i : grid0.Coords) (v1 : BitVec 32) (hw : k0_chk9 i v1) (ks vs : FVec F S1x128 .bf16) :
    (k0_part70 i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc (BitVec.ofNat 32 (i 0).val) v1 hw (nF v1) (rem v1) (nB v1) ks vs 0#32 >>= rest A i) >>= restL A i
      = late A i v1 hw ks vs := by
  refine (Prog.bind_assoc _ _ _).trans ?_
  refine (Prog.bind_assoc _ _ _).trans ?_
  refine congr (congrArg Prog.bind ?_) (funext fun _ => ?_)
  · refine congrArg (Scf.Loop.for (k0_t1_loop v1) (k0_t1_ok i v1 hw) PUnit.unit) (funext fun k => funext fun _ => ?_)
    exact dite_bind' (fun h2 => startK A i v1 hw k h2) _ (fun _ => rfl) (fun _ => rfl) rfl
  refine (Prog.bind_assoc _ _ _).trans ?_
  refine congr (congrArg Prog.bind ?_) (funext fun _ => ?_)
  · rfl
  exact dite_bind' (fun h4 => tail A i v1 hw ks vs h4) _ (fun _ => rfl) (fun _ => rfl) rfl

set_option maxRecDepth 65536 in
set_option maxHeartbeats 4000000 in
theorem body_eq (A : Args) (i : grid0.Coords) :
    cc0_paged_fp8_gqa i A.pt A.hpt A.sl A.hsl A.sc A.hsc A.x A.hx A.kn A.hkn A.vn A.hvn A.kc A.hkc A.vc A.hvc A.y A.hy A.ko A.hko A.vo A.hvo A.kb A.hkb A.vb A.hvb A.sm A.qt A.hqt A.m A.hm A.l A.hl A.acc A.hacc = kbody (F := F) A i := by
  refine (congrArg (fun P => (P >>= _) >>= restL A i) (part55_eq A i)).trans ?_
  refine congrArg (Prog.op _) (funext fun f1 => ?_)
  refine congrArg (Prog.op _) (funext fun f2 => ?_)
  refine congrArg (Prog.op _) (funext fun f3 => ?_)
  refine congrArg (Prog.op _) (funext fun f4 => ?_)
  refine assoc3 (if h1 : k0_cond1 (f1 (Shape.Idx.first (numel1_S1.symm ▸ Nat.one_pos))) = 1#1 then start0 A i (f1 (Shape.Idx.first (numel1_S1.symm ▸ Nat.one_pos))) h1 else pure ⟨⟩) fun _ => ?_
  unfold early
  rw [← late_eq A i]
  rfl

end Cert.KernelIdeal.Hand
-- ==== Proof.KernelIdeal.Rules.lean ====
/-
  What the pieces of the body do to the buffers they use: one rule per piece, over memrefs owned at named contents.
-/
module

public import proofs.«01_k».proof.Proof.KernelIdeal.Body
public import Idealize.ShloMosaic.Lib.Pipeline.FrameBody
public import Idealize.ShloMosaic.Lib.Batch
public import Idealize.ShloMosaic.Lib.Tactic

@[expose] public section

set_option synthInstance.maxSize 4096

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

/-- The body run on core `c`. -/
abbrev Wp {α : Type} (c : Dev nD) (p : Pg α) (Q : α → sProp 𝕄) : sProp 𝕄 :=
  wp frame (wpE (defs₀ (F := F)) Variants.none (c : Thread nD τ) none) Set.univ p Q

/-- A memref owned whole on core `c`. -/
abbrev Own (c : Dev nD) {sp : Space} {s : Shape} {e : EltTy} (m : Memref sig .tc sp s e) (q : PosShare TreeShare) (X : s.Idx → Elt F e) : sProp 𝕄 :=
  owns (c : Thread nD τ) m q X

variable (c : Dev nD)

/-! ## Putting pieces in a row -/

theorem wp_step {α β : Type} {P : sProp 𝕄} {p : Pg α} {R : α → sProp 𝕄} (h : P ⊢ Wp c p R) {k : α → Pg β} {Q : β → sProp 𝕄} :
    P ⊢ iprop((∀ a, R a -∗ Wp c (k a) Q) -∗ Wp c (p >>= k) Q) := by
  unfold Wp
  rw [wp_bind]
  iintro HP HK
  ihave H := h $$ HP
  iapply (wp_wand_r _ _ _)
  isplitl [H]; · iexact H
  iexact HK

theorem wp_pure {α : Type} (a : α) {Q : α → sProp 𝕄} : Q a ⊢ Wp c (pure a) Q := le_wp_ret _ _ _ a Q

theorem wp_seq {α β : Type} {P : sProp 𝕄} {p : Pg α} {R : α → sProp 𝕄} (h : P ⊢ Wp c p R) {k : α → Pg β} {Q : β → sProp 𝕄}
    (hk : ∀ a, R a ⊢ Wp c (k a) Q) : P ⊢ Wp c (p >>= k) Q := by
  unfold Wp
  rw [wp_bind]
  exact h.trans (wp_mono _ _ _ hk)

theorem wp_fr {α : Type} {P : sProp 𝕄} {p : Pg α} {R : α → sProp 𝕄} (h : P ⊢ Wp c p R) (Fr : sProp 𝕄) :
    iprop(P ∗ Fr) ⊢ Wp c p (fun a => iprop(R a ∗ Fr)) :=
  (sep_mono h .rfl).trans (wp_frame_r _ _ _)

theorem rowFrom_wp (N : ℕ) (f : (t : ℕ) → t < N → Pg PUnit) (I : ℕ → sProp 𝕄)
    (hf : ∀ t (ht : t < N), I t ⊢ Wp c (f t ht) (fun _ => I (t + 1))) :
    ∀ (n t : ℕ) (h : n + t = N), I t ⊢ Wp c (rowFrom N f n t h) (fun _ => I N)
  | 0, t, h => by
    obtain rfl : t = N := by omega
    exact wp_pure c _
  | n + 1, t, h => wp_seq c (hf t (by omega)) fun _ => rowFrom_wp N f I hf n (t + 1) (by omega)

/-! ## Loads and stores -/

section Mem
variable {sp : CoreSpace} {s : Shape} {e : EltTy} {m : Memref sig .tc sp s e} {r : Rect s}

theorem read_store (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact congrFun ((m.access r).read_write_univ (Val := Elt F) f w) i
  · rw [Rect.overlay_of_not_mem _ _ _ hj, View.read_apply, View.read_apply, View.write_of_not_mem]
    show m.view.emb j ∉ (m.view.slice r).set
    rw [View.set_slice, Finset.mem_map' m.view.emb]; exact hj

theorem wp_ld {q : PosShare TreeShare} {X : s.Idx → Elt F e} {hl : m.view.LoadsAt r.toLoadRect} {β : Type} {k : (r.shape.Idx → Elt F e) → Pg β} {Q : β → sProp 𝕄} :
    Own c m q X ⊢ iprop((Own c m q X -∗ Wp c (k fun j => X (r.emb j)) Q) -∗ Wp c (Prog.lift (.load m r.toLoadRect hl) >>= k) Q) := by
  unfold Own owns
  iintro ⟨%f, %hf, H⟩ Hk
  subst hf
  iapply (wp_load_rect (m := m) (r := r) (hl := hl) (k := k) (Q := Q) (defs := defs₀ (F := F)) (S := m.view.set) (q := q) (f := f) Variants.none (c : Thread nD τ) none Set.univ (m.view.set_slice_subset r)) $$ H
  iintro H
  iapply Hk
  iexists f
  isplitr; · ipureintro; rfl
  iexact H

theorem wp_st {X : s.Idx → Elt F e} {w : r.shape.Idx → Elt F e} {hx : (m.access r).Stores Finset.univ} {hm : Finset.univ = Finset.univ ∨ ∀ a, r.stride a = 1}
    {β : Type} {k : PUnit → Pg β} {Q : β → sProp 𝕄} :
    Own c m fullShare X ⊢ iprop((Own c m fullShare (r.overlay X w) -∗ Wp c (k ⟨⟩) Q) -∗ Wp c (Prog.lift (.store m r w Finset.univ hx hm) >>= k) Q) := by
  unfold Own owns
  iintro ⟨%f, %hf, H⟩ Hk
  subst hf
  iapply (wp_store (m := m) (r := r) (w := w) (hx := hx) (hm := hm) (k := k) (Q := Q) (defs := defs₀ (F := F)) (S := m.view.set) (f := f) Variants.none (c : Thread nD τ) none Set.univ (m.view.set_slice_subset r)) $$ H
  iintro H
  iapply Hk
  iexists _
  isplitr; swap; · iexact H
  ipureintro; exact read_store f w

theorem wp_stE {X : s.Idx → Elt F e} {w : r.shape.Idx → Elt F e} {hx : (m.access r).Stores Finset.univ} {hm : Finset.univ = Finset.univ ∨ ∀ a, r.stride a = 1}
    {Q : PUnit → sProp 𝕄} :
    Own c m fullShare X ⊢ iprop((Own c m fullShare (r.overlay X w) -∗ Q ⟨⟩) -∗ Wp c (Prog.lift (.store m r w Finset.univ hx hm)) Q) := by
  iintro H Hk
  iapply (wp_st (w := w) (hx := hx) (hm := hm) c (k := pure) (Q := Q)) $$ H
  iintro H
  iapply (wp_pure c (Q := Q))
  iapply Hk; iexact H

end Mem

theorem wp_smem {s : Shape} {e : EltTy} {m : Memref sig .tc .smem s e} {r : Rect s} {h1 : r.shape.numel = 1} {hp : e.packing = 1} {q : PosShare TreeShare}
    {X : s.Idx → Elt F e} {β : Type} {k : Elt F e → Pg β} {Q : β → sProp 𝕄} :
    Own c m q X ⊢ iprop((Own c m q X -∗ Wp c (k (X (r.emb (Shape.Idx.first (h1.symm ▸ Nat.one_pos))))) Q) -∗ Wp c (smemLoad m r h1 hp >>= k) Q) := by
  unfold Own owns
  iintro ⟨%f, %hf, H⟩ Hk
  subst hf
  iapply (wp_smemLoadElt (m := m) (r := r) (x := Shape.Idx.first (h1.symm ▸ Nat.one_pos)) (k := k) (Q := Q) (defs := defs₀ (F := F)) (hw := View.loads_smem_one hp h1) (S := m.view.set) (q := q) (f := f) Variants.none (c : Thread nD τ) none Set.univ (m.view.set_slice_subset r)) $$ H
  iintro H
  iapply Hk
  iexists f
  isplitr; · ipureintro; rfl
  iexact H

/-! ## The running maximum, sum and weighted values -/

/-- What `m`, `l` and `acc` hold. -/
structure St (F : FTy → Type) where
  m : Vec F S1x2048 .f32
  l : Vec F S1x2048 .f32
  acc : Vec F S128x2048 .f32

/-- A tile's columns. -/
abbrev atT (X : Vec F S128x2048 .f32) (t : ℕ) (ht : t < 8) : Vec F S128x256 .f32 := fun j => X ((rT t ht).emb j)
abbrev atQ (X : Vec F S128x2048 .bf16) (t : ℕ) (ht : t < 8) : Vec F S128x256 .bf16 := fun j => X ((rT t ht).emb j)
abbrev atT1 (X : Vec F S1x2048 .f32) (t : ℕ) (ht : t < 8) : Vec F S1x256 .f32 := fun j => X ((rT1 t ht).emb j)

/-- The state after one tile over 1024 keys. -/
def tileS (mask : FVec F S1024x256 .f32 → FVec F S1024x256 .f32) (k : FVec F S1024x128 .bf16) (vt : FVec F S128x1024 .bf16) (qX : Vec F S128x2048 .bf16)
    (t : ℕ) (ht : t < 8) (st : St F) : St F :=
  have s : FVec F S1024x256 .f32 := mask (matmul dot_S1024x128_S128x256_S1024x256_1_0_0_1_n_n none k (atQ qX t ht) (constant S1024x256 .f32 0x00000000#32))
  have mN : FVec F S1x256 .f32 := maximumf (atT1 st.m t ht) (mx s)
  have p : FVec F S1024x256 .f32 := wt s mN
  { m := (rT1 t ht).overlay st.m (shapeCast S1x256 mN shapeCasts_S1x256_S1x256)
    l := (rT1 t ht).overlay st.l (shapeCast S1x256 (addf (mulf (atT1 st.l t ht) (al (atT1 st.m t ht) mN)) (sm p)) shapeCasts_S1x256_S1x256)
    acc := (rT t ht).overlay st.acc (shapeCast S128x256 (addf (mulf (atT st.acc t ht) (broadcastTo S128x256 (al (atT1 st.m t ht) mN) broadcasts_S1x256_S128x256)) (pv vt p))
      shapeCasts_S128x256_S128x256) }

/-- The state after one tile over the new keys. -/
def tileNS (k : FVec F S128x128 .bf16) (vt : FVec F S128x128 .bf16) (qX : Vec F S128x2048 .bf16) (t : ℕ) (ht : t < 8) (st : St F) : St F :=
  have s : FVec F S128x256 .f32 := causal (matmul dot_S128x128_S128x256_S128x256_1_0_0_1_n_n none k (atQ qX t ht) (constant S128x256 .f32 0x00000000#32))
  have mN : FVec F S1x256 .f32 := mxN s
  have p : FVec F S128x256 .f32 := wtN s mN
  { m := (rT1 t ht).overlay st.m (shapeCast S1x256 mN shapeCasts_S1x256_S1x256)
    l := (rT1 t ht).overlay st.l (shapeCast S1x256 (smN p) shapeCasts_S1x256_S1x256)
    acc := (rT t ht).overlay st.acc (shapeCast S128x256 (pvN vt p) shapeCasts_S128x256_S128x256) }

/-- `f 0`, …, `f (n - 1)` on a state, for `n ≤ N`. -/
def rowS {σ : Type} {N : ℕ} (f : (t : ℕ) → t < N → σ → σ) : ℕ → σ → σ
  | 0, s => s
  | n + 1, s => if h : n < N then f n h (rowS f n s) else rowS f n s

theorem rowS_succ {σ : Type} {N : ℕ} (f : (t : ℕ) → t < N → σ → σ) {n : ℕ} (h : n < N) (s : σ) : rowS f (n + 1) s = f n h (rowS f n s) := dif_pos h

theorem rowS_wp {σ : Type} (N : ℕ) (f : (t : ℕ) → t < N → Pg PUnit) (step : (t : ℕ) → t < N → σ → σ) (R : σ → sProp 𝕄)
    (h : ∀ t (ht : t < N) s, R s ⊢ Wp c (f t ht) (fun _ => R (step t ht s))) (s : σ) :
    R s ⊢ Wp c (rowFrom N f N 0 rfl) (fun _ => R (rowS step N s)) :=
  rowFrom_wp c N f (fun t => R (rowS step t s)) (fun t ht => by rw [rowS_succ _ ht]; exact h t ht _) N 0 rfl

/-- The queries and the state, owned. -/
def Acc (A : Args) (qX : Vec F S128x2048 .bf16) (st : St F) : sProp 𝕄 :=
  iprop(Own c A.qt fullShare qX ∗ Own c A.m fullShare st.m ∗ Own c A.l fullShare st.l ∗ Own c A.acc fullShare st.acc)

theorem tile_wp (A : Args) (mask : FVec F S1024x256 .f32 → FVec F S1024x256 .f32) (k : FVec F S1024x128 .bf16) (vt : FVec F S128x1024 .bf16)
    (qX : Vec F S128x2048 .bf16) (t : ℕ) (ht : t < 8) (st : St F) :
    Acc c A qX st ⊢ Wp c (tile A mask k vt t ht) (fun _ => Acc c A qX (tileS mask k vt qX t ht st)) := by
  unfold Acc tile
  iintro ⟨Hq, Hm, Hl, Ha⟩
  iapply (wp_ld c) $$ Hq; iintro Hq
  iapply (wp_ld c) $$ Hm; iintro Hm
  iapply (wp_ld c) $$ Hm; iintro Hm
  iapply (wp_ld c) $$ Hl; iintro Hl
  iapply (wp_ld c) $$ Hl; iintro Hl
  iapply (wp_st c) $$ Hl; iintro Hl
  iapply (wp_ld c) $$ Ha; iintro Ha
  iapply (wp_ld c) $$ Ha; iintro Ha
  iapply (wp_st c) $$ Ha; iintro Ha
  iapply (wp_ld c) $$ Hm; iintro Hm
  iapply (wp_stE c) $$ Hm; iintro Hm
  isplitl [Hq]; · iexact Hq
  isplitl [Hm]; · iexact Hm
  isplitl [Hl]; · iexact Hl
  iexact Ha

theorem tileN_wp (A : Args) (k : FVec F S128x128 .bf16) (vt : FVec F S128x128 .bf16)
    (qX : Vec F S128x2048 .bf16) (t : ℕ) (ht : t < 8) (st : St F) :
    Acc c A qX st ⊢ Wp c (tileN A k vt t ht) (fun _ => Acc c A qX (tileNS k vt qX t ht st)) := by
  unfold Acc tileN
  iintro ⟨Hq, Hm, Hl, Ha⟩
  iapply (wp_ld c) $$ Hq; iintro Hq
  iapply (wp_ld c) $$ Hl; iintro Hl
  iapply (wp_st c) $$ Hl; iintro Hl
  iapply (wp_ld c) $$ Ha; iintro Ha
  iapply (wp_st c) $$ Ha; iintro Ha
  iapply (wp_ld c) $$ Hm; iintro Hm
  iapply (wp_stE c) $$ Hm; iintro Hm
  isplitl [Hq]; · iexact Hq
  isplitl [Hm]; · iexact Hm
  isplitl [Hl]; · iexact Hl
  iexact Ha

/-! ## Heads -/

def transpS (X : Vec F S1x128x2048 .bf16) (h : ℕ) (hh : h < 16) (q : Vec F S128x2048 .bf16) : Vec F S128x2048 .bf16 :=
  (rH h hh).overlay q (shapeCast S128x128 (transpose S128x128 [1, 0] (shapeCast S128x128 (fun j => X ((rH3 h hh).emb j) : Vec F S1x128x128 .bf16)
    shapeCasts_S1x128x128_S128x128) transposes_S128x128_p1_0_S128x128) shapeCasts_S128x128_S128x128)

theorem transp_wp (A : Args) (q : PosShare TreeShare) (X : Vec F S1x128x2048 .bf16) (h : ℕ) (hh : h < 16) (qX : Vec F S128x2048 .bf16) :
    iprop(Own c A.x q X ∗ Own c A.qt fullShare qX) ⊢ Wp c (transp A h hh) (fun _ => iprop(Own c A.x q X ∗ Own c A.qt fullShare (transpS X h hh qX))) := by
  unfold transp
  iintro ⟨Hx, Hq⟩
  iapply (wp_ld c) $$ Hx; iintro Hx
  iapply (wp_ld c) $$ Hq; iintro Hq
  iapply (wp_stE c) $$ Hq; iintro Hq
  isplitl [Hx]; · iexact Hx
  iexact Hq

def outS (st : St F) (h : ℕ) (hh : h < 16) (y : Vec F S1x128x2048 .bf16) : Vec F S1x128x2048 .bf16 :=
  (rH3 h hh).overlay y (shapeCast S1x128x128 (truncf .bf16 (transpose S128x128 [1, 0] (divf (fun j => st.acc ((rH h hh).emb j) : Vec F S128x128 .f32)
    (broadcastTo S128x128 (fun j => st.l ((rH1 h hh).emb j) : Vec F S1x128 .f32) broadcasts_S1x128_S128x128)) transposes_S128x128_p1_0_S128x128)
      bitsLt_bf16_f32) shapeCasts_S128x128_S1x128x128)

theorem outH_wp (A : Args) (qX : Vec F S128x2048 .bf16) (st : St F) (h : ℕ) (hh : h < 16) (y : Vec F S1x128x2048 .bf16) :
    iprop(Acc c A qX st ∗ Own c A.y fullShare y) ⊢ Wp c (outH A h hh) (fun _ => iprop(Acc c A qX st ∗ Own c A.y fullShare (outS st h hh y))) := by
  unfold Acc outH
  iintro ⟨⟨Hq, Hm, Hl, Ha⟩, Hy⟩
  iapply (wp_ld c) $$ Ha; iintro Ha
  iapply (wp_ld c) $$ Hl; iintro Hl
  iapply (wp_ld c) $$ Hy; iintro Hy
  iapply (wp_stE c) $$ Hy; iintro Hy
  isplitr [Hy]
  · isplitl [Hq]; · iexact Hq
    isplitl [Hm]; · iexact Hm
    isplitl [Hl]; · iexact Hl
    iexact Ha
  iexact Hy

/-! ## The new tokens -/

/-- A word of the scalars. -/
def scAt (X : Vec F S4 .f32) (p : ℕ) (h : ∀ a, (![p] : Fin 1 → ℕ) a + S1.size a ≤ S4.size a) : F .f32 :=
  X ((Rect.unit (s := S4) ![p] S1.size h).emb (Shape.Idx.first (numel1_S1.symm ▸ Nat.one_pos)))

def codesS (x : Vec F S1x128x128 .bf16) (s : F .f32) (o : Vec F S1x128x128 .fp8e4m3) : Vec F S1x128x128 .fp8e4m3 :=
  rK.overlay o (shapeCast S1x128x128 (codes (fun j => x (rK.emb j)) s) shapeCasts_S128x128_S1x128x128)

/-- The state after the new tokens. -/
def newS (ks vs : FVec F S1x128 .bf16) (sX : Vec F S4 .f32) (kX vX : Vec F S1x128x128 .bf16) (qX : Vec F S128x2048 .bf16) : St F → St F :=
  rowS (N := 8) (tileNS (deq (codes (fun j => kX (rK.emb j)) (scAt sX 0 inb_S4_S1_0)) ks)
    (transpose S128x128 [1, 0] (deq (codes (fun j => vX (rK.emb j)) (scAt sX 1 inb_S4_S1_1)) vs) transposes_S128x128_p1_0_S128x128) qX) 8

theorem newTok_wp (A : Args) (ks vs : FVec F S1x128 .bf16) (q0 q1 q2 : PosShare TreeShare) (sX : Vec F S4 .f32) (kX vX : Vec F S1x128x128 .bf16)
    (qX : Vec F S128x2048 .bf16) (st : St F) (ko vo : Vec F S1x128x128 .fp8e4m3) :
    iprop(Acc c A qX st ∗ Own c A.sc q0 sX ∗ Own c A.kn q1 kX ∗ Own c A.vn q2 vX ∗ Own c A.ko fullShare ko ∗ Own c A.vo fullShare vo)
      ⊢ Wp c (newTok A ks vs) (fun _ => iprop(Acc c A qX (newS ks vs sX kX vX qX st) ∗ Own c A.sc q0 sX ∗ Own c A.kn q1 kX ∗ Own c A.vn q2 vX
        ∗ Own c A.ko fullShare (codesS kX (scAt sX 0 inb_S4_S1_0) ko) ∗ Own c A.vo fullShare (codesS vX (scAt sX 1 inb_S4_S1_1) vo))) := by
  unfold newTok
  iintro ⟨HA, Hs, Hk, Hv, Hko, Hvo⟩
  iapply (wp_smem c) $$ Hs; iintro Hs
  iapply (wp_ld c) $$ Hk; iintro Hk
  iapply (wp_ld c) $$ Hko; iintro Hko
  iapply (wp_st c) $$ Hko; iintro Hko
  iapply (wp_smem c) $$ Hs; iintro Hs
  iapply (wp_ld c) $$ Hv; iintro Hv
  iapply (wp_ld c) $$ Hvo; iintro Hvo
  iapply (wp_st c) $$ Hvo; iintro Hvo
  ihave H := (rowS_wp c 8 _ _ (Acc c A qX) (fun t ht st => tileN_wp c A (deq (codes (fun j => kX (rK.emb j)) (scAt sX 0 inb_S4_S1_0)) ks)
    (transpose S128x128 [1, 0] (deq (codes (fun j => vX (rK.emb j)) (scAt sX 1 inb_S4_S1_1)) vs) transposes_S128x128_p1_0_S128x128) qX t ht st) st) $$ HA
  iapply (wp_wand_r _ _ _)
  isplitl [H]; · iexact H
  iintro %_ HA
  isplitl [HA]; · iexact HA
  isplitl [Hs]; · iexact Hs
  isplitl [Hk]; · iexact Hk
  isplitl [Hv]; · iexact Hv
  isplitl [Hko]; · iexact Hko
  iexact Hvo

end Cert.KernelIdeal.Hand
-- ==== Proof.KernelIdeal.Dma.lean ====
/-
  The blocks of pages: a slot of the two buffers is free, or its eight pages are on their way. Starting a block, waiting
  for one, and reading the slot it landed in.
-/
module

public import proofs.«01_k».proof.Proof.KernelIdeal.Rules

@[expose] public section

set_option synthInstance.maxSize 4096

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

variable (c : Dev nD)

/-- The points-to of a memref's elements. -/
abbrev Pt {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f
/-- The points-to of a cache's elements outside a page. -/
abbrev PtOff (m : Memref sig .tc .hbm S8192x128x128 .fp8e4m3) (w : BitVec 32) (hw : PageOk w) (q : PosShare TreeShare)
    (f : Buf (Elt F) (m.view.loc (c : Thread nD τ))) : sProp 𝕄 :=
  m.view.loc (c : Thread nD τ) ↦[m.view.set \ (cPage m (offC w) hw.hc).view.set]{q} f

theorem cPage_subset (m : Memref sig .tc .hbm S8192x128x128 .fp8e4m3) (w : BitVec 32) (hw : PageOk w) :
    (cPage m (offC w) hw.hc).view.set ⊆ m.view.set := by
  rw [Memref.set_view_squeeze]; exact m.view.set_slice_subset _

theorem split_c (m : Memref sig .tc .hbm S8192x128x128 .fp8e4m3) (w : BitVec 32) (hw : PageOk w) (q : PosShare TreeShare)
    (f : Buf (Elt F) (m.view.loc (c : Thread nD τ))) :
    Pt c m q f ⊢ iprop(Pt c (cPage m (offC w) hw.hc) q f ∗ PtOff c m w hw q f) :=
  (pointsTo_split_subset (cPage_subset m w hw)).1
theorem join_c (m : Memref sig .tc .hbm S8192x128x128 .fp8e4m3) (w : BitVec 32) (hw : PageOk w) (q : PosShare TreeShare)
    (f : Buf (Elt F) (m.view.loc (c : Thread nD τ))) :
    iprop(Pt c (cPage m (offC w) hw.hc) q f ∗ PtOff c m w hw q f) ⊢ Pt c m q f :=
  (pointsTo_split_subset (cPage_subset m w hw)).2

/-- The units one page's transfer counts. -/
abbrev unitsB (B : Memref sig .tc .vmem S2x1024x128 .fp8e4m3) : ℕ := B.view.ref.dmaCredit S128x128 .fp8e4m3

section Side
variable (C : Memref sig .tc .hbm S8192x128x128 .fp8e4m3) (B : Memref sig .tc .vmem S2x1024x128 .fp8e4m3)
  (s : BitVec 32) (hs : SlotOk s) (q : PosShare TreeShare) (f : Buf (Elt F) (C.view.loc (c : Thread nD τ)))
  (ws : Fin 8 → BitVec 32) (hw : ∀ t, PageOk (ws t))

/-- What transfer `t` leaves: its page of the slot at the pool's page, and its part of the pool back. -/
def deliv (t : Fin 8) : sProp 𝕄 :=
  iprop(Own c (bPage B (offB s t) (hs.hb t t.2)) fullShare ((cPage C (offC (ws t)) (hw t).hc).view.read (Elt F) f)
    ∗ Pt c (cPage C (offC (ws t)) (hw t).hc) (Transfers.shareTok q 8 t) f)
instance deliv_storable (t : Fin 8) : Storable (upEmb : UEmb _ 𝕄) (deliv c C B s hs q f ws hw t) := by
  unfold deliv; infer_instance

/-- Before transfer `t` is issued: its page of the slot, and a token of the pool. -/
def todo (t : Fin 8) : sProp 𝕄 :=
  iprop((∃ g, Pt c (bPage B (offB s t) (hs.hb t t.2)) fullShare g) ∗ Pt c C (Transfers.shareTok q 8 t) f)
/-- After: the token's rest. -/
def done (t : Fin 8) : sProp 𝕄 := PtOff c C (ws t) (hw t) (Transfers.shareTok q 8 t) f

/-- A slot's eight pages, at anything. -/
def pages : sProp 𝕄 := bigSep Finset.univ fun t : Fin 8 => iprop(∃ g, Pt c (bPage B (offB s t) (hs.hb t t.2)) fullShare g)

abbrev Bt (sem : DmaSem sig) (j u : ℕ) : sProp 𝕄 :=
  Transfers.Batch (countersEmb (U := Pipeline.UD sig nD τ)) (c : Thread nD τ) (.dma sem) () (unitsB B) (deliv c C B s hs q f ws hw) j u

/-- `p` of the eight transfers issued. -/
def issued (sem : DmaSem sig) (p : ℕ) : sProp 𝕄 :=
  iprop(Bt c C B s hs q f ws hw sem p 0
    ∗ bigSep Finset.univ (fun t : Fin 8 => if t.val < p then done c C q f ws hw t else todo c C B s hs q f t))

theorem bigSep_at {Φ Ψ : Fin 8 → sProp 𝕄} (t : Fin 8) (h : ∀ t', t' ≠ t → Φ t' = Ψ t') :
    bigSep Finset.univ Φ ⊢ iprop(Φ t ∗ (Ψ t -∗ bigSep Finset.univ Ψ)) := by
  rw [bigSep_univ_split t (Φ := Φ), bigSep_univ_split t (Φ := Ψ)]
  have e : bigSep (Finset.univ.erase t) Φ = bigSep (Finset.univ.erase t) Ψ := bigSep_congr fun t' ht' => h t' (Finset.ne_of_mem_erase ht')
  rw [e]
  change iprop(Φ t ∗ bigSep (Finset.univ.erase t) Ψ) ⊢ iprop(Φ t ∗ (Ψ t -∗ (Ψ t ∗ bigSep (Finset.univ.erase t) Ψ)))
  iintro ⟨H, Hr⟩
  isplitl [H]; · iexact H
  iintro H'
  isplitl [H']; · iexact H'
  iexact Hr

theorem enq_one (sem : DmaSem sig) (p : ℕ) (hp : p < 8) (hc : (cPage C (offC (ws ⟨p, hp⟩)) (hw ⟨p, hp⟩).hc).view.WordExact)
    (hb : (bPage B (offB s p) (hs.hb p hp)).view.WordExact) (hsem) {β : Type} {k : PUnit → Pg β} {Q : β → sProp 𝕄} :
    issued c C B s hs q f ws hw sem p
      ⊢ iprop((issued c C B s hs q f ws hw sem (p + 1) -∗ Wp c (k ⟨⟩) Q)
        -∗ Wp c (Prog.lift (.enqueueDma (cPage C (offC (ws ⟨p, hp⟩)) (hw ⟨p, hp⟩).hc) (.here (bPage B (offB s p) (hs.hb p hp))) (.dma sem) hc hb hsem) >>= k) Q) := by
  unfold issued
  iintro ⟨HB, HS⟩ Hk
  ihave HS' := (bigSep_at (Ψ := fun t : Fin 8 => if t.val < p + 1 then done c C q f ws hw t else todo c C B s hs q f t) ⟨p, hp⟩ (fun t' ht' => by
    have : t'.val ≠ p := fun e => ht' (Fin.ext e)
    by_cases h : t'.val < p
    · rw [if_pos h, if_pos (by omega)]
    · rw [if_neg h, if_neg (by omega)])) $$ HS
  rw [if_neg (show ¬ ((⟨p, hp⟩ : Fin 8).val < p) from lt_irrefl p), if_pos (show ((⟨p, hp⟩ : Fin 8).val < p + 1) from Nat.lt_succ_self p)]
  icases HS' with ⟨Ht, HS⟩
  unfold todo
  icases Ht with ⟨⟨%g, Hg⟩, Ht⟩
  ihave Ht' := (split_c c C (ws ⟨p, hp⟩) (hw ⟨p, hp⟩) (Transfers.shareTok q 8 ⟨p, hp⟩) f) $$ Ht
  icases Ht' with ⟨Hs, Hr⟩
  iapply (Transfers.wp_dmaBatch (EC := countersEmb (U := Pipeline.UD sig nD τ)) (defs := defs₀ (F := F)) Variants.none (c : Thread nD τ) none
    (src := cPage C (offC (ws ⟨p, hp⟩)) (hw ⟨p, hp⟩).hc) (dst := bPage B (offB s p) (hs.hb p hp)) (via := .same) (sm := .dma sem) (hsrc := hc) (hdst := hb) (hsem := hsem)
    (k := k) (Q := Q) (q := Transfers.shareTok q 8 ⟨p, hp⟩) (fs := f) (Sd := (bPage B (offB s p) (hs.hb p hp)).view.set) (fd := g) (D := deliv c C B s hs q f ws hw) (j := p) (u := 0)
    () (unitsB B) rfl (Finset.Subset.refl _) hp (Nat.zero_le _) (by
      unfold deliv
      iintro ⟨H1, H2⟩
      isplitr [H2]
      · unfold Own owns
        iexists _
        isplitr; swap; · iexact H1
        ipureintro; exact View.read_write_univ _ _
      · iexact H2)) $$ [HB Hs Hg]
  · isplitl [Hs]; · iexact Hs
    isplitl [Hg]; · iexact Hg
    iexact HB
  iintro HB
  iapply Hk
  isplitl [HB]; · iexact HB
  iapply HS
  unfold done
  iexact Hr

/-- A side of a slot nothing is under way in. -/
def freeSide (sem : DmaSem sig) : sProp 𝕄 := iprop(semVal ((c : Thread nD τ), .dma sem) 0 ∗ pages c B s hs ∗ Pt c C q f)

/-- All eight under way. -/
def flightSide (sem : DmaSem sig) : sProp 𝕄 := iprop(issued c C B s hs q f ws hw sem 8 ∗ Pt c C (Transfers.shareDrop q 8) f)

theorem start_side (sem : DmaSem sig) :
    freeSide c C B s hs q f sem ⊢ |={Set.univ}=> iprop(issued c C B s hs q f ws hw sem 0 ∗ Pt c C (Transfers.shareDrop q 8) f) := by
  unfold freeSide issued
  iintro ⟨Hv, Hp, Hc⟩
  imod (Transfers.batch_alloc' (countersEmb (U := Pipeline.UD sig nD τ)) (c : Thread nD τ) () (unitsB B) (deliv c C B s hs q f ws hw) (sm := .dma sem) (E := Set.univ)) $$ Hv with HB
  ihave Hc' := (Transfers.pointsTo_toks_split q 8) $$ Hc
  icases Hc' with ⟨Hd, Ht⟩
  imodintro
  isplitr [Hd]; swap; · iexact Hd
  isplitl [HB]; · iexact HB
  have e : bigSep Finset.univ (fun t : Fin 8 => if t.val < 0 then done c C q f ws hw t else todo c C B s hs q f t)
      = iprop(pages c B s hs ∗ bigSep Finset.univ fun t : Fin 8 => Pt c C (Transfers.shareTok q 8 t) f) := by
    unfold pages
    refine (bigSep_congr (Ψ := fun t : Fin 8 => todo c C B s hs q f t) fun t _ => ?_).trans ?_
    · rw [if_neg (Nat.not_lt_zero _)]
    · unfold todo; exact bigSep_sep _ _ _
  iapply (Entails.of_eq e.symm)
  isplitl [Hp]; · iexact Hp
  iexact Ht

/-- `p` of the eight waited for. -/
def waited (sem : DmaSem sig) (p : ℕ) : sProp 𝕄 :=
  if p < 8 then Bt c C B s hs q f ws hw sem 8 (p * unitsB B)
  else iprop(bigSep Finset.univ (deliv c C B s hs q f ws hw) ∗ semVal ((c : Thread nD τ), .dma sem) 0)

theorem flight_waited (sem : DmaSem sig) :
    flightSide c C B s hs q f ws hw sem ⊢ iprop(waited c C B s hs q f ws hw sem 0 ∗ bigSep Finset.univ (done c C q f ws hw) ∗ Pt c C (Transfers.shareDrop q 8) f) := by
  unfold flightSide issued waited
  rw [if_pos (by decide : 0 < 8), Nat.zero_mul]
  iintro ⟨⟨HB, HS⟩, Hd⟩
  isplitl [HB]; · iexact HB
  isplitl [HS]
  · have e : bigSep Finset.univ (fun t : Fin 8 => if t.val < 8 then done c C q f ws hw t else todo c C B s hs q f t) = bigSep Finset.univ (done c C q f ws hw) :=
      bigSep_congr fun t _ => if_pos t.2
    iapply (Entails.of_eq e); iexact HS
  · iexact Hd

/-- The eight pages landed. -/
def landed (sem : DmaSem sig) : sProp 𝕄 :=
  iprop((bigSep Finset.univ fun t : Fin 8 => Own c (bPage B (offB s t) (hs.hb t t.2)) fullShare ((cPage C (offC (ws t)) (hw t).hc).view.read (Elt F) f))
    ∗ semVal ((c : Thread nD τ), .dma sem) 0 ∗ Pt c C q f)

theorem waited_landed (sem : DmaSem sig) :
    iprop(waited c C B s hs q f ws hw sem 8 ∗ bigSep Finset.univ (done c C q f ws hw) ∗ Pt c C (Transfers.shareDrop q 8) f) ⊢ landed c C B s hs q f ws hw sem := by
  unfold waited landed
  rw [if_neg (by decide : ¬ 8 < 8)]
  iintro ⟨⟨HD, Hv⟩, HS, Hd⟩
  have e : bigSep Finset.univ (deliv c C B s hs q f ws hw)
      = iprop((bigSep Finset.univ fun t : Fin 8 => Own c (bPage B (offB s t) (hs.hb t t.2)) fullShare ((cPage C (offC (ws t)) (hw t).hc).view.read (Elt F) f))
        ∗ bigSep Finset.univ fun t : Fin 8 => Pt c (cPage C (offC (ws t)) (hw t).hc) (Transfers.shareTok q 8 t) f) := by
    unfold deliv; exact bigSep_sep _ _ _
  ihave HD := (Entails.of_eq e) $$ HD
  icases HD with ⟨HP, HC⟩
  isplitl [HP]; · iexact HP
  isplitl [Hv]; · iexact Hv
  have e2 : iprop((bigSep Finset.univ fun t : Fin 8 => Pt c (cPage C (offC (ws t)) (hw t).hc) (Transfers.shareTok q 8 t) f) ∗ bigSep Finset.univ (done c C q f ws hw))
      ⊢ bigSep Finset.univ fun t : Fin 8 => Pt c C (Transfers.shareTok q 8 t) f := by
    refine (Entails.of_eq (bigSep_sep _ _ _).symm).trans ?_
    exact bigSep_mono fun t _ => join_c c C (ws t) (hw t) _ f
  iapply (Transfers.pointsTo_toks_join q 8)
  isplitl [Hd]; · iexact Hd
  iapply e2
  isplitl [HC]; · iexact HC
  iexact HS

/-- Some waits are recorded; nothing is owed. -/
def owed : sProp 𝕄 := iprop(∃ W, owes (c : Thread nD τ) 0 W)

theorem wait_one (sem : DmaSem sig) (p : ℕ) (hp : p < 8) {sp' : Space} {src : Memref sig .tc sp' S128x128 .fp8e4m3} {hc : src.view.WordExact}
    {hb : (bPage B (offB s p) (hs.hb p hp)).view.WordExact} {β : Type} {k : PUnit → Pg β} {Q : β → sProp 𝕄} :
    iprop(waited c C B s hs q f ws hw sem p ∗ owed c)
      ⊢ iprop((iprop(waited c C B s hs q f ws hw sem (p + 1) ∗ owed c) -∗ Wp c (k ⟨⟩) Q)
        -∗ Wp c (Prog.lift (.waitDma2 sem src (bPage B (offB s p) (hs.hb p hp)) hc hb) >>= k) Q) := by
  have h0 : 0 < unitsB B := View.dmaCredit_pos (bPage B (offB s p) (hs.hb p hp)).view (by decide)
  unfold waited owed
  rw [if_pos hp]
  iintro ⟨HB, ⟨%W, HW⟩⟩ Hk
  by_cases h : p + 1 < 8
  · rw [if_pos h]
    iapply (Transfers.wp_waitBatch (countersEmb (U := Pipeline.UD sig nD τ)) (defs := defs₀ (F := F)) Variants.none (c : Thread nD τ) none
      (sem := sem) (srcw := src) (dstw := bPage B (offB s p) (hs.hb p hp)) (hsrc := hc) (hdst := hb) (k := k) (Q := Q)
      () (N := unitsB B) rfl (D := deliv c C B s hs q f ws hw) (u := p * unitsB B) (by nlinarith) (W := W)) $$ [HB HW]
    · isplitl [HB]; · iexact HB
      iexact HW
    iintro ⟨HB, HW⟩
    iapply Hk
    isplitl [HB]
    · rw [show (p + 1) * unitsB B = p * unitsB B + unitsB B by ring]; iexact HB
    iexists _; iexact HW
  · obtain rfl : p = 7 := by omega
    rw [if_neg h]
    iapply (Transfers.wp_waitBatchLast (countersEmb (U := Pipeline.UD sig nD τ)) (defs := defs₀ (F := F)) Variants.none (c : Thread nD τ) none
      (sem := sem) (srcw := src) (dstw := bPage B (offB s 7) (hs.hb 7 hp)) (hsrc := hc) (hdst := hb) (k := k) (Q := Q)
      () (N := unitsB B) rfl h0 (D := deliv c C B s hs q f ws hw) (u := 7 * unitsB B) (by ring) (W := W)) $$ [HB HW]
    · isplitl [HB]; · iexact HB
      iexact HW
    iintro ⟨HD, Hv, HW⟩
    iapply Hk
    isplitr [HW]
    · isplitl [HD]; · iexact HD
      iexact Hv
    iexists _; iexact HW

end Side

/-! ## A block -/

/-- The word of the page table a rectangle of one element names. -/
def wordAt (X : Vec F S8x1024 .i32) (off : Fin 2 → ℕ) (h : ∀ a, off a + S1x1.size a ≤ S8x1024.size a) : BitVec 32 :=
  X ((Rect.unit (s := S8x1024) off S1x1.size h).emb (Shape.Idx.first (numel1_S1x1.symm ▸ Nat.one_pos)))

variable (A : Args)

theorem ldWord_wp {q : PosShare TreeShare} {X : Vec F S8x1024 .i32} {off : Fin 2 → ℕ} {h : ∀ a, off a + S1x1.size a ≤ S8x1024.size a} {P : BitVec 32 → Prop}
    {dec : ∀ w, Decidable (P w)} (hp : P (wordAt X off h)) {β : Type} {k : (Σ' w : Elt F .i32, P w) → Pg β} {Q : β → sProp 𝕄} :
    Own c A.pt q X ⊢ iprop((Own c A.pt q X -∗ Wp c (k ⟨wordAt X off h, hp⟩) Q) -∗ Wp c (ldWord (F := F) A off h P dec >>= k) Q) := by
  have e : (ldWord (F := F) A off h P dec >>= k)
      = (smemLoad A.pt (Rect.unit (s := S8x1024) off S1x1.size h) numel1_S1x1 rfl : Pg (Elt F .i32)) >>= fun w =>
          (.op (.assume (P w) (dec w)) fun h' : PLift (P w) => k ⟨w, h'.down⟩ : Pg β) := by
    unfold ldWord
    exact Prog.bind_assoc _ _ _
  rw [e]
  iintro H Hk
  iapply (wp_smem c) $$ H; iintro H
  iapply (wp_assume (k := fun h' : PLift (P (wordAt X off h)) => k ⟨wordAt X off h, h'.down⟩) (Q := Q) Variants.none (c : Thread nD τ) none Set.univ hp)
  iapply Hk
  iexact H

theorem block_wp {q : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (f : (w : BitVec 32) → PageOk w → (p : ℕ) → p < 8 → Pg PUnit) (hp : ∀ p hp, P (wordAt X (offW p) (hW p hp)))
    (I : ℕ → sProp 𝕄) (hf : ∀ p hp hw, I p ⊢ Wp c (f (wordAt X (offW p) (hW p hp)) hw p hp) (fun _ => I (p + 1))) :
    iprop(Own c A.pt q X ∗ I 0) ⊢ Wp c (block (F := F) A offW hW P dec hP f) (fun _ => iprop(Own c A.pt q X ∗ I 8)) := by
  unfold block
  iintro ⟨H, HI⟩
  iapply (ldWord_wp c A (hp 0 (by decide))) $$ H; iintro H
  iapply (ldWord_wp c A (hp 1 (by decide))) $$ H; iintro H
  iapply (ldWord_wp c A (hp 2 (by decide))) $$ H; iintro H
  iapply (ldWord_wp c A (hp 3 (by decide))) $$ H; iintro H
  iapply (ldWord_wp c A (hp 4 (by decide))) $$ H; iintro H
  iapply (ldWord_wp c A (hp 5 (by decide))) $$ H; iintro H
  iapply (ldWord_wp c A (hp 6 (by decide))) $$ H; iintro H
  iapply (ldWord_wp c A (hp 7 (by decide))) $$ H; iintro H
  iapply (wp_step c (hf 0 _ _)) $$ HI; iintro %_ HI
  iapply (wp_step c (hf 1 _ _)) $$ HI; iintro %_ HI
  iapply (wp_step c (hf 2 _ _)) $$ HI; iintro %_ HI
  iapply (wp_step c (hf 3 _ _)) $$ HI; iintro %_ HI
  iapply (wp_step c (hf 4 _ _)) $$ HI; iintro %_ HI
  iapply (wp_step c (hf 5 _ _)) $$ HI; iintro %_ HI
  iapply (wp_step c (hf 6 _ _)) $$ HI; iintro %_ HI
  iapply (wp_wand_r _ _ _)
  isplitl [HI]; · iapply (hf 7 _ _) $$ HI
  iintro %_ HI
  isplitl [H]; · iexact H
  iexact HI

section Slot
variable (s : BitVec 32) (hs : SlotOk s) (q qv : PosShare TreeShare) (fk : Buf (Elt F) (A.kc.view.loc (c : Thread nD τ))) (fv : Buf (Elt F) (A.vc.view.loc (c : Thread nD τ)))
  (ws : Fin 8 → BitVec 32) (hw : ∀ t, PageOk (ws t))

abbrev semK : DmaSem sig := cell A (offS s 0) (hs.hs 0 (by decide))
abbrev semV : DmaSem sig := cell A (offS s 1) (hs.hs 1 (by decide))

/-- A slot nothing is under way in, with what its transfers take of the pools. -/
def Free : sProp 𝕄 := iprop(freeSide c A.kc A.kb s hs q fk (semK A s hs) ∗ freeSide c A.vc A.vb s hs qv fv (semV A s hs))
/-- A slot whose block is under way. -/
def Flight : sProp 𝕄 := iprop(flightSide c A.kc A.kb s hs q fk ws hw (semK A s hs) ∗ flightSide c A.vc A.vb s hs qv fv ws hw (semV A s hs))
/-- A slot whose block has landed. -/
def Landed : sProp 𝕄 := iprop(landed c A.kc A.kb s hs q fk ws hw (semK A s hs) ∗ landed c A.vc A.vb s hs qv fv ws hw (semV A s hs))

def Issued (p : ℕ) : sProp 𝕄 := iprop(issued c A.kc A.kb s hs q fk ws hw (semK A s hs) p ∗ issued c A.vc A.vb s hs qv fv ws hw (semV A s hs) p)
def Waited (p : ℕ) : sProp 𝕄 := iprop(waited c A.kc A.kb s hs q fk ws hw (semK A s hs) p ∗ waited c A.vc A.vb s hs qv fv ws hw (semV A s hs) p ∗ owed c)

theorem enq_wp (p : ℕ) (hp : p < 8) (w : BitVec 32) (hw' : PageOk w) (e : w = ws ⟨p, hp⟩) :
    Issued c A s hs q qv fk fv ws hw p ⊢ Wp c (enq A s hs w hw' p hp) (fun _ => Issued c A s hs q qv fk fv ws hw (p + 1)) := by
  subst e
  unfold Issued enq
  iintro ⟨HK, HV⟩
  iapply (enq_one c A.kc A.kb s hs q fk ws hw (semK A s hs) p hp _ _ _) $$ HK; iintro HK
  iapply (enq_one c A.vc A.vb s hs qv fv ws hw (semV A s hs) p hp _ _ _ (k := pure)) $$ HV; iintro HV
  iapply (wp_pure c)
  isplitl [HK]; · iexact HK
  iexact HV

theorem wait_wp (p : ℕ) (hp : p < 8) (w : BitVec 32) (hw' : PageOk w) :
    Waited c A s hs q qv fk fv ws hw p ⊢ Wp c (wait A s hs w hw' p hp) (fun _ => Waited c A s hs q qv fk fv ws hw (p + 1)) := by
  unfold Waited wait
  iintro ⟨HK, HV, HO⟩
  iapply (wait_one c A.kc A.kb s hs q fk ws hw (semK A s hs) p hp) $$ [HK HO]
  · isplitl [HK]; · iexact HK
    iexact HO
  iintro ⟨HK, HO⟩
  iapply (wait_one c A.vc A.vb s hs qv fv ws hw (semV A s hs) p hp (k := pure)) $$ [HV HO]
  · isplitl [HV]; · iexact HV
    iexact HO
  iintro ⟨HV, HO⟩
  iapply (wp_pure c)
  isplitl [HK]; · iexact HK
  isplitl [HV]; · iexact HV
  iexact HO

/-- Starting a block. -/
theorem start_block {qp : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (hp : ∀ p hp, P (wordAt X (offW p) (hW p hp))) (he : ∀ p hp, wordAt X (offW p) (hW p hp) = ws ⟨p, hp⟩) :
    iprop(Own c A.pt qp X ∗ Free c A s hs q qv fk fv)
      ⊢ Wp c (block (F := F) A offW hW P dec hP (enq A s hs)) (fun _ => iprop(Own c A.pt qp X ∗ Flight c A s hs q qv fk fv ws hw)) := by
  unfold Free
  iintro ⟨H, HK, HV⟩
  imod (start_side c A.kc A.kb s hs q fk ws hw (semK A s hs)) $$ HK with ⟨HK, HKd⟩
  imod (start_side c A.vc A.vb s hs qv fv ws hw (semV A s hs)) $$ HV with ⟨HV, HVd⟩
  ihave H' := (block_wp c A (q := qp) (X := X) offW hW P dec hP (enq A s hs) hp (Issued c A s hs q qv fk fv ws hw)
    (fun p hp hw' => enq_wp c A s hs q qv fk fv ws hw p hp _ hw' (he p hp))) $$ [H HK HV]
  · isplitl [H]; · iexact H
    unfold Issued
    isplitl [HK]; · iexact HK
    iexact HV
  iapply (wp_wand_r _ _ _)
  isplitl [H']; · iexact H'
  iintro %_ ⟨H, HI⟩
  isplitl [H]; · iexact H
  unfold Issued Flight flightSide
  icases HI with ⟨HK, HV⟩
  isplitl [HK HKd]
  · isplitl [HK]; · iexact HK
    iexact HKd
  · isplitl [HV]; · iexact HV
    iexact HVd

/-- Waiting for a block. -/
theorem wait_block {qp : PosShare TreeShare} {X : Vec F S8x1024 .i32} (offW : ℕ → Fin 2 → ℕ) (hW : ∀ p, p < 8 → ∀ a, offW p a + S1x1.size a ≤ S8x1024.size a)
    (P : BitVec 32 → Prop) (dec : ∀ w, Decidable (P w)) (hP : ∀ w, P w → PageOk w)
    (hp : ∀ p hp, P (wordAt X (offW p) (hW p hp))) :
    iprop(Own c A.pt qp X ∗ Flight c A s hs q qv fk fv ws hw ∗ owed c)
      ⊢ Wp c (block (F := F) A offW hW P dec hP (wait A s hs)) (fun _ => iprop(Own c A.pt qp X ∗ Landed c A s hs q qv fk fv ws hw ∗ owed c)) := by
  unfold Flight
  iintro ⟨H, ⟨HK, HV⟩, HO⟩
  ihave HK := (flight_waited c A.kc A.kb s hs q fk ws hw (semK A s hs)) $$ HK
  ihave HV := (flight_waited c A.vc A.vb s hs qv fv ws hw (semV A s hs)) $$ HV
  icases HK with ⟨HK, HKr⟩
  icases HV with ⟨HV, HVr⟩
  ihave H' := (block_wp c A (q := qp) (X := X) offW hW P dec hP (wait A s hs) hp (Waited c A s hs q qv fk fv ws hw)
    (fun p hp hw' => wait_wp c A s hs q qv fk fv ws hw p hp _ hw')) $$ [H HK HV HO]
  · isplitl [H]; · iexact H
    unfold Waited
    isplitl [HK]; · iexact HK
    isplitl [HV]; · iexact HV
    iexact HO
  iapply (wp_wand_r _ _ _)
  isplitl [H']; · iexact H'
  iintro %_ ⟨H, HI⟩
  isplitl [H]; · iexact H
  unfold Waited Landed
  icases HI with ⟨HK, HV, HO⟩
  isplitr [HO]; swap; · iexact HO
  isplitl [HK HKr]
  · iapply (waited_landed c A.kc A.kb s hs q fk ws hw (semK A s hs))
    isplitl [HK]; · iexact HK
    iexact HKr
  · iapply (waited_landed c A.vc A.vb s hs qv fv ws hw (semV A s hs))
    isplitl [HV]; · iexact HV
    iexact HVr

end Slot

end Cert.KernelIdeal.Hand
-- ==== Proof.KernelIdeal.Slot.lean ====
/-
  A slot of a buffer is the union of its eight pages: owned page by page, or as one. Attending over a slot.
-/
module

public import proofs.«01_k».proof.Proof.KernelIdeal.Dma
public import Idealize.ShloMosaic.Lib.ValueIdxCore
public import Idealize.ShloMosaic.Lib.Pipeline.Value

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

variable (c : Dev nD) (B : Memref sig .tc .vmem S2x1024x128 .fp8e4m3) (s : BitVec 32) (hs : SlotOk s)

/-- Page `t` of the slot, as a rectangle of the buffer. -/
abbrev rP (t : Fin 8) : Rect S2x1024x128 := Rect.unit (s := S2x1024x128) (offB s t) S1x128x128.size (hs.hb t t.2)
/-- Its elements. -/
abbrev pgSet (t : Fin 8) : Finset (Idx (B.view.loc (c : Thread nD τ))) := (bPage B (offB s t) (hs.hb t t.2)).view.set
/-- The slot's elements. -/
abbrev slotSet : Finset (Idx (B.view.loc (c : Thread nD τ))) := Finset.univ.biUnion (pgSet c B s hs)

theorem pgSet_eq (t : Fin 8) : pgSet c B s hs t = (rP s hs t).set.map B.view.emb := by
  show (bPage B (offB s t) (hs.hb t t.2)).view.set = _
  rw [Memref.set_view_squeeze]; exact View.set_slice _ _

theorem pgSet_disj (t t' : Fin 8) (h : t ≠ t') : Disjoint (pgSet c B s hs t) (pgSet c B s hs t') := by
  rw [pgSet_eq, pgSet_eq, Finset.disjoint_map]
  refine Rect.unit_disjoint 1 ?_
  have : t.val ≠ t'.val := fun e => h (Fin.ext e)
  show 128 * t.val + 128 ≤ 128 * t'.val ∨ 128 * t'.val + 128 ≤ 128 * t.val
  omega

theorem slotSet_subset : slotSet c B s hs ⊆ B.view.set := by
  refine Finset.biUnion_subset.mpr fun t _ => ?_
  show (bPage B (offB s t) (hs.hb t t.2)).view.set ⊆ _
  rw [Memref.set_view_squeeze]; exact View.set_slice_subset _ _

theorem slotSet_disj (s' : BitVec 32) (hs' : SlotOk s') (h : s.toNat ≠ s'.toNat) : Disjoint (slotSet c B s hs) (slotSet c B s' hs') := by
  refine (Finset.disjoint_biUnion_left _ _ _).mpr fun t _ => (Finset.disjoint_biUnion_right _ _ _).mpr fun t' _ => ?_
  rw [pgSet_eq, pgSet_eq, Finset.disjoint_map]
  refine Rect.unit_disjoint 0 ?_
  show s.toNat + 1 ≤ s'.toNat ∨ s'.toNat + 1 ≤ s.toNat
  omega

/-- Row `r` of a slot lies in page `r / 128`, at row `r % 128`. -/
theorem slot_emb (h : ∀ a, (![s.toNat, 0, 0] : Fin 3 → ℕ) a + S1x1024x128.size a ≤ S2x1024x128.size a) (r : Fin 1024) (d : Fin 128) :
    (Rect.unit (s := S2x1024x128) ![s.toNat, 0, 0] S1x1024x128.size h).emb (ix3 (n0 := 1) 0 r d)
      = (rP s hs ⟨r.val / 128, by omega⟩).emb (ix3 (n0 := 1) 0 (⟨r.val % 128, Nat.mod_lt _ (by decide)⟩ : Fin 128) d) := by
  funext a
  refine Fin.ext ?_
  match a with
  | ⟨0, _⟩ => rfl
  | ⟨1, _⟩ => show 0 + 1 * r.val = 128 * (r.val / 128) + 1 * (r.val % 128); omega
  | ⟨2, _⟩ => rfl

theorem slot_load_subset (h : ∀ a, (![s.toNat, 0, 0] : Fin 3 → ℕ) a + S1x1024x128.size a ≤ S2x1024x128.size a) :
    (B.view.slice (Rect.unit (s := S2x1024x128) ![s.toNat, 0, 0] S1x1024x128.size h)).set ⊆ slotSet c B s hs := by
  rw [View.set_slice]
  intro x hx
  obtain ⟨y, hy, rfl⟩ := Finset.mem_map.mp hx
  obtain ⟨j, rfl⟩ := (Rect.unit (s := S2x1024x128) ![s.toNat, 0, 0] S1x1024x128.size h).exists_idx_of_mem hy
  rw [eq_ix3 (n0 := 1) (n1 := 1024) (n2 := 128) j]
  have e0 : j 0 = (0 : Fin 1) := Subsingleton.elim (α := Fin 1) _ _
  refine Finset.mem_biUnion.mpr ⟨⟨(j 1).val / 128, by have := (j 1).isLt; change (j 1).val < 1024 at this; omega⟩, Finset.mem_univ _, ?_⟩
  rw [pgSet_eq]
  refine Finset.mem_map_of_mem _ ?_
  rw [e0]
  have m := (rP s hs ⟨(j 1).val / 128, by have := (j 1).isLt; change (j 1).val < 1024 at this; omega⟩).idx_mem
    (ix3 (n0 := 1) 0 (⟨(j 1).val % 128, Nat.mod_lt _ (by decide)⟩ : Fin 128) (j 2 : Fin 128))
  exact Eq.mpr (congrArg (· ∈ _) (slot_emb s hs h (j 1) (j 2))) m

/-- What a slot holds, from its pages. -/
def slotX (X : Fin 8 → Vec F S128x128 .fp8e4m3) : Vec F S1x1024x128 .fp8e4m3 := fun j =>
  X ⟨(j 1).val / 128, by have := (j 1).isLt; change (j 1).val < 1024 at this; omega⟩ (ix2 (⟨(j 1).val % 128, Nat.mod_lt _ (by decide)⟩ : Fin 128) (j 2 : Fin 128))

theorem page_read (off : Fin 3 → ℕ) (h : ∀ a, off a + S1x128x128.size a ≤ S2x1024x128.size a) (g : B.view.ty.Contents (Elt F)) (r d : Fin 128) :
    (bPage B off h).view.read (Elt F) g (ix2 r d) = B.view.read (Elt F) g ((Rect.unit (s := S2x1024x128) off S1x128x128.size h).emb (ix3 (n0 := 1) 0 r d)) := by
  have e := congrFun (Memref.read_squeeze_slice (Val := Elt F) B (Rect.unit (s := S2x1024x128) off S1x128x128.size h) (fun _ => rfl) squeezes_S1x128x128_S128x128
    (show S1x128x128.ShapeCasts S128x128 by decide) g) (ix2 r d)
  rw [e, shapeCast_dropUnit_apply (n := 2) ![128, 128]]
  refine congrArg (fun j => B.view.read (Elt F) g ((Rect.unit (s := S2x1024x128) off S1x128x128.size h).emb j)) ?_
  funext a
  match a with
  | ⟨0, _⟩ => rfl
  | ⟨1, _⟩ => rfl
  | ⟨2, _⟩ => rfl

/-- The points-to of a slot. -/
abbrev PtS (g : Buf (Elt F) (B.view.loc (c : Thread nD τ))) : sProp 𝕄 := B.view.loc (c : Thread nD τ) ↦[slotSet c B s hs]{fullShare} g

theorem slot_split (g : Buf (Elt F) (B.view.loc (c : Thread nD τ))) : PtS c B s hs g ⊢ pages (F := F) c B s hs := by
  refine (Entails.of_eq (pointsTo_biUnion Finset.univ (pgSet c B s hs) fun t _ t' _ h => pgSet_disj c B s hs t t' h)).trans ?_
  unfold pages
  exact bigSep_mono fun t _ => exists_intro (Φ := fun g => Pt c (bPage B (offB s t) (hs.hb t t.2)) fullShare g) g

theorem slot_join (X : Fin 8 → Vec F S128x128 .fp8e4m3) (h : ∀ a, (![s.toNat, 0, 0] : Fin 3 → ℕ) a + S1x1024x128.size a ≤ S2x1024x128.size a) :
    (bigSep Finset.univ fun t : Fin 8 => Own c (bPage B (offB s t) (hs.hb t t.2)) fullShare (X t))
      ⊢ iprop(∃ g, ⌜(fun j => B.view.read (Elt F) g ((Rect.unit (s := S2x1024x128) ![s.toNat, 0, 0] S1x1024x128.size h).emb j)) = slotX X⌝ ∗ PtS c B s hs g) := by
  let canon : Fin 8 → Buf (Elt F) (B.view.loc (c : Thread nD τ)) → Buf (Elt F) (B.view.loc (c : Thread nD τ)) := fun t z =>
    (bPage B (offB s t) (hs.hb t t.2)).view.write (Elt F) z (X t) Finset.univ
  have h1 : ∀ t : Fin 8, Own c (bPage B (offB s t) (hs.hb t t.2)) fullShare (X t)
      ⊢ (iprop(∃ z, B.view.loc (c : Thread nD τ) ↦[pgSet c B s hs t]{fullShare} (canon t z)) : sProp 𝕄) := fun t => by
    unfold Own owns
    iintro ⟨%f, %hf, H⟩
    iexists f
    have e : (B.view.loc (c : Thread nD τ) ↦[pgSet c B s hs t]{fullShare} f : sProp 𝕄) = (B.view.loc (c : Thread nD τ) ↦[pgSet c B s hs t]{fullShare} (canon t f)) := by
      refine pointsTo_congr fun i hi => ?_
      obtain ⟨j, rfl⟩ := View.exists_emb_of_mem_set _ hi
      have h2 : (bPage B (offB s t) (hs.hb t t.2)).view.read (Elt F) f j = (bPage B (offB s t) (hs.hb t t.2)).view.read (Elt F) (canon t f) j := by
        rw [hf]; exact (congrFun (View.read_write_univ (v := (bPage B (offB s t) (hs.hb t t.2)).view) f (X t)) j).symm
      rw [View.read_apply, View.read_apply] at h2
      exact (cast_inj _).mp h2
    iapply (Entails.of_eq e)
    iexact H
  refine (bigSep_mono fun t _ => h1 t).trans ((bigSep_exists_pi Finset.univ _).trans ?_)
  iintro ⟨%ys, H⟩
  ihave H := (pointsTo_biUnion_join Finset.univ (pgSet c B s hs) (fun t => canon t (ys t)) (ys 0) fun t _ t' _ h => pgSet_disj c B s hs t t' h) $$ H
  icases H with ⟨%g, %hg, H⟩
  iexists g
  isplitr; swap; · iexact H
  ipureintro
  have hr : ∀ t : Fin 8, (bPage B (offB s t) (hs.hb t t.2)).view.read (Elt F) g = X t := fun t => by
    rw [← View.read_write_univ (v := (bPage B (offB s t) (hs.hb t t.2)).view) (Val := Elt F) (ys t) (X t)]
    funext j
    rw [View.read_apply, View.read_apply, hg t (Finset.mem_univ _) _ (View.emb_mem_set _ j)]
  funext j
  rw [eq_ix3 (n0 := 1) (n1 := 1024) (n2 := 128) j]
  have e0 : j 0 = (0 : Fin 1) := Subsingleton.elim (α := Fin 1) _ _
  rw [e0]
  have e1 := slot_emb s hs h (j 1) (j 2)
  erw [e1]
  refine (page_read B _ _ g _ _).symm.trans ?_
  rw [hr]
  rfl

theorem pages_join : pages (F := F) c B s hs ⊢ iprop(∃ g, PtS c B s hs g) := by
  unfold pages
  refine (bigSep_exists_pi Finset.univ _).trans ?_
  iintro ⟨%ys, H⟩
  ihave H := (pointsTo_biUnion_join Finset.univ (pgSet c B s hs) ys (ys 0) fun t _ t' _ h => pgSet_disj c B s hs t t' h) $$ H
  icases H with ⟨%g, -, H⟩
  iexists g
  iexact H

/-! ## Attending over a slot -/

/-- The keys of a slot, rows of the pool times the scale. -/
def keys (X : Vec F S1x1024x128 .fp8e4m3) (r : FVec F S1x128 .bf16) : FVec F S1024x128 .bf16 :=
  mulf (extf .bf16 (shapeCast S1024x128 X shapeCasts_S1x1024x128_S1024x128) bitsLt_fp8e4m3_bf16) (broadcastTo S1024x128 r broadcasts_S1x128_S1024x128)

/-- The state after a slot. -/
def attS (mask : FVec F S1024x256 .f32 → FVec F S1024x256 .f32) (ks vs : FVec F S1x128 .bf16) (K V : Vec F S1x1024x128 .fp8e4m3) (qX : Vec F S128x2048 .bf16) : St F → St F :=
  rowS (N := 8) (tileS mask (keys K ks) (transpose S128x1024 [1, 0] (keys V vs) transposes_S1024x128_p1_0_S128x1024) qX) 8

variable {B}

theorem wp_ldS {g : Buf (Elt F) (B.view.loc (c : Thread nD τ))} {X : S1x1024x128.Idx → Elt F .fp8e4m3} (h : ∀ a, (![s.toNat, 0, 0] : Fin 3 → ℕ) a + S1x1024x128.size a ≤ S2x1024x128.size a)
    (hX : (fun j => B.view.read (Elt F) g ((Rect.unit (s := S2x1024x128) ![s.toNat, 0, 0] S1x1024x128.size h).emb j)) = X)
    {hl : B.view.LoadsAt (Rect.unit (s := S2x1024x128) ![s.toNat, 0, 0] S1x1024x128.size h).toLoadRect} {β : Type} {k : (S1x1024x128.Idx → Elt F .fp8e4m3) → Pg β} {Q : β → sProp 𝕄} :
    PtS c B s hs g ⊢ iprop((PtS c B s hs g -∗ Wp c (k X) Q)
      -∗ Wp c (Prog.lift (.load B (Rect.unit (s := S2x1024x128) ![s.toNat, 0, 0] S1x1024x128.size h).toLoadRect hl) >>= k) Q) := by
  subst hX
  iintro H Hk
  iapply (wp_load_rect (m := B) (r := Rect.unit (s := S2x1024x128) ![s.toNat, 0, 0] S1x1024x128.size h) (hl := hl) (k := k) (Q := Q) (defs := defs₀ (F := F))
    (S := slotSet c B s hs) (q := fullShare) (f := g) Variants.none (c : Thread nD τ) none Set.univ (slot_load_subset c B s hs h)) $$ H
  iintro H
  iapply Hk
  iexact H

variable (A : Args)

/-- The eight pages a block's words name, of a pool. -/
abbrev pool (C : Memref sig .tc .hbm S8192x128x128 .fp8e4m3) (f : Buf (Elt F) (C.view.loc (c : Thread nD τ))) (ws : Fin 8 → BitVec 32) (hw : ∀ t, PageOk (ws t)) :
    Vec F S1x1024x128 .fp8e4m3 :=
  slotX fun t => (cPage C (offC (ws t)) (hw t).hc).view.read (Elt F) f

theorem attend_wp (mask : FVec F S1024x256 .f32 → FVec F S1024x256 .f32) (ks vs : FVec F S1x128 .bf16) (off : Fin 3 → ℕ)
    (h : ∀ a, off a + S1x1024x128.size a ≤ S2x1024x128.size a) (e : off = ![s.toNat, 0, 0])
    (q qv : PosShare TreeShare) (fk : Buf (Elt F) (A.kc.view.loc (c : Thread nD τ))) (fv : Buf (Elt F) (A.vc.view.loc (c : Thread nD τ)))
    (ws : Fin 8 → BitVec 32) (hw : ∀ t, PageOk (ws t)) (qX : Vec F S128x2048 .bf16) (st : St F) :
    iprop(Acc c A qX st ∗ Landed c A s hs q qv fk fv ws hw)
      ⊢ Wp c (attend A mask ks vs off h) (fun _ => iprop(Acc c A qX (attS mask ks vs (pool c A.kc fk ws hw) (pool c A.vc fv ws hw) qX st) ∗ Free c A s hs q qv fk fv)) := by
  subst e
  unfold Landed landed attend
  iintro ⟨HA, ⟨HK, HKv, HKc⟩, ⟨HV, HVv, HVc⟩⟩
  ihave HK := (slot_join c A.kb s hs _ h) $$ HK
  icases HK with ⟨%g, %hg, HK⟩
  ihave HV := (slot_join c A.vb s hs _ h) $$ HV
  icases HV with ⟨%g', %hg', HV⟩
  iapply (wp_ldS c s hs h hg) $$ HK; iintro HK
  iapply (wp_ldS c s hs h hg') $$ HV; iintro HV
  ihave H := (rowS_wp c 8 _ _ (Acc c A qX) (fun t ht st => tile_wp c A mask (keys (pool c A.kc fk ws hw) ks)
    (transpose S128x1024 [1, 0] (keys (pool c A.vc fv ws hw) vs) transposes_S1024x128_p1_0_S128x1024) qX t ht st) st) $$ HA
  iapply (wp_wand_r _ _ _)
  isplitl [H]; · iexact H
  iintro %_ HA
  isplitl [HA]; · iexact HA
  unfold Free freeSide
  ihave HK := (slot_split c A.kb s hs g) $$ HK
  ihave HV := (slot_split c A.vb s hs g') $$ HV
  isplitl [HK HKv HKc]
  · isplitl [HKv]; · iexact HKv
    isplitl [HK]; · iexact HK
    iexact HKc
  · isplitl [HVv]; · iexact HVv
    isplitl [HV]; · iexact HV
    iexact HVc

end Cert.KernelIdeal.Hand
-- ==== Proof.KernelIdeal.Words.lean ====
/-
  The body's index words in closed form, when the sequence is no longer than its page table: whole blocks, remainder,
  slots, offsets, conditions, and the body's side condition on the length.
-/
module

public import proofs.«01_k».proof.Proof.KernelIdeal.Body
public import Idealize.ShloMosaic.Lib.Affine

@[expose] public section

set_option synthInstance.maxSize 4096

noncomputable section

namespace Cert.KernelIdeal.Hand

open Cert.KernelIdeal
open Idealize.ShloMosaic Idealize.SL.Sem
open Idealize.ShloMosaic.Affine (IsInt)
open Facts₀ Facts

/-! ## Words read as integers -/

theorem isInt_toInt {x : BitVec 32} {e : Int} (h : IsInt x e) : x.toInt = e := by unfold IsInt at h; exact h
theorem isInt_of {x : BitVec 32} {e : Int} (h : x.toInt = e) : IsInt x e := by unfold IsInt; exact h
theorem isInt_toNat {x : BitVec 32} {n : Nat} (h : IsInt x n) : x.toNat = n := by
  have h := isInt_toInt h
  rw [BitVec.toInt_eq_toNat_cond] at h
  have := x.isLt
  split at h <;> omega
theorem isInt_ofNat {x : BitVec 32} (h : x.toNat < 2 ^ 31) : IsInt x x.toNat :=
  isInt_of (by rw [BitVec.toInt_eq_toNat_cond]; split <;> omega)
theorem lit (n : Nat) (h : n < 2 ^ 31) : IsInt (BitVec.ofNat 32 n) n := Affine.ofNat n ⟨rfl, h⟩

theorem sign_pos {x : BitVec 32} {e : Int} (hx : IsInt x e) (h : 0 < e) :
    IsInt (Scalar.subi (Scalar.extui (Scalar.cmpi .sgt x 0#32)) (Scalar.extui (Scalar.cmpi .slt x 0#32))) 1 :=
  Affine.subi (Affine.extui_holds (Affine.sgt_holds hx (lit 0 (by decide)) (by simpa using h)) (e := 1) rfl)
    (Affine.extui_fails (Affine.slt_fails hx (lit 0 (by decide)) (by simp; omega)) (e := 0) rfl) (by omega)

variable {v1 : BitVec 32}

/-! ## Blocks -/

theorem nF_int (h : v1.toNat ≤ 131072) : IsInt (nF v1) (v1.toNat / 1024 : Nat) := by
  have hv : IsInt v1 v1.toNat := isInt_ofNat (by omega)
  have h1024 : IsInt 1024#32 (1024 : Nat) := lit 1024 (by decide)
  have h0 : IsInt 0#32 (0 : Nat) := lit 0 (by decide)
  have hr : IsInt (Scalar.remsi v1 1024#32) (v1.toNat % 1024 : Nat) := Affine.remsi hv h1024 ⟨by push_cast; rfl, by omega, by decide⟩
  have hd : IsInt (Scalar.divsi v1 1024#32) (v1.toNat / 1024 : Nat) := Affine.divsi hv h1024 ⟨by push_cast; rfl, by omega, by decide⟩
  have hs := sign_pos h1024 (by decide)
  unfold nF
  refine Affine.select_fails ?_ (Affine.subi hd (lit 1 (by decide)) ⟨rfl, by omega, by omega⟩) hd rfl
  rcases Nat.eq_zero_or_pos v1.toNat with hz | hp
  · exact Affine.andi_fails_right (Affine.cmpi_term _ (isInt_of rfl) hs) (Affine.ne_fails hr h0 (by rw [hz]))
  · exact Affine.andi_fails_left (Affine.ne_fails (sign_pos hv (by omega)) hs rfl) trivial

theorem rem_int (h : v1.toNat ≤ 131072) : IsInt (rem v1) (v1.toNat % 1024 : Nat) :=
  Affine.subi (isInt_ofNat (by omega)) (Affine.muli (nF_int h) (lit 1024 (by decide)) ⟨rfl, by omega, by omega⟩) (by omega)

theorem rem_pos (h : v1.toNat ≤ 131072) (hr : 0 < v1.toNat % 1024) : Scalar.cmpi .sgt (rem v1) 0#32 = 1#1 :=
  Affine.sgt_holds (rem_int h) (lit 0 (by decide)) (by omega)
theorem rem_npos (h : v1.toNat ≤ 131072) (hr : v1.toNat % 1024 = 0) : ¬Scalar.cmpi .sgt (rem v1) 0#32 = 1#1 :=
  Affine.sgt_fails (rem_int h) (lit 0 (by decide)) (by omega)

/-- The blocks of a sequence of `n` keys, the partial one counted. -/
def blocks (n : Nat) : Nat := n / 1024 + if 0 < n % 1024 then 1 else 0

theorem nB_int (h : v1.toNat ≤ 131072) : IsInt (nB v1) (blocks v1.toNat : Nat) := by
  unfold nB blocks
  by_cases hr : 0 < v1.toNat % 1024
  · rw [if_pos hr]
    exact Affine.addi (nF_int h) (Affine.extui_holds (rem_pos h hr) (e := 1) rfl) (by push_cast; omega)
  · rw [if_neg hr]
    exact Affine.addi (nF_int h) (Affine.extui_fails (rem_npos h (by omega)) (e := 0) rfl) (by push_cast; omega)

/-- A condition widened and compared with zero is the condition. -/
theorem guard_iff (c : BitVec 1) : Scalar.cmpi .ne (Scalar.extui c : BitVec 32) 0#32 = 1#1 ↔ c = 1#1 := by
  rcases BitVec.eq_zero_or_eq_one c with rfl | rfl <;> decide

theorem cond1_iff (h : v1.toNat ≤ 131072) : k0_cond1 v1 = 1#1 ↔ 0 < blocks v1.toNat := by
  refine (guard_iff (Scalar.cmpi .sgt (nB v1) 0#32)).trans ?_
  constructor
  · intro hc
    by_contra hn
    exact Affine.sgt_fails (nB_int h) (lit 0 (by decide)) (by omega) hc
  · intro hp
    exact Affine.sgt_holds (nB_int h) (lit 0 (by decide)) (by omega)

theorem cond4_iff (h : v1.toNat ≤ 131072) : k0_cond4 v1 = 1#1 ↔ 0 < v1.toNat % 1024 := by
  refine (guard_iff (Scalar.cmpi .sgt (rem v1) 0#32)).trans ?_
  constructor
  · intro hc
    by_contra hn
    exact rem_npos h (by omega) hc
  · exact rem_pos h

/-! ## The loops -/

theorem ub_int (h : v1.toNat ≤ 131072) : IsInt (k0_t1_loop v1).ub (v1.toNat / 1024 : Nat) :=
  Affine.addi (lit 0 (by decide))
    (Affine.muli
      (Affine.divsi_one (Affine.subi (nF_int h) (lit 0 (by decide)) (e := (v1.toNat / 1024 : Nat)) (by push_cast; omega))
        (lit 1 (by decide)) ⟨rfl, by rfl⟩)
      (lit 1 (by decide)) (e := (v1.toNat / 1024 : Nat)) (by push_cast; omega))
    (by push_cast; omega)

theorem ub2_int (h : v1.toNat ≤ 131072) : IsInt (k0_t2_loop v1).ub (v1.toNat / 1024 : Nat) :=
  Affine.addi (lit 0 (by decide)) (Affine.subi (nF_int h) (lit 0 (by decide)) (e := (v1.toNat / 1024 : Nat)) (by push_cast; omega))
    (by push_cast; omega)

theorem trips1 (h : v1.toNat ≤ 131072) : (k0_t1_loop v1).trips = v1.toNat / 1024 := by
  have hu := isInt_toInt (ub_int h)
  show ((((k0_t1_loop v1).ub).toInt - (0#32).toInt + (1#32).toInt - 1) / (1#32).toInt).toNat = _
  rw [hu, show (0#32 : BitVec 32).toInt = 0 from by decide, show (1#32 : BitVec 32).toInt = 1 from by decide]
  omega

theorem trips2 (h : v1.toNat ≤ 131072) : (k0_t2_loop v1).trips = 0 := by
  have hl : ((k0_t2_loop v1).lb).toInt = _ := isInt_toInt (ub_int h)
  have hu := isInt_toInt (ub2_int h)
  show ((((k0_t2_loop v1).ub).toInt - ((k0_t2_loop v1).lb).toInt + (1#32).toInt - 1) / (1#32).toInt).toNat = _
  rw [hu, hl, show (1#32 : BitVec 32).toInt = 1 from by decide]
  omega

theorem ok1 (h : v1.toNat ≤ 131072) : (k0_t1_loop v1).OK := by
  refine ⟨show 0 < (1#32 : BitVec 32).toInt by decide, ?_⟩
  show (0#32 : BitVec 32).toInt + ((k0_t1_loop v1).trips : Int) * (1#32 : BitVec 32).toInt < 2 ^ 31
  rw [trips1 h, show (0#32 : BitVec 32).toInt = 0 from by decide, show (1#32 : BitVec 32).toInt = 1 from by decide]
  omega

theorem ok2 (h : v1.toNat ≤ 131072) : (k0_t2_loop v1).OK := by
  refine ⟨show 0 < (1#32 : BitVec 32).toInt by decide, ?_⟩
  have hl : ((k0_t2_loop v1).lb).toInt = _ := isInt_toInt (ub_int h)
  show ((k0_t2_loop v1).lb).toInt + ((k0_t2_loop v1).trips : Int) * (1#32 : BitVec 32).toInt < 2 ^ 31
  rw [trips2 h, hl]
  push_cast; omega

theorem iv_int (h : v1.toNat ≤ 131072) (k : Fin (k0_t1_loop v1).trips) : IsInt (Scf.iv 0#32 1#32 k) (k.val : Nat) := by
  have := k.isLt
  have ht := trips1 h
  exact Affine.iv (lit 0 (by decide)) (lit 1 (by decide)) k.val (by push_cast; omega)

theorem word_eq {x : BitVec 32} {n : Nat} (h : IsInt x n) (hn : n < 2 ^ 31) : x = BitVec.ofNat 32 n :=
  BitVec.eq_of_toNat_eq (by rw [isInt_toNat h, BitVec.toNat_ofNat]; omega)

theorem slotW_int (h : v1.toNat ≤ 131072) (k : Fin (k0_t1_loop v1).trips) : IsInt (slotW k) (k.val % 2 : Nat) :=
  Affine.remsi (iv_int h k) (lit 2 (by decide)) ⟨by push_cast; rfl, by omega, by decide⟩
theorem slotW'_int (h : v1.toNat ≤ 131072) (k : Fin (k0_t1_loop v1).trips) : IsInt (slotW' k) ((k.val + 1) % 2 : Nat) :=
  Affine.subi (lit 1 (by decide)) (slotW_int h k) (by push_cast; omega)
theorem slotT_int (h : v1.toNat ≤ 131072) : IsInt (slotT v1) (v1.toNat / 1024 % 2 : Nat) :=
  Affine.remsi (nF_int h) (lit 2 (by decide)) ⟨by push_cast; rfl, by omega, by decide⟩

/-- The slot of block `b`. -/
def slot (b : Nat) : BitVec 32 := BitVec.ofNat 32 (b % 2)

theorem slot_lt (b : Nat) : (slot b).toNat < 2 := by
  unfold slot; rw [BitVec.toNat_ofNat]; omega
theorem slotOf (b : Nat) : SlotOk (slot b) := slotOk (slot_lt b)

theorem slotW_eq (h : v1.toNat ≤ 131072) (k : Fin (k0_t1_loop v1).trips) : slotW k = slot k.val :=
  word_eq (slotW_int h k) (by omega)
theorem slotW'_eq (h : v1.toNat ≤ 131072) (k : Fin (k0_t1_loop v1).trips) : slotW' k = slot (k.val + 1) :=
  word_eq (slotW'_int h k) (by omega)
theorem slotT_eq (h : v1.toNat ≤ 131072) : slotT v1 = slot (v1.toNat / 1024) :=
  word_eq (slotT_int h) (by omega)

theorem cond2_iff (h : v1.toNat ≤ 131072) (k : Fin (k0_t1_loop v1).trips) :
    k0_cond2 v1 k = 1#1 ↔ k.val + 1 < blocks v1.toNat := by
  have hk := k.isLt
  have ht := trips1 h
  have hi : IsInt (Scalar.addi (Scf.iv 0#32 1#32 k) 1#32) (k.val + 1 : Nat) :=
    Affine.addi (iv_int h k) (lit 1 (by decide)) (by push_cast; omega)
  refine (guard_iff (Scalar.cmpi .slt (Scalar.addi (Scf.iv 0#32 1#32 k) 1#32) (nB v1))).trans ?_
  constructor
  · intro hc
    by_contra hn
    exact Affine.slt_fails hi (nB_int h) (by omega) hc
  · intro hp
    exact Affine.slt_holds hi (nB_int h) (by omega)

theorem blocks_le (h : v1.toNat ≤ 131072) : blocks v1.toNat ≤ 128 := by
  unfold blocks; split <;> omega

/-! ## Offsets of the page table's words -/

theorem row_toNat (i : grid0.Coords) : (BitVec.ofNat 32 (i 0).val).toNat = (i 0).val := by
  have : (i 0).val < 8 := (i 0).isLt
  rw [BitVec.toNat_ofNat]; omega

theorem off18_eq (h : v1.toNat ≤ 131072) (i : grid0.Coords) (k : Fin (k0_t1_loop v1).trips) (p : Nat) (hp : p < 8) :
    k0_off18 i v1 k (BitVec.ofNat 32 p) = ![(i 0).val, 8 * (k.val + 1) + p] := by
  have hk := k.isLt
  have ht := trips1 h
  have hi : IsInt (Scalar.addi (Scalar.muli (Scalar.addi (Scf.iv 0#32 1#32 k) 1#32) 8#32) (BitVec.ofNat 32 p)) (8 * (k.val + 1) + p : Nat) :=
    Affine.addi (Affine.muli (Affine.addi (iv_int h k) (lit 1 (by decide)) (e := (k.val + 1 : Nat)) (by push_cast; omega)) (lit 8 (by decide))
      (e := (8 * (k.val + 1) : Nat)) (by push_cast; omega)) (lit p (by omega)) (by push_cast; omega)
  show ![(BitVec.ofNat 32 (i 0).val).toNat, BitVec.toNat _] = _
  rw [row_toNat, show Scalar.indexCast (Scalar.addi (Scalar.muli (Scalar.addi (Scf.iv 0#32 1#32 k) 1#32) 8#32) (BitVec.ofNat 32 p)) = _ from rfl]
  exact congrArg (fun n => ![(i 0).val, n]) (isInt_toNat hi)

theorem off59_eq (h : v1.toNat ≤ 131072) (i : grid0.Coords) (k : Fin (k0_t1_loop v1).trips) (p : Nat) (hp : p < 8) :
    k0_off59 i v1 k (BitVec.ofNat 32 p) = ![(i 0).val, 8 * k.val + p] := by
  have hk := k.isLt
  have ht := trips1 h
  have hi : IsInt (Scalar.addi (Scalar.muli (Scf.iv 0#32 1#32 k) 8#32) (BitVec.ofNat 32 p)) (8 * k.val + p : Nat) :=
    Affine.addi (Affine.muli (iv_int h k) (lit 8 (by decide))
      (e := (8 * k.val : Nat)) (by push_cast; omega)) (lit p (by omega)) (by push_cast; omega)
  show ![(BitVec.ofNat 32 (i 0).val).toNat, BitVec.toNat _] = _
  rw [row_toNat]
  exact congrArg (fun n => ![(i 0).val, n]) (isInt_toNat hi)

theorem off184_eq (h : v1.toNat ≤ 131072) (i : grid0.Coords) (p : Nat) (hp : p < 8) :
    k0_off184 i v1 (BitVec.ofNat 32 p) = ![(i 0).val, 8 * (v1.toNat / 1024) + p] := by
  have hi : IsInt (Scalar.addi (Scalar.muli (nF v1) 8#32) (BitVec.ofNat 32 p)) (8 * (v1.toNat / 1024) + p : Nat) :=
    Affine.addi (Affine.muli (nF_int h) (lit 8 (by decide))
      (e := (8 * (v1.toNat / 1024) : Nat)) (by push_cast; omega)) (lit p (by omega)) (by push_cast; omega)
  show ![(BitVec.ofNat 32 (i 0).val).toNat, BitVec.toNat _] = _
  rw [row_toNat]
  exact congrArg (fun n => ![(i 0).val, n]) (isInt_toNat hi)

theorem off100_eq (h : v1.toNat ≤ 131072) (k : Fin (k0_t1_loop v1).trips) : k0_off100 v1 k = ![(slot k.val).toNat, 0, 0] := by
  rw [← slotW_eq h k]; rfl
theorem off225_eq (h : v1.toNat ≤ 131072) : k0_off225 v1 = ![(slot (v1.toNat / 1024)).toNat, 0, 0] := by
  rw [← slotT_eq h]; rfl

/-! ## The body's side condition on the length -/

/-- A first row of a page within its slot. -/
def Row (n : Nat) : Prop := n % 4 = 0 ∧ n ≤ 896
theorem Row.of {n : Nat} (m : Nat) (hm : m % 4 = 0 ∧ m ≤ 896) (h : n = m) : Row n := h ▸ hm
theorem bit0 {n : Nat} (h : n = 0) : n < 2 := by omega
theorem bit1 {n : Nat} (h : n = 1) : n < 2 := by omega

theorem inS (off : Fin 2 → Nat) (h0 : off 0 < 2) (h1 : off 1 < 2) : ∀ a, off a + S1x1.size a ≤ S2x2.size a := by
  intro a; fin_cases a
  · show off 0 + 1 ≤ 2; omega
  · show off 1 + 1 ≤ 2; omega
theorem inT (off : Fin 2 → Nat) (h0 : off 0 < 8) (h1 : off 1 < 1024) : ∀ a, off a + S1x1.size a ≤ S8x1024.size a := by
  intro a; fin_cases a
  · show off 0 + 1 ≤ 8; omega
  · show off 1 + 1 ≤ 1024; omega
theorem inB (off : Fin 3 → Nat) (h0 : off 0 < 2) (h1 : Row (off 1)) (h2 : off 2 = 0) :
    ∀ a, off a + S1x128x128.size a ≤ S2x1024x128.size a := by
  intro a; fin_cases a
  · show off 0 + 1 ≤ 2; omega
  · show off 1 + 128 ≤ 1024; have := h1.2; omega
  · show off 2 + 128 ≤ 128; omega
theorem inA (off : Fin 3 → Nat) (h0 : off 0 < 2) (h1 : off 1 = 0) (h2 : off 2 = 0) :
    ∀ a, off a + S1x1024x128.size a ≤ S2x1024x128.size a := by
  intro a; fin_cases a
  · show off 0 + 1 ≤ 2; omega
  · show off 1 + 1024 ≤ 1024; omega
  · show off 2 + 128 ≤ 128; omega
theorem wwB (off : Fin 3 → Nat) (h1 : Row (off 1)) (hinb : ∀ a, off a + S1x128x128.size a ≤ S2x1024x128.size a) :
    (Rect.unit (s := S2x1024x128) off S1x128x128.size hinb).WholeWords (EltTy.packing .fp8e4m3) := by
  have h2 : 2 ≤ S2x1024x128.rank := by decide
  exact .inl (.inr ⟨h2, rfl, .inl ⟨(show 4 ∣ off 1 from Nat.dvd_of_mod_eq_zero h1.1), (show 4 ∣ 128 by decide)⟩⟩)

set_option maxHeartbeats 4000000 in
theorem chk9_of (h : v1.toNat ≤ 131072) (i : grid0.Coords) : k0_chk9 i v1 := by
  have hW : ∀ k : Fin (k0_t1_loop v1).trips, (slotW k).toNat < 2 := fun k => by rw [slotW_eq h]; exact slot_lt _
  have hW' : ∀ k : Fin (k0_t1_loop v1).trips, (slotW' k).toNat < 2 := fun k => by rw [slotW'_eq h]; exact slot_lt _
  have hT : (slotT v1).toNat < 2 := by rw [slotT_eq h]; exact slot_lt _
  have none : Fin (k0_t2_loop v1).trips → False := fun k => by have := k.isLt; have := trips2 h; omega
  have hok1 := ok1 h
  have hok2 := ok2 h
  have hb := blocks_le h
  have h18 : ∀ k : Fin (k0_t1_loop v1).trips, ∀ (h2 : k0_cond2 v1 k = 1#1), ∀ (r : Fin 8), ∀ a,
      (k0_off18 i v1 k (BitVec.ofNat 32 r.val)) a + S1x1.size a ≤ S8x1024.size a := fun k h2 r => by
    have hi : (i 0).val < 8 := (i 0).isLt
    have := (cond2_iff h k).1 h2
    rw [off18_eq h i k r.val r.isLt]
    exact inT _ hi (show 8 * (k.val + 1) + r.val < 1024 by omega)
  have h59 : ∀ k : Fin (k0_t1_loop v1).trips, ∀ (r : Fin 8), ∀ a,
      (k0_off59 i v1 k (BitVec.ofNat 32 r.val)) a + S1x1.size a ≤ S8x1024.size a := fun k r => by
    have hi : (i 0).val < 8 := (i 0).isLt
    have hk := k.isLt
    have ht := trips1 h
    rw [off59_eq h i k r.val r.isLt]
    exact inT _ hi (show 8 * k.val + r.val < 1024 by omega)
  have h184 : k0_cond4 v1 = 1#1 → ∀ (r : Fin 8), ∀ a,
      (k0_off184 i v1 (BitVec.ofNat 32 r.val)) a + S1x1.size a ≤ S8x1024.size a := fun h4 r => by
    have hi : (i 0).val < 8 := (i 0).isLt
    have := (cond4_iff h).1 h4
    rw [off184_eq h i r.val r.isLt]
    exact inT _ hi (show 8 * (v1.toNat / 1024) + r.val < 1024 by omega)
  refine ⟨?_, ?_, ?_, ?_, ?_, ?_, ?_, ?_⟩
  all_goals first | unfold k0_chk9_0 | unfold k0_chk9_1 | unfold k0_chk9_2 | unfold k0_chk9_3 | unfold k0_chk9_4 | unfold k0_chk9_5 | unfold k0_chk9_6 | unfold k0_chk9_7
  all_goals repeat' first
    | with_reducible exact hok1
    | with_reducible exact hok2
    | with_reducible exact h18
    | with_reducible exact h59
    | with_reducible exact h184
    | with_reducible exact fun k => (none k).elim
    | (with_reducible refine And.intro ?_ ?_)
    | ((with_reducible refine fun (k : Fin (k0_t1_loop v1).trips) (_ : k0_cond2 v1 k = 1#1) => inS _ ?_ ?_); exact hW' k)
    | ((with_reducible refine fun (k : Fin (k0_t1_loop v1).trips) (_ : k0_cond2 v1 k = 1#1) => inB _ ?_ ?_ ?_); exact hW' k)
    | (with_reducible refine fun (k : Fin (k0_t1_loop v1).trips) (_ : k0_cond2 v1 k = 1#1) => wwB _ ?_)
    | ((with_reducible refine fun (k : Fin (k0_t1_loop v1).trips) => inS _ ?_ ?_); exact hW k)
    | ((with_reducible refine fun (k : Fin (k0_t1_loop v1).trips) => inB _ ?_ ?_ ?_); exact hW k)
    | ((with_reducible refine fun (k : Fin (k0_t1_loop v1).trips) => inA _ ?_ ?_ ?_); exact hW k)
    | (with_reducible refine fun (k : Fin (k0_t1_loop v1).trips) => wwB _ ?_)
    | ((with_reducible refine fun (_ : k0_cond4 v1 = 1#1) => inS _ ?_ ?_); exact hT)
    | ((with_reducible refine fun (_ : k0_cond4 v1 = 1#1) => inB _ ?_ ?_ ?_); exact hT)
    | ((with_reducible refine fun (_ : k0_cond4 v1 = 1#1) => inA _ ?_ ?_ ?_); exact hT)
    | (with_reducible refine fun (_ : k0_cond4 v1 = 1#1) => wwB _ ?_)
    | ((with_reducible refine Row.of 0 (by decide) ?_); rfl)
    | ((with_reducible refine Row.of 128 (by decide) ?_); rfl)
    | ((with_reducible refine Row.of 256 (by decide) ?_); rfl)
    | ((with_reducible refine Row.of 384 (by decide) ?_); rfl)
    | ((with_reducible refine Row.of 512 (by decide) ?_); rfl)
    | ((with_reducible refine Row.of 640 (by decide) ?_); rfl)
    | ((with_reducible refine Row.of 768 (by decide) ?_); rfl)
    | ((with_reducible refine Row.of 896 (by decide) ?_); rfl)
    | ((with_reducible refine bit0 ?_); rfl)
    | ((with_reducible refine bit1 ?_); rfl)
    | rfl

end Cert.KernelIdeal.Hand
-- ==== Proof.KernelIdeal.Loop.lean ====
/-
  The loop over whole blocks: while one slot is read, the next block is on its way into the other.
-/
module

public import proofs.«01_k».proof.Proof.KernelIdeal.Slot
public import proofs.«01_k».proof.Proof.KernelIdeal.Words

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

/-! ## The words of a block -/

/-- The page-table words of block `b` of row `i`. -/
def pgW (X : Vec F S8x1024 .i32) (i : grid0.Coords) (b : ℕ) : Fin 8 → BitVec 32 := fun p =>
  X (ix2 (n0 := 8) (n1 := 1024) ⟨(i 0).val, (i 0).isLt⟩ ⟨(8 * b + p.val) % 1024, Nat.mod_lt _ (by decide)⟩)

theorem wordAt_eq (X : Vec F S8x1024 .i32) (i : grid0.Coords) (b : ℕ) (p : ℕ) (hp : p < 8) (hb : b < 128) (off : Fin 2 → ℕ)
    (h : ∀ a, off a + S1x1.size a ≤ S8x1024.size a) (e : off = ![(i 0).val, 8 * b + p]) : wordAt X off h = pgW X i b ⟨p, hp⟩ := by
  subst e
  refine congrArg X ?_
  funext a
  refine Fin.ext ?_
  match a with
  | ⟨0, _⟩ => rfl
  | ⟨1, _⟩ => show 8 * b + p + 1 * 0 = (8 * b + p) % 1024; omega

/-! ## Slots by word -/

variable (c : Dev nD) (A : Args) (X : Vec F S8x1024 .i32) (i : grid0.Coords) (qs : BitVec 32 → PosShare TreeShare) (qp : PosShare TreeShare)
  (fk : Buf (Elt F) (A.kc.view.loc (c : Thread nD τ))) (fv : Buf (Elt F) (A.vc.view.loc (c : Thread nD τ)))
  (hX : ∀ j, (X j : BitVec 32).toNat < 8192) (qX : Vec F S128x2048 .bf16) (ks vs : FVec F S1x128 .bf16)

theorem pgOk (hX : ∀ j, (X j : BitVec 32).toNat < 8192) (b : ℕ) : ∀ t, PageOk (pgW X i b t) := fun t => pageOk (hX _)

/-- Slot `s` with nothing under way, each slot with its share of the pools. -/
abbrev FreeW (s : BitVec 32) (hs : SlotOk s) : sProp 𝕄 := Free c A s hs (qs s) (qs s) fk fv
/-- Slot `s` with block `b` under way. -/
abbrev FlightW (s : BitVec 32) (hs : SlotOk s) (b : ℕ) : sProp 𝕄 := Flight c A s hs (qs s) (qs s) fk fv (pgW X i b) (pgOk X i hX b)

theorem FreeW_congr {s s' : BitVec 32} (e : s = s') (hs : SlotOk s) (hs' : SlotOk s') : FreeW c A qs fk fv s hs = FreeW c A qs fk fv s' hs' := by
  subst e; rfl
theorem FlightW_congr {s s' : BitVec 32} (e : s = s') (hs : SlotOk s) (hs' : SlotOk s') (b : ℕ) :
    FlightW c A X i qs fk fv hX s hs b = FlightW c A X i qs fk fv hX s' hs' b := by
  subst e; rfl

/-- Block `b` of `n` is under way in its slot, or there is no such block and the slot is free. -/
def Ready (n b : ℕ) : sProp 𝕄 :=
  if b < n then FlightW c A X i qs fk fv hX (slot b) (slotOf b) b else FreeW c A qs fk fv (slot b) (slotOf b)

theorem slot_add_two (b : ℕ) : slot (b + 1 + 1) = slot b := by
  unfold slot; rw [show (b + 1 + 1) % 2 = b % 2 by omega]

/-- The state after block `b` read whole. -/
def blkS (b : ℕ) : St F → St F := attS id ks vs (pool c A.kc fk (pgW X i b) (pgOk X i hX b)) (pool c A.vc fv (pgW X i b) (pgOk X i hX b)) qX
/-- The state after the first `b` blocks. -/
def blksS : ℕ → St F → St F
  | 0, s => s
  | b + 1, s => blkS c A X i fk fv hX qX ks vs b (blksS b s)
/-- The state after every cached key of a sequence of `v1` keys. -/
def lastS (v1 : BitVec 32) (s : St F) : St F :=
  if 0 < v1.toNat % 1024 then
    attS (tailMask (rem v1)) ks vs (pool c A.kc fk (pgW X i (v1.toNat / 1024)) (pgOk X i hX (v1.toNat / 1024)))
      (pool c A.vc fv (pgW X i (v1.toNat / 1024)) (pgOk X i hX (v1.toNat / 1024))) qX (blksS c A X i fk fv hX qX ks vs (v1.toNat / 1024) s)
  else blksS c A X i fk fv hX qX ks vs (v1.toNat / 1024) s

variable {v1 : BitVec 32} (hv : v1.toNat ≤ 131072)

/-- Before trip `k`. -/
def Inv (n : ℕ) (st : St F) (k : ℕ) : sProp 𝕄 :=
  iprop(Own c A.pt qp X ∗ Acc c A qX (blksS c A X i fk fv hX qX ks vs k st) ∗ Ready c A X i qs fk fv hX n k ∗ FreeW c A qs fk fv (slot (k + 1)) (slotOf (k + 1)) ∗ owed c)

include hv

theorem startK_wp (hw : k0_chk9 i v1) (k : Fin (k0_t1_loop v1).trips) (h2 : k0_cond2 v1 k = 1#1) :
    iprop(Own c A.pt qp X ∗ FreeW c A qs fk fv (slot (k.val + 1)) (slotOf (k.val + 1)))
      ⊢ Wp c (startK A i v1 hw k h2) (fun _ => iprop(Own c A.pt qp X ∗ FlightW c A X i qs fk fv hX (slot (k.val + 1)) (slotOf (k.val + 1)) (k.val + 1))) := by
  have hb := (cond2_iff hv k).1 h2
  have hb' := blocks_le hv
  have hk := k.isLt
  rw [FreeW_congr c A qs fk fv (slotW'_eq hv k).symm (slotOf _) (slotOk_of_inb (k0_off19_inb i v1 hw k h2)),
    FlightW_congr c A X i qs fk fv hX (slotW'_eq hv k).symm (slotOf _) (slotOk_of_inb (k0_off19_inb i v1 hw k h2))]
  exact start_block c A (slotW' k) _ _ _ fk fv (pgW X i (k.val + 1)) (pgOk X i hX _) _ _ _ _ _
    (fun p hp => ⟨fun _ => (pageOk (hX _)).hc, fun _ _ => (pageOk (hX _)).hcw⟩)
    (fun p hp => wordAt_eq X i (k.val + 1) p hp (by omega) _ _ (off18_eq hv i k p hp))

theorem waitK_wp (hw : k0_chk9 i v1) (k : Fin (k0_t1_loop v1).trips) :
    iprop(Own c A.pt qp X ∗ FlightW c A X i qs fk fv hX (slot k.val) (slotOf k.val) k.val ∗ owed c)
      ⊢ Wp c (waitK A i v1 hw k) (fun _ => iprop(Own c A.pt qp X ∗ Landed c A (slot k.val) (slotOf k.val) (qs (slot k.val)) (qs (slot k.val)) fk fv (pgW X i k.val) (pgOk X i hX k.val) ∗ owed c)) := by
  have gen : ∀ (s : BitVec 32) (hs : SlotOk s), s = slot k.val →
      iprop(Own c A.pt qp X ∗ FlightW c A X i qs fk fv hX (slot k.val) (slotOf k.val) k.val ∗ owed c)
      ⊢ Wp c (block A (fun p => k0_off59 i v1 k (BitVec.ofNat 32 p)) (fun p hp => k0_off59_inb i v1 hw k ⟨p, hp⟩)
          k0_chk18 (fun w => k0_chk18.dec w) (fun w h => pageOk_of_inb h.1) (wait A s hs))
        (fun _ => iprop(Own c A.pt qp X ∗ Landed c A (slot k.val) (slotOf k.val) (qs (slot k.val)) (qs (slot k.val)) fk fv (pgW X i k.val) (pgOk X i hX k.val) ∗ owed c)) := by
    rintro s hs rfl
    exact wait_block c A _ _ _ _ fk fv (pgW X i k.val) (pgOk X i hX _) _ _ _ _ _
      (fun p hp => ⟨(pageOk (hX _)).hc, fun _ => (pageOk (hX _)).hcw⟩)
  exact gen _ _ (slotW_eq hv k)

theorem trip_wp (hw : k0_chk9 i v1) (st : St F) (k : Fin (k0_t1_loop v1).trips) :
    Inv c A X i qs qp fk fv hX qX ks vs (blocks v1.toNat) st k.val
      ⊢ Wp c (trip A i v1 hw ks vs k) (fun _ => Inv c A X i qs qp fk fv hX qX ks vs (blocks v1.toNat) st (k.val + 1)) := by
  have hk : k.val < v1.toNat / 1024 := by have := k.isLt; have := trips1 hv; omega
  have hkb : k.val < blocks v1.toNat := by unfold blocks; omega
  have h2 : iprop(Own c A.pt qp X ∗ FreeW c A qs fk fv (slot (k.val + 1)) (slotOf (k.val + 1)))
      ⊢ Wp c (if h2 : k0_cond2 v1 k = 1#1 then startK A i v1 hw k h2 else pure ⟨⟩)
        (fun _ => iprop(Own c A.pt qp X ∗ Ready c A X i qs fk fv hX (blocks v1.toNat) (k.val + 1))) := by
    unfold Ready
    by_cases hc : k0_cond2 v1 k = 1#1
    · rw [dif_pos hc]
      rw [if_pos ((cond2_iff hv k).1 hc)]
      exact startK_wp c A X i qs qp fk fv hX hv hw k hc
    · rw [dif_neg hc]
      rw [if_neg (fun h => hc ((cond2_iff hv k).2 h))]
      exact wp_pure (F := F) c PUnit.unit (Q := fun _ => _)
  unfold Inv
  rw [show Ready c A X i qs fk fv hX (blocks v1.toNat) k.val = FlightW c A X i qs fk fv hX (slot k.val) (slotOf k.val) k.val from if_pos hkb,
    FreeW_congr c A qs fk fv (slot_add_two k.val) (slotOf _) (slotOf k.val)]
  unfold trip
  iintro ⟨Hp, HA, HR, HF, HO⟩
  iapply (wp_step c h2) $$ [Hp HF]
  · isplitl [Hp]; · iexact Hp
    iexact HF
  iintro %_ ⟨Hp, HF⟩
  iapply (wp_step c (waitK_wp c A X i qs qp fk fv hX hv hw k)) $$ [Hp HR HO]
  · isplitl [Hp]; · iexact Hp
    isplitl [HR]; · iexact HR
    iexact HO
  iintro %_ ⟨Hp, HR, HO⟩
  iapply (wp_wand_r _ _ _)
  isplitl [HA HR]
  · iapply (attend_wp c (slot k.val) (slotOf k.val) A id ks vs (k0_off100 v1 k) (k0_off100_inb i v1 hw k) (off100_eq hv k) _ _ fk fv
      (pgW X i k.val) (pgOk X i hX k.val) qX _)
    isplitl [HA]; · iexact HA
    iexact HR
  iintro %_ ⟨HA, HR⟩
  isplitl [Hp]; · iexact Hp
  isplitl [HA]; · iexact HA
  isplitl [HF]; · iexact HF
  isplitl [HR]; · iexact HR
  iexact HO

theorem tail_wp (hw : k0_chk9 i v1) (h4 : k0_cond4 v1 = 1#1) (st : St F) :
    iprop(Own c A.pt qp X ∗ Acc c A qX st ∗ FlightW c A X i qs fk fv hX (slot (v1.toNat / 1024)) (slotOf (v1.toNat / 1024)) (v1.toNat / 1024) ∗ owed c)
      ⊢ Wp c (tail A i v1 hw ks vs h4) (fun _ => iprop(Own c A.pt qp X
        ∗ Acc c A qX (attS (tailMask (rem v1)) ks vs (pool c A.kc fk (pgW X i (v1.toNat / 1024)) (pgOk X i hX (v1.toNat / 1024)))
            (pool c A.vc fv (pgW X i (v1.toNat / 1024)) (pgOk X i hX (v1.toNat / 1024))) qX st)
        ∗ FreeW c A qs fk fv (slot (v1.toNat / 1024)) (slotOf (v1.toNat / 1024)) ∗ owed c)) := by
  have gen : ∀ (s : BitVec 32) (hs : SlotOk s), s = slot (v1.toNat / 1024) →
      iprop(Own c A.pt qp X ∗ FlightW c A X i qs fk fv hX (slot (v1.toNat / 1024)) (slotOf (v1.toNat / 1024)) (v1.toNat / 1024) ∗ owed c)
      ⊢ Wp c (block A (fun p => k0_off184 i v1 (BitVec.ofNat 32 p)) (fun p hp => k0_off184_inb i v1 hw h4 ⟨p, hp⟩)
          (k0_chk42 v1) (fun w => k0_chk42.dec v1 w) (fun w h => pageOk_of_inb (h.1 h4)) (wait A s hs))
        (fun _ => iprop(Own c A.pt qp X ∗ Landed c A (slot (v1.toNat / 1024)) (slotOf (v1.toNat / 1024)) (qs (slot (v1.toNat / 1024))) (qs (slot (v1.toNat / 1024))) fk fv
          (pgW X i (v1.toNat / 1024)) (pgOk X i hX (v1.toNat / 1024)) ∗ owed c)) := by
    rintro s hs rfl
    exact wait_block c A _ _ _ _ fk fv (pgW X i (v1.toNat / 1024)) (pgOk X i hX _) _ _ _ _ _
      (fun p hp => ⟨fun _ => (pageOk (hX _)).hc, fun _ _ => (pageOk (hX _)).hcw⟩)
  unfold tail
  iintro ⟨Hp, HA, HR, HO⟩
  iapply (wp_step c (gen _ _ (slotT_eq hv))) $$ [Hp HR HO]
  · isplitl [Hp]; · iexact Hp
    isplitl [HR]; · iexact HR
    iexact HO
  iintro %_ ⟨Hp, HR, HO⟩
  iapply (wp_wand_r _ _ _)
  isplitl [HA HR]
  · iapply (attend_wp c (slot (v1.toNat / 1024)) (slotOf (v1.toNat / 1024)) A (tailMask (rem v1)) ks vs (k0_off225 v1) (k0_off225_inb i v1 hw h4) (off225_eq hv) _ _ fk fv
      (pgW X i (v1.toNat / 1024)) (pgOk X i hX (v1.toNat / 1024)) qX st)
    isplitl [HA]; · iexact HA
    iexact HR
  iintro %_ ⟨HA, HR⟩
  isplitl [Hp]; · iexact Hp
  isplitl [HA]; · iexact HA
  isplitl [HR]; · iexact HR
  iexact HO

/-! ## From the loop on -/

/-- What the result block holds. -/
def outR (st : St F) (y : Vec F S1x128x2048 .bf16) : Vec F S1x128x2048 .bf16 := rowS (N := 16) (outS st) 16 y

theorem late_wp (hw : k0_chk9 i v1) (st : St F) (y : Vec F S1x128x2048 .bf16) :
    iprop(Own c A.pt qp X ∗ Acc c A qX st ∗ Ready c A X i qs fk fv hX (blocks v1.toNat) 0 ∗ FreeW c A qs fk fv (slot 1) (slotOf 1) ∗ owed c ∗ Own c A.y fullShare y)
      ⊢ Wp c (late A i v1 hw ks vs) (fun _ => iprop(Own c A.pt qp X ∗ Acc c A qX (lastS c A X i fk fv hX qX ks vs v1 st)
        ∗ FreeW c A qs fk fv (slot 0) (slotOf 0) ∗ FreeW c A qs fk fv (slot 1) (slotOf 1) ∗ owed c
        ∗ Own c A.y fullShare (outR (lastS c A X i fk fv hX qX ks vs v1 st) y))) := by
  have hcond : iprop(Own c A.pt qp X ∗ Acc c A qX (blksS c A X i fk fv hX qX ks vs (v1.toNat / 1024) st)
        ∗ Ready c A X i qs fk fv hX (blocks v1.toNat) (v1.toNat / 1024) ∗ owed c)
      ⊢ Wp c (if h4 : k0_cond4 v1 = 1#1 then tail A i v1 hw ks vs h4 else pure ⟨⟩) (fun _ => iprop(Own c A.pt qp X
        ∗ Acc c A qX (lastS c A X i fk fv hX qX ks vs v1 st)
        ∗ FreeW c A qs fk fv (slot (v1.toNat / 1024)) (slotOf (v1.toNat / 1024)) ∗ owed c)) := by
    unfold Ready lastS
    by_cases hr : 0 < v1.toNat % 1024
    · rw [dif_pos ((cond4_iff hv).2 hr)]
      rw [if_pos hr, if_pos (by unfold blocks; rw [if_pos hr]; omega)]
      exact tail_wp c A X i qs qp fk fv hX qX ks vs hv hw ((cond4_iff hv).2 hr) _
    · rw [dif_neg (fun h => hr ((cond4_iff hv).1 h))]
      rw [if_neg hr, if_neg (by unfold blocks; rw [if_neg hr]; omega)]
      exact wp_pure (F := F) c PUnit.unit (Q := fun _ => _)
  have hslots : iprop(FreeW c A qs fk fv (slot (v1.toNat / 1024)) (slotOf (v1.toNat / 1024)) ∗ FreeW c A qs fk fv (slot (v1.toNat / 1024 + 1)) (slotOf (v1.toNat / 1024 + 1)))
      ⊢ iprop(FreeW c A qs fk fv (slot 0) (slotOf 0) ∗ FreeW c A qs fk fv (slot 1) (slotOf 1)) := by
    rcases Nat.mod_two_eq_zero_or_one (v1.toNat / 1024) with h0 | h0
    · have e0 : slot (v1.toNat / 1024) = slot 0 := by unfold slot; rw [h0]
      have e1 : slot (v1.toNat / 1024 + 1) = slot 1 := by unfold slot; rw [show (v1.toNat / 1024 + 1) % 2 = 1 by omega]
      rw [FreeW_congr c A qs fk fv e0 (slotOf _) (slotOf _), FreeW_congr c A qs fk fv e1 (slotOf _) (slotOf _)]
    · have e0 : slot (v1.toNat / 1024) = slot 1 := by unfold slot; rw [h0]
      have e1 : slot (v1.toNat / 1024 + 1) = slot 0 := by unfold slot; rw [show (v1.toNat / 1024 + 1) % 2 = 0 by omega]
      rw [FreeW_congr c A qs fk fv e0 (slotOf _) (slotOf _), FreeW_congr c A qs fk fv e1 (slotOf _) (slotOf _)]
      exact sep_comm.1
  unfold late
  iintro ⟨Hp, HA, HR, HF, HO, Hy⟩
  iapply (Scf.wp_for_bind _ _ _ _ _ _ (k0_t1_ok i v1 hw) _ _ (fun k _ => Inv c A X i qs qp fk fv hX qX ks vs (blocks v1.toNat) st k)
    (fun k _ => trip_wp c A X i qs qp fk fv hX qX ks vs hv hw st k)) $$ [Hp HA HR HF HO]
  · unfold Inv
    isplitl [Hp]; · iexact Hp
    isplitl [HA]; · iexact HA
    isplitl [HR]; · iexact HR
    isplitl [HF]; · iexact HF
    iexact HO
  iintro %_ H
  iapply (Scf.wp_for_bind _ _ _ _ _ _ (k0_t2_ok i v1 hw) _ _ (fun k _ => (iprop(emp) : sProp 𝕄))
    (fun k _ => absurd k.isLt (by have e : Scf.trips (k0_t2_loop v1).lb (k0_t2_loop v1).ub (k0_t2_loop v1).st = 0 := trips2 hv; omega))) $$ []
  · iempintro
  iintro %_ -
  have e1 : Inv c A X i qs qp fk fv hX qX ks vs (blocks v1.toNat) st (k0_t1_loop v1).trips = Inv c A X i qs qp fk fv hX qX ks vs (blocks v1.toNat) st (v1.toNat / 1024) := by
    rw [trips1 hv]
  ihave H := (Entails.of_eq e1) $$ H
  unfold Inv
  icases H with ⟨Hp, HA, HR, HF, HO⟩
  iapply (wp_step c hcond) $$ [Hp HA HR HO]
  · isplitl [Hp]; · iexact Hp
    isplitl [HA]; · iexact HA
    isplitl [HR]; · iexact HR
    iexact HO
  iintro %_ ⟨Hp, HA, HR, HO⟩
  ihave H := hslots $$ [HR HF]
  · isplitl [HR]; · iexact HR
    iexact HF
  icases H with ⟨H0, H1⟩
  ihave H := (rowS_wp c 16 (outH A) _ (fun y => iprop(Acc c A qX (lastS c A X i fk fv hX qX ks vs v1 st) ∗ Own c A.y fullShare y))
    (fun h hh y => outH_wp c A qX _ h hh y) y) $$ [HA Hy]
  · isplitl [HA]; · iexact HA
    iexact Hy
  iapply (wp_wand_r _ _ _)
  isplitl [H]; · iexact H
  iintro %_ ⟨HA, Hy⟩
  isplitl [Hp]; · iexact Hp
  isplitl [HA]; · iexact HA
  isplitl [H0]; · iexact H0
  isplitl [H1]; · iexact H1
  isplitl [HO]; · iexact HO
  iexact Hy

end Cert.KernelIdeal.Hand
-- ==== Proof.KernelIdeal.Kbody.lean ====
/-
  The whole body of the kernel at one grid point: from the blocks it finds to the blocks it leaves. Every
  block it writes is written all over, so what it leaves does not depend on what was there.
-/
module

public import proofs.«01_k».proof.Proof.KernelIdeal.Loop

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

/-! ## A row of stores that covers its buffer -/

section Cover
variable {s : Shape} {α : Type} {N : ℕ}

/-- A row of stores agrees, wherever one of them reaches, from whatever it starts. -/
theorem rowS_cover_le (r : (t : ℕ) → t < N → Rect s) (v : (t : ℕ) → (ht : t < N) → (r t ht).shape.Idx → α) (a b : s.Idx → α) :
    ∀ n, n ≤ N → ∀ j, (∃ t, ∃ ht : t < N, t < n ∧ j ∈ (r t ht).set) →
      rowS (N := N) (fun t ht x => (r t ht).overlay x (v t ht)) n a j = rowS (N := N) (fun t ht x => (r t ht).overlay x (v t ht)) n b j
  | 0, _, j, ⟨t, ht, h, _⟩ => absurd h (Nat.not_lt_zero t)
  | n + 1, hn, j, ⟨t, ht, h, hj⟩ => by
    rw [rowS_succ _ (by omega : n < N), rowS_succ _ (by omega : n < N)]
    by_cases hm : j ∈ (r n (by omega)).set
    · obtain ⟨x, rfl⟩ := (r n (by omega)).exists_idx_of_mem hm
      exact (Rect.overlay_emb _ _ _ x).trans (Rect.overlay_emb _ _ _ x).symm
    · rw [Rect.overlay_of_not_mem _ _ _ hm, Rect.overlay_of_not_mem _ _ _ hm]
      refine rowS_cover_le r v a b n (by omega) j ⟨t, ht, ?_, hj⟩
      have : t ≠ n := by rintro rfl; exact hm hj
      omega

theorem rowS_cover (r : (t : ℕ) → t < N → Rect s) (v : (t : ℕ) → (ht : t < N) → (r t ht).shape.Idx → α) (a b : s.Idx → α)
    (hc : ∀ j, ∃ t, ∃ ht : t < N, j ∈ (r t ht).set) :
    rowS (N := N) (fun t ht x => (r t ht).overlay x (v t ht)) N a = rowS (N := N) (fun t ht x => (r t ht).overlay x (v t ht)) N b :=
  funext fun j => rowS_cover_le r v a b N le_rfl j (let ⟨t, ht, h⟩ := hc j; ⟨t, ht, ht, h⟩)

/-- A row of steps, read through a projection the steps respect. -/
theorem rowS_proj {σ τ' : Type} (f : (t : ℕ) → t < N → σ → σ) (g : (t : ℕ) → t < N → τ' → τ') (p : σ → τ')
    (h : ∀ t ht x, p (f t ht x) = g t ht (p x)) : ∀ n, n ≤ N → ∀ x, p (rowS f n x) = rowS g n (p x)
  | 0, _, _ => rfl
  | n + 1, hn, x => by
    rw [rowS_succ _ (by omega : n < N), rowS_succ _ (by omega : n < N), h, rowS_proj f g p h n (by omega)]

end Cover

theorem mem_rH (j : S128x2048.Idx) : ∃ h, ∃ hh : h < 16, j ∈ (rH h hh).set := by
  have h1 : (j 1).val < 2048 := (j 1).isLt
  have h0 : (j 0).val < 128 := (j 0).isLt
  refine ⟨(j 1).val / 128, by omega, Rect.mem_set_unit.2 (Fin.forall_fin_two.2 ⟨⟨Nat.zero_le _, ?_⟩, ⟨?_, ?_⟩⟩)⟩
  · show (j 0).val < 0 + 128; omega
  · show 128 * ((j 1).val / 128) ≤ (j 1).val; omega
  · show (j 1).val < 128 * ((j 1).val / 128) + 128; omega

theorem mem_rT (j : S128x2048.Idx) : ∃ t, ∃ ht : t < 8, j ∈ (rT t ht).set := by
  have h1 : (j 1).val < 2048 := (j 1).isLt
  have h0 : (j 0).val < 128 := (j 0).isLt
  refine ⟨(j 1).val / 256, by omega, Rect.mem_set_unit.2 (Fin.forall_fin_two.2 ⟨⟨Nat.zero_le _, ?_⟩, ⟨?_, ?_⟩⟩)⟩
  · show (j 0).val < 0 + 128; omega
  · show 256 * ((j 1).val / 256) ≤ (j 1).val; omega
  · show (j 1).val < 256 * ((j 1).val / 256) + 256; omega

theorem mem_rT1 (j : S1x2048.Idx) : ∃ t, ∃ ht : t < 8, j ∈ (rT1 t ht).set := by
  have h1 : (j 1).val < 2048 := (j 1).isLt
  have h0 : (j 0).val < 1 := (j 0).isLt
  refine ⟨(j 1).val / 256, by omega, Rect.mem_set_unit.2 (Fin.forall_fin_two.2 ⟨⟨Nat.zero_le _, ?_⟩, ⟨?_, ?_⟩⟩)⟩
  · show (j 0).val < 0 + 1; omega
  · show 256 * ((j 1).val / 256) ≤ (j 1).val; omega
  · show (j 1).val < 256 * ((j 1).val / 256) + 256; omega

theorem mem_rH3 (j : S1x128x2048.Idx) : ∃ h, ∃ hh : h < 16, j ∈ (rH3 h hh).set := by
  have h2 : (j 2).val < 2048 := (j 2).isLt
  have h1 : (j 1).val < 128 := (j 1).isLt
  have h0 : (j 0).val < 1 := (j 0).isLt
  refine ⟨(j 2).val / 128, by omega, Rect.mem_set_unit.2 fun a => ?_⟩
  match a with
  | ⟨0, _⟩ => exact ⟨Nat.zero_le _, by show (j 0).val < 0 + 1; omega⟩
  | ⟨1, _⟩ => exact ⟨Nat.zero_le _, by show (j 1).val < 0 + 128; omega⟩
  | ⟨2, _⟩ => exact ⟨by show 128 * ((j 2).val / 128) ≤ (j 2).val; omega, by show (j 2).val < 128 * ((j 2).val / 128) + 128; omega⟩

theorem mem_rK (j : S1x128x128.Idx) : j ∈ rK.set := by
  have h2 : (j 2).val < 128 := (j 2).isLt
  have h1 : (j 1).val < 128 := (j 1).isLt
  have h0 : (j 0).val < 1 := (j 0).isLt
  refine Rect.mem_set_unit.2 fun a => ?_
  match a with
  | ⟨0, _⟩ => exact ⟨Nat.zero_le _, by show (j 0).val < 0 + 1; omega⟩
  | ⟨1, _⟩ => exact ⟨Nat.zero_le _, by show (j 1).val < 0 + 128; omega⟩
  | ⟨2, _⟩ => exact ⟨Nat.zero_le _, by show (j 2).val < 0 + 128; omega⟩

theorem overlay_cover {s : Shape} {α : Type} (r : Rect s) (v : r.shape.Idx → α) (a b : s.Idx → α) (hc : ∀ j, j ∈ r.set) : r.overlay a v = r.overlay b v := by
  funext j
  obtain ⟨x, rfl⟩ := r.exists_idx_of_mem (hc j)
  exact (Rect.overlay_emb _ _ _ x).trans (Rect.overlay_emb _ _ _ x).symm

/-- The queries transposed, whatever the buffer held. -/
theorem queries_any (X : Vec F S1x128x2048 .bf16) (a b : Vec F S128x2048 .bf16) : rowS (N := 16) (transpS X) 16 a = rowS (N := 16) (transpS X) 16 b :=
  rowS_cover (N := 16) rH _ a b mem_rH
/-- The result block, whatever the buffer held. -/
theorem outR_any (st : St F) (a b : Vec F S1x128x2048 .bf16) : outR st a = outR st b :=
  rowS_cover (N := 16) rH3 _ a b mem_rH3
theorem codesS_any (x : Vec F S1x128x128 .bf16) (s : F .f32) (a b : Vec F S1x128x128 .fp8e4m3) : codesS x s a = codesS x s b :=
  overlay_cover rK _ a b mem_rK
/-- The state after the new tokens, whatever the buffers held. -/
theorem newS_any (ks vs : FVec F S1x128 .bf16) (sX : Vec F S4 .f32) (kX vX : Vec F S1x128x128 .bf16) (qX : Vec F S128x2048 .bf16) (a b : St F) :
    newS ks vs sX kX vX qX a = newS ks vs sX kX vX qX b := by
  unfold newS
  generalize (deq (codes (fun j => kX (rK.emb j)) (scAt sX 0 inb_S4_S1_0)) ks) = k
  generalize (transpose S128x128 [1, 0] (deq (codes (fun j => vX (rK.emb j)) (scAt sX 1 inb_S4_S1_1)) vs) transposes_S128x128_p1_0_S128x128) = vt
  have hm := fun x => (rowS_proj (N := 8) (tileNS k vt qX) _ St.m (fun t ht _ => rfl) 8 le_rfl x).trans (rowS_cover (N := 8) rT1 _ x.m a.m mem_rT1)
  have hl := fun x => (rowS_proj (N := 8) (tileNS k vt qX) _ St.l (fun t ht _ => rfl) 8 le_rfl x).trans (rowS_cover (N := 8) rT1 _ x.l a.l mem_rT1)
  have ha := fun x => (rowS_proj (N := 8) (tileNS k vt qX) _ St.acc (fun t ht _ => rfl) 8 le_rfl x).trans (rowS_cover (N := 8) rT _ x.acc a.acc mem_rT)
  have ext : ∀ x y : St F, x.m = y.m → x.l = y.l → x.acc = y.acc → x = y := by
    rintro ⟨_, _, _⟩ ⟨_, _, _⟩ h1 h2 h3; cases h1; cases h2; cases h3; rfl
  exact ext _ _ ((hm a).trans (hm b).symm) ((hl a).trans (hl b).symm) ((ha a).trans (ha b).symm)

/-! ## What the body leaves -/

/-- The queries, transposed. -/
def qC (X : Vec F S1x128x2048 .bf16) : Vec F S128x2048 .bf16 := rowS (N := 16) (transpS X) 16 (constant S128x2048 .bf16 0x0000#16)
def st0 : St F := ⟨constant S1x2048 .f32 0x00000000#32, constant S1x2048 .f32 0x00000000#32, constant S128x2048 .f32 0x00000000#32⟩
/-- A scale as the body dequantises by it. -/
def kS (sX : Vec F S4 .f32) : FVec F S1x128 .bf16 := srow (scAt sX 2 inb_S4_S1_2)
def vS (sX : Vec F S4 .f32) : FVec F S1x128 .bf16 := srow (scAt sX 3 inb_S4_S1_3)
/-- The state after the new tokens. -/
def newC (sX : Vec F S4 .f32) (QX : Vec F S1x128x2048 .bf16) (kX vX : Vec F S1x128x128 .bf16) : St F := newS (kS sX) (vS sX) sX kX vX (qC QX) st0
def kCodes (sX : Vec F S4 .f32) (kX : Vec F S1x128x128 .bf16) : Vec F S1x128x128 .fp8e4m3 := codesS kX (scAt sX 0 inb_S4_S1_0) (constant S1x128x128 .fp8e4m3 0x00#8)
def vCodes (sX : Vec F S4 .f32) (vX : Vec F S1x128x128 .bf16) : Vec F S1x128x128 .fp8e4m3 := codesS vX (scAt sX 1 inb_S4_S1_1) (constant S1x128x128 .fp8e4m3 0x00#8)

variable (c : Dev nD) (A : Args) (X : Vec F S8x1024 .i32) (i : grid0.Coords) (qs : BitVec 32 → PosShare TreeShare) (qp ql : PosShare TreeShare)
  (fk : Buf (Elt F) (A.kc.view.loc (c : Thread nD τ))) (fv : Buf (Elt F) (A.vc.view.loc (c : Thread nD τ)))
  (hX : ∀ j, (X j : BitVec 32).toNat < 8192)

/-- The length of row `i`, as the body loads it. -/
def lenAt (L : Vec F S8 .i32) : BitVec 32 := L ((Rect.unit (s := S8) (k0_off1 i) S1.size (k0_off1_inb i)).emb (Shape.Idx.first (numel1_S1.symm ▸ Nat.one_pos)))

/-- The result block. -/
def yC (sX : Vec F S4 .f32) (QX : Vec F S1x128x2048 .bf16) (kX vX : Vec F S1x128x128 .bf16) (L : Vec F S8 .i32) : Vec F S1x128x2048 .bf16 :=
  outR (lastS c A X i fk fv hX (qC QX) (kS sX) (vS sX) (lenAt i L) (newC sX QX kX vX)) (constant S1x128x2048 .bf16 0x0000#16)

theorem start0_wp {v1 : BitVec 32} (h1 : k0_cond1 v1 = 1#1) :
    iprop(Own c A.pt qp X ∗ FreeW c A qs fk fv (slot 0) (slotOf 0))
      ⊢ Wp c (start0 A i v1 h1) (fun _ => iprop(Own c A.pt qp X ∗ FlightW c A X i qs fk fv hX (slot 0) (slotOf 0) 0)) := by
  have hi : (i 0).val < 8 := (i 0).isLt
  exact start_block c A 0#32 (slotOk (by decide)) _ _ fk fv (pgW X i 0) (pgOk X i hX _) _ _ _ _ _
    (fun p hp => ⟨fun _ => (pageOk (hX _)).hc, fun _ _ => (pageOk (hX _)).hcw⟩)
    (fun p hp => wordAt_eq X i 0 p hp (by omega) _ _ (by
      have e : (Scalar.indexCast (BitVec.ofNat 32 (i 0).val)).toNat = (i 0).val := row_toNat i
      rw [e, show 8 * 0 + p = p by omega]))

/-- The body after its length is known to be in range. -/
def kafter (A : Args) (i : grid0.Coords) (v1 : BitVec 32) (hw : k0_chk9 i v1) : Pg PUnit := do
  let s2 : Elt F .f32 ← smemLoad A.sc (Rect.unit (s := S4) ![2] S1.size inb_S4_S1_2) numel1_S1 rfl
  let s3 : Elt F .f32 ← smemLoad A.sc (Rect.unit (s := S4) ![3] S1.size inb_S4_S1_3) numel1_S1 rfl
  (if h1 : k0_cond1 v1 = 1#1 then start0 A i v1 h1 else pure ⟨⟩)
  early A i v1 hw (srow s2) (srow s3)

/-- All the body owns but the shared tables. -/
def Held (QX : Vec F S1x128x2048 .bf16) (sX : Vec F S4 .f32) (kX vX : Vec F S1x128x128 .bf16) (q0 q1 q2 q3 : PosShare TreeShare) (L : Vec F S8 .i32) : sProp 𝕄 :=
  iprop(Own c A.pt qp X ∗ Own c A.sl ql L ∗ Own c A.sc q0 sX ∗ Own c A.x q1 QX ∗ Own c A.kn q2 kX ∗ Own c A.vn q3 vX
    ∗ FreeW c A qs fk fv (slot 0) (slotOf 0) ∗ FreeW c A qs fk fv (slot 1) (slotOf 1) ∗ owed c ∗ ∃ qX, ∃ st, Acc c A qX st)

theorem kbody_wp (L : Vec F S8 .i32) (hL : ∀ j, (L j : BitVec 32).toNat ≤ 131072) (QX : Vec F S1x128x2048 .bf16) (sX : Vec F S4 .f32)
    (kX vX : Vec F S1x128x128 .bf16) (q0 q1 q2 q3 : PosShare TreeShare) (y : Vec F S1x128x2048 .bf16) (ko vo : Vec F S1x128x128 .fp8e4m3) :
    iprop(Held c A X qs qp ql fk fv QX sX kX vX q0 q1 q2 q3 L ∗ Own c A.y fullShare y ∗ Own c A.ko fullShare ko ∗ Own c A.vo fullShare vo)
      ⊢ Wp c (kbody A i) (fun _ => iprop(Held c A X qs qp ql fk fv QX sX kX vX q0 q1 q2 q3 L
        ∗ Own c A.y fullShare (yC c A X i fk fv hX sX QX kX vX L) ∗ Own c A.ko fullShare (kCodes sX kX) ∗ Own c A.vo fullShare (vCodes sX vX))) := by
  have hv : (lenAt i L).toNat ≤ 131072 := hL _
  have hw := chk9_of hv i
  have h1 : iprop(Own c A.pt qp X ∗ FreeW c A qs fk fv (slot 0) (slotOf 0))
      ⊢ Wp c (if h1 : k0_cond1 (lenAt i L) = 1#1 then start0 A i (lenAt i L) h1 else pure ⟨⟩)
        (fun _ => iprop(Own c A.pt qp X ∗ Ready c A X i qs fk fv hX (blocks (lenAt i L).toNat) 0)) := by
    unfold Ready
    by_cases hc : k0_cond1 (lenAt i L) = 1#1
    · rw [dif_pos hc]
      rw [if_pos ((cond1_iff hv).1 hc)]
      exact start0_wp c A X i qs qp fk fv hX hc
    · rw [dif_neg hc]
      rw [if_neg (fun h => hc ((cond1_iff hv).2 h))]
      exact wp_pure (F := F) c PUnit.unit (Q := fun _ => _)
  unfold Held kbody
  iintro ⟨⟨Hp, Hl, Hs, Hx, Hk, Hv, H0, H1, HO, %qX, %st, HA⟩, Hy, Hko, Hvo⟩
  iapply (wp_smem c) $$ Hl; iintro Hl
  iapply (wp_assume (k := fun h' : PLift (k0_chk9 i (lenAt i L)) => kafter A i (lenAt i L) h'.down) Variants.none (c : Thread nD τ) none Set.univ hw)
  unfold kafter
  iapply (wp_smem c) $$ Hs; iintro Hs
  iapply (wp_smem c) $$ Hs; iintro Hs
  iapply (wp_step c h1) $$ [Hp H0]
  · isplitl [Hp]; · iexact Hp
    iexact H0
  iintro %_ ⟨Hp, HR⟩
  unfold early Acc
  icases HA with ⟨Hq, HA⟩
  iapply (wp_step c (rowS_wp c 16 (transp A) _ (fun q => iprop(Own c A.x q1 QX ∗ Own c A.qt fullShare q))
    (fun h hh q => transp_wp c A q1 QX h hh q) qX)) $$ [Hx Hq]
  · isplitl [Hx]; · iexact Hx
    iexact Hq
  iintro %_ ⟨Hx, Hq⟩
  ihave Hq := (Entails.of_eq (congrArg (Own c A.qt fullShare) (queries_any QX qX (constant S128x2048 .bf16 0x0000#16)))) $$ Hq
  iapply (wp_step c (newTok_wp c A (kS sX) (vS sX) q0 q2 q3 sX kX vX (qC QX) st ko vo)) $$ [Hq HA Hs Hk Hv Hko Hvo]
  · unfold Acc
    isplitl [Hq HA]
    · isplitl [Hq]; · iexact Hq
      iexact HA
    isplitl [Hs]; · iexact Hs
    isplitl [Hk]; · iexact Hk
    isplitl [Hv]; · iexact Hv
    isplitl [Hko]; · iexact Hko
    iexact Hvo
  iintro %_ ⟨HA, Hs, Hk, Hv, Hko, Hvo⟩
  ihave HA := (Entails.of_eq (congrArg (Acc c A (qC QX)) (newS_any (kS sX) (vS sX) sX kX vX (qC QX) st st0))) $$ HA
  iapply (wp_wand_r _ _ _)
  isplitl [Hp HA HR H1 HO Hy]
  · iapply (late_wp c A X i qs qp fk fv hX (qC QX) (kS sX) (vS sX) hv hw (newC sX QX kX vX) y)
    isplitl [Hp]; · iexact Hp
    isplitl [HA]; · iexact HA
    isplitl [HR]; · iexact HR
    isplitl [H1]; · iexact H1
    isplitl [HO]; · iexact HO
    iexact Hy
  iintro %_ ⟨Hp, HA, H0, H1, HO, Hy⟩
  ihave Hy := (Entails.of_eq (congrArg (Own c A.y fullShare) (outR_any (lastS c A X i fk fv hX (qC QX) (kS sX) (vS sX) (lenAt i L) (newC sX QX kX vX)) y (constant S1x128x2048 .bf16 0x0000#16)))) $$ Hy
  ihave Hko := (Entails.of_eq (congrArg (Own c A.ko fullShare) (codesS_any kX (scAt sX 0 inb_S4_S1_0) ko (constant S1x128x128 .fp8e4m3 0x00#8)))) $$ Hko
  ihave Hvo := (Entails.of_eq (congrArg (Own c A.vo fullShare) (codesS_any vX (scAt sX 1 inb_S4_S1_1) vo (constant S1x128x128 .fp8e4m3 0x00#8)))) $$ Hvo
  isplitl [Hp Hl Hs Hx Hk Hv H0 H1 HO HA]
  · isplitl [Hp]; · iexact Hp
    isplitl [Hl]; · iexact Hl
    isplitl [Hs]; · iexact Hs
    isplitl [Hx]; · iexact Hx
    isplitl [Hk]; · iexact Hk
    isplitl [Hv]; · iexact Hv
    isplitl [H0]; · iexact H0
    isplitl [H1]; · iexact H1
    isplitl [HO]; · iexact HO
    iexists (qC QX), (lastS c A X i fk fv hX (qC QX) (kS sX) (vS sX) (lenAt i L) (newC sX QX kX vX))
    unfold Acc; iexact HA
  isplitl [Hy]; · iexact Hy
  isplitl [Hko]; · iexact Hko
  iexact Hvo

end Cert.KernelIdeal.Hand
-- ==== Proof.KernelIdeal.Host.lean ====
/-
  What the buffers hold when the kernel starts: the host's operations before it, which write none of the arguments.
-/
module

public import proofs.«01_k».proof.Proof.Gen.KernelIdeal.Launch
public import proofs.«01_k».proof.Proof.KernelIdeal.Kbody
public import Idealize.ShloMosaic.Lib.Pipeline.FrameBody
public import Idealize.ShloMosaic.Lib.StableHlo.Run

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ)

/-- The host's operations before the kernel, in order: scales to powers of two, then the reshapes. -/
abbrev hostOps : List (List (HloOp τ sig (Elt F))) :=
  [Gen.hostOps0, Gen.hostOps0_1, Gen.hostOps0_2, Gen.hostOps0_3, Gen.hostOps0_4, Gen.hostOps0_5, Gen.hostOps0_6, Gen.hostOps0_7, Gen.hostOps0_8]

/-- What a buffer holds when the kernel starts. -/
@[irreducible] def V (c : Dev nD) (b : Ref sig .tc) : Buf (Elt F) ((c : Thread nD τ).loc b) :=
  StableHlo.after (hostOps (F := F)).flatten (fun b => m (c, b)) b

theorem V_eq : V m = fun c (b : Ref sig .tc) => StableHlo.after (hostOps (F := F)).flatten (fun b => m (c, b)) b := by
  funext c b; unfold V; rfl

/-- Every reference the host writes, in order. -/
def written : List (Ref sig .tc) :=
  [ main_cst, main_cst_0, main_v0, main_v1, main_v2, main_cst_1, main_call0_v0, main_v3, main_cst_2, main_v4, main_v5, main_cst_3, main_v6,
    main_v7, main_cst_4, main_v8, main_v9, main_cst_5, main_call1_v0, main_v10, main_v11, main_v12, main_v13, main_cst_6, main_call2_v0,
    main_v14, main_cst_7, main_v15, main_v16, main_cst_8, main_v17, main_v18, main_cst_9, main_v19, main_v20, main_cst_10, main_call3_v0,
    main_v21, main_v22, main_v23, main_v24, main_v25, main_v26 ]

theorem writes_written : (hostOps (F := F)).flatten.Forall fun op => op.writes ⊆ (written.map (Proc.devRef (τ := τ) .tc)).toFinset :=
  StableHlo.forall_writes_sub_of_map rfl

theorem V_of_not_written (c : Dev nD) (r : Ref sig .tc) (hr : r ∉ written) : V m c r = m ((c : Thread nD τ).loc r) := by
  unfold V
  exact StableHlo.after_of_writes_sub _ _ writes_written hr

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)
theorem V_main_arg6 (c : Dev nD) : V m c main_arg6 = m ((c : Thread nD τ).loc main_arg6) := V_of_not_written m c main_arg6 (by decide)
theorem V_main_arg7 (c : Dev nD) : V m c main_arg7 = m ((c : Thread nD τ).loc main_arg7) := V_of_not_written m c main_arg7 (by decide)
theorem V_main_arg8 (c : Dev nD) : V m c main_arg8 = m ((c : Thread nD τ).loc main_arg8) := V_of_not_written m c main_arg8 (by decide)

theorem hmain (𝒱₀ : Variants) : Pipeline.HMainP (Ix := Unit) (Name := ℕ) (U := Pipeline.UD sig nD τ) (Lvl := ℕ) pcfgs 0 defs₀ 𝒱₀ m (main (F := F)) (V m) := by
  rw [V_eq]
  refine Pipeline.hmainP_prefixes pcfgs 0 defs₀ 𝒱₀ m main hostOps ?_ ?_ Gen.main_chain
  · exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub⟩
  · exact ⟨StableHlo.forall_fresh_of_map rfl, StableHlo.forall_fresh_of_map rfl, StableHlo.forall_fresh_of_map rfl, StableHlo.forall_fresh_of_map rfl,
      StableHlo.forall_fresh_of_map rfl, StableHlo.forall_fresh_of_map rfl, StableHlo.forall_fresh_of_map rfl, StableHlo.forall_fresh_of_map rfl,
      StableHlo.forall_fresh_of_map rfl⟩

/-! ## The prefetched tables -/

/-- The page table and the lengths, which the kernel's scalar memory holds. -/
def tbl : pre0.Contents (Elt F) := fun j => V m (0 : Dev nD) (pre0.ref j)
theorem V_pre (c : Dev nD) (j : Fin 2) : V m c (pre0.ref j) = tbl m j := by obtain rfl : c = 0 := Subsingleton.elim _ _; rfl
/-- No block is chosen by a table, so every content of theirs is admitted. -/
abbrev adm : (pcfg0 (F := F)).Adm := ⟨tbl m, trivial⟩

end Cert.KernelIdeal.Hand

end
-- ==== Proof.KernelIdeal.Keep.lean ====
/-
  Between grid points: what the kernel keeps from one point to the next — the tables, the two slots, the
  running accumulators — and how it is made of, and gives back, what the launch hands over.
-/
module

public import proofs.«01_k».proof.Proof.KernelIdeal.Host

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ)

/-! ## The body's operands -/

/-- The kernel's operands, from the staging buffers a grid point uses. -/
abbrev argsAt (s : (w : Fin 7) → Fin (spec0 w).nbuf) : Args where
  pt := Memref.whole main_arg7
  hpt := Memref.isWhole_whole _
  sl := Memref.whole main_arg8
  hsl := Memref.isWhole_whole _
  sc := spec0_0.stage (s 0)
  hsc := hstage0_0 ((s 0).cast nbuf0_0)
  x := spec0_1.stage (s 1)
  hx := hstage0_1 ((s 1).cast nbuf0_1)
  kn := spec0_2.stage (s 2)
  hkn := hstage0_2 ((s 2).cast nbuf0_2)
  vn := spec0_3.stage (s 3)
  hvn := hstage0_3 ((s 3).cast nbuf0_3)
  kc := Memref.whole main_v25
  hkc := Memref.isWhole_whole _
  vc := Memref.whole main_v26
  hvc := Memref.isWhole_whole _
  y := spec0_4.stage (s 4)
  hy := hstage0_4 ((s 4).cast nbuf0_4)
  ko := spec0_5.stage (s 5)
  hko := hstage0_5 ((s 5).cast nbuf0_5)
  vo := spec0_6.stage (s 6)
  hvo := hstage0_6 ((s 6).cast nbuf0_6)
  kb := Memref.whole cc0_scratch0
  hkb := Memref.isWhole_whole _
  vb := Memref.whole cc0_scratch1
  hvb := Memref.isWhole_whole _
  sm := cc0_scratch2
  qt := Memref.whole cc0_scratch3
  hqt := Memref.isWhole_whole _
  m := Memref.whole cc0_scratch4
  hm := Memref.isWhole_whole _
  l := Memref.whole cc0_scratch5
  hl := Memref.isWhole_whole _
  acc := Memref.whole cc0_scratch6
  hacc := Memref.isWhole_whole _

variable (s : (w : Fin 7) → Fin (spec0 w).nbuf)

/-! ## What the launch hands over -/

/-- The kernel's own four counters: keys and values of slot 0, then of slot 1. -/
abbrev osem0 : Fin 4 → SemLoc sig := fun j => (![SemLoc.dma 13, SemLoc.dma 14, SemLoc.dma 15, SemLoc.dma 16] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0
          ∗ semVal ((c : Thread nD τ), SemLoc.dma 15) 0 ∗ semVal ((c : Thread nD τ), SemLoc.dma 16) 0) := by
  rw [Pipeline.ownSems0_eq_of_list c osem0 [0, 1, 2, 3] (by decide) (by decide)]; rfl

/-- The two page pools the transfers read. -/
def H0 : Finset (Ref sig .tc) := {main_v25, main_v26}
theorem H0_sub : H0 ⊆ Pipeline.restRefsP sig pre0 spec0 := by decide
theorem hbmPts0_eq (c : Dev nD) (W : (b : Ref sig .tc) → Buf (Elt F) ((c : Thread nD τ).loc b)) :
    (bigSep H0 (fun b => ((c : Thread nD τ).loc b) ↦{fullShare} W b) : sProp 𝕄)
      = iprop(((c : Thread nD τ).loc main_v25 ↦{fullShare} W main_v25) ∗ ((c : Thread nD τ).loc main_v26 ↦{fullShare} W main_v26)) := by
  rw [BI.bigSep_eq_bigSepL_of_eq [main_v25, main_v26] (by decide) (by decide)]; rfl

/-- The tables' halves the body reads through. -/
theorem tables_eq (c : Dev nD) :
    (Pipeline.ΦT pre0 (tbl m) c : sProp 𝕄)
      = iprop(((c : Thread nD τ).loc main_arg7 ↦{fullShare.right} tbl m 0) ∗ ((c : Thread nD τ).loc main_arg8 ↦{fullShare.right} tbl m 1)) := by
  unfold Pipeline.ΦT Pipeline.prefHeld
  rw [bigSep_univ_eq_bigSepL [(0 : Fin 2), (1 : Fin 2)] (by decide) (by decide)]; rfl

theorem semK0 : semK (argsAt s) (slot 0) (slotOf 0) = 13 := rfl
theorem semV0 : semV (argsAt s) (slot 0) (slotOf 0) = 14 := rfl
theorem semK1 : semK (argsAt s) (slot 1) (slotOf 1) = 15 := rfl
theorem semV1 : semV (argsAt s) (slot 1) (slotOf 1) = 16 := rfl

/-! ## A double buffer as its two slots -/

section Buffer
variable (c : Dev nD) (B : Memref sig .tc .vmem S2x1024x128 .fp8e4m3)

/-- The elements of the buffer in neither slot. -/
def restSet : Finset (Idx (B.view.loc (c : Thread nD τ))) :=
  (Finset.univ \ slotSet c B (slot 0) (slotOf 0)) \ slotSet c B (slot 1) (slotOf 1)

/-- What is left of the buffer beside the slots, at anything. -/
def leftover : sProp 𝕄 := iprop(∃ g : Buf (Elt F) (B.view.loc (c : Thread nD τ)), B.view.loc (c : Thread nD τ) ↦[restSet c B]{fullShare} g)

theorem slot1_sub : slotSet c B (slot 1) (slotOf 1) ⊆ Finset.univ \ slotSet c B (slot 0) (slotOf 0) := by
  intro x hx
  refine Finset.mem_sdiff.mpr ⟨Finset.mem_univ _, fun h => ?_⟩
  exact Finset.disjoint_left.mp (slotSet_disj c B (slot 0) (slotOf 0) (slot 1) (slotOf 1) (by decide)) h hx

theorem buffer_split (g : Buf (Elt F) (B.view.loc (c : Thread nD τ))) :
    (B.view.loc (c : Thread nD τ) ↦{fullShare} g : sProp 𝕄)
      ⊢ iprop(pages (F := F) c B (slot 0) (slotOf 0) ∗ pages (F := F) c B (slot 1) (slotOf 1) ∗ leftover (F := F) c B) := by
  iintro H
  ihave H := (pointsTo_split_subset (Finset.subset_univ (slotSet c B (slot 0) (slotOf 0)))).1 $$ H
  icases H with ⟨H0, H⟩
  ihave H := (pointsTo_split_subset (slot1_sub c B)).1 $$ H
  icases H with ⟨H1, H⟩
  isplitl [H0]; · iapply (slot_split c B _ (slotOf 0) g); iexact H0
  isplitl [H1]; · iapply (slot_split c B _ (slotOf 1) g); iexact H1
  unfold leftover restSet
  iexists g; iexact H

theorem buffer_join :
    iprop(pages (F := F) c B (slot 0) (slotOf 0) ∗ pages (F := F) c B (slot 1) (slotOf 1) ∗ leftover (F := F) c B)
      ⊢ (iprop(∃ g, B.view.loc (c : Thread nD τ) ↦{fullShare} g) : sProp 𝕄) := by
  iintro ⟨H0, H1, H⟩
  ihave H0 := (pages_join c B _ (slotOf 0)) $$ H0
  icases H0 with ⟨%g0, H0⟩
  ihave H1 := (pages_join c B _ (slotOf 1)) $$ H1
  icases H1 with ⟨%g1, H1⟩
  unfold leftover restSet
  icases H with ⟨%g, H⟩
  ihave H := (pointsTo_join_subset (slot1_sub c B)) $$ [H1 H]
  · isplitl [H1]; · iexact H1
    iexact H
  ihave H := (pointsTo_join_subset (Finset.subset_univ (slotSet c B (slot 0) (slotOf 0)))) $$ [H0 H]
  · isplitl [H0]; · iexact H0
    iexact H
  iexists _; iexact H

end Buffer

/-! ## The invariant -/

/-- The share of a page pool a slot's transfers read through: one half each. -/
def qs (s : BitVec 32) : PosShare TreeShare := if s = slot 0 then fullShare.left else fullShare.right
theorem qs0 : qs (slot 0) = fullShare.left := if_pos rfl
theorem qs1 : qs (slot 1) = fullShare.right := if_neg (by decide)

local instance : IsOp fullShare fullShare.left fullShare.right := IsOp.posShare_halves fullShare

theorem pool_split {sp : Space} {S : Shape} {e : EltTy} (c : Dev nD) (M : Memref sig .tc sp S e) (f : Buf (Elt F) (M.view.loc (c : Thread nD τ))) :
    Pt c M fullShare f ⊢ iprop(Pt c M (qs (slot 0)) f ∗ Pt c M (qs (slot 1)) f) := by
  rw [qs0, qs1]; exact (pointsTo_share IsOp.mem_op).1
theorem pool_join {sp : Space} {S : Shape} {e : EltTy} (c : Dev nD) (M : Memref sig .tc sp S e) (f : Buf (Elt F) (M.view.loc (c : Thread nD τ))) :
    iprop(Pt c M (qs (slot 0)) f ∗ Pt c M (qs (slot 1)) f) ⊢ Pt c M fullShare f := by
  rw [qs0, qs1]; exact (pointsTo_share IsOp.mem_op).2

/-- A whole reference, as the rules of the body speak of it. -/
theorem Pt_whole (c : Dev nD) (b : Ref sig .tc) (q : PosShare TreeShare) (f : Buf (Elt F) ((c : Thread nD τ).loc b)) :
    (Pt c (Memref.whole b) q f : sProp 𝕄) = ((c : Thread nD τ).loc b ↦{q} f) := by
  have e : (Memref.whole b).view.set = Finset.univ := by rw [Memref.view_whole, View.set_whole]
  show (_ ↦[(Memref.whole b).view.set]{q} f : sProp 𝕄) = _
  rw [e]

/-- What the kernel holds between two grid points. -/
def Keep (c : Dev nD) (s : (w : Fin 7) → Fin (spec0 w).nbuf) : sProp 𝕄 :=
  iprop(Own c (argsAt s).pt fullShare.right (V m c main_arg7) ∗ Own c (argsAt s).sl fullShare.right (V m c main_arg8)
    ∗ FreeW c (argsAt s) qs (V m c main_v25) (V m c main_v26) (slot 0) (slotOf 0)
    ∗ FreeW c (argsAt s) qs (V m c main_v25) (V m c main_v26) (slot 1) (slotOf 1)
    ∗ (∃ qX, ∃ st, Acc c (argsAt s) qX st)
    ∗ leftover (F := F) c (argsAt s).kb ∗ leftover (F := F) c (argsAt s).vb ∗ (∃ r, prngReg c r))

theorem Keep_eq (c : Dev nD) (s s' : (w : Fin 7) → Fin (spec0 w).nbuf) : Keep m c s = Keep m c s' := rfl

theorem keep_in (c : Dev nD) :
    iprop(Pipeline.ΦD osem0 spec0 H0 (V m) c ∗ Pipeline.ΦT pre0 (tbl m) c) ⊢ Keep m c s := by
  obtain rfl : c = 0 := Subsingleton.elim _ _
  rw [Pipeline.ΦD_eq, Gen.scopedRest0_eq, ownSems00_eq, hbmPts0_eq, tables_eq]
  unfold Keep FreeW Free freeSide Acc
  rw [semK0, semV0, semK1, semV1]
  iintro ⟨⟨⟨⟨%f0, H0⟩, ⟨%f1, H1⟩, ⟨%f3, H3⟩, ⟨%f4, H4⟩, ⟨%f5, H5⟩, ⟨%f6, H6⟩⟩, Hg, ⟨S0, S1, S2, S3⟩, ⟨Hk, Hv⟩⟩, ⟨HX, HL⟩⟩
  ihave HB0 := (buffer_split (0 : Dev nD) (Memref.whole cc0_scratch0) f0) $$ H0
  icases HB0 with ⟨K0, K1, KR⟩
  ihave HB1 := (buffer_split (0 : Dev nD) (Memref.whole cc0_scratch1) f1) $$ H1
  icases HB1 with ⟨V0, V1, VR⟩
  ihave Hk := (Entails.of_eq (Pt_whole 0 main_v25 fullShare (V m 0 main_v25)).symm) $$ Hk
  ihave Hv := (Entails.of_eq (Pt_whole 0 main_v26 fullShare (V m 0 main_v26)).symm) $$ Hv
  ihave Hk := (pool_split 0 _ _) $$ Hk
  icases Hk with ⟨Hk0, Hk1⟩
  ihave Hv := (pool_split 0 _ _) $$ Hv
  icases Hv with ⟨Hv0, Hv1⟩
  ihave HX := (Entails.of_eq (owns_whole ((0 : Dev nD) : Thread nD τ) main_arg7 fullShare.right (V m 0 main_arg7)).symm) $$ [HX]; · iexact HX
  ihave HL := (Entails.of_eq (owns_whole ((0 : Dev nD) : Thread nD τ) main_arg8 fullShare.right (V m 0 main_arg8)).symm) $$ [HL]; · iexact HL
  ihave H3 := (Entails.of_eq (owns_whole ((0 : Dev nD) : Thread nD τ) cc0_scratch3 fullShare f3).symm) $$ H3
  ihave H4 := (Entails.of_eq (owns_whole ((0 : Dev nD) : Thread nD τ) cc0_scratch4 fullShare f4).symm) $$ H4
  ihave H5 := (Entails.of_eq (owns_whole ((0 : Dev nD) : Thread nD τ) cc0_scratch5 fullShare f5).symm) $$ H5
  ihave H6 := (Entails.of_eq (owns_whole ((0 : Dev nD) : Thread nD τ) cc0_scratch6 fullShare f6).symm) $$ H6
  isplitl [HX]; · iexact HX
  isplitl [HL]; · iexact HL
  isplitl [S0 S1 K0 V0 Hk0 Hv0]
  · isplitl [S0 K0 Hk0]
    · isplitl [S0]; · iexact S0
      isplitl [K0]; · iexact K0
      iexact Hk0
    isplitl [S1]; · iexact S1
    isplitl [V0]; · iexact V0
    iexact Hv0
  isplitl [S2 S3 K1 V1 Hk1 Hv1]
  · isplitl [S2 K1 Hk1]
    · isplitl [S2]; · iexact S2
      isplitl [K1]; · iexact K1
      iexact Hk1
    isplitl [S3]; · iexact S3
    isplitl [V1]; · iexact V1
    iexact Hv1
  isplitl [H3 H4 H5 H6]
  · iexists f3
    iexists (⟨f4, f5, f6⟩ : St F)
    isplitl [H3]; · iexact H3
    isplitl [H4]; · iexact H4
    isplitl [H5]; · iexact H5
    iexact H6
  isplitl [KR]; · iexact KR
  isplitl [VR]; · iexact VR
  iexact Hg

theorem keep_out (c : Dev nD) : Keep m c s ⊢ Pipeline.ΦD osem0 spec0 H0 (V m) c := by
  rw [Pipeline.ΦD_eq, Gen.scopedRest0_eq, ownSems00_eq, hbmPts0_eq]
  unfold Keep FreeW Free freeSide Acc
  rw [semK0, semV0, semK1, semV1]
  iintro ⟨-, -, ⟨⟨S0, K0, Hk0⟩, ⟨S1, V0, Hv0⟩⟩, ⟨⟨S2, K1, Hk1⟩, ⟨S3, V1, Hv1⟩⟩, ⟨%f3, %st, ⟨H3, H4, H5, H6⟩⟩, KR, VR, Hg⟩
  ihave H0 := (buffer_join c (Memref.whole cc0_scratch0)) $$ [K0 K1 KR]
  · isplitl [K0]; · iexact K0
    isplitl [K1]; · iexact K1
    iexact KR
  ihave H1 := (buffer_join c (Memref.whole cc0_scratch1)) $$ [V0 V1 VR]
  · isplitl [V0]; · iexact V0
    isplitl [V1]; · iexact V1
    iexact VR
  ihave Hk := (pool_join c _ _) $$ [Hk0 Hk1]
  · isplitl [Hk0]; · iexact Hk0
    iexact Hk1
  ihave Hv := (pool_join c _ _) $$ [Hv0 Hv1]
  · isplitl [Hv0]; · iexact Hv0
    iexact Hv1
  ihave Hk := (Entails.of_eq (Pt_whole c main_v25 fullShare (V m c main_v25))) $$ Hk
  ihave Hv := (Entails.of_eq (Pt_whole c main_v26 fullShare (V m c main_v26))) $$ Hv
  ihave H3 := (Entails.of_eq (owns_whole (c : Thread nD τ) cc0_scratch3 fullShare f3)) $$ H3
  ihave H4 := (Entails.of_eq (owns_whole (c : Thread nD τ) cc0_scratch4 fullShare st.m)) $$ H4
  ihave H5 := (Entails.of_eq (owns_whole (c : Thread nD τ) cc0_scratch5 fullShare st.l)) $$ H5
  ihave H6 := (Entails.of_eq (owns_whole (c : Thread nD τ) cc0_scratch6 fullShare st.acc)) $$ H6
  isplitl [H0 H1 H3 H4 H5 H6]
  · isplitl [H0]; · iexact H0
    isplitl [H1]; · iexact H1
    isplitl [H3]; · iexists _; iexact H3
    isplitl [H4]; · iexists _; iexact H4
    isplitl [H5]; · iexists _; iexact H5
    iexists _; iexact H6
  isplitl [Hg]; · iexact Hg
  isplitl [S0 S1 S2 S3]
  · isplitl [S0]; · iexact S0
    isplitl [S1]; · iexact S1
    isplitl [S2]; · iexact S2
    iexact S3
  isplitl [Hk]; · iexact Hk
  iexact Hv

end Cert.KernelIdeal.Hand

end
-- ==== Proof.KernelIdeal.Frame.lean ====
/-
  The whole program: every grid point runs the body, the launch runs the grid. It terminates, nothing faults, the
  arguments end unchanged, every counter ends at zero, and the three results end at the blocks the body leaves.
-/
module

public import proofs.«01_k».proof.Proof.KernelIdeal.Keep

@[expose] public section

set_option synthInstance.maxSize 4096

noncomputable section

namespace Cert.KernelIdeal.Hand

open Cert.KernelIdeal
open Idealize.ShloMosaic Idealize.ShloMosaic.TcCoe Idealize.ShloMosaic.Tactic
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.Pipeline (Dat Cfg Window BodyObligation cellOf)

variable {F : FTy → Type} [FloatOps F] [Named F] [Facts]

local notation "Pg" => Prog (TpuEff nD τ sig (Elt F) Λ₀ Proc.tc)
local notation "𝕄" => MT nD τ sig Unit (Elt F) ℕ (Pipeline.UD sig nD τ) ℕ

variable (m : (ℓ : Loc nD τ sig) → Buf (Elt F) ℓ) (ρ : Dev nD → PrngReg)

/-- The words the transfers read are pages of the pools. -/
def PagesOk : Prop := ∀ (c : Dev nD) j, (((V m c main_arg7 : Vec F S8x1024 .i32) j : BitVec 32)).toNat < 8192
/-- The lengths fit the page table. -/
def LensOk : Prop := ∀ (c : Dev nD) j, (((V m c main_arg8 : Vec F S8 .i32) j : BitVec 32)).toNat ≤ 131072

abbrev C0 : Cfg sig Λ₀ := cfg0 (adm m)

/-! ## The blocks of a grid point -/

def scB (c : Dev nD) (t : Fin (C0 m).N) : Vec F S4 .f32 := (((C0 m).win 0).blk t).view.read (Elt F) (V m c main_v22)
def xB (c : Dev nD) (t : Fin (C0 m).N) : Vec F S1x128x2048 .bf16 := (((C0 m).win 1).blk t).view.read (Elt F) (V m c main_arg0)
def kB (c : Dev nD) (t : Fin (C0 m).N) : Vec F S1x128x128 .bf16 := (((C0 m).win 2).blk t).view.read (Elt F) (V m c main_v23)
def vB (c : Dev nD) (t : Fin (C0 m).N) : Vec F S1x128x128 .bf16 := (((C0 m).win 3).blk t).view.read (Elt F) (V m c main_v24)

variable (hX : PagesOk m) (hL : LensOk m)

/-- What the body leaves of the attention's result at point `t`. -/
def yB (c : Dev nD) (t : Fin (C0 m).N) : Vec F S1x128x2048 .bf16 :=
  yC c (argsAt ((C0 m).slots t)) (V m c main_arg7) (grid0.coords t) (V m c main_v25) (V m c main_v26) (hX c) (scB m c t) (xB m c t) (kB m c t) (vB m c t)
    (V m c main_arg8)

/-- The pipeline's data: its windows read their blocks, and the body leaves its three. -/
def dats (p : Fin 1) (c : Dev nD) : Dat τ (Elt F) Unit ℕ (Pipeline.UD sig nD τ) ℕ (Pipeline.pin pcfgs (fun _ => adm m) p) c where
  A w := V m c (Pipeline.arrRef spec0 w)
  after w t := match w with
    | ⟨0, _⟩ => scB m c t
    | ⟨1, _⟩ => xB m c t
    | ⟨2, _⟩ => kB m c t
    | ⟨3, _⟩ => vB m c t
    | ⟨4, _⟩ => yB m hX c t
    | ⟨5, _⟩ => kCodes (scB m c t) (kB m c t)
    | ⟨6, _⟩ => vCodes (scB m c t) (vB m c t)
    | ⟨_ + 7, h⟩ => absurd h (Nat.not_lt.2 (Nat.le_add_left _ _))
  Φ _ := Keep m c ((C0 m).slots Gen.t0_0)
  q _ := fullShare
  owed _ := 0

theorem A_eq (c : Dev nD) (w : Fin (C0 m).W) : (dats m hX 0 c).A w = V m c (Pipeline.arrRef spec0 w) := by
  dsimp only [dats]

theorem before0 (c : Dev nD) (t : Fin (C0 m).N) (d) : (dats m hX 0 c).before 0 t d = scB m c t :=
  ((dats m hX 0 c).before_in_eq_fetched 0 rfl (fun _ => rfl) (fun _ _ _ => rfl) (fun _ => rfl) t d).trans rfl
theorem before1 (c : Dev nD) (t : Fin (C0 m).N) (d) : (dats m hX 0 c).before 1 t d = xB m c t :=
  ((dats m hX 0 c).before_in_eq_fetched 1 rfl (fun _ => rfl) (fun _ _ _ => rfl) (fun _ => rfl) t d).trans rfl
theorem before2 (c : Dev nD) (t : Fin (C0 m).N) (d) : (dats m hX 0 c).before 2 t d = kB m c t :=
  ((dats m hX 0 c).before_in_eq_fetched 2 rfl (fun _ => rfl) (fun _ _ _ => rfl) (fun _ => rfl) t d).trans rfl
theorem before3 (c : Dev nD) (t : Fin (C0 m).N) (d) : (dats m hX 0 c).before 3 t d = vB m c t :=
  ((dats m hX 0 c).before_in_eq_fetched 3 rfl (fun _ => rfl) (fun _ _ _ => rfl) (fun _ => rfl) t d).trans rfl

theorem defs₀_row (t : Fin (C0 m).N) :
    defs₀ (F := F) .tc (C0 m).body ((C0 m).bodyArgs t ((C0 m).slots t)) = kbody (argsAt ((C0 m).slots t)) (grid0.coords t) := by
  unfold defs₀; rw [Defs.onTc_tc]; exact body_eq (argsAt ((C0 m).slots t)) (grid0.coords t)

/-! ## One grid point -/

def bodyPre (c : Dev nD) (t : Fin (C0 m).N) : sProp 𝕄 :=
  iprop((dats m hX 0 c).Φ t.castSucc ∗ (dats m hX 0 c).owesAt () t.castSucc
    ∗ (∃ d, owns (c : Thread nD τ) (argsAt ((C0 m).slots t)).sc fullShare ((dats m hX 0 c).before 0 t d))
    ∗ (∃ d, owns (c : Thread nD τ) (argsAt ((C0 m).slots t)).x fullShare ((dats m hX 0 c).before 1 t d))
    ∗ (∃ d, owns (c : Thread nD τ) (argsAt ((C0 m).slots t)).kn fullShare ((dats m hX 0 c).before 2 t d))
    ∗ (∃ d, owns (c : Thread nD τ) (argsAt ((C0 m).slots t)).vn fullShare ((dats m hX 0 c).before 3 t d))
    ∗ (∃ d, owns (c : Thread nD τ) (argsAt ((C0 m).slots t)).y fullShare ((dats m hX 0 c).before 4 t d))
    ∗ (∃ d, owns (c : Thread nD τ) (argsAt ((C0 m).slots t)).ko fullShare ((dats m hX 0 c).before 5 t d))
    ∗ (∃ d, owns (c : Thread nD τ) (argsAt ((C0 m).slots t)).vo fullShare ((dats m hX 0 c).before 6 t d)))
def bodyPost (c : Dev nD) (t : Fin (C0 m).N) : sProp 𝕄 :=
  iprop((dats m hX 0 c).Φ t.succ ∗ (dats m hX 0 c).owesAt () t.succ
    ∗ owns (c : Thread nD τ) (argsAt ((C0 m).slots t)).sc fullShare ((dats m hX 0 c).after 0 t)
    ∗ owns (c : Thread nD τ) (argsAt ((C0 m).slots t)).x fullShare ((dats m hX 0 c).after 1 t)
    ∗ owns (c : Thread nD τ) (argsAt ((C0 m).slots t)).kn fullShare ((dats m hX 0 c).after 2 t)
    ∗ owns (c : Thread nD τ) (argsAt ((C0 m).slots t)).vn fullShare ((dats m hX 0 c).after 3 t)
    ∗ owns (c : Thread nD τ) (argsAt ((C0 m).slots t)).y fullShare ((dats m hX 0 c).after 4 t)
    ∗ owns (c : Thread nD τ) (argsAt ((C0 m).slots t)).ko fullShare ((dats m hX 0 c).after 5 t)
    ∗ owns (c : Thread nD τ) (argsAt ((C0 m).slots t)).vo fullShare ((dats m hX 0 c).after 6 t))

/-- What the body takes of what is kept, and gives back. -/
def Spec (c : Dev nD) (t : Fin (C0 m).N) : sProp 𝕄 :=
  Held c (argsAt ((C0 m).slots t)) (V m c main_arg7) qs fullShare.right fullShare.right (V m c main_v25) (V m c main_v26)
    (xB m c t) (scB m c t) (kB m c t) (vB m c t) fullShare fullShare fullShare fullShare (V m c main_arg8)

include hL in
theorem spec_wp (c : Dev nD) (t : Fin (C0 m).N) (y : Vec F S1x128x2048 .bf16) (ko vo : Vec F S1x128x128 .fp8e4m3) :
    iprop(Spec m c t ∗ Own c (argsAt ((C0 m).slots t)).y fullShare y ∗ Own c (argsAt ((C0 m).slots t)).ko fullShare ko ∗ Own c (argsAt ((C0 m).slots t)).vo fullShare vo)
      ⊢ Wp c (kbody (argsAt ((C0 m).slots t)) (grid0.coords t)) (fun _ => iprop(Spec m c t ∗ Own c (argsAt ((C0 m).slots t)).y fullShare (yB m hX c t)
        ∗ Own c (argsAt ((C0 m).slots t)).ko fullShare (kCodes (scB m c t) (kB m c t)) ∗ Own c (argsAt ((C0 m).slots t)).vo fullShare (vCodes (scB m c t) (vB m c t)))) := by
  unfold Spec yB
  exact kbody_wp c (argsAt ((C0 m).slots t)) (V m c main_arg7) (grid0.coords t) qs fullShare.right fullShare.right (V m c main_v25) (V m c main_v26) (hX c)
    (V m c main_arg8) (hL c) (xB m c t) (scB m c t) (kB m c t) (vB m c t) fullShare fullShare fullShare fullShare y ko vo

include hL in
theorem sound_body (c : Dev nD) (t : Fin (C0 m).N) :
    bodyPre m hX c t ⊢ wp frame (wpE (defs₀ (F := F)) Variants.none c none) Set.univ (kbody (argsAt ((C0 m).slots t)) (grid0.coords t)) (fun _ => bodyPost m hX c t) := by
  unfold bodyPre bodyPost
  simp only [before0, before1, before2, before3]
  rw [show (dats m hX 0 c).Φ t.succ = Keep m c ((C0 m).slots t) from Keep_eq m c _ _, show (dats m hX 0 c).Φ t.castSucc = Keep m c ((C0 m).slots t) from Keep_eq m c _ _]
  rw [show (dats m hX 0 c).after 0 t = scB m c t from rfl, show (dats m hX 0 c).after 1 t = xB m c t from rfl,
    show (dats m hX 0 c).after 2 t = kB m c t from rfl, show (dats m hX 0 c).after 3 t = vB m c t from rfl, show (dats m hX 0 c).after 4 t = yB m hX c t from rfl,
    show (dats m hX 0 c).after 5 t = kCodes (scB m c t) (kB m c t) from rfl, show (dats m hX 0 c).after 6 t = vCodes (scB m c t) (vB m c t) from rfl]
  unfold Dat.owesAt Pipeline.owesWithin
  rw [show (dats m hX 0 c).owed t.castSucc = 0 from rfl, show (dats m hX 0 c).owed t.succ = 0 from rfl]
  iintro ⟨HK, ⟨%W, -, HW⟩, ⟨%d0, Hsc⟩, ⟨%d1, Hx⟩, ⟨%d2, Hkn⟩, ⟨%d3, Hvn⟩, ⟨%d4, Hy⟩, ⟨%d5, Hko⟩, ⟨%d6, Hvo⟩⟩
  unfold Keep
  icases HK with ⟨HX, HL, HF0, HF1, HA, HR0, HR1, Hg⟩
  iapply (wp_wand_r)
  isplitl [Hsc Hx Hkn Hvn Hy Hko Hvo HX HL HF0 HF1 HA HW]
  · iapply (spec_wp m hX hL c t _ _ _)
    isplitl [Hsc Hx Hkn Hvn HX HL HF0 HF1 HA HW]
    · unfold Spec Held
      isplitl [HX]; · iexact HX
      isplitl [HL]; · iexact HL
      isplitl [Hsc]; · iexact Hsc
      isplitl [Hx]; · iexact Hx
      isplitl [Hkn]; · iexact Hkn
      isplitl [Hvn]; · iexact Hvn
      isplitl [HF0]; · iexact HF0
      isplitl [HF1]; · iexact HF1
      isplitl [HW]; · unfold owed; iexists W; iexact HW
      iexact HA
    isplitl [Hy]; · iexact Hy
    isplitl [Hko]; · iexact Hko
    iexact Hvo
  iintro %_ ⟨HS, Hy, Hko, Hvo⟩
  unfold Spec Held owed
  icases HS with ⟨HX, HL, Hsc, Hx, Hkn, Hvn, HF0, HF1, ⟨%W', HW⟩, HA⟩
  isplitl [HX HL HF0 HF1 HA HR0 HR1 Hg]
  · isplitl [HX]; · iexact HX
    isplitl [HL]; · iexact HL
    isplitl [HF0]; · iexact HF0
    isplitl [HF1]; · iexact HF1
    isplitl [HA]; · iexact HA
    isplitl [HR0]; · iexact HR0
    isplitl [HR1]; · iexact HR1
    iexact Hg
  isplitl [HW]
  · iexists W'; isplitr; · ipureintro; exact fun _ _ => Or.inl trivial
    iexact HW
  isplitl [Hsc]; · iexact Hsc
  isplitl [Hx]; · iexact Hx
  isplitl [Hkn]; · iexact Hkn
  isplitl [Hvn]; · iexact Hvn
  isplitl [Hy]; · iexact Hy
  isplitl [Hko]; · iexact Hko
  iexact Hvo

include hL in
theorem body_obligation (c : Dev nD) : BodyObligation (dats m hX 0 c) (defs₀ (F := F)) Variants.none () Set.univ := fun t => by
  rw [Gen.bigSep_W0, Gen.bigSep_W0, defs₀_row]
  exact triple_restated (sound_body m hX hL c t) rfl .rfl fun _ => .rfl

/-! ## The run -/

include hL in
set_option backward.isDefEq.respectTransparency.types false in
theorem run_main : θ_run defs (onTc (τ := τ) (main (F := F))) (s₀ m ρ)
    (fun r => Pipeline.FramePost (Pipeline.pin pcfgs (fun _ => adm m)) (dats m hX) 0 (V m) r ∧ r.2.sem = fun _ => 0) :=
  Pipeline.θ_run_frameP_dma (Q' := _) pcfgs (fun _ => adm m) (dats m hX) (0 : Fin 1) Gen.launch0 osem0 defs₀ Variants.none ownSemFacts0 H0 H0_sub m ρ main
    (hbody := fun c => (body_obligation m hX hL c).loose) (hshare := fun c => (dats m hX 0 c).share_full fun _ => rfl)
    (howed := fun _ _ => rfl) (V := V m) (hmain := hmain m Variants.none) (hA := A_eq m hX) (hpf := V_pre m)
    (hin := fun c => keep_in m _ c) (hout := fun c => keep_out m _ c)

theorem mem_rest (b : Ref sig .tc) (h : b.isScoped = false) (hb : ∀ w : Fin 7, (spec0 w).arr.view.ref ≠ b) : b ∈ Pipeline.restRefs sig spec0 :=
  Pipeline.mem_restRefs_of b h hb

include hX hL in
/-- The frame: the program terminates, nothing faults, its arguments end unchanged, every counter ends at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 1).trans (V_main_arg0 m c),
      ((h.1 c).2 main_arg1 (mem_rest main_arg1 (by decide) (by decide))).trans (V_main_arg1 m c),
      ((h.1 c).2 main_arg2 (mem_rest main_arg2 (by decide) (by decide))).trans (V_main_arg2 m c),
      ((h.1 c).2 main_arg3 (mem_rest main_arg3 (by decide) (by decide))).trans (V_main_arg3 m c),
      ((h.1 c).2 main_arg4 (mem_rest main_arg4 (by decide) (by decide))).trans (V_main_arg4 m c),
      ((h.1 c).2 main_arg5 (mem_rest main_arg5 (by decide) (by decide))).trans (V_main_arg5 m c),
      ((h.1 c).2 main_arg6 (mem_rest main_arg6 (by decide) (by decide))).trans (V_main_arg6 m c),
      ((h.1 c).2 main_arg7 (mem_rest main_arg7 (by decide) (by decide))).trans (V_main_arg7 m c),
      ((h.1 c).2 main_arg8 (mem_rest main_arg8 (by decide) (by decide))).trans (V_main_arg8 m c)⟩, h.2⟩) (run_main m ρ hX hL)

end Cert.KernelIdeal.Hand

end
-- ==== Proof.InRange.lean ====
/-
  What the precondition `in_range` says, word by word: the page table names pages of the pool, and no sequence is
  longer than its row of the table holds.
-/
module

public import proofs.«01_k».proof.Proof.Gen.Pre_in_range
public import Idealize.ShloMosaic.Lib.ReduceAll
public import Idealize.ShloMosaic.Lib.StableHlo.Predicate

@[expose] public section

namespace Cert.InRange

open Idealize.ShloMosaic

variable {F : FTy → Type} [FloatOps F] [Cert.Pre_in_range.Facts]

theorem and_bits {a b : BitVec 1} (e : IntOp.andi a b = 1#1) : a = 1#1 ∧ b = 1#1 := by
  revert a b; decide

/-- A word that is nonnegative and below `n` as a signed word is below `n` as a natural number. -/
theorem lt_of_bits {w n : BitVec 32} (hn : n.toNat < 2 ^ 31) (h0 : IntOp.cmpi .sge w 0#32 = 1#1)
    (h1 : IntOp.cmpi .slt w n = 1#1) : w.toNat < n.toNat := by
  simp only [IntOp.cmpi, StableHlo.Predicate.ofBool_eq_one_iff, BitVec.sle, BitVec.slt, decide_eq_true_eq,
    StableHlo.Predicate.toInt_eq_toNat_of_lt hn] at h0 h1
  have t := BitVec.toInt_eq_toNat_cond w
  have := w.isLt
  simp only [BitVec.toInt_zero] at h0
  split at t <;> omega

/-- The same with the bound included. -/
theorem le_of_bits {w n : BitVec 32} (hn : n.toNat < 2 ^ 31) (h0 : IntOp.cmpi .sge w 0#32 = 1#1)
    (h1 : IntOp.cmpi .sle w n = 1#1) : w.toNat ≤ n.toNat := by
  simp only [IntOp.cmpi, StableHlo.Predicate.ofBool_eq_one_iff, BitVec.sle, decide_eq_true_eq,
    StableHlo.Predicate.toInt_eq_toNat_of_lt hn] at h0 h1
  have t := BitVec.toInt_eq_toNat_cond w
  have := w.isLt
  simp only [BitVec.toInt_zero] at h0
  split at t <;> omega

instance : Subsingleton Cert.Pre_in_range.S_.Idx := ⟨fun a b => funext fun i => i.elim0⟩

/-- `in_range` holds: every page number is below 8192 and every length at most 131072. -/
theorem words (a0 : FVec F Pre_in_range.S8x128x2048 .bf16) (a1 : FVec F Pre_in_range.S8x128x1x128 .bf16)
    (a2 : FVec F Pre_in_range.S8x128x1x128 .bf16) (a3 : FVec F Pre_in_range.S8192x128x1x128 .fp8e4m3)
    (a4 : FVec F Pre_in_range.S8192x128x1x128 .fp8e4m3) (a5 : FVec F Pre_in_range.S1 .f32)
    (a6 : FVec F Pre_in_range.S1 .f32) (pages : IVec Pre_in_range.S8x1024 32) (lens : IVec Pre_in_range.S8 32)
    (h : Cert.Pre_in_range.fn a0 a1 a2 a3 a4 a5 a6 pages lens = fun _ => 1#1) :
    (∀ j, (pages j).toNat < 8192) ∧ ∀ j, (lens j).toNat ≤ 131072 := by
  have e := congrFun h (Shape.Idx.first Pre_in_range.Facts.h_S_)
  simp only [Cert.Pre_in_range.fn] at e
  obtain ⟨e1, e2⟩ := and_bits e
  constructor
  · intro j
    obtain ⟨l, u⟩ := and_bits (Host.reduce_andi_all _ _ _ _ _ e1 j)
    exact lt_of_bits (n := 8192#32) (by decide) l u
  · intro j
    obtain ⟨l, u⟩ := and_bits (Host.reduce_andi_all _ _ _ _ _ e2 j)
    exact le_of_bits (n := 131072#32) (by decide) l u

end Cert.InRange

end
-- ==== Proof.KernelIdeal.Inputs.lean ====
/-
  What the host hands the kernel: the four scalars, the new tokens and the page pools, as terms of the arguments.
-/
module

public import proofs.«01_k».proof.Proof.KernelIdeal.Frame
public import Idealize.ShloMosaic.Lib.StableHlo.RunRead

@[expose] public section

set_option synthInstance.maxSize 4096

noncomputable section

namespace Cert.KernelIdeal.Hand

open Cert.KernelIdeal
open Idealize.ShloMosaic Idealize.ShloMosaic.TcCoe
open Facts₀ Facts

variable {F : FTy → Type} [FloatOps F] [Named F] [Facts]

/-- The reciprocal of the largest power of two of the table `T` at most `|a|`; 2 where `a` is zero. -/
def invOf (T : FVec F S254 .f32) (a : FVec F S1 .f32) : FVec F S1 .f32 :=
  select (cmpf .oeq a (broadcastInDim S1 ![] bcast_S_S1 (constant S_ .f32 0x00000000#32))) (broadcastInDim S1 ![] bcast_S_S1 (constant S_ .f32 0x40000000#32))
    (Host.divf (broadcastInDim S1 ![] bcast_S_S1 (constant S_ .f32 0x3F800000#32)) (broadcastInDim S1 ![] bcast_S_S1
      (Host.reduce FloatOps.maximumf (select (cmpf .ole T (broadcastInDim S254 ![0] bcast_S1_S254_0 (Host.absf a))) T
        (broadcastInDim S254 ![] bcast_S_S254 (constant S_ .f32 0x00000000#32))) (constant S_ .f32 0xFF800000#32) reducesTo_S254_S_d0 h_S_)))

/-- The tables of powers of two. -/
def tab0 : FVec F S254 .f32 := fun i => FloatOps.ofBits .f32 (lit0 (S254.rowMajor i))
def tab1 : FVec F S254 .f32 := fun i => FloatOps.ofBits .f32 (lit1 (S254.rowMajor i))

variable (m : (ℓ : Loc nD τ sig) → Buf (Elt F) ℓ) (c : Dev nD)

/-- The contents of an argument. -/
abbrev argAt (b : Ref sig .tc) : Buf (Elt F) ((c : Thread nD τ).loc b) := m ((c : Thread nD τ).loc b)

/-- Every reference written before the last five operations. -/
def written_pre : List (Ref sig .tc) :=
  [ main_cst, main_cst_0, main_v0, main_v1, main_v2, main_cst_1, main_call0_v0, main_v3, main_cst_2, main_v4, main_v5, main_cst_3, main_v6,
    main_v7, main_cst_4, main_v8, main_v9, main_cst_5, main_call1_v0, main_v10, main_v11, main_v12, main_v13, main_cst_6, main_call2_v0,
    main_v14, main_cst_7, main_v15, main_v16, main_cst_8, main_v17, main_v18, main_cst_9, main_v19, main_v20, main_cst_10, main_call3_v0,
    main_v21 ]

/-- The host's operations before the last five. -/
abbrev hostPre : List (HloOp τ sig (Elt F)) :=
  [Gen.hostOps0, Gen.hostOps0_1, Gen.hostOps0_2, Gen.hostOps0_3, Gen.hostOps0_4, Gen.hostOps0_5, Gen.hostOps0_6, Gen.hostOps0_7].flatten

/-- What a buffer holds before the last five. -/
@[irreducible] def P (b : Ref sig .tc) : Buf (Elt F) ((c : Thread nD τ).loc b) := StableHlo.after (hostPre (F := F)) (fun b => m (c, b)) b

theorem P_main_v10 : (P m c main_v10 : FVec F S1 .f32) = invOf tab0 (argAt m c main_arg5 : FVec F S1 .f32) := by
  unfold P
  simp only [List.flatten_cons, List.flatten_nil, List.cons_append, List.nil_append, List.append_nil]
  after_reads_simp
  rfl
theorem P_main_v21 : (P m c main_v21 : FVec F S1 .f32) = invOf tab1 (argAt m c main_arg6 : FVec F S1 .f32) := by
  unfold P
  simp only [List.flatten_cons, List.flatten_nil, List.cons_append, List.nil_append, List.append_nil]
  after_reads_simp
  rfl
theorem P_main_arg5 : P m c main_arg5 = argAt m c main_arg5 := by
  unfold P
  exact StableHlo.after_unwritten written_pre rfl (by decide) _
theorem P_main_arg6 : P m c main_arg6 = argAt m c main_arg6 := by
  unfold P
  exact StableHlo.after_unwritten written_pre rfl (by decide) _

theorem after_app : ∀ (l₁ l₂ : List (HloOp τ sig (Elt F))) (W : Valuation τ sig (Elt F)),
    StableHlo.after (l₁ ++ l₂) W = StableHlo.after l₂ (StableHlo.after l₁ W)
  | [], _, _ => rfl
  | op :: l₁, l₂, W => by rw [List.cons_append, StableHlo.after_cons, StableHlo.after_cons, after_app l₁ l₂]

theorem cat4_read (W : Valuation τ sig (Elt F)) : (StableHlo.after Gen.hostOps0_8 W (Proc.devRef .tc main_v22) : FVec F S4 .f32)
    = concatenate S4 0 [⟨S1, (W (Proc.devRef .tc main_v10) : FVec F S1 .f32)⟩, ⟨S1, (W (Proc.devRef .tc main_v21) : FVec F S1 .f32)⟩,
      ⟨S1, (W (Proc.devRef .tc main_arg5) : FVec F S1 .f32)⟩, ⟨S1, (W (Proc.devRef .tc main_arg6) : FVec F S1 .f32)⟩] concatenates_S1_S1_S1_S1_S4_d0 := by
  after_reads_simp
  rfl

/-- The four scalars: the inverse of each scale's power of two, and the scales. -/
theorem V_main_v22 : (V m c main_v22 : FVec F S4 .f32) = concatenate S4 0 [⟨S1, invOf tab0 (argAt m c main_arg5 : FVec F S1 .f32)⟩,
    ⟨S1, invOf tab1 (argAt m c main_arg6 : FVec F S1 .f32)⟩, ⟨S1, (argAt m c main_arg5 : FVec F S1 .f32)⟩, ⟨S1, (argAt m c main_arg6 : FVec F S1 .f32)⟩]
    concatenates_S1_S1_S1_S1_S4_d0 := by
  rw [← P_main_v10, ← P_main_v21, ← P_main_arg5, ← P_main_arg6]
  unfold V P
  refine Eq.trans ?_ (cat4_read _)
  exact congrFun (after_app (hostPre (F := F)) Gen.hostOps0_8 _) (Proc.devRef .tc main_v22)
theorem V_main_v23 : (V m c main_v23 : FVec F S8x128x128 .bf16) = shapeCast S8x128x128 (argAt m c main_arg1 : FVec F S8x128x1x128 .bf16) shapeCasts_S8x128x1x128_S8x128x128 := by
  unfold V
  simp only [List.flatten_cons, List.flatten_nil, List.cons_append, List.nil_append, List.append_nil]
  after_reads_simp
  rfl
theorem V_main_v24 : (V m c main_v24 : FVec F S8x128x128 .bf16) = shapeCast S8x128x128 (argAt m c main_arg2 : FVec F S8x128x1x128 .bf16) shapeCasts_S8x128x1x128_S8x128x128 := by
  unfold V
  simp only [List.flatten_cons, List.flatten_nil, List.cons_append, List.nil_append, List.append_nil]
  after_reads_simp
  rfl
theorem V_main_v25 : (V m c main_v25 : FVec F S8192x128x128 .fp8e4m3) = shapeCast S8192x128x128 (argAt m c main_arg3 : FVec F S8192x128x1x128 .fp8e4m3) shapeCasts_S8192x128x1x128_S8192x128x128 := by
  unfold V
  simp only [List.flatten_cons, List.flatten_nil, List.cons_append, List.nil_append, List.append_nil]
  after_reads_simp
  rfl
theorem V_main_v26 : (V m c main_v26 : FVec F S8192x128x128 .fp8e4m3) = shapeCast S8192x128x128 (argAt m c main_arg4 : FVec F S8192x128x1x128 .fp8e4m3) shapeCasts_S8192x128x1x128_S8192x128x128 := by
  unfold V
  simp only [List.flatten_cons, List.flatten_nil, List.cons_append, List.nil_append, List.append_nil]
  after_reads_simp
  rfl

end Cert.KernelIdeal.Hand

end
-- ==== Proof.Softmax.lean ====
/-
  The softmax of extended reals, block by block. `wgt c s m = 2 ^ (c s - c m)` is the weight of a score `s` against a
  maximum `m`. The largest score, the sum of the weights and the weighted sum of the values over a set of keys follow
  from those over the two parts of a disjoint union: the sums of the first part shrink by the weight of its maximum.
  No score and no value need be finite.
-/
module

public import Idealize.ShloMosaic.PureOps.Ideal
public import Mathlib.Analysis.SpecialFunctions.Log.Basic
public import Mathlib.Analysis.SpecialFunctions.Pow.Real
public import Mathlib.Algebra.BigOperators.Group.Finset.Basic

@[expose] public section

noncomputable section

namespace Cert.Softmax

open Idealize.ShloMosaic

/-- The weight of a score against a maximum. -/
def wgt (c s m : EReal) : EReal := Ideal.exp2 (s * c - m * c)

section One
variable {c : ℝ} (hc : 0 < c)

theorem exp2_nonneg (x : EReal) : 0 ≤ Ideal.exp2 x := by
  induction x with
  | bot => exact le_rfl
  | top => exact le_top
  | coe r => exact EReal.coe_nonneg.2 (Real.rpow_nonneg (by norm_num) r)

theorem wgt_nonneg (s m : EReal) : 0 ≤ wgt c s m := exp2_nonneg _

include hc

theorem wgt_bot (m : EReal) : wgt c ⊥ m = 0 := by
  unfold wgt
  rw [EReal.bot_mul_coe_of_pos hc, EReal.bot_sub]; rfl

theorem wgt_top (s : EReal) : wgt c s ⊤ = 0 := by
  unfold wgt
  rw [EReal.top_mul_coe_of_pos hc, EReal.sub_top]; rfl

theorem wgt_coe (s m : ℝ) : wgt c s m = ((2 : ℝ) ^ (s * c - m * c) : ℝ) := rfl

/-- A weight is a real number once the score is at most the maximum. -/
theorem wgt_real {s m : EReal} (h : s ≤ m) : ∃ r : ℝ, 0 ≤ r ∧ wgt c s m = r := by
  induction m with
  | top => exact ⟨0, le_rfl, wgt_top hc s⟩
  | bot => rw [le_bot_iff] at h; subst h; exact ⟨0, le_rfl, wgt_bot hc _⟩
  | coe m =>
    induction s with
    | bot => exact ⟨0, le_rfl, wgt_bot hc _⟩
    | top => exact absurd h (by simp)
    | coe s => exact ⟨_, Real.rpow_nonneg (by norm_num) _, wgt_coe hc s m⟩

/-- Against a larger maximum a weight shrinks by the weight of the smaller one. -/
theorem wgt_mul {s m m' : EReal} (h : s ≤ m) (h' : m ≤ m') : wgt c s m * wgt c m m' = wgt c s m' := by
  induction s with
  | bot => rw [wgt_bot hc, wgt_bot hc, zero_mul]
  | top =>
    rw [top_le_iff] at h; subst h
    rw [top_le_iff] at h'; subst h'
    rw [wgt_top hc, mul_zero]
  | coe s =>
    induction m' with
    | top => rw [wgt_top hc, wgt_top hc, mul_zero]
    | bot => exact absurd (h.trans h') (by simp)
    | coe m' =>
      induction m with
      | top => exact absurd h' (by simp)
      | bot => exact absurd h (by simp)
      | coe m =>
        rw [wgt_coe hc, wgt_coe hc, wgt_coe hc, ← EReal.coe_mul, ← Real.rpow_add (by norm_num)]
        congr 2; ring

/-- The weight by the exponential, of scores and maximum both scaled. -/
theorem wgt_exp (a : ℝ) (ha : c * Real.log 2 = a) (s m : EReal) : Ideal.exp (s * a - m * a) = wgt c s m := by
  have pa : 0 < a := by rw [← ha]; exact mul_pos hc (Real.log_pos (by norm_num))
  induction m with
  | top =>
    rw [wgt_top hc, EReal.top_mul_coe_of_pos pa, EReal.sub_top]; rfl
  | bot =>
    induction s with
    | bot => rw [wgt_bot hc, EReal.bot_mul_coe_of_pos pa, EReal.bot_sub]; rfl
    | top => unfold wgt; rw [EReal.bot_mul_coe_of_pos pa, EReal.top_mul_coe_of_pos pa, EReal.bot_mul_coe_of_pos hc, EReal.top_mul_coe_of_pos hc]; rfl
    | coe s =>
      unfold wgt
      rw [EReal.bot_mul_coe_of_pos pa, EReal.bot_mul_coe_of_pos hc, ← EReal.coe_mul, ← EReal.coe_mul, EReal.coe_sub_bot, EReal.coe_sub_bot]; rfl
  | coe m =>
    induction s with
    | bot => rw [wgt_bot hc, EReal.bot_mul_coe_of_pos pa, EReal.bot_sub]; rfl
    | top =>
      unfold wgt
      rw [EReal.top_mul_coe_of_pos pa, EReal.top_mul_coe_of_pos hc, ← EReal.coe_mul, ← EReal.coe_mul, EReal.top_sub_coe, EReal.top_sub_coe]; rfl
    | coe s =>
      show ((Real.exp (s * a - m * a) : ℝ) : EReal) = _
      rw [wgt_coe hc, Real.rpow_def_of_pos (by norm_num), ← ha]
      congr 2; ring

omit hc in
/-- A real factor that is not negative goes into a sum. -/
theorem sum_mul_real {κ : Type} (S : Finset κ) (f : κ → EReal) {r : ℝ} (hr : 0 ≤ r) : (∑ i ∈ S, f i) * (r : EReal) = ∑ i ∈ S, f i * (r : EReal) := by
  classical
  induction S using Finset.induction with
  | empty => simp
  | insert a S ha ih =>
    rw [Finset.sum_insert ha, Finset.sum_insert ha, ← ih]
    exact EReal.right_distrib_of_nonneg_of_ne_top (EReal.coe_nonneg.2 hr) (EReal.coe_ne_top r) _ _

end One

/-! ## Over a set of keys -/

section Set
variable {κ : Type} (c : ℝ) (σ : κ → EReal)

/-- The largest score. -/
def mxOf (S : Finset κ) : EReal := S.sup σ
/-- The sum of the weights. -/
def smOf (S : Finset κ) : EReal := ∑ i ∈ S, wgt c (σ i) (mxOf σ S)
/-- The weighted sum of the values. -/
def wsOf (ν : κ → EReal) (S : Finset κ) : EReal := ∑ i ∈ S, wgt c (σ i) (mxOf σ S) * ν i

variable {c} (hc : 0 < c) [DecidableEq κ]

theorem mxOf_union (S T : Finset κ) : mxOf σ (S ∪ T) = max (mxOf σ S) (mxOf σ T) := Finset.sup_union

include hc

theorem smOf_shrink (S : Finset κ) {m : EReal} (h : mxOf σ S ≤ m) :
    smOf c σ S * wgt c (mxOf σ S) m = ∑ i ∈ S, wgt c (σ i) m := by
  obtain ⟨r, hr, e⟩ := wgt_real hc h
  unfold smOf
  rw [e, sum_mul_real S _ hr, ← e]
  exact Finset.sum_congr rfl fun i hi => wgt_mul hc (Finset.le_sup hi) h

theorem wsOf_shrink (ν : κ → EReal) (S : Finset κ) {m : EReal} (h : mxOf σ S ≤ m) :
    wsOf c σ ν S * wgt c (mxOf σ S) m = ∑ i ∈ S, wgt c (σ i) m * ν i := by
  obtain ⟨r, hr, e⟩ := wgt_real hc h
  unfold wsOf
  rw [e, sum_mul_real S _ hr, ← e]
  refine Finset.sum_congr rfl fun i hi => ?_
  rw [mul_assoc, mul_comm (ν i), ← mul_assoc, wgt_mul (s := σ i) (m := mxOf σ S) hc (Finset.le_sup hi) h]

/-- The sum of the weights over a disjoint union. -/
theorem smOf_union (S T : Finset κ) (h : Disjoint S T) :
    smOf c σ (S ∪ T) = smOf c σ S * wgt c (mxOf σ S) (mxOf σ (S ∪ T)) + ∑ i ∈ T, wgt c (σ i) (mxOf σ (S ∪ T)) := by
  rw [smOf_shrink σ hc S (by rw [mxOf_union]; exact le_max_left _ _), smOf, Finset.sum_union h]

/-- The weighted sum over a disjoint union. -/
theorem wsOf_union (ν : κ → EReal) (S T : Finset κ) (h : Disjoint S T) :
    wsOf c σ ν (S ∪ T) = wsOf c σ ν S * wgt c (mxOf σ S) (mxOf σ (S ∪ T)) + ∑ i ∈ T, wgt c (σ i) (mxOf σ (S ∪ T)) * ν i := by
  rw [wsOf_shrink σ hc ν S (by rw [mxOf_union]; exact le_max_left _ _), wsOf, Finset.sum_union h]

omit hc [DecidableEq κ] in
/-- Keys of score `⊥` count for nothing. -/
theorem mxOf_subset {S U : Finset κ} (h : S ⊆ U) (hb : ∀ i ∈ U, i ∉ S → σ i = ⊥) : mxOf σ U = mxOf σ S := by
  refine le_antisymm (Finset.sup_le fun i hi => ?_) (Finset.sup_mono h)
  by_cases his : i ∈ S
  · exact Finset.le_sup his
  · rw [hb i hi his]; exact bot_le

omit [DecidableEq κ] in
theorem smOf_subset {S U : Finset κ} (h : S ⊆ U) (hb : ∀ i ∈ U, i ∉ S → σ i = ⊥) : smOf c σ U = smOf c σ S := by
  unfold smOf
  rw [mxOf_subset σ h hb]
  exact (Finset.sum_subset h fun i hi his => by rw [hb i hi his, wgt_bot hc]).symm

omit [DecidableEq κ] in
theorem wsOf_subset (ν : κ → EReal) {S U : Finset κ} (h : S ⊆ U) (hb : ∀ i ∈ U, i ∉ S → σ i = ⊥) : wsOf c σ ν U = wsOf c σ ν S := by
  unfold wsOf
  rw [mxOf_subset σ h hb]
  exact (Finset.sum_subset h fun i hi his => by rw [hb i hi his, wgt_bot hc, zero_mul]).symm

omit hc [DecidableEq κ] in
/-- The largest of the scaled scores is the largest score, scaled. -/
theorem sup_scaled (S : Finset κ) {a : ℝ} (ha : 0 < a) : (S.sup fun i => σ i * (a : EReal)) = mxOf σ S * (a : EReal) := by
  classical
  have mono : Monotone fun x : EReal => x * (a : EReal) := fun x y h => mul_le_mul_of_nonneg_right h (EReal.coe_nonneg.2 ha.le)
  exact (Finset.comp_sup_eq_sup_comp (fun x : EReal => x * (a : EReal)) (fun x y => mono.map_max) (EReal.bot_mul_coe_of_pos ha)).symm

end Set

end Cert.Softmax

end
-- ==== Proof.KernelIdeal.Cols.lean ====
/-
  The kernel's tile steps read at one column, over the extended reals.
-/
module

public import proofs.«01_k».proof.Proof.KernelIdeal.Kbody
public import proofs.«01_k».proof.Proof.Softmax
public import Idealize.ShloMosaic.Lib.Pointwise
public import Idealize.ShloMosaic.Lib.WordCmp

@[expose] public section

set_option synthInstance.maxSize 4096

noncomputable section

namespace Cert.KernelIdeal.Hand

open Cert.KernelIdeal Cert.Softmax
open Idealize.ShloMosaic
open Facts₀ Facts

/-! ## A fold in two levels -/

section Split
variable {a b N : ℕ} (h : a * b = N)

theorem split_lt (h : a * b = N) (x : Fin a) (y : Fin b) : x.val * b + y.val < N := by
  have := Nat.mul_le_mul_right b (Nat.succ_le_of_lt x.isLt)
  rw [Nat.succ_mul, h] at this
  have := y.isLt; omega

theorem sup_split (f : Fin N → EReal) :
    (Finset.univ.sup fun x : Fin a => Finset.univ.sup fun y : Fin b => f ⟨x.val * b + y.val, split_lt h x y⟩) = Finset.univ.sup f := by
  refine le_antisymm (Finset.sup_le fun x _ => Finset.sup_le fun y _ => Finset.le_sup (f := f) (Finset.mem_univ _)) (Finset.sup_le fun r _ => ?_)
  have hb : 0 < b := by
    refine Nat.pos_of_ne_zero fun e => ?_
    have e1 : N = 0 := by rw [← h, e, Nat.mul_zero]
    have := r.isLt; omega
  have hx : r.val / b < a := Nat.div_lt_of_lt_mul (by rw [Nat.mul_comm, h]; exact r.isLt)
  refine le_trans ?_ (Finset.le_sup (f := fun x : Fin a => Finset.univ.sup fun y : Fin b => f ⟨x.val * b + y.val, split_lt h x y⟩) (Finset.mem_univ ⟨r.val / b, hx⟩))
  refine le_trans (le_of_eq ?_) (Finset.le_sup (f := fun y : Fin b => f ⟨r.val / b * b + y.val, split_lt h ⟨r.val / b, hx⟩ y⟩) (Finset.mem_univ ⟨r.val % b, Nat.mod_lt _ hb⟩))
  exact congrArg f (Fin.ext (Nat.div_add_mod' r.val b).symm)

theorem sum_split (f : Fin N → EReal) :
    (∑ x : Fin a, ∑ y : Fin b, f ⟨x.val * b + y.val, split_lt h x y⟩) = ∑ r, f r := by
  subst h
  rw [← Fintype.sum_prod_type' (f := fun (x : Fin a) (y : Fin b) => f ⟨x.val * b + y.val, split_lt rfl x y⟩)]
  refine Fintype.sum_equiv finProdFinEquiv _ _ fun p => congrArg f (Fin.ext ?_)
  show p.1.val * b + p.2.val = p.2.val + b * p.1.val
  rw [Nat.mul_comm, Nat.add_comm]

end Split

variable [Facts]

theorem ofBits_ninf : Ideal.ofBits .f32 0xFF800000#32 = (⊥ : EReal) := by
  show Ideal.ieee 8 23 0xFF800000#32 = ⊥
  simp [Ideal.ieee]

/-- The factor, as a number. -/
def cR : ℝ := (Real.log 2 * Real.sqrt 128)⁻¹
theorem cR_pos : 0 < cR := inv_pos.2 (mul_pos (Real.log_pos (by norm_num)) (Real.sqrt_pos.2 (by norm_num)))
theorem cE_eq : (cE : Ideal .f32) = ((cR : ℝ) : EReal) := rfl

/-! ## The pieces of a tile -/

theorem mx_at (s : FVec Ideal S1024x256 .f32) (j : Fin 256) : mx s (ix2 0 j) = Finset.univ.sup fun r : Fin 1024 => s (ix2 r j) := by
  pointwise [mx]
  rw [ofBits_ninf]
  exact sup_split (a := 4) (b := 256) rfl fun r => s (ix2 r j)

theorem sm_at (s : FVec Ideal S1024x256 .f32) (j : Fin 256) : sm s (ix2 0 j) = ∑ r : Fin 1024, s (ix2 r j) := by
  pointwise [sm]
  exact sum_split (a := 4) (b := 256) rfl fun r => s (ix2 r j)

theorem wt_at (s : FVec Ideal S1024x256 .f32) (mN : FVec Ideal S1x256 .f32) (r : Fin 1024) (j : Fin 256) :
    wt s mN (ix2 r j) = wgt cR (s (ix2 r j)) (mN (ix2 0 j)) := by
  pointwise [wt]
  rfl

theorem al_at (m mN : FVec Ideal S1x256 .f32) (j : Fin 256) : al m mN (ix2 0 j) = wgt cR (m (ix2 0 j)) (mN (ix2 0 j)) := by
  pointwise [al]
  rfl

theorem pv_at (vt : FVec Ideal S128x1024 .bf16) (p : FVec Ideal S1024x256 .f32) (d : Fin 128) (j : Fin 256) :
    pv vt p (ix2 d j) = ∑ r : Fin 1024, p (ix2 r j) * vt (ix2 d r) := by
  pointwise [pv]
  exact Finset.sum_congr rfl fun r _ => mul_comm _ _

theorem mxN_at (s : FVec Ideal S128x256 .f32) (j : Fin 256) : mxN s (ix2 0 j) = Finset.univ.sup fun r : Fin 128 => s (ix2 r j) := by
  pointwise [mxN]
  rw [ofBits_ninf]
  exact sup_split (a := 4) (b := 32) rfl fun r => s (ix2 r j)

theorem smN_at (s : FVec Ideal S128x256 .f32) (j : Fin 256) : smN s (ix2 0 j) = ∑ r : Fin 128, s (ix2 r j) := by
  pointwise [smN]
  exact sum_split (a := 4) (b := 32) rfl fun r => s (ix2 r j)

theorem wtN_at (s : FVec Ideal S128x256 .f32) (mN : FVec Ideal S1x256 .f32) (r : Fin 128) (j : Fin 256) :
    wtN s mN (ix2 r j) = wgt cR (s (ix2 r j)) (mN (ix2 0 j)) := by
  pointwise [wtN]
  rfl

theorem pvN_at (vt : FVec Ideal S128x128 .bf16) (p : FVec Ideal S128x256 .f32) (d : Fin 128) (j : Fin 256) :
    pvN vt p (ix2 d j) = ∑ r : Fin 128, p (ix2 r j) * vt (ix2 d r) := by
  pointwise [pvN]
  exact Finset.sum_congr rfl fun r _ => mul_comm _ _

/-- The key of row `r` counts: it comes before `rem`. -/
theorem tailMask_at (rem : BitVec 32) (hr : rem.toNat < 1024) (s : FVec Ideal S1024x256 .f32) (r : Fin 1024) (j : Fin 256) :
    tailMask rem s (ix2 r j) = if r.val < rem.toNat then s (ix2 r j) else ⊥ := by
  pointwise [tailMask]
  rw [ofBits_ninf, Scalar.select, WordCmp.cmpi_slt_of_lt (by rw [BitVec.toNat_ofNat]; have := r.isLt; omega) (by omega), BitVec.toNat_ofNat,
    Nat.mod_eq_of_lt (by have := r.isLt; omega)]
  by_cases h : r.val < rem.toNat <;> simp [h]

theorem tokW_word : ∀ j : Fin 256,
    Scalar.select
      (IntOp.andi
        (IntOp.xori
          (IntOp.cmpi .slt (IntOp.remsi .vector (BitVec.ofNat 32 j.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 j.val) (Scalar.select (Scalar.cmpi .eq 128#32 0#32) 1#32 128#32)) 0#32))
      (IntOp.addi (IntOp.remsi .vector (BitVec.ofNat 32 j.val) (Scalar.select (Scalar.cmpi .eq 128#32 0#32) 1#32 128#32))
        (Scalar.select (Scalar.cmpi .eq 128#32 0#32) 1#32 128#32))
      (IntOp.remsi .vector (BitVec.ofNat 32 j.val) (Scalar.select (Scalar.cmpi .eq 128#32 0#32) 1#32 128#32)) = BitVec.ofNat 32 (j.val % 128) := by
  decide +kernel

theorem tokW_at (r : Fin 128) (j : Fin 256) : tokW (ix2 r j) = BitVec.ofNat 32 (j.val % 128) := by
  pointwise [tokW]
  exact tokW_word j

theorem causal_at (s : FVec Ideal S128x256 .f32) (r : Fin 128) (j : Fin 256) :
    causal s (ix2 r j) = if r.val ≤ j.val % 128 then s (ix2 r j) else ⊥ := by
  pointwise [causal]
  have hj : j.val % 128 < 128 := Nat.mod_lt _ (by decide)
  have hr := r.isLt
  rw [ofBits_ninf, Scalar.select, tokW_at, WordCmp.cmpi_sle_ofNat (by omega) (by omega)]
  by_cases h : r.val ≤ j.val % 128 <;> simp [h]

theorem score_at (k : FVec Ideal S1024x128 .bf16) (q : FVec Ideal S128x256 .bf16) (r : Fin 1024) (j : Fin 256) :
    matmul dot_S1024x128_S128x256_S1024x256_1_0_0_1_n_n none k q (constant S1024x256 .f32 0x00000000#32) (ix2 r j) = ∑ d : Fin 128, k (ix2 r d) * q (ix2 d j) := by
  pointwise

theorem scoreN_at (k : FVec Ideal S128x128 .bf16) (q : FVec Ideal S128x256 .bf16) (r : Fin 128) (j : Fin 256) :
    matmul dot_S128x128_S128x256_S128x256_1_0_0_1_n_n none k q (constant S128x256 .f32 0x00000000#32) (ix2 r j) = ∑ d : Fin 128, k (ix2 r d) * q (ix2 d j) := by
  pointwise

end Cert.KernelIdeal.Hand

end
-- ==== Proof.KernelIdeal.State.lean ====
/-
  The kernel's state at one column: what a tile step, a block of cached keys and the block of new keys make of the
  running maximum, the running sum and the weighted values.
-/
module

public import proofs.«01_k».proof.Proof.KernelIdeal.Cols

@[expose] public section

set_option synthInstance.maxSize 4096

noncomputable section

namespace Cert.KernelIdeal.Hand

open Cert.KernelIdeal Cert.Softmax
open Idealize.ShloMosaic
open Facts₀ Facts

/-- The state of one column. -/
@[ext] structure Col where
  m : EReal
  l : EReal
  a : Fin 128 → EReal

/-- The state of a column after the keys `S`. -/
def colOf {κ : Type} (σ : κ → EReal) (ν : Fin 128 → κ → EReal) (S : Finset κ) : Col :=
  ⟨mxOf σ S, smOf cR σ S, fun d => wsOf cR σ (ν d) S⟩

/-- One more block of `n` keys, with scores `σ` and values `ν`. -/
def colStep {n : ℕ} (σ : Fin n → EReal) (ν : Fin 128 → Fin n → EReal) (s : Col) : Col :=
  ⟨max s.m (Finset.univ.sup σ),
    s.l * wgt cR s.m (max s.m (Finset.univ.sup σ)) + ∑ r, wgt cR (σ r) (max s.m (Finset.univ.sup σ)),
    fun d => s.a d * wgt cR s.m (max s.m (Finset.univ.sup σ)) + ∑ r, wgt cR (σ r) (max s.m (Finset.univ.sup σ)) * ν d r⟩

/-- A block of keys disjoint from those before it, as a step. -/
theorem colStep_colOf {κ : Type} [DecidableEq κ] (σ : κ → EReal) (ν : Fin 128 → κ → EReal) (S : Finset κ) {n : ℕ} (e : Fin n ↪ κ)
    (hd : ∀ r, e r ∉ S) : colStep (fun r => σ (e r)) (fun d r => ν d (e r)) (colOf σ ν S) = colOf σ ν (S ∪ Finset.univ.map e) := by
  have hdis : Disjoint S (Finset.univ.map e) := by
    rw [Finset.disjoint_right]
    intro x hx
    obtain ⟨r, -, rfl⟩ := Finset.mem_map.1 hx
    exact hd r
  have hm : mxOf σ (S ∪ Finset.univ.map e) = max (mxOf σ S) (Finset.univ.sup fun r => σ (e r)) := by
    rw [mxOf_union]; unfold mxOf; rw [Finset.sup_map]; rfl
  unfold colStep colOf
  congr 1
  · exact hm.symm
  · rw [smOf_union σ cR_pos S _ hdis, hm, Finset.sum_map]
  · funext d
    rw [wsOf_union σ cR_pos (ν d) S _ hdis, hm, Finset.sum_map]

/-- The first block of keys. -/
theorem colOf_map {κ : Type} (σ : κ → EReal) (ν : Fin 128 → κ → EReal) {n : ℕ} (e : Fin n ↪ κ) :
    colOf σ ν (Finset.univ.map e) = ⟨Finset.univ.sup fun r => σ (e r), ∑ r, wgt cR (σ (e r)) (Finset.univ.sup fun r => σ (e r)),
      fun d => ∑ r, wgt cR (σ (e r)) (Finset.univ.sup fun r => σ (e r)) * ν d (e r)⟩ := by
  have hm : mxOf σ (Finset.univ.map e) = Finset.univ.sup fun r => σ (e r) := by
    unfold mxOf; rw [Finset.sup_map]; rfl
  unfold colOf smOf wsOf
  rw [hm]
  congr 1
  · rw [Finset.sum_map]
  · funext d; rw [Finset.sum_map]

variable [Facts]

/-- Column `x` of a state. -/
def col (st : St Ideal) (x : Fin 2048) : Col := ⟨st.m (ix2 0 x), st.l (ix2 0 x), fun d => st.acc (ix2 d x)⟩

theorem col_m (st : St Ideal) (x : Fin 2048) : (col st x).m = st.m (ix2 0 x) := rfl
theorem col_l (st : St Ideal) (x : Fin 2048) : (col st x).l = st.l (ix2 0 x) := rfl
theorem col_a (st : St Ideal) (x : Fin 2048) (d : Fin 128) : (col st x).a d = st.acc (ix2 d x) := rfl

/-- Column `j` of tile `t`. -/
def cx (t : ℕ) (ht : t < 8) (j : Fin 256) : Fin 2048 := ⟨256 * t + j.val, by have := j.isLt; omega⟩

theorem rT_emb (t : ℕ) (ht : t < 8) (d : Fin 128) (j : Fin 256) : (rT t ht).emb (ix2 d j) = ix2 d (cx t ht j) := by
  funext a; refine Fin.ext ?_
  match a with
  | 0 => show 0 + 1 * d.val = d.val; omega
  | 1 => show 256 * t + 1 * j.val = 256 * t + j.val; omega
theorem rT1_emb (t : ℕ) (ht : t < 8) (j : Fin 256) : (rT1 t ht).emb (ix2 0 j) = ix2 0 (cx t ht j) := by
  funext a; refine Fin.ext ?_
  match a with
  | 0 => rfl
  | 1 => show 256 * t + 1 * j.val = 256 * t + j.val; omega

theorem not_mem_rT (t : ℕ) (ht : t < 8) (d : Fin 128) (x : Fin 2048) (h : x.val / 256 ≠ t) : (ix2 d x : S128x2048.Idx) ∉ (rT t ht).set := by
  intro hm
  obtain ⟨i, e⟩ := (rT t ht).exists_idx_of_mem hm
  have e1 : (256 * t + 1 * (i 1).val) = x.val := congrArg (fun k : S128x2048.Idx => (k 1).val) e
  have : (i 1).val < 256 := (i 1).isLt
  omega
theorem not_mem_rT1 (t : ℕ) (ht : t < 8) (x : Fin 2048) (h : x.val / 256 ≠ t) : (ix2 0 x : S1x2048.Idx) ∉ (rT1 t ht).set := by
  intro hm
  obtain ⟨i, e⟩ := (rT1 t ht).exists_idx_of_mem hm
  have e1 : (256 * t + 1 * (i 1).val) = x.val := congrArg (fun k : S1x2048.Idx => (k 1).val) e
  have : (i 1).val < 256 := (i 1).isLt
  omega

/-- Overlays read at a tile's own columns, and elsewhere. -/
theorem over1 (X : Vec Ideal S1x2048 .f32) (w : Vec Ideal S1x256 .f32) (t : ℕ) (ht : t < 8) (j : Fin 256) :
    (rT1 t ht).overlay X (shapeCast S1x256 w shapeCasts_S1x256_S1x256) (ix2 0 (cx t ht j)) = w (ix2 0 j) := by
  rw [← rT1_emb, Rect.overlay_emb]; pointwise
theorem over2 (X : Vec Ideal S128x2048 .f32) (w : Vec Ideal S128x256 .f32) (t : ℕ) (ht : t < 8) (d : Fin 128) (j : Fin 256) :
    (rT t ht).overlay X (shapeCast S128x256 w shapeCasts_S128x256_S128x256) (ix2 d (cx t ht j)) = w (ix2 d j) := by
  rw [← rT_emb, Rect.overlay_emb]; pointwise

/-! ## A tile step, field by field -/

section Fields
variable {F : FTy → Type} [FloatOps F] [Named F] (mask : FVec F S1024x256 .f32 → FVec F S1024x256 .f32)
  (k : FVec F S1024x128 .bf16) (vt : FVec F S128x1024 .bf16) (kN vN : FVec F S128x128 .bf16) (qX : Vec F S128x2048 .bf16) (t : ℕ) (ht : t < 8) (st : St F)

/-- A tile's scores. -/
def tS : FVec F S1024x256 .f32 := mask (matmul dot_S1024x128_S128x256_S1024x256_1_0_0_1_n_n none k (atQ qX t ht : Vec F S128x256 .bf16) (constant S1024x256 .f32 0x00000000#32))
/-- Its new maxima. -/
def tM : FVec F S1x256 .f32 := maximumf (atT1 st.m t ht) (mx (tS mask k qX t ht))
/-- Its new sums. -/
def tL : FVec F S1x256 .f32 := addf (mulf (atT1 st.l t ht) (al (atT1 st.m t ht) (tM mask k qX t ht st))) (sm (wt (tS mask k qX t ht) (tM mask k qX t ht st)))
/-- Its new weighted values. -/
def tA : FVec F S128x256 .f32 := addf (mulf (atT st.acc t ht) (broadcastTo S128x256 (al (atT1 st.m t ht) (tM mask k qX t ht st)) broadcasts_S1x256_S128x256))
  (pv vt (wt (tS mask k qX t ht) (tM mask k qX t ht st)))
/-- The same over the new keys. -/
def tSN : FVec F S128x256 .f32 := causal (matmul dot_S128x128_S128x256_S128x256_1_0_0_1_n_n none kN (atQ qX t ht : Vec F S128x256 .bf16) (constant S128x256 .f32 0x00000000#32))

theorem tileS_m : (tileS mask k vt qX t ht st).m = (rT1 t ht).overlay st.m (shapeCast S1x256 (tM mask k qX t ht st) shapeCasts_S1x256_S1x256) := rfl
theorem tileS_l : (tileS mask k vt qX t ht st).l = (rT1 t ht).overlay st.l (shapeCast S1x256 (tL mask k qX t ht st) shapeCasts_S1x256_S1x256) := rfl
theorem tileS_acc : (tileS mask k vt qX t ht st).acc = (rT t ht).overlay st.acc (shapeCast S128x256 (tA mask k vt qX t ht st) shapeCasts_S128x256_S128x256) := rfl
theorem tileNS_m : (tileNS kN vN qX t ht st).m = (rT1 t ht).overlay st.m (shapeCast S1x256 (mxN (tSN kN qX t ht)) shapeCasts_S1x256_S1x256) := rfl
theorem tileNS_l : (tileNS kN vN qX t ht st).l = (rT1 t ht).overlay st.l (shapeCast S1x256 (smN (wtN (tSN kN qX t ht) (mxN (tSN kN qX t ht)))) shapeCasts_S1x256_S1x256) := rfl
theorem tileNS_acc : (tileNS kN vN qX t ht st).acc = (rT t ht).overlay st.acc (shapeCast S128x256 (pvN vN (wtN (tSN kN qX t ht) (mxN (tSN kN qX t ht)))) shapeCasts_S128x256_S128x256) := rfl

end Fields

/-! ## One tile step -/

theorem maximumf_at (a b : FVec Ideal S1x256 .f32) (i : S1x256.Idx) : maximumf a b i = max (a i) (b i) := rfl
theorem addf_at (a b : FVec Ideal S1x256 .f32) (i : S1x256.Idx) : addf a b i = a i + b i := rfl
theorem mulf_at (a b : FVec Ideal S1x256 .f32) (i : S1x256.Idx) : mulf a b i = a i * b i := rfl
theorem addf_at2 (a b : FVec Ideal S128x256 .f32) (i : S128x256.Idx) : addf a b i = a i + b i := rfl
theorem mulf_at2 (a b : FVec Ideal S128x256 .f32) (i : S128x256.Idx) : mulf a b i = a i * b i := rfl
theorem bc_at (a : FVec Ideal S1x256 .f32) (d : Fin 128) (j : Fin 256) : broadcastTo S128x256 a broadcasts_S1x256_S128x256 (ix2 d j) = a (ix2 0 j) := by
  pointwise

section Tile
variable (mask : FVec Ideal S1024x256 .f32 → FVec Ideal S1024x256 .f32) (p : Fin 1024 → Prop) [DecidablePred p]
  (hmask : ∀ s r j, mask s (ix2 r j) = if p r then s (ix2 r j) else ⊥)
  (k : FVec Ideal S1024x128 .bf16) (vt : FVec Ideal S128x1024 .bf16) (qX : Vec Ideal S128x2048 .bf16)

/-- The scores of a column. -/
def sc1 (p : Fin 1024 → Prop) [DecidablePred p] (k : FVec Ideal S1024x128 .bf16) (qX : Vec Ideal S128x2048 .bf16) (x : Fin 2048) (r : Fin 1024) : EReal :=
  if p r then ∑ d : Fin 128, k (ix2 r d) * qX (ix2 d x) else ⊥

include hmask

theorem tileS_own (t : ℕ) (ht : t < 8) (st : St Ideal) (j : Fin 256) :
    col (tileS mask k vt qX t ht st) (cx t ht j) = colStep (sc1 p k qX (cx t ht j)) (fun d r => vt (ix2 d r)) (col st (cx t ht j)) := by
  have hs : ∀ r, tS mask k qX t ht (ix2 r j) = sc1 p k qX (cx t ht j) r := fun r => by
    unfold tS; rw [hmask, score_at]; unfold sc1 atQ; simp only [rT_emb]
  have hm1 : atT1 st.m t ht (ix2 0 j) = st.m (ix2 0 (cx t ht j)) := congrArg st.m (rT1_emb t ht j)
  have hl1 : atT1 st.l t ht (ix2 0 j) = st.l (ix2 0 (cx t ht j)) := congrArg st.l (rT1_emb t ht j)
  have ha1 : ∀ d, atT st.acc t ht (ix2 d j) = st.acc (ix2 d (cx t ht j)) := fun d => congrArg st.acc (rT_emb t ht d j)
  have hmx : mx (tS mask k qX t ht) (ix2 0 j) = Finset.univ.sup (sc1 p k qX (cx t ht j)) := by
    rw [mx_at]; exact Finset.sup_congr rfl fun r _ => hs r
  have hmN : tM mask k qX t ht st (ix2 0 j) = max (st.m (ix2 0 (cx t ht j))) (Finset.univ.sup (sc1 p k qX (cx t ht j))) := by
    unfold tM
    rw [maximumf_at, hmx, hm1]
  refine Col.ext ?_ ?_ ?_
  · rw [col_m, tileS_m, over1]; exact hmN
  · rw [col_l, tileS_l, over1]
    unfold tL
    rw [addf_at, mulf_at, al_at, sm_at, hl1, hm1, hmN]
    refine congrArg₂ (· + ·) rfl (Finset.sum_congr rfl fun r _ => ?_)
    rw [wt_at, hmN, hs]; rfl
  · funext d
    rw [col_a, tileS_acc, over2]
    unfold tA
    rw [addf_at2, mulf_at2, bc_at, al_at, pv_at, ha1, hm1, hmN]
    refine congrArg₂ (· + ·) rfl (Finset.sum_congr rfl fun r _ => ?_)
    rw [wt_at, hmN, hs]; rfl

omit hmask in
theorem tileS_other (t : ℕ) (ht : t < 8) (st : St Ideal) (x : Fin 2048) (hx : x.val / 256 ≠ t) : col (tileS mask k vt qX t ht st) x = col st x := by
  refine Col.ext ?_ ?_ ?_
  · rw [col_m, col_m, tileS_m]; exact Rect.overlay_of_not_mem _ _ _ (not_mem_rT1 t ht x hx)
  · rw [col_l, col_l, tileS_l]; exact Rect.overlay_of_not_mem _ _ _ (not_mem_rT1 t ht x hx)
  · funext d
    rw [col_a, col_a, tileS_acc]; exact Rect.overlay_of_not_mem _ _ _ (not_mem_rT t ht d x hx)

end Tile

/-- One tile step over the new keys. -/
def scN (k : FVec Ideal S128x128 .bf16) (qX : Vec Ideal S128x2048 .bf16) (x : Fin 2048) (r : Fin 128) : EReal :=
  if r.val ≤ x.val % 128 then ∑ d : Fin 128, k (ix2 r d) * qX (ix2 d x) else ⊥

theorem tileNS_own (k : FVec Ideal S128x128 .bf16) (vt : FVec Ideal S128x128 .bf16) (qX : Vec Ideal S128x2048 .bf16) (t : ℕ) (ht : t < 8) (st : St Ideal) (j : Fin 256) :
    col (tileNS k vt qX t ht st) (cx t ht j) = ⟨Finset.univ.sup (scN k qX (cx t ht j)),
      ∑ r, wgt cR (scN k qX (cx t ht j) r) (Finset.univ.sup (scN k qX (cx t ht j))),
      fun d => ∑ r, wgt cR (scN k qX (cx t ht j) r) (Finset.univ.sup (scN k qX (cx t ht j))) * vt (ix2 d r)⟩ := by
  have hs : ∀ r, tSN k qX t ht (ix2 r j) = scN k qX (cx t ht j) r := fun r => by
    have e : j.val % 128 = (cx t ht j).val % 128 := by show j.val % 128 = (256 * t + j.val) % 128; omega
    unfold tSN; rw [causal_at, scoreN_at, e]; unfold scN atQ; simp only [rT_emb]
  have hmN : mxN (tSN k qX t ht) (ix2 0 j) = Finset.univ.sup (scN k qX (cx t ht j)) := by
    rw [mxN_at]; exact Finset.sup_congr rfl fun r _ => hs r
  refine Col.ext ?_ ?_ ?_
  · rw [col_m, tileNS_m, over1]; exact hmN
  · rw [col_l, tileNS_l, over1]
    rw [smN_at]
    show (∑ r : Fin 128, wtN (tSN k qX t ht) (mxN (tSN k qX t ht)) (ix2 r j)) = ∑ r, wgt cR (scN k qX (cx t ht j) r) (Finset.univ.sup (scN k qX (cx t ht j)))
    refine Finset.sum_congr rfl fun r _ => ?_
    rw [wtN_at, hmN, hs]
  · funext d
    rw [col_a, tileNS_acc, over2]
    rw [pvN_at]
    show _ = ∑ r, wgt cR (scN k qX (cx t ht j) r) (Finset.univ.sup (scN k qX (cx t ht j))) * vt (ix2 d r)
    refine Finset.sum_congr rfl fun r _ => ?_
    rw [wtN_at, hmN, hs]

theorem tileNS_other (k : FVec Ideal S128x128 .bf16) (vt : FVec Ideal S128x128 .bf16) (qX : Vec Ideal S128x2048 .bf16) (t : ℕ) (ht : t < 8) (st : St Ideal) (x : Fin 2048) (hx : x.val / 256 ≠ t) : col (tileNS k vt qX t ht st) x = col st x := by
  refine Col.ext ?_ ?_ ?_
  · rw [col_m, col_m, tileNS_m]; exact Rect.overlay_of_not_mem _ _ _ (not_mem_rT1 t ht x hx)
  · rw [col_l, col_l, tileNS_l]; exact Rect.overlay_of_not_mem _ _ _ (not_mem_rT1 t ht x hx)
  · funext d
    rw [col_a, col_a, tileNS_acc]; exact Rect.overlay_of_not_mem _ _ _ (not_mem_rT t ht d x hx)

/-! ## All the tiles -/

/-- A row of steps read at a place that only step `u` changes. -/
theorem rowS_at {σ α : Type} {N : ℕ} (f : (t : ℕ) → t < N → σ → σ) (g : σ → α) (u : ℕ) (hu : u < N)
    (hother : ∀ t ht s, u ≠ t → g (f t ht s) = g s) (s : σ) (v : α) (hown : ∀ s', g s' = g s → g (f u hu s') = v) :
    ∀ n, n ≤ N → g (rowS f n s) = if u < n then v else g s
  | 0, _ => by rw [if_neg (Nat.not_lt_zero _)]; rfl
  | n + 1, hn => by
    have ih := rowS_at f g u hu hother s v hown n (by omega)
    rw [rowS_succ f (show n < N by omega)]
    by_cases e : u = n
    · subst e
      rw [if_pos (Nat.lt_succ_self _)]
      rw [if_neg (lt_irrefl _)] at ih
      exact hown _ ih
    · rw [hother n _ _ e, ih]
      by_cases h : u < n
      · rw [if_pos h, if_pos (by omega)]
      · rw [if_neg h, if_neg (by omega)]

theorem cx_div (x : Fin 2048) : cx (x.val / 256) (by have := x.isLt; omega) ⟨x.val % 256, Nat.mod_lt _ (by decide)⟩ = x :=
  Fin.ext (by show 256 * (x.val / 256) + x.val % 256 = x.val; omega)

/-- A slot of cached keys, at one column. -/
theorem attS_col (mask : FVec Ideal S1024x256 .f32 → FVec Ideal S1024x256 .f32) (p : Fin 1024 → Prop) [DecidablePred p]
    (hmask : ∀ s r j, mask s (ix2 r j) = if p r then s (ix2 r j) else ⊥) (ks vs : FVec Ideal S1x128 .bf16) (K V : Vec Ideal S1x1024x128 .fp8e4m3)
    (qX : Vec Ideal S128x2048 .bf16) (st : St Ideal) (x : Fin 2048) :
    col (attS mask ks vs K V qX st) x = colStep (sc1 p (keys K ks) qX x) (fun d r => keys V vs (ix2 r d)) (col st x) := by
  have hu : x.val / 256 < 8 := by have := x.isLt; omega
  have hT : ∀ d (r : Fin 1024), transpose S128x1024 [1, 0] (keys V vs) transposes_S1024x128_p1_0_S128x1024 (ix2 d r) = keys V vs (ix2 r d) := fun d r => by
    pointwise
  refine (rowS_at (N := 8) _ (fun s => col s x) (x.val / 256) hu (fun t ht s h => tileS_other mask _ _ qX t ht s x h) st _ (fun s' h => ?_) 8 le_rfl).trans (if_pos hu)
  show col _ x = _
  have e := tileS_own mask p hmask (keys K ks) (transpose S128x1024 [1, 0] (keys V vs) transposes_S1024x128_p1_0_S128x1024) qX (x.val / 256) hu s' ⟨x.val % 256, Nat.mod_lt _ (by decide)⟩
  rw [cx_div] at e
  rw [e, show col s' x = col st x from h]
  simp only [hT]

/-- The new keys, at one column. -/
theorem rowN_col (k : FVec Ideal S128x128 .bf16) (v : FVec Ideal S128x128 .bf16) (qX : Vec Ideal S128x2048 .bf16) (st : St Ideal) (x : Fin 2048) :
    col (rowS (N := 8) (tileNS k (transpose S128x128 [1, 0] v transposes_S128x128_p1_0_S128x128) qX) 8 st) x = ⟨Finset.univ.sup (scN k qX x),
      ∑ r, wgt cR (scN k qX x r) (Finset.univ.sup (scN k qX x)),
      fun d => ∑ r, wgt cR (scN k qX x r) (Finset.univ.sup (scN k qX x)) * v (ix2 r d)⟩ := by
  have hu : x.val / 256 < 8 := by have := x.isLt; omega
  have hT : ∀ d (r : Fin 128), transpose S128x128 [1, 0] v transposes_S128x128_p1_0_S128x128 (ix2 d r) = v (ix2 r d) := fun d r => by
    pointwise
  refine (rowS_at (N := 8) _ (fun s => col s x) (x.val / 256) hu (fun t ht s h => tileNS_other _ _ qX t ht s x h) st _ (fun s' h => ?_) 8 le_rfl).trans (if_pos hu)
  show col _ x = _
  have e := tileNS_own k (transpose S128x128 [1, 0] v transposes_S128x128_p1_0_S128x128) qX (x.val / 256) hu s' ⟨x.val % 256, Nat.mod_lt _ (by decide)⟩
  rw [cx_div] at e
  rw [e]
  simp only [hT]

end Cert.KernelIdeal.Hand

end
-- ==== Proof.KernelIdeal.Seq.lean ====
/-
  The kernel's state after every key of a sequence: at each column, the maximum, the sum of the weights and the weighted
  values over all the positions of the sequence, cached ones and new ones, when the positions past the sequence's length
  have score `⊥`.
-/
module

public import proofs.«01_k».proof.Proof.KernelIdeal.State

@[expose] public section

set_option synthInstance.maxSize 4096

noncomputable section

namespace Cert.KernelIdeal.Hand

open Cert.KernelIdeal Cert.Softmax
open Idealize.ShloMosaic Idealize.ShloMosaic.TcCoe
open Facts₀ Facts

/-- Position `r` of block `b` of cached keys. -/
def eB (b : ℕ) (hb : b < 128) : Fin 1024 ↪ Fin 131200 :=
  ⟨fun r => ⟨1024 * b + r.val, by have := r.isLt; omega⟩, fun r r' h => Fin.ext (by have := congrArg Fin.val h; dsimp only at this; omega)⟩
/-- Position `r` of the new keys. -/
def eN : Fin 128 ↪ Fin 131200 :=
  ⟨fun r => ⟨131072 + r.val, by have := r.isLt; omega⟩, fun r r' h => Fin.ext (by have := congrArg Fin.val h; dsimp only at this; omega)⟩

/-- The new positions and the first `b` blocks. -/
def upTo (b : ℕ) : Finset (Fin 131200) := Finset.univ.filter fun n => 131072 ≤ n.val ∨ n.val < 1024 * b

theorem upTo_zero : upTo 0 = Finset.univ.map eN := by
  ext n
  simp only [upTo, Finset.mem_filter, Finset.mem_univ, true_and, Finset.mem_map]
  constructor
  · rintro (h | h)
    · exact ⟨⟨n.val - 131072, by have := n.isLt; omega⟩, Fin.ext (by show 131072 + (n.val - 131072) = n.val; omega)⟩
    · omega
  · rintro ⟨r, rfl⟩; exact Or.inl (Nat.le_add_right _ _)

theorem upTo_succ (b : ℕ) (hb : b < 128) : upTo (b + 1) = upTo b ∪ Finset.univ.map (eB b hb) := by
  ext n
  simp only [upTo, Finset.mem_filter, Finset.mem_univ, true_and, Finset.mem_map, Finset.mem_union]
  constructor
  · rintro (h | h)
    · exact .inl (.inl h)
    · by_cases h' : n.val < 1024 * b
      · exact .inl (.inr h')
      · exact .inr ⟨⟨n.val - 1024 * b, by omega⟩, Fin.ext (by show 1024 * b + (n.val - 1024 * b) = n.val; omega)⟩
  · rintro ((h | h) | ⟨r, rfl⟩)
    · exact .inl h
    · exact .inr (by omega)
    · have := r.isLt; exact .inr (by show 1024 * b + r.val < _; omega)

theorem eB_not_mem (b : ℕ) (hb : b < 128) (r : Fin 1024) : eB b hb r ∉ upTo b := by
  have := r.isLt
  intro hm
  have h1 : 131072 ≤ 1024 * b + r.val ∨ 1024 * b + r.val < 1024 * b := (Finset.mem_filter.1 hm).2
  omega

theorem colOf_sub {κ : Type} (σ : κ → EReal) (ν : Fin 128 → κ → EReal) {S U : Finset κ} (h : S ⊆ U) (hb : ∀ n ∈ U, n ∉ S → σ n = ⊥) :
    colOf σ ν S = colOf σ ν U := by
  unfold colOf
  rw [mxOf_subset σ h hb, smOf_subset σ cR_pos h hb]
  exact congrArg _ (funext fun d => (wsOf_subset σ cR_pos (ν d) h hb).symm)

/-- Positions of score `⊥` count for nothing. -/
theorem colOf_univ (σ : Fin 131200 → EReal) (ν : Fin 128 → Fin 131200 → EReal) (S : Finset (Fin 131200)) (hb : ∀ n, n ∉ S → σ n = ⊥) :
    colOf σ ν S = colOf σ ν Finset.univ := colOf_sub σ ν (Finset.subset_univ S) fun n _ => hb n

variable [Facts]

theorem rem_nat {v1 : BitVec 32} (h : v1.toNat ≤ 131072) : (rem v1).toNat = v1.toNat % 1024 := isInt_toNat (rem_int h)

variable (c : Dev nD) (A : Args) (X : Vec Ideal S8x1024 .i32) (i : grid0.Coords)
  (fk : Buf (Elt Ideal) (A.kc.view.loc (c : Thread nD τ))) (fv : Buf (Elt Ideal) (A.vc.view.loc (c : Thread nD τ)))
  (hX : ∀ j, (X j : BitVec 32).toNat < 8192) (qX : Vec Ideal S128x2048 .bf16) (ks vs : FVec Ideal S1x128 .bf16)
  (σ : Fin 131200 → EReal) (ν : Fin 128 → Fin 131200 → EReal) (x : Fin 2048) {v1 : BitVec 32} (hv : v1.toNat ≤ 131072)
  (hσ : ∀ b (hb : b < 128) (r : Fin 1024), 1024 * b + r.val < v1.toNat →
    (∑ d : Fin 128, keys (pool c A.kc fk (pgW X i b) (pgOk X i hX b)) ks (ix2 r d) * qX (ix2 d x)) = σ (eB b hb r))
  (hν : ∀ b (hb : b < 128) (r : Fin 1024) d, keys (pool c A.vc fv (pgW X i b) (pgOk X i hX b)) vs (ix2 r d) = ν d (eB b hb r))
  (hbot : ∀ n : Fin 131200, n.val < 131072 → v1.toNat ≤ n.val → σ n = ⊥)

include hv hσ hν in
theorem blksS_col (s : St Ideal) (hs : col s x = colOf σ ν (Finset.univ.map eN)) :
    ∀ b, b ≤ v1.toNat / 1024 → col (blksS c A X i fk fv hX qX ks vs b s) x = colOf σ ν (upTo b)
  | 0, _ => by rw [upTo_zero]; exact hs
  | b + 1, hb => by
    have hb' : b < 128 := by omega
    have ih := blksS_col s hs b (by omega)
    show col (blkS c A X i fk fv hX qX ks vs b (blksS c A X i fk fv hX qX ks vs b s)) x = _
    unfold blkS
    rw [attS_col id (fun _ => True) (fun s r j => (if_pos trivial).symm), ih, upTo_succ b hb', ← colStep_colOf σ ν _ _ (eB_not_mem b hb')]
    congr 1
    · funext r
      unfold sc1
      rw [if_pos trivial]
      exact hσ b hb' r (by have := r.isLt; omega)
    · funext d r
      exact hν b hb' r d

include hv hσ hν hbot in
theorem lastS_col (s : St Ideal) (hs : col s x = colOf σ ν (Finset.univ.map eN)) :
    col (lastS c A X i fk fv hX qX ks vs v1 s) x = colOf σ ν Finset.univ := by
  have ih := blksS_col c A X i fk fv hX qX ks vs σ ν x hv hσ hν s hs (v1.toNat / 1024) le_rfl
  unfold lastS
  by_cases h : 0 < v1.toNat % 1024
  · have hb' : v1.toNat / 1024 < 128 := by omega
    rw [if_pos h, attS_col (tailMask (rem v1)) (fun r => r.val < (rem v1).toNat) (tailMask_at (rem v1) (by rw [rem_nat hv]; omega)), ih,
      ← colOf_univ σ ν (upTo (v1.toNat / 1024 + 1)), upTo_succ _ hb', ← colStep_colOf σ ν _ _ (eB_not_mem _ hb')]
    · congr 1
      · funext r
        unfold sc1
        rw [rem_nat hv]
        by_cases hr : r.val < v1.toNat % 1024
        · rw [if_pos hr]; exact hσ _ hb' r (by omega)
        · rw [if_neg hr]
          exact (hbot _ (by show 1024 * (v1.toNat / 1024) + r.val < _; have := r.isLt; omega) (by show _ ≤ 1024 * (v1.toNat / 1024) + r.val; omega)).symm
      · funext d r
        exact hν _ hb' r d
    · intro n hn
      simp only [upTo, Finset.mem_filter, Finset.mem_univ, true_and, not_or] at hn
      exact hbot n (by omega) (by omega)
  · rw [if_neg h, ih, colOf_univ]
    intro n hn
    simp only [upTo, Finset.mem_filter, Finset.mem_univ, true_and, not_or] at hn
    exact hbot n (by omega) (by omega)

end Cert.KernelIdeal.Hand

end
-- ==== Proof.Attn.lean ====
/-
  The attention over one sequence, position by position: 131072 cached positions in pages, and 128 new ones.
-/
module

public import proofs.«01_k».proof.Proof.Softmax

@[expose] public section

noncomputable section

namespace Cert.Softmax

open Idealize.ShloMosaic

/-- A number times a factor, clipped to ±448. -/
def q8 (x s : EReal) : EReal := min (Ideal.ofBits .f32 0x43E00000#32) (max (Ideal.ofBits .f32 0xC3E00000#32) (x * s))

/-- The page of position `n`, of a row of page words. -/
def pgOf (W : Fin 1024 → BitVec 32) (hW : ∀ p, (W p).toNat < 8192) (n : Fin 131200) : Fin 8192 :=
  ⟨(W ⟨n.val / 128 % 1024, Nat.mod_lt _ (by decide)⟩).toNat, hW _⟩
/-- The row of position `n` in its page. -/
def rowOf (n : Fin 131200) : Fin 128 := ⟨n.val % 128, Nat.mod_lt _ (by decide)⟩

/-- The key or value of position `n`: its page's row of the pool `R`, or the new one, times the scale. -/
def entOf (W : Fin 1024 → BitVec 32) (hW : ∀ p, (W p).toNat < 8192) (R : Fin 8192 → Fin 128 → Fin 128 → EReal) (N : Fin 128 → Fin 128 → EReal) (s : EReal)
    (n : Fin 131200) (d : Fin 128) : EReal :=
  (if h : n.val < 131072 then R (pgOf W hW n) (rowOf n) d else N ⟨n.val - 131072, by have := n.isLt; omega⟩ d) * s

theorem entOf_congr {W W' : Fin 1024 → BitVec 32} {hW : ∀ p, (W p).toNat < 8192} {hW' : ∀ p, (W' p).toNat < 8192} {R R' : Fin 8192 → Fin 128 → Fin 128 → EReal}
    {N N' : Fin 128 → Fin 128 → EReal} {s s' : EReal} (eW : ∀ p, W p = W' p) (eR : ∀ p r d, R p r d = R' p r d) (eN : ∀ r d, N r d = N' r d) (es : s = s') :
    entOf W hW R N s = entOf W' hW' R' N' s' := by
  obtain rfl : W = W' := funext eW
  obtain rfl : R = R' := funext fun p => funext fun r => funext fun d => eR p r d
  obtain rfl : N = N' := funext fun r => funext fun d => eN r d
  subst es
  rfl

/-- The score of position `n` for token `i`: `⊥` past the length, and for new positions after the token. -/
def scoreOf (len : ℕ) (K : Fin 131200 → Fin 128 → EReal) (q : Fin 128 → EReal) (i : Fin 128) (n : Fin 131200) : EReal :=
  if (if n.val < 131072 then n.val < len else n.val - 131072 ≤ i.val) then ∑ d, K n d * q d else ⊥

/-- The attention of one query at one value coordinate. -/
def attnOf (c : ℝ) (len : ℕ) (K V : Fin 131200 → Fin 128 → EReal) (q : Fin 128 → EReal) (i d : Fin 128) : EReal :=
  Ideal.div (wsOf c (scoreOf len K q i) (fun n => V n d) Finset.univ) (smOf c (scoreOf len K q i) Finset.univ)

/-- The attention's result at sequence `b`, token `i`, column `n`: head `n / 128`, coordinate `n % 128`. -/
def outOf (c : ℝ) (X : Fin 8 → Fin 128 → Fin 2048 → EReal) (KN VN : Fin 8 → Fin 128 → Fin 128 → EReal) (KP VP : Fin 8192 → Fin 128 → Fin 128 → EReal)
    (ki vi ks vs : EReal) (W : Fin 8 → Fin 1024 → BitVec 32) (hW : ∀ b p, (W b p).toNat < 8192) (L : Fin 8 → BitVec 32) (b : Fin 8) (i : Fin 128) (n : Fin 2048) : EReal :=
  attnOf c (L b).toNat (entOf (W b) (hW b) KP (fun r d => q8 (KN b r d) ki) ks) (entOf (W b) (hW b) VP (fun r d => q8 (VN b r d) vi) vs)
    (fun d => X b i ⟨128 * (n.val / 128) + d.val, by have := n.isLt; have := d.isLt; omega⟩) i ⟨n.val % 128, Nat.mod_lt _ (by decide)⟩

end Cert.Softmax

end
-- ==== Proof.KernelIdeal.Ent.lean ====
/-
  Entries of what the kernel's body computes at one grid point, over the extended reals: the queries transposed, the
  codes, the keys and values of a slot, and the block of the attention's result.
-/
module

public import proofs.«01_k».proof.Proof.KernelIdeal.Seq
public import proofs.«01_k».proof.Proof.Attn

@[expose] public section

set_option synthInstance.maxSize 4096

noncomputable section

namespace Cert.KernelIdeal.Hand

open Cert.KernelIdeal Cert.Softmax
open Idealize.ShloMosaic Idealize.ShloMosaic.TcCoe
open Facts₀ Facts

variable [Facts]

theorem colOf_l {κ : Type} (σ : κ → EReal) (ν : Fin 128 → κ → EReal) (S : Finset κ) : (colOf σ ν S).l = smOf cR σ S := rfl
theorem colOf_a {κ : Type} (σ : κ → EReal) (ν : Fin 128 → κ → EReal) (S : Finset κ) (d : Fin 128) : (colOf σ ν S).a d = wsOf cR σ (ν d) S := rfl

/-! ## Heads -/

/-- Column `i` of head `h`. -/
def hx (h : Fin 16) (i : Fin 128) : Fin 2048 := ⟨128 * h.val + i.val, by have := h.isLt; have := i.isLt; omega⟩

theorem rH_emb (h : Fin 16) (d i : Fin 128) : (rH h.val h.isLt).emb (ix2 d i) = ix2 d (hx h i) := by
  funext a; refine Fin.ext ?_
  match a with
  | 0 => show 0 + 1 * d.val = d.val; omega
  | 1 => show 128 * h.val + 1 * i.val = 128 * h.val + i.val; omega
theorem rH1_emb (h : Fin 16) (i : Fin 128) : (rH1 h.val h.isLt).emb (ix2 0 i) = ix2 0 (hx h i) := by
  funext a; refine Fin.ext ?_
  match a with
  | 0 => rfl
  | 1 => show 128 * h.val + 1 * i.val = 128 * h.val + i.val; omega
theorem rH3_emb (h : Fin 16) (r i : Fin 128) : (rH3 h.val h.isLt).emb (ix3 0 r i) = ix3 0 r (hx h i) := by
  funext a; refine Fin.ext ?_
  match a with
  | 0 => rfl
  | 1 => show 0 + 1 * r.val = r.val; omega
  | 2 => show 128 * h.val + 1 * i.val = 128 * h.val + i.val; omega
theorem rK_emb (r d : Fin 128) : rK.emb (ix3 0 r d) = ix3 0 r d := by
  funext a; refine Fin.ext ?_
  match a with
  | 0 => rfl
  | 1 => show 0 + 1 * r.val = r.val; omega
  | 2 => show 0 + 1 * d.val = d.val; omega

theorem not_mem_rH (t : ℕ) (ht : t < 16) (d : Fin 128) (h : Fin 16) (i : Fin 128) (hne : h.val ≠ t) : (ix2 d (hx h i) : S128x2048.Idx) ∉ (rH t ht).set := by
  intro hm
  obtain ⟨k, e⟩ := (rH t ht).exists_idx_of_mem hm
  have e1 : (128 * t + 1 * (k 1).val) = 128 * h.val + i.val := congrArg (fun k : S128x2048.Idx => (k 1).val) e
  have : (k 1).val < 128 := (k 1).isLt
  have := i.isLt
  omega
theorem not_mem_rH3 (t : ℕ) (ht : t < 16) (r : Fin 128) (h : Fin 16) (i : Fin 128) (hne : h.val ≠ t) : (ix3 0 r (hx h i) : S1x128x2048.Idx) ∉ (rH3 t ht).set := by
  intro hm
  obtain ⟨k, e⟩ := (rH3 t ht).exists_idx_of_mem hm
  have e1 : (128 * t + 1 * (k 2).val) = 128 * h.val + i.val := congrArg (fun k : S1x128x2048.Idx => (k 2).val) e
  have : (k 2).val < 128 := (k 2).isLt
  have := i.isLt
  omega

/-- The queries, transposed head by head. -/
theorem qC_at (X : Vec Ideal S1x128x2048 .bf16) (d : Fin 128) (h : Fin 16) (i : Fin 128) : qC X (ix2 d (hx h i)) = X (ix3 0 i (hx h d)) := by
  refine (rowS_at (N := 16) (transpS X) (fun q => q (ix2 d (hx h i))) h.val h.isLt (fun t ht s hne => ?_) _ (X (ix3 0 i (hx h d))) (fun s' _ => ?_) 16 le_rfl).trans (if_pos h.isLt)
  · exact Rect.overlay_of_not_mem _ _ _ (not_mem_rH t ht d h i hne)
  · unfold transpS
    rw [← rH_emb, Rect.overlay_emb]
    pointwise
    rw [rH3_emb]

/-- The result, head by head. -/
theorem outR_at (st : St Ideal) (y : Vec Ideal S1x128x2048 .bf16) (i : Fin 128) (h : Fin 16) (d : Fin 128) :
    outR st y (ix3 0 i (hx h d)) = Ideal.div (st.acc (ix2 d (hx h i))) (st.l (ix2 0 (hx h i))) := by
  refine (rowS_at (N := 16) (outS st) (fun y => y (ix3 0 i (hx h d))) h.val h.isLt (fun t ht s hne => ?_) _
    (Ideal.div (st.acc (ix2 d (hx h i))) (st.l (ix2 0 (hx h i)))) (fun s' _ => ?_) 16 le_rfl).trans (if_pos h.isLt)
  · exact Rect.overlay_of_not_mem _ _ _ (not_mem_rH3 t ht i h d hne)
  · unfold outS
    rw [← rH3_emb, Rect.overlay_emb]
    pointwise
    rw [rH_emb, rH1_emb]

/-! ## Scales, codes, keys -/

theorem srow_at (s : Ideal .f32) (d : Fin 128) : srow s (ix2 0 d) = s := by pointwise [srow]
theorem codes_at (x : Vec Ideal S1x128x128 .bf16) (s : Ideal .f32) (r d : Fin 128) : codes x s (ix2 r d) = q8 (x (ix3 0 r d)) s := by
  pointwise [codes]
  rfl
theorem deq_at (k : FVec Ideal S128x128 .fp8e4m3) (s : FVec Ideal S1x128 .bf16) (r d : Fin 128) : deq k s (ix2 r d) = k (ix2 r d) * s (ix2 0 d) := by
  pointwise [deq]
theorem codesS_at (x : Vec Ideal S1x128x128 .bf16) (s : Ideal .f32) (o : Vec Ideal S1x128x128 .fp8e4m3) (r d : Fin 128) :
    codesS x s o (ix3 0 r d) = q8 (x (ix3 0 r d)) s := by
  unfold codesS
  rw [← rK_emb, Rect.overlay_emb]
  pointwise
  rw [codes_at, rK_emb]
theorem keys_at (K : Vec Ideal S1x1024x128 .fp8e4m3) (s : FVec Ideal S1x128 .bf16) (r : Fin 1024) (d : Fin 128) :
    keys K s (ix2 r d) = K (ix3 0 r d) * s (ix2 0 d) := by
  pointwise [keys]

theorem slotX_at (P : Fin 8 → Vec Ideal S128x128 .fp8e4m3) (r : Fin 1024) (d : Fin 128) :
    slotX P (ix3 0 r d) = P ⟨r.val / 128, by have := r.isLt; omega⟩ (ix2 ⟨r.val % 128, Nat.mod_lt _ (by decide)⟩ d) := rfl

theorem cPage_read (M : Memref sig .tc .hbm S8192x128x128 .fp8e4m3) (w : BitVec 32) (hw : w.toNat < 8192)
    (h : ∀ a, offC w a + S1x128x128.size a ≤ S8192x128x128.size a) (g : M.view.ty.Contents (Elt Ideal)) (r d : Fin 128) :
    (cPage M (offC w) h).view.read (Elt Ideal) g (ix2 r d) = M.view.read (Elt Ideal) g (ix3 ⟨w.toNat, hw⟩ r d) := by
  have e := congrFun (Memref.read_squeeze_slice (Val := Elt Ideal) M (Rect.unit (s := S8192x128x128) (offC w) S1x128x128.size h) (fun _ => rfl) squeezes_S1x128x128_S128x128
    (show S1x128x128.ShapeCasts S128x128 by decide) g) (ix2 r d)
  rw [e, shapeCast_dropUnit_apply (n := 2) ![128, 128]]
  refine congrArg (M.view.read (Elt Ideal) g) ?_
  funext a; refine Fin.ext ?_
  match a with
  | ⟨0, _⟩ => show w.toNat + 1 * 0 = w.toNat; omega
  | ⟨1, _⟩ => show 0 + 1 * r.val = r.val; omega
  | ⟨2, _⟩ => show 0 + 1 * d.val = d.val; omega

/-! ## The new keys -/

section New
variable (sX : Vec Ideal S4 .f32) (QX : Vec Ideal S1x128x2048 .bf16) (kX vX : Vec Ideal S1x128x128 .bf16)
  (σ : Fin 131200 → EReal) (ν : Fin 128 → Fin 131200 → EReal) (h : Fin 16) (i : Fin 128)
  (hσ : ∀ r : Fin 128, σ (eN r) = if r.val ≤ i.val then ∑ d : Fin 128, q8 (kX (ix3 0 r d)) (scAt sX 0 inb_S4_S1_0) * scAt sX 2 inb_S4_S1_2 * QX (ix3 0 i (hx h d)) else ⊥)
  (hν : ∀ (r d : Fin 128), ν d (eN r) = q8 (vX (ix3 0 r d)) (scAt sX 1 inb_S4_S1_1) * scAt sX 3 inb_S4_S1_3)

include hσ hν in
theorem newC_col : col (newC sX QX kX vX) (hx h i) = colOf σ ν (Finset.univ.map eN) := by
  have hi : (hx h i).val % 128 = i.val := by have := i.isLt; show (128 * h.val + i.val) % 128 = _; omega
  have e : ∀ r, scN (deq (codes (fun j => kX (rK.emb j)) (scAt sX 0 inb_S4_S1_0)) (kS sX)) (qC QX) (hx h i) r = σ (eN r) := fun r => by
    rw [hσ]
    unfold scN kS
    rw [hi]
    simp only [deq_at, codes_at, rK_emb, srow_at, qC_at]
  have e' : ∀ r d, deq (codes (fun j => vX (rK.emb j)) (scAt sX 1 inb_S4_S1_1)) (vS sX) (ix2 r d) = ν d (eN r) := fun r d => by
    unfold vS
    rw [hν, deq_at, codes_at, rK_emb, srow_at]
  unfold newC newS
  rw [rowN_col, colOf_map]
  rw [show scN (deq (codes (fun j => kX (rK.emb j)) (scAt sX 0 inb_S4_S1_0)) (kS sX)) (qC QX) (hx h i) = fun r => σ (eN r) from funext e]
  simp only [e']

end New

/-! ## The result's block -/

section Out
variable (c : Dev nD) (A : Args) (X : Vec Ideal S8x1024 .i32) (g : grid0.Coords)
  (fk : Buf (Elt Ideal) (A.kc.view.loc (c : Thread nD τ))) (fv : Buf (Elt Ideal) (A.vc.view.loc (c : Thread nD τ)))
  (hX : ∀ j, (X j : BitVec 32).toNat < 8192)

/-- The page words of the grid point's row. -/
def wordsOf (p : Fin 1024) : BitVec 32 := X (ix2 (g 0 : Fin 8) p)
include hX in
theorem wordsOk (p : Fin 1024) : (wordsOf X g p).toNat < 8192 := hX _

theorem pool_at (C : Memref sig .tc .hbm S8192x128x128 .fp8e4m3) (f : Buf (Elt Ideal) (C.view.loc (c : Thread nD τ))) (b : ℕ) (hb : b < 128) (r : Fin 1024) (d : Fin 128) :
    pool c C f (pgW X g b) (pgOk X g hX b) (ix3 0 r d) = C.view.read (Elt Ideal) f (ix3 (pgOf (wordsOf X g) (wordsOk X g hX) (eB b hb r)) (rowOf (eB b hb r)) d) := by
  have hr := r.isLt
  have e1 : (⟨(8 * b + r.val / 128) % 1024, Nat.mod_lt _ (by decide)⟩ : Fin 1024) = ⟨(1024 * b + r.val) / 128 % 1024, Nat.mod_lt _ (by decide)⟩ :=
    Fin.ext (by show (8 * b + r.val / 128) % 1024 = (1024 * b + r.val) / 128 % 1024; omega)
  have e2 : (⟨r.val % 128, Nat.mod_lt _ (by decide)⟩ : Fin 128) = rowOf (eB b hb r) := Fin.ext (by show r.val % 128 = (1024 * b + r.val) % 128; omega)
  unfold pool
  rw [slotX_at]
  refine (cPage_read C (pgW X g b ⟨r.val / 128, by omega⟩) (hX _) _ f _ d).trans ?_
  rw [e2]
  refine congrArg (C.view.read (Elt Ideal) f) (congrArg (fun p => ix3 p _ d) (Fin.ext ?_))
  exact congrArg (fun p : Fin 1024 => (X (ix2 (g 0 : Fin 8) p) : BitVec 32).toNat) e1

variable (sX : Vec Ideal S4 .f32) (QX : Vec Ideal S1x128x2048 .bf16) (kX vX : Vec Ideal S1x128x128 .bf16) (L : Vec Ideal S8 .i32)
  (hL : (lenAt g L).toNat ≤ 131072)

theorem entOf_new (W : Fin 1024 → BitVec 32) (hW : ∀ p, (W p).toNat < 8192) (R : Fin 8192 → Fin 128 → Fin 128 → EReal) (N : Fin 128 → Fin 128 → EReal) (s : EReal) (r d : Fin 128) :
    entOf W hW R N s (eN r) d = N r d * s := by
  have h : ¬(eN r).val < 131072 := by show ¬131072 + r.val < 131072; omega
  have e : (⟨(eN r).val - 131072, by have := (eN r).isLt; omega⟩ : Fin 128) = r := Fin.ext (by show 131072 + r.val - 131072 = r.val; omega)
  unfold entOf
  rw [dif_neg h, e]
theorem entOf_old (W : Fin 1024 → BitVec 32) (hW : ∀ p, (W p).toNat < 8192) (R : Fin 8192 → Fin 128 → Fin 128 → EReal) (N : Fin 128 → Fin 128 → EReal) (s : EReal) (b : ℕ) (hb : b < 128) (r : Fin 1024) (d : Fin 128) :
    entOf W hW R N s (eB b hb r) d = R (pgOf W hW (eB b hb r)) (rowOf (eB b hb r)) d * s := by
  have h : (eB b hb r).val < 131072 := by have := r.isLt; show 1024 * b + r.val < 131072; omega
  unfold entOf
  rw [dif_pos h]

/-- The kernel's keys and values, position by position. -/
def keyOf : Fin 131200 → Fin 128 → EReal :=
  entOf (wordsOf X g) (wordsOk X g hX) (fun p r d => A.kc.view.read (Elt Ideal) fk (ix3 p r d)) (fun r d => q8 (kX (ix3 0 r d)) (scAt sX 0 inb_S4_S1_0)) (scAt sX 2 inb_S4_S1_2)
def valOf : Fin 131200 → Fin 128 → EReal :=
  entOf (wordsOf X g) (wordsOk X g hX) (fun p r d => A.vc.view.read (Elt Ideal) fv (ix3 p r d)) (fun r d => q8 (vX (ix3 0 r d)) (scAt sX 1 inb_S4_S1_1)) (scAt sX 3 inb_S4_S1_3)

include hL in
/-- An entry of the result's block: the weighted values over the weights, all positions at once. -/
theorem yC_at (i : Fin 128) (h : Fin 16) (d : Fin 128) :
    yC c A X g fk fv hX sX QX kX vX L (ix3 0 i (hx h d))
      = attnOf cR (lenAt g L).toNat (keyOf c A X g fk hX sX kX) (valOf c A X g fv hX sX vX) (fun d => QX (ix3 0 i (hx h d))) i d := by
  have hcol := lastS_col c A X g fk fv hX (qC QX) (kS sX) (vS sX)
    (scoreOf (lenAt g L).toNat (keyOf c A X g fk hX sX kX) (fun d => QX (ix3 0 i (hx h d))) i) (fun d n => valOf c A X g fv hX sX vX n d) (hx h i) hL
    (fun b hb r hr => by
      have h1 : (eB b hb r).val < 131072 := by have := r.isLt; show 1024 * b + r.val < 131072; omega
      have h2 : (eB b hb r).val < (lenAt g L).toNat := hr
      unfold scoreOf keyOf kS
      rw [if_pos (by rw [if_pos h1]; exact h2)]
      refine Finset.sum_congr rfl fun d' _ => ?_
      rw [keys_at, pool_at c X g hX A.kc fk b hb, srow_at, qC_at, entOf_old])
    (fun b hb r d' => by
      unfold valOf vS
      rw [keys_at, pool_at c X g hX A.vc fv b hb, srow_at, entOf_old])
    (fun n h1 h2 => by
      unfold scoreOf
      rw [if_neg (by rw [if_pos h1]; omega)])
    (newC sX QX kX vX)
    (newC_col sX QX kX vX _ _ h i
      (fun r => by
        have h1 : ¬(eN r).val < 131072 := by show ¬131072 + r.val < 131072; omega
        have h2 : (eN r).val - 131072 = r.val := by show 131072 + r.val - 131072 = r.val; omega
        unfold scoreOf keyOf
        simp only [if_neg h1, h2, entOf_new])
      (fun r d' => by
        unfold valOf
        rw [entOf_new]))
  unfold yC
  rw [outR_at, ← col_a, ← col_l, hcol, colOf_a, colOf_l]
  unfold attnOf
  rfl

end Out

end Cert.KernelIdeal.Hand

end
-- ==== Proof.KernelIdeal.Blocks.lean ====
/-
  The blocks of a grid point as entries of the arrays: point `t` handles sequence `t`.
-/
module

public import proofs.«01_k».proof.Proof.KernelIdeal.Inputs
public import proofs.«01_k».proof.Proof.KernelIdeal.Ent
public import Idealize.ShloMosaic.Lib.Pipeline.ValueKit

@[expose] public section

set_option synthInstance.maxSize 4096

noncomputable section

namespace Cert.KernelIdeal.Hand

open Cert.KernelIdeal Cert.Softmax
open Idealize.ShloMosaic Idealize.ShloMosaic.TcCoe
open Facts₀ Facts

variable [Facts] (m : (ℓ : Loc nD τ sig) → Buf (Elt Ideal) ℓ) (c : Dev nD)

/-- The sequence of a grid point. -/
abbrev seqOf (t : Fin (C0 m).N) : Fin 8 := grid0.coords t 0

theorem word8 (b : Fin 8) : (BitVec.ofNat 32 b.val).toNat = b.val := by
  rw [BitVec.toNat_ofNat]; have := b.isLt; omega

theorem xB_at (t : Fin (C0 m).N) (r : Fin 128) (n : Fin 2048) :
    xB m c t (ix3 0 r n) = (V m c main_arg0 : Vec Ideal S8x128x2048 .bf16) (ix3 (seqOf m t) r n) := by
  unfold xB
  refine congrArg (V m c main_arg0 : Vec Ideal S8x128x2048 .bf16) ?_
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 2048 + 1 * n.val = n.val; simp
theorem kB_at (t : Fin (C0 m).N) (r d : Fin 128) :
    kB m c t (ix3 0 r d) = (V m c main_v23 : Vec Ideal S8x128x128 .bf16) (ix3 (seqOf m t) r d) := by
  unfold kB
  refine congrArg (V m c main_v23 : Vec Ideal S8x128x128 .bf16) ?_
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 128 + 1 * d.val = d.val; simp
theorem vB_at (t : Fin (C0 m).N) (r d : Fin 128) :
    vB m c t (ix3 0 r d) = (V m c main_v24 : Vec Ideal S8x128x128 .bf16) (ix3 (seqOf m t) r d) := by
  unfold vB
  refine congrArg (V m c main_v24 : Vec Ideal S8x128x128 .bf16) ?_
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 128 + 1 * d.val = d.val; simp
theorem scB_at (t : Fin (C0 m).N) (p : ℕ) (hp : p < 4) (h : ∀ a, (![p] : Fin 1 → ℕ) a + S1.size a ≤ S4.size a) :
    scAt (scB m c t) p h = (V m c main_v22 : Vec Ideal S4 .f32) (ix1 ⟨p, hp⟩) := by
  unfold scB scAt
  refine congrArg (V m c main_v22 : Vec Ideal S4 .f32) ?_
  funext a; refine Fin.ext ?_
  match a with
  | ⟨0, _⟩ => show (0#32).toNat * 4 + 1 * (p + 1 * 0) = p; simp

/-! ## The arguments, entry by entry -/

abbrev aX (b : Fin 8) (i : Fin 128) (n : Fin 2048) : EReal := (argAt m c main_arg0 : Vec Ideal S8x128x2048 .bf16) (ix3 b i n)
abbrev aKN (b : Fin 8) (r d : Fin 128) : EReal := (argAt m c main_arg1 : Vec Ideal S8x128x1x128 .bf16) (ix4 b r 0 d)
abbrev aVN (b : Fin 8) (r d : Fin 128) : EReal := (argAt m c main_arg2 : Vec Ideal S8x128x1x128 .bf16) (ix4 b r 0 d)
abbrev aKP (p : Fin 8192) (r d : Fin 128) : EReal := (argAt m c main_arg3 : Vec Ideal S8192x128x1x128 .fp8e4m3) (ix4 p r 0 d)
abbrev aVP (p : Fin 8192) (r d : Fin 128) : EReal := (argAt m c main_arg4 : Vec Ideal S8192x128x1x128 .fp8e4m3) (ix4 p r 0 d)
abbrev aKs : EReal := (argAt m c main_arg5 : Vec Ideal S1 .f32) (ix1 0)
abbrev aVs : EReal := (argAt m c main_arg6 : Vec Ideal S1 .f32) (ix1 0)
abbrev aKi : EReal := (invOf (F := Ideal) tab0 (argAt m c main_arg5 : FVec Ideal S1 .f32) : Vec Ideal S1 .f32) (ix1 0)
abbrev aVi : EReal := (invOf (F := Ideal) tab1 (argAt m c main_arg6 : FVec Ideal S1 .f32) : Vec Ideal S1 .f32) (ix1 0)
abbrev aW (b : Fin 8) (p : Fin 1024) : BitVec 32 := (argAt m c main_arg7 : Vec Ideal S8x1024 .i32) (ix2 b p)
abbrev aL (b : Fin 8) : BitVec 32 := (argAt m c main_arg8 : Vec Ideal S8 .i32) (ix1 b)

theorem cast_new (a : Vec Ideal S8x128x1x128 .bf16) (b : Fin 8) (r d : Fin 128) :
    shapeCast S8x128x128 a shapeCasts_S8x128x1x128_S8x128x128 (ix3 b r d) = a (ix4 b r 0 d) := by pointwise
theorem cast_pool (a : Vec Ideal S8192x128x1x128 .fp8e4m3) (b : Fin 8192) (r d : Fin 128) :
    shapeCast S8192x128x128 a shapeCasts_S8192x128x1x128_S8192x128x128 (ix3 b r d) = a (ix4 b r 0 d) := by pointwise
theorem cat4_at (w x y z : Vec Ideal S1 .f32) :
    concatenate S4 0 [⟨S1, w⟩, ⟨S1, x⟩, ⟨S1, y⟩, ⟨S1, z⟩] concatenates_S1_S1_S1_S1_S4_d0 (ix1 0) = w (ix1 0)
    ∧ concatenate S4 0 [⟨S1, w⟩, ⟨S1, x⟩, ⟨S1, y⟩, ⟨S1, z⟩] concatenates_S1_S1_S1_S1_S4_d0 (ix1 1) = x (ix1 0)
    ∧ concatenate S4 0 [⟨S1, w⟩, ⟨S1, x⟩, ⟨S1, y⟩, ⟨S1, z⟩] concatenates_S1_S1_S1_S1_S4_d0 (ix1 2) = y (ix1 0)
    ∧ concatenate S4 0 [⟨S1, w⟩, ⟨S1, x⟩, ⟨S1, y⟩, ⟨S1, z⟩] concatenates_S1_S1_S1_S1_S4_d0 (ix1 3) = z (ix1 0) := by
  refine ⟨?_, ?_, ?_, ?_⟩ <;> pointwise

section Points
variable (t : Fin (C0 m).N)

theorem kn_at (r d : Fin 128) : kB m c t (ix3 0 r d) = aKN m c (seqOf m t) r d := by
  rw [kB_at, V_main_v23]; exact cast_new _ _ _ _
theorem vn_at (r d : Fin 128) : vB m c t (ix3 0 r d) = aVN m c (seqOf m t) r d := by
  rw [vB_at, V_main_v24]; exact cast_new _ _ _ _
theorem x_at (r : Fin 128) (n : Fin 2048) : xB m c t (ix3 0 r n) = aX m c (seqOf m t) r n := by
  rw [xB_at, V_main_arg0]
theorem ki_at : scAt (scB m c t) 0 inb_S4_S1_0 = aKi m c := by
  rw [scB_at m c t 0 (by decide), V_main_v22]; exact (cat4_at _ _ _ _).1
theorem vi_at : scAt (scB m c t) 1 inb_S4_S1_1 = aVi m c := by
  rw [scB_at m c t 1 (by decide), V_main_v22]; exact (cat4_at _ _ _ _).2.1
theorem ks_at : scAt (scB m c t) 2 inb_S4_S1_2 = aKs m c := by
  rw [scB_at m c t 2 (by decide), V_main_v22]; exact (cat4_at _ _ _ _).2.2.1
theorem vs_at : scAt (scB m c t) 3 inb_S4_S1_3 = aVs m c := by
  rw [scB_at m c t 3 (by decide), V_main_v22]; exact (cat4_at _ _ _ _).2.2.2

theorem kCodes_at (r d : Fin 128) : kCodes (scB m c t) (kB m c t) (ix3 0 r d) = q8 (aKN m c (seqOf m t) r d) (aKi m c) := by
  unfold kCodes; rw [codesS_at, kn_at, ki_at]
theorem vCodes_at (r d : Fin 128) : vCodes (scB m c t) (vB m c t) (ix3 0 r d) = q8 (aVN m c (seqOf m t) r d) (aVi m c) := by
  unfold vCodes; rw [codesS_at, vn_at, vi_at]

theorem len_at : lenAt (grid0.coords t) (V m c main_arg8) = aL m c (seqOf m t) := by
  unfold lenAt
  rw [V_main_arg8]
  refine congrArg (argAt m c main_arg8 : Vec Ideal S8 .i32) ?_
  funext a; refine Fin.ext ?_
  match a with
  | ⟨0, _⟩ => show (Scalar.indexCast (BitVec.ofNat 32 (seqOf m t).val)).toNat + 1 * 0 = (seqOf m t).val; exact word8 _

variable (hX : PagesOk m) (hL : LensOk m)

include hX in
theorem aW_ok (b : Fin 8) (p : Fin 1024) : (aW m c b p).toNat < 8192 := by
  have h := hX c (ix2 b p); rw [V_main_arg7] at h; exact h

include hL in
theorem yB_at (i : Fin 128) (n : Fin 2048) : yB m hX c t (ix3 0 i n)
    = outOf cR (aX m c) (aKN m c) (aVN m c) (aKP m c) (aVP m c) (aKi m c) (aVi m c) (aKs m c) (aVs m c) (aW m c) (aW_ok m c hX) (aL m c) (seqOf m t) i n := by
  have hn : hx ⟨n.val / 128, by have := n.isLt; omega⟩ ⟨n.val % 128, Nat.mod_lt _ (by decide)⟩ = n :=
    Fin.ext (by show 128 * (n.val / 128) + n.val % 128 = n.val; omega)
  have e := yC_at c (argsAt ((C0 m).slots t)) (V m c main_arg7) (grid0.coords t) (V m c main_v25) (V m c main_v26) (hX c) (scB m c t) (xB m c t) (kB m c t) (vB m c t)
    (V m c main_arg8) (hL c _) i ⟨n.val / 128, by have := n.isLt; omega⟩ ⟨n.val % 128, Nat.mod_lt _ (by decide)⟩
  rw [hn] at e
  unfold yB
  rw [e, len_at]
  have hk : keyOf c (argsAt ((C0 m).slots t)) (V m c main_arg7) (grid0.coords t) (V m c main_v25) (hX c) (scB m c t) (kB m c t)
      = entOf (aW m c (seqOf m t)) (aW_ok m c hX (seqOf m t)) (aKP m c) (fun r d => q8 (aKN m c (seqOf m t) r d) (aKi m c)) (aKs m c) := by
    refine entOf_congr (fun p => ?_) (fun p r d => ?_) (fun r d => ?_) (ks_at m c t)
    · unfold wordsOf; rw [V_main_arg7]
    · refine (?_ : _ = (V m c main_v25 : Vec Ideal S8192x128x128 .fp8e4m3) (ix3 p r d)).trans (by rw [V_main_v25]; exact cast_pool _ _ _ _)
      rfl
    · rw [kn_at, ki_at]
  have hv : valOf c (argsAt ((C0 m).slots t)) (V m c main_arg7) (grid0.coords t) (V m c main_v26) (hX c) (scB m c t) (vB m c t)
      = entOf (aW m c (seqOf m t)) (aW_ok m c hX (seqOf m t)) (aVP m c) (fun r d => q8 (aVN m c (seqOf m t) r d) (aVi m c)) (aVs m c) := by
    refine entOf_congr (fun p => ?_) (fun p r d => ?_) (fun r d => ?_) (vs_at m c t)
    · unfold wordsOf; rw [V_main_arg7]
    · refine (?_ : _ = (V m c main_v26 : Vec Ideal S8192x128x128 .fp8e4m3) (ix3 p r d)).trans (by rw [V_main_v26]; exact cast_pool _ _ _ _)
      rfl
    · rw [vn_at, vi_at]
  have hq : (fun d => xB m c t (ix3 0 i (hx ⟨n.val / 128, by have := n.isLt; omega⟩ d)))
      = fun d : Fin 128 => aX m c (seqOf m t) i ⟨128 * (n.val / 128) + d.val, by have := n.isLt; have := d.isLt; omega⟩ := funext fun d => x_at m c t i _
  rw [hk, hv, hq]
  rfl

end Points

end Cert.KernelIdeal.Hand

end
-- ==== Proof.KernelIdeal.Value.lean ====
/-
  What the kernel leaves: the attention's result and the codes of the new keys and values, entry by entry.
-/
module

public import proofs.«01_k».proof.Proof.KernelIdeal.Blocks
public import Idealize.ShloMosaic.Lib.Pipeline.Covers

@[expose] public section

set_option synthInstance.maxSize 4096

noncomputable section

namespace Cert.KernelIdeal.Hand

open Cert.KernelIdeal Cert.Softmax
open Idealize.ShloMosaic Idealize.ShloMosaic.TcCoe Idealize.SL.Sem
open Facts₀ Facts

variable [Facts] (m : (ℓ : Loc nD τ sig) → Buf (Elt Ideal) ℓ) (ρ : Dev nD → PrngReg) (hX : PagesOk m) (hL : LensOk m) (c : Dev nD)

/-- The attention's result. -/
def GY : Vec Ideal S8x128x2048 .bf16 := fun j =>
  outOf cR (aX m c) (aKN m c) (aVN m c) (aKP m c) (aVP m c) (aKi m c) (aVi m c) (aKs m c) (aVs m c) (aW m c) (aW_ok m c hX) (aL m c) (j 0) (j 1) (j 2)
/-- The new keys' and values' codes. -/
def GK : Vec Ideal S8x128x128 .fp8e4m3 := fun j => q8 (aKN m c (j 0) (j 1) (j 2)) (aKi m c)
def GV : Vec Ideal S8x128x128 .fp8e4m3 := fun j => q8 (aVN m c (j 0) (j 1) (j 2)) (aVi m c)

theorem emb4 (t : Fin (C0 m).N) (r : Fin 128) (n : Fin 2048) :
    ((((C0 m).win 4).blk t).view.emb (ix3 0 r n : S1x128x2048.Idx) : S8x128x2048.Idx) = ix3 (seqOf m t) r n := by
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 2048 + 1 * n.val = n.val; simp
theorem emb5 (t : Fin (C0 m).N) (r d : Fin 128) :
    ((((C0 m).win 5).blk t).view.emb (ix3 0 r d : S1x128x128.Idx) : S8x128x128.Idx) = ix3 (seqOf m t) r d := by
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 128 + 1 * d.val = d.val; simp
theorem emb6 (t : Fin (C0 m).N) (r d : Fin 128) :
    ((((C0 m).win 6).blk t).view.emb (ix3 0 r d : S1x128x128.Idx) : S8x128x128.Idx) = ix3 (seqOf m t) r d := by
  funext a; refine Fin.ext ?_
  match a with
  | ⟨0, _⟩ => show (BitVec.ofNat 32 (seqOf m t).val).toNat * 1 + 1 * 0 = (seqOf m t).val; rw [word8]; omega
  | ⟨1, _⟩ => show (0#32).toNat * 128 + 1 * r.val = r.val; simp
  | ⟨2, _⟩ => show (0#32).toNat * 128 + 1 * d.val = d.val; simp

theorem nblk4 (a : Fin 3) : ((C0 m).win 4).nblk a = ((![8, 128, 2048] : Fin 3 → ℕ) a + (![1, 128, 2048] : Fin 3 → ℕ) a - 1) / (![1, 128, 2048] : Fin 3 → ℕ) a := rfl
theorem covers4 : ((C0 m).win 4).Covers :=
  ((C0 m).win 4).covers_of_indexMap_surj rfl (fun a => match a with | ⟨0, _⟩ => Nat.one_pos | ⟨1, _⟩ => Nat.succ_pos _ | ⟨2, _⟩ => Nat.succ_pos _) fun β => by
    have h0 : (β (0 : Fin 3)).val < 8 := lt_of_lt_of_eq (β (0 : Fin 3)).isLt ((nblk4 m 0).trans (by decide))
    have h1 : (β (1 : Fin 3)).val < 1 := lt_of_lt_of_eq (β (1 : Fin 3)).isLt ((nblk4 m 1).trans (by decide))
    have h2 : (β (2 : Fin 3)).val < 1 := lt_of_lt_of_eq (β (2 : Fin 3)).isLt ((nblk4 m 2).trans (by decide))
    refine ⟨fun a => ⟨(β (0 : Fin 3)).val, match a with | ⟨0, _⟩ => h0⟩, fun a => ?_⟩
    match a with
    | ⟨0, _⟩ => show (BitVec.ofNat 32 (β (0 : Fin 3)).val).toNat = (β (0 : Fin 3)).val; rw [BitVec.toNat_ofNat]; omega
    | ⟨1, _⟩ => show (0 : ℕ) = (β (1 : Fin 3)).val; omega
    | ⟨2, _⟩ => show (0 : ℕ) = (β (2 : Fin 3)).val; omega
theorem nblk5 (a : Fin 3) : ((C0 m).win 5).nblk a = ((![8, 128, 128] : Fin 3 → ℕ) a + (![1, 128, 128] : Fin 3 → ℕ) a - 1) / (![1, 128, 128] : Fin 3 → ℕ) a := rfl
theorem covers5 : ((C0 m).win 5).Covers :=
  ((C0 m).win 5).covers_of_indexMap_surj rfl (fun a => match a with | ⟨0, _⟩ => Nat.one_pos | ⟨1, _⟩ => Nat.succ_pos _ | ⟨2, _⟩ => Nat.succ_pos _) fun β => by
    have h0 : (β (0 : Fin 3)).val < 8 := lt_of_lt_of_eq (β (0 : Fin 3)).isLt ((nblk5 m 0).trans (by decide))
    have h1 : (β (1 : Fin 3)).val < 1 := lt_of_lt_of_eq (β (1 : Fin 3)).isLt ((nblk5 m 1).trans (by decide))
    have h2 : (β (2 : Fin 3)).val < 1 := lt_of_lt_of_eq (β (2 : Fin 3)).isLt ((nblk5 m 2).trans (by decide))
    refine ⟨fun a => ⟨(β (0 : Fin 3)).val, match a with | ⟨0, _⟩ => h0⟩, fun a => ?_⟩
    match a with
    | ⟨0, _⟩ => show (BitVec.ofNat 32 (β (0 : Fin 3)).val).toNat = (β (0 : Fin 3)).val; rw [BitVec.toNat_ofNat]; omega
    | ⟨1, _⟩ => show (0 : ℕ) = (β (1 : Fin 3)).val; omega
    | ⟨2, _⟩ => show (0 : ℕ) = (β (2 : Fin 3)).val; omega
theorem nblk6 (a : Fin 3) : ((C0 m).win 6).nblk a = ((![8, 128, 128] : Fin 3 → ℕ) a + (![1, 128, 128] : Fin 3 → ℕ) a - 1) / (![1, 128, 128] : Fin 3 → ℕ) a := rfl
theorem covers6 : ((C0 m).win 6).Covers :=
  ((C0 m).win 6).covers_of_indexMap_surj rfl (fun a => match a with | ⟨0, _⟩ => Nat.one_pos | ⟨1, _⟩ => Nat.succ_pos _ | ⟨2, _⟩ => Nat.succ_pos _) fun β => by
    have h0 : (β (0 : Fin 3)).val < 8 := lt_of_lt_of_eq (β (0 : Fin 3)).isLt ((nblk6 m 0).trans (by decide))
    have h1 : (β (1 : Fin 3)).val < 1 := lt_of_lt_of_eq (β (1 : Fin 3)).isLt ((nblk6 m 1).trans (by decide))
    have h2 : (β (2 : Fin 3)).val < 1 := lt_of_lt_of_eq (β (2 : Fin 3)).isLt ((nblk6 m 2).trans (by decide))
    refine ⟨fun a => ⟨(β (0 : Fin 3)).val, match a with | ⟨0, _⟩ => h0⟩, fun a => ?_⟩
    match a with
    | ⟨0, _⟩ => show (BitVec.ofNat 32 (β (0 : Fin 3)).val).toNat = (β (0 : Fin 3)).val; rw [BitVec.toNat_ofNat]; omega
    | ⟨1, _⟩ => show (0 : ℕ) = (β (1 : Fin 3)).val; omega
    | ⟨2, _⟩ => show (0 : ℕ) = (β (2 : Fin 3)).val; omega

theorem unit_idx3 {p q : ℕ} (y : (⟨3, ![1, p, q]⟩ : Shape).Idx) : y = ix3 (0 : Fin 1) (y 1 : Fin p) (y 2 : Fin q) := by
  funext a; refine Fin.ext ?_
  match a with
  | ⟨0, _⟩ => have h : (y 0).val < 1 := (y 0).isLt; show (y 0).val = 0; omega
  | ⟨1, _⟩ => rfl
  | ⟨2, _⟩ => rfl

include hL in
theorem blk_y (t : Fin (C0 m).N) (y : S1x128x2048.Idx) :
    yB m hX c t y = GY m hX c ((((C0 m).win 4).blk t).view.emb y : S8x128x2048.Idx) := by
  obtain ⟨r, n, rfl⟩ : ∃ (r : Fin 128) (n : Fin 2048), y = ix3 0 r n := ⟨_, _, unit_idx3 y⟩
  exact (yB_at m c t hX hL r n).trans (congrArg (GY m hX c) (emb4 m t r n)).symm
theorem blk_k (t : Fin (C0 m).N) (y : S1x128x128.Idx) :
    kCodes (scB m c t) (kB m c t) y = GK m c ((((C0 m).win 5).blk t).view.emb y : S8x128x128.Idx) := by
  obtain ⟨r, n, rfl⟩ : ∃ (r n : Fin 128), y = ix3 0 r n := ⟨_, _, unit_idx3 y⟩
  exact (kCodes_at m c t r n).trans (congrArg (GK m c) (emb5 m t r n)).symm
theorem blk_v (t : Fin (C0 m).N) (y : S1x128x128.Idx) :
    vCodes (scB m c t) (vB m c t) y = GV m c ((((C0 m).win 6).blk t).view.emb y : S8x128x128.Idx) := by
  obtain ⟨r, n, rfl⟩ : ∃ (r n : Fin 128), y = ix3 0 r n := ⟨_, _, unit_idx3 y⟩
  exact (vCodes_at m c t r n).trans (congrArg (GV m c) (emb6 m t r n)).symm

include hL in
theorem final_y : (dats m hX 0 c).arrAt 4 (C0 m).N = GY m hX c :=
  (dats m hX 0 c).arrAt_eq_of_covers 4 _ (covers4 m) fun t hf y => blk_y m hX hL c t y
theorem final_k : (dats m hX 0 c).arrAt 5 (C0 m).N = GK m c :=
  (dats m hX 0 c).arrAt_eq_of_covers 5 _ (covers5 m) fun t hf y => blk_k m c t y
theorem final_v : (dats m hX 0 c).arrAt 6 (C0 m).N = GV m c :=
  (dats m hX 0 c).arrAt_eq_of_covers 6 _ (covers6 m) fun t hf y => blk_v m c t y

include hL in
/-- The run, with its three results and its arguments. -/
theorem run_value : θ_run defs (onTc (τ := τ) (main (F := Ideal))) ⟨m, fun _ => 0, ρ⟩ (fun r => ∀ c : Dev nD,
      r.2.mem ((c.tc : Thread nD τ).loc main_v27_0) = GY m hX c
      ∧ r.2.mem ((c.tc : Thread nD τ).loc main_v27_1) = GK m c
      ∧ r.2.mem ((c.tc : Thread nD τ).loc main_v27_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 4).trans (final_y m hX hL c), ((h.1 c).1 5).trans (final_k m hX c), ((h.1 c).1 6).trans (final_v m hX c),
      ((h.1 c).1 1).trans (V_main_arg0 m c),
      ((h.1 c).2 main_arg1 (mem_rest main_arg1 (by decide) (by decide))).trans (V_main_arg1 m c),
      ((h.1 c).2 main_arg2 (mem_rest main_arg2 (by decide) (by decide))).trans (V_main_arg2 m c),
      ((h.1 c).2 main_arg3 (mem_rest main_arg3 (by decide) (by decide))).trans (V_main_arg3 m c),
      ((h.1 c).2 main_arg4 (mem_rest main_arg4 (by decide) (by decide))).trans (V_main_arg4 m c),
      ((h.1 c).2 main_arg5 (mem_rest main_arg5 (by decide) (by decide))).trans (V_main_arg5 m c),
      ((h.1 c).2 main_arg6 (mem_rest main_arg6 (by decide) (by decide))).trans (V_main_arg6 m c),
      ((h.1 c).2 main_arg7 (mem_rest main_arg7 (by decide) (by decide))).trans (V_main_arg7 m c),
      ((h.1 c).2 main_arg8 (mem_rest main_arg8 (by decide) (by decide))).trans (V_main_arg8 m c)⟩) (run_main m ρ hX hL)

end Cert.KernelIdeal.Hand

end
-- ==== Proof.ReferenceIdeal.Reads.lean ====
/-
  What the reference's host lines compute, as terms of the arguments and of the small region's results.
-/
module

public import proofs.«01_k».proof.Proof.Gen.ReferenceIdeal.Frame
public import Idealize.ShloMosaic.Lib.StableHlo.RunRead

@[expose] public section

set_option synthInstance.maxSize 4096

noncomputable section

namespace Cert.ReferenceIdeal.Hand

open Cert.ReferenceIdeal
open Cert.ReferenceIdeal.Gen (V V0 hostOps1 hostOps1_1 hostOps1_2 hostOps1_3 hostOps1_4 hostOps1_5 hostOps1_6 hostOps1_7)
open Idealize.ShloMosaic Idealize.ShloMosaic.TcCoe
open Facts₀ Facts

variable {F : FTy → Type} [FloatOps F]

/-- The reciprocal of the largest power of two of the table `T` at most `|a|`; 2 where `a` is zero. -/
def invOf (T : FVec F S254 .f32) (a : FVec F S1 .f32) : FVec F S1 .f32 :=
  select (cmpf .oeq a (broadcastInDim S1 ![] bcast_S_S1 (constant S_ .f32 0x00000000#32))) (broadcastInDim S1 ![] bcast_S_S1 (constant S_ .f32 0x40000000#32))
    (Host.divf (broadcastInDim S1 ![] bcast_S_S1 (constant S_ .f32 0x3F800000#32)) (broadcastInDim S1 ![] bcast_S_S1
      (Host.reduce FloatOps.maximumf (select (cmpf .ole T (broadcastInDim S254 ![0] bcast_S1_S254_0 (Host.absf a))) T
        (broadcastInDim S254 ![] bcast_S_S254 (constant S_ .f32 0x00000000#32))) (constant S_ .f32 0xFF800000#32) reducesTo_S254_S_d0 h_S_)))

/-- The tables of powers of two. -/
def tab0 : FVec F S254 .f32 := fun i => FloatOps.ofBits .f32 (lit0 (S254.rowMajor i))
def tab1 : FVec F S254 .f32 := fun i => FloatOps.ofBits .f32 (lit1 (S254.rowMajor i))

/-- The new tokens times the inverse scale, clipped. -/
def clipOf (a : FVec F S8x128x1x128 .bf16) (s : FVec F S1 .f32) : FVec F S8x128x128 .f32 :=
  minimumf (broadcastInDim S8x128x128 ![] bcast_S_S8x128x128 (constant S_ .f32 0x43E00000#32))
    (maximumf (broadcastInDim S8x128x128 ![] bcast_S_S8x128x128 (constant S_ .f32 0xC3E00000#32))
      (mulf (extf .f32 (shapeCast S8x128x128 a shapeCasts_S8x128x1x128_S8x128x128) bitsLt_bf16_f32)
        (broadcastInDim S8x128x128 ![0, 1, 2] bcast_S1x1x1_S8x128x128_0_1_2 (broadcastInDim S1x1x1 ![2] bcast_S1_S1x1x1_2 s))))

variable (m : (ℓ : Loc nD τ sig) → Buf (Elt F) ℓ) (c : Dev nD)

/-- The contents of an argument. -/
abbrev argAt (b : Ref sig .tc) : Buf (Elt F) ((c : Thread nD τ).loc b) := m ((c : Thread nD τ).loc b)

theorem V_main_v16 : (V m c main_v16 : FVec F S8x128x128 .f32) = clipOf (argAt m c main_arg1 : FVec F S8x128x1x128 .bf16) (invOf tab0 (argAt m c main_arg5 : FVec F S1 .f32)) := by
  unfold V V0
  simp only [List.flatten_cons, List.flatten_nil, List.cons_append, List.nil_append, List.append_nil]
  after_reads_simp
  rfl
theorem V_main_v33 : (V m c main_v33 : FVec F S8x128x128 .f32) = clipOf (argAt m c main_arg2 : FVec F S8x128x1x128 .bf16) (invOf tab1 (argAt m c main_arg6 : FVec F S1 .f32)) := by
  unfold V V0
  simp only [List.flatten_cons, List.flatten_nil, List.cons_append, List.nil_append, List.append_nil]
  after_reads_simp
  rfl
theorem V_main_v34 : (V m c main_v34 : FVec F S8192x128x128 .fp8e4m3) = shapeCast S8192x128x128 (argAt m c main_arg3 : FVec F S8192x128x1x128 .fp8e4m3) shapeCasts_S8192x128x1x128_S8192x128x128 := by
  unfold V V0
  simp only [List.flatten_cons, List.flatten_nil, List.cons_append, List.nil_append, List.append_nil]
  after_reads_simp
  rfl
theorem V_main_v35 : (V m c main_v35 : FVec F S8192x128x128 .fp8e4m3) = shapeCast S8192x128x128 (argAt m c main_arg4 : FVec F S8192x128x1x128 .fp8e4m3) shapeCasts_S8192x128x1x128_S8192x128x128 := by
  unfold V V0
  simp only [List.flatten_cons, List.flatten_nil, List.cons_append, List.nil_append, List.append_nil]
  after_reads_simp
  rfl

/-! ## The attention's stretches, from any contents -/

variable (W : Valuation τ sig (Elt F))

/-- The pages of each sequence. -/
def takeOf (P : FVec F S8192x128x128 .bf16) (T : IVec S8x1024 32) : FVec F S8x1024x128x128 .bf16 :=
  Host.gather gather_S8192x128x128_S8x1024x1_S8x1024x128x128_23_0_n_n_0_2_1128128 P (broadcastInDim S8x1024x1 ![0, 1] bcast_S8x1024_S8x1024x1_0_1 T)
/-- The keys or values: the pages' rows, then the new ones, times the scale. -/
def rowsOf (G : FVec F S8x1024x128x128 .bf16) (N : FVec F S8x128x128 .bf16) (s : FVec F S1 .f32) : FVec F S8x131200x128 .bf16 :=
  mulf (concatenate S8x131200x128 1 [⟨S8x131072x128, shapeCast S8x131072x128 G shapeCasts_S8x1024x128x128_S8x131072x128⟩, ⟨S8x128x128, N⟩] concatenates_S8x131072x128_S8x128x128_S8x131200x128_d1)
    (broadcastInDim S8x131200x128 ![0, 1, 2] bcast_S1x1x1_S8x131200x128_0_1_2 (broadcastInDim S1x1x1 ![2] bcast_S1_S1x1x1_2 (truncf .bf16 s bitsLt_bf16_f32)))
/-- A cached position. -/
def cachedOf : IVec S8x128x131200 1 :=
  cmpi .slt (iotaInDim S8x128x131200 32 2) (broadcastInDim S8x128x131200 ![] bcast_S_S8x128x131200 (constantI S_ 32 131072#32))
/-- A position before the length. -/
def insideOf (L : IVec S8 32) : IVec S8x128x131200 1 :=
  cmpi .slt (iotaInDim S8x128x131200 32 2) (broadcastInDim S8x128x131200 ![0, 1, 2] bcast_S8x1x1_S8x128x131200_0_1_2 (broadcastInDim S8x1x1 ![0] bcast_S8_S8x1x1_0 L))
/-- A new position up to the token. -/
def causalOf : IVec S8x128x131200 1 :=
  cmpi .sle (subi (iotaInDim S8x128x131200 32 2) (broadcastInDim S8x128x131200 ![] bcast_S_S8x128x131200 (constantI S_ 32 131072#32))) (iotaInDim S8x128x131200 32 1)
/-- The scores, scaled. -/
def scoresOf (K : FVec F S8x131200x128 .bf16) (X : FVec F S8x128x2048 .bf16) : FVec F S8x16x128x131200 .f32 :=
  Host.divf (transpose S8x16x128x131200 [0, 3, 2, 1] (Host.dotGeneral dot_S8x131200x128_S8x128x16x128_S8x131200x128x16_2_3_1_12_0_0 none K
      (shapeCast S8x128x16x128 X shapeCasts_S8x128x2048_S8x128x16x128)) transposes_S8x131200x128x16_S8x16x128x131200_0_3_2_1)
    (broadcastInDim S8x16x128x131200 ![] bcast_S_S8x16x128x131200 (Host.sqrt (constant S_ .f32 0x43000000#32)))
/-- The scores, masked. -/
def maskedOf (M : IVec S8x128x131200 1) (S : FVec F S8x16x128x131200 .f32) : FVec F S8x16x128x131200 .f32 :=
  select (broadcastInDim S8x16x128x131200 ![0, 1, 2, 3] bcast_S8x1x128x131200_S8x16x128x131200_0_1_2_3 (broadcastInDim S8x1x128x131200 ![0, 2, 3] bcast_S8x128x131200_S8x1x128x131200_0_2_3 M)) S
    (broadcastInDim S8x16x128x131200 ![] bcast_S_S8x16x128x131200 (constant S_ .f32 0xFF800000#32))
/-- The exponentials of the scores less their maximum. -/
def expOf (S : FVec F S8x16x128x131200 .f32) : FVec F S8x16x128x131200 .f32 :=
  Host.exp (subf S (broadcastInDim S8x16x128x131200 ![0, 1, 2, 3] bcast_S8x16x128x1_S8x16x128x131200_0_1_2_3 (broadcastInDim S8x16x128x1 ![0, 1, 2] bcast_S8x16x128_S8x16x128x1_0_1_2
    (Host.reduce FloatOps.maximumf S (constant S_ .f32 0xFF800000#32) reducesTo_S8x16x128x131200_S8x16x128_d3 h_S_))))
/-- The normalised sum of the values, from the exponentials. -/
def meanOf (E : FVec F S8x16x128x131200 .f32) (Z : FVec F S8x131200x128 .bf16) : FVec F S8x16x128x128 .f32 :=
  Host.divf (Host.dotGeneral dot_S8x16x128x131200_S8x131200x128_S8x16x128x128_3_1_12_2_0_0 none E (extf .f32 Z bitsLt_bf16_f32))
    (broadcastInDim S8x16x128x128 ![0, 1, 2, 3] bcast_S8x16x128x1_S8x16x128x128_0_1_2_3 (broadcastInDim S8x16x128x1 ![0, 1, 2] bcast_S8x16x128_S8x16x128x1_0_1_2
      (Host.reduceAdd E (constant S_ .f32 0x00000000#32) reducesTo_S8x16x128x131200_S8x16x128_d3 h_S_)))
/-- The result, heads side by side. -/
def joinOf (O : FVec F S8x16x128x128 .f32) : FVec F S8x128x2048 .bf16 :=
  truncf .bf16 (shapeCast S8x128x2048 (transpose S8x128x16x128 [0, 2, 1, 3] O transposes_S8x16x128x128_S8x128x16x128_0_2_1_3) shapeCasts_S8x128x16x128_S8x128x2048) bitsLt_bf16_f32

theorem r37 : (StableHlo.after hostOps1 W (Proc.devRef .tc main_v37) : FVec F S8x1024x128x128 .bf16) = takeOf (W (Proc.devRef .tc main_v36_4)) (W (Proc.devRef .tc main_arg7)) := by
  after_reads_simp
  rfl
theorem r43 : (StableHlo.after hostOps1_1 W (Proc.devRef .tc main_v43) : FVec F S8x131200x128 .bf16)
    = rowsOf (W (Proc.devRef .tc main_v37)) (W (Proc.devRef .tc main_v36_2)) (W (Proc.devRef .tc main_arg5)) := by
  after_reads_simp
  rfl
theorem r44 : (StableHlo.after hostOps1_2 W (Proc.devRef .tc main_v44) : FVec F S8x1024x128x128 .bf16) = takeOf (W (Proc.devRef .tc main_v36_5)) (W (Proc.devRef .tc main_arg7)) := by
  after_reads_simp
  rfl
theorem r50 : (StableHlo.after hostOps1_3 W (Proc.devRef .tc main_v50) : FVec F S8x131200x128 .bf16)
    = rowsOf (W (Proc.devRef .tc main_v44)) (W (Proc.devRef .tc main_v36_3)) (W (Proc.devRef .tc main_arg6)) := by
  after_reads_simp
  rfl
theorem r54 : (StableHlo.after hostOps1_3 W (Proc.devRef .tc main_v54) : IVec S8x128x131200 1) = cachedOf := by
  after_reads_simp
  rfl
theorem r57 : (StableHlo.after hostOps1_3 W (Proc.devRef .tc main_v57) : IVec S8x128x131200 1) = insideOf (W (Proc.devRef .tc main_arg8)) := by
  after_reads_simp
  rfl
theorem r60 : (StableHlo.after hostOps1_3 W (Proc.devRef .tc main_v60) : IVec S8x128x131200 1) = causalOf := by
  after_reads_simp
  rfl
theorem r61 : (StableHlo.after hostOps1_4 W (Proc.devRef .tc main_v61) : IVec S8x128x131200 1)
    = select (W (Proc.devRef .tc main_v54) : IVec S8x128x131200 1) (W (Proc.devRef .tc main_v57) : IVec S8x128x131200 1) (W (Proc.devRef .tc main_v60) : IVec S8x128x131200 1) := by
  after_reads_simp
  rfl
theorem r69 : (StableHlo.after (hostOps1_5 ++ hostOps1_6) W (Proc.devRef .tc main_v69) : FVec F S8x16x128x131200 .f32)
    = maskedOf (W (Proc.devRef .tc main_v61)) (scoresOf (W (Proc.devRef .tc main_v43)) (W (Proc.devRef .tc main_arg0))) := by
  simp only [List.cons_append, List.nil_append]
  after_reads_simp
  rfl
theorem r83 : (StableHlo.after hostOps1_7 W (Proc.devRef .tc main_v83) : FVec F S8x128x2048 .bf16)
    = joinOf (meanOf (expOf (W (Proc.devRef .tc main_v69))) (W (Proc.devRef .tc main_v50))) := by
  after_reads_simp
  rfl

end Cert.ReferenceIdeal.Hand

end
-- ==== Proof.ReferenceIdeal.Tail.lean ====
/-
  The attention's lines put together, and the results of the small region they start from.
-/
module

public import proofs.«01_k».proof.Proof.ReferenceIdeal.Reads
public import Idealize.ShloMosaic.Lib.Pipeline.ValueKit

@[expose] public section

set_option synthInstance.maxSize 4096

noncomputable section

namespace Cert.ReferenceIdeal.Hand

open Cert.ReferenceIdeal
open Cert.ReferenceIdeal.Gen (V V0 hostOps1 hostOps1_1 hostOps1_2 hostOps1_3 hostOps1_4 hostOps1_5 hostOps1_6 hostOps1_7 dats after0_4 after0_5 after0_6 after0_7 after0_8 after0_9
  out0_4 out0_5 out0_6 out0_7 out0_8 out0_9 iblk k0_pay1 k0_pay2 k0_pay3 k0_pay4 k0_pay5 k0_pay6 t0_0)
open Idealize.ShloMosaic Idealize.ShloMosaic.TcCoe Idealize.SL.Sem
open Facts₀ Facts

variable {F : FTy → Type} [FloatOps F]

theorem after_app : ∀ (l₁ l₂ : List (HloOp τ sig (Elt F))) (W : Valuation τ sig (Elt F)),
    StableHlo.after (l₁ ++ l₂) W = StableHlo.after l₂ (StableHlo.after l₁ W)
  | [], _, _ => rfl
  | op :: l₁, l₂, W => by rw [List.cons_append, StableHlo.after_cons, StableHlo.after_cons, after_app l₁ l₂]

variable (W : Valuation τ sig (Elt F))

theorem un0 {r : Ref sig .tc} (h : r ∉ [main_call6_v0, main_v37]) : StableHlo.after hostOps1 W (Proc.devRef .tc r) = W (Proc.devRef .tc r) :=
  StableHlo.after_unwritten [main_call6_v0, main_v37] rfl h W
theorem un1 {r : Ref sig .tc} (h : r ∉ [main_v38, main_v39, main_v40, main_v41, main_v42, main_v43]) : StableHlo.after hostOps1_1 W (Proc.devRef .tc r) = W (Proc.devRef .tc r) :=
  StableHlo.after_unwritten [main_v38, main_v39, main_v40, main_v41, main_v42, main_v43] rfl h W
theorem un2 {r : Ref sig .tc} (h : r ∉ [main_call7_v0, main_v44]) : StableHlo.after hostOps1_2 W (Proc.devRef .tc r) = W (Proc.devRef .tc r) :=
  StableHlo.after_unwritten [main_call7_v0, main_v44] rfl h W
theorem un3 {r : Ref sig .tc} (h : r ∉ [main_v45, main_v46, main_v47, main_v48, main_v49, main_v50, main_v51, main_v52, main_c, main_v53, main_v54, main_v55, main_v56, main_v57, main_c_15, main_v58, main_v59, main_v60]) :
    StableHlo.after hostOps1_3 W (Proc.devRef .tc r) = W (Proc.devRef .tc r) :=
  StableHlo.after_unwritten [main_v45, main_v46, main_v47, main_v48, main_v49, main_v50, main_v51, main_v52, main_c, main_v53, main_v54, main_v55, main_v56, main_v57, main_c_15, main_v58, main_v59, main_v60] rfl h W
theorem un4 {r : Ref sig .tc} (h : r ∉ [main_v61]) : StableHlo.after hostOps1_4 W (Proc.devRef .tc r) = W (Proc.devRef .tc r) :=
  StableHlo.after_unwritten [main_v61] rfl h W
theorem un5 {r : Ref sig .tc} (h : r ∉ [main_v62, main_v63, main_v64, main_cst_16, main_v65, main_v66, main_v67, main_v68, main_cst_17, main_call9_v0, main_call9_v1, main_call9_v2, main_v69]) :
    StableHlo.after (hostOps1_5 ++ hostOps1_6) W (Proc.devRef .tc r) = W (Proc.devRef .tc r) :=
  StableHlo.after_unwritten [main_v62, main_v63, main_v64, main_cst_16, main_v65, main_v66, main_v67, main_v68, main_cst_17, main_call9_v0, main_call9_v1, main_call9_v2, main_v69] rfl h W

/-- The attention of the reference. -/
def attRef (X : FVec F S8x128x2048 .bf16) (KN VN : FVec F S8x128x128 .bf16) (KP VP : FVec F S8192x128x128 .bf16) (ks vs : FVec F S1 .f32) (T : IVec S8x1024 32) (L : IVec S8 32) :
    FVec F S8x128x2048 .bf16 :=
  joinOf (meanOf (expOf (maskedOf (select cachedOf (insideOf L) causalOf) (scoresOf (rowsOf (takeOf KP T) KN ks) X))) (rowsOf (takeOf VP T) VN vs))

theorem tail_read : (StableHlo.after ([hostOps1, hostOps1_1, hostOps1_2, hostOps1_3, hostOps1_4, hostOps1_5, hostOps1_6, hostOps1_7].flatten) W (Proc.devRef .tc main_v83) : FVec F S8x128x2048 .bf16)
    = attRef (W (Proc.devRef .tc main_arg0)) (W (Proc.devRef .tc main_v36_2)) (W (Proc.devRef .tc main_v36_3)) (W (Proc.devRef .tc main_v36_4)) (W (Proc.devRef .tc main_v36_5))
      (W (Proc.devRef .tc main_arg5)) (W (Proc.devRef .tc main_arg6)) (W (Proc.devRef .tc main_arg7)) (W (Proc.devRef .tc main_arg8)) := by
  have e : ([hostOps1, hostOps1_1, hostOps1_2, hostOps1_3, hostOps1_4, hostOps1_5, hostOps1_6, hostOps1_7].flatten : List (HloOp τ sig (Elt F)))
      = hostOps1 ++ (hostOps1_1 ++ (hostOps1_2 ++ (hostOps1_3 ++ (hostOps1_4 ++ ((hostOps1_5 ++ hostOps1_6) ++ hostOps1_7))))) := rfl
  rw [e, after_app, after_app, after_app, after_app, after_app, after_app, r83, r69, un5 _ (r := main_v50) (by decide), r61, un4 _ (r := main_v43) (by decide),
    un4 _ (r := main_arg0) (by decide), un4 _ (r := main_v50) (by decide), r54, r57, r60, r50, un3 _ (r := main_v43) (by decide), un3 _ (r := main_arg0) (by decide),
    un2 _ (r := main_v43) (by decide), un2 _ (r := main_arg0) (by decide), un2 _ (r := main_arg8) (by decide), un2 _ (r := main_v36_3) (by decide), un2 _ (r := main_arg6) (by decide), r44, r43,
    un1 _ (r := main_arg0) (by decide), un1 _ (r := main_arg8) (by decide), un1 _ (r := main_v36_3) (by decide), un1 _ (r := main_arg6) (by decide), un1 _ (r := main_v36_5) (by decide), un1 _ (r := main_arg7) (by decide), r37,
    un0 _ (r := main_arg0) (by decide), un0 _ (r := main_arg8) (by decide), un0 _ (r := main_v36_3) (by decide), un0 _ (r := main_arg6) (by decide), un0 _ (r := main_v36_5) (by decide), un0 _ (r := main_arg7) (by decide),
    un0 _ (r := main_v36_2) (by decide), un0 _ (r := main_arg5) (by decide)]
  rfl

/-! ## The small region -/

variable (m : (ℓ : Loc nD τ sig) → Buf (Elt F) ℓ) (c : Dev nD)

theorem in0 : (iblk m c 0 t0_0 : Vec F S8x128x128 .f32) = V m c main_v16 := by
  funext y
  show V m c main_v16 (((cfg0.win 0).blk t0_0).view.emb y) = V m c main_v16 y
  refine congrArg (V m c main_v16) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem in1 : (iblk m c 1 t0_0 : Vec F S8x128x128 .f32) = V m c main_v33 := by
  funext y
  show V m c main_v33 (((cfg0.win 1).blk t0_0).view.emb y) = V m c main_v33 y
  refine congrArg (V m c main_v33) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem in2 : (iblk m c 2 t0_0 : Vec F S8192x128x128 .fp8e4m3) = V m c main_v34 := by
  funext y
  show V m c main_v34 (((cfg0.win 2).blk t0_0).view.emb y) = V m c main_v34 y
  refine congrArg (V m c main_v34) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega
theorem in3 : (iblk m c 3 t0_0 : Vec F S8192x128x128 .fp8e4m3) = V m c main_v35 := by
  funext y
  show V m c main_v35 (((cfg0.win 3).blk t0_0).view.emb y) = V m c main_v35 y
  refine congrArg (V m c main_v35) (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega

theorem off3 : (![0, 0, 0] : Fin 3 → ℕ) = fun _ => 0 := by
  funext a
  match a with
  | ⟨0, _⟩ => rfl
  | ⟨1, _⟩ => rfl
  | ⟨2, _⟩ => rfl

theorem out4 (x0 : Vec F S8x128x128 .f32) (x1 : Vec F S8x128x128 .f32) (x2 : Vec F S8192x128x128 .fp8e4m3) (x3 : Vec F S8192x128x128 .fp8e4m3) : out0_4 x0 x1 x2 x3 = k0_pay1 x0 := by
  unfold out0_4
  rw [View.canon_unit_zero off3, View.ld_unit_zero off3]
theorem arr4 : (dats m 0 c).arrAt 4 cfg0.N = (k0_pay1 (V m c main_v16) : Vec F S8x128x128 .fp8e4m3) := by
  refine (dats m 0 c).arrAt_eq_of_after_last 4 t0_0 (by decide +kernel : (cfg0.win 4).WholeAt t0_0) _ (fun j => ?_)
  rw [after0_4, in0, in1, in2, in3, out4]
  rfl
theorem out5 (x0 : Vec F S8x128x128 .f32) (x1 : Vec F S8x128x128 .f32) (x2 : Vec F S8192x128x128 .fp8e4m3) (x3 : Vec F S8192x128x128 .fp8e4m3) : out0_5 x0 x1 x2 x3 = k0_pay2 x1 := by
  unfold out0_5
  rw [View.canon_unit_zero off3, View.ld_unit_zero off3]
theorem arr5 : (dats m 0 c).arrAt 5 cfg0.N = (k0_pay2 (V m c main_v33) : Vec F S8x128x128 .fp8e4m3) := by
  refine (dats m 0 c).arrAt_eq_of_after_last 5 t0_0 (by decide +kernel : (cfg0.win 5).WholeAt t0_0) _ (fun j => ?_)
  rw [after0_5, in0, in1, in2, in3, out5]
  rfl
theorem out6 (x0 : Vec F S8x128x128 .f32) (x1 : Vec F S8x128x128 .f32) (x2 : Vec F S8192x128x128 .fp8e4m3) (x3 : Vec F S8192x128x128 .fp8e4m3) : out0_6 x0 x1 x2 x3 = k0_pay3 x0 := by
  unfold out0_6
  rw [View.canon_unit_zero off3, View.ld_unit_zero off3]
theorem arr6 : (dats m 0 c).arrAt 6 cfg0.N = (k0_pay3 (V m c main_v16) : Vec F S8x128x128 .bf16) := by
  refine (dats m 0 c).arrAt_eq_of_after_last 6 t0_0 (by decide +kernel : (cfg0.win 6).WholeAt t0_0) _ (fun j => ?_)
  rw [after0_6, in0, in1, in2, in3, out6]
  rfl
theorem out7 (x0 : Vec F S8x128x128 .f32) (x1 : Vec F S8x128x128 .f32) (x2 : Vec F S8192x128x128 .fp8e4m3) (x3 : Vec F S8192x128x128 .fp8e4m3) : out0_7 x0 x1 x2 x3 = k0_pay4 x1 := by
  unfold out0_7
  rw [View.canon_unit_zero off3, View.ld_unit_zero off3]
theorem arr7 : (dats m 0 c).arrAt 7 cfg0.N = (k0_pay4 (V m c main_v33) : Vec F S8x128x128 .bf16) := by
  refine (dats m 0 c).arrAt_eq_of_after_last 7 t0_0 (by decide +kernel : (cfg0.win 7).WholeAt t0_0) _ (fun j => ?_)
  rw [after0_7, in0, in1, in2, in3, out7]
  rfl
theorem out8 (x0 : Vec F S8x128x128 .f32) (x1 : Vec F S8x128x128 .f32) (x2 : Vec F S8192x128x128 .fp8e4m3) (x3 : Vec F S8192x128x128 .fp8e4m3) : out0_8 x0 x1 x2 x3 = k0_pay5 x2 := by
  unfold out0_8
  rw [View.canon_unit_zero off3, View.ld_unit_zero off3]
theorem arr8 : (dats m 0 c).arrAt 8 cfg0.N = (k0_pay5 (V m c main_v34) : Vec F S8192x128x128 .bf16) := by
  refine (dats m 0 c).arrAt_eq_of_after_last 8 t0_0 (by decide +kernel : (cfg0.win 8).WholeAt t0_0) _ (fun j => ?_)
  rw [after0_8, in0, in1, in2, in3, out8]
  rfl
theorem out9 (x0 : Vec F S8x128x128 .f32) (x1 : Vec F S8x128x128 .f32) (x2 : Vec F S8192x128x128 .fp8e4m3) (x3 : Vec F S8192x128x128 .fp8e4m3) : out0_9 x0 x1 x2 x3 = k0_pay6 x3 := by
  unfold out0_9
  rw [View.canon_unit_zero off3, View.ld_unit_zero off3]
theorem arr9 : (dats m 0 c).arrAt 9 cfg0.N = (k0_pay6 (V m c main_v35) : Vec F S8192x128x128 .bf16) := by
  refine (dats m 0 c).arrAt_eq_of_after_last 9 t0_0 (by decide +kernel : (cfg0.win 9).WholeAt t0_0) _ (fun j => ?_)
  rw [after0_9, in0, in1, in2, in3, out9]
  rfl

/-! ## The run -/

/-- The contents after the small region. -/
abbrev M0 : Valuation τ sig (Elt F) := Pipeline.withArrays spec0 c (V0 m c) fun w => (dats m 0 c).arrAt w cfg0.N

theorem spec_inj : Function.Injective (Pipeline.arrRef spec0) := by decide
theorem M0_arr (w : Fin 10) : M0 m c (Proc.devRef .tc (Pipeline.arrRef spec0 w)) = (dats m 0 c).arrAt w cfg0.N :=
  Pipeline.withArrays_arr spec0 spec_inj c (V0 m c) _ w
theorem M0_rest (b : Ref sig .tc) (h : ∀ w, Pipeline.arrRef spec0 w ≠ b) : M0 m c (Proc.devRef .tc b) = V m c b :=
  Pipeline.withArrays_of_ne spec0 c (V0 m c) _ b h

/-- The reference's result. -/
def refY : FVec F S8x128x2048 .bf16 :=
  attRef (argAt m c main_arg0) (k0_pay3 (V m c main_v16)) (k0_pay4 (V m c main_v33)) (k0_pay5 (V m c main_v34)) (k0_pay6 (V m c main_v35))
    (argAt m c main_arg5) (argAt m c main_arg6) (argAt m c main_arg7) (argAt m c main_arg8)

theorem tail_y : Pipeline.afterTail₀ cfgs (dats m) 0 (V0 m) [hostOps1, hostOps1_1, hostOps1_2, hostOps1_3, hostOps1_4, hostOps1_5, hostOps1_6, hostOps1_7] c main_v83 = (refY m c : FVec F S8x128x2048 .bf16) := by
  unfold Pipeline.afterTail₀ refY
  refine (tail_read (M0 m c)).trans ?_
  rw [M0_rest m c main_arg0 (by decide), M0_rest m c main_arg5 (by decide), M0_rest m c main_arg6 (by decide), M0_rest m c main_arg7 (by decide), M0_rest m c main_arg8 (by decide),
    (M0_arr m c 6).trans (arr6 m c), (M0_arr m c 7).trans (arr7 m c), (M0_arr m c 8).trans (arr8 m c), (M0_arr m c 9).trans (arr9 m c),
    Gen.V_main_arg0, Gen.V_main_arg5, Gen.V_main_arg6, Gen.V_main_arg7, Gen.V_main_arg8]

theorem run_value (ρ : Dev nD → PrngReg) : θ_run defs (onTc (τ := τ) (main (F := F))) ⟨m, fun _ => 0, ρ⟩ (fun r => ∀ c : Dev nD,
      r.2.mem ((c.tc : Thread nD τ).loc main_v83) = refY m c
      ∧ r.2.mem ((c.tc : Thread nD τ).loc main_v36_0) = k0_pay1 (V m c main_v16)
      ∧ r.2.mem ((c.tc : Thread nD τ).loc main_v36_1) = k0_pay2 (V m c main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h.1 c).2 main_v83 (Pipeline.mem_restRefs_of main_v83 (by decide) (by decide))).trans (tail_y m c), ((h.1 c).1 4).trans (arr4 m c), ((h.1 c).1 5).trans (arr5 m c), h.2 c⟩)
    (θ_run_and (Gen.run_main m ρ) (Gen.unchanged m ρ))

end Cert.ReferenceIdeal.Hand

end
-- ==== Proof.ReferenceIdeal.Att.lean ====
/-
  The reference's attention, entry by entry, over the extended reals.
-/
module

public import proofs.«01_k».proof.Proof.ReferenceIdeal.Tail
public import proofs.«01_k».proof.Proof.Attn
public import Idealize.ShloMosaic.Lib.Pointwise
public import Idealize.ShloMosaic.Lib.WordCmp

@[expose] public section

set_option synthInstance.maxSize 4096

noncomputable section

namespace Cert.ReferenceIdeal.Hand

open Cert.ReferenceIdeal Cert.Softmax
open Idealize.ShloMosaic Idealize.ShloMosaic.TcCoe
open Facts₀ Facts

/-- A maximum folded from `⊥` is the supremum. -/
theorem fold_sup {κ : Type} (S : Finset κ) (f : κ → EReal) : S.fold max ⊥ f = S.sup f := rfl

theorem ofBits_ninf : Ideal.ofBits .f32 0xFF800000#32 = (⊥ : EReal) := by
  show Ideal.ieee 8 23 0xFF800000#32 = ⊥
  simp [Ideal.ieee]
theorem ofBits_128 : Ideal.ofBits .f32 0x43000000#32 = ((128 : ℝ) : EReal) := by
  show Ideal.ieee 8 23 0x43000000#32 = _
  simp [Ideal.ieee]
  rw [← EReal.coe_mul]
  exact congrArg _ (by norm_num)
theorem sqrt_128 : Ideal.sqrt (Ideal.ofBits .f32 0x43000000#32) = ((Real.sqrt 128 : ℝ) : EReal) := by
  rw [ofBits_128]
  show (if (128 : ℝ) < 0 then ⊥ else ((Real.sqrt 128 : ℝ) : EReal)) = _
  rw [if_neg (by norm_num)]

/-- A gathered page's row is the pool's row, at the page the table names. -/
theorem takeOf_at (P : FVec Ideal S8192x128x128 .bf16) (T : IVec S8x1024 32) (b : Fin 8) (p : Fin 1024) (r d : Fin 128) (hT : (T (ix2 b p)).toNat < 8192) :
    takeOf P T (ix4 b p r d) = P (ix3 ⟨(T (ix2 b p)).toNat, hT⟩ r d) := by
  unfold takeOf Host.gather
  refine congrArg P (funext fun a => Fin.ext ?_)
  set D := gather_S8192x128x128_S8x1024x1_S8x1024x128x128_23_0_n_n_0_2_1128128 with hD
  show D.start _ _ a + D.batchCoord _ a + D.offCoord _ a = _
  have hbN : ∀ a', a' ∉ D.operandBatchingDims := fun a' => List.not_mem_nil
  rw [D.batchCoord_eq_zero _ _ (hbN a)]
  have e0 : D.start (ix4 b p r d) (broadcastInDim S8x1024x1 ![0, 1] bcast_S8x1024_S8x1024x1_0_1 T) (0 : Fin 3) + 0 + D.offCoord (ix4 b p r d) (0 : Fin 3) = (T (ix2 b p)).toNat := by
    rw [D.offCoord_eq_zero _ _ (fun h => ((GatherDims.mem_sKept _ _).mp h).1 (List.mem_singleton.mpr rfl))]
    simp only [Nat.add_zero]
    unfold GatherDims.start
    rw [dif_pos (show (0 : Fin 3) ∈ D.startIndexMap from List.mem_singleton.mpr rfl)]
    have hsi : D.siIdx (ix4 b p r d) ⟨List.idxOf (0 : Fin 3) D.startIndexMap, List.idxOf_lt_length_iff.2 (List.mem_singleton.mpr rfl)⟩ = ix3 b p 0 := by
      funext b'; refine Fin.ext ?_
      match b' with
      | ⟨0, _⟩ => rfl
      | ⟨1, _⟩ => rfl
      | ⟨2, _⟩ => rfl
    rw [hsi]
    have e : broadcastInDim S8x1024x1 ![0, 1] bcast_S8x1024_S8x1024x1_0_1 T (ix3 b p 0) = T (ix2 b p) := by pointwise
    rw [e, WordCmp.toInt_eq_toNat_of_lt_half (by omega)]
    show min (T (ix2 b p)).toNat (8192 - 1) = (T (ix2 b p)).toNat
    omega
  have es : ∀ a' : Fin 3, a' ≠ 0 → D.start (ix4 b p r d) (broadcastInDim S8x1024x1 ![0, 1] bcast_S8x1024_S8x1024x1_0_1 T) a' = 0 := fun a' h => by
    unfold GatherDims.start
    rw [dif_neg (show a' ∉ D.startIndexMap from fun e => h (List.mem_singleton.1 e))]
  have e1 : D.start (ix4 b p r d) (broadcastInDim S8x1024x1 ![0, 1] bcast_S8x1024_S8x1024x1_0_1 T) (1 : Fin 3) + 0 + D.offCoord (ix4 b p r d) (1 : Fin 3) = r.val := by
    rw [es 1 (by decide), Nat.add_zero, Nat.zero_add]
    unfold GatherDims.offCoord
    rw [dif_pos (show (1 : Fin 3) ∈ D.sKept by decide)]
    rfl
  have e2 : D.start (ix4 b p r d) (broadcastInDim S8x1024x1 ![0, 1] bcast_S8x1024_S8x1024x1_0_1 T) (2 : Fin 3) + 0 + D.offCoord (ix4 b p r d) (2 : Fin 3) = d.val := by
    rw [es 2 (by decide), Nat.add_zero, Nat.zero_add]
    unfold GatherDims.offCoord
    rw [dif_pos (show (2 : Fin 3) ∈ D.sKept by decide)]
    rfl
  match a with
  | ⟨0, _⟩ => exact e0
  | ⟨1, _⟩ => exact e1
  | ⟨2, _⟩ => exact e2

theorem rowsOf_at (G : FVec Ideal S8x1024x128x128 .bf16) (N : FVec Ideal S8x128x128 .bf16) (s : FVec Ideal S1 .f32) (b : Fin 8) (n : Fin 131200) (d : Fin 128) :
    rowsOf G N s (ix3 b n d) = (if h : n.val < 131072 then G (ix4 b ⟨n.val / 128, by omega⟩ ⟨n.val % 128, Nat.mod_lt _ (by decide)⟩ d)
      else N (ix3 b ⟨n.val - 131072, by have := n.isLt; omega⟩ d)) * s (ix1 0) := by
  pointwise [rowsOf]

/-- The keys or values of a sequence. -/
theorem entries_at (P : FVec Ideal S8192x128x128 .bf16) (T : IVec S8x1024 32) (N : FVec Ideal S8x128x128 .bf16) (s : FVec Ideal S1 .f32)
    (hT : ∀ b p, (T (ix2 b p)).toNat < 8192) (b : Fin 8) (n : Fin 131200) (d : Fin 128) :
    rowsOf (takeOf P T) N s (ix3 b n d) = entOf (fun p => T (ix2 b p)) (hT b) (fun p r d => P (ix3 p r d)) (fun r d => N (ix3 b r d)) (s (ix1 0)) n d := by
  rw [rowsOf_at]
  unfold entOf
  congr 1
  by_cases h : n.val < 131072
  · rw [dif_pos h, dif_pos h, takeOf_at _ _ _ _ _ _ (hT _ _)]
    have e : (⟨n.val / 128, by omega⟩ : Fin 1024) = ⟨n.val / 128 % 1024, Nat.mod_lt _ (by decide)⟩ := Fin.ext (by show n.val / 128 = n.val / 128 % 1024; omega)
    unfold pgOf rowOf
    exact congrArg (fun p : Fin 8192 => P (ix3 p ⟨n.val % 128, Nat.mod_lt _ (by decide)⟩ d)) (Fin.ext (congrArg (fun p => (T (ix2 b p)).toNat) e))
  · rw [dif_neg h, dif_neg h]

/-- The scale of the scores. -/
def aR : ℝ := (Real.sqrt 128)⁻¹
theorem aR_pos : 0 < aR := inv_pos.2 (Real.sqrt_pos.2 (by norm_num))

/-- A score is a sum of products, scaled. -/
theorem scoresOf_at (K : FVec Ideal S8x131200x128 .bf16) (X : FVec Ideal S8x128x2048 .bf16) (b : Fin 8) (h : Fin 16) (i : Fin 128) (n : Fin 131200) :
    scoresOf K X (ix4 b h i n) = (∑ d : Fin 128, K (ix3 b n d) * X (ix3 b i ⟨128 * h.val + d.val, by have := h.isLt; have := d.isLt; omega⟩)) * (aR : EReal) := by
  pointwise [scoresOf]
  rw [sqrt_128, Ideal.div_coe (Real.sqrt_pos.2 (by norm_num)).ne', one_div]
  unfold aR
  refine congrArg (· * _) (Finset.sum_congr rfl fun d _ => ?_)
  exact congrArg (fun k => K (ix3 b n d) * X (ix3 b i k)) (Fin.ext (by show h.val * 128 + d.val = 128 * h.val + d.val; omega))

theorem causal_word (b : Fin 8) (i : Fin 128) (n : Fin 131200) :
    (causalOf : IVec S8x128x131200 1) (ix3 b i n) = IntOp.cmpi .sle (IntOp.subi (BitVec.ofNat 32 n.val) 131072#32) (BitVec.ofNat 32 i.val) := by
  pointwise [causalOf]
theorem causal_at (b : Fin 8) (i : Fin 128) (n : Fin 131200) (h : ¬n.val < 131072) :
    (causalOf : IVec S8x128x131200 1) (ix3 b i n) = BitVec.ofBool (decide (n.val - 131072 ≤ i.val)) := by
  have hn := n.isLt
  have hi := i.isLt
  have e : IntOp.subi (BitVec.ofNat 32 n.val) 131072#32 = BitVec.ofNat 32 (n.val - 131072) := by
    apply BitVec.eq_of_toNat_eq
    show (BitVec.ofNat 32 n.val - 131072#32).toNat = _
    rw [BitVec.toNat_sub, BitVec.toNat_ofNat, BitVec.toNat_ofNat, BitVec.toNat_ofNat]
    omega
  rw [causal_word, e, WordCmp.cmpi_sle_ofNat (by omega) (by omega)]

/-- A position is visible if it is cached and before the length, or new and not after the token. -/
theorem mask_at (L : IVec S8 32) (hL : ∀ b, (L (ix1 b)).toNat ≤ 131072) (b : Fin 8) (i : Fin 128) (n : Fin 131200) :
    select (cachedOf : IVec S8x128x131200 1) (insideOf L) causalOf (ix3 b i n) = 1#1 ↔ (if n.val < 131072 then n.val < (L (ix1 b)).toNat else n.val - 131072 ≤ i.val) := by
  have hn := n.isLt
  have hi := i.isLt
  have hl := hL b
  have e1 : (cachedOf : IVec S8x128x131200 1) (ix3 b i n) = BitVec.ofBool (decide (n.val < 131072)) := by
    pointwise [cachedOf]
    rw [WordCmp.cmpi_slt_ofNat (by omega) (by omega)]
  have e2 : insideOf L (ix3 b i n) = BitVec.ofBool (decide (n.val < (L (ix1 b)).toNat)) := by
    pointwise [insideOf]
    rw [WordCmp.cmpi_slt_of_lt (by rw [BitVec.toNat_ofNat]; omega) (by omega), BitVec.toNat_ofNat, Nat.mod_eq_of_lt (by omega)]
  show Scalar.select ((cachedOf : IVec S8x128x131200 1) (ix3 b i n)) (insideOf L (ix3 b i n)) ((causalOf : IVec S8x128x131200 1) (ix3 b i n)) = 1#1 ↔ _
  rw [e1, e2, Scalar.select]
  by_cases h : n.val < 131072
  · rw [if_pos h, if_pos (c := _ = 1) ((WordCmp.ofBool_decide_eq_one_iff _).2 h), WordCmp.ofBool_decide_eq_one_iff]
  · rw [if_neg h, if_neg (c := _ = 1) (fun e => h ((WordCmp.ofBool_decide_eq_one_iff _).1 e))]
    rw [causal_at b i n h, WordCmp.ofBool_decide_eq_one_iff]

theorem maskedOf_at (M : IVec S8x128x131200 1) (S : FVec Ideal S8x16x128x131200 .f32) (b : Fin 8) (h : Fin 16) (i : Fin 128) (n : Fin 131200) :
    maskedOf M S (ix4 b h i n) = if M (ix3 b i n) = 1#1 then S (ix4 b h i n) else ⊥ := by
  pointwise [maskedOf]
  rw [ofBits_ninf]
  rfl

/-- An exponential of a score less the row's supremum. -/
theorem expOf_at (S : FVec Ideal S8x16x128x131200 .f32) (b : Fin 8) (h : Fin 16) (i : Fin 128) (n : Fin 131200) :
    expOf S (ix4 b h i n) = Ideal.exp (S (ix4 b h i n) - Finset.univ.sup fun x => S (ix4 b h i x)) := by
  pointwise [expOf]
  rw [ofBits_ninf]
  exact congrArg (fun y => Ideal.exp (S (ix4 b h i n) - y)) (fold_sup _ _)

theorem meanOf_at (E : FVec Ideal S8x16x128x131200 .f32) (Z : FVec Ideal S8x131200x128 .bf16) (b : Fin 8) (h : Fin 16) (i d : Fin 128) :
    meanOf E Z (ix4 b h i d) = Ideal.div (∑ x, E (ix4 b h i x) * Z (ix3 b x d)) (∑ x, E (ix4 b h i x)) := by
  pointwise [meanOf]

theorem joinOf_at (O : FVec Ideal S8x16x128x128 .f32) (b : Fin 8) (i : Fin 128) (n : Fin 2048) :
    joinOf O (ix3 b i n) = O (ix4 b ⟨n.val / 128, by have := n.isLt; omega⟩ i ⟨n.val % 128, Nat.mod_lt _ (by decide)⟩) := by
  pointwise [joinOf]

/-- Masking and scaling commute. -/
theorem mask_mul (p : Prop) [Decidable p] (x : EReal) {a : ℝ} (ha : 0 < a) : (if p then x * (a : EReal) else ⊥) = (if p then x else ⊥) * (a : EReal) := by
  by_cases hp : p
  · rw [if_pos hp, if_pos hp]
  · rw [if_neg hp, if_neg hp, EReal.bot_mul_coe_of_pos ha]

/-- A softmax-weighted mean over scaled scores, in any index set, is the mean of the unscaled scores with the scale in the weights. -/
theorem mean_scaled {κ : Type} (S : Finset κ) (σ ν : κ → EReal) {c a : ℝ} (hc : 0 < c) (ha : 0 < a) (hca : c * Real.log 2 = a) :
    Ideal.div (∑ i ∈ S, Ideal.exp (σ i * (a : EReal) - S.sup fun x => σ x * (a : EReal)) * ν i) (∑ i ∈ S, Ideal.exp (σ i * (a : EReal) - S.sup fun x => σ x * (a : EReal)))
      = Ideal.div (wsOf c σ ν S) (smOf c σ S) := by
  unfold wsOf smOf
  simp only [sup_scaled σ S ha, wgt_exp hc a hca]

/-- An entry of the attention. -/
theorem attRef_at (X : FVec Ideal S8x128x2048 .bf16) (KN VN : FVec Ideal S8x128x128 .bf16) (KP VP : FVec Ideal S8192x128x128 .bf16)
    (ks vs : FVec Ideal S1 .f32) (T : IVec S8x1024 32) (L : IVec S8 32)
    (hT : ∀ b p, (T (ix2 b p)).toNat < 8192) (hL : ∀ b, (L (ix1 b)).toNat ≤ 131072) {c : ℝ} (hc : 0 < c) (hca : c * Real.log 2 = aR)
    (b : Fin 8) (i : Fin 128) (n : Fin 2048) :
    attRef X KN VN KP VP ks vs T L (ix3 b i n)
      = attnOf c (L (ix1 b)).toNat
          (entOf (fun p => T (ix2 b p)) (hT b) (fun p r d => KP (ix3 p r d)) (fun r d => KN (ix3 b r d)) (ks (ix1 0)))
          (entOf (fun p => T (ix2 b p)) (hT b) (fun p r d => VP (ix3 p r d)) (fun r d => VN (ix3 b r d)) (vs (ix1 0)))
          (fun d => X (ix3 b i ⟨128 * (n.val / 128) + d.val, by have := n.isLt; have := d.isLt; omega⟩)) i ⟨n.val % 128, Nat.mod_lt _ (by decide)⟩ := by
  unfold attRef
  rw [joinOf_at, meanOf_at]
  have hs : ∀ (h : Fin 16) (x : Fin 131200), maskedOf (select cachedOf (insideOf L) causalOf) (scoresOf (rowsOf (takeOf KP T) KN ks) X) (ix4 b h i x)
      = scoreOf (L (ix1 b)).toNat (entOf (fun p => T (ix2 b p)) (hT b) (fun p r d => KP (ix3 p r d)) (fun r d => KN (ix3 b r d)) (ks (ix1 0)))
          (fun d => X (ix3 b i ⟨128 * h.val + d.val, by have := h.isLt; have := d.isLt; omega⟩)) i x * (aR : EReal) := fun h x => by
    rw [maskedOf_at, scoresOf_at]
    unfold scoreOf
    rw [if_congr (mask_at L hL b i x) rfl rfl]
    simp only [entries_at KP T KN ks hT]
    exact mask_mul _ _ aR_pos
  simp only [expOf_at, hs, entries_at VP T VN vs hT]
  exact mean_scaled _ _ _ hc aR_pos hca

/-! ## The codes and the pools -/

/-- A code before its cast. -/
theorem clipOf_at (a : FVec Ideal S8x128x1x128 .bf16) (s : FVec Ideal S1 .f32) (b : Fin 8) (r d : Fin 128) :
    clipOf a s (ix3 b r d) = q8 (a (ix4 b r 0 d)) (s (ix1 0)) := by
  pointwise [clipOf]
  rfl

open Cert.ReferenceIdeal.Gen (V k0_pay1 k0_pay2 k0_pay3 k0_pay4 k0_pay5 k0_pay6)

/-- The small region's casts change no entry. -/
theorem pay1_at (a : FVec Ideal S8x128x128 .f32) (j : S8x128x128.Idx) : ((k0_pay1 a : FVec Ideal S8x128x128 .fp8e4m3) j : EReal) = a j := by
  unfold k0_pay1
  exact congrFun (shapeCast_self a _) j
theorem pay2_at (a : FVec Ideal S8x128x128 .f32) (j : S8x128x128.Idx) : ((k0_pay2 a : FVec Ideal S8x128x128 .fp8e4m3) j : EReal) = a j := by
  unfold k0_pay2
  exact congrFun (shapeCast_self a _) j
theorem pay3_at (a : FVec Ideal S8x128x128 .f32) (j : S8x128x128.Idx) : ((k0_pay3 a : FVec Ideal S8x128x128 .bf16) j : EReal) = a j := by
  unfold k0_pay3
  exact pay1_at a j
theorem pay4_at (a : FVec Ideal S8x128x128 .f32) (j : S8x128x128.Idx) : ((k0_pay4 a : FVec Ideal S8x128x128 .bf16) j : EReal) = a j := by
  unfold k0_pay4
  exact pay2_at a j
theorem pay5_at (a : FVec Ideal S8192x128x128 .fp8e4m3) (j : S8192x128x128.Idx) : ((k0_pay5 a : FVec Ideal S8192x128x128 .bf16) j : EReal) = a j := by
  unfold k0_pay5
  exact congrFun (shapeCast_self a _) j
theorem pay6_at (a : FVec Ideal S8192x128x128 .fp8e4m3) (j : S8192x128x128.Idx) : ((k0_pay6 a : FVec Ideal S8192x128x128 .bf16) j : EReal) = a j := by
  unfold k0_pay6
  exact congrFun (shapeCast_self a _) j
theorem pool_at (a : FVec Ideal S8192x128x1x128 .fp8e4m3) (p : Fin 8192) (r d : Fin 128) :
    shapeCast S8192x128x128 a shapeCasts_S8192x128x1x128_S8192x128x128 (ix3 p r d) = a (ix4 p r 0 d) := by
  pointwise

/-! ## The results -/

variable (m : (ℓ : Loc nD τ sig) → Buf (Elt Ideal) ℓ) (c : Dev nD)

abbrev rX (b : Fin 8) (i : Fin 128) (n : Fin 2048) : EReal := (argAt m c main_arg0 : FVec Ideal S8x128x2048 .bf16) (ix3 b i n)
abbrev rKN (b : Fin 8) (r d : Fin 128) : EReal := (argAt m c main_arg1 : FVec Ideal S8x128x1x128 .bf16) (ix4 b r 0 d)
abbrev rVN (b : Fin 8) (r d : Fin 128) : EReal := (argAt m c main_arg2 : FVec Ideal S8x128x1x128 .bf16) (ix4 b r 0 d)
abbrev rKP (p : Fin 8192) (r d : Fin 128) : EReal := (argAt m c main_arg3 : FVec Ideal S8192x128x1x128 .fp8e4m3) (ix4 p r 0 d)
abbrev rVP (p : Fin 8192) (r d : Fin 128) : EReal := (argAt m c main_arg4 : FVec Ideal S8192x128x1x128 .fp8e4m3) (ix4 p r 0 d)
abbrev rKs : EReal := (argAt m c main_arg5 : FVec Ideal S1 .f32) (ix1 0)
abbrev rVs : EReal := (argAt m c main_arg6 : FVec Ideal S1 .f32) (ix1 0)
abbrev rKi : EReal := (invOf (F := Ideal) tab0 (argAt m c main_arg5 : FVec Ideal S1 .f32) : FVec Ideal S1 .f32) (ix1 0)
abbrev rVi : EReal := (invOf (F := Ideal) tab1 (argAt m c main_arg6 : FVec Ideal S1 .f32) : FVec Ideal S1 .f32) (ix1 0)
abbrev rW (b : Fin 8) (p : Fin 1024) : BitVec 32 := (argAt m c main_arg7 : IVec S8x1024 32) (ix2 b p)
abbrev rL (b : Fin 8) : BitVec 32 := (argAt m c main_arg8 : IVec S8 32) (ix1 b)

theorem codeK_at (b : Fin 8) (r d : Fin 128) : ((k0_pay1 (V m c main_v16) : FVec Ideal S8x128x128 .fp8e4m3) (ix3 b r d) : EReal) = q8 (rKN m c b r d) (rKi m c) := by
  rw [pay1_at, V_main_v16, clipOf_at]
theorem codeV_at (b : Fin 8) (r d : Fin 128) : ((k0_pay2 (V m c main_v33) : FVec Ideal S8x128x128 .fp8e4m3) (ix3 b r d) : EReal) = q8 (rVN m c b r d) (rVi m c) := by
  rw [pay2_at, V_main_v33, clipOf_at]
theorem newK_at (b : Fin 8) (r d : Fin 128) : ((k0_pay3 (V m c main_v16) : FVec Ideal S8x128x128 .bf16) (ix3 b r d) : EReal) = q8 (rKN m c b r d) (rKi m c) := by
  rw [pay3_at, V_main_v16, clipOf_at]
theorem newV_at (b : Fin 8) (r d : Fin 128) : ((k0_pay4 (V m c main_v33) : FVec Ideal S8x128x128 .bf16) (ix3 b r d) : EReal) = q8 (rVN m c b r d) (rVi m c) := by
  rw [pay4_at, V_main_v33, clipOf_at]
theorem poolK_at (p : Fin 8192) (r d : Fin 128) : ((k0_pay5 (V m c main_v34) : FVec Ideal S8192x128x128 .bf16) (ix3 p r d) : EReal) = rKP m c p r d := by
  rw [pay5_at, V_main_v34, pool_at]
theorem poolV_at (p : Fin 8192) (r d : Fin 128) : ((k0_pay6 (V m c main_v35) : FVec Ideal S8192x128x128 .bf16) (ix3 p r d) : EReal) = rVP m c p r d := by
  rw [pay6_at, V_main_v35, pool_at]

/-- An entry of the reference's attention, in the arguments. -/
theorem refY_at (hT : ∀ b p, (rW m c b p).toNat < 8192) (hL : ∀ b, (rL m c b).toNat ≤ 131072) {k : ℝ} (hk : 0 < k) (hka : k * Real.log 2 = aR)
    (b : Fin 8) (i : Fin 128) (n : Fin 2048) :
    ((refY m c : FVec Ideal S8x128x2048 .bf16) (ix3 b i n) : EReal)
      = outOf k (rX m c) (rKN m c) (rVN m c) (rKP m c) (rVP m c) (rKi m c) (rVi m c) (rKs m c) (rVs m c) (rW m c) hT (rL m c) b i n := by
  unfold refY
  rw [attRef_at _ _ _ _ _ _ _ _ _ hT hL hk hka]
  unfold outOf
  have hK := entOf_congr (W := rW m c b) (W' := rW m c b) (hW := hT b) (hW' := hT b) (s := rKs m c) (s' := rKs m c) (fun _ => rfl) (poolK_at m c) (newK_at m c b) rfl
  have hV := entOf_congr (W := rW m c b) (W' := rW m c b) (hW := hT b) (hW' := hT b) (s := rVs m c) (s' := rVs m c) (fun _ => rfl) (poolV_at m c) (newV_at m c b) rfl
  exact congrArg₂ (fun K V => attnOf k (rL m c b).toNat K V (fun d => rX m c b i ⟨128 * (n.val / 128) + d.val, by have := n.isLt; have := d.isLt; omega⟩) i ⟨n.val % 128, Nat.mod_lt _ (by decide)⟩) hK hV

end Cert.ReferenceIdeal.Hand

end
-- ==== Proof.Agree.lean ====
/-
  The kernel and the reference leave the same results.
-/
module

public import proofs.«01_k».proof.Proof.KernelIdeal.Value
public import proofs.«01_k».proof.Proof.ReferenceIdeal.Att

@[expose] public section

set_option synthInstance.maxSize 4096

noncomputable section

namespace Cert.Agree

open Cert.Softmax
open Idealize.ShloMosaic Idealize.ShloMosaic.TcCoe

/-- The kernel's factor in base two is the reference's division by `√128`. -/
theorem scale_eq : Cert.KernelIdeal.Hand.cR * Real.log 2 = Cert.ReferenceIdeal.Hand.aR := by
  unfold Cert.KernelIdeal.Hand.cR Cert.ReferenceIdeal.Hand.aR
  have h2 : Real.log 2 ≠ 0 := (Real.log_pos (by norm_num)).ne'
  rw [mul_inv, mul_comm (Real.log 2)⁻¹, mul_assoc, inv_mul_cancel₀ h2, mul_one]

/-- The attention's entry depends on the arguments' entries alone. -/
theorem outOf_congr (k : ℝ) {X X' : Fin 8 → Fin 128 → Fin 2048 → EReal} {KN KN' VN VN' : Fin 8 → Fin 128 → Fin 128 → EReal} {KP KP' VP VP' : Fin 8192 → Fin 128 → Fin 128 → EReal}
    {ki ki' vi vi' ks ks' vs vs' : EReal} {W W' : Fin 8 → Fin 1024 → BitVec 32} {hW : ∀ b p, (W b p).toNat < 8192} {hW' : ∀ b p, (W' b p).toNat < 8192} {L L' : Fin 8 → BitVec 32}
    (eX : X = X') (eKN : KN = KN') (eVN : VN = VN') (eKP : KP = KP') (eVP : VP = VP') (eki : ki = ki') (evi : vi = vi') (eks : ks = ks') (evs : vs = vs') (eW : W = W') (eL : L = L')
    (b : Fin 8) (i : Fin 128) (n : Fin 2048) : outOf k X KN VN KP VP ki vi ks vs W hW L b i n = outOf k X' KN' VN' KP' VP' ki' vi' ks' vs' W' hW' L' b i n := by
  subst eX eKN eVN eKP eVP eki evi eks evs eW eL
  rfl

variable [Cert.KernelIdeal.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

section Inverse

/-- Both programs state the same inverse of the power of two of a scale. -/
theorem inv_eq0 (a : FVec Ideal Cert.KernelIdeal.S1 .f32) :
    (Cert.ReferenceIdeal.Hand.invOf (F := Ideal) Cert.ReferenceIdeal.Hand.tab0 a : FVec Ideal Cert.KernelIdeal.S1 .f32) = Cert.KernelIdeal.Hand.invOf (F := Ideal) Cert.KernelIdeal.Hand.tab0 a := rfl
theorem inv_eq1 (a : FVec Ideal Cert.KernelIdeal.S1 .f32) :
    (Cert.ReferenceIdeal.Hand.invOf (F := Ideal) Cert.ReferenceIdeal.Hand.tab1 a : FVec Ideal Cert.KernelIdeal.S1 .f32) = Cert.KernelIdeal.Hand.invOf (F := Ideal) Cert.KernelIdeal.Hand.tab1 a := rfl

end Inverse

variable
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include e5 in
theorem keyInv : Cert.ReferenceIdeal.Hand.rKi m' c = Cert.KernelIdeal.Hand.aKi m c :=
  congrFun ((inv_eq0 _).trans (congrArg (Cert.KernelIdeal.Hand.invOf (F := Ideal) Cert.KernelIdeal.Hand.tab0) e5)) (ix1 0)
include e6 in
theorem valInv : Cert.ReferenceIdeal.Hand.rVi m' c = Cert.KernelIdeal.Hand.aVi m c :=
  congrFun ((inv_eq1 _).trans (congrArg (Cert.KernelIdeal.Hand.invOf (F := Ideal) Cert.KernelIdeal.Hand.tab1) e6)) (ix1 0)

/-- An index of a three-axis array is its three coordinates. -/
theorem eta3 {a b d : ℕ} (j : (⟨3, ![a, b, d]⟩ : Shape).Idx) : j = ix3 (j 0) (j 1) (j 2) := by
  funext x
  match x with
  | ⟨0, _⟩ => rfl
  | ⟨1, _⟩ => rfl
  | ⟨2, _⟩ => rfl

include e1 e5 in
/-- The codes of the new keys agree. -/
theorem codeK : (Cert.ReferenceIdeal.Gen.k0_pay1 (Cert.ReferenceIdeal.Gen.V m' c Cert.ReferenceIdeal.main_v16) : FVec Ideal Cert.ReferenceIdeal.S8x128x128 .fp8e4m3) = Cert.KernelIdeal.Hand.GK m c := by
  funext j
  obtain ⟨b, r, d, rfl⟩ : ∃ b r d, j = ix3 b r d := ⟨j 0, j 1, j 2, eta3 j⟩
  refine (Cert.ReferenceIdeal.Hand.codeK_at m' c b r d).trans ?_
  show q8 _ _ = q8 (Cert.KernelIdeal.Hand.aKN m c b r d) (Cert.KernelIdeal.Hand.aKi m c)
  exact congrArg₂ q8 (congrFun e1 (ix4 b r 0 d)) (keyInv m m' c e5)

include e2 e6 in
/-- The codes of the new values agree. -/
theorem codeV : (Cert.ReferenceIdeal.Gen.k0_pay2 (Cert.ReferenceIdeal.Gen.V m' c Cert.ReferenceIdeal.main_v33) : FVec Ideal Cert.ReferenceIdeal.S8x128x128 .fp8e4m3) = Cert.KernelIdeal.Hand.GV m c := by
  funext j
  obtain ⟨b, r, d, rfl⟩ : ∃ b r d, j = ix3 b r d := ⟨j 0, j 1, j 2, eta3 j⟩
  refine (Cert.ReferenceIdeal.Hand.codeV_at m' c b r d).trans ?_
  show q8 _ _ = q8 (Cert.KernelIdeal.Hand.aVN m c b r d) (Cert.KernelIdeal.Hand.aVi m c)
  exact congrArg₂ q8 (congrFun e2 (ix4 b r 0 d)) (valInv m m' c e6)

variable (hX : Cert.KernelIdeal.Hand.PagesOk m) (hL : Cert.KernelIdeal.Hand.LensOk m)

include e7 hX in
theorem words (b : Fin 8) (p : Fin 1024) : (Cert.ReferenceIdeal.Hand.rW m' c b p).toNat < 8192 := by
  have e : Cert.ReferenceIdeal.Hand.rW m' c b p = Cert.KernelIdeal.Hand.aW m c b p := congrFun e7 (ix2 b p)
  rw [e]; exact Cert.KernelIdeal.Hand.aW_ok m c hX b p
include e8 hL in
theorem lens (b : Fin 8) : (Cert.ReferenceIdeal.Hand.rL m' c b).toNat ≤ 131072 := by
  have e : Cert.ReferenceIdeal.Hand.rL m' c b = Cert.KernelIdeal.Hand.aL m c b := congrFun e8 (ix1 b)
  have h := hL c (ix1 b)
  rw [Cert.KernelIdeal.Hand.V_main_arg8] at h
  rw [e]; exact h

include e0 e1 e2 e3 e4 e5 e6 e7 e8 hL in
/-- The attention's results agree. -/
theorem result : (Cert.ReferenceIdeal.Hand.refY m' c : FVec Ideal Cert.ReferenceIdeal.S8x128x2048 .bf16) = Cert.KernelIdeal.Hand.GY m hX c := by
  funext j
  obtain ⟨b, i, n, rfl⟩ : ∃ b i n, j = ix3 b i n := ⟨j 0, j 1, j 2, eta3 j⟩
  refine (Cert.ReferenceIdeal.Hand.refY_at m' c (words m m' c e7 hX) (lens m m' c e8 hL) Cert.KernelIdeal.Hand.cR_pos scale_eq b i n).trans ?_
  show _ = outOf Cert.KernelIdeal.Hand.cR (Cert.KernelIdeal.Hand.aX m c) (Cert.KernelIdeal.Hand.aKN m c) (Cert.KernelIdeal.Hand.aVN m c) (Cert.KernelIdeal.Hand.aKP m c) (Cert.KernelIdeal.Hand.aVP m c)
    (Cert.KernelIdeal.Hand.aKi m c) (Cert.KernelIdeal.Hand.aVi m c) (Cert.KernelIdeal.Hand.aKs m c) (Cert.KernelIdeal.Hand.aVs m c) (Cert.KernelIdeal.Hand.aW m c) (Cert.KernelIdeal.Hand.aW_ok m c hX) (Cert.KernelIdeal.Hand.aL m c) b i n
  exact outOf_congr _ (funext fun b => funext fun i => funext fun n => congrFun e0 (ix3 b i n)) (funext fun b => funext fun r => funext fun d => congrFun e1 (ix4 b r 0 d))
    (funext fun b => funext fun r => funext fun d => congrFun e2 (ix4 b r 0 d)) (funext fun p => funext fun r => funext fun d => congrFun e3 (ix4 p r 0 d))
    (funext fun p => funext fun r => funext fun d => congrFun e4 (ix4 p r 0 d)) (keyInv m m' c e5) (valInv m m' c e6) (congrFun e5 (ix1 0)) (congrFun e6 (ix1 0))
    (funext fun b => funext fun p => congrFun e7 (ix2 b p)) (funext fun b => congrFun e8 (ix1 b)) b i n

end Cert.Agree

end
-- ==== Proof.lean ====
module

public import proofs.«01_k».proof.Defs
public import proofs.«01_k».proof.Proof.Gen.Kernel
public import proofs.«01_k».proof.Proof.Gen.Kernel.Launch
public import proofs.«01_k».proof.Proof.Gen.Kernel.Loops
public import proofs.«01_k».proof.Proof.Gen.KernelIdeal
public import proofs.«01_k».proof.Proof.Gen.KernelIdeal.Launch
public import proofs.«01_k».proof.Proof.Gen.KernelIdeal.Loops
public import proofs.«01_k».proof.Proof.Gen.ReferenceIdeal
public import proofs.«01_k».proof.Proof.Gen.ReferenceIdeal.Frame
public import proofs.«01_k».proof.Proof.Gen.Pre_in_range
public import proofs.«01_k».proof.Proof.Kernel.Frame
public import proofs.«01_k».proof.Proof.KernelIdeal.Frame
public import proofs.«01_k».proof.Proof.InRange
public import proofs.«01_k».proof.Proof.Agree

@[expose] public section

noncomputable section

namespace Cert.Proof

open Idealize.ShloMosaic Idealize.SL.Sem

/-- The named constant is read as the real number it stands for, 1 / (log 2 · √128). -/
theorem preserves : Cert.preserves_Kernel_KernelIdeal :=
  IdealRules.named_const.statement Cert.KernelIdeal.κ "exp2_scale" .f32 0x3E0293EE#32
    ((((Real.log 2) * (Real.sqrt 128))⁻¹ : ℝ) : EReal) rfl

section Words

theorem pages_Kernel (m : (ℓ : Loc Cert.Kernel.nD Cert.Kernel.τ Cert.Kernel.sig) → Buf (Elt Bits) ℓ)
    (h : Cert.Pre_Kernel m) : Cert.Kernel.Hand.PagesOk m := fun c j => by
  rw [Cert.Kernel.Hand.V_main_arg7]; exact (InRange.words _ _ _ _ _ _ _ _ _ (h c)).1 j

theorem lens_Kernel (m : (ℓ : Loc Cert.Kernel.nD Cert.Kernel.τ Cert.Kernel.sig) → Buf (Elt Bits) ℓ)
    (h : Cert.Pre_Kernel m) : Cert.Kernel.Hand.LensOk m := fun c j => by
  rw [Cert.Kernel.Hand.V_main_arg8]; exact (InRange.words _ _ _ _ _ _ _ _ _ (h c)).2 j

theorem pages_KernelIdeal (m : (ℓ : Loc Cert.KernelIdeal.nD Cert.KernelIdeal.τ Cert.KernelIdeal.sig) → Buf (Elt Ideal) ℓ)
    (h : Cert.Pre_KernelIdeal m) : Cert.KernelIdeal.Hand.PagesOk m := fun c j => by
  rw [Cert.KernelIdeal.Hand.V_main_arg7]; exact (InRange.words _ _ _ _ _ _ _ _ _ (h c)).1 j

theorem lens_KernelIdeal (m : (ℓ : Loc Cert.KernelIdeal.nD Cert.KernelIdeal.τ Cert.KernelIdeal.sig) → Buf (Elt Ideal) ℓ)
    (h : Cert.Pre_KernelIdeal m) : Cert.KernelIdeal.Hand.LensOk m := fun c j => by
  rw [Cert.KernelIdeal.Hand.V_main_arg8]; exact (InRange.words _ _ _ _ _ _ _ _ _ (h c)).2 j

end Words

/-- Both programs leave the kernel's results: its run ends in them, and the reference's values are the same functions of the arguments; the two scales are handed on. -/
theorem algebraic : Cert.algebraic_KernelIdeal_ReferenceIdeal := fun m g m' g' h e =>
  ⟨fun c => Cert.KernelIdeal.Hand.GY m (pages_KernelIdeal m h) c, fun c => Cert.KernelIdeal.Hand.GK m c,
    fun c => m ((c.tc : Thread Cert.KernelIdeal.nD Cert.KernelIdeal.τ).loc Cert.KernelIdeal.main_arg5), fun c => Cert.KernelIdeal.Hand.GV m c,
    fun c => m ((c.tc : Thread Cert.KernelIdeal.nD Cert.KernelIdeal.τ).loc Cert.KernelIdeal.main_arg6),
    (θ_run Cert.KernelIdeal.defs _ _).mono (fun _ r c => by
      obtain ⟨r0, r1, r2, a0, a1, a2, a3, a4, a5, a6, a7, a8⟩ := r c
      exact ⟨r0, r1, a5, r2, a6, a0, a1, a2, a3, a4, a5, a6, a7, a8⟩)
      (Cert.KernelIdeal.Hand.run_value m g (pages_KernelIdeal m h) (lens_KernelIdeal m h)),
    (θ_run Cert.ReferenceIdeal.defs _ _).mono (fun _ r c => by
      obtain ⟨e0, e1, e2, e3, e4, e5, e6, e7, e8⟩ := e c
      obtain ⟨r0, r1, r2, a0, a1, a2, a3, a4, a5, a6, a7, a8⟩ := r c
      exact ⟨r0.trans (Cert.Agree.result m m' c e0 e1 e2 e3 e4 e5 e6 e7 e8 (pages_KernelIdeal m h) (lens_KernelIdeal m h)), r1.trans (Cert.Agree.codeK m m' c e1 e5),
        a5.trans e5, r2.trans (Cert.Agree.codeV m m' c e2 e6), a6.trans e6, a0, a1, a2, a3, a4, a5, a6, a7, a8⟩)
      (Cert.ReferenceIdeal.Hand.run_value m' g')⟩

theorem claim : Cert.Claim :=
  ⟨Cert.Kernel.Gen.facts, Cert.KernelIdeal.Gen.facts, Cert.ReferenceIdeal.Gen.facts, Cert.Pre_in_range.Gen.facts,
    fun m ρ h => Cert.Kernel.Hand.frame_args m ρ (pages_Kernel m h) (lens_Kernel m h),
    fun m ρ h => Cert.KernelIdeal.Hand.frame_args m ρ (pages_KernelIdeal m h) (lens_KernelIdeal m h),
    fun m ρ _ => Cert.ReferenceIdeal.Gen.frame m ρ,
    fun m ρ _ => Cert.ReferenceIdeal.Gen.frame m ρ,
    preserves,
    algebraic⟩

end Cert.Proof

end
